-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13)
      ∧ r.2.mem ((c.tc : Thread Cert.Kernel10.nD Cert.Kernel10.τ).loc Cert.Kernel10.main_arg14) = m ((c.tc : Thread Cert.Kernel10.nD Cert.Kernel10.τ).loc Cert.Kernel10.main_arg14)
      ∧ r.2.mem ((c.tc : Thread Cert.Kernel10.nD Cert.Kernel10.τ).loc Cert.Kernel10.main_arg15) = m ((c.tc : Thread Cert.Kernel10.nD Cert.Kernel10.τ).loc Cert.Kernel10.main_arg15)
      ∧ r.2.mem ((c.tc : Thread Cert.Kernel10.nD Cert.Kernel10.τ).loc Cert.Kernel10.main_arg16) = m ((c.tc : Thread Cert.Kernel10.nD Cert.Kernel10.τ).loc Cert.Kernel10.main_arg16)
      ∧ r.2.mem ((c.tc : Thread Cert.Kernel10.nD Cert.Kernel10.τ).loc Cert.Kernel10.main_arg17) = m ((c.tc : Thread Cert.Kernel10.nD Cert.Kernel10.τ).loc Cert.Kernel10.main_arg17)
      ∧ r.2.mem ((c.tc : Thread Cert.Kernel10.nD Cert.Kernel10.τ).loc Cert.Kernel10.main_arg18) = m ((c.tc : Thread Cert.Kernel10.nD Cert.Kernel10.τ).loc Cert.Kernel10.main_arg18)
      ∧ r.2.mem ((c.tc : Thread Cert.Kernel10.nD Cert.Kernel10.τ).loc Cert.Kernel10.main_arg19) = m ((c.tc : Thread Cert.Kernel10.nD Cert.Kernel10.τ).loc Cert.Kernel10.main_arg19)
      ∧ r.2.mem ((c.tc : Thread Cert.Kernel10.nD Cert.Kernel10.τ).loc Cert.Kernel10.main_arg20) = m ((c.tc : Thread Cert.Kernel10.nD Cert.Kernel10.τ).loc Cert.Kernel10.main_arg20)
      ∧ r.2.mem ((c.tc : Thread Cert.Kernel10.nD Cert.Kernel10.τ).loc Cert.Kernel10.main_arg21) = m ((c.tc : Thread Cert.Kernel10.nD Cert.Kernel10.τ).loc Cert.Kernel10.main_arg21)
      ∧ r.2.mem ((c.tc : Thread Cert.Kernel10.nD Cert.Kernel10.τ).loc Cert.Kernel10.main_arg22) = m ((c.tc : Thread Cert.Kernel10.nD Cert.Kernel10.τ).loc Cert.Kernel10.main_arg22)
      ∧ r.2.mem ((c.tc : Thread Cert.Kernel10.nD Cert.Kernel10.τ).loc Cert.Kernel10.main_arg23) = m ((c.tc : Thread Cert.Kernel10.nD Cert.Kernel10.τ).loc Cert.Kernel10.main_arg23)
      ∧ r.2.mem ((c.tc : Thread Cert.Kernel10.nD Cert.Kernel10.τ).loc Cert.Kernel10.main_arg24) = m ((c.tc : Thread Cert.Kernel10.nD Cert.Kernel10.τ).loc Cert.Kernel10.main_arg24)
      ∧ r.2.mem ((c.tc : Thread Cert.Kernel10.nD Cert.Kernel10.τ).loc Cert.Kernel10.main_arg25) = m ((c.tc : Thread Cert.Kernel10.nD Cert.Kernel10.τ).loc Cert.Kernel10.main_arg25)
      ∧ r.2.mem ((c.tc : Thread Cert.Kernel10.nD Cert.Kernel10.τ).loc Cert.Kernel10.main_arg26) = m ((c.tc : Thread Cert.Kernel10.nD Cert.Kernel10.τ).loc Cert.Kernel10.main_arg26)
      ∧ r.2.mem ((c.tc : Thread Cert.Kernel10.nD Cert.Kernel10.τ).loc Cert.Kernel10.main_arg27) = m ((c.tc : Thread Cert.Kernel10.nD Cert.Kernel10.τ).loc Cert.Kernel10.main_arg27)
      ∧ r.2.mem ((c.tc : Thread Cert.Kernel10.nD Cert.Kernel10.τ).loc Cert.Kernel10.main_arg28) = m ((c.tc : Thread Cert.Kernel10.nD Cert.Kernel10.τ).loc Cert.Kernel10.main_arg28)
      ∧ r.2.mem ((c.tc : Thread Cert.Kernel10.nD Cert.Kernel10.τ).loc Cert.Kernel10.main_arg29) = m ((c.tc : Thread Cert.Kernel10.nD Cert.Kernel10.τ).loc Cert.Kernel10.main_arg29)
      ∧ r.2.mem ((c.tc : Thread Cert.Kernel10.nD Cert.Kernel10.τ).loc Cert.Kernel10.main_arg30) = m ((c.tc : Thread Cert.Kernel10.nD Cert.Kernel10.τ).loc Cert.Kernel10.main_arg30)
      ∧ r.2.mem ((c.tc : Thread Cert.Kernel10.nD Cert.Kernel10.τ).loc Cert.Kernel10.main_arg31) = m ((c.tc : Thread Cert.Kernel10.nD Cert.Kernel10.τ).loc Cert.Kernel10.main_arg31)
      ∧ r.2.mem ((c.tc : Thread Cert.Kernel10.nD Cert.Kernel10.τ).loc Cert.Kernel10.main_arg32) = m ((c.tc : Thread Cert.Kernel10.nD Cert.Kernel10.τ).loc Cert.Kernel10.main_arg32)
      ∧ r.2.mem ((c.tc : Thread Cert.Kernel10.nD Cert.Kernel10.τ).loc Cert.Kernel10.main_arg33) = m ((c.tc : Thread Cert.Kernel10.nD Cert.Kernel10.τ).loc Cert.Kernel10.main_arg33)
      ∧ r.2.mem ((c.tc : Thread Cert.Kernel10.nD Cert.Kernel10.τ).loc Cert.Kernel10.main_arg34) = m ((c.tc : Thread Cert.Kernel10.nD Cert.Kernel10.τ).loc Cert.Kernel10.main_arg34)
      ∧ r.2.mem ((c.tc : Thread Cert.Kernel10.nD Cert.Kernel10.τ).loc Cert.Kernel10.main_arg35) = m ((c.tc : Thread Cert.Kernel10.nD Cert.Kernel10.τ).loc Cert.Kernel10.main_arg35)
      ∧ r.2.mem ((c.tc : Thread Cert.Kernel10.nD Cert.Kernel10.τ).loc Cert.Kernel10.main_arg36) = m ((c.tc : Thread Cert.Kernel10.nD Cert.Kernel10.τ).loc Cert.Kernel10.main_arg36))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
      ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
      ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16)
      ∧ r.2.mem ((c.tc : Thread Cert.Kernel10Ideal.nD Cert.Kernel10Ideal.τ).loc Cert.Kernel10Ideal.main_arg17) = m ((c.tc : Thread Cert.Kernel10Ideal.nD Cert.Kernel10Ideal.τ).loc Cert.Kernel10Ideal.main_arg17)
      ∧ r.2.mem ((c.tc : Thread Cert.Kernel10Ideal.nD Cert.Kernel10Ideal.τ).loc Cert.Kernel10Ideal.main_arg18) = m ((c.tc : Thread Cert.Kernel10Ideal.nD Cert.Kernel10Ideal.τ).loc Cert.Kernel10Ideal.main_arg18)
      ∧ r.2.mem ((c.tc : Thread Cert.Kernel10Ideal.nD Cert.Kernel10Ideal.τ).loc Cert.Kernel10Ideal.main_arg19) = m ((c.tc : Thread Cert.Kernel10Ideal.nD Cert.Kernel10Ideal.τ).loc Cert.Kernel10Ideal.main_arg19)
      ∧ r.2.mem ((c.tc : Thread Cert.Kernel10Ideal.nD Cert.Kernel10Ideal.τ).loc Cert.Kernel10Ideal.main_arg20) = m ((c.tc : Thread Cert.Kernel10Ideal.nD Cert.Kernel10Ideal.τ).loc Cert.Kernel10Ideal.main_arg20)
      ∧ r.2.mem ((c.tc : Thread Cert.Kernel10Ideal.nD Cert.Kernel10Ideal.τ).loc Cert.Kernel10Ideal.main_arg21) = m ((c.tc : Thread Cert.Kernel10Ideal.nD Cert.Kernel10Ideal.τ).loc Cert.Kernel10Ideal.main_arg21)
      ∧ r.2.mem ((c.tc : Thread Cert.Kernel10Ideal.nD Cert.Kernel10Ideal.τ).loc Cert.Kernel10Ideal.main_arg22) = m ((c.tc : Thread Cert.Kernel10Ideal.nD Cert.Kernel10Ideal.τ).loc Cert.Kernel10Ideal.main_arg22)
      ∧ r.2.mem ((c.tc : Thread Cert.Kernel10Ideal.nD Cert.Kernel10Ideal.τ).loc Cert.Kernel10Ideal.main_arg23) = m ((c.tc : Thread Cert.Kernel10Ideal.nD Cert.Kernel10Ideal.τ).loc Cert.Kernel10Ideal.main_arg23)
      ∧ r.2.mem ((c.tc : Thread Cert.Kernel10Ideal.nD Cert.Kernel10Ideal.τ).loc Cert.Kernel10Ideal.main_arg24) = m ((c.tc : Thread Cert.Kernel10Ideal.nD Cert.Kernel10Ideal.τ).loc Cert.Kernel10Ideal.main_arg24)
      ∧ r.2.mem ((c.tc : Thread Cert.Kernel10Ideal.nD Cert.Kernel10Ideal.τ).loc Cert.Kernel10Ideal.main_arg25) = m ((c.tc : Thread Cert.Kernel10Ideal.nD Cert.Kernel10Ideal.τ).loc Cert.Kernel10Ideal.main_arg25)
      ∧ r.2.mem ((c.tc : Thread Cert.Kernel10Ideal.nD Cert.Kernel10Ideal.τ).loc Cert.Kernel10Ideal.main_arg26) = m ((c.tc : Thread Cert.Kernel10Ideal.nD Cert.Kernel10Ideal.τ).loc Cert.Kernel10Ideal.main_arg26)
      ∧ r.2.mem ((c.tc : Thread Cert.Kernel10Ideal.nD Cert.Kernel10Ideal.τ).loc Cert.Kernel10Ideal.main_arg27) = m ((c.tc : Thread Cert.Kernel10Ideal.nD Cert.Kernel10Ideal.τ).loc Cert.Kernel10Ideal.main_arg27)
      ∧ r.2.mem ((c.tc : Thread Cert.Kernel10Ideal.nD Cert.Kernel10Ideal.τ).loc Cert.Kernel10Ideal.main_arg28) = m ((c.tc : Thread Cert.Kernel10Ideal.nD Cert.Kernel10Ideal.τ).loc Cert.Kernel10Ideal.main_arg28)
      ∧ r.2.mem ((c.tc : Thread Cert.Kernel10Ideal.nD Cert.Kernel10Ideal.τ).loc Cert.Kernel10Ideal.main_arg29) = m ((c.tc : Thread Cert.Kernel10Ideal.nD Cert.Kernel10Ideal.τ).loc Cert.Kernel10Ideal.main_arg29)
      ∧ r.2.mem ((c.tc : Thread Cert.Kernel10Ideal.nD Cert.Kernel10Ideal.τ).loc Cert.Kernel10Ideal.main_arg30) = m ((c.tc : Thread Cert.Kernel10Ideal.nD Cert.Kernel10Ideal.τ).loc Cert.Kernel10Ideal.main_arg30)
      ∧ r.2.mem ((c.tc : Thread Cert.Kernel10Ideal.nD Cert.Kernel10Ideal.τ).loc Cert.Kernel10Ideal.main_arg31) = m ((c.tc : Thread Cert.Kernel10Ideal.nD Cert.Kernel10Ideal.τ).loc Cert.Kernel10Ideal.main_arg31)
      ∧ r.2.mem ((c.tc : Thread Cert.Kernel10Ideal.nD Cert.Kernel10Ideal.τ).loc Cert.Kernel10Ideal.main_arg32) = m ((c.tc : Thread Cert.Kernel10Ideal.nD Cert.Kernel10Ideal.τ).loc Cert.Kernel10Ideal.main_arg32)
      ∧ r.2.mem ((c.tc : Thread Cert.Kernel10Ideal.nD Cert.Kernel10Ideal.τ).loc Cert.Kernel10Ideal.main_arg33) = m ((c.tc : Thread Cert.Kernel10Ideal.nD Cert.Kernel10Ideal.τ).loc Cert.Kernel10Ideal.main_arg33)
      ∧ r.2.mem ((c.tc : Thread Cert.Kernel10Ideal.nD Cert.Kernel10Ideal.τ).loc Cert.Kernel10Ideal.main_arg34) = m ((c.tc : Thread Cert.Kernel10Ideal.nD Cert.Kernel10Ideal.τ).loc Cert.Kernel10Ideal.main_arg34)
      ∧ r.2.mem ((c.tc : Thread Cert.Kernel10Ideal.nD Cert.Kernel10Ideal.τ).loc Cert.Kernel10Ideal.main_arg35) = m ((c.tc : Thread Cert.Kernel10Ideal.nD Cert.Kernel10Ideal.τ).loc Cert.Kernel10Ideal.main_arg35)
      ∧ r.2.mem ((c.tc : Thread Cert.Kernel10Ideal.nD Cert.Kernel10Ideal.τ).loc Cert.Kernel10Ideal.main_arg36) = m ((c.tc : Thread Cert.Kernel10Ideal.nD Cert.Kernel10Ideal.τ).loc Cert.Kernel10Ideal.main_arg36))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14)
      ∧ r.2.mem ((c.tc : Thread Cert.Reference10Ideal.nD Cert.Reference10Ideal.τ).loc Cert.Reference10Ideal.main_arg15) = m ((c.tc : Thread Cert.Reference10Ideal.nD Cert.Reference10Ideal.τ).loc Cert.Reference10Ideal.main_arg15)
      ∧ r.2.mem ((c.tc : Thread Cert.Reference10Ideal.nD Cert.Reference10Ideal.τ).loc Cert.Reference10Ideal.main_arg16) = m ((c.tc : Thread Cert.Reference10Ideal.nD Cert.Reference10Ideal.τ).loc Cert.Reference10Ideal.main_arg16)
      ∧ r.2.mem ((c.tc : Thread Cert.Reference10Ideal.nD Cert.Reference10Ideal.τ).loc Cert.Reference10Ideal.main_arg17) = m ((c.tc : Thread Cert.Reference10Ideal.nD Cert.Reference10Ideal.τ).loc Cert.Reference10Ideal.main_arg17)
      ∧ r.2.mem ((c.tc : Thread Cert.Reference10Ideal.nD Cert.Reference10Ideal.τ).loc Cert.Reference10Ideal.main_arg18) = m ((c.tc : Thread Cert.Reference10Ideal.nD Cert.Reference10Ideal.τ).loc Cert.Reference10Ideal.main_arg18)
      ∧ r.2.mem ((c.tc : Thread Cert.Reference10Ideal.nD Cert.Reference10Ideal.τ).loc Cert.Reference10Ideal.main_arg19) = m ((c.tc : Thread Cert.Reference10Ideal.nD Cert.Reference10Ideal.τ).loc Cert.Reference10Ideal.main_arg19)
      ∧ r.2.mem ((c.tc : Thread Cert.Reference10Ideal.nD Cert.Reference10Ideal.τ).loc Cert.Reference10Ideal.main_arg20) = m ((c.tc : Thread Cert.Reference10Ideal.nD Cert.Reference10Ideal.τ).loc Cert.Reference10Ideal.main_arg20)
      ∧ r.2.mem ((c.tc : Thread Cert.Reference10Ideal.nD Cert.Reference10Ideal.τ).loc Cert.Reference10Ideal.main_arg21) = m ((c.tc : Thread Cert.Reference10Ideal.nD Cert.Reference10Ideal.τ).loc Cert.Reference10Ideal.main_arg21)
      ∧ r.2.mem ((c.tc : Thread Cert.Reference10Ideal.nD Cert.Reference10Ideal.τ).loc Cert.Reference10Ideal.main_arg22) = m ((c.tc : Thread Cert.Reference10Ideal.nD Cert.Reference10Ideal.τ).loc Cert.Reference10Ideal.main_arg22)
      ∧ r.2.mem ((c.tc : Thread Cert.Reference10Ideal.nD Cert.Reference10Ideal.τ).loc Cert.Reference10Ideal.main_arg23) = m ((c.tc : Thread Cert.Reference10Ideal.nD Cert.Reference10Ideal.τ).loc Cert.Reference10Ideal.main_arg23)
      ∧ r.2.mem ((c.tc : Thread Cert.Reference10Ideal.nD Cert.Reference10Ideal.τ).loc Cert.Reference10Ideal.main_arg24) = m ((c.tc : Thread Cert.Reference10Ideal.nD Cert.Reference10Ideal.τ).loc Cert.Reference10Ideal.main_arg24)
      ∧ r.2.mem ((c.tc : Thread Cert.Reference10Ideal.nD Cert.Reference10Ideal.τ).loc Cert.Reference10Ideal.main_arg25) = m ((c.tc : Thread Cert.Reference10Ideal.nD Cert.Reference10Ideal.τ).loc Cert.Reference10Ideal.main_arg25)
      ∧ r.2.mem ((c.tc : Thread Cert.Reference10Ideal.nD Cert.Reference10Ideal.τ).loc Cert.Reference10Ideal.main_arg26) = m ((c.tc : Thread Cert.Reference10Ideal.nD Cert.Reference10Ideal.τ).loc Cert.Reference10Ideal.main_arg26)
      ∧ r.2.mem ((c.tc : Thread Cert.Reference10Ideal.nD Cert.Reference10Ideal.τ).loc Cert.Reference10Ideal.main_arg27) = m ((c.tc : Thread Cert.Reference10Ideal.nD Cert.Reference10Ideal.τ).loc Cert.Reference10Ideal.main_arg27)
      ∧ r.2.mem ((c.tc : Thread Cert.Reference10Ideal.nD Cert.Reference10Ideal.τ).loc Cert.Reference10Ideal.main_arg28) = m ((c.tc : Thread Cert.Reference10Ideal.nD Cert.Reference10Ideal.τ).loc Cert.Reference10Ideal.main_arg28)
      ∧ r.2.mem ((c.tc : Thread Cert.Reference10Ideal.nD Cert.Reference10Ideal.τ).loc Cert.Reference10Ideal.main_arg29) = m ((c.tc : Thread Cert.Reference10Ideal.nD Cert.Reference10Ideal.τ).loc Cert.Reference10Ideal.main_arg29)
      ∧ r.2.mem ((c.tc : Thread Cert.Reference10Ideal.nD Cert.Reference10Ideal.τ).loc Cert.Reference10Ideal.main_arg30) = m ((c.tc : Thread Cert.Reference10Ideal.nD Cert.Reference10Ideal.τ).loc Cert.Reference10Ideal.main_arg30)
      ∧ r.2.mem ((c.tc : Thread Cert.Reference10Ideal.nD Cert.Reference10Ideal.τ).loc Cert.Reference10Ideal.main_arg31) = m ((c.tc : Thread Cert.Reference10Ideal.nD Cert.Reference10Ideal.τ).loc Cert.Reference10Ideal.main_arg31)
      ∧ r.2.mem ((c.tc : Thread Cert.Reference10Ideal.nD Cert.Reference10Ideal.τ).loc Cert.Reference10Ideal.main_arg32) = m ((c.tc : Thread Cert.Reference10Ideal.nD Cert.Reference10Ideal.τ).loc Cert.Reference10Ideal.main_arg32)
      ∧ r.2.mem ((c.tc : Thread Cert.Reference10Ideal.nD Cert.Reference10Ideal.τ).loc Cert.Reference10Ideal.main_arg33) = m ((c.tc : Thread Cert.Reference10Ideal.nD Cert.Reference10Ideal.τ).loc Cert.Reference10Ideal.main_arg33)
      ∧ r.2.mem ((c.tc : Thread Cert.Reference10Ideal.nD Cert.Reference10Ideal.τ).loc Cert.Reference10Ideal.main_arg34) = m ((c.tc : Thread Cert.Reference10Ideal.nD Cert.Reference10Ideal.τ).loc Cert.Reference10Ideal.main_arg34)
      ∧ r.2.mem ((c.tc : Thread Cert.Reference10Ideal.nD Cert.Reference10Ideal.τ).loc Cert.Reference10Ideal.main_arg35) = m ((c.tc : Thread Cert.Reference10Ideal.nD Cert.Reference10Ideal.τ).loc Cert.Reference10Ideal.main_arg35)
      ∧ r.2.mem ((c.tc : Thread Cert.Reference10Ideal.nD Cert.Reference10Ideal.τ).loc Cert.Reference10Ideal.main_arg36) = m ((c.tc : Thread Cert.Reference10Ideal.nD Cert.Reference10Ideal.τ).loc Cert.Reference10Ideal.main_arg36))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_v65) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "c1" .f32 0x3FC48605#32 ((8388608 / 5463681 : ℝ) : EReal)
  ∧ IdealRules.named_const.Statement Cert.Kernel5Ideal.κ "c2" .f32 0x42C8E6D3#32 ((268435456 / 2672307 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v28_0)) (v1 : (c : Dev Cert.Kernel7Ideal.nD) → Buf (Elt Ideal) ((c.tc : Thread Cert.Kernel7Ideal.nD Cert.Kernel7Ideal.τ).loc Cert.Kernel7Ideal.main_v28_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v28_0) = v0 c
          ∧ r.2.mem ((c.tc : Thread Cert.Kernel7Ideal.nD Cert.Kernel7Ideal.τ).loc Cert.Kernel7Ideal.main_v28_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_v44) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v28_0)) (v1 : (c : Dev Cert.Kernel8Ideal.nD) → Buf (Elt Ideal) ((c.tc : Thread Cert.Kernel8Ideal.nD Cert.Kernel8Ideal.τ).loc Cert.Kernel8Ideal.main_v28_1)) (v2 : (c : Dev Cert.Kernel8Ideal.nD) → Buf (Elt Ideal) ((c.tc : Thread Cert.Kernel8Ideal.nD Cert.Kernel8Ideal.τ).loc Cert.Kernel8Ideal.main_v28_2)) (v3 : (c : Dev Cert.Kernel8Ideal.nD) → Buf (Elt Ideal) ((c.tc : Thread Cert.Kernel8Ideal.nD Cert.Kernel8Ideal.τ).loc Cert.Kernel8Ideal.main_v28_3)) (v4 : (c : Dev Cert.Kernel8Ideal.nD) → Buf (Elt Ideal) ((c.tc : Thread Cert.Kernel8Ideal.nD Cert.Kernel8Ideal.τ).loc Cert.Kernel8Ideal.main_v28_4)) (v5 : (c : Dev Cert.Kernel8Ideal.nD) → Buf (Elt Ideal) ((c.tc : Thread Cert.Kernel8Ideal.nD Cert.Kernel8Ideal.τ).loc Cert.Kernel8Ideal.main_v28_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v28_0) = v0 c
          ∧ r.2.mem ((c.tc : Thread Cert.Kernel8Ideal.nD Cert.Kernel8Ideal.τ).loc Cert.Kernel8Ideal.main_v28_1) = v1 c
          ∧ r.2.mem ((c.tc : Thread Cert.Kernel8Ideal.nD Cert.Kernel8Ideal.τ).loc Cert.Kernel8Ideal.main_v28_2) = v2 c
          ∧ r.2.mem ((c.tc : Thread Cert.Kernel8Ideal.nD Cert.Kernel8Ideal.τ).loc Cert.Kernel8Ideal.main_v28_3) = v3 c
          ∧ r.2.mem ((c.tc : Thread Cert.Kernel8Ideal.nD Cert.Kernel8Ideal.τ).loc Cert.Kernel8Ideal.main_v28_4) = v4 c
          ∧ r.2.mem ((c.tc : Thread Cert.Kernel8Ideal.nD Cert.Kernel8Ideal.τ).loc Cert.Kernel8Ideal.main_v28_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_v20) = v2 c
          ∧ r.2.mem ((c.tc : Thread Cert.Reference8Ideal.nD Cert.Reference8Ideal.τ).loc Cert.Reference8Ideal.main_v21) = v3 c
          ∧ r.2.mem ((c.tc : Thread Cert.Reference8Ideal.nD Cert.Reference8Ideal.τ).loc Cert.Reference8Ideal.main_v22) = v4 c
          ∧ r.2.mem ((c.tc : Thread Cert.Reference8Ideal.nD Cert.Reference8Ideal.τ).loc Cert.Reference8Ideal.main_v17) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  IdealRules.named_const.Statement Cert.Kernel9Ideal.κ "c1" .f32 0x3FC48605#32 ((8388608 / 5463681 : ℝ) : EReal)
  ∧ IdealRules.named_const.Statement Cert.Kernel9Ideal.κ "c2" .f32 0x42C8E6D3#32 ((268435456 / 2672307 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)) (v3 : (c : Dev Cert.Kernel9Ideal.nD) → Buf (Elt Ideal) ((c.tc : Thread Cert.Kernel9Ideal.nD Cert.Kernel9Ideal.τ).loc Cert.Kernel9Ideal.main_v3_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_v3_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_v29) = v2 c
          ∧ r.2.mem ((c.tc : Thread Cert.Reference9Ideal.nD Cert.Reference9Ideal.τ).loc Cert.Reference9Ideal.main_v30) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  IdealRules.named_const.Statement Cert.Kernel10Ideal.κ "c1" .f32 0x3FC48605#32 ((8388608 / 5463681 : ℝ) : EReal)
  ∧ IdealRules.named_const.Statement Cert.Kernel10Ideal.κ "c2" .f32 0x42C8E6D3#32 ((268435456 / 2672307 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)
      ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14)
      ∧ m' ((c.tc : Thread Cert.Reference10Ideal.nD Cert.Reference10Ideal.τ).loc Cert.Reference10Ideal.main_arg15) = m ((c.tc : Thread Cert.Kernel10Ideal.nD Cert.Kernel10Ideal.τ).loc Cert.Kernel10Ideal.main_arg15)
      ∧ m' ((c.tc : Thread Cert.Reference10Ideal.nD Cert.Reference10Ideal.τ).loc Cert.Reference10Ideal.main_arg16) = m ((c.tc : Thread Cert.Kernel10Ideal.nD Cert.Kernel10Ideal.τ).loc Cert.Kernel10Ideal.main_arg16)
      ∧ m' ((c.tc : Thread Cert.Reference10Ideal.nD Cert.Reference10Ideal.τ).loc Cert.Reference10Ideal.main_arg17) = m ((c.tc : Thread Cert.Kernel10Ideal.nD Cert.Kernel10Ideal.τ).loc Cert.Kernel10Ideal.main_arg17)
      ∧ m' ((c.tc : Thread Cert.Reference10Ideal.nD Cert.Reference10Ideal.τ).loc Cert.Reference10Ideal.main_arg18) = m ((c.tc : Thread Cert.Kernel10Ideal.nD Cert.Kernel10Ideal.τ).loc Cert.Kernel10Ideal.main_arg18)
      ∧ m' ((c.tc : Thread Cert.Reference10Ideal.nD Cert.Reference10Ideal.τ).loc Cert.Reference10Ideal.main_arg19) = m ((c.tc : Thread Cert.Kernel10Ideal.nD Cert.Kernel10Ideal.τ).loc Cert.Kernel10Ideal.main_arg19)
      ∧ m' ((c.tc : Thread Cert.Reference10Ideal.nD Cert.Reference10Ideal.τ).loc Cert.Reference10Ideal.main_arg20) = m ((c.tc : Thread Cert.Kernel10Ideal.nD Cert.Kernel10Ideal.τ).loc Cert.Kernel10Ideal.main_arg20)
      ∧ m' ((c.tc : Thread Cert.Reference10Ideal.nD Cert.Reference10Ideal.τ).loc Cert.Reference10Ideal.main_arg21) = m ((c.tc : Thread Cert.Kernel10Ideal.nD Cert.Kernel10Ideal.τ).loc Cert.Kernel10Ideal.main_arg21)
      ∧ m' ((c.tc : Thread Cert.Reference10Ideal.nD Cert.Reference10Ideal.τ).loc Cert.Reference10Ideal.main_arg22) = m ((c.tc : Thread Cert.Kernel10Ideal.nD Cert.Kernel10Ideal.τ).loc Cert.Kernel10Ideal.main_arg22)
      ∧ m' ((c.tc : Thread Cert.Reference10Ideal.nD Cert.Reference10Ideal.τ).loc Cert.Reference10Ideal.main_arg23) = m ((c.tc : Thread Cert.Kernel10Ideal.nD Cert.Kernel10Ideal.τ).loc Cert.Kernel10Ideal.main_arg23)
      ∧ m' ((c.tc : Thread Cert.Reference10Ideal.nD Cert.Reference10Ideal.τ).loc Cert.Reference10Ideal.main_arg24) = m ((c.tc : Thread Cert.Kernel10Ideal.nD Cert.Kernel10Ideal.τ).loc Cert.Kernel10Ideal.main_arg24)
      ∧ m' ((c.tc : Thread Cert.Reference10Ideal.nD Cert.Reference10Ideal.τ).loc Cert.Reference10Ideal.main_arg25) = m ((c.tc : Thread Cert.Kernel10Ideal.nD Cert.Kernel10Ideal.τ).loc Cert.Kernel10Ideal.main_arg25)
      ∧ m' ((c.tc : Thread Cert.Reference10Ideal.nD Cert.Reference10Ideal.τ).loc Cert.Reference10Ideal.main_arg26) = m ((c.tc : Thread Cert.Kernel10Ideal.nD Cert.Kernel10Ideal.τ).loc Cert.Kernel10Ideal.main_arg26)
      ∧ m' ((c.tc : Thread Cert.Reference10Ideal.nD Cert.Reference10Ideal.τ).loc Cert.Reference10Ideal.main_arg27) = m ((c.tc : Thread Cert.Kernel10Ideal.nD Cert.Kernel10Ideal.τ).loc Cert.Kernel10Ideal.main_arg27)
      ∧ m' ((c.tc : Thread Cert.Reference10Ideal.nD Cert.Reference10Ideal.τ).loc Cert.Reference10Ideal.main_arg28) = m ((c.tc : Thread Cert.Kernel10Ideal.nD Cert.Kernel10Ideal.τ).loc Cert.Kernel10Ideal.main_arg28)
      ∧ m' ((c.tc : Thread Cert.Reference10Ideal.nD Cert.Reference10Ideal.τ).loc Cert.Reference10Ideal.main_arg29) = m ((c.tc : Thread Cert.Kernel10Ideal.nD Cert.Kernel10Ideal.τ).loc Cert.Kernel10Ideal.main_arg29)
      ∧ m' ((c.tc : Thread Cert.Reference10Ideal.nD Cert.Reference10Ideal.τ).loc Cert.Reference10Ideal.main_arg30) = m ((c.tc : Thread Cert.Kernel10Ideal.nD Cert.Kernel10Ideal.τ).loc Cert.Kernel10Ideal.main_arg30)
      ∧ m' ((c.tc : Thread Cert.Reference10Ideal.nD Cert.Reference10Ideal.τ).loc Cert.Reference10Ideal.main_arg31) = m ((c.tc : Thread Cert.Kernel10Ideal.nD Cert.Kernel10Ideal.τ).loc Cert.Kernel10Ideal.main_arg31)
      ∧ m' ((c.tc : Thread Cert.Reference10Ideal.nD Cert.Reference10Ideal.τ).loc Cert.Reference10Ideal.main_arg32) = m ((c.tc : Thread Cert.Kernel10Ideal.nD Cert.Kernel10Ideal.τ).loc Cert.Kernel10Ideal.main_arg32)
      ∧ m' ((c.tc : Thread Cert.Reference10Ideal.nD Cert.Reference10Ideal.τ).loc Cert.Reference10Ideal.main_arg33) = m ((c.tc : Thread Cert.Kernel10Ideal.nD Cert.Kernel10Ideal.τ).loc Cert.Kernel10Ideal.main_arg33)
      ∧ m' ((c.tc : Thread Cert.Reference10Ideal.nD Cert.Reference10Ideal.τ).loc Cert.Reference10Ideal.main_arg34) = m ((c.tc : Thread Cert.Kernel10Ideal.nD Cert.Kernel10Ideal.τ).loc Cert.Kernel10Ideal.main_arg34)
      ∧ m' ((c.tc : Thread Cert.Reference10Ideal.nD Cert.Reference10Ideal.τ).loc Cert.Reference10Ideal.main_arg35) = m ((c.tc : Thread Cert.Kernel10Ideal.nD Cert.Kernel10Ideal.τ).loc Cert.Kernel10Ideal.main_arg35)
      ∧ m' ((c.tc : Thread Cert.Reference10Ideal.nD Cert.Reference10Ideal.τ).loc Cert.Reference10Ideal.main_arg36) = m ((c.tc : Thread Cert.Kernel10Ideal.nD Cert.Kernel10Ideal.τ).loc Cert.Kernel10Ideal.main_arg36)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)) (v6 : (c : Dev Cert.Kernel10Ideal.nD) → Buf (Elt Ideal) ((c.tc : Thread Cert.Kernel10Ideal.nD Cert.Kernel10Ideal.τ).loc Cert.Kernel10Ideal.main_v0_6)) (v7 : (c : Dev Cert.Kernel10Ideal.nD) → Buf (Elt Ideal) ((c.tc : Thread Cert.Kernel10Ideal.nD Cert.Kernel10Ideal.τ).loc Cert.Kernel10Ideal.main_v0_7)) (v8 : (c : Dev Cert.Kernel10Ideal.nD) → Buf (Elt Ideal) ((c.tc : Thread Cert.Kernel10Ideal.nD Cert.Kernel10Ideal.τ).loc Cert.Kernel10Ideal.main_v0_8)) (v9 : (c : Dev Cert.Kernel10Ideal.nD) → Buf (Elt Ideal) ((c.tc : Thread Cert.Kernel10Ideal.nD Cert.Kernel10Ideal.τ).loc Cert.Kernel10Ideal.main_v0_9)) (v10 : (c : Dev Cert.Kernel10Ideal.nD) → Buf (Elt Ideal) ((c.tc : Thread Cert.Kernel10Ideal.nD Cert.Kernel10Ideal.τ).loc Cert.Kernel10Ideal.main_v0_10)) (v11 : (c : Dev Cert.Kernel10Ideal.nD) → Buf (Elt Ideal) ((c.tc : Thread Cert.Kernel10Ideal.nD Cert.Kernel10Ideal.τ).loc Cert.Kernel10Ideal.main_v0_11)) (v12 : (c : Dev Cert.Kernel10Ideal.nD) → Buf (Elt Ideal) ((c.tc : Thread Cert.Kernel10Ideal.nD Cert.Kernel10Ideal.τ).loc Cert.Kernel10Ideal.main_v0_12)) (v13 : (c : Dev Cert.Kernel10Ideal.nD) → Buf (Elt Ideal) ((c.tc : Thread Cert.Kernel10Ideal.nD Cert.Kernel10Ideal.τ).loc Cert.Kernel10Ideal.main_v0_13)) (v14 : (c : Dev Cert.Kernel10Ideal.nD) → Buf (Elt Ideal) ((c.tc : Thread Cert.Kernel10Ideal.nD Cert.Kernel10Ideal.τ).loc Cert.Kernel10Ideal.main_v0_14)) (v15 : (c : Dev Cert.Kernel10Ideal.nD) → Buf (Elt Ideal) ((c.tc : Thread Cert.Kernel10Ideal.nD Cert.Kernel10Ideal.τ).loc Cert.Kernel10Ideal.main_v0_15)) (v16 : (c : Dev Cert.Kernel10Ideal.nD) → Buf (Elt Ideal) ((c.tc : Thread Cert.Kernel10Ideal.nD Cert.Kernel10Ideal.τ).loc Cert.Kernel10Ideal.main_v0_16)) (v17 : (c : Dev Cert.Kernel10Ideal.nD) → Buf (Elt Ideal) ((c.tc : Thread Cert.Kernel10Ideal.nD Cert.Kernel10Ideal.τ).loc Cert.Kernel10Ideal.main_v0_17)) (v18 : (c : Dev Cert.Kernel10Ideal.nD) → Buf (Elt Ideal) ((c.tc : Thread Cert.Kernel10Ideal.nD Cert.Kernel10Ideal.τ).loc Cert.Kernel10Ideal.main_v0_18)) (v19 : (c : Dev Cert.Kernel10Ideal.nD) → Buf (Elt Ideal) ((c.tc : Thread Cert.Kernel10Ideal.nD Cert.Kernel10Ideal.τ).loc Cert.Kernel10Ideal.main_v0_19)) (v20 : (c : Dev Cert.Kernel10Ideal.nD) → Buf (Elt Ideal) ((c.tc : Thread Cert.Kernel10Ideal.nD Cert.Kernel10Ideal.τ).loc Cert.Kernel10Ideal.main_v0_20)) (v21 : (c : Dev Cert.Kernel10Ideal.nD) → Buf (Elt Ideal) ((c.tc : Thread Cert.Kernel10Ideal.nD Cert.Kernel10Ideal.τ).loc Cert.Kernel10Ideal.main_v0_21)) (v22 : (c : Dev Cert.Kernel10Ideal.nD) → Buf (Elt Ideal) ((c.tc : Thread Cert.Kernel10Ideal.nD Cert.Kernel10Ideal.τ).loc Cert.Kernel10Ideal.main_v0_22)) (v23 : (c : Dev Cert.Kernel10Ideal.nD) → Buf (Elt Ideal) ((c.tc : Thread Cert.Kernel10Ideal.nD Cert.Kernel10Ideal.τ).loc Cert.Kernel10Ideal.main_v0_23)) (v24 : (c : Dev Cert.Kernel10Ideal.nD) → Buf (Elt Ideal) ((c.tc : Thread Cert.Kernel10Ideal.nD Cert.Kernel10Ideal.τ).loc Cert.Kernel10Ideal.main_v0_24)) (v25 : (c : Dev Cert.Kernel10Ideal.nD) → Buf (Elt Ideal) ((c.tc : Thread Cert.Kernel10Ideal.nD Cert.Kernel10Ideal.τ).loc Cert.Kernel10Ideal.main_v0_25)) (v26 : (c : Dev Cert.Kernel10Ideal.nD) → Buf (Elt Ideal) ((c.tc : Thread Cert.Kernel10Ideal.nD Cert.Kernel10Ideal.τ).loc Cert.Kernel10Ideal.main_v0_26)) (v27 : (c : Dev Cert.Kernel10Ideal.nD) → Buf (Elt Ideal) ((c.tc : Thread Cert.Kernel10Ideal.nD Cert.Kernel10Ideal.τ).loc Cert.Kernel10Ideal.main_v0_27)) (v28 : (c : Dev Cert.Kernel10Ideal.nD) → Buf (Elt Ideal) ((c.tc : Thread Cert.Kernel10Ideal.nD Cert.Kernel10Ideal.τ).loc Cert.Kernel10Ideal.main_v0_28)) (v29 : (c : Dev Cert.Kernel10Ideal.nD) → Buf (Elt Ideal) ((c.tc : Thread Cert.Kernel10Ideal.nD Cert.Kernel10Ideal.τ).loc Cert.Kernel10Ideal.main_v0_29)) (v30 : (c : Dev Cert.Kernel10Ideal.nD) → Buf (Elt Ideal) ((c.tc : Thread Cert.Kernel10Ideal.nD Cert.Kernel10Ideal.τ).loc Cert.Kernel10Ideal.main_v0_30)) (v31 : (c : Dev Cert.Kernel10Ideal.nD) → Buf (Elt Ideal) ((c.tc : Thread Cert.Kernel10Ideal.nD Cert.Kernel10Ideal.τ).loc Cert.Kernel10Ideal.main_v0_31)) (v32 : (c : Dev Cert.Kernel10Ideal.nD) → Buf (Elt Ideal) ((c.tc : Thread Cert.Kernel10Ideal.nD Cert.Kernel10Ideal.τ).loc Cert.Kernel10Ideal.main_v0_32)) (v33 : (c : Dev Cert.Kernel10Ideal.nD) → Buf (Elt Ideal) ((c.tc : Thread Cert.Kernel10Ideal.nD Cert.Kernel10Ideal.τ).loc Cert.Kernel10Ideal.main_v0_33)) (v34 : (c : Dev Cert.Kernel10Ideal.nD) → Buf (Elt Ideal) ((c.tc : Thread Cert.Kernel10Ideal.nD Cert.Kernel10Ideal.τ).loc Cert.Kernel10Ideal.main_v0_34)) (v35 : (c : Dev Cert.Kernel10Ideal.nD) → Buf (Elt Ideal) ((c.tc : Thread Cert.Kernel10Ideal.nD Cert.Kernel10Ideal.τ).loc Cert.Kernel10Ideal.main_v0_35)) (v36 : (c : Dev Cert.Kernel10Ideal.nD) → Buf (Elt Ideal) ((c.tc : Thread Cert.Kernel10Ideal.nD Cert.Kernel10Ideal.τ).loc Cert.Kernel10Ideal.main_v0_36)) (v37 : (c : Dev Cert.Kernel10Ideal.nD) → Buf (Elt Ideal) ((c.tc : Thread Cert.Kernel10Ideal.nD Cert.Kernel10Ideal.τ).loc Cert.Kernel10Ideal.main_v0_37)) (v38 : (c : Dev Cert.Kernel10Ideal.nD) → Buf (Elt Ideal) ((c.tc : Thread Cert.Kernel10Ideal.nD Cert.Kernel10Ideal.τ).loc Cert.Kernel10Ideal.main_v0_38)) (v39 : (c : Dev Cert.Kernel10Ideal.nD) → Buf (Elt Ideal) ((c.tc : Thread Cert.Kernel10Ideal.nD Cert.Kernel10Ideal.τ).loc Cert.Kernel10Ideal.main_v0_39)) (v40 : (c : Dev Cert.Kernel10Ideal.nD) → Buf (Elt Ideal) ((c.tc : Thread Cert.Kernel10Ideal.nD Cert.Kernel10Ideal.τ).loc Cert.Kernel10Ideal.main_v0_40)) (v41 : (c : Dev Cert.Kernel10Ideal.nD) → Buf (Elt Ideal) ((c.tc : Thread Cert.Kernel10Ideal.nD Cert.Kernel10Ideal.τ).loc Cert.Kernel10Ideal.main_v0_41)) (v42 : (c : Dev Cert.Kernel10Ideal.nD) → Buf (Elt Ideal) ((c.tc : Thread Cert.Kernel10Ideal.nD Cert.Kernel10Ideal.τ).loc Cert.Kernel10Ideal.main_v0_42)) (v43 : (c : Dev Cert.Kernel10Ideal.nD) → Buf (Elt Ideal) ((c.tc : Thread Cert.Kernel10Ideal.nD Cert.Kernel10Ideal.τ).loc Cert.Kernel10Ideal.main_v0_43)) (v44 : (c : Dev Cert.Kernel10Ideal.nD) → Buf (Elt Ideal) ((c.tc : Thread Cert.Kernel10Ideal.nD Cert.Kernel10Ideal.τ).loc Cert.Kernel10Ideal.main_v0_44)) (v45 : (c : Dev Cert.Kernel10Ideal.nD) → Buf (Elt Ideal) ((c.tc : Thread Cert.Kernel10Ideal.nD Cert.Kernel10Ideal.τ).loc Cert.Kernel10Ideal.main_v0_45)) (v46 : (c : Dev Cert.Kernel10Ideal.nD) → Buf (Elt Ideal) ((c.tc : Thread Cert.Kernel10Ideal.nD Cert.Kernel10Ideal.τ).loc Cert.Kernel10Ideal.main_v0_46)) (v47 : (c : Dev Cert.Kernel10Ideal.nD) → Buf (Elt Ideal) ((c.tc : Thread Cert.Kernel10Ideal.nD Cert.Kernel10Ideal.τ).loc Cert.Kernel10Ideal.main_v0_47)) (v48 : (c : Dev Cert.Kernel10Ideal.nD) → Buf (Elt Ideal) ((c.tc : Thread Cert.Kernel10Ideal.nD Cert.Kernel10Ideal.τ).loc Cert.Kernel10Ideal.main_v0_48)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_v0_6) = v6 c
          ∧ r.2.mem ((c.tc : Thread Cert.Kernel10Ideal.nD Cert.Kernel10Ideal.τ).loc Cert.Kernel10Ideal.main_v0_7) = v7 c
          ∧ r.2.mem ((c.tc : Thread Cert.Kernel10Ideal.nD Cert.Kernel10Ideal.τ).loc Cert.Kernel10Ideal.main_v0_8) = v8 c
          ∧ r.2.mem ((c.tc : Thread Cert.Kernel10Ideal.nD Cert.Kernel10Ideal.τ).loc Cert.Kernel10Ideal.main_v0_9) = v9 c
          ∧ r.2.mem ((c.tc : Thread Cert.Kernel10Ideal.nD Cert.Kernel10Ideal.τ).loc Cert.Kernel10Ideal.main_v0_10) = v10 c
          ∧ r.2.mem ((c.tc : Thread Cert.Kernel10Ideal.nD Cert.Kernel10Ideal.τ).loc Cert.Kernel10Ideal.main_v0_11) = v11 c
          ∧ r.2.mem ((c.tc : Thread Cert.Kernel10Ideal.nD Cert.Kernel10Ideal.τ).loc Cert.Kernel10Ideal.main_v0_12) = v12 c
          ∧ r.2.mem ((c.tc : Thread Cert.Kernel10Ideal.nD Cert.Kernel10Ideal.τ).loc Cert.Kernel10Ideal.main_v0_13) = v13 c
          ∧ r.2.mem ((c.tc : Thread Cert.Kernel10Ideal.nD Cert.Kernel10Ideal.τ).loc Cert.Kernel10Ideal.main_v0_14) = v14 c
          ∧ r.2.mem ((c.tc : Thread Cert.Kernel10Ideal.nD Cert.Kernel10Ideal.τ).loc Cert.Kernel10Ideal.main_v0_15) = v15 c
          ∧ r.2.mem ((c.tc : Thread Cert.Kernel10Ideal.nD Cert.Kernel10Ideal.τ).loc Cert.Kernel10Ideal.main_v0_16) = v16 c
          ∧ r.2.mem ((c.tc : Thread Cert.Kernel10Ideal.nD Cert.Kernel10Ideal.τ).loc Cert.Kernel10Ideal.main_v0_17) = v17 c
          ∧ r.2.mem ((c.tc : Thread Cert.Kernel10Ideal.nD Cert.Kernel10Ideal.τ).loc Cert.Kernel10Ideal.main_v0_18) = v18 c
          ∧ r.2.mem ((c.tc : Thread Cert.Kernel10Ideal.nD Cert.Kernel10Ideal.τ).loc Cert.Kernel10Ideal.main_v0_19) = v19 c
          ∧ r.2.mem ((c.tc : Thread Cert.Kernel10Ideal.nD Cert.Kernel10Ideal.τ).loc Cert.Kernel10Ideal.main_v0_20) = v20 c
          ∧ r.2.mem ((c.tc : Thread Cert.Kernel10Ideal.nD Cert.Kernel10Ideal.τ).loc Cert.Kernel10Ideal.main_v0_21) = v21 c
          ∧ r.2.mem ((c.tc : Thread Cert.Kernel10Ideal.nD Cert.Kernel10Ideal.τ).loc Cert.Kernel10Ideal.main_v0_22) = v22 c
          ∧ r.2.mem ((c.tc : Thread Cert.Kernel10Ideal.nD Cert.Kernel10Ideal.τ).loc Cert.Kernel10Ideal.main_v0_23) = v23 c
          ∧ r.2.mem ((c.tc : Thread Cert.Kernel10Ideal.nD Cert.Kernel10Ideal.τ).loc Cert.Kernel10Ideal.main_v0_24) = v24 c
          ∧ r.2.mem ((c.tc : Thread Cert.Kernel10Ideal.nD Cert.Kernel10Ideal.τ).loc Cert.Kernel10Ideal.main_v0_25) = v25 c
          ∧ r.2.mem ((c.tc : Thread Cert.Kernel10Ideal.nD Cert.Kernel10Ideal.τ).loc Cert.Kernel10Ideal.main_v0_26) = v26 c
          ∧ r.2.mem ((c.tc : Thread Cert.Kernel10Ideal.nD Cert.Kernel10Ideal.τ).loc Cert.Kernel10Ideal.main_v0_27) = v27 c
          ∧ r.2.mem ((c.tc : Thread Cert.Kernel10Ideal.nD Cert.Kernel10Ideal.τ).loc Cert.Kernel10Ideal.main_v0_28) = v28 c
          ∧ r.2.mem ((c.tc : Thread Cert.Kernel10Ideal.nD Cert.Kernel10Ideal.τ).loc Cert.Kernel10Ideal.main_v0_29) = v29 c
          ∧ r.2.mem ((c.tc : Thread Cert.Kernel10Ideal.nD Cert.Kernel10Ideal.τ).loc Cert.Kernel10Ideal.main_v0_30) = v30 c
          ∧ r.2.mem ((c.tc : Thread Cert.Kernel10Ideal.nD Cert.Kernel10Ideal.τ).loc Cert.Kernel10Ideal.main_v0_31) = v31 c
          ∧ r.2.mem ((c.tc : Thread Cert.Kernel10Ideal.nD Cert.Kernel10Ideal.τ).loc Cert.Kernel10Ideal.main_v0_32) = v32 c
          ∧ r.2.mem ((c.tc : Thread Cert.Kernel10Ideal.nD Cert.Kernel10Ideal.τ).loc Cert.Kernel10Ideal.main_v0_33) = v33 c
          ∧ r.2.mem ((c.tc : Thread Cert.Kernel10Ideal.nD Cert.Kernel10Ideal.τ).loc Cert.Kernel10Ideal.main_v0_34) = v34 c
          ∧ r.2.mem ((c.tc : Thread Cert.Kernel10Ideal.nD Cert.Kernel10Ideal.τ).loc Cert.Kernel10Ideal.main_v0_35) = v35 c
          ∧ r.2.mem ((c.tc : Thread Cert.Kernel10Ideal.nD Cert.Kernel10Ideal.τ).loc Cert.Kernel10Ideal.main_v0_36) = v36 c
          ∧ r.2.mem ((c.tc : Thread Cert.Kernel10Ideal.nD Cert.Kernel10Ideal.τ).loc Cert.Kernel10Ideal.main_v0_37) = v37 c
          ∧ r.2.mem ((c.tc : Thread Cert.Kernel10Ideal.nD Cert.Kernel10Ideal.τ).loc Cert.Kernel10Ideal.main_v0_38) = v38 c
          ∧ r.2.mem ((c.tc : Thread Cert.Kernel10Ideal.nD Cert.Kernel10Ideal.τ).loc Cert.Kernel10Ideal.main_v0_39) = v39 c
          ∧ r.2.mem ((c.tc : Thread Cert.Kernel10Ideal.nD Cert.Kernel10Ideal.τ).loc Cert.Kernel10Ideal.main_v0_40) = v40 c
          ∧ r.2.mem ((c.tc : Thread Cert.Kernel10Ideal.nD Cert.Kernel10Ideal.τ).loc Cert.Kernel10Ideal.main_v0_41) = v41 c
          ∧ r.2.mem ((c.tc : Thread Cert.Kernel10Ideal.nD Cert.Kernel10Ideal.τ).loc Cert.Kernel10Ideal.main_v0_42) = v42 c
          ∧ r.2.mem ((c.tc : Thread Cert.Kernel10Ideal.nD Cert.Kernel10Ideal.τ).loc Cert.Kernel10Ideal.main_v0_43) = v43 c
          ∧ r.2.mem ((c.tc : Thread Cert.Kernel10Ideal.nD Cert.Kernel10Ideal.τ).loc Cert.Kernel10Ideal.main_v0_44) = v44 c
          ∧ r.2.mem ((c.tc : Thread Cert.Kernel10Ideal.nD Cert.Kernel10Ideal.τ).loc Cert.Kernel10Ideal.main_v0_45) = v45 c
          ∧ r.2.mem ((c.tc : Thread Cert.Kernel10Ideal.nD Cert.Kernel10Ideal.τ).loc Cert.Kernel10Ideal.main_v0_46) = v46 c
          ∧ r.2.mem ((c.tc : Thread Cert.Kernel10Ideal.nD Cert.Kernel10Ideal.τ).loc Cert.Kernel10Ideal.main_v0_47) = v47 c
          ∧ r.2.mem ((c.tc : Thread Cert.Kernel10Ideal.nD Cert.Kernel10Ideal.τ).loc Cert.Kernel10Ideal.main_v0_48) = v48 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
          ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
          ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
          ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16)
          ∧ r.2.mem ((c.tc : Thread Cert.Kernel10Ideal.nD Cert.Kernel10Ideal.τ).loc Cert.Kernel10Ideal.main_arg17) = m ((c.tc : Thread Cert.Kernel10Ideal.nD Cert.Kernel10Ideal.τ).loc Cert.Kernel10Ideal.main_arg17)
          ∧ r.2.mem ((c.tc : Thread Cert.Kernel10Ideal.nD Cert.Kernel10Ideal.τ).loc Cert.Kernel10Ideal.main_arg18) = m ((c.tc : Thread Cert.Kernel10Ideal.nD Cert.Kernel10Ideal.τ).loc Cert.Kernel10Ideal.main_arg18)
          ∧ r.2.mem ((c.tc : Thread Cert.Kernel10Ideal.nD Cert.Kernel10Ideal.τ).loc Cert.Kernel10Ideal.main_arg19) = m ((c.tc : Thread Cert.Kernel10Ideal.nD Cert.Kernel10Ideal.τ).loc Cert.Kernel10Ideal.main_arg19)
          ∧ r.2.mem ((c.tc : Thread Cert.Kernel10Ideal.nD Cert.Kernel10Ideal.τ).loc Cert.Kernel10Ideal.main_arg20) = m ((c.tc : Thread Cert.Kernel10Ideal.nD Cert.Kernel10Ideal.τ).loc Cert.Kernel10Ideal.main_arg20)
          ∧ r.2.mem ((c.tc : Thread Cert.Kernel10Ideal.nD Cert.Kernel10Ideal.τ).loc Cert.Kernel10Ideal.main_arg21) = m ((c.tc : Thread Cert.Kernel10Ideal.nD Cert.Kernel10Ideal.τ).loc Cert.Kernel10Ideal.main_arg21)
          ∧ r.2.mem ((c.tc : Thread Cert.Kernel10Ideal.nD Cert.Kernel10Ideal.τ).loc Cert.Kernel10Ideal.main_arg22) = m ((c.tc : Thread Cert.Kernel10Ideal.nD Cert.Kernel10Ideal.τ).loc Cert.Kernel10Ideal.main_arg22)
          ∧ r.2.mem ((c.tc : Thread Cert.Kernel10Ideal.nD Cert.Kernel10Ideal.τ).loc Cert.Kernel10Ideal.main_arg23) = m ((c.tc : Thread Cert.Kernel10Ideal.nD Cert.Kernel10Ideal.τ).loc Cert.Kernel10Ideal.main_arg23)
          ∧ r.2.mem ((c.tc : Thread Cert.Kernel10Ideal.nD Cert.Kernel10Ideal.τ).loc Cert.Kernel10Ideal.main_arg24) = m ((c.tc : Thread Cert.Kernel10Ideal.nD Cert.Kernel10Ideal.τ).loc Cert.Kernel10Ideal.main_arg24)
          ∧ r.2.mem ((c.tc : Thread Cert.Kernel10Ideal.nD Cert.Kernel10Ideal.τ).loc Cert.Kernel10Ideal.main_arg25) = m ((c.tc : Thread Cert.Kernel10Ideal.nD Cert.Kernel10Ideal.τ).loc Cert.Kernel10Ideal.main_arg25)
          ∧ r.2.mem ((c.tc : Thread Cert.Kernel10Ideal.nD Cert.Kernel10Ideal.τ).loc Cert.Kernel10Ideal.main_arg26) = m ((c.tc : Thread Cert.Kernel10Ideal.nD Cert.Kernel10Ideal.τ).loc Cert.Kernel10Ideal.main_arg26)
          ∧ r.2.mem ((c.tc : Thread Cert.Kernel10Ideal.nD Cert.Kernel10Ideal.τ).loc Cert.Kernel10Ideal.main_arg27) = m ((c.tc : Thread Cert.Kernel10Ideal.nD Cert.Kernel10Ideal.τ).loc Cert.Kernel10Ideal.main_arg27)
          ∧ r.2.mem ((c.tc : Thread Cert.Kernel10Ideal.nD Cert.Kernel10Ideal.τ).loc Cert.Kernel10Ideal.main_arg28) = m ((c.tc : Thread Cert.Kernel10Ideal.nD Cert.Kernel10Ideal.τ).loc Cert.Kernel10Ideal.main_arg28)
          ∧ r.2.mem ((c.tc : Thread Cert.Kernel10Ideal.nD Cert.Kernel10Ideal.τ).loc Cert.Kernel10Ideal.main_arg29) = m ((c.tc : Thread Cert.Kernel10Ideal.nD Cert.Kernel10Ideal.τ).loc Cert.Kernel10Ideal.main_arg29)
          ∧ r.2.mem ((c.tc : Thread Cert.Kernel10Ideal.nD Cert.Kernel10Ideal.τ).loc Cert.Kernel10Ideal.main_arg30) = m ((c.tc : Thread Cert.Kernel10Ideal.nD Cert.Kernel10Ideal.τ).loc Cert.Kernel10Ideal.main_arg30)
          ∧ r.2.mem ((c.tc : Thread Cert.Kernel10Ideal.nD Cert.Kernel10Ideal.τ).loc Cert.Kernel10Ideal.main_arg31) = m ((c.tc : Thread Cert.Kernel10Ideal.nD Cert.Kernel10Ideal.τ).loc Cert.Kernel10Ideal.main_arg31)
          ∧ r.2.mem ((c.tc : Thread Cert.Kernel10Ideal.nD Cert.Kernel10Ideal.τ).loc Cert.Kernel10Ideal.main_arg32) = m ((c.tc : Thread Cert.Kernel10Ideal.nD Cert.Kernel10Ideal.τ).loc Cert.Kernel10Ideal.main_arg32)
          ∧ r.2.mem ((c.tc : Thread Cert.Kernel10Ideal.nD Cert.Kernel10Ideal.τ).loc Cert.Kernel10Ideal.main_arg33) = m ((c.tc : Thread Cert.Kernel10Ideal.nD Cert.Kernel10Ideal.τ).loc Cert.Kernel10Ideal.main_arg33)
          ∧ r.2.mem ((c.tc : Thread Cert.Kernel10Ideal.nD Cert.Kernel10Ideal.τ).loc Cert.Kernel10Ideal.main_arg34) = m ((c.tc : Thread Cert.Kernel10Ideal.nD Cert.Kernel10Ideal.τ).loc Cert.Kernel10Ideal.main_arg34)
          ∧ r.2.mem ((c.tc : Thread Cert.Kernel10Ideal.nD Cert.Kernel10Ideal.τ).loc Cert.Kernel10Ideal.main_arg35) = m ((c.tc : Thread Cert.Kernel10Ideal.nD Cert.Kernel10Ideal.τ).loc Cert.Kernel10Ideal.main_arg35)
          ∧ r.2.mem ((c.tc : Thread Cert.Kernel10Ideal.nD Cert.Kernel10Ideal.τ).loc Cert.Kernel10Ideal.main_arg36) = m ((c.tc : Thread Cert.Kernel10Ideal.nD Cert.Kernel10Ideal.τ).loc Cert.Kernel10Ideal.main_arg36))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v63) = v1 c
          ∧ r.2.mem ((c.tc : Thread Cert.Reference10Ideal.nD Cert.Reference10Ideal.τ).loc Cert.Reference10Ideal.main_v44) = v2 c
          ∧ r.2.mem ((c.tc : Thread Cert.Reference10Ideal.nD Cert.Reference10Ideal.τ).loc Cert.Reference10Ideal.main_v50) = v3 c
          ∧ r.2.mem ((c.tc : Thread Cert.Reference10Ideal.nD Cert.Reference10Ideal.τ).loc Cert.Reference10Ideal.main_v2) = v4 c
          ∧ r.2.mem ((c.tc : Thread Cert.Reference10Ideal.nD Cert.Reference10Ideal.τ).loc Cert.Reference10Ideal.main_v87) = v5 c
          ∧ r.2.mem ((c.tc : Thread Cert.Reference10Ideal.nD Cert.Reference10Ideal.τ).loc Cert.Reference10Ideal.main_v68) = v6 c
          ∧ r.2.mem ((c.tc : Thread Cert.Reference10Ideal.nD Cert.Reference10Ideal.τ).loc Cert.Reference10Ideal.main_v74) = v7 c
          ∧ r.2.mem ((c.tc : Thread Cert.Reference10Ideal.nD Cert.Reference10Ideal.τ).loc Cert.Reference10Ideal.main_v3) = v8 c
          ∧ r.2.mem ((c.tc : Thread Cert.Reference10Ideal.nD Cert.Reference10Ideal.τ).loc Cert.Reference10Ideal.main_v111) = v9 c
          ∧ r.2.mem ((c.tc : Thread Cert.Reference10Ideal.nD Cert.Reference10Ideal.τ).loc Cert.Reference10Ideal.main_v92) = v10 c
          ∧ r.2.mem ((c.tc : Thread Cert.Reference10Ideal.nD Cert.Reference10Ideal.τ).loc Cert.Reference10Ideal.main_v98) = v11 c
          ∧ r.2.mem ((c.tc : Thread Cert.Reference10Ideal.nD Cert.Reference10Ideal.τ).loc Cert.Reference10Ideal.main_v4) = v12 c
          ∧ r.2.mem ((c.tc : Thread Cert.Reference10Ideal.nD Cert.Reference10Ideal.τ).loc Cert.Reference10Ideal.main_v135) = v13 c
          ∧ r.2.mem ((c.tc : Thread Cert.Reference10Ideal.nD Cert.Reference10Ideal.τ).loc Cert.Reference10Ideal.main_v116) = v14 c
          ∧ r.2.mem ((c.tc : Thread Cert.Reference10Ideal.nD Cert.Reference10Ideal.τ).loc Cert.Reference10Ideal.main_v122) = v15 c
          ∧ r.2.mem ((c.tc : Thread Cert.Reference10Ideal.nD Cert.Reference10Ideal.τ).loc Cert.Reference10Ideal.main_v5) = v16 c
          ∧ r.2.mem ((c.tc : Thread Cert.Reference10Ideal.nD Cert.Reference10Ideal.τ).loc Cert.Reference10Ideal.main_v159) = v17 c
          ∧ r.2.mem ((c.tc : Thread Cert.Reference10Ideal.nD Cert.Reference10Ideal.τ).loc Cert.Reference10Ideal.main_v140) = v18 c
          ∧ r.2.mem ((c.tc : Thread Cert.Reference10Ideal.nD Cert.Reference10Ideal.τ).loc Cert.Reference10Ideal.main_v146) = v19 c
          ∧ r.2.mem ((c.tc : Thread Cert.Reference10Ideal.nD Cert.Reference10Ideal.τ).loc Cert.Reference10Ideal.main_v6) = v20 c
          ∧ r.2.mem ((c.tc : Thread Cert.Reference10Ideal.nD Cert.Reference10Ideal.τ).loc Cert.Reference10Ideal.main_v183) = v21 c
          ∧ r.2.mem ((c.tc : Thread Cert.Reference10Ideal.nD Cert.Reference10Ideal.τ).loc Cert.Reference10Ideal.main_v164) = v22 c
          ∧ r.2.mem ((c.tc : Thread Cert.Reference10Ideal.nD Cert.Reference10Ideal.τ).loc Cert.Reference10Ideal.main_v170) = v23 c
          ∧ r.2.mem ((c.tc : Thread Cert.Reference10Ideal.nD Cert.Reference10Ideal.τ).loc Cert.Reference10Ideal.main_v7) = v24 c
          ∧ r.2.mem ((c.tc : Thread Cert.Reference10Ideal.nD Cert.Reference10Ideal.τ).loc Cert.Reference10Ideal.main_v207) = v25 c
          ∧ r.2.mem ((c.tc : Thread Cert.Reference10Ideal.nD Cert.Reference10Ideal.τ).loc Cert.Reference10Ideal.main_v188) = v26 c
          ∧ r.2.mem ((c.tc : Thread Cert.Reference10Ideal.nD Cert.Reference10Ideal.τ).loc Cert.Reference10Ideal.main_v194) = v27 c
          ∧ r.2.mem ((c.tc : Thread Cert.Reference10Ideal.nD Cert.Reference10Ideal.τ).loc Cert.Reference10Ideal.main_v8) = v28 c
          ∧ r.2.mem ((c.tc : Thread Cert.Reference10Ideal.nD Cert.Reference10Ideal.τ).loc Cert.Reference10Ideal.main_v231) = v29 c
          ∧ r.2.mem ((c.tc : Thread Cert.Reference10Ideal.nD Cert.Reference10Ideal.τ).loc Cert.Reference10Ideal.main_v212) = v30 c
          ∧ r.2.mem ((c.tc : Thread Cert.Reference10Ideal.nD Cert.Reference10Ideal.τ).loc Cert.Reference10Ideal.main_v218) = v31 c
          ∧ r.2.mem ((c.tc : Thread Cert.Reference10Ideal.nD Cert.Reference10Ideal.τ).loc Cert.Reference10Ideal.main_v9) = v32 c
          ∧ r.2.mem ((c.tc : Thread Cert.Reference10Ideal.nD Cert.Reference10Ideal.τ).loc Cert.Reference10Ideal.main_v255) = v33 c
          ∧ r.2.mem ((c.tc : Thread Cert.Reference10Ideal.nD Cert.Reference10Ideal.τ).loc Cert.Reference10Ideal.main_v236) = v34 c
          ∧ r.2.mem ((c.tc : Thread Cert.Reference10Ideal.nD Cert.Reference10Ideal.τ).loc Cert.Reference10Ideal.main_v242) = v35 c
          ∧ r.2.mem ((c.tc : Thread Cert.Reference10Ideal.nD Cert.Reference10Ideal.τ).loc Cert.Reference10Ideal.main_v10) = v36 c
          ∧ r.2.mem ((c.tc : Thread Cert.Reference10Ideal.nD Cert.Reference10Ideal.τ).loc Cert.Reference10Ideal.main_v279) = v37 c
          ∧ r.2.mem ((c.tc : Thread Cert.Reference10Ideal.nD Cert.Reference10Ideal.τ).loc Cert.Reference10Ideal.main_v260) = v38 c
          ∧ r.2.mem ((c.tc : Thread Cert.Reference10Ideal.nD Cert.Reference10Ideal.τ).loc Cert.Reference10Ideal.main_v266) = v39 c
          ∧ r.2.mem ((c.tc : Thread Cert.Reference10Ideal.nD Cert.Reference10Ideal.τ).loc Cert.Reference10Ideal.main_v24) = v40 c
          ∧ r.2.mem ((c.tc : Thread Cert.Reference10Ideal.nD Cert.Reference10Ideal.τ).loc Cert.Reference10Ideal.main_v303) = v41 c
          ∧ r.2.mem ((c.tc : Thread Cert.Reference10Ideal.nD Cert.Reference10Ideal.τ).loc Cert.Reference10Ideal.main_v284) = v42 c
          ∧ r.2.mem ((c.tc : Thread Cert.Reference10Ideal.nD Cert.Reference10Ideal.τ).loc Cert.Reference10Ideal.main_v290) = v43 c
          ∧ r.2.mem ((c.tc : Thread Cert.Reference10Ideal.nD Cert.Reference10Ideal.τ).loc Cert.Reference10Ideal.main_v38) = v44 c
          ∧ r.2.mem ((c.tc : Thread Cert.Reference10Ideal.nD Cert.Reference10Ideal.τ).loc Cert.Reference10Ideal.main_v327) = v45 c
          ∧ r.2.mem ((c.tc : Thread Cert.Reference10Ideal.nD Cert.Reference10Ideal.τ).loc Cert.Reference10Ideal.main_v308) = v46 c
          ∧ r.2.mem ((c.tc : Thread Cert.Reference10Ideal.nD Cert.Reference10Ideal.τ).loc Cert.Reference10Ideal.main_v314) = v47 c
          ∧ r.2.mem ((c.tc : Thread Cert.Reference10Ideal.nD Cert.Reference10Ideal.τ).loc Cert.Reference10Ideal.main_v39) = v48 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14)
          ∧ r.2.mem ((c.tc : Thread Cert.Reference10Ideal.nD Cert.Reference10Ideal.τ).loc Cert.Reference10Ideal.main_arg15) = m' ((c.tc : Thread Cert.Reference10Ideal.nD Cert.Reference10Ideal.τ).loc Cert.Reference10Ideal.main_arg15)
          ∧ r.2.mem ((c.tc : Thread Cert.Reference10Ideal.nD Cert.Reference10Ideal.τ).loc Cert.Reference10Ideal.main_arg16) = m' ((c.tc : Thread Cert.Reference10Ideal.nD Cert.Reference10Ideal.τ).loc Cert.Reference10Ideal.main_arg16)
          ∧ r.2.mem ((c.tc : Thread Cert.Reference10Ideal.nD Cert.Reference10Ideal.τ).loc Cert.Reference10Ideal.main_arg17) = m' ((c.tc : Thread Cert.Reference10Ideal.nD Cert.Reference10Ideal.τ).loc Cert.Reference10Ideal.main_arg17)
          ∧ r.2.mem ((c.tc : Thread Cert.Reference10Ideal.nD Cert.Reference10Ideal.τ).loc Cert.Reference10Ideal.main_arg18) = m' ((c.tc : Thread Cert.Reference10Ideal.nD Cert.Reference10Ideal.τ).loc Cert.Reference10Ideal.main_arg18)
          ∧ r.2.mem ((c.tc : Thread Cert.Reference10Ideal.nD Cert.Reference10Ideal.τ).loc Cert.Reference10Ideal.main_arg19) = m' ((c.tc : Thread Cert.Reference10Ideal.nD Cert.Reference10Ideal.τ).loc Cert.Reference10Ideal.main_arg19)
          ∧ r.2.mem ((c.tc : Thread Cert.Reference10Ideal.nD Cert.Reference10Ideal.τ).loc Cert.Reference10Ideal.main_arg20) = m' ((c.tc : Thread Cert.Reference10Ideal.nD Cert.Reference10Ideal.τ).loc Cert.Reference10Ideal.main_arg20)
          ∧ r.2.mem ((c.tc : Thread Cert.Reference10Ideal.nD Cert.Reference10Ideal.τ).loc Cert.Reference10Ideal.main_arg21) = m' ((c.tc : Thread Cert.Reference10Ideal.nD Cert.Reference10Ideal.τ).loc Cert.Reference10Ideal.main_arg21)
          ∧ r.2.mem ((c.tc : Thread Cert.Reference10Ideal.nD Cert.Reference10Ideal.τ).loc Cert.Reference10Ideal.main_arg22) = m' ((c.tc : Thread Cert.Reference10Ideal.nD Cert.Reference10Ideal.τ).loc Cert.Reference10Ideal.main_arg22)
          ∧ r.2.mem ((c.tc : Thread Cert.Reference10Ideal.nD Cert.Reference10Ideal.τ).loc Cert.Reference10Ideal.main_arg23) = m' ((c.tc : Thread Cert.Reference10Ideal.nD Cert.Reference10Ideal.τ).loc Cert.Reference10Ideal.main_arg23)
          ∧ r.2.mem ((c.tc : Thread Cert.Reference10Ideal.nD Cert.Reference10Ideal.τ).loc Cert.Reference10Ideal.main_arg24) = m' ((c.tc : Thread Cert.Reference10Ideal.nD Cert.Reference10Ideal.τ).loc Cert.Reference10Ideal.main_arg24)
          ∧ r.2.mem ((c.tc : Thread Cert.Reference10Ideal.nD Cert.Reference10Ideal.τ).loc Cert.Reference10Ideal.main_arg25) = m' ((c.tc : Thread Cert.Reference10Ideal.nD Cert.Reference10Ideal.τ).loc Cert.Reference10Ideal.main_arg25)
          ∧ r.2.mem ((c.tc : Thread Cert.Reference10Ideal.nD Cert.Reference10Ideal.τ).loc Cert.Reference10Ideal.main_arg26) = m' ((c.tc : Thread Cert.Reference10Ideal.nD Cert.Reference10Ideal.τ).loc Cert.Reference10Ideal.main_arg26)
          ∧ r.2.mem ((c.tc : Thread Cert.Reference10Ideal.nD Cert.Reference10Ideal.τ).loc Cert.Reference10Ideal.main_arg27) = m' ((c.tc : Thread Cert.Reference10Ideal.nD Cert.Reference10Ideal.τ).loc Cert.Reference10Ideal.main_arg27)
          ∧ r.2.mem ((c.tc : Thread Cert.Reference10Ideal.nD Cert.Reference10Ideal.τ).loc Cert.Reference10Ideal.main_arg28) = m' ((c.tc : Thread Cert.Reference10Ideal.nD Cert.Reference10Ideal.τ).loc Cert.Reference10Ideal.main_arg28)
          ∧ r.2.mem ((c.tc : Thread Cert.Reference10Ideal.nD Cert.Reference10Ideal.τ).loc Cert.Reference10Ideal.main_arg29) = m' ((c.tc : Thread Cert.Reference10Ideal.nD Cert.Reference10Ideal.τ).loc Cert.Reference10Ideal.main_arg29)
          ∧ r.2.mem ((c.tc : Thread Cert.Reference10Ideal.nD Cert.Reference10Ideal.τ).loc Cert.Reference10Ideal.main_arg30) = m' ((c.tc : Thread Cert.Reference10Ideal.nD Cert.Reference10Ideal.τ).loc Cert.Reference10Ideal.main_arg30)
          ∧ r.2.mem ((c.tc : Thread Cert.Reference10Ideal.nD Cert.Reference10Ideal.τ).loc Cert.Reference10Ideal.main_arg31) = m' ((c.tc : Thread Cert.Reference10Ideal.nD Cert.Reference10Ideal.τ).loc Cert.Reference10Ideal.main_arg31)
          ∧ r.2.mem ((c.tc : Thread Cert.Reference10Ideal.nD Cert.Reference10Ideal.τ).loc Cert.Reference10Ideal.main_arg32) = m' ((c.tc : Thread Cert.Reference10Ideal.nD Cert.Reference10Ideal.τ).loc Cert.Reference10Ideal.main_arg32)
          ∧ r.2.mem ((c.tc : Thread Cert.Reference10Ideal.nD Cert.Reference10Ideal.τ).loc Cert.Reference10Ideal.main_arg33) = m' ((c.tc : Thread Cert.Reference10Ideal.nD Cert.Reference10Ideal.τ).loc Cert.Reference10Ideal.main_arg33)
          ∧ r.2.mem ((c.tc : Thread Cert.Reference10Ideal.nD Cert.Reference10Ideal.τ).loc Cert.Reference10Ideal.main_arg34) = m' ((c.tc : Thread Cert.Reference10Ideal.nD Cert.Reference10Ideal.τ).loc Cert.Reference10Ideal.main_arg34)
          ∧ r.2.mem ((c.tc : Thread Cert.Reference10Ideal.nD Cert.Reference10Ideal.τ).loc Cert.Reference10Ideal.main_arg35) = m' ((c.tc : Thread Cert.Reference10Ideal.nD Cert.Reference10Ideal.τ).loc Cert.Reference10Ideal.main_arg35)
          ∧ r.2.mem ((c.tc : Thread Cert.Reference10Ideal.nD Cert.Reference10Ideal.τ).loc Cert.Reference10Ideal.main_arg36) = m' ((c.tc : Thread Cert.Reference10Ideal.nD Cert.Reference10Ideal.τ).loc Cert.Reference10Ideal.main_arg36))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S8192x1024 : Shape := ⟨2, ![8192, 1024]⟩
abbrev S2048x1024 : Shape := ⟨2, ![2048, 1024]⟩
abbrev S1024 : Shape := ⟨1, ![1024]⟩
abbrev S1x1024 : Shape := ⟨2, ![1, 1024]⟩
abbrev S8x1024 : Shape := ⟨2, ![8, 1024]⟩
abbrev S1x128 : Shape := ⟨2, ![1, 128]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S2048x1024, .f32⟩
  | .hbm, ⟨5, _⟩ => ⟨S1024, .f32⟩
  | .hbm, ⟨6, _⟩ => ⟨S2048x1024, .bf16⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S2048x1024, .bf16⟩
  | .hbm, ⟨12, _⟩ => ⟨S8x1024, .f32⟩
  | .hbm, ⟨13, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S2048x1024, .bf16⟩
  | .local _ .vmem, ⟨17, _⟩ => ⟨S8x1024, .f32⟩
  | .local _ .vmem, ⟨18, _⟩ => ⟨S1x128, .f32⟩
  | .local _ .vmem, ⟨19, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v87 : BitVec 1 := Scalar.cmpi .eq arg0 c15_i32
  let v88 : BitVec 32 := Scalar.extui v87
  let c0_i32_55 : BitVec 32 := 0#32
  let v89 : BitVec 1 := Scalar.cmpi .ne v88 c0_i32_55
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2048 : Shape := ⟨2, ![1024, 2048]⟩
abbrev S7x1024 : Shape := ⟨2, ![7, 1024]⟩
abbrev S8x1024 : Shape := ⟨2, ![8, 1024]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S2048x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1024x2048, .f32⟩
  | .hbm, ⟨80, _⟩ => ⟨S2048x1024, .f32⟩
  | .hbm, ⟨81, _⟩ => ⟨S8192x2048, .f32⟩
  | .hbm, ⟨82, _⟩ => ⟨S8192x1024, .f32⟩
  | .hbm, ⟨83, _⟩ => ⟨S8192x1024, .f32⟩
  | .hbm, ⟨84, _⟩ => ⟨S2048x1024, .bf16⟩
  | .hbm, ⟨85, _⟩ => ⟨S1x1024, .f32⟩
  | .hbm, ⟨86, _⟩ => ⟨S_, .f32⟩
  | .hbm, ⟨87, _⟩ => ⟨S7x1024, .f32⟩
  | .hbm, ⟨88, _⟩ => ⟨S8x1024, .f32⟩
  | .hbm, ⟨89, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1024 : Shape := ⟨2, ![1024, 1024]⟩
abbrev S128x1024 : Shape := ⟨2, ![128, 1024]⟩
abbrev S2048x1024 : Shape := ⟨2, ![2048, 1024]⟩
abbrev S2048x128 : Shape := ⟨2, ![2048, 128]⟩

abbrev nBuf : Space → Nat
  | .hbm => 23
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x128, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1024x1024, .bf16⟩
  | .hbm, ⟨22, _⟩ => ⟨S128x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S2048x128, .f32⟩
  | .local _ .vmem, ⟨5, _⟩ => ⟨S2048x128, .f32⟩
  | .local _ .vmem, ⟨6, _⟩ => ⟨S1024x1024, .bf16⟩
  | .local _ .vmem, ⟨7, _⟩ => ⟨S128x1024, .bf16⟩
  | .local _ .vmem, ⟨8, _⟩ => ⟨S1024x1024, .f32⟩
  | .local _ .vmem, ⟨9, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S8192x1024 : Shape := ⟨2, ![8192, 1024]⟩
abbrev S1024 : Shape := ⟨1, ![1024]⟩
abbrev S8192x128 : Shape := ⟨2, ![8192, 128]⟩
abbrev S_ : Shape := ⟨0, ![]⟩
abbrev S1024x1024 : Shape := ⟨2, ![1024, 1024]⟩
abbrev S8192 : Shape := ⟨1, ![8192]⟩
abbrev S8192x1 : Shape := ⟨2, ![8192, 1]⟩
abbrev S1x1024 : Shape := ⟨2, ![1, 1024]⟩
abbrev S1024x128 : Shape := ⟨2, ![1024, 128]⟩
abbrev S128x1024 : Shape := ⟨2, ![128, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x128, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .bf16⟩
  | .hbm, ⟨27, _⟩ => ⟨S_, .f32⟩
  | .hbm, ⟨28, _⟩ => ⟨S1024x128, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x128, .f32⟩
  | .hbm, ⟨46, _⟩ => ⟨S128x1024, .f32⟩
  | .hbm, ⟨47, _⟩ => ⟨S1024x128, .f32⟩
  | .hbm, ⟨48, _⟩ => ⟨S128x1024, .f32⟩
  | .hbm, ⟨49, _⟩ => ⟨S128x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1536x1024 : Shape := ⟨2, ![1536, 1024]⟩
abbrev S1024x1024 : Shape := ⟨2, ![1024, 1024]⟩
abbrev S1024x1536 : Shape := ⟨2, ![1024, 1536]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1536, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1536x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .f32⟩
  | .local _ .vmem, ⟨3, _⟩ => ⟨S1024x1536, .f32⟩
  | .local _ .vmem, ⟨4, _⟩ => ⟨S1536x1024, .bf16⟩
  | .local _ .vmem, ⟨5, _⟩ => ⟨S1536x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S1024 : Shape := ⟨1, ![1024]⟩
abbrev S8192x1536 : Shape := ⟨2, ![8192, 1536]⟩
abbrev S_ : Shape := ⟨0, ![]⟩
abbrev S1024x1536 : Shape := ⟨2, ![1024, 1536]⟩
abbrev S8192 : Shape := ⟨1, ![8192]⟩
abbrev S8192x1 : Shape := ⟨2, ![8192, 1]⟩
abbrev S1x1024 : Shape := ⟨2, ![1, 1024]⟩
abbrev S1536x1024 : Shape := ⟨2, ![1536, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1536, .f32⟩
  | .hbm, ⟨3, _⟩ => ⟨S_, .f32⟩
  | .hbm, ⟨4, _⟩ => ⟨S1024x1536, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1536, .f32⟩
  | .hbm, ⟨22, _⟩ => ⟨S1536x1024, .f32⟩
  | .hbm, ⟨23, _⟩ => ⟨S1024x1536, .f32⟩
  | .hbm, ⟨24, _⟩ => ⟨S1536x1024, .f32⟩
  | .hbm, ⟨25, _⟩ => ⟨S1536x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S1024 : Shape := ⟨1, ![1024]⟩
abbrev S_ : Shape := ⟨0, ![]⟩
abbrev S1024x1024 : Shape := ⟨2, ![1024, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S8x256x1024 : Shape := ⟨3, ![8, 256, 1024]⟩
abbrev S256x1024 : Shape := ⟨2, ![256, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel5Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference5Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S1024 : Shape := ⟨1, ![1024]⟩
abbrev S8192x3072 : Shape := ⟨2, ![8192, 3072]⟩
abbrev S_ : Shape := ⟨0, ![]⟩
abbrev S1024x3072 : Shape := ⟨2, ![1024, 3072]⟩
abbrev S8192 : Shape := ⟨1, ![8192]⟩
abbrev S8192x1 : Shape := ⟨2, ![8192, 1]⟩
abbrev S1x1024 : Shape := ⟨2, ![1, 1024]⟩
abbrev S3072x1024 : Shape := ⟨2, ![3072, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x3072, .f32⟩
  | .hbm, ⟨3, _⟩ => ⟨S_, .f32⟩
  | .hbm, ⟨4, _⟩ => ⟨S1024x3072, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x3072, .f32⟩
  | .hbm, ⟨22, _⟩ => ⟨S3072x1024, .f32⟩
  | .hbm, ⟨23, _⟩ => ⟨S1024x3072, .f32⟩
  | .hbm, ⟨24, _⟩ => ⟨S3072x1024, .f32⟩
  | .hbm, ⟨25, _⟩ => ⟨S3072x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x6688 : Shape := ⟨2, ![1024, 6688]⟩
abbrev S8192x1536 : Shape := ⟨2, ![8192, 1536]⟩
abbrev S8192x3072 : Shape := ⟨2, ![8192, 3072]⟩
abbrev S8192x128 : Shape := ⟨2, ![8192, 128]⟩
abbrev S1x1024 : Shape := ⟨2, ![1, 1024]⟩
abbrev S6688x1024 : Shape := ⟨2, ![6688, 1024]⟩
abbrev S836x1024 : Shape := ⟨2, ![836, 1024]⟩
abbrev S_ : Shape := ⟨0, ![]⟩
abbrev S860x1024 : Shape := ⟨2, ![860, 1024]⟩
abbrev S848x1024 : Shape := ⟨2, ![848, 1024]⟩
abbrev S6784x1024 : Shape := ⟨2, ![6784, 1024]⟩
abbrev S8x1024 : Shape := ⟨2, ![8, 1024]⟩
abbrev S256x1024 : Shape := ⟨2, ![256, 1024]⟩
abbrev S256x1536 : Shape := ⟨2, ![256, 1536]⟩
abbrev S256x3072 : Shape := ⟨2, ![256, 3072]⟩
abbrev S256x128 : Shape := ⟨2, ![256, 128]⟩
abbrev S832x1024 : Shape := ⟨2, ![832, 1024]⟩
abbrev S16x1024 : Shape := ⟨2, ![16, 1024]⟩
abbrev S176x1024 : Shape := ⟨2, ![176, 1024]⟩
abbrev S1024x1024 : Shape := ⟨2, ![1024, 1024]⟩
abbrev S640x1024 : Shape := ⟨2, ![640, 1024]⟩
abbrev S816x1024 : Shape := ⟨2, ![816, 1024]⟩
abbrev S48x1024 : Shape := ⟨2, ![48, 1024]⟩
abbrev S1536x1024 : Shape := ⟨2, ![1536, 1024]⟩
abbrev S768x1024 : Shape := ⟨2, ![768, 1024]⟩
abbrev S576x1024 : Shape := ⟨2, ![576, 1024]⟩
abbrev S3072x1024 : Shape := ⟨2, ![3072, 1024]⟩
abbrev S96x1024 : Shape := ⟨2, ![96, 1024]⟩
abbrev S128x1024 : Shape := ⟨2, ![128, 1024]⟩
abbrev S256 : Shape := ⟨1, ![256]⟩
abbrev S256x1 : Shape := ⟨2, ![256, 1]⟩

abbrev nBuf : Space → Nat
  | .hbm => 55
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x6688, .f32⟩
  | .hbm, ⟨4, _⟩ => ⟨S8192x1024, .f32⟩
  | .hbm, ⟨5, _⟩ => ⟨S8192x1536, .f32⟩
  | .hbm, ⟨6, _⟩ => ⟨S8192x1024, .f32⟩
  | .hbm, ⟨7, _⟩ => ⟨S8192x3072, .f32⟩
  | .hbm, ⟨8, _⟩ => ⟨S8192x128, .f32⟩
  | .hbm, ⟨9, _⟩ => ⟨S1x1024, .f32⟩
  | .hbm, ⟨10, _⟩ => ⟨S6688x1024, .f32⟩
  | .hbm, ⟨11, _⟩ => ⟨S6688x1024, .bf16⟩
  | .hbm, ⟨12, _⟩ => ⟨S836x1024, .bf16⟩
  | .hbm, ⟨13, _⟩ => ⟨S_, .i32⟩
  | .hbm, ⟨14, _⟩ => ⟨S_, .bf16⟩
  | .hbm, ⟨15, _⟩ => ⟨S860x1024, .bf16⟩
  | .hbm, ⟨16, _⟩ => ⟨S848x1024, .bf16⟩
  | .hbm, ⟨17, _⟩ => ⟨S836x1024, .bf16⟩
  | .hbm, ⟨18, _⟩ => ⟨S_, .i32⟩
  | .hbm, ⟨19, _⟩ => ⟨S_, .bf16⟩
  | .hbm, ⟨20, _⟩ => ⟨S860x1024, .bf16⟩
  | .hbm, ⟨21, _⟩ => ⟨S848x1024, .bf16⟩
  | .hbm, ⟨22, _⟩ => ⟨S836x1024, .bf16⟩
  | .hbm, ⟨23, _⟩ => ⟨S_, .i32⟩
  | .hbm, ⟨24, _⟩ => ⟨S_, .bf16⟩
  | .hbm, ⟨25, _⟩ => ⟨S860x1024, .bf16⟩
  | .hbm, ⟨26, _⟩ => ⟨S848x1024, .bf16⟩
  | .hbm, ⟨27, _⟩ => ⟨S836x1024, .bf16⟩
  | .hbm, ⟨28, _⟩ => ⟨S_, .i32⟩
  | .hbm, ⟨29, _⟩ => ⟨S_, .bf16⟩
  | .hbm, ⟨30, _⟩ => ⟨S860x1024, .bf16⟩
  | .hbm, ⟨31, _⟩ => ⟨S848x1024, .bf16⟩
  | .hbm, ⟨32, _⟩ => ⟨S836x1024, .bf16⟩
  | .hbm, ⟨33, _⟩ => ⟨S_, .i32⟩
  | .hbm, ⟨34, _⟩ => ⟨S_, .bf16⟩
  | .hbm, ⟨35, _⟩ => ⟨S860x1024, .bf16⟩
  | .hbm, ⟨36, _⟩ => ⟨S848x1024, .bf16⟩
  | .hbm, ⟨37, _⟩ => ⟨S836x1024, .bf16⟩
  | .hbm, ⟨38, _⟩ => ⟨S_, .i32⟩
  | .hbm, ⟨39, _⟩ => ⟨S_, .bf16⟩
  | .hbm, ⟨40, _⟩ => ⟨S860x1024, .bf16⟩
  | .hbm, ⟨41, _⟩ => ⟨S848x1024, .bf16⟩
  | .hbm, ⟨42, _⟩ => ⟨S836x1024, .bf16⟩
  | .hbm, ⟨43, _⟩ => ⟨S_, .i32⟩
  | .hbm, ⟨44, _⟩ => ⟨S_, .bf16⟩
  | .hbm, ⟨45, _⟩ => ⟨S860x1024, .bf16⟩
  | .hbm, ⟨46, _⟩ => ⟨S848x1024, .bf16⟩
  | .hbm, ⟨47, _⟩ => ⟨S836x1024, .bf16⟩
  | .hbm, ⟨48, _⟩ => ⟨S_, .i32⟩
  | .hbm, ⟨49, _⟩ => ⟨S_, .bf16⟩
  | .hbm, ⟨50, _⟩ => ⟨S860x1024, .bf16⟩
  | .hbm, ⟨51, _⟩ => ⟨S848x1024, .bf16⟩
  | .hbm, ⟨52, _⟩ => ⟨S6784x1024, .bf16⟩
  | .hbm, ⟨53, _⟩ => ⟨S8192x1024, .f32⟩
  | .hbm, ⟨54, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S6784x1024, .bf16⟩
  | .local _ .vmem, ⟨6, _⟩ => ⟨S256x1024, .f32⟩
  | .local _ .vmem, ⟨7, _⟩ => ⟨S256x1024, .f32⟩
  | .local _ .vmem, ⟨8, _⟩ => ⟨S256x1536, .f32⟩
  | .local _ .vmem, ⟨9, _⟩ => ⟨S256x1536, .f32⟩
  | .local _ .vmem, ⟨10, _⟩ => ⟨S256x1024, .f32⟩
  | .local _ .vmem, ⟨11, _⟩ => ⟨S256x1024, .f32⟩
  | .local _ .vmem, ⟨12, _⟩ => ⟨S256x3072, .f32⟩
  | .local _ .vmem, ⟨13, _⟩ => ⟨S256x3072, .f32⟩
  | .local _ .vmem, ⟨14, _⟩ => ⟨S256x128, .f32⟩
  | .local _ .vmem, ⟨15, _⟩ => ⟨S256x128, .f32⟩
  | .local _ .vmem, ⟨16, _⟩ => ⟨S256x1024, .f32⟩
  | .local _ .vmem, ⟨17, _⟩ => ⟨S256x1024, .f32⟩
  | .local _ .vmem, ⟨18, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_call2_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_call3_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_call4_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_call5_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_call6_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_call7_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28_0 : Ref sig .tc := ⟨.hbm, 53, rfl⟩
abbrev main_v28_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6784x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S8192x1024 : Shape := ⟨2, ![8192, 1024]⟩
abbrev S1024 : Shape := ⟨1, ![1024]⟩
abbrev S1024x6688 : Shape := ⟨2, ![1024, 6688]⟩
abbrev S8192x1536 : Shape := ⟨2, ![8192, 1536]⟩
abbrev S8192x3072 : Shape := ⟨2, ![8192, 3072]⟩
abbrev S8192x128 : Shape := ⟨2, ![8192, 128]⟩
abbrev S8192x16 : Shape := ⟨2, ![8192, 16]⟩
abbrev S8192x6688 : Shape := ⟨2, ![8192, 6688]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x6688, .f32⟩
  | .hbm, ⟨4, _⟩ => ⟨S8192x1024, .f32⟩
  | .hbm, ⟨5, _⟩ => ⟨S8192x1536, .f32⟩
  | .hbm, ⟨6, _⟩ => ⟨S8192x1024, .f32⟩
  | .hbm, ⟨7, _⟩ => ⟨S8192x3072, .f32⟩
  | .hbm, ⟨8, _⟩ => ⟨S8192x128, .f32⟩
  | .hbm, ⟨9, _⟩ => ⟨S8192x16, .f32⟩
  | .hbm, ⟨10, _⟩ => ⟨S8192x16, .f32⟩
  | .hbm, ⟨11, _⟩ => ⟨S8192x6688, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x6688, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S_, .f32⟩
  | .hbm, ⟨62, _⟩ => ⟨S7x1024, .f32⟩
  | .hbm, ⟨63, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x6688 : Shape := ⟨2, ![1024, 6688]⟩
abbrev S1x1024 : Shape := ⟨2, ![1, 1024]⟩
abbrev S6688x1024 : Shape := ⟨2, ![6688, 1024]⟩
abbrev S836x1024 : Shape := ⟨2, ![836, 1024]⟩
abbrev S_ : Shape := ⟨0, ![]⟩
abbrev S860x1024 : Shape := ⟨2, ![860, 1024]⟩
abbrev S848x1024 : Shape := ⟨2, ![848, 1024]⟩
abbrev S6784x1024 : Shape := ⟨2, ![6784, 1024]⟩
abbrev S8192x1536 : Shape := ⟨2, ![8192, 1536]⟩
abbrev S8192x3072 : Shape := ⟨2, ![8192, 3072]⟩
abbrev S8192x128 : Shape := ⟨2, ![8192, 128]⟩
abbrev S512x1024 : Shape := ⟨2, ![512, 1024]⟩
abbrev S512x1536 : Shape := ⟨2, ![512, 1536]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S832x1024 : Shape := ⟨2, ![832, 1024]⟩
abbrev S16x1024 : Shape := ⟨2, ![16, 1024]⟩
abbrev S176x1024 : Shape := ⟨2, ![176, 1024]⟩
abbrev S1024x1024 : Shape := ⟨2, ![1024, 1024]⟩
abbrev S640x1024 : Shape := ⟨2, ![640, 1024]⟩
abbrev S816x1024 : Shape := ⟨2, ![816, 1024]⟩
abbrev S48x1024 : Shape := ⟨2, ![48, 1024]⟩
abbrev S1536x1024 : Shape := ⟨2, ![1536, 1024]⟩
abbrev S768x1024 : Shape := ⟨2, ![768, 1024]⟩
abbrev S256x1024 : Shape := ⟨2, ![256, 1024]⟩
abbrev S576x1024 : Shape := ⟨2, ![576, 1024]⟩
abbrev S3072x1024 : Shape := ⟨2, ![3072, 1024]⟩
abbrev S96x1024 : Shape := ⟨2, ![96, 1024]⟩
abbrev S128x1024 : Shape := ⟨2, ![128, 1024]⟩

abbrev nBuf : Space → Nat
  | .hbm => 53
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6688, .f32⟩
  | .hbm, ⟨3, _⟩ => ⟨S1x1024, .f32⟩
  | .hbm, ⟨4, _⟩ => ⟨S6688x1024, .f32⟩
  | .hbm, ⟨5, _⟩ => ⟨S6688x1024, .bf16⟩
  | .hbm, ⟨6, _⟩ => ⟨S836x1024, .bf16⟩
  | .hbm, ⟨7, _⟩ => ⟨S_, .i32⟩
  | .hbm, ⟨8, _⟩ => ⟨S_, .bf16⟩
  | .hbm, ⟨9, _⟩ => ⟨S860x1024, .bf16⟩
  | .hbm, ⟨10, _⟩ => ⟨S848x1024, .bf16⟩
  | .hbm, ⟨11, _⟩ => ⟨S836x1024, .bf16⟩
  | .hbm, ⟨12, _⟩ => ⟨S_, .i32⟩
  | .hbm, ⟨13, _⟩ => ⟨S_, .bf16⟩
  | .hbm, ⟨14, _⟩ => ⟨S860x1024, .bf16⟩
  | .hbm, ⟨15, _⟩ => ⟨S848x1024, .bf16⟩
  | .hbm, ⟨16, _⟩ => ⟨S836x1024, .bf16⟩
  | .hbm, ⟨17, _⟩ => ⟨S_, .i32⟩
  | .hbm, ⟨18, _⟩ => ⟨S_, .bf16⟩
  | .hbm, ⟨19, _⟩ => ⟨S860x1024, .bf16⟩
  | .hbm, ⟨20, _⟩ => ⟨S848x1024, .bf16⟩
  | .hbm, ⟨21, _⟩ => ⟨S836x1024, .bf16⟩
  | .hbm, ⟨22, _⟩ => ⟨S_, .i32⟩
  | .hbm, ⟨23, _⟩ => ⟨S_, .bf16⟩
  | .hbm, ⟨24, _⟩ => ⟨S860x1024, .bf16⟩
  | .hbm, ⟨25, _⟩ => ⟨S848x1024, .bf16⟩
  | .hbm, ⟨26, _⟩ => ⟨S836x1024, .bf16⟩
  | .hbm, ⟨27, _⟩ => ⟨S_, .i32⟩
  | .hbm, ⟨28, _⟩ => ⟨S_, .bf16⟩
  | .hbm, ⟨29, _⟩ => ⟨S860x1024, .bf16⟩
  | .hbm, ⟨30, _⟩ => ⟨S848x1024, .bf16⟩
  | .hbm, ⟨31, _⟩ => ⟨S836x1024, .bf16⟩
  | .hbm, ⟨32, _⟩ => ⟨S_, .i32⟩
  | .hbm, ⟨33, _⟩ => ⟨S_, .bf16⟩
  | .hbm, ⟨34, _⟩ => ⟨S860x1024, .bf16⟩
  | .hbm, ⟨35, _⟩ => ⟨S848x1024, .bf16⟩
  | .hbm, ⟨36, _⟩ => ⟨S836x1024, .bf16⟩
  | .hbm, ⟨37, _⟩ => ⟨S_, .i32⟩
  | .hbm, ⟨38, _⟩ => ⟨S_, .bf16⟩
  | .hbm, ⟨39, _⟩ => ⟨S860x1024, .bf16⟩
  | .hbm, ⟨40, _⟩ => ⟨S848x1024, .bf16⟩
  | .hbm, ⟨41, _⟩ => ⟨S836x1024, .bf16⟩
  | .hbm, ⟨42, _⟩ => ⟨S_, .i32⟩
  | .hbm, ⟨43, _⟩ => ⟨S_, .bf16⟩
  | .hbm, ⟨44, _⟩ => ⟨S860x1024, .bf16⟩
  | .hbm, ⟨45, _⟩ => ⟨S848x1024, .bf16⟩
  | .hbm, ⟨46, _⟩ => ⟨S6784x1024, .bf16⟩
  | .hbm, ⟨47, _⟩ => ⟨S8192x1024, .bf16⟩
  | .hbm, ⟨48, _⟩ => ⟨S8192x1024, .f32⟩
  | .hbm, ⟨49, _⟩ => ⟨S8192x1536, .f32⟩
  | .hbm, ⟨50, _⟩ => ⟨S8192x1024, .f32⟩
  | .hbm, ⟨51, _⟩ => ⟨S8192x3072, .f32⟩
  | .hbm, ⟨52, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S6784x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1536, .f32⟩
  | .local _ .vmem, ⟨9, _⟩ => ⟨S512x1536, .f32⟩
  | .local _ .vmem, ⟨10, _⟩ => ⟨S512x1024, .f32⟩
  | .local _ .vmem, ⟨11, _⟩ => ⟨S512x1024, .f32⟩
  | .local _ .vmem, ⟨12, _⟩ => ⟨S512x3072, .f32⟩
  | .local _ .vmem, ⟨13, _⟩ => ⟨S512x3072, .f32⟩
  | .local _ .vmem, ⟨14, _⟩ => ⟨S512x128, .f32⟩
  | .local _ .vmem, ⟨15, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call2_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call3_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_call4_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_call5_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_call6_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_call7_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_v28_2 : Ref sig .tc := ⟨.hbm, 49, rfl⟩
abbrev main_v28_3 : Ref sig .tc := ⟨.hbm, 50, rfl⟩
abbrev main_v28_4 : Ref sig .tc := ⟨.hbm, 51, rfl⟩
abbrev main_v28_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6784x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S8192x1024 : Shape := ⟨2, ![8192, 1024]⟩
abbrev S1024 : Shape := ⟨1, ![1024]⟩
abbrev S1024x6688 : Shape := ⟨2, ![1024, 6688]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6688 : Shape := ⟨2, ![8192, 6688]⟩
abbrev S8192x16 : Shape := ⟨2, ![8192, 16]⟩
abbrev S8192x96 : Shape := ⟨2, ![8192, 96]⟩
abbrev S8192x128 : Shape := ⟨2, ![8192, 128]⟩
abbrev S8192x1536 : Shape := ⟨2, ![8192, 1536]⟩
abbrev S8192x3072 : Shape := ⟨2, ![8192, 3072]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6688, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x6688, .f32⟩
  | .hbm, ⟨20, _⟩ => ⟨S8192x16, .f32⟩
  | .hbm, ⟨21, _⟩ => ⟨S8192x16, .f32⟩
  | .hbm, ⟨22, _⟩ => ⟨S_, .f32⟩
  | .hbm, ⟨23, _⟩ => ⟨S8192x96, .f32⟩
  | .hbm, ⟨24, _⟩ => ⟨S8192x128, .f32⟩
  | .hbm, ⟨25, _⟩ => ⟨S8192x1024, .bf16⟩
  | .hbm, ⟨26, _⟩ => ⟨S8192x1024, .f32⟩
  | .hbm, ⟨27, _⟩ => ⟨S8192x1536, .f32⟩
  | .hbm, ⟨28, _⟩ => ⟨S8192x1024, .f32⟩
  | .hbm, ⟨29, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel9.lean ====
abbrev S8x836x1024 : Shape := ⟨3, ![8, 836, 1024]⟩
abbrev S1024x836 : Shape := ⟨2, ![1024, 836]⟩
abbrev S836x1024 : Shape := ⟨2, ![836, 1024]⟩
abbrev S8x836x256 : Shape := ⟨3, ![8, 836, 256]⟩
abbrev S836x256 : Shape := ⟨2, ![836, 256]⟩
abbrev S1x836x256 : Shape := ⟨3, ![1, 836, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x836x1024, .bf16⟩
  | .hbm, ⟨1, _⟩ => ⟨S1024x836, .f32⟩
  | .hbm, ⟨2, _⟩ => ⟨S1024x836, .f32⟩
  | .hbm, ⟨3, _⟩ => ⟨S1024x836, .f32⟩
  | .hbm, ⟨4, _⟩ => ⟨S836x1024, .f32⟩
  | .hbm, ⟨5, _⟩ => ⟨S836x1024, .f32⟩
  | .hbm, ⟨6, _⟩ => ⟨S836x1024, .f32⟩
  | .hbm, ⟨7, _⟩ => ⟨S836x1024, .f32⟩
  | .hbm, ⟨8, _⟩ => ⟨S836x1024, .f32⟩
  | .hbm, ⟨9, _⟩ => ⟨S836x1024, .f32⟩
  | .hbm, ⟨10, _⟩ => ⟨S836x1024, .f32⟩
  | .local _ .vmem, ⟨0, _⟩ => ⟨S8x836x256, .bf16⟩
  | .local _ .vmem, ⟨1, _⟩ => ⟨S8x836x256, .bf16⟩
  | .local _ .vmem, ⟨2, _⟩ => ⟨S836x256, .f32⟩
  | .local _ .vmem, ⟨3, _⟩ => ⟨S836x256, .f32⟩
  | .local _ .vmem, ⟨4, _⟩ => ⟨S836x256, .f32⟩
  | .local _ .vmem, ⟨5, _⟩ => ⟨S836x256, .f32⟩
  | .local _ .vmem, ⟨6, _⟩ => ⟨S836x256, .f32⟩
  | .local _ .vmem, ⟨7, _⟩ => ⟨S836x256, .f32⟩
  | .local _ .vmem, ⟨8, _⟩ => ⟨S836x256, .f32⟩
  | .local _ .vmem, ⟨9, _⟩ => ⟨S836x256, .f32⟩
  | .local _ .vmem, ⟨10, _⟩ => ⟨S836x256, .f32⟩
  | .local _ .vmem, ⟨11, _⟩ => ⟨S836x256, .f32⟩
  | .local _ .vmem, ⟨12, _⟩ => ⟨S836x256, .f32⟩
  | .local _ .vmem, ⟨13, _⟩ => ⟨S836x256, .f32⟩
  | .local _ .vmem, ⟨14, _⟩ => ⟨S836x256, .f32⟩
  | .local _ .vmem, ⟨15, _⟩ => ⟨S836x256, .f32⟩
  | _, _ => ⟨S8x836x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x836x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S836x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S836x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S836x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S836x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S836x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S836x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S836x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel9Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference9Ideal.lean ====
abbrev S8x836x1024 : Shape := ⟨3, ![8, 836, 1024]⟩
abbrev S1024x836 : Shape := ⟨2, ![1024, 836]⟩
abbrev S_ : Shape := ⟨0, ![]⟩
abbrev S836x1024 : Shape := ⟨2, ![836, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x836x1024, .bf16⟩
  | .hbm, ⟨1, _⟩ => ⟨S1024x836, .f32⟩
  | .hbm, ⟨2, _⟩ => ⟨S1024x836, .f32⟩
  | .hbm, ⟨3, _⟩ => ⟨S1024x836, .f32⟩
  | .hbm, ⟨4, _⟩ => ⟨S8x836x1024, .f32⟩
  | .hbm, ⟨5, _⟩ => ⟨S_, .f32⟩
  | .hbm, ⟨6, _⟩ => ⟨S836x1024, .f32⟩
  | .hbm, ⟨7, _⟩ => ⟨S1024x836, .f32⟩
  | .hbm, ⟨8, _⟩ => ⟨S_, .f32⟩
  | .hbm, ⟨9, _⟩ => ⟨S1024x836, .f32⟩
  | .hbm, ⟨10, _⟩ => ⟨S1024x836, .f32⟩
  | .hbm, ⟨11, _⟩ => ⟨S_, .f32⟩
  | .hbm, ⟨12, _⟩ => ⟨S1024x836, .f32⟩
  | .hbm, ⟨13, _⟩ => ⟨S1024x836, .f32⟩
  | .hbm, ⟨14, _⟩ => ⟨S1024x836, .f32⟩
  | .hbm, ⟨15, _⟩ => ⟨S_, .f32⟩
  | .hbm, ⟨16, _⟩ => ⟨S1024x836, .f32⟩
  | .hbm, ⟨17, _⟩ => ⟨S1024x836, .f32⟩
  | .hbm, ⟨18, _⟩ => ⟨S1024x836, .f32⟩
  | .hbm, ⟨19, _⟩ => ⟨S_, .f32⟩
  | .hbm, ⟨20, _⟩ => ⟨S1024x836, .f32⟩
  | .hbm, ⟨21, _⟩ => ⟨S1024x836, .f32⟩
  | .hbm, ⟨22, _⟩ => ⟨S1024x836, .f32⟩
  | .hbm, ⟨23, _⟩ => ⟨S_, .f32⟩
  | .hbm, ⟨24, _⟩ => ⟨S1024x836, .f32⟩
  | .hbm, ⟨25, _⟩ => ⟨S1024x836, .f32⟩
  | .hbm, ⟨26, _⟩ => ⟨S_, .f32⟩
  | .hbm, ⟨27, _⟩ => ⟨S1024x836, .f32⟩
  | .hbm, ⟨28, _⟩ => ⟨S1024x836, .f32⟩
  | .hbm, ⟨29, _⟩ => ⟨S1024x836, .f32⟩
  | .hbm, ⟨30, _⟩ => ⟨S_, .f32⟩
  | .hbm, ⟨31, _⟩ => ⟨S1024x836, .f32⟩
  | .hbm, ⟨32, _⟩ => ⟨S1024x836, .f32⟩
  | .hbm, ⟨33, _⟩ => ⟨S1024x836, .f32⟩
  | .hbm, ⟨34, _⟩ => ⟨S_, .f32⟩
  | .hbm, ⟨35, _⟩ => ⟨S1024x836, .f32⟩
  | .hbm, ⟨36, _⟩ => ⟨S1024x836, .f32⟩
  | .hbm, ⟨37, _⟩ => ⟨S1024x836, .f32⟩
  | .hbm, ⟨38, _⟩ => ⟨S_, .f32⟩
  | .hbm, ⟨39, _⟩ => ⟨S1024x836, .f32⟩
  | .hbm, ⟨40, _⟩ => ⟨S1024x836, .f32⟩
  | .hbm, ⟨41, _⟩ => ⟨S836x1024, .f32⟩
  | .hbm, ⟨42, _⟩ => ⟨S836x1024, .f32⟩
  | .hbm, ⟨43, _⟩ => ⟨S836x1024, .f32⟩
  | .hbm, ⟨44, _⟩ => ⟨S836x1024, .f32⟩
  | _, _ => ⟨S8x836x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel10.lean ====
abbrev S8x1x8064 : Shape := ⟨3, ![8, 1, 8064]⟩
abbrev S1x1024 : Shape := ⟨2, ![1, 1024]⟩
abbrev S1x1536 : Shape := ⟨2, ![1, 1536]⟩
abbrev S1x16 : Shape := ⟨2, ![1, 16]⟩
abbrev S1x8 : Shape := ⟨2, ![1, 8]⟩
abbrev S1x128 : Shape := ⟨2, ![1, 128]⟩
abbrev S1x4x192 : Shape := ⟨3, ![1, 4, 192]⟩
abbrev S1x4x384 : Shape := ⟨3, ![1, 4, 384]⟩
abbrev S1x1x8064 : Shape := ⟨3, ![1, 1, 8064]⟩
abbrev S1x8064 : Shape := ⟨2, ![1, 8064]⟩
abbrev S1x192 : Shape := ⟨2, ![1, 192]⟩
abbrev S1x1x192 : Shape := ⟨3, ![1, 1, 192]⟩
abbrev S1x384 : Shape := ⟨2, ![1, 384]⟩
abbrev S1x1x384 : Shape := ⟨3, ![1, 1, 384]⟩

abbrev nBuf : Space → Nat
  | .hbm => 86
  | .vmem => 86
  | .smem => 0
  | _ => 0

abbrev bufTy : (tb : Table) → Fin (tcTables nBuf tb) → BufTy
  | .hbm, ⟨0, _⟩ => ⟨S8x1x8064, .f32⟩
  | .hbm, ⟨1, _⟩ => ⟨S1x1024, .f32⟩
  | .hbm, ⟨2, _⟩ => ⟨S1x1536, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x1024, .f32⟩
  | .hbm, ⟨7, _⟩ => ⟨S1x8, .f32⟩
  | .hbm, ⟨8, _⟩ => ⟨S1x8, .f32⟩
  | .hbm, ⟨9, _⟩ => ⟨S1x128, .f32⟩
  | .hbm, ⟨10, _⟩ => ⟨S1x1024, .f32⟩
  | .hbm, ⟨11, _⟩ => ⟨S1x4x192, .f32⟩
  | .hbm, ⟨12, _⟩ => ⟨S1x4x384, .f32⟩
  | .hbm, ⟨13, _⟩ => ⟨S1x1024, .f32⟩
  | .hbm, ⟨14, _⟩ => ⟨S1x1536, .f32⟩
  | .hbm, ⟨15, _⟩ => ⟨S1x16, .f32⟩
  | .hbm, ⟨16, _⟩ => ⟨S1x16, .f32⟩
  | .hbm, ⟨17, _⟩ => ⟨S1x16, .f32⟩
  | .hbm, ⟨18, _⟩ => ⟨S1x1024, .f32⟩
  | .hbm, ⟨19, _⟩ => ⟨S1x8, .f32⟩
  | .hbm, ⟨20, _⟩ => ⟨S1x8, .f32⟩
  | .hbm, ⟨21, _⟩ => ⟨S1x128, .f32⟩
  | .hbm, ⟨22, _⟩ => ⟨S1x1024, .f32⟩
  | .hbm, ⟨23, _⟩ => ⟨S1x4x192, .f32⟩
  | .hbm, ⟨24, _⟩ => ⟨S1x4x384, .f32⟩
  | .hbm, ⟨25, _⟩ => ⟨S1x1024, .f32⟩
  | .hbm, ⟨26, _⟩ => ⟨S1x1536, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S1x1024, .f32⟩
  | .hbm, ⟨31, _⟩ => ⟨S1x8, .f32⟩
  | .hbm, ⟨32, _⟩ => ⟨S1x8, .f32⟩
  | .hbm, ⟨33, _⟩ => ⟨S1x128, .f32⟩
  | .hbm, ⟨34, _⟩ => ⟨S1x1024, .f32⟩
  | .hbm, ⟨35, _⟩ => ⟨S1x4x192, .f32⟩
  | .hbm, ⟨36, _⟩ => ⟨S1x4x384, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1536, .f32⟩
  | .hbm, ⟨42, _⟩ => ⟨S1x1536, .f32⟩
  | .hbm, ⟨43, _⟩ => ⟨S1x1536, .f32⟩
  | .hbm, ⟨44, _⟩ => ⟨S1x1536, .f32⟩
  | .hbm, ⟨45, _⟩ => ⟨S1x16, .f32⟩
  | .hbm, ⟨46, _⟩ => ⟨S1x16, .f32⟩
  | .hbm, ⟨47, _⟩ => ⟨S1x16, .f32⟩
  | .hbm, ⟨48, _⟩ => ⟨S1x16, .f32⟩
  | .hbm, ⟨49, _⟩ => ⟨S1x16, .f32⟩
  | .hbm, ⟨50, _⟩ => ⟨S1x16, .f32⟩
  | .hbm, ⟨51, _⟩ => ⟨S1x16, .f32⟩
  | .hbm, ⟨52, _⟩ => ⟨S1x16, .f32⟩
  | .hbm, ⟨53, _⟩ => ⟨S1x16, .f32⟩
  | .hbm, ⟨54, _⟩ => ⟨S1x16, .f32⟩
  | .hbm, ⟨55, _⟩ => ⟨S1x16, .f32⟩
  | .hbm, ⟨56, _⟩ => ⟨S1x16, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x8, .f32⟩
  | .hbm, ⟨62, _⟩ => ⟨S1x8, .f32⟩
  | .hbm, ⟨63, _⟩ => ⟨S1x8, .f32⟩
  | .hbm, ⟨64, _⟩ => ⟨S1x8, .f32⟩
  | .hbm, ⟨65, _⟩ => ⟨S1x8, .f32⟩
  | .hbm, ⟨66, _⟩ => ⟨S1x8, .f32⟩
  | .hbm, ⟨67, _⟩ => ⟨S1x8, .f32⟩
  | .hbm, ⟨68, _⟩ => ⟨S1x8, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x4x192, .f32⟩
  | .hbm, ⟨78, _⟩ => ⟨S1x4x192, .f32⟩
  | .hbm, ⟨79, _⟩ => ⟨S1x4x192, .f32⟩
  | .hbm, ⟨80, _⟩ => ⟨S1x4x192, .f32⟩
  | .hbm, ⟨81, _⟩ => ⟨S1x4x384, .f32⟩
  | .hbm, ⟨82, _⟩ => ⟨S1x4x384, .f32⟩
  | .hbm, ⟨83, _⟩ => ⟨S1x4x384, .f32⟩
  | .hbm, ⟨84, _⟩ => ⟨S1x4x384, .f32⟩
  | .hbm, ⟨85, _⟩ => ⟨S1x128, .f32⟩
  | .local _ .vmem, ⟨0, _⟩ => ⟨S8x1x8064, .f32⟩
  | .local _ .vmem, ⟨1, _⟩ => ⟨S1x1024, .f32⟩
  | .local _ .vmem, ⟨2, _⟩ => ⟨S1x1536, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x1024, .f32⟩
  | .local _ .vmem, ⟨7, _⟩ => ⟨S1x8, .f32⟩
  | .local _ .vmem, ⟨8, _⟩ => ⟨S1x8, .f32⟩
  | .local _ .vmem, ⟨9, _⟩ => ⟨S1x128, .f32⟩
  | .local _ .vmem, ⟨10, _⟩ => ⟨S1x1024, .f32⟩
  | .local _ .vmem, ⟨11, _⟩ => ⟨S1x4x192, .f32⟩
  | .local _ .vmem, ⟨12, _⟩ => ⟨S1x4x384, .f32⟩
  | .local _ .vmem, ⟨13, _⟩ => ⟨S1x1024, .f32⟩
  | .local _ .vmem, ⟨14, _⟩ => ⟨S1x1536, .f32⟩
  | .local _ .vmem, ⟨15, _⟩ => ⟨S1x16, .f32⟩
  | .local _ .vmem, ⟨16, _⟩ => ⟨S1x16, .f32⟩
  | .local _ .vmem, ⟨17, _⟩ => ⟨S1x16, .f32⟩
  | .local _ .vmem, ⟨18, _⟩ => ⟨S1x1024, .f32⟩
  | .local _ .vmem, ⟨19, _⟩ => ⟨S1x8, .f32⟩
  | .local _ .vmem, ⟨20, _⟩ => ⟨S1x8, .f32⟩
  | .local _ .vmem, ⟨21, _⟩ => ⟨S1x128, .f32⟩
  | .local _ .vmem, ⟨22, _⟩ => ⟨S1x1024, .f32⟩
  | .local _ .vmem, ⟨23, _⟩ => ⟨S1x4x192, .f32⟩
  | .local _ .vmem, ⟨24, _⟩ => ⟨S1x4x384, .f32⟩
  | .local _ .vmem, ⟨25, _⟩ => ⟨S1x1024, .f32⟩
  | .local _ .vmem, ⟨26, _⟩ => ⟨S1x1536, .f32⟩
  | .local _ .vmem, ⟨27, _⟩ => ⟨S1x16, .f32⟩
  | .local _ .vmem, ⟨28, _⟩ => ⟨S1x16, .f32⟩
  | .local _ .vmem, ⟨29, _⟩ => ⟨S1x16, .f32⟩
  | .local _ .vmem, ⟨30, _⟩ => ⟨S1x1024, .f32⟩
  | .local _ .vmem, ⟨31, _⟩ => ⟨S1x8, .f32⟩
  | .local _ .vmem, ⟨32, _⟩ => ⟨S1x8, .f32⟩
  | .local _ .vmem, ⟨33, _⟩ => ⟨S1x128, .f32⟩
  | .local _ .vmem, ⟨34, _⟩ => ⟨S1x1024, .f32⟩
  | .local _ .vmem, ⟨35, _⟩ => ⟨S1x4x192, .f32⟩
  | .local _ .vmem, ⟨36, _⟩ => ⟨S1x4x384, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1536, .f32⟩
  | .local _ .vmem, ⟨42, _⟩ => ⟨S1x1536, .f32⟩
  | .local _ .vmem, ⟨43, _⟩ => ⟨S1x1536, .f32⟩
  | .local _ .vmem, ⟨44, _⟩ => ⟨S1x1536, .f32⟩
  | .local _ .vmem, ⟨45, _⟩ => ⟨S1x16, .f32⟩
  | .local _ .vmem, ⟨46, _⟩ => ⟨S1x16, .f32⟩
  | .local _ .vmem, ⟨47, _⟩ => ⟨S1x16, .f32⟩
  | .local _ .vmem, ⟨48, _⟩ => ⟨S1x16, .f32⟩
  | .local _ .vmem, ⟨49, _⟩ => ⟨S1x16, .f32⟩
  | .local _ .vmem, ⟨50, _⟩ => ⟨S1x16, .f32⟩
  | .local _ .vmem, ⟨51, _⟩ => ⟨S1x16, .f32⟩
  | .local _ .vmem, ⟨52, _⟩ => ⟨S1x16, .f32⟩
  | .local _ .vmem, ⟨53, _⟩ => ⟨S1x16, .f32⟩
  | .local _ .vmem, ⟨54, _⟩ => ⟨S1x16, .f32⟩
  | .local _ .vmem, ⟨55, _⟩ => ⟨S1x16, .f32⟩
  | .local _ .vmem, ⟨56, _⟩ => ⟨S1x16, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S1x1024, .f32⟩
  | .local _ .vmem, ⟨61, _⟩ => ⟨S1x8, .f32⟩
  | .local _ .vmem, ⟨62, _⟩ => ⟨S1x8, .f32⟩
  | .local _ .vmem, ⟨63, _⟩ => ⟨S1x8, .f32⟩
  | .local _ .vmem, ⟨64, _⟩ => ⟨S1x8, .f32⟩
  | .local _ .vmem, ⟨65, _⟩ => ⟨S1x8, .f32⟩
  | .local _ .vmem, ⟨66, _⟩ => ⟨S1x8, .f32⟩
  | .local _ .vmem, ⟨67, _⟩ => ⟨S1x8, .f32⟩
  | .local _ .vmem, ⟨68, _⟩ => ⟨S1x8, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S1x1024, .f32⟩
  | .local _ .vmem, ⟨74, _⟩ => ⟨S1x1024, .f32⟩
  | .local _ .vmem, ⟨75, _⟩ => ⟨S1x1024, .f32⟩
  | .local _ .vmem, ⟨76, _⟩ => ⟨S1x1024, .f32⟩
  | .local _ .vmem, ⟨77, _⟩ => ⟨S1x4x192, .f32⟩
  | .local _ .vmem, ⟨78, _⟩ => ⟨S1x4x192, .f32⟩
  | .local _ .vmem, ⟨79, _⟩ => ⟨S1x4x192, .f32⟩
  | .local _ .vmem, ⟨80, _⟩ => ⟨S1x4x192, .f32⟩
  | .local _ .vmem, ⟨81, _⟩ => ⟨S1x4x384, .f32⟩
  | .local _ .vmem, ⟨82, _⟩ => ⟨S1x4x384, .f32⟩
  | .local _ .vmem, ⟨83, _⟩ => ⟨S1x4x384, .f32⟩
  | .local _ .vmem, ⟨84, _⟩ => ⟨S1x4x384, .f32⟩
  | .local _ .vmem, ⟨85, _⟩ => ⟨S1x128, .f32⟩
  | _, _ => ⟨S8x1x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0_0 : Ref sig .tc := ⟨.hbm, 37, rfl⟩
abbrev main_v0_1 : Ref sig .tc := ⟨.hbm, 38, rfl⟩
abbrev main_v0_2 : Ref sig .tc := ⟨.hbm, 39, rfl⟩
abbrev main_v0_3 : Ref sig .tc := ⟨.hbm, 40, rfl⟩
abbrev main_v0_4 : Ref sig .tc := ⟨.hbm, 41, rfl⟩
abbrev main_v0_5 : Ref sig .tc := ⟨.hbm, 42, rfl⟩
abbrev main_v0_6 : Ref sig .tc := ⟨.hbm, 43, rfl⟩
abbrev main_v0_7 : Ref sig .tc := ⟨.hbm, 44, rfl⟩
abbrev main_v0_8 : Ref sig .tc := ⟨.hbm, 45, rfl⟩
abbrev main_v0_9 : Ref sig .tc := ⟨.hbm, 46, rfl⟩
abbrev main_v0_10 : Ref sig .tc := ⟨.hbm, 47, rfl⟩
abbrev main_v0_11 : Ref sig .tc := ⟨.hbm, 48, rfl⟩
abbrev main_v0_12 : Ref sig .tc := ⟨.hbm, 49, rfl⟩
abbrev main_v0_13 : Ref sig .tc := ⟨.hbm, 50, rfl⟩
abbrev main_v0_14 : Ref sig .tc := ⟨.hbm, 51, rfl⟩
abbrev main_v0_15 : Ref sig .tc := ⟨.hbm, 52, rfl⟩
abbrev main_v0_16 : Ref sig .tc := ⟨.hbm, 53, rfl⟩
abbrev main_v0_17 : Ref sig .tc := ⟨.hbm, 54, rfl⟩
abbrev main_v0_18 : Ref sig .tc := ⟨.hbm, 55, rfl⟩
abbrev main_v0_19 : Ref sig .tc := ⟨.hbm, 56, rfl⟩
abbrev main_v0_20 : Ref sig .tc := ⟨.hbm, 57, rfl⟩
abbrev main_v0_21 : Ref sig .tc := ⟨.hbm, 58, rfl⟩
abbrev main_v0_22 : Ref sig .tc := ⟨.hbm, 59, rfl⟩
abbrev main_v0_23 : Ref sig .tc := ⟨.hbm, 60, rfl⟩
abbrev main_v0_24 : Ref sig .tc := ⟨.hbm, 61, rfl⟩
abbrev main_v0_25 : Ref sig .tc := ⟨.hbm, 62, rfl⟩
abbrev main_v0_26 : Ref sig .tc := ⟨.hbm, 63, rfl⟩
abbrev main_v0_27 : Ref sig .tc := ⟨.hbm, 64, rfl⟩
abbrev main_v0_28 : Ref sig .tc := ⟨.hbm, 65, rfl⟩
abbrev main_v0_29 : Ref sig .tc := ⟨.hbm, 66, rfl⟩
abbrev main_v0_30 : Ref sig .tc := ⟨.hbm, 67, rfl⟩
abbrev main_v0_31 : Ref sig .tc := ⟨.hbm, 68, rfl⟩
abbrev main_v0_32 : Ref sig .tc := ⟨.hbm, 69, rfl⟩
abbrev main_v0_33 : Ref sig .tc := ⟨.hbm, 70, rfl⟩
abbrev main_v0_34 : Ref sig .tc := ⟨.hbm, 71, rfl⟩
abbrev main_v0_35 : Ref sig .tc := ⟨.hbm, 72, rfl⟩
abbrev main_v0_36 : Ref sig .tc := ⟨.hbm, 73, rfl⟩
abbrev main_v0_37 : Ref sig .tc := ⟨.hbm, 74, rfl⟩
abbrev main_v0_38 : Ref sig .tc := ⟨.hbm, 75, rfl⟩
abbrev main_v0_39 : Ref sig .tc := ⟨.hbm, 76, rfl⟩
abbrev main_v0_40 : Ref sig .tc := ⟨.hbm, 77, rfl⟩
abbrev main_v0_41 : Ref sig .tc := ⟨.hbm, 78, rfl⟩
abbrev main_v0_42 : Ref sig .tc := ⟨.hbm, 79, rfl⟩
abbrev main_v0_43 : Ref sig .tc := ⟨.hbm, 80, rfl⟩
abbrev main_v0_44 : Ref sig .tc := ⟨.hbm, 81, rfl⟩
abbrev main_v0_45 : Ref sig .tc := ⟨.hbm, 82, rfl⟩
abbrev main_v0_46 : Ref sig .tc := ⟨.hbm, 83, rfl⟩
abbrev main_v0_47 : Ref sig .tc := ⟨.hbm, 84, rfl⟩
abbrev main_v0_48 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_stg84_0 : Ref sig .tc := ⟨.vmem, 84, rfl⟩
abbrev cc0_stg85_0 : Ref sig .tc := ⟨.vmem, 85, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83
abbrev cc0_sem84_0 : DmaSem sig := 84
abbrev cc0_sem85_0 : DmaSem sig := 85

abbrev nD : Nat := 1
abbrev τ : Topo := Topo.v7x

variable {F : FTy → Type} [FloatOps F]

abbrev grid0 : Pipeline.Grid := .none

abbrev stage0_0 : Fin 1 → Memref sig .tc .vmem S8x1x8064 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x4x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x4x192 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x4x384 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1536 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x16 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x16 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x16 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x8 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x8 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x4x192 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x4x384 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1536 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1536 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1536 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1536 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x16 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x16 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x16 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x16 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x16 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x16 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x16 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x16 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x16 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x16 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x16 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x16 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x8 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x8 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x8 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x8 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x8 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x8 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x8 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x8 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x128 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x128 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x128 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1x128 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x1024 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S1x1024 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S1x1024 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x1024 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S1x4x192 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S1x4x192 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S1x4x192 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S1x4x192 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S1x4x384 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S1x4x384 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S1x4x384 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))

abbrev stage0_84 : Fin 1 → Memref sig .tc .vmem S1x4x384 .f32 := fun | 0 => Memref.whole cc0_stg84_0 | ⟨_ + 1, h⟩ => absurd h (Nat.not_lt.2 (Nat.le_add_left _ _))
abbrev sem0_84 : Fin 1 → DmaSem sig := fun | 0 => cc0_sem84_0 | ⟨_ + 1, h⟩ => absurd h (Nat.not_lt.2 (Nat.le_add_left _ _))

abbrev stage0_85 : Fin 1 → Memref sig .tc .vmem S1x128 .f32 := fun | 0 => Memref.whole cc0_stg85_0 | ⟨_ + 1, h⟩ => absurd h (Nat.not_lt.2 (Nat.le_add_left _ _))
abbrev sem0_85 : Fin 1 → DmaSem sig := fun | 0 => cc0_sem85_0 | ⟨_ + 1, h⟩ => absurd h (Nat.not_lt.2 (Nat.le_add_left _ _))
-- ==== Kernel10Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference10Ideal.lean ====
abbrev S8x1x8064 : Shape := ⟨3, ![8, 1, 8064]⟩
abbrev S1x1024 : Shape := ⟨2, ![1, 1024]⟩
abbrev S1x1536 : Shape := ⟨2, ![1, 1536]⟩
abbrev S1x16 : Shape := ⟨2, ![1, 16]⟩
abbrev S1x8 : Shape := ⟨2, ![1, 8]⟩
abbrev S1x128 : Shape := ⟨2, ![1, 128]⟩
abbrev S1x4x192 : Shape := ⟨3, ![1, 4, 192]⟩
abbrev S1x4x384 : Shape := ⟨3, ![1, 4, 384]⟩
abbrev S_ : Shape := ⟨0, ![]⟩
abbrev S1x8064 : Shape := ⟨2, ![1, 8064]⟩
abbrev S1x192 : Shape := ⟨2, ![1, 192]⟩
abbrev S192 : Shape := ⟨1, ![192]⟩
abbrev S4x192 : Shape := ⟨2, ![4, 192]⟩
abbrev S1x384 : Shape := ⟨2, ![1, 384]⟩
abbrev S384 : Shape := ⟨1, ![384]⟩
abbrev S4x384 : Shape := ⟨2, ![4, 384]⟩

abbrev nBuf : Space → Nat
  | .hbm => 474
  | .vmem => 0
  | .smem => 0
  | _ => 0

abbrev hbmTy0_0 (i : Nat) : BufTy := match i % 128 with
  | 0 => ⟨S8x1x8064, .f32⟩
  | 1 => ⟨S1x1024, .f32⟩
  | 2 => ⟨S1x1536, .f32⟩
  | 3 => ⟨S1x16, .f32⟩
  | 4 => ⟨S1x16, .f32⟩
  | 5 => ⟨S1x16, .f32⟩
  | 6 => ⟨S1x1024, .f32⟩
  | 7 => ⟨S1x8, .f32⟩
  | 8 => ⟨S1x8, .f32⟩
  | 9 => ⟨S1x128, .f32⟩
  | 10 => ⟨S1x1024, .f32⟩
  | 11 => ⟨S1x4x192, .f32⟩
  | 12 => ⟨S1x4x384, .f32⟩
  | 13 => ⟨S1x1024, .f32⟩
  | 14 => ⟨S1x1536, .f32⟩
  | 15 => ⟨S1x16, .f32⟩
  | 16 => ⟨S1x16, .f32⟩
  | 17 => ⟨S1x16, .f32⟩
  | 18 => ⟨S1x1024, .f32⟩
  | 19 => ⟨S1x8, .f32⟩
  | 20 => ⟨S1x8, .f32⟩
  | 21 => ⟨S1x128, .f32⟩
  | 22 => ⟨S1x1024, .f32⟩
  | 23 => ⟨S1x4x192, .f32⟩
  | 24 => ⟨S1x4x384, .f32⟩
  | 25 => ⟨S1x1024, .f32⟩
  | 26 => ⟨S1x1536, .f32⟩
  | 27 => ⟨S1x16, .f32⟩
  | 28 => ⟨S1x16, .f32⟩
  | 29 => ⟨S1x16, .f32⟩
  | 30 => ⟨S1x1024, .f32⟩
  | 31 => ⟨S1x8, .f32⟩
  | 32 => ⟨S1x8, .f32⟩
  | 33 => ⟨S1x128, .f32⟩
  | 34 => ⟨S1x1024, .f32⟩
  | 35 => ⟨S1x4x192, .f32⟩
  | 36 => ⟨S1x4x384, .f32⟩
  | 37 => ⟨S_, .f32⟩
  | 38 => ⟨S1x8064, .f32⟩
  | 39 => ⟨S1x1024, .f32⟩
  | 40 => ⟨S1x1536, .f32⟩
  | 41 => ⟨S1x16, .f32⟩
  | 42 => ⟨S1x16, .f32⟩
  | 43 => ⟨S1x16, .f32⟩
  | 44 => ⟨S1x1024, .f32⟩
  | 45 => ⟨S1x8, .f32⟩
  | 46 => ⟨S1x8, .f32⟩
  | 47 => ⟨S1x128, .f32⟩
  | 48 => ⟨S1x1024, .f32⟩
  | 49 => ⟨S1x192, .f32⟩
  | 50 => ⟨S192, .f32⟩
  | 51 => ⟨S1x192, .f32⟩
  | 52 => ⟨S192, .f32⟩
  | 53 => ⟨S1x192, .f32⟩
  | 54 => ⟨S192, .f32⟩
  | 55 => ⟨S1x192, .f32⟩
  | 56 => ⟨S192, .f32⟩
  | 57 => ⟨S1x192, .f32⟩
  | 58 => ⟨S1x192, .f32⟩
  | 59 => ⟨S1x192, .f32⟩
  | 60 => ⟨S1x192, .f32⟩
  | 61 => ⟨S4x192, .f32⟩
  | 62 => ⟨S1x4x192, .f32⟩
  | 63 => ⟨S1x384, .f32⟩
  | 64 => ⟨S384, .f32⟩
  | 65 => ⟨S1x384, .f32⟩
  | 66 => ⟨S384, .f32⟩
  | 67 => ⟨S1x384, .f32⟩
  | 68 => ⟨S384, .f32⟩
  | 69 => ⟨S1x384, .f32⟩
  | 70 => ⟨S384, .f32⟩
  | 71 => ⟨S1x384, .f32⟩
  | 72 => ⟨S1x384, .f32⟩
  | 73 => ⟨S1x384, .f32⟩
  | 74 => ⟨S1x384, .f32⟩
  | 75 => ⟨S4x384, .f32⟩
  | 76 => ⟨S1x4x384, .f32⟩
  | 77 => ⟨S1x128, .f32⟩
  | 78 => ⟨S_, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S_, .f32⟩
  | 112 => ⟨S1x1536, .f32⟩
  | 113 => ⟨S1x1536, .f32⟩
  | 114 => ⟨S_, .f32⟩
  | 115 => ⟨S1x1536, .f32⟩
  | 116 => ⟨S1x1536, .f32⟩
  | 117 => ⟨S1x1536, .f32⟩
  | 118 => ⟨S_, .f32⟩
  | 119 => ⟨S1x1536, .f32⟩
  | 120 => ⟨S1x1536, .f32⟩
  | 121 => ⟨S1x1536, .f32⟩
  | 122 => ⟨S_, .f32⟩
  | 123 => ⟨S1x1536, .f32⟩
  | 124 => ⟨S1x1536, .f32⟩
  | 125 => ⟨S1x1536, .f32⟩
  | 126 => ⟨S_, .f32⟩
  | 127 => ⟨S1x1536, .f32⟩
  | _ => ⟨S8x1x8064, .f32⟩

abbrev hbmTy0_1 (i : Nat) : BufTy := match i % 128 with
  | 0 => ⟨S1x1536, .f32⟩
  | 1 => ⟨S_, .f32⟩
  | 2 => ⟨S1x1536, .f32⟩
  | 3 => ⟨S1x1536, .f32⟩
  | 4 => ⟨S1x1536, .f32⟩
  | 5 => ⟨S_, .f32⟩
  | 6 => ⟨S1x1536, .f32⟩
  | 7 => ⟨S1x1536, .f32⟩
  | 8 => ⟨S1x1536, .f32⟩
  | 9 => ⟨S_, .f32⟩
  | 10 => ⟨S1x1536, .f32⟩
  | 11 => ⟨S1x1536, .f32⟩
  | 12 => ⟨S1x1536, .f32⟩
  | 13 => ⟨S_, .f32⟩
  | 14 => ⟨S1x1536, .f32⟩
  | 15 => ⟨S1x1536, .f32⟩
  | 16 => ⟨S_, .f32⟩
  | 17 => ⟨S1x16, .f32⟩
  | 18 => ⟨S1x16, .f32⟩
  | 19 => ⟨S_, .f32⟩
  | 20 => ⟨S1x16, .f32⟩
  | 21 => ⟨S1x16, .f32⟩
  | 22 => ⟨S1x16, .f32⟩
  | 23 => ⟨S_, .f32⟩
  | 24 => ⟨S1x16, .f32⟩
  | 25 => ⟨S1x16, .f32⟩
  | 26 => ⟨S1x16, .f32⟩
  | 27 => ⟨S_, .f32⟩
  | 28 => ⟨S1x16, .f32⟩
  | 29 => ⟨S1x16, .f32⟩
  | 30 => ⟨S1x16, .f32⟩
  | 31 => ⟨S_, .f32⟩
  | 32 => ⟨S1x16, .f32⟩
  | 33 => ⟨S1x16, .f32⟩
  | 34 => ⟨S_, .f32⟩
  | 35 => ⟨S1x16, .f32⟩
  | 36 => ⟨S1x16, .f32⟩
  | 37 => ⟨S1x16, .f32⟩
  | 38 => ⟨S_, .f32⟩
  | 39 => ⟨S1x16, .f32⟩
  | 40 => ⟨S1x16, .f32⟩
  | 41 => ⟨S1x16, .f32⟩
  | 42 => ⟨S_, .f32⟩
  | 43 => ⟨S1x16, .f32⟩
  | 44 => ⟨S1x16, .f32⟩
  | 45 => ⟨S1x16, .f32⟩
  | 46 => ⟨S_, .f32⟩
  | 47 => ⟨S1x16, .f32⟩
  | 48 => ⟨S1x16, .f32⟩
  | 49 => ⟨S_, .f32⟩
  | 50 => ⟨S1x16, .f32⟩
  | 51 => ⟨S1x16, .f32⟩
  | 52 => ⟨S_, .f32⟩
  | 53 => ⟨S1x16, .f32⟩
  | 54 => ⟨S1x16, .f32⟩
  | 55 => ⟨S1x16, .f32⟩
  | 56 => ⟨S_, .f32⟩
  | 57 => ⟨S1x16, .f32⟩
  | 58 => ⟨S1x16, .f32⟩
  | 59 => ⟨S1x16, .f32⟩
  | 60 => ⟨S_, .f32⟩
  | 61 => ⟨S1x16, .f32⟩
  | 62 => ⟨S1x16, .f32⟩
  | 63 => ⟨S1x16, .f32⟩
  | 64 => ⟨S_, .f32⟩
  | 65 => ⟨S1x16, .f32⟩
  | 66 => ⟨S1x16, .f32⟩
  | 67 => ⟨S_, .f32⟩
  | 68 => ⟨S1x16, .f32⟩
  | 69 => ⟨S1x16, .f32⟩
  | 70 => ⟨S1x16, .f32⟩
  | 71 => ⟨S_, .f32⟩
  | 72 => ⟨S1x16, .f32⟩
  | 73 => ⟨S1x16, .f32⟩
  | 74 => ⟨S1x16, .f32⟩
  | 75 => ⟨S_, .f32⟩
  | 76 => ⟨S1x16, .f32⟩
  | 77 => ⟨S1x16, .f32⟩
  | 78 => ⟨S1x16, .f32⟩
  | 79 => ⟨S_, .f32⟩
  | 80 => ⟨S1x16, .f32⟩
  | 81 => ⟨S1x16, .f32⟩
  | 82 => ⟨S_, .f32⟩
  | 83 => ⟨S1x16, .f32⟩
  | 84 => ⟨S1x16, .f32⟩
  | 85 => ⟨S_, .f32⟩
  | 86 => ⟨S1x16, .f32⟩
  | 87 => ⟨S1x16, .f32⟩
  | 88 => ⟨S1x16, .f32⟩
  | 89 => ⟨S_, .f32⟩
  | 90 => ⟨S1x16, .f32⟩
  | 91 => ⟨S1x16, .f32⟩
  | 92 => ⟨S1x16, .f32⟩
  | 93 => ⟨S_, .f32⟩
  | 94 => ⟨S1x16, .f32⟩
  | 95 => ⟨S1x16, .f32⟩
  | 96 => ⟨S1x16, .f32⟩
  | 97 => ⟨S_, .f32⟩
  | 98 => ⟨S1x16, .f32⟩
  | 99 => ⟨S1x16, .f32⟩
  | 100 => ⟨S_, .f32⟩
  | 101 => ⟨S1x16, .f32⟩
  | 102 => ⟨S1x16, .f32⟩
  | 103 => ⟨S1x16, .f32⟩
  | 104 => ⟨S_, .f32⟩
  | 105 => ⟨S1x16, .f32⟩
  | 106 => ⟨S1x16, .f32⟩
  | 107 => ⟨S1x16, .f32⟩
  | 108 => ⟨S_, .f32⟩
  | 109 => ⟨S1x16, .f32⟩
  | 110 => ⟨S1x16, .f32⟩
  | 111 => ⟨S1x16, .f32⟩
  | 112 => ⟨S_, .f32⟩
  | 113 => ⟨S1x16, .f32⟩
  | 114 => ⟨S1x16, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S8x1x8064, .f32⟩

abbrev hbmTy0_2 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S_, .f32⟩
  | 21 => ⟨S1x8, .f32⟩
  | 22 => ⟨S1x8, .f32⟩
  | 23 => ⟨S_, .f32⟩
  | 24 => ⟨S1x8, .f32⟩
  | 25 => ⟨S1x8, .f32⟩
  | 26 => ⟨S1x8, .f32⟩
  | 27 => ⟨S_, .f32⟩
  | 28 => ⟨S1x8, .f32⟩
  | 29 => ⟨S1x8, .f32⟩
  | 30 => ⟨S1x8, .f32⟩
  | 31 => ⟨S_, .f32⟩
  | 32 => ⟨S1x8, .f32⟩
  | 33 => ⟨S1x8, .f32⟩
  | 34 => ⟨S1x8, .f32⟩
  | 35 => ⟨S_, .f32⟩
  | 36 => ⟨S1x8, .f32⟩
  | 37 => ⟨S1x8, .f32⟩
  | 38 => ⟨S_, .f32⟩
  | 39 => ⟨S1x8, .f32⟩
  | 40 => ⟨S1x8, .f32⟩
  | 41 => ⟨S1x8, .f32⟩
  | 42 => ⟨S_, .f32⟩
  | 43 => ⟨S1x8, .f32⟩
  | 44 => ⟨S1x8, .f32⟩
  | 45 => ⟨S1x8, .f32⟩
  | 46 => ⟨S_, .f32⟩
  | 47 => ⟨S1x8, .f32⟩
  | 48 => ⟨S1x8, .f32⟩
  | 49 => ⟨S1x8, .f32⟩
  | 50 => ⟨S_, .f32⟩
  | 51 => ⟨S1x8, .f32⟩
  | 52 => ⟨S1x8, .f32⟩
  | 53 => ⟨S_, .f32⟩
  | 54 => ⟨S1x8, .f32⟩
  | 55 => ⟨S1x8, .f32⟩
  | 56 => ⟨S_, .f32⟩
  | 57 => ⟨S1x8, .f32⟩
  | 58 => ⟨S1x8, .f32⟩
  | 59 => ⟨S1x8, .f32⟩
  | 60 => ⟨S_, .f32⟩
  | 61 => ⟨S1x8, .f32⟩
  | 62 => ⟨S1x8, .f32⟩
  | 63 => ⟨S1x8, .f32⟩
  | 64 => ⟨S_, .f32⟩
  | 65 => ⟨S1x8, .f32⟩
  | 66 => ⟨S1x8, .f32⟩
  | 67 => ⟨S1x8, .f32⟩
  | 68 => ⟨S_, .f32⟩
  | 69 => ⟨S1x8, .f32⟩
  | 70 => ⟨S1x8, .f32⟩
  | 71 => ⟨S_, .f32⟩
  | 72 => ⟨S1x8, .f32⟩
  | 73 => ⟨S1x8, .f32⟩
  | 74 => ⟨S1x8, .f32⟩
  | 75 => ⟨S_, .f32⟩
  | 76 => ⟨S1x8, .f32⟩
  | 77 => ⟨S1x8, .f32⟩
  | 78 => ⟨S1x8, .f32⟩
  | 79 => ⟨S_, .f32⟩
  | 80 => ⟨S1x8, .f32⟩
  | 81 => ⟨S1x8, .f32⟩
  | 82 => ⟨S1x8, .f32⟩
  | 83 => ⟨S_, .f32⟩
  | 84 => ⟨S1x8, .f32⟩
  | 85 => ⟨S1x8, .f32⟩
  | 86 => ⟨S_, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S_, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S8x1x8064, .f32⟩

abbrev hbmTy0_3 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S_, .f32⟩
  | 25 => ⟨S1x4x192, .f32⟩
  | 26 => ⟨S1x4x192, .f32⟩
  | 27 => ⟨S_, .f32⟩
  | 28 => ⟨S1x4x192, .f32⟩
  | 29 => ⟨S1x4x192, .f32⟩
  | 30 => ⟨S1x4x192, .f32⟩
  | 31 => ⟨S_, .f32⟩
  | 32 => ⟨S1x4x192, .f32⟩
  | 33 => ⟨S1x4x192, .f32⟩
  | 34 => ⟨S1x4x192, .f32⟩
  | 35 => ⟨S_, .f32⟩
  | 36 => ⟨S1x4x192, .f32⟩
  | 37 => ⟨S1x4x192, .f32⟩
  | 38 => ⟨S1x4x192, .f32⟩
  | 39 => ⟨S_, .f32⟩
  | 40 => ⟨S1x4x192, .f32⟩
  | 41 => ⟨S1x4x192, .f32⟩
  | 42 => ⟨S_, .f32⟩
  | 43 => ⟨S1x4x192, .f32⟩
  | 44 => ⟨S1x4x192, .f32⟩
  | 45 => ⟨S1x4x192, .f32⟩
  | 46 => ⟨S_, .f32⟩
  | 47 => ⟨S1x4x192, .f32⟩
  | 48 => ⟨S1x4x192, .f32⟩
  | 49 => ⟨S1x4x192, .f32⟩
  | 50 => ⟨S_, .f32⟩
  | 51 => ⟨S1x4x192, .f32⟩
  | 52 => ⟨S1x4x192, .f32⟩
  | 53 => ⟨S1x4x192, .f32⟩
  | 54 => ⟨S_, .f32⟩
  | 55 => ⟨S1x4x192, .f32⟩
  | 56 => ⟨S1x4x192, .f32⟩
  | 57 => ⟨S_, .f32⟩
  | 58 => ⟨S1x4x384, .f32⟩
  | 59 => ⟨S1x4x384, .f32⟩
  | 60 => ⟨S_, .f32⟩
  | 61 => ⟨S1x4x384, .f32⟩
  | 62 => ⟨S1x4x384, .f32⟩
  | 63 => ⟨S1x4x384, .f32⟩
  | 64 => ⟨S_, .f32⟩
  | 65 => ⟨S1x4x384, .f32⟩
  | 66 => ⟨S1x4x384, .f32⟩
  | 67 => ⟨S1x4x384, .f32⟩
  | 68 => ⟨S_, .f32⟩
  | 69 => ⟨S1x4x384, .f32⟩
  | 70 => ⟨S1x4x384, .f32⟩
  | 71 => ⟨S1x4x384, .f32⟩
  | 72 => ⟨S_, .f32⟩
  | 73 => ⟨S1x4x384, .f32⟩
  | 74 => ⟨S1x4x384, .f32⟩
  | 75 => ⟨S_, .f32⟩
  | 76 => ⟨S1x4x384, .f32⟩
  | 77 => ⟨S1x4x384, .f32⟩
  | 78 => ⟨S1x4x384, .f32⟩
  | 79 => ⟨S_, .f32⟩
  | 80 => ⟨S1x4x384, .f32⟩
  | 81 => ⟨S1x4x384, .f32⟩
  | 82 => ⟨S1x4x384, .f32⟩
  | 83 => ⟨S_, .f32⟩
  | 84 => ⟨S1x4x384, .f32⟩
  | 85 => ⟨S1x4x384, .f32⟩
  | 86 => ⟨S1x4x384, .f32⟩
  | 87 => ⟨S_, .f32⟩
  | 88 => ⟨S1x4x384, .f32⟩
  | 89 => ⟨S1x4x384, .f32⟩
  | _ => ⟨S8x1x8064, .f32⟩

abbrev hbmTy (i : Nat) : BufTy := match i / 128 with
  | 0 => hbmTy0_0 i
  | 1 => hbmTy0_1 i
  | 2 => hbmTy0_2 i
  | 3 => hbmTy0_3 i
  | _ => ⟨S8x1x8064, .f32⟩

abbrev bufTy : (tb : Table) → Fin (tcTables nBuf tb) → BufTy
  | .hbm, ⟨i, _⟩ => hbmTy i
  | _, _ => ⟨S8x1x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_cst : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_0 : Ref sig .tc := ⟨.hbm, 78, rfl⟩
abbrev main_v40 : Ref sig .tc := ⟨.hbm, 79, rfl⟩
abbrev main_v41 : Ref sig .tc := ⟨.hbm, 80, rfl⟩
abbrev main_cst_1 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_2 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_3 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_4 : Ref sig .tc := ⟨.hbm, 93, rfl⟩
abbrev main_v51 : Ref sig .tc := ⟨.hbm, 94, rfl⟩
abbrev main_v52 : Ref sig .tc := ⟨.hbm, 95, rfl⟩
abbrev main_cst_5 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_6 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_7 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_8 : Ref sig .tc := ⟨.hbm, 108, rfl⟩
abbrev main_v62 : Ref sig .tc := ⟨.hbm, 109, rfl⟩
abbrev main_v63 : Ref sig .tc := ⟨.hbm, 110, rfl⟩
abbrev main_cst_9 : Ref sig .tc := ⟨.hbm, 111, rfl⟩
abbrev main_v64 : Ref sig .tc := ⟨.hbm, 112, rfl⟩
abbrev main_v65 : Ref sig .tc := ⟨.hbm, 113, rfl⟩
abbrev main_cst_10 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_11 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_12 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_13 : Ref sig .tc := ⟨.hbm, 126, rfl⟩
abbrev main_v75 : Ref sig .tc := ⟨.hbm, 127, rfl⟩
abbrev main_v76 : Ref sig .tc := ⟨.hbm, 128, rfl⟩
abbrev main_cst_14 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_15 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_16 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_17 : Ref sig .tc := ⟨.hbm, 141, rfl⟩
abbrev main_v86 : Ref sig .tc := ⟨.hbm, 142, rfl⟩
abbrev main_v87 : Ref sig .tc := ⟨.hbm, 143, rfl⟩
abbrev main_cst_18 : Ref sig .tc := ⟨.hbm, 144, rfl⟩
abbrev main_v88 : Ref sig .tc := ⟨.hbm, 145, rfl⟩
abbrev main_v89 : Ref sig .tc := ⟨.hbm, 146, rfl⟩
abbrev main_cst_19 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_20 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_21 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_22 : Ref sig .tc := ⟨.hbm, 159, rfl⟩
abbrev main_v99 : Ref sig .tc := ⟨.hbm, 160, rfl⟩
abbrev main_v100 : Ref sig .tc := ⟨.hbm, 161, rfl⟩
abbrev main_cst_23 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_cst_24 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_cst_25 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_26 : Ref sig .tc := ⟨.hbm, 174, rfl⟩
abbrev main_v110 : Ref sig .tc := ⟨.hbm, 175, rfl⟩
abbrev main_v111 : Ref sig .tc := ⟨.hbm, 176, rfl⟩
abbrev main_cst_27 : Ref sig .tc := ⟨.hbm, 177, rfl⟩
abbrev main_v112 : Ref sig .tc := ⟨.hbm, 178, rfl⟩
abbrev main_v113 : Ref sig .tc := ⟨.hbm, 179, rfl⟩
abbrev main_cst_28 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_29 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_cst_30 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_cst_31 : Ref sig .tc := ⟨.hbm, 192, rfl⟩
abbrev main_v123 : Ref sig .tc := ⟨.hbm, 193, rfl⟩
abbrev main_v124 : Ref sig .tc := ⟨.hbm, 194, rfl⟩
abbrev main_cst_32 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_cst_33 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_34 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_35 : Ref sig .tc := ⟨.hbm, 207, rfl⟩
abbrev main_v134 : Ref sig .tc := ⟨.hbm, 208, rfl⟩
abbrev main_v135 : Ref sig .tc := ⟨.hbm, 209, rfl⟩
abbrev main_cst_36 : Ref sig .tc := ⟨.hbm, 210, rfl⟩
abbrev main_v136 : Ref sig .tc := ⟨.hbm, 211, rfl⟩
abbrev main_v137 : Ref sig .tc := ⟨.hbm, 212, rfl⟩
abbrev main_cst_37 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_cst_38 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_cst_39 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_cst_40 : Ref sig .tc := ⟨.hbm, 225, rfl⟩
abbrev main_v147 : Ref sig .tc := ⟨.hbm, 226, rfl⟩
abbrev main_v148 : Ref sig .tc := ⟨.hbm, 227, rfl⟩
abbrev main_cst_41 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_cst_42 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_cst_43 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_cst_44 : Ref sig .tc := ⟨.hbm, 240, rfl⟩
abbrev main_v158 : Ref sig .tc := ⟨.hbm, 241, rfl⟩
abbrev main_v159 : Ref sig .tc := ⟨.hbm, 242, rfl⟩
abbrev main_cst_45 : Ref sig .tc := ⟨.hbm, 243, rfl⟩
abbrev main_v160 : Ref sig .tc := ⟨.hbm, 244, rfl⟩
abbrev main_v161 : Ref sig .tc := ⟨.hbm, 245, rfl⟩
abbrev main_cst_46 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_cst_47 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_cst_48 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_cst_49 : Ref sig .tc := ⟨.hbm, 258, rfl⟩
abbrev main_v171 : Ref sig .tc := ⟨.hbm, 259, rfl⟩
abbrev main_v172 : Ref sig .tc := ⟨.hbm, 260, rfl⟩
abbrev main_cst_50 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_cst_51 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_cst_52 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_cst_53 : Ref sig .tc := ⟨.hbm, 273, rfl⟩
abbrev main_v182 : Ref sig .tc := ⟨.hbm, 274, rfl⟩
abbrev main_v183 : Ref sig .tc := ⟨.hbm, 275, rfl⟩
abbrev main_cst_54 : Ref sig .tc := ⟨.hbm, 276, rfl⟩
abbrev main_v184 : Ref sig .tc := ⟨.hbm, 277, rfl⟩
abbrev main_v185 : Ref sig .tc := ⟨.hbm, 278, rfl⟩
abbrev main_cst_55 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_cst_56 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_cst_57 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_cst_58 : Ref sig .tc := ⟨.hbm, 291, rfl⟩
abbrev main_v195 : Ref sig .tc := ⟨.hbm, 292, rfl⟩
abbrev main_v196 : Ref sig .tc := ⟨.hbm, 293, rfl⟩
abbrev main_cst_59 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_cst_60 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_cst_61 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_cst_62 : Ref sig .tc := ⟨.hbm, 306, rfl⟩
abbrev main_v206 : Ref sig .tc := ⟨.hbm, 307, rfl⟩
abbrev main_v207 : Ref sig .tc := ⟨.hbm, 308, rfl⟩
abbrev main_cst_63 : Ref sig .tc := ⟨.hbm, 309, rfl⟩
abbrev main_v208 : Ref sig .tc := ⟨.hbm, 310, rfl⟩
abbrev main_v209 : Ref sig .tc := ⟨.hbm, 311, rfl⟩
abbrev main_cst_64 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_cst_65 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_cst_66 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_cst_67 : Ref sig .tc := ⟨.hbm, 324, rfl⟩
abbrev main_v219 : Ref sig .tc := ⟨.hbm, 325, rfl⟩
abbrev main_v220 : Ref sig .tc := ⟨.hbm, 326, rfl⟩
abbrev main_cst_68 : Ref sig .tc := ⟨.hbm, 327, rfl⟩
abbrev main_v221 : Ref sig .tc := ⟨.hbm, 328, rfl⟩
abbrev main_v222 : Ref sig .tc := ⟨.hbm, 329, rfl⟩
abbrev main_v223 : Ref sig .tc := ⟨.hbm, 330, rfl⟩
abbrev main_cst_69 : Ref sig .tc := ⟨.hbm, 331, rfl⟩
abbrev main_v224 : Ref sig .tc := ⟨.hbm, 332, rfl⟩
abbrev main_v225 : Ref sig .tc := ⟨.hbm, 333, rfl⟩
abbrev main_v226 : Ref sig .tc := ⟨.hbm, 334, rfl⟩
abbrev main_cst_70 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩
abbrev main_cst_71 : Ref sig .tc := ⟨.hbm, 339, rfl⟩
abbrev main_v230 : Ref sig .tc := ⟨.hbm, 340, rfl⟩
abbrev main_v231 : Ref sig .tc := ⟨.hbm, 341, rfl⟩
abbrev main_cst_72 : Ref sig .tc := ⟨.hbm, 342, rfl⟩
abbrev main_v232 : Ref sig .tc := ⟨.hbm, 343, rfl⟩
abbrev main_v233 : Ref sig .tc := ⟨.hbm, 344, rfl⟩
abbrev main_cst_73 : Ref sig .tc := ⟨.hbm, 345, rfl⟩
abbrev main_v234 : Ref sig .tc := ⟨.hbm, 346, rfl⟩
abbrev main_v235 : Ref sig .tc := ⟨.hbm, 347, rfl⟩
abbrev main_v236 : Ref sig .tc := ⟨.hbm, 348, rfl⟩
abbrev main_cst_74 : Ref sig .tc := ⟨.hbm, 349, rfl⟩
abbrev main_v237 : Ref sig .tc := ⟨.hbm, 350, rfl⟩
abbrev main_v238 : Ref sig .tc := ⟨.hbm, 351, rfl⟩
abbrev main_v239 : Ref sig .tc := ⟨.hbm, 352, rfl⟩
abbrev main_cst_75 : Ref sig .tc := ⟨.hbm, 353, rfl⟩
abbrev main_v240 : Ref sig .tc := ⟨.hbm, 354, rfl⟩
abbrev main_v241 : Ref sig .tc := ⟨.hbm, 355, rfl⟩
abbrev main_v242 : Ref sig .tc := ⟨.hbm, 356, rfl⟩
abbrev main_cst_76 : Ref sig .tc := ⟨.hbm, 357, rfl⟩
abbrev main_v243 : Ref sig .tc := ⟨.hbm, 358, rfl⟩
abbrev main_v244 : Ref sig .tc := ⟨.hbm, 359, rfl⟩
abbrev main_cst_77 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_cst_78 : Ref sig .tc := ⟨.hbm, 364, rfl⟩
abbrev main_v248 : Ref sig .tc := ⟨.hbm, 365, rfl⟩
abbrev main_v249 : Ref sig .tc := ⟨.hbm, 366, rfl⟩
abbrev main_v250 : Ref sig .tc := ⟨.hbm, 367, rfl⟩
abbrev main_cst_79 : Ref sig .tc := ⟨.hbm, 368, rfl⟩
abbrev main_v251 : Ref sig .tc := ⟨.hbm, 369, rfl⟩
abbrev main_v252 : Ref sig .tc := ⟨.hbm, 370, rfl⟩
abbrev main_v253 : Ref sig .tc := ⟨.hbm, 371, rfl⟩
abbrev main_cst_80 : Ref sig .tc := ⟨.hbm, 372, rfl⟩
abbrev main_v254 : Ref sig .tc := ⟨.hbm, 373, rfl⟩
abbrev main_v255 : Ref sig .tc := ⟨.hbm, 374, rfl⟩
abbrev main_cst_81 : Ref sig .tc := ⟨.hbm, 375, rfl⟩
abbrev main_v256 : Ref sig .tc := ⟨.hbm, 376, rfl⟩
abbrev main_v257 : Ref sig .tc := ⟨.hbm, 377, rfl⟩
abbrev main_cst_82 : Ref sig .tc := ⟨.hbm, 378, rfl⟩
abbrev main_v258 : Ref sig .tc := ⟨.hbm, 379, rfl⟩
abbrev main_v259 : Ref sig .tc := ⟨.hbm, 380, rfl⟩
abbrev main_v260 : Ref sig .tc := ⟨.hbm, 381, rfl⟩
abbrev main_cst_83 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_cst_84 : Ref sig .tc := ⟨.hbm, 386, rfl⟩
abbrev main_v264 : Ref sig .tc := ⟨.hbm, 387, rfl⟩
abbrev main_v265 : Ref sig .tc := ⟨.hbm, 388, rfl⟩
abbrev main_v266 : Ref sig .tc := ⟨.hbm, 389, rfl⟩
abbrev main_cst_85 : Ref sig .tc := ⟨.hbm, 390, rfl⟩
abbrev main_v267 : Ref sig .tc := ⟨.hbm, 391, rfl⟩
abbrev main_v268 : Ref sig .tc := ⟨.hbm, 392, rfl⟩
abbrev main_cst_86 : Ref sig .tc := ⟨.hbm, 393, rfl⟩
abbrev main_v269 : Ref sig .tc := ⟨.hbm, 394, rfl⟩
abbrev main_v270 : Ref sig .tc := ⟨.hbm, 395, rfl⟩
abbrev main_v271 : Ref sig .tc := ⟨.hbm, 396, rfl⟩
abbrev main_cst_87 : Ref sig .tc := ⟨.hbm, 397, rfl⟩
abbrev main_v272 : Ref sig .tc := ⟨.hbm, 398, rfl⟩
abbrev main_v273 : Ref sig .tc := ⟨.hbm, 399, rfl⟩
abbrev main_v274 : Ref sig .tc := ⟨.hbm, 400, rfl⟩
abbrev main_cst_88 : Ref sig .tc := ⟨.hbm, 401, rfl⟩
abbrev main_v275 : Ref sig .tc := ⟨.hbm, 402, rfl⟩
abbrev main_v276 : Ref sig .tc := ⟨.hbm, 403, rfl⟩
abbrev main_v277 : Ref sig .tc := ⟨.hbm, 404, rfl⟩
abbrev main_cst_89 : Ref sig .tc := ⟨.hbm, 405, rfl⟩
abbrev main_v278 : Ref sig .tc := ⟨.hbm, 406, rfl⟩
abbrev main_v279 : Ref sig .tc := ⟨.hbm, 407, rfl⟩
abbrev main_cst_90 : Ref sig .tc := ⟨.hbm, 408, rfl⟩
abbrev main_v280 : Ref sig .tc := ⟨.hbm, 409, rfl⟩
abbrev main_v281 : Ref sig .tc := ⟨.hbm, 410, rfl⟩
abbrev main_cst_91 : Ref sig .tc := ⟨.hbm, 411, rfl⟩
abbrev main_v282 : Ref sig .tc := ⟨.hbm, 412, rfl⟩
abbrev main_v283 : Ref sig .tc := ⟨.hbm, 413, rfl⟩
abbrev main_v284 : Ref sig .tc := ⟨.hbm, 414, rfl⟩
abbrev main_cst_92 : Ref sig .tc := ⟨.hbm, 415, rfl⟩
abbrev main_v285 : Ref sig .tc := ⟨.hbm, 416, rfl⟩
abbrev main_v286 : Ref sig .tc := ⟨.hbm, 417, rfl⟩
abbrev main_v287 : Ref sig .tc := ⟨.hbm, 418, rfl⟩
abbrev main_cst_93 : Ref sig .tc := ⟨.hbm, 419, rfl⟩
abbrev main_v288 : Ref sig .tc := ⟨.hbm, 420, rfl⟩
abbrev main_v289 : Ref sig .tc := ⟨.hbm, 421, rfl⟩
abbrev main_v290 : Ref sig .tc := ⟨.hbm, 422, rfl⟩
abbrev main_cst_94 : Ref sig .tc := ⟨.hbm, 423, rfl⟩
abbrev main_v291 : Ref sig .tc := ⟨.hbm, 424, rfl⟩
abbrev main_v292 : Ref sig .tc := ⟨.hbm, 425, rfl⟩
abbrev main_cst_95 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_cst_96 : Ref sig .tc := ⟨.hbm, 430, rfl⟩
abbrev main_v296 : Ref sig .tc := ⟨.hbm, 431, rfl⟩
abbrev main_v297 : Ref sig .tc := ⟨.hbm, 432, rfl⟩
abbrev main_v298 : Ref sig .tc := ⟨.hbm, 433, rfl⟩
abbrev main_cst_97 : Ref sig .tc := ⟨.hbm, 434, rfl⟩
abbrev main_v299 : Ref sig .tc := ⟨.hbm, 435, rfl⟩
abbrev main_v300 : Ref sig .tc := ⟨.hbm, 436, rfl⟩
abbrev main_v301 : Ref sig .tc := ⟨.hbm, 437, rfl⟩
abbrev main_cst_98 : Ref sig .tc := ⟨.hbm, 438, rfl⟩
abbrev main_v302 : Ref sig .tc := ⟨.hbm, 439, rfl⟩
abbrev main_v303 : Ref sig .tc := ⟨.hbm, 440, rfl⟩
abbrev main_cst_99 : Ref sig .tc := ⟨.hbm, 441, rfl⟩
abbrev main_v304 : Ref sig .tc := ⟨.hbm, 442, rfl⟩
abbrev main_v305 : Ref sig .tc := ⟨.hbm, 443, rfl⟩
abbrev main_cst_100 : Ref sig .tc := ⟨.hbm, 444, rfl⟩
abbrev main_v306 : Ref sig .tc := ⟨.hbm, 445, rfl⟩
abbrev main_v307 : Ref sig .tc := ⟨.hbm, 446, rfl⟩
abbrev main_v308 : Ref sig .tc := ⟨.hbm, 447, rfl⟩
abbrev main_cst_101 : Ref sig .tc := ⟨.hbm, 448, rfl⟩
abbrev main_v309 : Ref sig .tc := ⟨.hbm, 449, rfl⟩
abbrev main_v310 : Ref sig .tc := ⟨.hbm, 450, rfl⟩
abbrev main_v311 : Ref sig .tc := ⟨.hbm, 451, rfl⟩
abbrev main_cst_102 : Ref sig .tc := ⟨.hbm, 452, rfl⟩
abbrev main_v312 : Ref sig .tc := ⟨.hbm, 453, rfl⟩
abbrev main_v313 : Ref sig .tc := ⟨.hbm, 454, rfl⟩
abbrev main_v314 : Ref sig .tc := ⟨.hbm, 455, rfl⟩
abbrev main_cst_103 : Ref sig .tc := ⟨.hbm, 456, rfl⟩
abbrev main_v315 : Ref sig .tc := ⟨.hbm, 457, rfl⟩
abbrev main_v316 : Ref sig .tc := ⟨.hbm, 458, rfl⟩
abbrev main_cst_104 : Ref sig .tc := ⟨.hbm, 459, rfl⟩
abbrev main_v317 : Ref sig .tc := ⟨.hbm, 460, rfl⟩
abbrev main_v318 : Ref sig .tc := ⟨.hbm, 461, rfl⟩
abbrev main_v319 : Ref sig .tc := ⟨.hbm, 462, rfl⟩
abbrev main_cst_105 : Ref sig .tc := ⟨.hbm, 463, rfl⟩
abbrev main_v320 : Ref sig .tc := ⟨.hbm, 464, rfl⟩
abbrev main_v321 : Ref sig .tc := ⟨.hbm, 465, rfl⟩
abbrev main_v322 : Ref sig .tc := ⟨.hbm, 466, rfl⟩
abbrev main_cst_106 : Ref sig .tc := ⟨.hbm, 467, rfl⟩
abbrev main_v323 : Ref sig .tc := ⟨.hbm, 468, rfl⟩
abbrev main_v324 : Ref sig .tc := ⟨.hbm, 469, rfl⟩
abbrev main_v325 : Ref sig .tc := ⟨.hbm, 470, rfl⟩
abbrev main_cst_107 : Ref sig .tc := ⟨.hbm, 471, rfl⟩
abbrev main_v326 : Ref sig .tc := ⟨.hbm, 472, rfl⟩
abbrev main_v327 : Ref sig .tc := ⟨.hbm, 473, rfl⟩

abbrev nD : Nat := 1
abbrev τ : Topo := Topo.v7x

variable {F : FTy → Type} [FloatOps F]
-- ==== Proof.OutStep.lean ====
module

public import proofs.«01_k».proof.Proof.Gen.KernelIdeal.Value
public import Idealize.ShloMosaic.Lib.ValueIdx
public import Idealize.ShloMosaic.Lib.Pipeline.RowLoads
public import Idealize.ShloMosaic.Lib.Pipeline.ValueKit.Geometry

/-!
# One grid point of the output layer's kernel

What one grid point leaves in each output block and in the carried sum, as the body's own operations of the point's
input blocks and of what the point before left. The three cases (first point, middle points, last point) leave the
three row blocks the same, and differ in where the sums begin.
-/

@[expose] public section

set_option maxHeartbeats 4000000
set_option maxRecDepth 100000

namespace Cert.KernelIdeal.Out

open Cert.KernelIdeal Cert.KernelIdeal.Gen Cert.KernelIdeal.Value
open Idealize.ShloMosaic Idealize.ShloMosaic.TcCoe Idealize.SL.Sem

variable {F : FTy → Type} [FloatOps F]
variable (m : (ℓ : Loc nD τ sig) → Buf (Elt F) ℓ)

/-- The offset list of zeros. -/
theorem hz : (![0, 0] : Fin 2 → Nat) = fun _ => 0 := funext fun a => by fin_cases a <;> rfl

/-- The rows of the weight block that meet the first mixer's output. -/
def wTop (c : Dev nD) (t : Fin cfg0.N) : Vec F S1024x1024 .bf16 :=
  View.ld (iblk m c 4 t) (Rect.unit ![0, 0] ![1024, 1024] inb_S2048x1024_S1024x1024_0_0)

/-- The rows of the weight block that meet the second mixer's output. -/
def wBot (c : Dev nD) (t : Fin cfg0.N) : Vec F S1024x1024 .bf16 :=
  View.ld (iblk m c 4 t) (Rect.unit ![1024, 0] ![1024, 1024] inb_S2048x1024_S1024x1024_1024_0)

/-- The point's reciprocal root mean squares. -/
noncomputable def bRs (c : Dev nD) (t : Fin cfg0.N) : FVec F S512x1 .f32 :=
  k0_pay9 (iblk m c 2 t) (iblk m c 3 t) (iblk m c 0 t) (wTop m c t) (wBot m c t)

/-- The point's normalised rows. -/
noncomputable def bYh (c : Dev nD) (t : Fin cfg0.N) : FVec F S512x1024 .f32 :=
  k0_pay10 (iblk m c 2 t) (iblk m c 3 t) (iblk m c 0 t) (wTop m c t) (wBot m c t)

/-- The point's errors. -/
noncomputable def bEr (c : Dev nD) (t : Fin cfg0.N) : FVec F S512x1024 .f32 :=
  k0_pay12 (iblk m c 2 t) (iblk m c 3 t) (iblk m c 0 t) (wTop m c t) (wBot m c t) (iblk m c 5 t) (iblk m c 1 t)

/-- The point's row sums of squared errors. -/
noncomputable def bSq (c : Dev nD) (t : Fin cfg0.N) : FVec F S512 .f32 :=
  k0_pay14 (iblk m c 2 t) (iblk m c 3 t) (iblk m c 0 t) (wTop m c t) (wBot m c t) (iblk m c 5 t) (iblk m c 1 t)

/-- The point's row gradients. -/
noncomputable def bDout (c : Dev nD) (t : Fin cfg0.N) : FVec F S512x1024 .f32 :=
  k0_pay18 (bRs m c t) (bYh m c t) (k0_pay11 (iblk m c 5 t)) (bEr m c t)

/-- The point's row gradients, rounded for the products. -/
noncomputable def bDoutB (c : Dev nD) (t : Fin cfg0.N) : FVec F S512x1024 .bf16 :=
  k0_pay19 (bRs m c t) (bYh m c t) (k0_pay11 (iblk m c 5 t)) (bEr m c t)

/-- The carried weight gradient after a point, from what it was before: both halves get the point's product. -/
noncomputable def gwNext (c : Dev nD) (t : Fin cfg0.N) (acc : Vec F S2048x1024 .f32) : Vec F S2048x1024 .f32 :=
  View.canon (Val := Elt F) (s := S2048x1024) (e := .f32)
    [⟨Rect.unit ![1024, 0] ![1024, 1024] inb_S2048x1024_S1024x1024_1024_0,
      k0_pay3 (iblk m c 3 t) (bDoutB m c t) (View.ld acc (Rect.unit ![1024, 0] ![1024, 1024] inb_S2048x1024_S1024x1024_1024_0))⟩,
     ⟨Rect.unit ![0, 0] ![1024, 1024] inb_S2048x1024_S1024x1024_0_0,
      k0_pay2 (iblk m c 2 t) (bDoutB m c t) (View.ld acc (Rect.unit ![0, 0] ![1024, 1024] inb_S2048x1024_S1024x1024_0_0))⟩]

/-- The scratch read back whole is what it was said to hold. -/
theorem read_scratch (X : Vec F S2048x1024 .f32) (h : (Memref.whole cc0_scratch0).IsWhole) :
    View.read (Elt F) (View.whole cc0_scratch0) (h.unread X) = X := Memref.IsWhole.read_unread h X

/-- Two stores of the two halves of a [2048, 1024] block cover it, whatever was stored before. -/
theorem canon_halves (P Q : S1024x1024.Idx → Elt F .f32) (L : List (View.Piece (Elt F) S2048x1024 .f32)) (y : S2048x1024.Idx) :
    View.canon (⟨Rect.unit ![1024, 0] ![1024, 1024] inb_S2048x1024_S1024x1024_1024_0, P⟩ ::
      ⟨Rect.unit ![0, 0] ![1024, 1024] inb_S2048x1024_S1024x1024_0_0, Q⟩ :: L) y
      = if h : (y 0).val < 1024 then Q (Idealize.ShloMosaic.ValueIdx.ix2 ⟨(y 0).val, h⟩ ⟨(y 1).val, ValueIdx.idx2_lt1 y⟩)
        else P (Idealize.ShloMosaic.ValueIdx.ix2 ⟨(y 0).val - 1024, by have := ValueIdx.idx2_lt0 y; omega⟩ ⟨(y 1).val, ValueIdx.idx2_lt1 y⟩) := by
  by_cases h : (y 0).val < 1024
  · rw [dif_pos h]
    rw [View.canon_cons_of_not_mem _ _ (by
      rw [Rect.mem_set_unit]; intro hm; have := (hm 0).1; simp at this; omega)]
    have he : y = (Rect.unit (s := S2048x1024) ![0, 0] ![1024, 1024] inb_S2048x1024_S1024x1024_0_0).emb
        (Idealize.ShloMosaic.ValueIdx.ix2 (n0 := 1024) (n1 := 1024) ⟨(y 0).val, h⟩ ⟨(y 1).val, ValueIdx.idx2_lt1 y⟩) := by
      funext a; apply Fin.ext
      fin_cases a <;> simp [ValueKit.rect_emb_unit_val]
    conv_lhs => rw [he]
    exact View.canon_cons_emb _ _ _ _
  · rw [dif_neg h]
    have he : y = (Rect.unit (s := S2048x1024) ![1024, 0] ![1024, 1024] inb_S2048x1024_S1024x1024_1024_0).emb
        (Idealize.ShloMosaic.ValueIdx.ix2 (n0 := 1024) (n1 := 1024) ⟨(y 0).val - 1024, by have := ValueIdx.idx2_lt0 y; omega⟩ ⟨(y 1).val, ValueIdx.idx2_lt1 y⟩) := by
      funext a; apply Fin.ext
      fin_cases a
      · have : 1024 + ((y 0).val - 1024) = (y 0).val := by omega
        simp [ValueKit.rect_emb_unit_val, this]
      · simp [ValueKit.rect_emb_unit_val]
    conv_lhs => rw [he]
    exact View.canon_cons_emb _ _ _ _

/-- What a first point leaves in the gradient of the hidden rows. -/
theorem st6_A (c : Dev nD) (t : Fin cfg0.N) (acc) (h0 : t.val % 16 = 0) (h1 : ¬t.val % 16 = 15) :
    (stAt0 m c t.val t.isLt acc).1 = bDout m c t := by
  rw [stAt0_A m c t acc h0 h1]
  dsimp only
  unfold out0_A_6
  rw [View.read_writes_eq_canon _ _ _ (cover0_A_6 _ _ _ _ _ _ _ _ _ _ _ _ _ _ _ _ _ _ _ _ _ _ _ _ _ _ _ _ _ _ _ _ _ _ _ _ )]
  unfold kernelRun0_A
  dsimp only
  sl_unfold_words
  simp only [View.readAt_eq_ld, View.ld_unit_zero (S := S512x1024) hz, View.ld_unit_zero (S := S1x1024) hz,
    View.ld_unit_zero (S := S1x128) hz, Memref.IsWhole.read_unread]
  unfold bDout bRs bYh bEr wTop wBot
  rw [View.canon_unit_zero hz]
  rfl

/-- What a first point leaves in the gradient of the first mixer. -/
theorem st7_A (c : Dev nD) (t : Fin cfg0.N) (acc) (h0 : t.val % 16 = 0) (h1 : ¬t.val % 16 = 15) :
    (stAt0 m c t.val t.isLt acc).2.1 = k0_pay20 (bRs m c t) (bYh m c t) (k0_pay11 (iblk m c 5 t)) (bEr m c t) (wTop m c t) := by
  rw [stAt0_A m c t acc h0 h1]
  dsimp only
  unfold out0_A_7
  rw [View.read_writes_eq_canon _ _ _ (cover0_A_7 _ _ _ _ _ _ _ _ _ _ _ _ _ _ _ _ _ _ _ _ _ _ _ _ _ _ _ _ _ _ _ _ _ _ _ _ )]
  unfold kernelRun0_A
  dsimp only
  sl_unfold_words
  simp only [View.readAt_eq_ld, View.ld_unit_zero (S := S512x1024) hz, View.ld_unit_zero (S := S1x1024) hz,
    View.ld_unit_zero (S := S1x128) hz, Memref.IsWhole.read_unread]
  unfold bRs bYh bEr wTop wBot
  rw [View.canon_unit_zero hz]
  rfl

/-- What a first point leaves in the gradient of the second mixer. -/
theorem st8_A (c : Dev nD) (t : Fin cfg0.N) (acc) (h0 : t.val % 16 = 0) (h1 : ¬t.val % 16 = 15) :
    (stAt0 m c t.val t.isLt acc).2.2.1 = k0_pay1 (bDoutB m c t) (wBot m c t) := by
  rw [stAt0_A m c t acc h0 h1]
  dsimp only
  unfold out0_A_8
  rw [View.read_writes_eq_canon _ _ _ (cover0_A_8 _ _ _ _ _ _ _ _ _ _ _ _ _ _ _ _ _ _ _ _ _ _ _ _ _ _ _ _ _ _ _ _ _ _ _ _ )]
  unfold kernelRun0_A
  dsimp only
  sl_unfold_words
  simp only [View.readAt_eq_ld, View.ld_unit_zero (S := S512x1024) hz, View.ld_unit_zero (S := S1x1024) hz,
    View.ld_unit_zero (S := S1x128) hz, Memref.IsWhole.read_unread]
  unfold bDoutB bRs bYh bEr wTop wBot
  rw [View.canon_unit_zero hz]
  rfl

/-- What a middle point leaves in the gradient of the hidden rows. -/
theorem st6_B (c : Dev nD) (t : Fin cfg0.N) (acc) (h0 : ¬t.val % 16 = 0) (h1 : ¬t.val % 16 = 15) :
    (stAt0 m c t.val t.isLt acc).1 = bDout m c t := by
  rw [stAt0_B m c t acc h0 h1]
  dsimp only
  unfold out0_B_6
  rw [View.read_writes_eq_canon _ _ _ (cover0_B_6 _ _ _ _ _ _ _ _ _ _ _ _ _ _ _ _ _ _ _ _ _ _ _ _ _ _ _ _ _ _ _ _ _ _ _ _ _ _ _ )]
  unfold kernelRun0_B
  dsimp only
  sl_unfold_words
  simp only [View.readAt_eq_ld, View.ld_unit_zero (S := S512x1024) hz, View.ld_unit_zero (S := S1x1024) hz,
    View.ld_unit_zero (S := S1x128) hz, Memref.IsWhole.read_unread]
  unfold bDout bRs bYh bEr wTop wBot
  rw [View.canon_unit_zero hz]
  rfl

/-- What a middle point leaves in the gradient of the first mixer. -/
theorem st7_B (c : Dev nD) (t : Fin cfg0.N) (acc) (h0 : ¬t.val % 16 = 0) (h1 : ¬t.val % 16 = 15) :
    (stAt0 m c t.val t.isLt acc).2.1 = k0_pay20 (bRs m c t) (bYh m c t) (k0_pay11 (iblk m c 5 t)) (bEr m c t) (wTop m c t) := by
  rw [stAt0_B m c t acc h0 h1]
  dsimp only
  unfold out0_B_7
  rw [View.read_writes_eq_canon _ _ _ (cover0_B_7 _ _ _ _ _ _ _ _ _ _ _ _ _ _ _ _ _ _ _ _ _ _ _ _ _ _ _ _ _ _ _ _ _ _ _ _ _ _ _ )]
  unfold kernelRun0_B
  dsimp only
  sl_unfold_words
  simp only [View.readAt_eq_ld, View.ld_unit_zero (S := S512x1024) hz, View.ld_unit_zero (S := S1x1024) hz,
    View.ld_unit_zero (S := S1x128) hz, Memref.IsWhole.read_unread]
  unfold bRs bYh bEr wTop wBot
  rw [View.canon_unit_zero hz]
  rfl

/-- What a middle point leaves in the gradient of the second mixer. -/
theorem st8_B (c : Dev nD) (t : Fin cfg0.N) (acc) (h0 : ¬t.val % 16 = 0) (h1 : ¬t.val % 16 = 15) :
    (stAt0 m c t.val t.isLt acc).2.2.1 = k0_pay1 (bDoutB m c t) (wBot m c t) := by
  rw [stAt0_B m c t acc h0 h1]
  dsimp only
  unfold out0_B_8
  rw [View.read_writes_eq_canon _ _ _ (cover0_B_8 _ _ _ _ _ _ _ _ _ _ _ _ _ _ _ _ _ _ _ _ _ _ _ _ _ _ _ _ _ _ _ _ _ _ _ _ _ _ _ )]
  unfold kernelRun0_B
  dsimp only
  sl_unfold_words
  simp only [View.readAt_eq_ld, View.ld_unit_zero (S := S512x1024) hz, View.ld_unit_zero (S := S1x1024) hz,
    View.ld_unit_zero (S := S1x128) hz, Memref.IsWhole.read_unread]
  unfold bDoutB bRs bYh bEr wTop wBot
  rw [View.canon_unit_zero hz]
  rfl

/-- What a last point leaves in the gradient of the hidden rows. -/
theorem st6_C (c : Dev nD) (t : Fin cfg0.N) (acc) (h0 : ¬t.val % 16 = 0) (h1 : t.val % 16 = 15) :
    (stAt0 m c t.val t.isLt acc).1 = bDout m c t := by
  rw [stAt0_C m c t acc h0 h1]
  dsimp only
  unfold out0_C_6
  rw [View.read_writes_eq_canon _ _ _ (cover0_C_6 _ _ _ _ _ _ _ _ _ _ _ _ _ _ _ _ _ _ _ _ _ _ _ _ _ _ _ _ _ _ _ _ _ _ _ _ _ _ _ )]
  unfold kernelRun0_C
  dsimp only
  sl_unfold_words
  simp only [View.readAt_eq_ld, View.ld_unit_zero (S := S512x1024) hz, View.ld_unit_zero (S := S1x1024) hz,
    View.ld_unit_zero (S := S1x128) hz, Memref.IsWhole.read_unread]
  unfold bDout bRs bYh bEr wTop wBot
  rw [View.canon_unit_zero hz]
  rfl

/-- What a last point leaves in the gradient of the first mixer. -/
theorem st7_C (c : Dev nD) (t : Fin cfg0.N) (acc) (h0 : ¬t.val % 16 = 0) (h1 : t.val % 16 = 15) :
    (stAt0 m c t.val t.isLt acc).2.1 = k0_pay20 (bRs m c t) (bYh m c t) (k0_pay11 (iblk m c 5 t)) (bEr m c t) (wTop m c t) := by
  rw [stAt0_C m c t acc h0 h1]
  dsimp only
  unfold out0_C_7
  rw [View.read_writes_eq_canon _ _ _ (cover0_C_7 _ _ _ _ _ _ _ _ _ _ _ _ _ _ _ _ _ _ _ _ _ _ _ _ _ _ _ _ _ _ _ _ _ _ _ _ _ _ _ )]
  unfold kernelRun0_C
  dsimp only
  sl_unfold_words
  simp only [View.readAt_eq_ld, View.ld_unit_zero (S := S512x1024) hz, View.ld_unit_zero (S := S1x1024) hz,
    View.ld_unit_zero (S := S1x128) hz, Memref.IsWhole.read_unread]
  unfold bRs bYh bEr wTop wBot
  rw [View.canon_unit_zero hz]
  rfl

/-- What a last point leaves in the gradient of the second mixer. -/
theorem st8_C (c : Dev nD) (t : Fin cfg0.N) (acc) (h0 : ¬t.val % 16 = 0) (h1 : t.val % 16 = 15) :
    (stAt0 m c t.val t.isLt acc).2.2.1 = k0_pay1 (bDoutB m c t) (wBot m c t) := by
  rw [stAt0_C m c t acc h0 h1]
  dsimp only
  unfold out0_C_8
  rw [View.read_writes_eq_canon _ _ _ (cover0_C_8 _ _ _ _ _ _ _ _ _ _ _ _ _ _ _ _ _ _ _ _ _ _ _ _ _ _ _ _ _ _ _ _ _ _ _ _ _ _ _ )]
  unfold kernelRun0_C
  dsimp only
  sl_unfold_words
  simp only [View.readAt_eq_ld, View.ld_unit_zero (S := S512x1024) hz, View.ld_unit_zero (S := S1x1024) hz,
    View.ld_unit_zero (S := S1x128) hz, Memref.IsWhole.read_unread]
  unfold bDoutB bRs bYh bEr wTop wBot
  rw [View.canon_unit_zero hz]
  rfl

/-- What a first point leaves in the loss. -/
theorem st11_A (c : Dev nD) (t : Fin cfg0.N) (acc) (h0 : t.val % 16 = 0) (h1 : ¬t.val % 16 = 15) :
    (stAt0 m c t.val t.isLt acc).2.2.2.2.2.1 = k0_pay15 (k0_pay13 k0_pay7) (bSq m c t) := by
  rw [stAt0_A m c t acc h0 h1]
  dsimp only
  unfold out0_A_11
  rw [View.read_writes_eq_canon _ _ _ (cover0_A_11 _ _ _ _ _ _ _ _ _ _ _ _ _ _ _ _ _ _ _ _ _ _ _ _ _ _ _ _ _ _ _ _ _ _ _ _ )]
  unfold kernelRun0_A
  dsimp only
  sl_unfold_words
  simp only [View.readAt_eq_ld, View.ld_unit_zero (S := S512x1024) hz, View.ld_unit_zero (S := S1x1024) hz,
    View.ld_unit_zero (S := S1x128) hz, Memref.IsWhole.read_unread]
  rw [View.canon_cons_unit_zero (S := S1x128) hz, View.readCov_unit_zero (S := S1x128) _ hz]
  unfold bSq wTop wBot
  rfl

/-- What a middle point leaves in the loss. -/
theorem st11_B (c : Dev nD) (t : Fin cfg0.N) (acc) (h0 : ¬t.val % 16 = 0) (h1 : ¬t.val % 16 = 15) :
    (stAt0 m c t.val t.isLt acc).2.2.2.2.2.1 = k0_pay15 (k0_pay13 acc.2.2.2.2.2.1) (bSq m c t) := by
  rw [stAt0_B m c t acc h0 h1]
  dsimp only
  unfold out0_B_11
  rw [View.read_writes_eq_canon _ _ _ (cover0_B_11 _ _ _ _ _ _ _ _ _ _ _ _ _ _ _ _ _ _ _ _ _ _ _ _ _ _ _ _ _ _ _ _ _ _ _ _ _ _ _ )]
  unfold kernelRun0_B
  dsimp only
  sl_unfold_words
  simp only [View.readAt_eq_ld, View.ld_unit_zero (S := S512x1024) hz, View.ld_unit_zero (S := S1x1024) hz,
    View.ld_unit_zero (S := S1x128) hz, Memref.IsWhole.read_unread]
  unfold bSq wTop wBot
  rw [View.canon_unit_zero hz]
  rfl

/-- What a last point leaves in the loss. -/
theorem st11_C (c : Dev nD) (t : Fin cfg0.N) (acc) (h0 : ¬t.val % 16 = 0) (h1 : t.val % 16 = 15) :
    (stAt0 m c t.val t.isLt acc).2.2.2.2.2.1 = k0_pay15 (k0_pay13 acc.2.2.2.2.2.1) (bSq m c t) := by
  rw [stAt0_C m c t acc h0 h1]
  dsimp only
  unfold out0_C_11
  rw [View.read_writes_eq_canon _ _ _ (cover0_C_11 _ _ _ _ _ _ _ _ _ _ _ _ _ _ _ _ _ _ _ _ _ _ _ _ _ _ _ _ _ _ _ _ _ _ _ _ _ _ _ )]
  unfold kernelRun0_C
  dsimp only
  sl_unfold_words
  simp only [View.readAt_eq_ld, View.ld_unit_zero (S := S512x1024) hz, View.ld_unit_zero (S := S1x1024) hz,
    View.ld_unit_zero (S := S1x128) hz, Memref.IsWhole.read_unread]
  unfold bSq wTop wBot
  rw [View.canon_unit_zero hz]
  rfl

/-- What a middle point leaves in the weight's accumulator. -/
theorem sts_B (c : Dev nD) (t : Fin cfg0.N) (acc) (h0 : ¬t.val % 16 = 0) (h1 : ¬t.val % 16 = 15) :
    (stAt0 m c t.val t.isLt acc).2.2.2.2.2.2 = gwNext m c t acc.2.2.2.2.2.2 := by
  rw [stAt0_B m c t acc h0 h1]
  dsimp only
  unfold sout0_B_0
  rw [View.read_writes_eq_canon _ _ _ (scover0_B_0 _ _ _ _ _ _ _ _ _ _ _ _ _ _ _ _ _ _ _ _ _ _ _ _ _ _ _ _ _ _ _ _ _ _ _ _ _ _ _ )]
  unfold kernelRun0_B
  dsimp only
  sl_unfold_words
  simp only [View.readAt_eq_ld, View.ld_unit_zero (S := S512x1024) hz, View.ld_unit_zero (S := S1x1024) hz,
    View.ld_unit_zero (S := S1x128) hz, Memref.IsWhole.read_unread]
  rw [read_scratch]
  unfold gwNext bDoutB bRs bYh bEr wTop wBot
  rfl

/-- What a last point leaves in the weight's accumulator. -/
theorem sts_C (c : Dev nD) (t : Fin cfg0.N) (acc) (h0 : ¬t.val % 16 = 0) (h1 : t.val % 16 = 15) :
    (stAt0 m c t.val t.isLt acc).2.2.2.2.2.2 = gwNext m c t acc.2.2.2.2.2.2 := by
  rw [stAt0_C m c t acc h0 h1]
  dsimp only
  unfold sout0_C_0
  rw [View.read_writes_eq_canon _ _ _ (scover0_C_0 _ _ _ _ _ _ _ _ _ _ _ _ _ _ _ _ _ _ _ _ _ _ _ _ _ _ _ _ _ _ _ _ _ _ _ _ _ _ _ )]
  unfold kernelRun0_C
  dsimp only
  sl_unfold_words
  simp only [View.readAt_eq_ld, View.ld_unit_zero (S := S512x1024) hz, View.ld_unit_zero (S := S1x1024) hz,
    View.ld_unit_zero (S := S1x128) hz, Memref.IsWhole.read_unread]
  rw [read_scratch]
  unfold gwNext bDoutB bRs bYh bEr wTop wBot
  rfl

/-- What a last point leaves in the weight's gradient. -/
theorem st9_C (c : Dev nD) (t : Fin cfg0.N) (acc) (h0 : ¬t.val % 16 = 0) (h1 : t.val % 16 = 15) :
    (stAt0 m c t.val t.isLt acc).2.2.2.1 = k0_pay4 (gwNext m c t acc.2.2.2.2.2.2) := by
  rw [stAt0_C m c t acc h0 h1]
  dsimp only
  unfold out0_C_9
  rw [View.read_writes_eq_canon _ _ _ (cover0_C_9 _ _ _ _ _ _ _ _ _ _ _ _ _ _ _ _ _ _ _ _ _ _ _ _ _ _ _ _ _ _ _ _ _ _ _ _ _ _ _ )]
  unfold kernelRun0_C
  dsimp only
  sl_unfold_words
  simp only [View.readAt_eq_ld, View.ld_unit_zero (S := S512x1024) hz, View.ld_unit_zero (S := S1x1024) hz,
    View.ld_unit_zero (S := S1x128) hz, Memref.IsWhole.read_unread]
  rw [View.canon_unit_zero hz, read_scratch]
  refine congrArg k0_pay4 ?_
  rw [View.readCov_eq_canon']
  unfold gwNext bDoutB bRs bYh bEr wTop wBot
  have hi : ∀ j : S2048x1024.Idx,
      (Rect.unit (s := S2048x1024) ![0, 0] ![2048, 1024] inb_S2048x1024_S2048x1024_0_0).toLoadRect.idx j = j := fun j => by
    funext a
    apply Fin.ext
    refine (ValueKit.rect_emb_unit_val _ _ _ _ _).trans ?_
    fin_cases a <;> exact Nat.zero_add _
  funext j
  exact congrArg _ (hi j)

/-- What a first point leaves in the weight's accumulator. -/
theorem sts_A (c : Dev nD) (t : Fin cfg0.N) (acc) (h0 : t.val % 16 = 0) (h1 : ¬t.val % 16 = 15) :
    (stAt0 m c t.val t.isLt acc).2.2.2.2.2.2 = gwNext m c t k0_pay5 := by
  rw [stAt0_A m c t acc h0 h1]
  dsimp only
  unfold sout0_A_0
  rw [View.read_writes_eq_canon _ _ _ (scover0_A_0 _ _ _ _ _ _ _ _ _ _ _ _ _ _ _ _ _ _ _ _ _ _ _ _ _ _ _ _ _ _ _ _ _ _ _ _ )]
  unfold kernelRun0_A
  dsimp only
  sl_unfold_words
  simp only [View.readAt_eq_ld, View.ld_unit_zero (S := S512x1024) hz, View.ld_unit_zero (S := S1x1024) hz,
    View.ld_unit_zero (S := S1x128) hz, Memref.IsWhole.read_unread]
  funext y
  unfold gwNext
  rw [canon_halves, canon_halves]
  split
  · rw [View.readCov_eq_canon' _ [_]]
    rw [View.canon_unit_zero hz]
    unfold bDoutB bRs bYh bEr wTop wBot
    rfl
  · rw [View.readCov_cons_of_rows_disjoint _ 0 1024 (.inl (by decide)), View.readCov_eq_canon', View.canon_unit_zero hz]
    unfold bDoutB bRs bYh bEr wTop wBot
    rfl

end Cert.KernelIdeal.Out
-- ==== Proof.OutGf.lean ====
module

public import proofs.«01_k».proof.Proof.OutStep
public import Idealize.ShloMosaic.Lib.WritesUnit
public import Idealize.ShloMosaic.Lib.VecWindow

/-!
# One grid point's gradient of the norm's weight

The sixth output's block has eight rows. Row 0 carries the sum; rows 1 to 7 are zeroed at the first point and kept.
-/

@[expose] public section

set_option maxHeartbeats 4000000
set_option maxRecDepth 100000

namespace Cert.KernelIdeal.Out

open Cert.KernelIdeal Cert.KernelIdeal.Gen Cert.KernelIdeal.Value
open Idealize.ShloMosaic Idealize.ShloMosaic.TcCoe Idealize.SL.Sem

variable {F : FTy → Type} [FloatOps F]
variable (m : (ℓ : Loc nD τ sig) → Buf (Elt F) ℓ)

/-- Row 0 of an [8, 1024] block. -/
def row0 (v : Vec F S8x1024 .f32) : Vec F S1x1024 .f32 :=
  View.ld v (Rect.unit ![0, 0] ![1, 1024] inb_S8x1024_S1x1024_0_0)

/-- The carried gradient of the norm's weight after a point, from what it was before: row 0 is stepped. -/
noncomputable def gfNext (c : Dev nD) (t : Fin cfg0.N) (acc : Vec F S8x1024 .f32) : Vec F S8x1024 .f32 := fun y =>
  if (y 0).val = 0 then k0_pay17 (bYh m c t) (bEr m c t) (row0 acc) (ValueIdx.ix2 (n0 := 1) (n1 := 1024) 0 ⟨(y 1).val, ValueIdx.idx2_lt1 y⟩)
  else acc y

/-- The first point steps zeros. -/
theorem st10_A (c : Dev nD) (t : Fin cfg0.N) (acc) (h0 : t.val % 16 = 0) (h1 : ¬t.val % 16 = 15) :
    (stAt0 m c t.val t.isLt acc).2.2.2.2.1 = gfNext m c t k0_pay6 := by
  rw [stAt0_A m c t acc h0 h1]
  dsimp only
  unfold out0_A_10
  unfold kernelRun0_A
  dsimp only
  sl_unfold_words
  simp only [View.readAt_eq_ld, View.ld_unit_zero (S := S512x1024) hz, View.ld_unit_zero (S := S1x1024) hz,
    View.ld_unit_zero (S := S1x128) hz, Memref.IsWhole.read_unread]
  funext y
  have hy1 : (y 1).val < 1024 := ValueIdx.idx2_lt1 y
  unfold gfNext
  by_cases hy : (y 0).val = 0
  · rw [if_pos hy]
    refine (View.read_writes_cons_unit_of_mem _ _ _ _ _ y (ValueIdx.ix2 (n0 := 1) (n1 := 1024) 0 ⟨(y 1).val, hy1⟩) rfl (fun a => by
      fin_cases a
      · exact hy
      · exact (Nat.zero_add _).symm)).trans ?_
    unfold bYh bEr wTop wBot row0
    rw [View.readCov_eq_canon', View.canon_unit_zero hz]
    rfl
  · rw [if_neg hy]
    refine (View.read_writes_cons_unit_of_not_mem _ _ _ _ _ y rfl 0 (.inr (Nat.pos_of_ne_zero hy))).trans ?_
    rw [View.read_writes_eq_canon _ _ _ (fun y => ⟨_, List.mem_singleton_self _, by
      rw [Rect.mem_set_unit]; intro a; have := (y a).isLt; fin_cases a <;> exact ⟨Nat.zero_le _, by simpa using this⟩⟩),
      View.canon_unit_zero hz]

/-- A middle point steps what was carried. -/
theorem st10_B (c : Dev nD) (t : Fin cfg0.N) (acc) (h0 : ¬t.val % 16 = 0) (h1 : ¬t.val % 16 = 15) :
    (stAt0 m c t.val t.isLt acc).2.2.2.2.1 = gfNext m c t acc.2.2.2.2.1 := by
  rw [stAt0_B m c t acc h0 h1]
  dsimp only
  unfold out0_B_10
  unfold kernelRun0_B
  dsimp only
  sl_unfold_words
  simp only [View.readAt_eq_ld, View.ld_unit_zero (S := S512x1024) hz, View.ld_unit_zero (S := S1x1024) hz,
    View.ld_unit_zero (S := S1x128) hz, Memref.IsWhole.read_unread]
  funext y
  have hy1 : (y 1).val < 1024 := ValueIdx.idx2_lt1 y
  unfold gfNext
  by_cases hy : (y 0).val = 0
  · rw [if_pos hy]
    refine (View.read_writes_cons_unit_of_mem _ _ _ _ _ y (ValueIdx.ix2 (n0 := 1) (n1 := 1024) 0 ⟨(y 1).val, hy1⟩) rfl (fun a => by
      fin_cases a
      · exact hy
      · exact (Nat.zero_add _).symm)).trans ?_
    unfold bYh bEr wTop wBot row0
    rfl
  · rw [if_neg hy]
    refine (View.read_writes_cons_unit_of_not_mem _ _ _ _ _ y rfl 0 (.inr (Nat.pos_of_ne_zero hy))).trans ?_
    rw [View.writes_nil, Memref.IsWhole.read_unread]

/-- The last point steps what was carried. -/
theorem st10_C (c : Dev nD) (t : Fin cfg0.N) (acc) (h0 : ¬t.val % 16 = 0) (h1 : t.val % 16 = 15) :
    (stAt0 m c t.val t.isLt acc).2.2.2.2.1 = gfNext m c t acc.2.2.2.2.1 := by
  rw [stAt0_C m c t acc h0 h1]
  dsimp only
  unfold out0_C_10
  unfold kernelRun0_C
  dsimp only
  sl_unfold_words
  simp only [View.readAt_eq_ld, View.ld_unit_zero (S := S512x1024) hz, View.ld_unit_zero (S := S1x1024) hz,
    View.ld_unit_zero (S := S1x128) hz, Memref.IsWhole.read_unread]
  funext y
  have hy1 : (y 1).val < 1024 := ValueIdx.idx2_lt1 y
  unfold gfNext
  by_cases hy : (y 0).val = 0
  · rw [if_pos hy]
    refine (View.read_writes_cons_unit_of_mem _ _ _ _ _ y (ValueIdx.ix2 (n0 := 1) (n1 := 1024) 0 ⟨(y 1).val, hy1⟩) rfl (fun a => by
      fin_cases a
      · exact hy
      · exact (Nat.zero_add _).symm)).trans ?_
    unfold bYh bEr wTop wBot row0
    rfl
  · rw [if_neg hy]
    refine (View.read_writes_cons_unit_of_not_mem _ _ _ _ _ y rfl 0 (.inr (Nat.pos_of_ne_zero hy))).trans ?_
    rw [View.writes_nil, Memref.IsWhole.read_unread]

end Cert.KernelIdeal.Out
-- ==== Proof.OutMath.lean ====
module

public import Idealize.ShloMosaic.PureOps.Ideal
public import Idealize.ShloMosaic.PureOps.Ideal.Laws

/-!
# The arithmetic of the output layer's gradient, one row at a time

A row of the residual stream after the output projection is `o`, the norm's weight is `fw` and the target row is `tg`.
Everything the kernel writes is a function of these rows, and so is everything the reference writes. This module states
both in plain formulas over the extended reals and proves them equal, without any condition on the entries: the
reciprocal root of the mean square is either a positive real number, and then the whole row is finite, or zero, and
then both gradients are zero.
-/

@[expose] public section

namespace Cert.OutMath

open Idealize.ShloMosaic

variable {n : ℕ}

/-- A nonnegative real number distributes over a sum of extended reals. -/
theorem coe_mul_add {r : ℝ} (hr : 0 ≤ r) (a b : EReal) : (r : EReal) * (a + b) = r * a + r * b :=
  EReal.left_distrib_of_nonneg_of_ne_top (EReal.coe_nonneg.mpr hr) (EReal.coe_ne_top r) a b

/-- A nonnegative real number distributes over a finite sum of extended reals. -/
theorem coe_mul_sum {r : ℝ} (hr : 0 ≤ r) {ι : Type*} (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add hr, ih]

/-- Twice the product with a real number, as a sum, is the product with twice the number. -/
theorem mul_coe_add_self (S : EReal) (c : ℝ) : S * (c : EReal) + S * (c : EReal) = S * ((2 * c : ℝ) : EReal) := by
  induction S with
  | coe s => norm_cast; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- A square is nonnegative. -/
theorem sq_nonneg (x : EReal) : 0 ≤ x * x := by
  induction x with
  | coe s => norm_cast; exact mul_self_nonneg s
  | top => simp
  | bot => simp

/-- A row whose squares have a finite sum is a row of real numbers. -/
theorem real_of_sum_sq (o : Fin n → EReal) (h : ∑ k, o k * o k ≠ ⊤) : ∃ a : Fin n → ℝ, o = fun k => (a k : EReal) := by
  have hk : ∀ k, ∃ a : ℝ, o k = a := by
    intro k
    have hle : o k * o k ≤ ∑ k, o k * o k := Finset.single_le_sum (f := fun k => o k * o k) (fun i _ => sq_nonneg _) (Finset.mem_univ k)
    have hlt : o k * o k ≠ ⊤ := fun e => h (top_le_iff.mp (e ▸ hle))
    revert hlt
    induction o k with
    | coe s => exact fun _ => ⟨s, rfl⟩
    | top => simp
    | bot => simp
  choose a ha using hk
  exact ⟨a, funext ha⟩

/-- The sum of the squares of a real row, taken in the extended reals, is the real sum. -/
theorem sum_sq_coe (a : Fin n → ℝ) : ∑ k, (a k : EReal) * (a k : EReal) = ((∑ k, a k * a k : ℝ) : EReal) := by
  have h : ∀ s : Finset (Fin n), ∑ k ∈ s, (a k : EReal) * (a k : EReal) = ((∑ k ∈ s, a k * a k : ℝ) : EReal) := by
    classical
    intro s
    induction s using Finset.induction_on with
    | empty => simp
    | insert x s hx ih => rw [Finset.sum_insert hx, Finset.sum_insert hx, ih, EReal.coe_add, EReal.coe_mul]
  exact h _

/-- Division by a positive real, as the product with its reciprocal. -/
theorem div_pos_coe {y : ℝ} (h : 0 < y) (x : EReal) : Ideal.div x (y : EReal) = x * ((1 / y : ℝ) : EReal) :=
  Ideal.div_coe h.ne' x

/-- Zero divided by `⊤`. -/
theorem zero_div_top : Ideal.div 0 ⊤ = 0 := by simp [Ideal.div]

section Row

variable (eps : ℝ) (o fw tg : Fin 1024 → EReal)

/-- The mean square of a row plus the norm's small constant. -/
noncomputable def var : EReal := Ideal.div (∑ k, o k * o k) ((1024 : ℝ) : EReal) + (eps : EReal)

/-- The row's reciprocal root mean square. -/
noncomputable def rs : EReal := Ideal.rsqrt (var eps o)

/-- The normalised row. -/
noncomputable def yh (k : Fin 1024) : EReal := o k * rs eps o

/-- The error of the scaled normalised row against the target. -/
noncomputable def er (k : Fin 1024) : EReal := yh eps o k * fw k - tg k

/-- The loss's derivative in the scaled normalised row, as the kernel writes it. -/
noncomputable def ct (k : Fin 1024) : EReal := er eps o fw tg k * ((1 / 1024 : ℝ) : EReal)

/-- The derivative in the normalised row. -/
noncomputable def dy (k : Fin 1024) : EReal := ct eps o fw tg k * fw k

/-- The derivative in the row before the norm, as the kernel writes it. -/
noncomputable def dout (k : Fin 1024) : EReal :=
  rs eps o * (dy eps o fw tg k - yh eps o k * Ideal.div (∑ j, dy eps o fw tg j * yh eps o j) ((1024 : ℝ) : EReal))

/-- The factor of the row in the reference's derivative through the mean square. -/
noncomputable def qref (d : Fin 1024 → EReal) : EReal :=
  Ideal.div ((∑ j, o j * d j) * (((-(1 / 2) : ℝ) : EReal) * Ideal.div (rs eps o) (var eps o))) ((1024 : ℝ) : EReal)

/-- The derivative in the row before the norm, as reverse-mode differentiation of the reference writes it. -/
noncomputable def doutRef (d : Fin 1024 → EReal) (k : Fin 1024) : EReal :=
  (d k * rs eps o + o k * qref eps o d) + qref eps o d * o k

/-- The loss's derivative as the reference writes it. -/
theorem ct_ref (e : EReal) :
    Ideal.div (((1 / 2 : ℝ) : EReal) * ((1 : ℝ) : EReal)) ((1024 : ℝ) : EReal) * (((2 : ℝ) : EReal) * e)
      = e * ((1 / 1024 : ℝ) : EReal) := by
  rw [div_pos_coe (by norm_num), ← EReal.coe_mul, ← EReal.coe_mul, ← mul_assoc, ← EReal.coe_mul, mul_comm]
  norm_num

/-- The mean square plus a positive constant is `⊤` or a positive real, and in the second case the row is real. -/
theorem var_cases (heps : 0 < eps) :
    var eps o = ⊤ ∨ ∃ (v : ℝ) (a : Fin 1024 → ℝ), 0 < v ∧ var eps o = v ∧ o = fun k => (a k : EReal) := by
  by_cases h : ∑ k, o k * o k = ⊤
  · left
    unfold var
    rw [h, div_pos_coe (by norm_num), EReal.top_mul_coe_of_pos (by norm_num), EReal.top_add_coe]
  · right
    obtain ⟨a, rfl⟩ := real_of_sum_sq o h
    refine ⟨(∑ k, a k * a k) * (1 / 1024) + eps, a, ?_, ?_, rfl⟩
    · have : 0 ≤ ∑ k, a k * a k := Finset.sum_nonneg fun k _ => mul_self_nonneg (a k)
      positivity
    · unfold var
      rw [div_pos_coe (by norm_num), EReal.coe_add, EReal.coe_mul]
      rw [← sum_sq_coe]

/-- **The gradient of the norm as the kernel writes it is the reference's**, for every row of derivatives. -/
theorem norm_grad_eq (heps : 0 < eps) (d : Fin 1024 → EReal) (k : Fin 1024) :
    rs eps o * (d k - yh eps o k * Ideal.div (∑ j, d j * yh eps o j) ((1024 : ℝ) : EReal)) = doutRef eps o d k := by
  rcases var_cases eps o heps with hv | ⟨v, a, hv0, hv, ha⟩
  · have hr : rs eps o = 0 := by unfold rs; rw [hv]; rfl
    have hq : qref eps o d = 0 := by
      unfold qref
      rw [hr, hv, zero_div_top, mul_zero, mul_zero, div_pos_coe (by norm_num), zero_mul]
    unfold doutRef
    rw [hq, hr]; simp
  · set r : ℝ := (Real.sqrt v)⁻¹ with hrdef
    have hr0 : 0 < r := inv_pos.mpr (Real.sqrt_pos.mpr hv0)
    have hrr : r * r * v = 1 := by
      rw [hrdef, ← mul_inv, Real.mul_self_sqrt hv0.le]; field_simp
    have hr : rs eps o = (r : EReal) := by
      unfold rs
      rw [hv, Ideal.rsqrt_coe, if_neg (not_lt.mpr hv0.le), if_neg hv0.ne']
    have hok : ∀ j, o j = (a j : EReal) := fun j => congrFun ha j
    have hsum : ∑ j, d j * yh eps o j = (r : EReal) * ∑ j, o j * d j := by
      rw [coe_mul_sum hr0.le]
      refine Finset.sum_congr rfl fun j _ => ?_
      unfold yh; rw [hr, mul_comm (d j), mul_comm (o j) (r : EReal), mul_assoc]
    unfold doutRef qref
    rw [hsum, hr, hv]
    generalize ∑ j, o j * d j = S
    unfold yh
    rw [hr, hok k, div_pos_coe (by norm_num), div_pos_coe hv0, div_pos_coe (by norm_num)]
    rw [sub_eq_add_neg, coe_mul_add hr0.le]
    have h1 : (a k : EReal) * (S * (((-(1 / 2) : ℝ) : EReal) * ((r : EReal) * ((1 / v : ℝ) : EReal))) * ((1 / 1024 : ℝ) : EReal))
        = S * ((a k * (-(1 / 2) * (r * (1 / v)) * (1 / 1024)) : ℝ) : EReal) := by
      simp only [EReal.coe_mul]; ac_rfl
    have h2 : (r : EReal) * -((a k : EReal) * (r : EReal) * ((r : EReal) * S * ((1 / 1024 : ℝ) : EReal)))
        = S * ((-(a k * r * r * r * (1 / 1024)) : ℝ) : EReal) := by
      rw [mul_neg, EReal.coe_neg, mul_neg]
      simp only [EReal.coe_mul]
      congr 1; ac_rfl
    rw [mul_comm (S * (((-(1 / 2) : ℝ) : EReal) * ((r : EReal) * ((1 / v : ℝ) : EReal))) * ((1 / 1024 : ℝ) : EReal)) (a k : EReal),
      h1, h2, add_assoc, mul_coe_add_self, mul_comm (d k)]
    congr 3
    have hv' : 1 / v = r * r := by rw [div_eq_iff hv0.ne']; exact hrr.symm
    rw [hv']; ring

/-- **The two gradients of the norm agree**, on every row of extended reals. -/
theorem dout_eq (heps : 0 < eps) (k : Fin 1024) :
    dout eps o fw tg k = doutRef eps o (dy eps o fw tg) k := norm_grad_eq eps o heps _ k

end Row

end Cert.OutMath
-- ==== Proof.OutPay.lean ====
module

public import proofs.«01_k».proof.Proof.OutGf
public import proofs.«01_k».proof.Proof.OutMath
public import Idealize.ShloMosaic.Lib.Pointwise

/-!
# What the output layer's kernel computes at one grid point, entry by entry

Each of the body's stored blocks, read at one row and column over the extended reals, as sums and products of the
entries of the blocks it was made from.
-/

@[expose] public section

set_option maxRecDepth 100000

namespace Cert.KernelIdeal.Out

open Cert.KernelIdeal Cert.KernelIdeal.Gen Cert.KernelIdeal.Value
open Idealize.ShloMosaic Idealize.ShloMosaic.TcCoe Idealize.SL.Sem

/-- The width of a row. -/
noncomputable abbrev cD : EReal := Ideal.ofBits FTy.f32 1149239296#32
/-- The norm's epsilon. -/
noncomputable abbrev cEps : EReal := Ideal.ofBits FTy.f32 897988541#32
/-- One over the width of a row. -/
noncomputable abbrev cInv : EReal := Ideal.ofBits FTy.f32 981467136#32
/-- One half. -/
noncomputable abbrev cHalf : EReal := Ideal.ofBits FTy.f32 1056964608#32

section
variable (v3 v4 : Vec Ideal S512x1024 .bf16) (v5 : Vec Ideal S512x1024 .f32) (v6 v10 : Vec Ideal S1024x1024 .bf16)
  (v24 : Vec Ideal S1x1024 .f32) (v28 : Vec Ideal S512x1024 .f32)

/-- The hidden row: residual plus the two projections. -/
theorem pay8_apply (r : Fin 512) (k : Fin 1024) : k0_pay8 v3 v4 v5 v6 v10 (ix2 r k) = v5 (ix2 r k) + ∑ x, v3 (ix2 r x) * v6 (ix2 x k) + ∑ x, v4 (ix2 r x) * v10 (ix2 x k) := by
  pointwise [k0_pay8]
/-- The reciprocal root mean square of a row. -/
theorem pay9_apply (r : Fin 512) (k : Fin 1) : k0_pay9 v3 v4 v5 v6 v10 (ix2 r k) = Ideal.rsqrt (Ideal.div (∑ x, k0_pay8 v3 v4 v5 v6 v10 (ix2 r x) * k0_pay8 v3 v4 v5 v6 v10 (ix2 r x)) cD + cEps) := by
  pointwise [k0_pay9]
/-- The normalised row. -/
theorem pay10_apply (r : Fin 512) (k : Fin 1024) : k0_pay10 v3 v4 v5 v6 v10 (ix2 r k) = k0_pay8 v3 v4 v5 v6 v10 (ix2 r k) * k0_pay9 v3 v4 v5 v6 v10 (ix2 r 0) := by
  pointwise [k0_pay10]
/-- The error of a row. -/
theorem pay12_apply (r : Fin 512) (k : Fin 1024) : k0_pay12 v3 v4 v5 v6 v10 v24 v28 (ix2 r k) = k0_pay10 v3 v4 v5 v6 v10 (ix2 r k) * v24 (ix2 0 k) - v28 (ix2 r k) := by
  pointwise [k0_pay12, k0_pay11]
/-- The squared error of a row. -/
theorem pay14_apply (r : Fin 512) : k0_pay14 v3 v4 v5 v6 v10 v24 v28 (ix1 r) = ∑ x, k0_pay12 v3 v4 v5 v6 v10 v24 v28 (ix2 r x) * k0_pay12 v3 v4 v5 v6 v10 v24 v28 (ix2 r x) := by
  pointwise [k0_pay14]
/-- The loss so far plus the point's. -/
theorem pay15_apply (a b) (k : Fin 128) : k0_pay15 (F := Ideal) (k0_pay13 a) b (ix2 0 k) = a (ix2 0 k) + cHalf * ∑ x, b (ix1 x) * cInv := by
  pointwise [k0_pay15, k0_pay13]
/-- The gradient of the norm's weight so far plus the point's. -/
theorem pay17_apply (a b v) (k : Fin 1024) : k0_pay17 (F := Ideal) a b v (ix2 0 k) = v (ix2 0 k) + ∑ x, b (ix2 x k) * cInv * a (ix2 x k) := by
  pointwise [k0_pay17, k0_pay16]
/-- The gradient of the hidden row. -/
theorem pay18_apply (a b v d) (r : Fin 512) (k : Fin 1024) : k0_pay18 (F := Ideal) a b (k0_pay11 v) d (ix2 r k) = a (ix2 r 0) * (d (ix2 r k) * cInv * v (ix2 0 k) - b (ix2 r k) * Ideal.div (∑ x, d (ix2 r x) * cInv * v (ix2 0 x) * b (ix2 r x)) cD) := by
  pointwise [k0_pay18, k0_pay16, k0_pay11]
/-- The rounded gradient is the gradient. -/
theorem pay19_apply (a b v d) (r : Fin 512) (k : Fin 1024) : k0_pay19 (F := Ideal) a b v d (ix2 r k) = k0_pay18 a b v d (ix2 r k) := by
  pointwise [k0_pay19]
/-- The gradient of the first mixer's output. -/
theorem pay20_apply (a b v d w) (r : Fin 512) (k : Fin 1024) : k0_pay20 (F := Ideal) a b v d w (ix2 r k) = ∑ x, k0_pay18 a b v d (ix2 r x) * w (ix2 k x) := by
  pointwise [k0_pay20, k0_pay19]
/-- The gradient of the second mixer's output. -/
theorem pay1_apply (a b) (r : Fin 512) (k : Fin 1024) : k0_pay1 (F := Ideal) a b (ix2 r k) = ∑ x, a (ix2 r x) * b (ix2 k x) := by
  pointwise [k0_pay1]
/-- The upper half of the weight gradient so far plus the point's. -/
theorem pay2_apply (a b v) (r : Fin 1024) (k : Fin 1024) : k0_pay2 (F := Ideal) a b v (ix2 r k) = v (ix2 r k) + ∑ x, a (ix2 x r) * b (ix2 x k) := by
  pointwise [k0_pay2]
/-- The lower half of the weight gradient so far plus the point's. -/
theorem pay3_apply (a b v) (r : Fin 1024) (k : Fin 1024) : k0_pay3 (F := Ideal) a b v (ix2 r k) = v (ix2 r k) + ∑ x, a (ix2 x r) * b (ix2 x k) := by
  pointwise [k0_pay3]
/-- The written weight gradient is the carried one. -/
theorem pay4_apply (a) (r : Fin 2048) (k : Fin 1024) : k0_pay4 (F := Ideal) a (ix2 r k) = a (ix2 r k) := by
  pointwise [k0_pay4]
/-- The weight gradient begins at zero. -/
theorem pay5_apply (r : Fin 2048) (k : Fin 1024) : k0_pay5 (F := Ideal) (ix2 r k) = 0 := by
  pointwise [k0_pay5]
/-- The gradient of the norm's weight begins at zero. -/
theorem pay6_apply (r : Fin 8) (k : Fin 1024) : k0_pay6 (F := Ideal) (ix2 r k) = 0 := by
  pointwise [k0_pay6]
/-- The loss begins at zero. -/
theorem pay7_apply (r : Fin 1) (k : Fin 128) : k0_pay7 (F := Ideal) (ix2 r k) = 0 := by
  pointwise [k0_pay7]
end

end Cert.KernelIdeal.Out
-- ==== Proof.OutModel.lean ====
module

public import proofs.«01_k».proof.Proof.OutMath
public import Idealize.ShloMosaic.Lib.ValueIdx

/-!
# The six results of the output layer's gradient, as formulas

The arguments are plain functions of row and column. Both programs are read down to these formulas.
-/

@[expose] public section

namespace Cert.OutMath

open Idealize.ShloMosaic

/-- The norm's epsilon as a real number. -/
noncomputable def epsR : ℝ := 8796093 / 8796093022208

/-- The norm's epsilon is positive. -/
theorem epsR_pos : 0 < epsR := by unfold epsR; norm_num

/-! The words of the constants, as numbers. -/

theorem word_1024 : Ideal.ofBits FTy.f32 1149239296#32 = ((1024 : ℝ) : EReal) := by
  simp [Ideal.ofBits, Ideal.ieee, -EReal.coe_mul]; norm_num
/-- The word of 1/1024. -/
theorem word_inv : Ideal.ofBits FTy.f32 981467136#32 = ((1 / 1024 : ℝ) : EReal) := by
  simp [Ideal.ofBits, Ideal.ieee, -EReal.coe_mul]; norm_num
/-- The word of 1/2. -/
theorem word_half : Ideal.ofBits FTy.f32 1056964608#32 = ((1 / 2 : ℝ) : EReal) := by
  simp [Ideal.ofBits, Ideal.ieee, -EReal.coe_mul]; norm_num
/-- The word of -1/2. -/
theorem word_neg_half : Ideal.ofBits FTy.f32 3204448256#32 = ((-(1 / 2) : ℝ) : EReal) := by
  simp [Ideal.ofBits, Ideal.ieee, -EReal.coe_mul]; norm_num
/-- The word of 2. -/
theorem word_two : Ideal.ofBits FTy.f32 1073741824#32 = ((2 : ℝ) : EReal) := by
  simp [Ideal.ofBits, Ideal.ieee, -EReal.coe_mul]; norm_num
/-- The word of the norm's epsilon. -/
theorem word_eps : Ideal.ofBits FTy.f32 897988541#32 = (epsR : EReal) := by
  unfold epsR; simp [Ideal.ofBits, Ideal.ieee, -EReal.coe_mul]; norm_num

/-- A row number of the upper half of the weight. -/
def lo (j : Fin 1024) : Fin 2048 := ⟨j.val, by omega⟩

/-- A row number of the lower half of the weight. -/
def hi (j : Fin 1024) : Fin 2048 := ⟨1024 + j.val, by omega⟩

section Model
variable (eps : ℝ) (x tg ys yg : Fin 8192 → Fin 1024 → EReal) (w : Fin 2048 → Fin 1024 → EReal) (fw : Fin 1024 → EReal)

/-- The hidden row: residual plus both projections. -/
noncomputable def hid (r : Fin 8192) (k : Fin 1024) : EReal :=
  x r k + ∑ j, ys r j * w (lo j) k + ∑ j, yg r j * w (hi j) k

/-- The gradient of the hidden row, which is that of the residual. -/
noncomputable def oDx (r : Fin 8192) (k : Fin 1024) : EReal := dout eps (hid x ys yg w r) fw (tg r) k

/-- The gradient of the first mixer's output. -/
noncomputable def oDys (r : Fin 8192) (k : Fin 1024) : EReal := ∑ j, oDx eps x tg ys yg w fw r j * w (lo k) j

/-- The gradient of the second mixer's output. -/
noncomputable def oDyg (r : Fin 8192) (k : Fin 1024) : EReal := ∑ j, oDx eps x tg ys yg w fw r j * w (hi k) j

/-- The gradient of the weight's upper half. -/
noncomputable def oGwLo (j k : Fin 1024) : EReal := ∑ r, ys r j * oDx eps x tg ys yg w fw r k

/-- The gradient of the weight's lower half. -/
noncomputable def oGwHi (j k : Fin 1024) : EReal := ∑ r, yg r j * oDx eps x tg ys yg w fw r k

/-- The gradient of the norm's weight. -/
noncomputable def oGf (k : Fin 1024) : EReal :=
  ∑ r, ct eps (hid x ys yg w r) fw (tg r) k * yh eps (hid x ys yg w r) k

/-- The squared error of a row. -/
noncomputable def sqr (r : Fin 8192) : EReal :=
  ∑ k, er eps (hid x ys yg w r) fw (tg r) k * er eps (hid x ys yg w r) fw (tg r) k

/-- The loss. -/
noncomputable def oLoss : EReal := ((1 / 2 : ℝ) : EReal) * ∑ r, sqr eps x tg ys yg w fw r * ((1 / 1024 : ℝ) : EReal)

end Model

/-- The row `r` of the `n`-th block of 512. -/
def rowOf (n : ℕ) (hn : n < 16) (r : Fin 512) : Fin 8192 := ⟨512 * n + r.val, by omega⟩

/-- The sum of a function of the rows over the `n`-th block of 512, zero past the last block. -/
noncomputable def blockSum (f : Fin 8192 → EReal) (n : ℕ) : EReal := if h : n < 16 then ∑ r, f (rowOf n h r) else 0

/-- The sums over the sixteen blocks add up to the sum over all rows. -/
theorem sum_blockSum (f : Fin 8192 → EReal) : ∑ n ∈ Finset.range 16, blockSum f n = ∑ r, f r := by
  rw [Finset.sum_range]
  have h : ∀ n : Fin 16, blockSum f n.val = ∑ r : Fin 512, f (rowOf n.val n.isLt r) := fun n => dif_pos n.isLt
  rw [Finset.sum_congr rfl fun n _ => h n, ← Fintype.sum_prod_type']
  refine Fintype.sum_equiv (finProdFinEquiv (m := 16) (n := 512)) _ _ fun p => ?_
  refine congrArg f (Fin.ext ?_)
  show 512 * p.1.val + p.2.val = p.2.val + 512 * p.1.val
  omega

end Cert.OutMath
-- ==== Proof.OutBlocks.lean ====
module

public import proofs.«01_k».proof.Proof.OutPay
public import proofs.«01_k».proof.Proof.OutModel

/-!
# The blocks a grid point reads, entry by entry

Point `t` reads rows `512 t` to `512 t + 511` of the four row arrays, and the whole of the weight and the norm's
weight. Over the extended reals the rounded weight is the weight.
-/

@[expose] public section

set_option maxRecDepth 100000

namespace Cert.KernelIdeal.Out

open Cert.KernelIdeal Cert.KernelIdeal.Gen Cert.KernelIdeal.Value Cert.OutMath
open Idealize.ShloMosaic Idealize.ShloMosaic.TcCoe Idealize.SL.Sem

variable (m : (ℓ : Loc nD τ sig) → Buf (Elt Ideal) ℓ) (c : Dev nD)

/-- The residual stream. -/
def aX (r : Fin 8192) (k : Fin 1024) : EReal := (m ((c : Thread nD τ).loc main_arg0) : S8192x1024.Idx → EReal) (ix2 r k)
/-- The target. -/
def aT (r : Fin 8192) (k : Fin 1024) : EReal := (m ((c : Thread nD τ).loc main_arg1) : S8192x1024.Idx → EReal) (ix2 r k)
/-- The first mixer's output. -/
def aS (r : Fin 8192) (k : Fin 1024) : EReal := (m ((c : Thread nD τ).loc main_arg2) : S8192x1024.Idx → EReal) (ix2 r k)
/-- The second mixer's output. -/
def aG (r : Fin 8192) (k : Fin 1024) : EReal := (m ((c : Thread nD τ).loc main_arg3) : S8192x1024.Idx → EReal) (ix2 r k)
/-- The weight. -/
def aW (r : Fin 2048) (k : Fin 1024) : EReal := (m ((c : Thread nD τ).loc main_arg4) : S2048x1024.Idx → EReal) (ix2 r k)
/-- The norm's weight. -/
def aF (k : Fin 1024) : EReal := (m ((c : Thread nD τ).loc main_arg5) : S1024.Idx → EReal) (ix1 k)

/-- The grid has sixteen points. -/
theorem tlt (t : Fin cfg0.N) : t.val < 16 := lt_of_lt_of_eq t.isLt N_0

/-- The block of `x` at point `t` is the `t`-th band of rows. -/
theorem idx0 : ∀ t : Fin cfg0.N, win0_0.index t (0 : Fin 2) = t.val ∧ win0_0.index t (1 : Fin 2) = 0 := by decide
/-- The block of the target at point `t` is the `t`-th band of rows. -/
theorem idx1 : ∀ t : Fin cfg0.N, win0_1.index t (0 : Fin 2) = t.val ∧ win0_1.index t (1 : Fin 2) = 0 := by decide
/-- The block of the first mixer at point `t` is the `t`-th band of rows. -/
theorem idx2 : ∀ t : Fin cfg0.N, win0_2.index t (0 : Fin 2) = t.val ∧ win0_2.index t (1 : Fin 2) = 0 := by decide
/-- The block of the second mixer at point `t` is the `t`-th band of rows. -/
theorem idx3 : ∀ t : Fin cfg0.N, win0_3.index t (0 : Fin 2) = t.val ∧ win0_3.index t (1 : Fin 2) = 0 := by decide
/-- The weight of the projection is one block. -/
theorem idx4 : ∀ t : Fin cfg0.N, win0_4.index t (0 : Fin 2) = 0 ∧ win0_4.index t (1 : Fin 2) = 0 := by decide
/-- The weight of the norm is one block. -/
theorem idx5 : ∀ t : Fin cfg0.N, win0_5.index t (0 : Fin 2) = 0 ∧ win0_5.index t (1 : Fin 2) = 0 := by decide

/-- The block of the residual stream. -/
theorem blk0 (t : Fin cfg0.N) (r : Fin 512) (k : Fin 1024) :
    (iblk m c 0 t : Vec Ideal S512x1024 .f32) (ix2 r k) = aX m c (rowOf t.val (tlt t) r) k := by
  have hi := idx0 t
  unfold iblk aX
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 1024 + 1 * k.val = k.val; rw [hi.2]; omega

/-- The block of the target. -/
theorem blk1 (t : Fin cfg0.N) (r : Fin 512) (k : Fin 1024) :
    (iblk m c 1 t : Vec Ideal S512x1024 .f32) (ix2 r k) = aT m c (rowOf t.val (tlt t) r) k := by
  have hi := idx1 t
  unfold iblk aT
  rw [View.read_apply]
  show V m c main_arg1 _ = m (c.tc.loc main_arg1) _
  rw [V_main_arg1]
  congr 1
  funext a
  apply Fin.ext
  match a with
  | ⟨0, _⟩ => show win0_1.index t 0 * 512 + 1 * r.val = 512 * t.val + r.val; rw [hi.1]; omega
  | ⟨1, _⟩ => show win0_1.index t 1 * 1024 + 1 * k.val = k.val; rw [hi.2]; omega

/-- The block of the first mixer's output. -/
theorem blk2 (t : Fin cfg0.N) (r : Fin 512) (k : Fin 1024) :
    (iblk m c 2 t : Vec Ideal S512x1024 .bf16) (ix2 r k) = aS m c (rowOf t.val (tlt t) r) k := by
  have hi := idx2 t
  unfold iblk aS
  rw [View.read_apply]
  show V m c main_arg2 _ = m (c.tc.loc main_arg2) _
  rw [V_main_arg2]
  congr 1
  funext a
  apply Fin.ext
  match a with
  | ⟨0, _⟩ => show win0_2.index t 0 * 512 + 1 * r.val = 512 * t.val + r.val; rw [hi.1]; omega
  | ⟨1, _⟩ => show win0_2.index t 1 * 1024 + 1 * k.val = k.val; rw [hi.2]; omega

/-- The block of the second mixer's output. -/
theorem blk3 (t : Fin cfg0.N) (r : Fin 512) (k : Fin 1024) :
    (iblk m c 3 t : Vec Ideal S512x1024 .bf16) (ix2 r k) = aG m c (rowOf t.val (tlt t) r) k := by
  have hi := idx3 t
  unfold iblk aG
  rw [View.read_apply]
  show V m c main_arg3 _ = m (c.tc.loc main_arg3) _
  rw [V_main_arg3]
  congr 1
  funext a
  apply Fin.ext
  match a with
  | ⟨0, _⟩ => show win0_3.index t 0 * 512 + 1 * r.val = 512 * t.val + r.val; rw [hi.1]; omega
  | ⟨1, _⟩ => show win0_3.index t 1 * 1024 + 1 * k.val = k.val; rw [hi.2]; omega

/-- The rounded weight, as the host leaves it, is the weight. -/
theorem V_v0 (i : S2048x1024.Idx) :
    (V m c main_v0 : S2048x1024.Idx → EReal) i = (m ((c : Thread nD τ).loc main_arg4) : S2048x1024.Idx → EReal) i := by
  unfold V
  show (StableHlo.after hostOps0 (fun b => m (c, b)) (Proc.devRef .tc main_v0) : S2048x1024.Idx → EReal) i = _
  rw [StableHlo.after_cons, StableHlo.after_cons, StableHlo.after_nil,
    StableHlo.reshape_result_ne (y := main_v1) (h := by decide), StableHlo.unary_result]
  rfl

/-- The norm's weight as the host lays it out, one row. -/
theorem V_v1 (k : Fin 1024) :
    (V m c main_v1 : S1x1024.Idx → EReal) (ix2 0 k) = aF m c k := by
  unfold V
  show (StableHlo.after hostOps0 (fun b => m (c, b)) (Proc.devRef .tc main_v1) : S1x1024.Idx → EReal) (ix2 0 k) = _
  rw [StableHlo.after_cons, StableHlo.after_cons, StableHlo.after_nil, StableHlo.reshape_result]
  show shapeCast S1x1024 (m ((c : Thread nD τ).loc main_arg5) : S1024.Idx → EReal) shapeCasts_S1024_S1x1024 (ix2 0 k) = _
  unfold aF
  pointwise []

/-- The block of the weight. -/
theorem blk4 (t : Fin cfg0.N) (r : Fin 2048) (k : Fin 1024) :
    (iblk m c 4 t : Vec Ideal S2048x1024 .bf16) (ix2 r k) = aW m c r k := by
  have hi := idx4 t
  unfold iblk aW
  rw [View.read_apply]
  show (V m c main_v0 : S2048x1024.Idx → EReal) _ = _
  rw [V_v0]
  congr 1
  funext a
  apply Fin.ext
  match a with
  | ⟨0, _⟩ => show win0_4.index t 0 * 2048 + 1 * r.val = r.val; rw [hi.1]; omega
  | ⟨1, _⟩ => show win0_4.index t 1 * 1024 + 1 * k.val = k.val; rw [hi.2]; omega

/-- The block of the norm's weight. -/
theorem blk5 (t : Fin cfg0.N) (k : Fin 1024) :
    (iblk m c 5 t : Vec Ideal S1x1024 .f32) (ix2 0 k) = aF m c k := by
  have hi := idx5 t
  rw [← V_v1]
  unfold iblk
  rw [View.read_apply]
  show (V m c main_v1 : S1x1024.Idx → EReal) _ = _
  congr 1
  funext a
  apply Fin.ext
  match a with
  | ⟨0, _⟩ => show win0_5.index t 0 * 1 + 1 * 0 = 0; rw [hi.1]
  | ⟨1, _⟩ => show win0_5.index t 1 * 1024 + 1 * k.val = k.val; rw [hi.2]; omega

/-- The upper half of the weight. -/
theorem wTop_apply (t : Fin cfg0.N) (r k : Fin 1024) : wTop m c t (ix2 r k) = aW m c (lo r) k := by
  rw [← blk4 m c t]
  unfold wTop View.ld
  refine congrArg (iblk m c 4 t : Vec Ideal S2048x1024 .bf16) ?_
  funext a
  apply Fin.ext
  match a with
  | ⟨0, _⟩ => show 0 + 1 * r.val = r.val; omega
  | ⟨1, _⟩ => show 0 + 1 * k.val = k.val; omega

/-- The lower half of the weight. -/
theorem wBot_apply (t : Fin cfg0.N) (r k : Fin 1024) : wBot m c t (ix2 r k) = aW m c (hi r) k := by
  rw [← blk4 m c t]
  unfold wBot View.ld
  refine congrArg (iblk m c 4 t : Vec Ideal S2048x1024 .bf16) ?_
  funext a
  apply Fin.ext
  match a with
  | ⟨0, _⟩ => show 1024 + 1 * r.val = 1024 + r.val; omega
  | ⟨1, _⟩ => show 0 + 1 * k.val = k.val; omega

end Cert.KernelIdeal.Out
-- ==== Proof.OutVal.lean ====
module

public import proofs.«01_k».proof.Proof.OutBlocks

/-!
# What the output layer's kernel leaves

Every entry of the six results, over the extended reals, as the formulas of `OutModel`: the row blocks point by point,
the three sums by induction over the sixteen points.
-/

@[expose] public section

set_option maxRecDepth 100000

namespace Cert.KernelIdeal.Out

open Cert.KernelIdeal Cert.KernelIdeal.Gen Cert.KernelIdeal.Value Cert.OutMath
open Idealize.ShloMosaic Idealize.ShloMosaic.TcCoe Idealize.SL.Sem

/-- The value of the constant 1024. -/
theorem cD_eq : cD = ((1024 : ℝ) : EReal) := word_1024
/-- The value of the constant 1/1024. -/
theorem cInv_eq : cInv = ((1 / 1024 : ℝ) : EReal) := word_inv
/-- The value of the constant 1/2. -/
theorem cHalf_eq : cHalf = ((1 / 2 : ℝ) : EReal) := word_half
/-- The value of the norm's epsilon. -/
theorem cEps_eq : cEps = (epsR : EReal) := word_eps

variable (m : (ℓ : Loc nD τ sig) → Buf (Elt Ideal) ℓ) (c : Dev nD)

/-- The hidden rows of the memory's arrays. -/
noncomputable abbrev H (r : Fin 8192) : Fin 1024 → EReal := hid (aX m c) (aS m c) (aG m c) (aW m c) r

/-- The gradient of the hidden rows. -/
noncomputable abbrev D (r : Fin 8192) (k : Fin 1024) : EReal := oDx epsR (aX m c) (aT m c) (aS m c) (aG m c) (aW m c) (aF m c) r k

/-- A point's hidden rows. -/
theorem hid_apply (t : Fin cfg0.N) (r : Fin 512) (k : Fin 1024) :
    k0_pay8 (iblk m c 2 t) (iblk m c 3 t) (iblk m c 0 t) (wTop m c t) (wBot m c t) (ix2 r k) = H m c (rowOf t.val (tlt t) r) k := by
  rw [pay8_apply]
  unfold H hid
  simp only [blk0, blk2, blk3, wTop_apply, wBot_apply]

/-- The reciprocal root of a row of the block. -/
theorem bRs_apply (t : Fin cfg0.N) (r : Fin 512) (k : Fin 1) : bRs m c t (ix2 r k) = rs epsR (H m c (rowOf t.val (tlt t) r)) := by
  unfold bRs rs var
  rw [pay9_apply]
  simp only [hid_apply, cD_eq, cEps_eq]

/-- The normalised row of the block. -/
theorem bYh_apply (t : Fin cfg0.N) (r : Fin 512) (k : Fin 1024) : bYh m c t (ix2 r k) = yh epsR (H m c (rowOf t.val (tlt t) r)) k := by
  have h := bRs_apply m c t r 0
  unfold bRs at h
  unfold bYh yh
  rw [pay10_apply, h, hid_apply]

/-- The error of a row of the block. -/
theorem bEr_apply (t : Fin cfg0.N) (r : Fin 512) (k : Fin 1024) :
    bEr m c t (ix2 r k) = er epsR (H m c (rowOf t.val (tlt t) r)) (aF m c) (aT m c (rowOf t.val (tlt t) r)) k := by
  have h := bYh_apply m c t r k
  unfold bYh at h
  unfold bEr er
  rw [pay12_apply, h, blk5, blk1]

/-- The mean square error of a row of the block. -/
theorem bSq_apply (t : Fin cfg0.N) (r : Fin 512) :
    bSq m c t (ix1 r) = sqr epsR (aX m c) (aT m c) (aS m c) (aG m c) (aW m c) (aF m c) (rowOf t.val (tlt t) r) := by
  have h := bEr_apply m c t r
  unfold bEr at h
  unfold bSq sqr
  rw [pay14_apply]
  simp only [h]

/-- The gradient of the hidden row, as the block computes it. -/
theorem bDout_apply (t : Fin cfg0.N) (r : Fin 512) (k : Fin 1024) : bDout m c t (ix2 r k) = D m c (rowOf t.val (tlt t) r) k := by
  unfold bDout D oDx dout dy ct
  rw [pay18_apply]
  simp only [bRs_apply, bYh_apply, bEr_apply, blk5, cInv_eq, cD_eq]

/-- The same gradient after the cast, which does nothing here. -/
theorem bDoutB_apply (t : Fin cfg0.N) (r : Fin 512) (k : Fin 1024) : bDoutB m c t (ix2 r k) = D m c (rowOf t.val (tlt t) r) k := by
  rw [← bDout_apply]
  unfold bDoutB bDout
  rw [pay19_apply]

/-! ## The row blocks -/

theorem st6 (t : Fin cfg0.N) (acc) : (stAt0 m c t.val t.isLt acc).1 = bDout m c t := by
  have ht := tlt t
  by_cases h0 : t.val % 16 = 0
  · exact st6_A m c t acc h0 (by omega)
  · by_cases h1 : t.val % 16 = 15
    · exact st6_C m c t acc h0 h1
    · exact st6_B m c t acc h0 h1

/-- What a point stores into the gradient of the first mixer. -/
theorem st7 (t : Fin cfg0.N) (acc) : (stAt0 m c t.val t.isLt acc).2.1
    = k0_pay20 (bRs m c t) (bYh m c t) (k0_pay11 (iblk m c 5 t)) (bEr m c t) (wTop m c t) := by
  have ht := tlt t
  by_cases h0 : t.val % 16 = 0
  · exact st7_A m c t acc h0 (by omega)
  · by_cases h1 : t.val % 16 = 15
    · exact st7_C m c t acc h0 h1
    · exact st7_B m c t acc h0 h1

/-- What a point stores into the gradient of the second mixer. -/
theorem st8 (t : Fin cfg0.N) (acc) : (stAt0 m c t.val t.isLt acc).2.2.1 = k0_pay1 (bDoutB m c t) (wBot m c t) := by
  have ht := tlt t
  by_cases h0 : t.val % 16 = 0
  · exact st8_A m c t acc h0 (by omega)
  · by_cases h1 : t.val % 16 = 15
    · exact st8_C m c t acc h0 h1
    · exact st8_B m c t acc h0 h1

/-- What the outputs hold after a point is that point's step of something. -/
theorem outs_step (t : Fin cfg0.N) : ∃ acc, outsAt0 m c t.val t.isLt = stAt0 m c t.val t.isLt acc := by
  obtain ⟨n, hn⟩ := t
  cases n with
  | zero => exact ⟨_, outsAt0_zero m c hn⟩
  | succ n => exact ⟨_, outsAt0_succ m c n hn⟩

/-- The array of the gradient of the hidden rows. -/
theorem G6_apply (r : Fin 8192) (k : Fin 1024) : (G6 m c : S8192x1024.Idx → EReal) (ix2 r k) = D m c r k := by
  have hr := r.isLt
  have hk := k.isLt
  have hp : pt6Of (ix2 r k) < cfg0.N := by
    refine lt_of_lt_of_eq ?_ N_0.symm
    show 1 * (r.val / 512 - 0) + 1 * (k.val / 1024 - 0) < 16
    omega
  have hl : loc6Of (ix2 r k) = ix2 ⟨r.val % 512, Nat.mod_lt _ (by decide)⟩ k := by
    funext a; apply Fin.ext
    match a with
    | ⟨0, _⟩ => rfl
    | ⟨1, _⟩ => exact Nat.mod_eq_of_lt hk
  obtain ⟨acc, hacc⟩ := outs_step m c ⟨pt6Of (ix2 r k), hp⟩
  refine (dif_pos hp).trans ?_
  rw [← outsAt0_sweep m c _ hp, hacc, st6, hl, bDout_apply]
  refine congrArg (fun r => D m c r k) (Fin.ext ?_)
  show 512 * (1 * (r.val / 512 - 0) + 1 * (k.val / 1024 - 0)) + r.val % 512 = r.val
  omega

/-- The array of the gradient of the first mixer. -/
theorem G7_apply (r : Fin 8192) (k : Fin 1024) : (G7 m c : S8192x1024.Idx → EReal) (ix2 r k) = ∑ j, D m c r j * aW m c (lo k) j := by
  have hr := r.isLt
  have hk := k.isLt
  have hp : pt7Of (ix2 r k) < cfg0.N := by
    refine lt_of_lt_of_eq ?_ N_0.symm
    show 1 * (r.val / 512 - 0) + 1 * (k.val / 1024 - 0) < 16
    omega
  have hl : loc7Of (ix2 r k) = ix2 ⟨r.val % 512, Nat.mod_lt _ (by decide)⟩ k := by
    funext a; apply Fin.ext
    match a with
    | ⟨0, _⟩ => rfl
    | ⟨1, _⟩ => exact Nat.mod_eq_of_lt hk
  obtain ⟨acc, hacc⟩ := outs_step m c ⟨pt7Of (ix2 r k), hp⟩
  refine (dif_pos hp).trans ?_
  have hb : ∀ r' k', k0_pay18 (bRs m c ⟨pt7Of (ix2 r k), hp⟩) (bYh m c ⟨pt7Of (ix2 r k), hp⟩)
      (k0_pay11 (iblk m c 5 ⟨pt7Of (ix2 r k), hp⟩)) (bEr m c ⟨pt7Of (ix2 r k), hp⟩) (ix2 r' k') = _ :=
    fun r' k' => bDout_apply m c ⟨pt7Of (ix2 r k), hp⟩ r' k'
  rw [← outsAt0_sweep m c _ hp, hacc, st7, hl, pay20_apply]
  simp only [hb, wTop_apply]
  refine congrArg (fun r => ∑ j, D m c r j * aW m c (lo k) j) (Fin.ext ?_)
  show 512 * (1 * (r.val / 512 - 0) + 1 * (k.val / 1024 - 0)) + r.val % 512 = r.val
  omega

/-- The array of the gradient of the second mixer. -/
theorem G8_apply (r : Fin 8192) (k : Fin 1024) : (G8 m c : S8192x1024.Idx → EReal) (ix2 r k) = ∑ j, D m c r j * aW m c (hi k) j := by
  have hr := r.isLt
  have hk := k.isLt
  have hp : pt8Of (ix2 r k) < cfg0.N := by
    refine lt_of_lt_of_eq ?_ N_0.symm
    show 1 * (r.val / 512 - 0) + 1 * (k.val / 1024 - 0) < 16
    omega
  have hl : loc8Of (ix2 r k) = ix2 ⟨r.val % 512, Nat.mod_lt _ (by decide)⟩ k := by
    funext a; apply Fin.ext
    match a with
    | ⟨0, _⟩ => rfl
    | ⟨1, _⟩ => exact Nat.mod_eq_of_lt hk
  obtain ⟨acc, hacc⟩ := outs_step m c ⟨pt8Of (ix2 r k), hp⟩
  refine (dif_pos hp).trans ?_
  rw [← outsAt0_sweep m c _ hp, hacc, st8, hl, pay1_apply]
  simp only [bDoutB_apply, wBot_apply]
  refine congrArg (fun r => ∑ j, D m c r j * aW m c (hi k) j) (Fin.ext ?_)
  show 512 * (1 * (r.val / 512 - 0) + 1 * (k.val / 1024 - 0)) + r.val % 512 = r.val
  omega

/-! ## The carried sums -/

/-- One step of the carried weight gradient. -/
theorem gwNext_lo (t : Fin cfg0.N) (acc : Vec Ideal S2048x1024 .f32) (j k : Fin 1024) :
    gwNext m c t acc (ix2 (lo j) k) = acc (ix2 (lo j) k) + blockSum (fun r => aS m c r j * D m c r k) t.val := by
  unfold gwNext
  refine (canon_halves _ _ [] (ix2 (lo j) k)).trans ?_
  rw [dif_pos (show ((ix2 (lo j) k : S2048x1024.Idx) 0).val < 1024 from j.isLt)]
  rw [show (ValueIdx.ix2 (n0 := 1024) (n1 := 1024) ⟨((ix2 (lo j) k : S2048x1024.Idx) 0).val, j.isLt⟩ ⟨((ix2 (lo j) k : S2048x1024.Idx) 1).val, ValueIdx.idx2_lt1 _⟩) = ix2 j k from by
    funext a; match a with | ⟨0, _⟩ => rfl | ⟨1, _⟩ => rfl]
  rw [pay2_apply]
  unfold blockSum
  rw [dif_pos (tlt t)]
  simp only [blk2, bDoutB_apply]
  refine congrArg (· + _) ?_
  unfold View.ld
  refine congrArg acc ?_
  funext a
  apply Fin.ext
  match a with
  | ⟨0, _⟩ => show 0 + 1 * j.val = j.val; omega
  | ⟨1, _⟩ => show 0 + 1 * k.val = k.val; omega

/-- One point's summand of the lower half of the weight's gradient. -/
theorem gwNext_hi (t : Fin cfg0.N) (acc : Vec Ideal S2048x1024 .f32) (j k : Fin 1024) :
    gwNext m c t acc (ix2 (hi j) k) = acc (ix2 (hi j) k) + blockSum (fun r => aG m c r j * D m c r k) t.val := by
  have hn : ¬((ix2 (hi j) k : S2048x1024.Idx) 0).val < 1024 := by show ¬(1024 + j.val < 1024); omega
  unfold gwNext
  refine (canon_halves _ _ [] (ix2 (hi j) k)).trans ?_
  rw [dif_neg hn]
  rw [show (ValueIdx.ix2 (n0 := 1024) (n1 := 1024) ⟨((ix2 (hi j) k : S2048x1024.Idx) 0).val - 1024, by have := ValueIdx.idx2_lt0 (ix2 (hi j) k : S2048x1024.Idx); omega⟩ ⟨((ix2 (hi j) k : S2048x1024.Idx) 1).val, ValueIdx.idx2_lt1 _⟩) = ix2 j k from by
    funext a; apply Fin.ext
    match a with | ⟨0, _⟩ => exact Nat.add_sub_cancel_left 1024 j.val | ⟨1, _⟩ => rfl]
  rw [pay3_apply]
  unfold blockSum
  rw [dif_pos (tlt t)]
  simp only [blk3, bDoutB_apply]
  refine congrArg (· + _) ?_
  unfold View.ld
  refine congrArg acc ?_
  funext a
  apply Fin.ext
  match a with
  | ⟨0, _⟩ => show 1024 + 1 * j.val = 1024 + j.val; omega
  | ⟨1, _⟩ => show 0 + 1 * k.val = k.val; omega

/-- The carried weight gradient after each point. -/
theorem sts_succ (n : ℕ) (hn : n + 1 < cfg0.N) (acc) :
    (stAt0 m c (n + 1) hn acc).2.2.2.2.2.2 = gwNext m c ⟨n + 1, hn⟩ acc.2.2.2.2.2.2 := by
  have ht := tlt ⟨n + 1, hn⟩
  dsimp only at ht
  by_cases h1 : (n + 1) % 16 = 15
  · exact sts_C m c ⟨n + 1, hn⟩ acc (by dsimp only; omega) h1
  · exact sts_B m c ⟨n + 1, hn⟩ acc (by dsimp only; omega) h1

/-- The accumulator's upper half after point `n`. -/
theorem gw_lo (j k : Fin 1024) (n : ℕ) (hn : n < cfg0.N) : (outsAt0 m c n hn).2.2.2.2.2.2 (ix2 (lo j) k)
    = ∑ i ∈ Finset.range (n + 1), blockSum (fun r => aS m c r j * D m c r k) i := by
  induction n with
  | zero =>
    rw [outsAt0_zero, sts_A m c ⟨0, hn⟩ junk0 rfl (by dsimp only; omega), gwNext_lo, pay5_apply, zero_add, Finset.sum_range_one]
  | succ n ih =>
    rw [outsAt0_succ, sts_succ, gwNext_lo, ih, Finset.sum_range_succ _ (n + 1)]

/-- The accumulator's lower half after point `n`. -/
theorem gw_hi (j k : Fin 1024) (n : ℕ) (hn : n < cfg0.N) : (outsAt0 m c n hn).2.2.2.2.2.2 (ix2 (hi j) k)
    = ∑ i ∈ Finset.range (n + 1), blockSum (fun r => aG m c r j * D m c r k) i := by
  induction n with
  | zero =>
    rw [outsAt0_zero, sts_A m c ⟨0, hn⟩ junk0 rfl (by dsimp only; omega), gwNext_hi, pay5_apply, zero_add, Finset.sum_range_one]
  | succ n ih =>
    rw [outsAt0_succ, sts_succ, gwNext_hi, ih, Finset.sum_range_succ _ (n + 1)]

/-- The last point is a point of the grid. -/
theorem h15 : 15 < cfg0.N := lt_of_lt_of_eq (by decide) N_0.symm

/-- The last point writes the carried weight gradient. -/
theorem G9_eq (r : Fin 2048) (k : Fin 1024) :
    (G9 m c : S2048x1024.Idx → EReal) (ix2 r k) = (outsAt0 m c 15 h15).2.2.2.2.2.2 (ix2 r k) := by
  rw [G9_last, ← outsAt0_sweep m c 15 h15, outsAt0_succ m c 14 h15, sts_succ,
    st9_C m c ⟨15, h15⟩ _ (by dsimp only; omega) (by rfl), pay4_apply]

/-- The upper half of the weight's gradient. -/
theorem G9_lo (j k : Fin 1024) : (G9 m c : S2048x1024.Idx → EReal) (ix2 (lo j) k) = ∑ r, aS m c r j * D m c r k := by
  rw [G9_eq, gw_lo, sum_blockSum]

/-- The lower half of the weight's gradient. -/
theorem G9_hi (j k : Fin 1024) : (G9 m c : S2048x1024.Idx → EReal) (ix2 (hi j) k) = ∑ r, aG m c r j * D m c r k := by
  rw [G9_eq, gw_hi, sum_blockSum]

/-! ## The gradient of the norm's weight -/

/-- A row's part of the gradient of the norm's weight. -/
noncomputable abbrev fPart (k : Fin 1024) (r : Fin 8192) : EReal :=
  ct epsR (H m c r) (aF m c) (aT m c r) k * yh epsR (H m c r) k

/-- One point's summand of the norm's gradient, in row 0. -/
theorem gfNext_zero (t : Fin cfg0.N) (acc : Vec Ideal S8x1024 .f32) (k : Fin 1024) :
    gfNext m c t acc (ix2 0 k) = acc (ix2 0 k) + blockSum (fPart m c k) t.val := by
  unfold gfNext
  rw [if_pos (show ((ix2 0 k : S8x1024.Idx) 0).val = 0 from rfl)]
  rw [show (ValueIdx.ix2 (n0 := 1) (n1 := 1024) 0 ⟨((ix2 0 k : S8x1024.Idx) 1).val, ValueIdx.idx2_lt1 _⟩) = ix2 0 k from by
    funext a; match a with | ⟨0, _⟩ => rfl | ⟨1, _⟩ => rfl]
  rw [pay17_apply]
  unfold blockSum fPart ct
  rw [dif_pos (tlt t)]
  simp only [bEr_apply, bYh_apply, cInv_eq]
  refine congrArg (· + _) ?_
  unfold row0 View.ld
  refine congrArg acc ?_
  funext a
  apply Fin.ext
  match a with
  | ⟨0, _⟩ => rfl
  | ⟨1, _⟩ => show 0 + 1 * k.val = k.val; omega

/-- The other rows gain nothing. -/
theorem gfNext_ne (t : Fin cfg0.N) (acc : Vec Ideal S8x1024 .f32) (r : Fin 8) (hr : r.val ≠ 0) (k : Fin 1024) :
    gfNext m c t acc (ix2 r k) = acc (ix2 r k) := if_neg hr

/-- The step of the norm's gradient from one point to the next. -/
theorem st10_succ (n : ℕ) (hn : n + 1 < cfg0.N) (acc) :
    (stAt0 m c (n + 1) hn acc).2.2.2.2.1 = gfNext m c ⟨n + 1, hn⟩ acc.2.2.2.2.1 := by
  have ht := tlt ⟨n + 1, hn⟩
  dsimp only at ht
  by_cases h1 : (n + 1) % 16 = 15
  · exact st10_C m c ⟨n + 1, hn⟩ acc (by dsimp only; omega) h1
  · exact st10_B m c ⟨n + 1, hn⟩ acc (by dsimp only; omega) h1

/-- Row 0 of the norm's gradient after point `n`. -/
theorem gf_zero (k : Fin 1024) (n : ℕ) (hn : n < cfg0.N) : (outsAt0 m c n hn).2.2.2.2.1 (ix2 0 k)
    = ∑ i ∈ Finset.range (n + 1), blockSum (fPart m c k) i := by
  induction n with
  | zero =>
    rw [outsAt0_zero, st10_A m c ⟨0, hn⟩ junk0 rfl (by dsimp only; omega), gfNext_zero, pay6_apply, zero_add, Finset.sum_range_one]
  | succ n ih =>
    rw [outsAt0_succ, st10_succ, gfNext_zero, ih, Finset.sum_range_succ _ (n + 1)]

/-- The other rows after point `n` are zero. -/
theorem gf_ne (r : Fin 8) (hr : r.val ≠ 0) (k : Fin 1024) (n : ℕ) (hn : n < cfg0.N) :
    (outsAt0 m c n hn).2.2.2.2.1 (ix2 r k) = 0 := by
  induction n with
  | zero => rw [outsAt0_zero, st10_A m c ⟨0, hn⟩ junk0 rfl (by dsimp only; omega), gfNext_ne _ _ _ _ _ hr, pay6_apply]
  | succ n ih => rw [outsAt0_succ, st10_succ, gfNext_ne _ _ _ _ _ hr, ih]

/-- The array of the norm's gradient, row 0. -/
theorem G10_zero (k : Fin 1024) : (G10 m c : S8x1024.Idx → EReal) (ix2 0 k) = ∑ r, fPart m c k r := by
  rw [G10_last, ← outsAt0_sweep m c 15 h15, gf_zero, sum_blockSum]

/-- The array of the norm's gradient, the other rows. -/
theorem G10_ne (r : Fin 8) (hr : r.val ≠ 0) (k : Fin 1024) : (G10 m c : S8x1024.Idx → EReal) (ix2 r k) = (0 : EReal) := by
  rw [G10_last, ← outsAt0_sweep m c 15 h15, gf_ne _ _ _ hr]

/-! ## The loss -/

/-- A row's part of the loss. -/
noncomputable abbrev lPart (r : Fin 8192) : EReal :=
  sqr epsR (aX m c) (aT m c) (aS m c) (aG m c) (aW m c) (aF m c) r * ((1 / 1024 : ℝ) : EReal)

/-- One point's summand of the loss. -/
theorem lossNext (t : Fin cfg0.N) (acc : Vec Ideal S1x128 .f32) (k : Fin 128) :
    k0_pay15 (k0_pay13 acc) (bSq m c t) (ix2 0 k) = acc (ix2 0 k) + ((1 / 2 : ℝ) : EReal) * blockSum (lPart m c) t.val := by
  rw [pay15_apply]
  unfold blockSum
  rw [dif_pos (tlt t)]
  simp only [bSq_apply, cInv_eq, cHalf_eq]

/-- The step of the loss from one point to the next. -/
theorem st11_succ (n : ℕ) (hn : n + 1 < cfg0.N) (acc) :
    (stAt0 m c (n + 1) hn acc).2.2.2.2.2.1 = k0_pay15 (k0_pay13 acc.2.2.2.2.2.1) (bSq m c ⟨n + 1, hn⟩) := by
  have ht := tlt ⟨n + 1, hn⟩
  dsimp only at ht
  by_cases h1 : (n + 1) % 16 = 15
  · exact st11_C m c ⟨n + 1, hn⟩ acc (by dsimp only; omega) h1
  · exact st11_B m c ⟨n + 1, hn⟩ acc (by dsimp only; omega) h1

/-- The loss after point `n`. -/
theorem loss_at (k : Fin 128) (n : ℕ) (hn : n < cfg0.N) : (outsAt0 m c n hn).2.2.2.2.2.1 (ix2 0 k)
    = ∑ i ∈ Finset.range (n + 1), ((1 / 2 : ℝ) : EReal) * blockSum (lPart m c) i := by
  induction n with
  | zero =>
    rw [outsAt0_zero, st11_A m c ⟨0, hn⟩ junk0 rfl (by dsimp only; omega), lossNext, pay7_apply, zero_add, Finset.sum_range_one]
  | succ n ih =>
    rw [outsAt0_succ, st11_succ, lossNext, ih, Finset.sum_range_succ _ (n + 1)]

/-- The array of the loss. -/
theorem G11_apply (k : Fin 128) : (G11 m c : S1x128.Idx → EReal) (ix2 0 k) = ((1 / 2 : ℝ) : EReal) * ∑ r, lPart m c r := by
  rw [G11_last, ← outsAt0_sweep m c 15 h15, loss_at, ← coe_mul_sum (by norm_num), sum_blockSum]

end Cert.KernelIdeal.Out
-- ==== Proof.OutRef.lean ====
module

public import proofs.«01_k».proof.Proof.Gen.ReferenceIdeal.Read
public import proofs.«01_k».proof.Proof.OutModel
public import Idealize.ShloMosaic.Lib.Pointwise

/-!
# What the reference's gradient of the output layer is

The reference's lines, read entry by entry over the extended reals, are the formulas of `OutModel`.
-/

@[expose] public section

set_option maxRecDepth 100000

namespace Cert.ReferenceIdeal.Out

open Cert.ReferenceIdeal Cert.ReferenceIdeal.Gen Cert.ReferenceIdeal.Read Cert.OutMath
open Idealize.ShloMosaic Idealize.ShloMosaic.TcCoe Idealize.SL.Sem

section
variable (x0 x1 : (⟨S8192x1024, .f32⟩ : BufTy).Contents (Elt Ideal)) (x2 x3 : (⟨S8192x1024, .bf16⟩ : BufTy).Contents (Elt Ideal))
  (x4 : (⟨S2048x1024, .f32⟩ : BufTy).Contents (Elt Ideal)) (x5 : (⟨S1024, .f32⟩ : BufTy).Contents (Elt Ideal))

/-- A row array by row and column. -/
abbrev rows (x : S8192x1024.Idx → EReal) (r : Fin 8192) (k : Fin 1024) : EReal := x (ix2 r k)
/-- The weight by row and column. -/
abbrev wRows (w : S2048x1024.Idx → EReal) (j : Fin 2048) (k : Fin 1024) : EReal := w (ix2 j k)
/-- The norm's weight by column. -/
abbrev fCols (f : S1024.Idx → EReal) (k : Fin 1024) : EReal := f (ix1 k)

/-- The hidden row. -/
noncomputable abbrev H (r : Fin 8192) : Fin 1024 → EReal := hid (rows x0) (rows x2) (rows x3) (wRows x4) r
/-- The gradient of the hidden row. -/
noncomputable abbrev D (r : Fin 8192) (k : Fin 1024) : EReal :=
  oDx epsR (rows x0) (rows x1) (rows x2) (rows x3) (wRows x4) (fCols x5) r k

/-- The left half of the joined mixers' outputs. -/
theorem v2_lo (r : Fin 8192) (j : Fin 1024) : val_main_v2 (F := Ideal) x2 x3 (ix2 r (lo j)) = x2 (ix2 r j) := by
  pointwise [val_main_v2, val_main_v1, val_main_v0]
  exact dif_pos j.isLt

/-- The right half of the joined mixers' outputs. -/
theorem v2_hi (r : Fin 8192) (j : Fin 1024) : val_main_v2 (F := Ideal) x2 x3 (ix2 r (hi j)) = x3 (ix2 r j) := by
  have hn : ¬(hi j).val < 1024 := by show ¬(1024 + j.val < 1024); omega
  pointwise [val_main_v2, val_main_v1, val_main_v0]
  rw [dif_neg hn]
  exact congrArg (fun q => x3 (ix2 r q)) (Fin.ext (Nat.add_sub_cancel_left 1024 j.val))

/-- A sum over all rows of the weight is the sum over its upper half plus that over its lower half. -/
theorem sum_halves (f : Fin 2048 → EReal) : ∑ j, f j = ∑ j, f (lo j) + ∑ j, f (hi j) := by
  rw [show (∑ j, f j) = ∑ j : Fin (1024 + 1024), f j from rfl, Fin.sum_univ_add]
  rfl

/-- The hidden row after the projection. -/
theorem v4 (r : Fin 8192) (k : Fin 1024) : val_main_v4 (F := Ideal) x0 x2 x3 x4 (ix2 r k) = H x0 x2 x3 x4 r k := by
  pointwise [val_main_v4, val_main_v3]
  rw [sum_halves]
  simp only [v2_lo, v2_hi]
  exact (add_assoc _ _ _).symm

/-- The mean of its squares plus epsilon. -/
theorem v11 (r : Fin 8192) : val_main_v11 (F := Ideal) x0 x2 x3 x4 (ix2 r 0) = var epsR (H x0 x2 x3 x4 r) := by
  pointwise [val_main_v11, val_main_v10, val_main_v9, val_main_v8, val_main_v7, val_main_v6, val_main_v5, val_main_cst, val_main_cst_0, val_main_cst_1]
  simp only [v4, word_1024, word_eps]
  rfl

/-- The reciprocal root of that. -/
theorem v12 (r : Fin 8192) : val_main_v12 (F := Ideal) x0 x2 x3 x4 (ix2 r 0) = rs epsR (H x0 x2 x3 x4 r) := by
  pointwise [val_main_v12]
  rw [v11]
  rfl

/-- The reciprocal root divided by twice its argument, the derivative of the root. -/
theorem v15 (r : Fin 8192) : val_main_v15 (F := Ideal) x0 x2 x3 x4 (ix2 r 0)
    = ((-(1 / 2) : ℝ) : EReal) * Ideal.div (rs epsR (H x0 x2 x3 x4 r)) (var epsR (H x0 x2 x3 x4 r)) := by
  pointwise [val_main_v15, val_main_v14, val_main_v13, val_main_cst_2]
  rw [v11, v12, word_neg_half]

/-- The normalised row. -/
theorem v17 (r : Fin 8192) (k : Fin 1024) : val_main_v17 (F := Ideal) x0 x2 x3 x4 (ix2 r k) = yh epsR (H x0 x2 x3 x4 r) k := by
  pointwise [val_main_v17, val_main_v16]
  rw [v4, v12]
  rfl

/-- The error of the scaled row against the target. -/
theorem v21 (r : Fin 8192) (k : Fin 1024) : val_main_v21 (F := Ideal) x0 x1 x2 x3 x4 x5 (ix2 r k)
    = er epsR (H x0 x2 x3 x4 r) (fCols x5) (rows x1 r) k := by
  pointwise [val_main_v21, val_main_v20, val_main_v19, val_main_v18]
  rw [v17]
  rfl

/-- The loss's derivative as the reference writes it, its constants folded. -/
theorem ct_word (e : EReal) : Ideal.div ((1 / 2 : ℝ) : EReal) ((1024 : ℝ) : EReal) * (((2 : ℝ) : EReal) * e)
    = e * ((1 / 1024 : ℝ) : EReal) := by
  rw [← ct_ref, ← EReal.coe_mul, mul_one]

/-- The gradient of the normalised row. -/
theorem v35 (r : Fin 8192) (k : Fin 1024) : val_main_v35 (F := Ideal) x0 x1 x2 x3 x4 x5 (ix2 r k)
    = ct epsR (H x0 x2 x3 x4 r) (fCols x5) (rows x1 r) k := by
  pointwise [val_main_v35, val_main_v34, val_main_v33, val_main_v32, val_main_v31, val_main_v30, val_main_cst_8, val_main_cst_9, val_main_cst_10, val_main_v24, val_main_v23, val_main_cst_3]
  rw [v21, word_half, word_1024, word_two, ct_word]
  rfl

/-- The loss, in every lane. -/
theorem v65 (j : Fin 128) : val_main_v65 (F := Ideal) x0 x1 x2 x3 x4 x5 (ix2 0 j)
    = oLoss epsR (rows x0) (rows x1) (rows x2) (rows x3) (wRows x4) (fCols x5) := by
  pointwise [val_main_v65, val_main_v29, val_main_v28, val_main_v27, val_main_v26, val_main_v25, val_main_v22, val_main_cst_4, val_main_cst_5, val_main_cst_6, val_main_cst_7]
  simp only [v21, word_half, word_1024]
  unfold oLoss sqr
  refine congrArg (_ * ·) (Finset.sum_congr rfl fun r _ => ?_)
  rw [div_pos_coe (by norm_num)]

/-- The gradient of the norm's weight. -/
theorem v41 (k : Fin 1024) : val_main_v41 (F := Ideal) x0 x1 x2 x3 x4 x5 (ix1 k)
    = oGf epsR (rows x0) (rows x1) (rows x2) (rows x3) (wRows x4) (fCols x5) k := by
  pointwise [val_main_v41, val_main_v38, val_main_v37, val_main_v36, val_main_cst_11, val_main_cst_12]
  simp only [v17, v35]
  rw [Fin.sum_univ_one]
  unfold oGf
  exact Finset.sum_congr rfl fun r _ => mul_comm _ _

/-- The two summands through the root, before the last product. -/
theorem v40 (r : Fin 8192) (k : Fin 1024) : val_main_v40 (F := Ideal) x0 x1 x2 x3 x4 x5 (ix2 r k)
    = dy epsR (H x0 x2 x3 x4 r) (fCols x5) (rows x1 r) k := by
  pointwise [val_main_v40, val_main_v39, val_main_v18]
  rw [v35]
  rfl

/-- The gradient of the hidden row. -/
theorem v51 (r : Fin 8192) (k : Fin 1024) : val_main_v51 (F := Ideal) x0 x1 x2 x3 x4 x5 (ix2 r k)
    = qref epsR (H x0 x2 x3 x4 r) (dy epsR (H x0 x2 x3 x4 r) (fCols x5) (rows x1 r)) := by
  pointwise [val_main_v51, val_main_v50, val_main_v49, val_main_v48, val_main_v47, val_main_v44, val_main_v43, val_main_v42, val_main_cst_13, val_main_cst_14, val_main_cst_15]
  rw [Fin.sum_univ_one, v15]
  simp only [v4, v40, word_1024]
  rfl

/-- The gradient of the hidden rows. -/
theorem v55 (r : Fin 8192) (k : Fin 1024) : val_main_v55 (F := Ideal) x0 x1 x2 x3 x4 x5 (ix2 r k) = D x0 x1 x2 x3 x4 x5 r k := by
  pointwise [val_main_v55, val_main_v54, val_main_v53, val_main_v52, val_main_v46, val_main_v45]
  rw [v4, v51, v40, v12]
  exact (dout_eq epsR _ _ _ epsR_pos k).symm

/-- The gradient of the first mixer's output. -/
theorem v59 (r : Fin 8192) (k : Fin 1024) : val_main_v59 (F := Ideal) x0 x1 x2 x3 x4 x5 (ix2 r k)
    = ∑ j, D x0 x1 x2 x3 x4 x5 r j * wRows x4 (lo k) j := by
  pointwise [val_main_v59, val_main_v58]
  simp only [v55]
  rfl

/-- The gradient of the second mixer's output. -/
theorem v60 (r : Fin 8192) (k : Fin 1024) : val_main_v60 (F := Ideal) x0 x1 x2 x3 x4 x5 (ix2 r k)
    = ∑ j, D x0 x1 x2 x3 x4 x5 r j * wRows x4 (hi k) j := by
  pointwise [val_main_v60, val_main_v58]
  simp only [v55]
  rfl

/-- The gradient of the weight's upper half. -/
theorem v61_lo (j k : Fin 1024) : val_main_v61 (F := Ideal) x0 x1 x2 x3 x4 x5 (ix2 (lo j) k)
    = ∑ r, rows x2 r j * D x0 x1 x2 x3 x4 x5 r k := by
  pointwise [val_main_v61, val_main_v57, val_main_v56]
  simp only [v55, v2_lo]
  exact Finset.sum_congr rfl fun r _ => mul_comm _ _

/-- The gradient of the weight's lower half. -/
theorem v61_hi (j k : Fin 1024) : val_main_v61 (F := Ideal) x0 x1 x2 x3 x4 x5 (ix2 (hi j) k)
    = ∑ r, rows x3 r j * D x0 x1 x2 x3 x4 x5 r k := by
  pointwise [val_main_v61, val_main_v57, val_main_v56]
  simp only [v55, v2_hi]
  exact Finset.sum_congr rfl fun r _ => mul_comm _ _

/-- The gradient of the norm's weight in the first of eight rows. -/
theorem v64_zero (k : Fin 1024) : val_main_v64 (F := Ideal) x0 x1 x2 x3 x4 x5 (ix2 0 k)
    = oGf epsR (rows x0) (rows x1) (rows x2) (rows x3) (wRows x4) (fCols x5) k := by
  pointwise [val_main_v64, val_main_v63, val_main_v62, val_main_cst_16]
  rw [v41]

/-- The other seven rows are zero. -/
theorem v64_ne (r : Fin 8) (hr : r.val ≠ 0) (k : Fin 1024) :
    val_main_v64 (F := Ideal) x0 x1 x2 x3 x4 x5 (ix2 r k) = (0 : EReal) := by
  pointwise [val_main_v64, val_main_v63, val_main_v62, val_main_cst_16]
  exact dif_neg (by omega)

end
end Cert.ReferenceIdeal.Out
-- ==== Proof.OutAlg.lean ====
module

public import proofs.«01_k».proof.Proof.OutVal
public import proofs.«01_k».proof.Proof.OutRef

/-!
# The two programs' results are equal

Result by result, the reference's term of the kernel's arguments is what the kernel leaves.
-/

@[expose] public section

set_option maxRecDepth 100000

namespace Cert.OutAlg

open Idealize.ShloMosaic Idealize.ShloMosaic.TcCoe Idealize.SL.Sem
open Cert.KernelIdeal Cert.KernelIdeal.Gen Cert.KernelIdeal.Value Cert.KernelIdeal.Out Cert.OutMath
open Cert.ReferenceIdeal.Read

variable (m : (ℓ : Loc nD τ sig) → Buf (Elt Ideal) ℓ) (c : Dev nD)

/-- The kernel's arguments, as the reference's terms take them. -/
abbrev y0 : S8192x1024.Idx → EReal := m ((c : Thread nD τ).loc main_arg0)
/-- Argument 1 of the program. -/
abbrev y1 : S8192x1024.Idx → EReal := m ((c : Thread nD τ).loc main_arg1)
/-- Argument 2 of the program. -/
abbrev y2 : S8192x1024.Idx → EReal := m ((c : Thread nD τ).loc main_arg2)
/-- Argument 3 of the program. -/
abbrev y3 : S8192x1024.Idx → EReal := m ((c : Thread nD τ).loc main_arg3)
/-- Argument 4 of the program. -/
abbrev y4 : S2048x1024.Idx → EReal := m ((c : Thread nD τ).loc main_arg4)
/-- Argument 5 of the program. -/
abbrev y5 : S1024.Idx → EReal := m ((c : Thread nD τ).loc main_arg5)

/-- The gradient of the residual. -/
theorem eq_dx : (val_main_v55 (F := Ideal) (y0 m c) (y1 m c) (y2 m c) (y3 m c) (y4 m c) (y5 m c) : S8192x1024.Idx → EReal)
    = (G6 m c : S8192x1024.Idx → EReal) := by
  funext i
  rw [← ix2_eta i]
  exact (Cert.ReferenceIdeal.Out.v55 _ _ _ _ _ _ (i 0) (i 1)).trans (G6_apply m c (i 0) (i 1)).symm

/-- The gradient of the first mixer's output. -/
theorem eq_dys : (val_main_v59 (F := Ideal) (y0 m c) (y1 m c) (y2 m c) (y3 m c) (y4 m c) (y5 m c) : S8192x1024.Idx → EReal)
    = (G7 m c : S8192x1024.Idx → EReal) := by
  funext i
  rw [← ix2_eta i]
  exact (Cert.ReferenceIdeal.Out.v59 _ _ _ _ _ _ (i 0) (i 1)).trans (G7_apply m c (i 0) (i 1)).symm

/-- The gradient of the second mixer's output. -/
theorem eq_dyg : (val_main_v60 (F := Ideal) (y0 m c) (y1 m c) (y2 m c) (y3 m c) (y4 m c) (y5 m c) : S8192x1024.Idx → EReal)
    = (G8 m c : S8192x1024.Idx → EReal) := by
  funext i
  rw [← ix2_eta i]
  exact (Cert.ReferenceIdeal.Out.v60 _ _ _ _ _ _ (i 0) (i 1)).trans (G8_apply m c (i 0) (i 1)).symm

/-- A row number of the weight is one of its upper or its lower half. -/
theorem lo_or_hi (r : Fin 2048) : (∃ j, r = lo j) ∨ ∃ j, r = hi j := by
  by_cases h : r.val < 1024
  · exact .inl ⟨⟨r.val, h⟩, rfl⟩
  · exact .inr ⟨⟨r.val - 1024, by omega⟩, Fin.ext (show r.val = 1024 + (r.val - 1024) by omega)⟩

/-- The gradient of the weight. -/
theorem eq_gw : (val_main_v61 (F := Ideal) (y0 m c) (y1 m c) (y2 m c) (y3 m c) (y4 m c) (y5 m c) : S2048x1024.Idx → EReal)
    = (G9 m c : S2048x1024.Idx → EReal) := by
  have key : ∀ (r : Fin 2048) (k : Fin 1024),
      (val_main_v61 (F := Ideal) (y0 m c) (y1 m c) (y2 m c) (y3 m c) (y4 m c) (y5 m c) : S2048x1024.Idx → EReal) (ix2 r k)
        = (G9 m c : S2048x1024.Idx → EReal) (ix2 r k) := fun r k => by
    rcases lo_or_hi r with ⟨j, rfl⟩ | ⟨j, rfl⟩
    · exact (Cert.ReferenceIdeal.Out.v61_lo _ _ _ _ _ _ j k).trans (G9_lo m c j k).symm
    · exact (Cert.ReferenceIdeal.Out.v61_hi _ _ _ _ _ _ j k).trans (G9_hi m c j k).symm
  funext i
  rw [← ix2_eta i]
  exact key (i 0) (i 1)

/-- The gradient of the norm's weight. -/
theorem eq_gf : (val_main_v64 (F := Ideal) (y0 m c) (y1 m c) (y2 m c) (y3 m c) (y4 m c) (y5 m c) : S8x1024.Idx → EReal)
    = (G10 m c : S8x1024.Idx → EReal) := by
  have key : ∀ (r : Fin 8) (k : Fin 1024),
      (val_main_v64 (F := Ideal) (y0 m c) (y1 m c) (y2 m c) (y3 m c) (y4 m c) (y5 m c) : S8x1024.Idx → EReal) (ix2 r k)
        = (G10 m c : S8x1024.Idx → EReal) (ix2 r k) := fun r k => by
    by_cases hr : r.val = 0
    · obtain rfl : r = 0 := Fin.ext hr
      exact (Cert.ReferenceIdeal.Out.v64_zero _ _ _ _ _ _ k).trans (G10_zero m c k).symm
    · exact (Cert.ReferenceIdeal.Out.v64_ne _ _ _ _ _ _ r hr k).trans (G10_ne m c r hr k).symm
  funext i
  rw [← ix2_eta i]
  exact key (i 0) (i 1)

/-- The loss. -/
theorem eq_loss : (val_main_v65 (F := Ideal) (y0 m c) (y1 m c) (y2 m c) (y3 m c) (y4 m c) (y5 m c) : S1x128.Idx → EReal)
    = (G11 m c : S1x128.Idx → EReal) := by
  have key : ∀ (r : Fin 1) (k : Fin 128),
      (val_main_v65 (F := Ideal) (y0 m c) (y1 m c) (y2 m c) (y3 m c) (y4 m c) (y5 m c) : S1x128.Idx → EReal) (ix2 r k)
        = (G11 m c : S1x128.Idx → EReal) (ix2 r k) := fun r k => by
    obtain rfl : r = 0 := Subsingleton.elim _ _
    exact (Cert.ReferenceIdeal.Out.v65 _ _ _ _ _ _ k).trans (G11_apply m c k).symm
  funext i
  rw [← ix2_eta i]
  exact key (i 0) (i 1)

end Cert.OutAlg
-- ==== Proof.GwMath.lean ====
module

public import Mathlib.Data.EReal.Operations
public import Mathlib.Algebra.BigOperators.Fin

/-!
# A sum over rows, cut into equal bands
-/

@[expose] public section

namespace Cert.GwMath

/-- The `n`-th of 8192 terms, zero past the end. -/
noncomputable def term (f : Fin 8192 → EReal) (n : ℕ) : EReal := if h : n < 8192 then f ⟨n, h⟩ else 0

/-- The sum of one band of `B` terms. -/
noncomputable def band (B : ℕ) (f : Fin 8192 → EReal) (i : ℕ) : EReal := ∑ r : Fin B, term f (B * i + r.val)

/-- The first `K` bands are the first `B * K` terms. -/
theorem bands_sum (B K : ℕ) (f : Fin 8192 → EReal) :
    ∑ i ∈ Finset.range K, band B f i = ∑ n ∈ Finset.range (B * K), term f n := by
  induction K with
  | zero => simp
  | succ K ih =>
    rw [Finset.sum_range_succ, ih, Nat.mul_succ, Finset.sum_range_add]
    refine congrArg (_ + ·) ?_
    unfold band
    rw [Finset.sum_range]

/-- The bands together are the whole sum. -/
theorem bands_all (B K : ℕ) (h : B * K = 8192) (f : Fin 8192 → EReal) :
    ∑ i ∈ Finset.range K, band B f i = ∑ r, f r := by
  rw [bands_sum, h, Finset.sum_range]
  refine Finset.sum_congr rfl fun r _ => ?_
  exact dif_pos r.isLt

end Cert.GwMath
-- ==== Proof.Gw2Step.lean ====
module

public import proofs.«01_k».proof.Proof.Gen.Kernel2Ideal.Value
public import proofs.«01_k».proof.Proof.GwMath
public import Idealize.ShloMosaic.Lib.Pointwise

/-!
# The gradient of the z and the dt, a, b columns of the in-projection's weight: the kernel

Each grid point adds to each of two accumulators the product of its band of cotangent rows with its band of normalised
rows; the last point casts the accumulators out.
-/

@[expose] public section

set_option maxRecDepth 100000

namespace Cert.Kernel2Ideal.Gw

open Cert.Kernel2Ideal Cert.Kernel2Ideal.Gen Cert.Kernel2Ideal.Value Cert.GwMath
open Idealize.ShloMosaic Idealize.ShloMosaic.TcCoe Idealize.SL.Sem

variable (m : (ℓ : Loc nD τ sig) → Buf (Elt Ideal) ℓ) (c : Dev nD)

/-- The offset list of zeros. -/
theorem hz : (![0, 0] : Fin 2 → Nat) = fun _ => 0 := funext fun a => by fin_cases a <;> rfl

/-- The z accumulator after a point, from what it was before. -/
noncomputable def gNext0 (t : Fin cfg0.N) (acc : Vec Ideal S1024x1024 .f32) : Vec Ideal S1024x1024 .f32 :=
  k0_pay4 (iblk m c 0 t) acc (iblk m c 1 t)

/-- The other accumulator after a point, from what it was before. -/
noncomputable def gNext1 (t : Fin cfg0.N) (acc : Vec Ideal S128x1024 .f32) : Vec Ideal S128x1024 .f32 :=
  k0_pay5 (iblk m c 0 t) acc (iblk m c 2 t)

/-- The first scratch read back whole is what it was said to hold. -/
theorem read_scratch0 (X : Vec Ideal S1024x1024 .f32) (h : (Memref.whole cc0_scratch0).IsWhole) :
    View.read (Elt Ideal) (View.whole cc0_scratch0) (h.unread X) = X := Memref.IsWhole.read_unread h X

/-- So is the second. -/
theorem read_scratch1 (X : Vec Ideal S128x1024 .f32) (h : (Memref.whole cc0_scratch1).IsWhole) :
    View.read (Elt Ideal) (View.whole cc0_scratch1) (h.unread X) = X := Memref.IsWhole.read_unread h X

/-- A first point starts accumulator 0 from zero. -/
theorem st0_A (t : Fin cfg0.N) (acc) (h0 : t.val % 4 = 0) (h1 : ¬t.val % 4 = 3) :
    (stAt0 m c t.val t.isLt acc).2.2.1 = gNext0 m c t (k0_pay1 (F := Ideal)) := by
  rw [stAt0_A m c t acc h0 h1]
  dsimp only
  unfold sout0_A_0
  rw [View.read_writes_eq_canon _ _ _ (scover0_A_0 _ _ _ _ _ _ _ _ _ _ _ _ _ _ _ _ _ _ _ _ _)]
  unfold kernelRun0_A
  dsimp only
  sl_unfold_words
  simp only [View.readAt_eq_ld, View.ld_unit_zero (S := S2048x1024) hz, View.ld_unit_zero (S := S2048x128) hz,
    View.ld_unit_zero (S := S1024x1024) hz, View.ld_unit_zero (S := S128x1024) hz, Memref.IsWhole.read_unread]
  rw [View.canon_cons_unit_zero hz, View.readCov_unit_zero _ hz]
  unfold gNext0
  rfl

/-- A middle point adds its product to accumulator 0. -/
theorem st0_B (t : Fin cfg0.N) (acc) (h0 : ¬t.val % 4 = 0) (h1 : ¬t.val % 4 = 3) :
    (stAt0 m c t.val t.isLt acc).2.2.1 = gNext0 m c t acc.2.2.1 := by
  rw [stAt0_B m c t acc h0 h1]
  dsimp only
  unfold sout0_B_0
  rw [View.read_writes_eq_canon _ _ _ (scover0_B_0 _ _ _ _ _ _ _ _ _ _ _ _ _ _ _ _ _ _ _ _ _ _ _)]
  unfold kernelRun0_B
  dsimp only
  sl_unfold_words
  simp only [View.readAt_eq_ld, View.ld_unit_zero (S := S2048x1024) hz, View.ld_unit_zero (S := S2048x128) hz,
    View.ld_unit_zero (S := S1024x1024) hz, View.ld_unit_zero (S := S128x1024) hz, Memref.IsWhole.read_unread]
  rw [View.canon_unit_zero hz, read_scratch0]
  unfold gNext0
  rfl

/-- A last point adds its product to accumulator 0. -/
theorem st0_C (t : Fin cfg0.N) (acc) (h0 : ¬t.val % 4 = 0) (h1 : t.val % 4 = 3) :
    (stAt0 m c t.val t.isLt acc).2.2.1 = gNext0 m c t acc.2.2.1 := by
  rw [stAt0_C m c t acc h0 h1]
  dsimp only
  unfold sout0_C_0
  rw [View.read_writes_eq_canon _ _ _ (scover0_C_0 _ _ _ _ _ _ _ _ _ _ _ _ _ _ _ _ _ _ _ _ _ _ _)]
  unfold kernelRun0_C
  dsimp only
  sl_unfold_words
  simp only [View.readAt_eq_ld, View.ld_unit_zero (S := S2048x1024) hz, View.ld_unit_zero (S := S2048x128) hz,
    View.ld_unit_zero (S := S1024x1024) hz, View.ld_unit_zero (S := S128x1024) hz, Memref.IsWhole.read_unread]
  rw [View.canon_unit_zero hz, read_scratch0]
  unfold gNext0
  rfl

/-- A first point starts accumulator 1 from zero. -/
theorem st1_A (t : Fin cfg0.N) (acc) (h0 : t.val % 4 = 0) (h1 : ¬t.val % 4 = 3) :
    (stAt0 m c t.val t.isLt acc).2.2.2 = gNext1 m c t (k0_pay2 (F := Ideal)) := by
  rw [stAt0_A m c t acc h0 h1]
  dsimp only
  unfold sout0_A_1
  rw [View.read_writes_eq_canon _ _ _ (scover0_A_1 _ _ _ _ _ _ _ _ _ _ _ _ _ _ _ _ _ _ _ _ _)]
  unfold kernelRun0_A
  dsimp only
  sl_unfold_words
  simp only [View.readAt_eq_ld, View.ld_unit_zero (S := S2048x1024) hz, View.ld_unit_zero (S := S2048x128) hz,
    View.ld_unit_zero (S := S1024x1024) hz, View.ld_unit_zero (S := S128x1024) hz, Memref.IsWhole.read_unread]
  rw [View.canon_cons_unit_zero hz, View.readCov_unit_zero _ hz]
  unfold gNext1
  rfl

/-- A middle point adds its product to accumulator 1. -/
theorem st1_B (t : Fin cfg0.N) (acc) (h0 : ¬t.val % 4 = 0) (h1 : ¬t.val % 4 = 3) :
    (stAt0 m c t.val t.isLt acc).2.2.2 = gNext1 m c t acc.2.2.2 := by
  rw [stAt0_B m c t acc h0 h1]
  dsimp only
  unfold sout0_B_1
  rw [View.read_writes_eq_canon _ _ _ (scover0_B_1 _ _ _ _ _ _ _ _ _ _ _ _ _ _ _ _ _ _ _ _ _ _ _)]
  unfold kernelRun0_B
  dsimp only
  sl_unfold_words
  simp only [View.readAt_eq_ld, View.ld_unit_zero (S := S2048x1024) hz, View.ld_unit_zero (S := S2048x128) hz,
    View.ld_unit_zero (S := S1024x1024) hz, View.ld_unit_zero (S := S128x1024) hz, Memref.IsWhole.read_unread]
  rw [View.canon_unit_zero hz, read_scratch1]
  unfold gNext1
  rfl

/-- A last point adds its product to accumulator 1. -/
theorem st1_C (t : Fin cfg0.N) (acc) (h0 : ¬t.val % 4 = 0) (h1 : t.val % 4 = 3) :
    (stAt0 m c t.val t.isLt acc).2.2.2 = gNext1 m c t acc.2.2.2 := by
  rw [stAt0_C m c t acc h0 h1]
  dsimp only
  unfold sout0_C_1
  rw [View.read_writes_eq_canon _ _ _ (scover0_C_1 _ _ _ _ _ _ _ _ _ _ _ _ _ _ _ _ _ _ _ _ _ _ _)]
  unfold kernelRun0_C
  dsimp only
  sl_unfold_words
  simp only [View.readAt_eq_ld, View.ld_unit_zero (S := S2048x1024) hz, View.ld_unit_zero (S := S2048x128) hz,
    View.ld_unit_zero (S := S1024x1024) hz, View.ld_unit_zero (S := S128x1024) hz, Memref.IsWhole.read_unread]
  rw [View.canon_unit_zero hz, read_scratch1]
  unfold gNext1
  rfl

/-- The last point stores accumulator 0, cast. -/
theorem so0_C (t : Fin cfg0.N) (acc) (h0 : ¬t.val % 4 = 0) (h1 : t.val % 4 = 3) :
    (stAt0 m c t.val t.isLt acc).1 = k0_pay6 (gNext0 m c t acc.2.2.1) := by
  rw [stAt0_C m c t acc h0 h1]
  dsimp only
  unfold out0_C_3
  rw [View.read_writes_eq_canon _ _ _ (cover0_C_3 _ _ _ _ _ _ _ _ _ _ _ _ _ _ _ _ _ _ _ _ _ _ _)]
  unfold kernelRun0_C
  dsimp only
  sl_unfold_words
  simp only [View.readAt_eq_ld, View.ld_unit_zero (S := S2048x1024) hz, View.ld_unit_zero (S := S2048x128) hz,
    View.ld_unit_zero (S := S1024x1024) hz, View.ld_unit_zero (S := S128x1024) hz, Memref.IsWhole.read_unread]
  rw [View.canon_unit_zero hz, read_scratch0]
  refine congrArg k0_pay6 ?_
  rw [View.readCov_unit_zero _ hz]
  unfold gNext0
  rfl

/-- The last point stores accumulator 1, cast. -/
theorem so1_C (t : Fin cfg0.N) (acc) (h0 : ¬t.val % 4 = 0) (h1 : t.val % 4 = 3) :
    (stAt0 m c t.val t.isLt acc).2.1 = k0_pay7 (gNext1 m c t acc.2.2.2) := by
  rw [stAt0_C m c t acc h0 h1]
  dsimp only
  unfold out0_C_4
  rw [View.read_writes_eq_canon _ _ _ (cover0_C_4 _ _ _ _ _ _ _ _ _ _ _ _ _ _ _ _ _ _ _ _ _ _ _)]
  unfold kernelRun0_C
  dsimp only
  sl_unfold_words
  simp only [View.readAt_eq_ld, View.ld_unit_zero (S := S2048x1024) hz, View.ld_unit_zero (S := S2048x128) hz,
    View.ld_unit_zero (S := S1024x1024) hz, View.ld_unit_zero (S := S128x1024) hz, Memref.IsWhole.read_unread]
  rw [View.canon_unit_zero hz, read_scratch1]
  refine congrArg k0_pay7 ?_
  rw [View.readCov_unit_zero _ hz]
  unfold gNext1
  rfl

end Cert.Kernel2Ideal.Gw
-- ==== Proof.Gw2Val.lean ====
module

public import proofs.«01_k».proof.Proof.Gw2Step
public import proofs.«01_k».proof.Proof.Gen.Reference2Ideal.Read

/-!
# The gradient of the z and the dt, a, b columns of the in-projection's weight: its value

Over the extended reals the kernel's arrays are, entry by entry, the sum over all rows of a cotangent entry times a
normalised entry; so are the reference's.
-/

@[expose] public section

set_option maxRecDepth 100000

namespace Cert.Kernel2Ideal.Gw

open Cert.Kernel2Ideal Cert.Kernel2Ideal.Gen Cert.Kernel2Ideal.Value Cert.GwMath
open Idealize.ShloMosaic Idealize.ShloMosaic.TcCoe Idealize.SL.Sem

variable (m : (ℓ : Loc nD τ sig) → Buf (Elt Ideal) ℓ) (c : Dev nD)

/-- The rows of the step's input. -/
abbrev aX : S8192x1024.Idx → EReal := m ((c : Thread nD τ).loc main_arg0)
/-- The norm's weight. -/
abbrev aN : S1024.Idx → EReal := m ((c : Thread nD τ).loc main_arg1)
/-- The cotangent. -/
abbrev aD : S8192x1024.Idx → EReal := m ((c : Thread nD τ).loc main_arg2)

/-- The second cotangent. -/
abbrev aS : S8192x128.Idx → EReal := m ((c : Thread nD τ).loc main_arg3)

/-- The normalised rows. -/
noncomputable def U (x : S8192x1024.Idx → EReal) (w : S1024.Idx → EReal) (r : Fin 8192) (k : Fin 1024) : EReal :=
  x (ix2 r k) * Ideal.rsqrt (Ideal.div (∑ j : Fin 1024, x (ix2 r j) * x (ix2 r j)) (Ideal.ofBits FTy.f32 0x44800000#32) + Ideal.ofBits FTy.f32 0x358637BD#32) * w (ix1 k)

/-- The reference's normalised rows. -/
theorem ref_u (x0 : S8192x1024.Idx → EReal) (x1 : S1024.Idx → EReal) (r : Fin 8192) (k : Fin 1024) :
    Cert.Reference2Ideal.Read.val_main_v13 (F := Ideal) x0 x1 (ix2 r k) = U x0 x1 r k := by
  unfold U
  open Cert.Reference2Ideal.Read in
  pointwise [val_main_v13, val_main_v12, val_main_v11, val_main_v10, val_main_v9, val_main_v8, val_main_v7, val_main_v6, val_main_v5, val_main_v4, val_main_v3, val_main_v2, val_main_v1, val_main_cst_0, val_main_cst_1, val_main_cst_2]

/-- The same rows where the reference takes the second product. -/
theorem ref_u2 (x0 : S8192x1024.Idx → EReal) (x1 : S1024.Idx → EReal) (r : Fin 8192) (k : Fin 1024) :
    Cert.Reference2Ideal.Read.val_main_v32 (F := Ideal) x0 x1 (ix2 r k) = U x0 x1 r k := by
  unfold U
  open Cert.Reference2Ideal.Read in
  pointwise [val_main_v32, val_main_v31, val_main_v30, val_main_v29, val_main_v28, val_main_v27, val_main_v26, val_main_v25, val_main_v24, val_main_v23, val_main_v22, val_main_v21, val_main_v20, val_main_cst_4, val_main_cst_5, val_main_cst_6]

/-- What the host leaves as the normalised rows. -/
theorem V_u (r : Fin 8192) (k : Fin 1024) :
    (V m c main_v13 : S8192x1024.Idx → EReal) (ix2 r k) = U (aX m c) (aN m c) r k := by
  have h : (V m c main_v13 : S8192x1024.Idx → EReal)
      = truncf (F := Ideal) .bf16 (Cert.Reference2Ideal.Read.val_main_v13 (F := Ideal) (aX m c) (aN m c)) bitsLt_bf16_f32 := by
    unfold_abbrev_sides
    after_results
    rfl
  rw [h, ← ref_u]
  rfl

/-- The cotangent is an argument. -/
theorem V_d : (V m c main_arg2 : S8192x1024.Idx → EReal) = aD m c := V_main_arg2 m c

/-- So is the second. -/
theorem V_s : (V m c main_arg3 : S8192x128.Idx → EReal) = aS m c := V_main_arg3 m c

/-- The grid has 4 points. -/
theorem tlt (t : Fin cfg0.N) : t.val < 4 := lt_of_lt_of_eq t.isLt N_0

/-- Row `r` of band `t`. -/
def rowOf (t : Fin cfg0.N) (r : Fin 2048) : Fin 8192 := ⟨2048 * t.val + r.val, by have := tlt t; have := r.isLt; omega⟩

/-- The normalised rows' block at point `t` is the `t`-th band. -/
theorem idx0 : ∀ t : Fin cfg0.N, win0_0.index t (0 : Fin 2) = t.val ∧ win0_0.index t (1 : Fin 2) = 0 := by decide
/-- So is the cotangent's. -/
theorem idx1 : ∀ t : Fin cfg0.N, win0_1.index t (0 : Fin 2) = t.val ∧ win0_1.index t (1 : Fin 2) = 0 := by decide

/-- So is the second's. -/
theorem idx2 : ∀ t : Fin cfg0.N, win0_2.index t (0 : Fin 2) = t.val ∧ win0_2.index t (1 : Fin 2) = 0 := by decide

/-- The normalised rows' block, entry by entry. -/
theorem blk0 (t : Fin cfg0.N) (r : Fin 2048) (k : Fin 1024) :
    (iblk m c 0 t : Vec Ideal S2048x1024 .bf16) (ix2 r k) = U (aX m c) (aN m c) (rowOf t r) k := by
  have hi := idx0 t
  rw [← V_u]
  unfold iblk
  rw [View.read_apply]
  show V m c main_v13 _ = V m c main_v13 _
  congr 1
  funext a
  apply Fin.ext
  match a with
  | ⟨0, _⟩ => show win0_0.index t 0 * 2048 + 1 * r.val = 2048 * t.val + r.val; rw [hi.1]; omega
  | ⟨1, _⟩ => show win0_0.index t 1 * 1024 + 1 * k.val = k.val; rw [hi.2]; omega

/-- The cotangent's block, entry by entry. -/
theorem blk1 (t : Fin cfg0.N) (r : Fin 2048) (j : Fin 1024) :
    (iblk m c 1 t : Vec Ideal S2048x1024 .f32) (ix2 r j) = aD m c (ix2 (rowOf t r) j) := by
  have hi := idx1 t
  rw [← V_d]
  unfold iblk
  rw [View.read_apply]
  show V m c main_arg2 _ = V m c main_arg2 _
  congr 1
  funext a
  apply Fin.ext
  match a with
  | ⟨0, _⟩ => show win0_1.index t 0 * 2048 + 1 * r.val = 2048 * t.val + r.val; rw [hi.1]; omega
  | ⟨1, _⟩ => show win0_1.index t 1 * 1024 + 1 * j.val = j.val; rw [hi.2]; omega

/-- The second cotangent's block, entry by entry. -/
theorem blk2 (t : Fin cfg0.N) (r : Fin 2048) (j : Fin 128) :
    (iblk m c 2 t : Vec Ideal S2048x128 .f32) (ix2 r j) = aS m c (ix2 (rowOf t r) j) := by
  have hi := idx2 t
  rw [← V_s]
  unfold iblk
  rw [View.read_apply]
  show V m c main_arg3 _ = V m c main_arg3 _
  congr 1
  funext a
  apply Fin.ext
  match a with
  | ⟨0, _⟩ => show win0_2.index t 0 * 2048 + 1 * r.val = 2048 * t.val + r.val; rw [hi.1]; omega
  | ⟨1, _⟩ => show win0_2.index t 1 * 128 + 1 * j.val = j.val; rw [hi.2]; omega

/-- A point's product added to accumulator 0, entry by entry. -/
theorem payadd0_apply (v3 : Vec Ideal S2048x1024 .bf16) (v5 : Vec Ideal S1024x1024 .f32) (v6 : Vec Ideal S2048x1024 .f32) (j : Fin 1024) (k : Fin 1024) :
    k0_pay4 v3 v5 v6 (ix2 j k) = v5 (ix2 j k) + ∑ r, v6 (ix2 r j) * v3 (ix2 r k) := by
  pointwise [k0_pay4, k0_pay3]
/-- Accumulator 0 starts at zero. -/
theorem payzero0_apply (j : Fin 1024) (k : Fin 1024) : k0_pay1 (F := Ideal) (ix2 j k) = 0 := by
  pointwise [k0_pay1]
/-- The cast does nothing here. -/
theorem paycast0_apply (v : Vec Ideal S1024x1024 .f32) (j : Fin 1024) (k : Fin 1024) : k0_pay6 v (ix2 j k) = v (ix2 j k) := by
  pointwise [k0_pay6]

/-- A point's product added to accumulator 1, entry by entry. -/
theorem payadd1_apply (v3 : Vec Ideal S2048x1024 .bf16) (v5 : Vec Ideal S128x1024 .f32) (v6 : Vec Ideal S2048x128 .f32) (j : Fin 128) (k : Fin 1024) :
    k0_pay5 v3 v5 v6 (ix2 j k) = v5 (ix2 j k) + ∑ r, v6 (ix2 r j) * v3 (ix2 r k) := by
  pointwise [k0_pay5, k0_pay3]
/-- Accumulator 1 starts at zero. -/
theorem payzero1_apply (j : Fin 128) (k : Fin 1024) : k0_pay2 (F := Ideal) (ix2 j k) = 0 := by
  pointwise [k0_pay2]
/-- The cast does nothing here. -/
theorem paycast1_apply (v : Vec Ideal S128x1024 .f32) (j : Fin 128) (k : Fin 1024) : k0_pay7 v (ix2 j k) = v (ix2 j k) := by
  pointwise [k0_pay7]

/-- The last point is a point of the grid. -/
theorem hlast : 3 < cfg0.N := lt_of_lt_of_eq (by decide) N_0.symm

/-- The summand of one row. -/
noncomputable abbrev part0 (j : Fin 1024) (k : Fin 1024) (r : Fin 8192) : EReal := aD m c (ix2 r j) * U (aX m c) (aN m c) r k

/-- A point adds its band. -/
theorem gNext0_apply (t : Fin cfg0.N) (acc : Vec Ideal S1024x1024 .f32) (j : Fin 1024) (k : Fin 1024) :
    gNext0 m c t acc (ix2 j k) = acc (ix2 j k) + band 2048 (part0 m c j k) t.val := by
  unfold gNext0
  rw [payadd0_apply]
  unfold band
  refine congrArg (_ + ·) (Finset.sum_congr rfl fun r _ => ?_)
  rw [blk0, blk1]
  unfold term
  rw [dif_pos (show 2048 * t.val + r.val < 8192 from (rowOf t r).isLt)]
  rfl

/-- The step from one point to the next. -/
theorem st0_succ (n : ℕ) (hn : n + 1 < cfg0.N) (acc) :
    (stAt0 m c (n + 1) hn acc).2.2.1 = gNext0 m c ⟨n + 1, hn⟩ acc.2.2.1 := by
  have ht := tlt ⟨n + 1, hn⟩
  dsimp only at ht
  by_cases h1 : (n + 1) % 4 = 3
  · exact st0_C m c ⟨n + 1, hn⟩ acc (by dsimp only; omega) h1
  · exact st0_B m c ⟨n + 1, hn⟩ acc (by dsimp only; omega) h1

/-- The accumulator after point `n`. -/
theorem acc0_at (j : Fin 1024) (k : Fin 1024) (n : ℕ) (hn : n < cfg0.N) :
    (outsAt0 m c n hn).2.2.1 (ix2 j k) = ∑ i ∈ Finset.range (n + 1), band 2048 (part0 m c j k) i := by
  induction n with
  | zero =>
    rw [outsAt0_zero, st0_A m c ⟨0, hn⟩ junk0 rfl (by dsimp only; omega), gNext0_apply, payzero0_apply, zero_add, Finset.sum_range_one]
  | succ n ih =>
    rw [outsAt0_succ, st0_succ, gNext0_apply, ih, Finset.sum_range_succ _ (n + 1)]

/-- The kernel's array, entry by entry. -/
theorem G3_apply (j : Fin 1024) (k : Fin 1024) :
    (G3 m c : S1024x1024.Idx → EReal) (ix2 j k) = ∑ r, part0 m c j k r := by
  have hs : (outsAt0 m c 3 hlast).1 = k0_pay6 (outsAt0 m c 3 hlast).2.2.1 := by
    rw [outsAt0_succ m c 2 hlast, so0_C m c ⟨3, hlast⟩ _ (by decide) (by decide), st0_succ]
  rw [G3_last, ← outsAt0_sweep m c 3 hlast, hs, paycast0_apply, acc0_at]
  exact bands_all 2048 4 rfl _

/-- The summand of one row. -/
noncomputable abbrev part1 (j : Fin 128) (k : Fin 1024) (r : Fin 8192) : EReal := aS m c (ix2 r j) * U (aX m c) (aN m c) r k

/-- A point adds its band. -/
theorem gNext1_apply (t : Fin cfg0.N) (acc : Vec Ideal S128x1024 .f32) (j : Fin 128) (k : Fin 1024) :
    gNext1 m c t acc (ix2 j k) = acc (ix2 j k) + band 2048 (part1 m c j k) t.val := by
  unfold gNext1
  rw [payadd1_apply]
  unfold band
  refine congrArg (_ + ·) (Finset.sum_congr rfl fun r _ => ?_)
  rw [blk0, blk2]
  unfold term
  rw [dif_pos (show 2048 * t.val + r.val < 8192 from (rowOf t r).isLt)]
  rfl

/-- The step from one point to the next. -/
theorem st1_succ (n : ℕ) (hn : n + 1 < cfg0.N) (acc) :
    (stAt0 m c (n + 1) hn acc).2.2.2 = gNext1 m c ⟨n + 1, hn⟩ acc.2.2.2 := by
  have ht := tlt ⟨n + 1, hn⟩
  dsimp only at ht
  by_cases h1 : (n + 1) % 4 = 3
  · exact st1_C m c ⟨n + 1, hn⟩ acc (by dsimp only; omega) h1
  · exact st1_B m c ⟨n + 1, hn⟩ acc (by dsimp only; omega) h1

/-- The accumulator after point `n`. -/
theorem acc1_at (j : Fin 128) (k : Fin 1024) (n : ℕ) (hn : n < cfg0.N) :
    (outsAt0 m c n hn).2.2.2 (ix2 j k) = ∑ i ∈ Finset.range (n + 1), band 2048 (part1 m c j k) i := by
  induction n with
  | zero =>
    rw [outsAt0_zero, st1_A m c ⟨0, hn⟩ junk0 rfl (by dsimp only; omega), gNext1_apply, payzero1_apply, zero_add, Finset.sum_range_one]
  | succ n ih =>
    rw [outsAt0_succ, st1_succ, gNext1_apply, ih, Finset.sum_range_succ _ (n + 1)]

/-- The kernel's array, entry by entry. -/
theorem G4_apply (j : Fin 128) (k : Fin 1024) :
    (G4 m c : S128x1024.Idx → EReal) (ix2 j k) = ∑ r, part1 m c j k r := by
  have hs : (outsAt0 m c 3 hlast).2.1 = k0_pay7 (outsAt0 m c 3 hlast).2.2.2 := by
    rw [outsAt0_succ m c 2 hlast, so1_C m c ⟨3, hlast⟩ _ (by decide) (by decide), st1_succ]
  rw [G4_last, ← outsAt0_sweep m c 3 hlast, hs, paycast1_apply, acc1_at]
  exact bands_all 2048 4 rfl _

end Cert.Kernel2Ideal.Gw

namespace Cert.GwAlg2

open Cert.Kernel2Ideal Cert.Kernel2Ideal.Gen Cert.Kernel2Ideal.Value Cert.Kernel2Ideal.Gw
open Idealize.ShloMosaic Idealize.ShloMosaic.TcCoe Idealize.SL.Sem
open Cert.Reference2Ideal.Read

/-- The reference's first array, entry by entry. -/
theorem ref_apply0 (x0 : S8192x1024.Idx → EReal) (x1 : S1024.Idx → EReal) (x2 : S8192x1024.Idx → EReal) (j : Fin 1024) (k : Fin 1024) :
    val_main_v18 (F := Ideal) x0 x1 x2 (ix2 j k) = ∑ r, x2 (ix2 r j) * U x0 x1 r k := by
  simp only [← ref_u]
  pointwise [val_main_v18, val_main_v17, val_main_v16, val_main_v15]

/-- The two programs' first results are equal. -/
theorem eq_g0 (m : (ℓ : Loc nD τ sig) → Buf (Elt Ideal) ℓ) (c : Dev nD) :
    (val_main_v18 (F := Ideal) (aX m c) (aN m c) (aD m c) : S1024x1024.Idx → EReal) = (G3 m c : S1024x1024.Idx → EReal) := by
  funext i
  rw [← ix2_eta i]
  exact (ref_apply0 _ _ _ (i 0) (i 1)).trans (G3_apply m c (i 0) (i 1)).symm

/-- The reference's second array, entry by entry. -/
theorem ref_apply1 (x0 : S8192x1024.Idx → EReal) (x1 : S1024.Idx → EReal) (x2 : S8192x128.Idx → EReal) (j : Fin 128) (k : Fin 1024) :
    val_main_v37 (F := Ideal) x0 x1 x2 (ix2 j k) = ∑ r, x2 (ix2 r j) * U x0 x1 r k := by
  simp only [← ref_u2]
  pointwise [val_main_v37, val_main_v36, val_main_v35, val_main_v34]

/-- The two programs' second results are equal. -/
theorem eq_g1 (m : (ℓ : Loc nD τ sig) → Buf (Elt Ideal) ℓ) (c : Dev nD) :
    (val_main_v37 (F := Ideal) (aX m c) (aN m c) (aS m c) : S128x1024.Idx → EReal) = (G4 m c : S128x1024.Idx → EReal) := by
  funext i
  rw [← ix2_eta i]
  exact (ref_apply1 _ _ _ (i 0) (i 1)).trans (G4_apply m c (i 0) (i 1)).symm

end Cert.GwAlg2
-- ==== Proof.Gw3Step.lean ====
module

public import proofs.«01_k».proof.Proof.Gen.Kernel3Ideal.Value
public import proofs.«01_k».proof.Proof.GwMath
public import Idealize.ShloMosaic.Lib.Pointwise

/-!
# The gradient of the xbc columns of the in-projection's weight: the kernel

Each grid point adds to the accumulator the product of its band of cotangent rows with its band of normalised rows;
the last point casts the accumulator out.
-/

@[expose] public section

set_option maxRecDepth 100000

namespace Cert.Kernel3Ideal.Gw

open Cert.Kernel3Ideal Cert.Kernel3Ideal.Gen Cert.Kernel3Ideal.Value Cert.GwMath
open Idealize.ShloMosaic Idealize.ShloMosaic.TcCoe Idealize.SL.Sem

variable (m : (ℓ : Loc nD τ sig) → Buf (Elt Ideal) ℓ) (c : Dev nD)

/-- The offset list of zeros. -/
theorem hz : (![0, 0] : Fin 2 → Nat) = fun _ => 0 := funext fun a => by fin_cases a <;> rfl

/-- The accumulator after a point, from what it was before. -/
noncomputable def gNext (t : Fin cfg0.N) (acc : Vec Ideal S1536x1024 .f32) : Vec Ideal S1536x1024 .f32 :=
  k0_pay2 acc (iblk m c 1 t) (iblk m c 0 t)

/-- The scratch read back whole is what it was said to hold. -/
theorem read_scratch (X : Vec Ideal S1536x1024 .f32) (h : (Memref.whole cc0_scratch0).IsWhole) :
    View.read (Elt Ideal) (View.whole cc0_scratch0) (h.unread X) = X := Memref.IsWhole.read_unread h X

/-- A first point starts the accumulator from zero. -/
theorem st_A (t : Fin cfg0.N) (acc) (h0 : t.val % 8 = 0) (h1 : ¬t.val % 8 = 7) :
    (stAt0 m c t.val t.isLt acc).2 = gNext m c t (k0_pay1 (F := Ideal)) := by
  rw [stAt0_A m c t acc h0 h1]
  dsimp only
  unfold sout0_A_0
  rw [View.read_writes_eq_canon _ _ _ (scover0_A_0 _ _ _ _ _ _ _ _ _ _ _ _ _ _)]
  unfold kernelRun0_A
  dsimp only
  sl_unfold_words
  simp only [View.readAt_eq_ld, View.ld_unit_zero (S := S1024x1024) hz, View.ld_unit_zero (S := S1024x1536) hz,
    View.ld_unit_zero (S := S1536x1024) hz, Memref.IsWhole.read_unread]
  rw [View.canon_cons_unit_zero hz, View.readCov_unit_zero _ hz]
  unfold gNext
  rfl

/-- A middle point adds its product to the accumulator. -/
theorem st_B (t : Fin cfg0.N) (acc) (h0 : ¬t.val % 8 = 0) (h1 : ¬t.val % 8 = 7) :
    (stAt0 m c t.val t.isLt acc).2 = gNext m c t acc.2 := by
  rw [stAt0_B m c t acc h0 h1]
  dsimp only
  unfold sout0_B_0
  rw [View.read_writes_eq_canon _ _ _ (scover0_B_0 _ _ _ _ _ _ _ _ _ _ _ _ _ _ _)]
  unfold kernelRun0_B
  dsimp only
  sl_unfold_words
  simp only [View.readAt_eq_ld, View.ld_unit_zero (S := S1024x1024) hz, View.ld_unit_zero (S := S1024x1536) hz,
    View.ld_unit_zero (S := S1536x1024) hz, Memref.IsWhole.read_unread]
  rw [View.canon_unit_zero hz, read_scratch]
  unfold gNext
  rfl

/-- So does a last point. -/
theorem st_C (t : Fin cfg0.N) (acc) (h0 : ¬t.val % 8 = 0) (h1 : t.val % 8 = 7) :
    (stAt0 m c t.val t.isLt acc).2 = gNext m c t acc.2 := by
  rw [stAt0_C m c t acc h0 h1]
  dsimp only
  unfold sout0_C_0
  rw [View.read_writes_eq_canon _ _ _ (scover0_C_0 _ _ _ _ _ _ _ _ _ _ _ _ _ _ _)]
  unfold kernelRun0_C
  dsimp only
  sl_unfold_words
  simp only [View.readAt_eq_ld, View.ld_unit_zero (S := S1024x1024) hz, View.ld_unit_zero (S := S1024x1536) hz,
    View.ld_unit_zero (S := S1536x1024) hz, Memref.IsWhole.read_unread]
  rw [View.canon_unit_zero hz, read_scratch]
  unfold gNext
  rfl

/-- The last point stores the accumulator, cast. -/
theorem so_C (t : Fin cfg0.N) (acc) (h0 : ¬t.val % 8 = 0) (h1 : t.val % 8 = 7) :
    (stAt0 m c t.val t.isLt acc).1 = k0_pay3 (gNext m c t acc.2) := by
  rw [stAt0_C m c t acc h0 h1]
  dsimp only
  unfold out0_C_2
  rw [View.read_writes_eq_canon _ _ _ (cover0_C_2 _ _ _ _ _ _ _ _ _ _ _ _ _ _ _)]
  unfold kernelRun0_C
  dsimp only
  sl_unfold_words
  simp only [View.readAt_eq_ld, View.ld_unit_zero (S := S1024x1024) hz, View.ld_unit_zero (S := S1024x1536) hz,
    View.ld_unit_zero (S := S1536x1024) hz, Memref.IsWhole.read_unread]
  rw [View.canon_unit_zero hz, read_scratch]
  refine congrArg k0_pay3 ?_
  rw [View.readCov_unit_zero _ hz]
  unfold gNext
  rfl

end Cert.Kernel3Ideal.Gw
-- ==== Proof.Gw3Val.lean ====
module

public import proofs.«01_k».proof.Proof.Gw3Step
public import proofs.«01_k».proof.Proof.Gen.Reference3Ideal.Read

/-!
# The gradient of the xbc columns of the in-projection's weight: its value

Over the extended reals the kernel's array is, entry by entry, the sum over all rows of a cotangent entry times a
normalised entry; so is the reference's.
-/

@[expose] public section

set_option maxRecDepth 100000

namespace Cert.Kernel3Ideal.Gw

open Cert.Kernel3Ideal Cert.Kernel3Ideal.Gen Cert.Kernel3Ideal.Value Cert.GwMath
open Idealize.ShloMosaic Idealize.ShloMosaic.TcCoe Idealize.SL.Sem

variable (m : (ℓ : Loc nD τ sig) → Buf (Elt Ideal) ℓ) (c : Dev nD)

/-- The rows of the step's input. -/
abbrev aX : S8192x1024.Idx → EReal := m ((c : Thread nD τ).loc main_arg0)
/-- The norm's weight. -/
abbrev aN : S1024.Idx → EReal := m ((c : Thread nD τ).loc main_arg1)
/-- The cotangent. -/
abbrev aD : S8192x1536.Idx → EReal := m ((c : Thread nD τ).loc main_arg2)

/-- The normalised rows. -/
noncomputable def U (x : S8192x1024.Idx → EReal) (w : S1024.Idx → EReal) (r : Fin 8192) (k : Fin 1024) : EReal :=
  x (ix2 r k) * Ideal.rsqrt (Ideal.div (∑ j : Fin 1024, x (ix2 r j) * x (ix2 r j)) (Ideal.ofBits FTy.f32 0x44800000#32) + Ideal.ofBits FTy.f32 0x358637BD#32) * w (ix1 k)

/-- The reference's normalised rows. -/
theorem ref_u (x0 : S8192x1024.Idx → EReal) (x1 : S1024.Idx → EReal) (r : Fin 8192) (k : Fin 1024) :
    Cert.Reference3Ideal.Read.val_main_v13 (F := Ideal) x0 x1 (ix2 r k) = U x0 x1 r k := by
  unfold U
  open Cert.Reference3Ideal.Read in
  pointwise [val_main_v13, val_main_v12, val_main_v11, val_main_v10, val_main_v9, val_main_v8, val_main_v7, val_main_v6, val_main_v5, val_main_v4, val_main_v3, val_main_v2, val_main_v1, val_main_cst_0, val_main_cst_1, val_main_cst_2]

/-- What the host leaves as the normalised rows. -/
theorem V_u (r : Fin 8192) (k : Fin 1024) :
    (V m c main_v13 : S8192x1024.Idx → EReal) (ix2 r k) = U (aX m c) (aN m c) r k := by
  have h : (V m c main_v13 : S8192x1024.Idx → EReal)
      = truncf (F := Ideal) .bf16 (Cert.Reference3Ideal.Read.val_main_v13 (F := Ideal) (aX m c) (aN m c)) bitsLt_bf16_f32 := by
    unfold_abbrev_sides
    after_results
    rfl
  rw [h, ← ref_u]
  rfl

/-- The cotangent is an argument. -/
theorem V_d : (V m c main_arg2 : S8192x1536.Idx → EReal) = aD m c := V_main_arg2 m c

/-- The grid has 8 points. -/
theorem tlt (t : Fin cfg0.N) : t.val < 8 := lt_of_lt_of_eq t.isLt N_0

/-- Row `r` of band `t`. -/
def rowOf (t : Fin cfg0.N) (r : Fin 1024) : Fin 8192 := ⟨1024 * t.val + r.val, by have := tlt t; have := r.isLt; omega⟩

/-- The normalised rows' block at point `t` is the `t`-th band. -/
theorem idx0 : ∀ t : Fin cfg0.N, win0_0.index t (0 : Fin 2) = t.val ∧ win0_0.index t (1 : Fin 2) = 0 := by decide
/-- So is the cotangent's. -/
theorem idx1 : ∀ t : Fin cfg0.N, win0_1.index t (0 : Fin 2) = t.val ∧ win0_1.index t (1 : Fin 2) = 0 := by decide

/-- The normalised rows' block, entry by entry. -/
theorem blk0 (t : Fin cfg0.N) (r : Fin 1024) (k : Fin 1024) :
    (iblk m c 0 t : Vec Ideal S1024x1024 .bf16) (ix2 r k) = U (aX m c) (aN m c) (rowOf t r) k := by
  have hi := idx0 t
  rw [← V_u]
  unfold iblk
  rw [View.read_apply]
  show V m c main_v13 _ = V m c main_v13 _
  congr 1
  funext a
  apply Fin.ext
  match a with
  | ⟨0, _⟩ => show win0_0.index t 0 * 1024 + 1 * r.val = 1024 * t.val + r.val; rw [hi.1]; omega
  | ⟨1, _⟩ => show win0_0.index t 1 * 1024 + 1 * k.val = k.val; rw [hi.2]; omega

/-- The cotangent's block, entry by entry. -/
theorem blk1 (t : Fin cfg0.N) (r : Fin 1024) (j : Fin 1536) :
    (iblk m c 1 t : Vec Ideal S1024x1536 .f32) (ix2 r j) = aD m c (ix2 (rowOf t r) j) := by
  have hi := idx1 t
  rw [← V_d]
  unfold iblk
  rw [View.read_apply]
  show V m c main_arg2 _ = V m c main_arg2 _
  congr 1
  funext a
  apply Fin.ext
  match a with
  | ⟨0, _⟩ => show win0_1.index t 0 * 1024 + 1 * r.val = 1024 * t.val + r.val; rw [hi.1]; omega
  | ⟨1, _⟩ => show win0_1.index t 1 * 1536 + 1 * j.val = j.val; rw [hi.2]; omega

/-- A point's product added to the accumulator, entry by entry. -/
theorem pay2_apply (v3 : Vec Ideal S1536x1024 .f32) (v4 : Vec Ideal S1024x1536 .f32) (v6 : Vec Ideal S1024x1024 .bf16) (j : Fin 1536) (k : Fin 1024) :
    k0_pay2 v3 v4 v6 (ix2 j k) = v3 (ix2 j k) + ∑ r, v4 (ix2 r j) * v6 (ix2 r k) := by
  pointwise [k0_pay2]
/-- The accumulator starts at zero. -/
theorem pay1_apply (j : Fin 1536) (k : Fin 1024) : k0_pay1 (F := Ideal) (ix2 j k) = 0 := by
  pointwise [k0_pay1]
/-- The cast does nothing here. -/
theorem pay3_apply (v : Vec Ideal S1536x1024 .f32) (j : Fin 1536) (k : Fin 1024) : k0_pay3 v (ix2 j k) = v (ix2 j k) := by
  pointwise [k0_pay3]

/-- The summand of one row. -/
noncomputable abbrev part (j : Fin 1536) (k : Fin 1024) (r : Fin 8192) : EReal := aD m c (ix2 r j) * U (aX m c) (aN m c) r k

/-- A point adds its band. -/
theorem gNext_apply (t : Fin cfg0.N) (acc : Vec Ideal S1536x1024 .f32) (j : Fin 1536) (k : Fin 1024) :
    gNext m c t acc (ix2 j k) = acc (ix2 j k) + band 1024 (part m c j k) t.val := by
  unfold gNext
  rw [pay2_apply]
  unfold band
  refine congrArg (_ + ·) (Finset.sum_congr rfl fun r _ => ?_)
  rw [blk0, blk1]
  unfold term
  rw [dif_pos (show 1024 * t.val + r.val < 8192 from (rowOf t r).isLt)]
  rfl

/-- The step from one point to the next. -/
theorem st_succ (n : ℕ) (hn : n + 1 < cfg0.N) (acc) :
    (stAt0 m c (n + 1) hn acc).2 = gNext m c ⟨n + 1, hn⟩ acc.2 := by
  have ht := tlt ⟨n + 1, hn⟩
  dsimp only at ht
  by_cases h1 : (n + 1) % 8 = 7
  · exact st_C m c ⟨n + 1, hn⟩ acc (by dsimp only; omega) h1
  · exact st_B m c ⟨n + 1, hn⟩ acc (by dsimp only; omega) h1

/-- The accumulator after point `n`. -/
theorem acc_at (j : Fin 1536) (k : Fin 1024) (n : ℕ) (hn : n < cfg0.N) :
    (outsAt0 m c n hn).2 (ix2 j k) = ∑ i ∈ Finset.range (n + 1), band 1024 (part m c j k) i := by
  induction n with
  | zero =>
    rw [outsAt0_zero, st_A m c ⟨0, hn⟩ junk0 rfl (by dsimp only; omega), gNext_apply, pay1_apply, zero_add, Finset.sum_range_one]
  | succ n ih =>
    rw [outsAt0_succ, st_succ, gNext_apply, ih, Finset.sum_range_succ _ (n + 1)]

/-- The last point is a point of the grid. -/
theorem hlast : 7 < cfg0.N := lt_of_lt_of_eq (by decide) N_0.symm

/-- The kernel's array, entry by entry. -/
theorem G2_apply (j : Fin 1536) (k : Fin 1024) :
    (G2 m c : S1536x1024.Idx → EReal) (ix2 j k) = ∑ r, part m c j k r := by
  have hs : (outsAt0 m c 7 hlast).1 = k0_pay3 (outsAt0 m c 7 hlast).2 := by
    rw [outsAt0_succ m c 6 hlast, so_C m c ⟨7, hlast⟩ _ (by decide) (by decide), st_succ]
  rw [G2_last, ← outsAt0_sweep m c 7 hlast, hs, pay3_apply, acc_at]
  exact bands_all 1024 8 rfl _

end Cert.Kernel3Ideal.Gw

namespace Cert.GwAlg3

open Cert.Kernel3Ideal Cert.Kernel3Ideal.Gen Cert.Kernel3Ideal.Value Cert.Kernel3Ideal.Gw
open Idealize.ShloMosaic Idealize.ShloMosaic.TcCoe Idealize.SL.Sem
open Cert.Reference3Ideal.Read

/-- The reference's array, entry by entry. -/
theorem ref_apply (x0 : S8192x1024.Idx → EReal) (x1 : S1024.Idx → EReal) (x2 : S8192x1536.Idx → EReal) (j : Fin 1536) (k : Fin 1024) :
    val_main_v18 (F := Ideal) x0 x1 x2 (ix2 j k) = ∑ r, x2 (ix2 r j) * U x0 x1 r k := by
  simp only [← ref_u]
  pointwise [val_main_v18, val_main_v17, val_main_v16, val_main_v15]

/-- The two programs' results are equal. -/
theorem eq_g (m : (ℓ : Loc nD τ sig) → Buf (Elt Ideal) ℓ) (c : Dev nD) :
    (val_main_v18 (F := Ideal) (aX m c) (aN m c) (aD m c) : S1536x1024.Idx → EReal) = (G2 m c : S1536x1024.Idx → EReal) := by
  funext i
  rw [← ix2_eta i]
  exact (ref_apply _ _ _ (i 0) (i 1)).trans (G2_apply m c (i 0) (i 1)).symm

end Cert.GwAlg3
-- ==== Proof.Gw4Step.lean ====
module

public import proofs.«01_k».proof.Proof.Gen.Kernel4Ideal.Value
public import proofs.«01_k».proof.Proof.GwMath
public import Idealize.ShloMosaic.Lib.Pointwise

/-!
# The gradient of the gate columns of the in-projection's weight: the kernel

Each grid point adds to the accumulator the product of its band of cotangent rows with its band of normalised rows;
the last point casts the accumulator out.
-/

@[expose] public section

set_option maxRecDepth 100000

namespace Cert.Kernel4Ideal.Gw

open Cert.Kernel4Ideal Cert.Kernel4Ideal.Gen Cert.Kernel4Ideal.Value Cert.GwMath
open Idealize.ShloMosaic Idealize.ShloMosaic.TcCoe Idealize.SL.Sem

variable (m : (ℓ : Loc nD τ sig) → Buf (Elt Ideal) ℓ) (c : Dev nD)

/-- The offset list of zeros. -/
theorem hz : (![0, 0] : Fin 2 → Nat) = fun _ => 0 := funext fun a => by fin_cases a <;> rfl

/-- The accumulator after a point, from what it was before. -/
noncomputable def gNext (t : Fin cfg0.N) (acc : Vec Ideal S1024x1024 .f32) : Vec Ideal S1024x1024 .f32 :=
  k0_pay2 acc (iblk m c 1 t) (iblk m c 0 t)

/-- The scratch read back whole is what it was said to hold. -/
theorem read_scratch (X : Vec Ideal S1024x1024 .f32) (h : (Memref.whole cc0_scratch0).IsWhole) :
    View.read (Elt Ideal) (View.whole cc0_scratch0) (h.unread X) = X := Memref.IsWhole.read_unread h X

/-- A first point starts the accumulator from zero. -/
theorem st_A (t : Fin cfg0.N) (acc) (h0 : t.val % 4 = 0) (h1 : ¬t.val % 4 = 3) :
    (stAt0 m c t.val t.isLt acc).2 = gNext m c t (k0_pay1 (F := Ideal)) := by
  rw [stAt0_A m c t acc h0 h1]
  dsimp only
  unfold sout0_A_0
  rw [View.read_writes_eq_canon _ _ _ (scover0_A_0 _ _ _ _ _ _ _ _ _ _ _ _ _ _)]
  unfold kernelRun0_A
  dsimp only
  sl_unfold_words
  simp only [View.readAt_eq_ld, View.ld_unit_zero (S := S2048x1024) hz, View.ld_unit_zero (S := S2048x1024) hz,
    View.ld_unit_zero (S := S1024x1024) hz, Memref.IsWhole.read_unread]
  rw [View.canon_cons_unit_zero hz, View.readCov_unit_zero _ hz]
  unfold gNext
  rfl

/-- A middle point adds its product to the accumulator. -/
theorem st_B (t : Fin cfg0.N) (acc) (h0 : ¬t.val % 4 = 0) (h1 : ¬t.val % 4 = 3) :
    (stAt0 m c t.val t.isLt acc).2 = gNext m c t acc.2 := by
  rw [stAt0_B m c t acc h0 h1]
  dsimp only
  unfold sout0_B_0
  rw [View.read_writes_eq_canon _ _ _ (scover0_B_0 _ _ _ _ _ _ _ _ _ _ _ _ _ _ _)]
  unfold kernelRun0_B
  dsimp only
  sl_unfold_words
  simp only [View.readAt_eq_ld, View.ld_unit_zero (S := S2048x1024) hz, View.ld_unit_zero (S := S2048x1024) hz,
    View.ld_unit_zero (S := S1024x1024) hz, Memref.IsWhole.read_unread]
  rw [View.canon_unit_zero hz, read_scratch]
  unfold gNext
  rfl

/-- So does a last point. -/
theorem st_C (t : Fin cfg0.N) (acc) (h0 : ¬t.val % 4 = 0) (h1 : t.val % 4 = 3) :
    (stAt0 m c t.val t.isLt acc).2 = gNext m c t acc.2 := by
  rw [stAt0_C m c t acc h0 h1]
  dsimp only
  unfold sout0_C_0
  rw [View.read_writes_eq_canon _ _ _ (scover0_C_0 _ _ _ _ _ _ _ _ _ _ _ _ _ _ _)]
  unfold kernelRun0_C
  dsimp only
  sl_unfold_words
  simp only [View.readAt_eq_ld, View.ld_unit_zero (S := S2048x1024) hz, View.ld_unit_zero (S := S2048x1024) hz,
    View.ld_unit_zero (S := S1024x1024) hz, Memref.IsWhole.read_unread]
  rw [View.canon_unit_zero hz, read_scratch]
  unfold gNext
  rfl

/-- The last point stores the accumulator, cast. -/
theorem so_C (t : Fin cfg0.N) (acc) (h0 : ¬t.val % 4 = 0) (h1 : t.val % 4 = 3) :
    (stAt0 m c t.val t.isLt acc).1 = k0_pay3 (gNext m c t acc.2) := by
  rw [stAt0_C m c t acc h0 h1]
  dsimp only
  unfold out0_C_2
  rw [View.read_writes_eq_canon _ _ _ (cover0_C_2 _ _ _ _ _ _ _ _ _ _ _ _ _ _ _)]
  unfold kernelRun0_C
  dsimp only
  sl_unfold_words
  simp only [View.readAt_eq_ld, View.ld_unit_zero (S := S2048x1024) hz, View.ld_unit_zero (S := S2048x1024) hz,
    View.ld_unit_zero (S := S1024x1024) hz, Memref.IsWhole.read_unread]
  rw [View.canon_unit_zero hz, read_scratch]
  refine congrArg k0_pay3 ?_
  rw [View.readCov_unit_zero _ hz]
  unfold gNext
  rfl

end Cert.Kernel4Ideal.Gw
-- ==== Proof.Gw4Val.lean ====
module

public import proofs.«01_k».proof.Proof.Gw4Step
public import proofs.«01_k».proof.Proof.Gen.Reference4Ideal.Read

/-!
# The gradient of the gate columns of the in-projection's weight: its value

Over the extended reals the kernel's array is, entry by entry, the sum over all rows of a cotangent entry times a
normalised entry; so is the reference's.
-/

@[expose] public section

set_option maxRecDepth 100000

namespace Cert.Kernel4Ideal.Gw

open Cert.Kernel4Ideal Cert.Kernel4Ideal.Gen Cert.Kernel4Ideal.Value Cert.GwMath
open Idealize.ShloMosaic Idealize.ShloMosaic.TcCoe Idealize.SL.Sem

variable (m : (ℓ : Loc nD τ sig) → Buf (Elt Ideal) ℓ) (c : Dev nD)

/-- The rows of the step's input. -/
abbrev aX : S8192x1024.Idx → EReal := m ((c : Thread nD τ).loc main_arg0)
/-- The norm's weight. -/
abbrev aN : S1024.Idx → EReal := m ((c : Thread nD τ).loc main_arg1)
/-- The cotangent. -/
abbrev aD : S8192x1024.Idx → EReal := m ((c : Thread nD τ).loc main_arg2)

/-- The normalised rows. -/
noncomputable def U (x : S8192x1024.Idx → EReal) (w : S1024.Idx → EReal) (r : Fin 8192) (k : Fin 1024) : EReal :=
  x (ix2 r k) * Ideal.rsqrt (Ideal.div (∑ j : Fin 1024, x (ix2 r j) * x (ix2 r j)) (Ideal.ofBits FTy.f32 0x44800000#32) + Ideal.ofBits FTy.f32 0x358637BD#32) * w (ix1 k)

/-- The reference's normalised rows. -/
theorem ref_u (x0 : S8192x1024.Idx → EReal) (x1 : S1024.Idx → EReal) (r : Fin 8192) (k : Fin 1024) :
    Cert.Reference4Ideal.Read.val_main_v13 (F := Ideal) x0 x1 (ix2 r k) = U x0 x1 r k := by
  unfold U
  open Cert.Reference4Ideal.Read in
  pointwise [val_main_v13, val_main_v12, val_main_v11, val_main_v10, val_main_v9, val_main_v8, val_main_v7, val_main_v6, val_main_v5, val_main_v4, val_main_v3, val_main_v2, val_main_v1, val_main_cst_0, val_main_cst_1, val_main_cst_2]

/-- What the host leaves as the normalised rows. -/
theorem V_u (r : Fin 8192) (k : Fin 1024) :
    (V m c main_v13 : S8192x1024.Idx → EReal) (ix2 r k) = U (aX m c) (aN m c) r k := by
  have h : (V m c main_v13 : S8192x1024.Idx → EReal)
      = truncf (F := Ideal) .bf16 (Cert.Reference4Ideal.Read.val_main_v13 (F := Ideal) (aX m c) (aN m c)) bitsLt_bf16_f32 := by
    unfold_abbrev_sides
    after_results
    rfl
  rw [h, ← ref_u]
  rfl

/-- The cotangent is an argument. -/
theorem V_d : (V m c main_arg2 : S8192x1024.Idx → EReal) = aD m c := V_main_arg2 m c

/-- The grid has 4 points. -/
theorem tlt (t : Fin cfg0.N) : t.val < 4 := lt_of_lt_of_eq t.isLt N_0

/-- Row `r` of band `t`. -/
def rowOf (t : Fin cfg0.N) (r : Fin 2048) : Fin 8192 := ⟨2048 * t.val + r.val, by have := tlt t; have := r.isLt; omega⟩

/-- The normalised rows' block at point `t` is the `t`-th band. -/
theorem idx0 : ∀ t : Fin cfg0.N, win0_0.index t (0 : Fin 2) = t.val ∧ win0_0.index t (1 : Fin 2) = 0 := by decide
/-- So is the cotangent's. -/
theorem idx1 : ∀ t : Fin cfg0.N, win0_1.index t (0 : Fin 2) = t.val ∧ win0_1.index t (1 : Fin 2) = 0 := by decide

/-- The normalised rows' block, entry by entry. -/
theorem blk0 (t : Fin cfg0.N) (r : Fin 2048) (k : Fin 1024) :
    (iblk m c 0 t : Vec Ideal S2048x1024 .bf16) (ix2 r k) = U (aX m c) (aN m c) (rowOf t r) k := by
  have hi := idx0 t
  rw [← V_u]
  unfold iblk
  rw [View.read_apply]
  show V m c main_v13 _ = V m c main_v13 _
  congr 1
  funext a
  apply Fin.ext
  match a with
  | ⟨0, _⟩ => show win0_0.index t 0 * 2048 + 1 * r.val = 2048 * t.val + r.val; rw [hi.1]; omega
  | ⟨1, _⟩ => show win0_0.index t 1 * 1024 + 1 * k.val = k.val; rw [hi.2]; omega

/-- The cotangent's block, entry by entry. -/
theorem blk1 (t : Fin cfg0.N) (r : Fin 2048) (j : Fin 1024) :
    (iblk m c 1 t : Vec Ideal S2048x1024 .f32) (ix2 r j) = aD m c (ix2 (rowOf t r) j) := by
  have hi := idx1 t
  rw [← V_d]
  unfold iblk
  rw [View.read_apply]
  show V m c main_arg2 _ = V m c main_arg2 _
  congr 1
  funext a
  apply Fin.ext
  match a with
  | ⟨0, _⟩ => show win0_1.index t 0 * 2048 + 1 * r.val = 2048 * t.val + r.val; rw [hi.1]; omega
  | ⟨1, _⟩ => show win0_1.index t 1 * 1024 + 1 * j.val = j.val; rw [hi.2]; omega

/-- A point's product added to the accumulator, entry by entry. -/
theorem pay2_apply (v3 : Vec Ideal S1024x1024 .f32) (v4 : Vec Ideal S2048x1024 .f32) (v6 : Vec Ideal S2048x1024 .bf16) (j : Fin 1024) (k : Fin 1024) :
    k0_pay2 v3 v4 v6 (ix2 j k) = v3 (ix2 j k) + ∑ r, v4 (ix2 r j) * v6 (ix2 r k) := by
  pointwise [k0_pay2]
/-- The accumulator starts at zero. -/
theorem pay1_apply (j : Fin 1024) (k : Fin 1024) : k0_pay1 (F := Ideal) (ix2 j k) = 0 := by
  pointwise [k0_pay1]
/-- The cast does nothing here. -/
theorem pay3_apply (v : Vec Ideal S1024x1024 .f32) (j : Fin 1024) (k : Fin 1024) : k0_pay3 v (ix2 j k) = v (ix2 j k) := by
  pointwise [k0_pay3]

/-- The summand of one row. -/
noncomputable abbrev part (j : Fin 1024) (k : Fin 1024) (r : Fin 8192) : EReal := aD m c (ix2 r j) * U (aX m c) (aN m c) r k

/-- A point adds its band. -/
theorem gNext_apply (t : Fin cfg0.N) (acc : Vec Ideal S1024x1024 .f32) (j : Fin 1024) (k : Fin 1024) :
    gNext m c t acc (ix2 j k) = acc (ix2 j k) + band 2048 (part m c j k) t.val := by
  unfold gNext
  rw [pay2_apply]
  unfold band
  refine congrArg (_ + ·) (Finset.sum_congr rfl fun r _ => ?_)
  rw [blk0, blk1]
  unfold term
  rw [dif_pos (show 2048 * t.val + r.val < 8192 from (rowOf t r).isLt)]
  rfl

/-- The step from one point to the next. -/
theorem st_succ (n : ℕ) (hn : n + 1 < cfg0.N) (acc) :
    (stAt0 m c (n + 1) hn acc).2 = gNext m c ⟨n + 1, hn⟩ acc.2 := by
  have ht := tlt ⟨n + 1, hn⟩
  dsimp only at ht
  by_cases h1 : (n + 1) % 4 = 3
  · exact st_C m c ⟨n + 1, hn⟩ acc (by dsimp only; omega) h1
  · exact st_B m c ⟨n + 1, hn⟩ acc (by dsimp only; omega) h1

/-- The accumulator after point `n`. -/
theorem acc_at (j : Fin 1024) (k : Fin 1024) (n : ℕ) (hn : n < cfg0.N) :
    (outsAt0 m c n hn).2 (ix2 j k) = ∑ i ∈ Finset.range (n + 1), band 2048 (part m c j k) i := by
  induction n with
  | zero =>
    rw [outsAt0_zero, st_A m c ⟨0, hn⟩ junk0 rfl (by dsimp only; omega), gNext_apply, pay1_apply, zero_add, Finset.sum_range_one]
  | succ n ih =>
    rw [outsAt0_succ, st_succ, gNext_apply, ih, Finset.sum_range_succ _ (n + 1)]

/-- The last point is a point of the grid. -/
theorem hlast : 3 < cfg0.N := lt_of_lt_of_eq (by decide) N_0.symm

/-- The kernel's array, entry by entry. -/
theorem G2_apply (j : Fin 1024) (k : Fin 1024) :
    (G2 m c : S1024x1024.Idx → EReal) (ix2 j k) = ∑ r, part m c j k r := by
  have hs : (outsAt0 m c 3 hlast).1 = k0_pay3 (outsAt0 m c 3 hlast).2 := by
    rw [outsAt0_succ m c 2 hlast, so_C m c ⟨3, hlast⟩ _ (by decide) (by decide), st_succ]
  rw [G2_last, ← outsAt0_sweep m c 3 hlast, hs, pay3_apply, acc_at]
  exact bands_all 2048 4 rfl _

end Cert.Kernel4Ideal.Gw

namespace Cert.GwAlg4

open Cert.Kernel4Ideal Cert.Kernel4Ideal.Gen Cert.Kernel4Ideal.Value Cert.Kernel4Ideal.Gw
open Idealize.ShloMosaic Idealize.ShloMosaic.TcCoe Idealize.SL.Sem
open Cert.Reference4Ideal.Read

/-- The reference's array, entry by entry. -/
theorem ref_apply (x0 : S8192x1024.Idx → EReal) (x1 : S1024.Idx → EReal) (x2 : S8192x1024.Idx → EReal) (j : Fin 1024) (k : Fin 1024) :
    val_main_v18 (F := Ideal) x0 x1 x2 (ix2 j k) = ∑ r, x2 (ix2 r j) * U x0 x1 r k := by
  simp only [← ref_u]
  pointwise [val_main_v18, val_main_v17, val_main_v16, val_main_v15]

/-- The two programs' results are equal. -/
theorem eq_g (m : (ℓ : Loc nD τ sig) → Buf (Elt Ideal) ℓ) (c : Dev nD) :
    (val_main_v18 (F := Ideal) (aX m c) (aN m c) (aD m c) : S1024x1024.Idx → EReal) = (G2 m c : S1024x1024.Idx → EReal) := by
  funext i
  rw [← ix2_eta i]
  exact (ref_apply _ _ _ (i 0) (i 1)).trans (G2_apply m c (i 0) (i 1)).symm

end Cert.GwAlg4
-- ==== Proof.AdOut.lean ====
module

public import proofs.«01_k».proof.Proof.Gen.Kernel5Ideal.Value
public import proofs.«01_k».proof.Proof.Gen.Reference5Ideal.Read
public import proofs.«01_k».proof.Proof.OutMath
public import Idealize.ShloMosaic.Lib.Pointwise
public import Idealize.ShloMosaic.PureOps.IdealRules

/-!
# The optimiser step of the out-projection's weight

Each point takes 64 rows, sums the eight received gradients and steps the weight's two moments. Kernel and reference
agree entry by entry: the kernel multiplies with the reciprocal of what the reference divides by.
-/

@[expose] public section

set_option maxRecDepth 100000

namespace Cert.Kernel5Ideal.Ad

open Cert.Kernel5Ideal Cert.Kernel5Ideal.Gen Cert.Kernel5Ideal.Value Cert.OutMath
open Idealize.ShloMosaic Idealize.ShloMosaic.TcCoe Idealize.SL.Sem

/-- The bias correction of the first moment, as the reference's word. -/
theorem word_d1 : Ideal.ofBits FTy.f32 0x3F26BD02#32 = ((5463681 / 8388608 : ℝ) : EReal) := by
  simp [Ideal.ofBits, Ideal.ieee, -EReal.coe_mul]; norm_num
/-- The bias correction of the second moment, as the reference's word. -/
theorem word_d2 : Ideal.ofBits FTy.f32 0x3C231ACC#32 = ((2672307 / 268435456 : ℝ) : EReal) := by
  simp [Ideal.ofBits, Ideal.ieee, -EReal.coe_mul]; norm_num

section
variable (g : EReal) (w v m : EReal)
/-- The first moment after the step. -/
noncomputable def mom1 : EReal := Ideal.ofBits FTy.f32 0x3F666666#32 * m + Ideal.ofBits FTy.f32 0x3DCCCCCD#32 * g
/-- The second moment after the step. -/
noncomputable def mom2 : EReal := Ideal.ofBits FTy.f32 0x3F7FBE77#32 * v + Ideal.ofBits FTy.f32 0x3A83126F#32 * (g * g)
/-- The weight's change. -/
noncomputable def delta : EReal := Ideal.ofBits FTy.f32 0xBA83126F#32 * (Ideal.div (Ideal.div (mom1 g m) (Ideal.ofBits FTy.f32 0x3F26BD02#32))
  (Ideal.sqrt (Ideal.div (mom2 g v) (Ideal.ofBits FTy.f32 0x3C231ACC#32)) + Ideal.ofBits FTy.f32 0x322BCC77#32) + Ideal.ofBits FTy.f32 0x3C23D70A#32 * w)
end

/-- The sum of the eight received gradients. -/
noncomputable def gsum (x : S8x256x1024.Idx → EReal) (r : Fin 256) (k : Fin 1024) : EReal := ∑ d : Fin 8, x (ix3 d r k)

/-! ## The arithmetic of a point -/

/-- The first moment. -/
theorem pay1_apply (g m : Vec Ideal S64x1024 .f32) (r : Fin 64) (k : Fin 1024) :
    k0_pay1 g m (Scalar.ofBits .f32 0x3F666666#32) (ix2 r k) = mom1 (g (ix2 r k)) (m (ix2 r k)) := by
  unfold mom1
  pointwise [k0_pay1]

/-- The second moment. -/
theorem pay2_apply (g v : Vec Ideal S64x1024 .f32) (r : Fin 64) (k : Fin 1024) :
    k0_pay2 g v (ix2 r k) = mom2 (g (ix2 r k)) (v (ix2 r k)) := by
  unfold mom2
  pointwise [k0_pay2]

/-- The change. -/
theorem pay3_apply (g m v w : Vec Ideal S64x1024 .f32) (r : Fin 64) (k : Fin 1024) :
    k0_pay3 g m (Scalar.ofBits .f32 0x3F666666#32) v w (ix2 r k) = delta (g (ix2 r k)) (w (ix2 r k)) (v (ix2 r k)) (m (ix2 r k)) := by
  unfold delta
  rw [word_d1, word_d2, div_pos_coe (by norm_num), div_pos_coe (by norm_num), ← pay1_apply g m r k, ← pay2_apply g v r k]
  pointwise [k0_pay3]
  rw [IdealRules.named_const.ideal_named_scalar κ "c1" _ _ rfl, IdealRules.named_const.ideal_named_scalar κ "c2" _ _ rfl]
  rw [show (1 / (5463681 / 8388608) : ℝ) = 8388608 / 5463681 by norm_num, show (1 / (2672307 / 268435456) : ℝ) = 268435456 / 2672307 by norm_num]

/-- The sum of the eight blocks. -/
theorem pay4_apply (l0 l1 l2 l3 l4 l5 l6 l7 : Vec Ideal S1x64x1024 .bf16) (r : Fin 64) (k : Fin 1024) :
    k0_pay4 l0 l1 l2 l3 l4 l5 l6 l7 (ix2 r k) = l0 (ix3 0 r k) + l1 (ix3 0 r k) + l2 (ix3 0 r k) + l3 (ix3 0 r k) + l4 (ix3 0 r k) + l5 (ix3 0 r k) + l6 (ix3 0 r k) + l7 (ix3 0 r k) := by
  pointwise [k0_pay4]

variable (m : (ℓ : Loc nD τ sig) → Buf (Elt Ideal) ℓ) (c : Dev nD)

/-- The eight received gradients. -/
abbrev aG : S8x256x1024.Idx → EReal := m ((c : Thread nD τ).loc main_arg0)
/-- The weight. -/
abbrev aW : S256x1024.Idx → EReal := m ((c : Thread nD τ).loc main_arg1)
/-- Its first moment. -/
abbrev aM : S256x1024.Idx → EReal := m ((c : Thread nD τ).loc main_arg2)
/-- Its second moment. -/
abbrev aV : S256x1024.Idx → EReal := m ((c : Thread nD τ).loc main_arg3)

/-- The grid has 4 points. -/
theorem tlt (t : Fin cfg0.N) : t.val < 4 := lt_of_lt_of_eq t.isLt N_0

/-- Row `r` of the band of point `t`. -/
def rowOf (t : Fin cfg0.N) (r : Fin 64) : Fin 256 := ⟨64 * t.val + r.val, by have := tlt t; have := r.isLt; omega⟩

/-- The received gradients' block at point `t` is band `t` of all eight. -/
theorem idx0 : ∀ t : Fin cfg0.N, win0_0.index t (0 : Fin 3) = 0 ∧ win0_0.index t (1 : Fin 3) = t.val ∧ win0_0.index t (2 : Fin 3) = 0 := by decide +kernel

/-- Their block, entry by entry. -/
theorem blk0 (t : Fin cfg0.N) (d : Fin 8) (r : Fin 64) (k : Fin 1024) :
    (iblk m c 0 t : Vec Ideal S8x64x1024 .bf16) (ix3 d r k) = aG m c (ix3 d (rowOf t r) k) := by
  have hi := idx0 t
  unfold iblk
  rw [View.read_apply]
  show V m c main_arg0 _ = _
  rw [V_main_arg0]
  show aG m c _ = aG m c _
  congr 1
  funext a
  apply Fin.ext
  match a with
  | ⟨0, _⟩ => show win0_0.index t 0 * 8 + 1 * d.val = d.val; rw [hi.1]; omega
  | ⟨1, _⟩ => show win0_0.index t 1 * 64 + 1 * r.val = 64 * t.val + r.val; rw [hi.2.1]; omega
  | ⟨2, _⟩ => show win0_0.index t 2 * 1024 + 1 * k.val = k.val; rw [hi.2.2]; omega

/-- Window 1's block at point `t` is band `t`. -/
theorem idx1 : ∀ t : Fin cfg0.N, win0_1.index t (0 : Fin 2) = t.val ∧ win0_1.index t (1 : Fin 2) = 0 := by decide +kernel

/-- Its block, entry by entry. -/
theorem blk1 (t : Fin cfg0.N) (r : Fin 64) (k : Fin 1024) :
    (iblk m c 1 t : Vec Ideal S64x1024 .f32) (ix2 r k) = aW m c (ix2 (rowOf t r) k) := by
  have hi := idx1 t
  unfold iblk
  rw [View.read_apply]
  show V m c main_arg1 _ = _
  rw [V_main_arg1]
  show aW m c _ = aW m c _
  congr 1
  funext a
  apply Fin.ext
  match a with
  | ⟨0, _⟩ => show win0_1.index t 0 * 64 + 1 * r.val = 64 * t.val + r.val; rw [hi.1]; omega
  | ⟨1, _⟩ => show win0_1.index t 1 * 1024 + 1 * k.val = k.val; rw [hi.2]; omega

/-- Window 2's block at point `t` is band `t`. -/
theorem idx2 : ∀ t : Fin cfg0.N, win0_2.index t (0 : Fin 2) = t.val ∧ win0_2.index t (1 : Fin 2) = 0 := by decide +kernel

/-- Its block, entry by entry. -/
theorem blk2 (t : Fin cfg0.N) (r : Fin 64) (k : Fin 1024) :
    (iblk m c 2 t : Vec Ideal S64x1024 .f32) (ix2 r k) = aM m c (ix2 (rowOf t r) k) := by
  have hi := idx2 t
  unfold iblk
  rw [View.read_apply]
  show V m c main_arg2 _ = _
  rw [V_main_arg2]
  show aM m c _ = aM m c _
  congr 1
  funext a
  apply Fin.ext
  match a with
  | ⟨0, _⟩ => show win0_2.index t 0 * 64 + 1 * r.val = 64 * t.val + r.val; rw [hi.1]; omega
  | ⟨1, _⟩ => show win0_2.index t 1 * 1024 + 1 * k.val = k.val; rw [hi.2]; omega

/-- Window 3's block at point `t` is band `t`. -/
theorem idx3 : ∀ t : Fin cfg0.N, win0_3.index t (0 : Fin 2) = t.val ∧ win0_3.index t (1 : Fin 2) = 0 := by decide +kernel

/-- Its block, entry by entry. -/
theorem blk3 (t : Fin cfg0.N) (r : Fin 64) (k : Fin 1024) :
    (iblk m c 3 t : Vec Ideal S64x1024 .f32) (ix2 r k) = aV m c (ix2 (rowOf t r) k) := by
  have hi := idx3 t
  unfold iblk
  rw [View.read_apply]
  show V m c main_arg3 _ = _
  rw [V_main_arg3]
  show aV m c _ = aV m c _
  congr 1
  funext a
  apply Fin.ext
  match a with
  | ⟨0, _⟩ => show win0_3.index t 0 * 64 + 1 * r.val = 64 * t.val + r.val; rw [hi.1]; omega
  | ⟨1, _⟩ => show win0_3.index t 1 * 1024 + 1 * k.val = k.val; rw [hi.2]; omega

/-- A zero start, as the loads and stores have it. -/
theorem hz : (![0, 0] : Fin 2 → ℕ) = fun _ => 0 := by funext a; match a with | ⟨0, _⟩ => rfl | ⟨1, _⟩ => rfl

/-- One received gradient's block. -/
theorem ld_apply (x : Vec Ideal S8x64x1024 .bf16) (d : ℕ) (hd : d < 8) (hb) (r : Fin 64) (k : Fin 1024) :
    (View.ld x (Rect.unit (s := S8x64x1024) ![d, 0, 0] S1x64x1024.size hb) : Vec Ideal S1x64x1024 .bf16) (ix3 0 r k) = x (ix3 (⟨d, hd⟩ : Fin 8) r k) := by
  refine congrArg x ?_
  funext a
  apply Fin.ext
  match a with
  | ⟨0, _⟩ => show d + 1 * 0 = d; omega
  | ⟨1, _⟩ => show 0 + 1 * r.val = r.val; omega
  | ⟨2, _⟩ => show 0 + 1 * k.val = k.val; omega

/-- The sum of the gradients of band `t`. -/
theorem g_apply (t : Fin cfg0.N) (x1 x2 x3 : Vec Ideal S64x1024 .f32) (r : Fin 64) (k : Fin 1024) :
    k0_pay5 (iblk m c 0 t : Vec Ideal S8x64x1024 .bf16) x1 x2 x3 (ix2 r k) = gsum (aG m c) (rowOf t r) k := by
  unfold k0_pay5
  rw [pay4_apply]
  rw [show View.ld (iblk m c 0 t : Vec Ideal S8x64x1024 .bf16) r0_0 (ix3 0 r k) = aG m c (ix3 (0 : Fin 8) (rowOf t r) k) from (ld_apply _ 0 (by omega) _ r k).trans (blk0 m c t 0 r k)]
  rw [show View.ld (iblk m c 0 t : Vec Ideal S8x64x1024 .bf16) r0_1 (ix3 0 r k) = aG m c (ix3 (1 : Fin 8) (rowOf t r) k) from (ld_apply _ 1 (by omega) _ r k).trans (blk0 m c t 1 r k)]
  rw [show View.ld (iblk m c 0 t : Vec Ideal S8x64x1024 .bf16) r0_2 (ix3 0 r k) = aG m c (ix3 (2 : Fin 8) (rowOf t r) k) from (ld_apply _ 2 (by omega) _ r k).trans (blk0 m c t 2 r k)]
  rw [show View.ld (iblk m c 0 t : Vec Ideal S8x64x1024 .bf16) r0_3 (ix3 0 r k) = aG m c (ix3 (3 : Fin 8) (rowOf t r) k) from (ld_apply _ 3 (by omega) _ r k).trans (blk0 m c t 3 r k)]
  rw [show View.ld (iblk m c 0 t : Vec Ideal S8x64x1024 .bf16) r0_4 (ix3 0 r k) = aG m c (ix3 (4 : Fin 8) (rowOf t r) k) from (ld_apply _ 4 (by omega) _ r k).trans (blk0 m c t 4 r k)]
  rw [show View.ld (iblk m c 0 t : Vec Ideal S8x64x1024 .bf16) r0_5 (ix3 0 r k) = aG m c (ix3 (5 : Fin 8) (rowOf t r) k) from (ld_apply _ 5 (by omega) _ r k).trans (blk0 m c t 5 r k)]
  rw [show View.ld (iblk m c 0 t : Vec Ideal S8x64x1024 .bf16) r0_6 (ix3 0 r k) = aG m c (ix3 (6 : Fin 8) (rowOf t r) k) from (ld_apply _ 6 (by omega) _ r k).trans (blk0 m c t 6 r k)]
  rw [show View.ld (iblk m c 0 t : Vec Ideal S8x64x1024 .bf16) r0_7 (ix3 0 r k) = aG m c (ix3 (7 : Fin 8) (rowOf t r) k) from (ld_apply _ 7 (by omega) _ r k).trans (blk0 m c t 7 r k)]
  unfold gsum
  rw [Fin.sum_univ_eight]

/-- The array of output 4. -/
noncomputable def G4 : S256x1024.Idx → EReal := fun i => gsum (aG m c) (i 0) (i 1)

/-- It moves with the point. -/
theorem idx4 : ∀ t : Fin cfg0.N, win0_4.index t (0 : Fin 2) = t.val ∧ win0_4.index t (1 : Fin 2) = 0 ∧ (cfg0.win 4).flush t = true := by decide +kernel

/-- A point's block of it. -/
theorem out4_apply (t : Fin cfg0.N) (r : Fin 64) (k : Fin 1024) :
    out0_4 (iblk m c 0 t) (iblk m c 1 t) (iblk m c 2 t) (iblk m c 3 t) (ix2 r k) = G4 m c (ix2 (rowOf t r) k) := by
  unfold out0_4
  rw [View.canon_unit_zero hz]
  exact g_apply m c t _ _ _ r k

/-- The array after the run. -/
theorem final4 : (dats m 0 c).arrAt 4 cfg0.N = G4 m c := by
  refine (dats m 0 c).arrAt_eq_of_cover 4 _ (fun t hf => ?_) (fun i => ?_)
  · rw [flushed4]
    obtain ⟨e0, e1, -⟩ := idx4 t
    funext y
    have hy0 : (y 0).val < 64 := (y 0).isLt
    have hy1 : (y 1).val < 1024 := (y 1).isLt
    have hl : (cfg0.win 4).xinj (grid0.coords t) y = (ix2 (⟨(y 0).val, hy0⟩ : Fin 64) (⟨(y 1).val, hy1⟩ : Fin 1024) : S64x1024.Idx) := by
      funext a; apply Fin.ext
      match a with
      | ⟨0, _⟩ => rfl
      | ⟨1, _⟩ => rfl
    have he : ((cfg0.win 4).blk t).view.emb y = (ix2 (rowOf t ⟨(y 0).val, hy0⟩) (⟨(y 1).val, hy1⟩ : Fin 1024) : S256x1024.Idx) := by
      funext a; apply Fin.ext
      match a with
      | ⟨0, _⟩ => show win0_4.index t (0 : Fin 2) * 64 + 1 * (y 0).val = 64 * t.val + (y 0).val; omega
      | ⟨1, _⟩ => show win0_4.index t (1 : Fin 2) * 1024 + 1 * (y 1).val = (y 1).val; omega
    show out0_4 (iblk m c 0 t) (iblk m c 1 t) (iblk m c 2 t) (iblk m c 3 t) ((cfg0.win 4).xinj (grid0.coords t) y) = G4 m c (((cfg0.win 4).blk t).view.emb y)
    rw [hl, he, out4_apply]
  · have h0 : (i 0).val < 256 := (i 0).isLt
    have h1 : (i 1).val < 1024 := (i 1).isLt
    have hlt : (i 0).val / 64 < cfg0.N := lt_of_lt_of_eq (by omega) N_0.symm
    obtain ⟨e0, e1, hf⟩ := idx4 ⟨(i 0).val / 64, hlt⟩
    have e0' : win0_4.index ⟨(i 0).val / 64, hlt⟩ (0 : Fin 2) = (i 0).val / 64 := e0
    refine ⟨⟨(i 0).val / 64, hlt⟩, hf, ?_⟩
    show i ∈ ((View.whole main_v0_0).slice (win0_4.rect ⟨(i 0).val / 64, hlt⟩)).set
    rw [View.set_slice_whole, Rect.mem_set_unit]
    intro a
    match a with
    | ⟨0, _⟩ => show win0_4.index ⟨(i 0).val / 64, hlt⟩ (0 : Fin 2) * 64 ≤ (i 0).val ∧ (i 0).val < win0_4.index ⟨(i 0).val / 64, hlt⟩ (0 : Fin 2) * 64 + 64; omega
    | ⟨1, _⟩ => show win0_4.index ⟨(i 0).val / 64, hlt⟩ (1 : Fin 2) * 1024 ≤ (i 1).val ∧ (i 1).val < win0_4.index ⟨(i 0).val / 64, hlt⟩ (1 : Fin 2) * 1024 + 1024; omega

/-- The array of output 5. -/
noncomputable def G5 : S256x1024.Idx → EReal := fun i => delta (gsum (aG m c) (i 0) (i 1)) (aW m c (ix2 (i 0) (i 1))) (aV m c (ix2 (i 0) (i 1))) (aM m c (ix2 (i 0) (i 1)))

/-- It moves with the point. -/
theorem idx5 : ∀ t : Fin cfg0.N, win0_5.index t (0 : Fin 2) = t.val ∧ win0_5.index t (1 : Fin 2) = 0 ∧ (cfg0.win 5).flush t = true := by decide +kernel

/-- A point's block of it. -/
theorem out5_apply (t : Fin cfg0.N) (r : Fin 64) (k : Fin 1024) :
    out0_5 (iblk m c 0 t) (iblk m c 1 t) (iblk m c 2 t) (iblk m c 3 t) (ix2 r k) = G5 m c (ix2 (rowOf t r) k) := by
  unfold out0_5
  rw [View.canon_unit_zero hz]
  rw [View.ld_unit_zero (S := S64x1024) hz, View.ld_unit_zero (S := S64x1024) hz, View.ld_unit_zero (S := S64x1024) hz, pay3_apply, g_apply, blk1, blk2, blk3]
  rfl

/-- The array after the run. -/
theorem final5 : (dats m 0 c).arrAt 5 cfg0.N = G5 m c := by
  refine (dats m 0 c).arrAt_eq_of_cover 5 _ (fun t hf => ?_) (fun i => ?_)
  · rw [flushed5]
    obtain ⟨e0, e1, -⟩ := idx5 t
    funext y
    have hy0 : (y 0).val < 64 := (y 0).isLt
    have hy1 : (y 1).val < 1024 := (y 1).isLt
    have hl : (cfg0.win 5).xinj (grid0.coords t) y = (ix2 (⟨(y 0).val, hy0⟩ : Fin 64) (⟨(y 1).val, hy1⟩ : Fin 1024) : S64x1024.Idx) := by
      funext a; apply Fin.ext
      match a with
      | ⟨0, _⟩ => rfl
      | ⟨1, _⟩ => rfl
    have he : ((cfg0.win 5).blk t).view.emb y = (ix2 (rowOf t ⟨(y 0).val, hy0⟩) (⟨(y 1).val, hy1⟩ : Fin 1024) : S256x1024.Idx) := by
      funext a; apply Fin.ext
      match a with
      | ⟨0, _⟩ => show win0_5.index t (0 : Fin 2) * 64 + 1 * (y 0).val = 64 * t.val + (y 0).val; omega
      | ⟨1, _⟩ => show win0_5.index t (1 : Fin 2) * 1024 + 1 * (y 1).val = (y 1).val; omega
    show out0_5 (iblk m c 0 t) (iblk m c 1 t) (iblk m c 2 t) (iblk m c 3 t) ((cfg0.win 5).xinj (grid0.coords t) y) = G5 m c (((cfg0.win 5).blk t).view.emb y)
    rw [hl, he, out5_apply]
  · have h0 : (i 0).val < 256 := (i 0).isLt
    have h1 : (i 1).val < 1024 := (i 1).isLt
    have hlt : (i 0).val / 64 < cfg0.N := lt_of_lt_of_eq (by omega) N_0.symm
    obtain ⟨e0, e1, hf⟩ := idx5 ⟨(i 0).val / 64, hlt⟩
    have e0' : win0_5.index ⟨(i 0).val / 64, hlt⟩ (0 : Fin 2) = (i 0).val / 64 := e0
    refine ⟨⟨(i 0).val / 64, hlt⟩, hf, ?_⟩
    show i ∈ ((View.whole main_v0_1).slice (win0_5.rect ⟨(i 0).val / 64, hlt⟩)).set
    rw [View.set_slice_whole, Rect.mem_set_unit]
    intro a
    match a with
    | ⟨0, _⟩ => show win0_5.index ⟨(i 0).val / 64, hlt⟩ (0 : Fin 2) * 64 ≤ (i 0).val ∧ (i 0).val < win0_5.index ⟨(i 0).val / 64, hlt⟩ (0 : Fin 2) * 64 + 64; omega
    | ⟨1, _⟩ => show win0_5.index ⟨(i 0).val / 64, hlt⟩ (1 : Fin 2) * 1024 ≤ (i 1).val ∧ (i 1).val < win0_5.index ⟨(i 0).val / 64, hlt⟩ (1 : Fin 2) * 1024 + 1024; omega

/-- The array of output 6. -/
noncomputable def G6 : S256x1024.Idx → EReal := fun i => mom1 (gsum (aG m c) (i 0) (i 1)) (aM m c (ix2 (i 0) (i 1)))

/-- It moves with the point. -/
theorem idx6 : ∀ t : Fin cfg0.N, win0_6.index t (0 : Fin 2) = t.val ∧ win0_6.index t (1 : Fin 2) = 0 ∧ (cfg0.win 6).flush t = true := by decide +kernel

/-- A point's block of it. -/
theorem out6_apply (t : Fin cfg0.N) (r : Fin 64) (k : Fin 1024) :
    out0_6 (iblk m c 0 t) (iblk m c 1 t) (iblk m c 2 t) (iblk m c 3 t) (ix2 r k) = G6 m c (ix2 (rowOf t r) k) := by
  unfold out0_6
  rw [View.canon_unit_zero hz]
  rw [View.ld_unit_zero (S := S64x1024) hz, pay1_apply, g_apply, blk2]
  rfl

/-- The array after the run. -/
theorem final6 : (dats m 0 c).arrAt 6 cfg0.N = G6 m c := by
  refine (dats m 0 c).arrAt_eq_of_cover 6 _ (fun t hf => ?_) (fun i => ?_)
  · rw [flushed6]
    obtain ⟨e0, e1, -⟩ := idx6 t
    funext y
    have hy0 : (y 0).val < 64 := (y 0).isLt
    have hy1 : (y 1).val < 1024 := (y 1).isLt
    have hl : (cfg0.win 6).xinj (grid0.coords t) y = (ix2 (⟨(y 0).val, hy0⟩ : Fin 64) (⟨(y 1).val, hy1⟩ : Fin 1024) : S64x1024.Idx) := by
      funext a; apply Fin.ext
      match a with
      | ⟨0, _⟩ => rfl
      | ⟨1, _⟩ => rfl
    have he : ((cfg0.win 6).blk t).view.emb y = (ix2 (rowOf t ⟨(y 0).val, hy0⟩) (⟨(y 1).val, hy1⟩ : Fin 1024) : S256x1024.Idx) := by
      funext a; apply Fin.ext
      match a with
      | ⟨0, _⟩ => show win0_6.index t (0 : Fin 2) * 64 + 1 * (y 0).val = 64 * t.val + (y 0).val; omega
      | ⟨1, _⟩ => show win0_6.index t (1 : Fin 2) * 1024 + 1 * (y 1).val = (y 1).val; omega
    show out0_6 (iblk m c 0 t) (iblk m c 1 t) (iblk m c 2 t) (iblk m c 3 t) ((cfg0.win 6).xinj (grid0.coords t) y) = G6 m c (((cfg0.win 6).blk t).view.emb y)
    rw [hl, he, out6_apply]
  · have h0 : (i 0).val < 256 := (i 0).isLt
    have h1 : (i 1).val < 1024 := (i 1).isLt
    have hlt : (i 0).val / 64 < cfg0.N := lt_of_lt_of_eq (by omega) N_0.symm
    obtain ⟨e0, e1, hf⟩ := idx6 ⟨(i 0).val / 64, hlt⟩
    have e0' : win0_6.index ⟨(i 0).val / 64, hlt⟩ (0 : Fin 2) = (i 0).val / 64 := e0
    refine ⟨⟨(i 0).val / 64, hlt⟩, hf, ?_⟩
    show i ∈ ((View.whole main_v0_2).slice (win0_6.rect ⟨(i 0).val / 64, hlt⟩)).set
    rw [View.set_slice_whole, Rect.mem_set_unit]
    intro a
    match a with
    | ⟨0, _⟩ => show win0_6.index ⟨(i 0).val / 64, hlt⟩ (0 : Fin 2) * 64 ≤ (i 0).val ∧ (i 0).val < win0_6.index ⟨(i 0).val / 64, hlt⟩ (0 : Fin 2) * 64 + 64; omega
    | ⟨1, _⟩ => show win0_6.index ⟨(i 0).val / 64, hlt⟩ (1 : Fin 2) * 1024 ≤ (i 1).val ∧ (i 1).val < win0_6.index ⟨(i 0).val / 64, hlt⟩ (1 : Fin 2) * 1024 + 1024; omega

/-- The array of output 7. -/
noncomputable def G7 : S256x1024.Idx → EReal := fun i => mom2 (gsum (aG m c) (i 0) (i 1)) (aV m c (ix2 (i 0) (i 1)))

/-- It moves with the point. -/
theorem idx7 : ∀ t : Fin cfg0.N, win0_7.index t (0 : Fin 2) = t.val ∧ win0_7.index t (1 : Fin 2) = 0 ∧ (cfg0.win 7).flush t = true := by decide +kernel

/-- A point's block of it. -/
theorem out7_apply (t : Fin cfg0.N) (r : Fin 64) (k : Fin 1024) :
    out0_7 (iblk m c 0 t) (iblk m c 1 t) (iblk m c 2 t) (iblk m c 3 t) (ix2 r k) = G7 m c (ix2 (rowOf t r) k) := by
  unfold out0_7
  rw [View.canon_unit_zero hz]
  rw [View.ld_unit_zero (S := S64x1024) hz, pay2_apply, g_apply, blk3]
  rfl

/-- The array after the run. -/
theorem final7 : (dats m 0 c).arrAt 7 cfg0.N = G7 m c := by
  refine (dats m 0 c).arrAt_eq_of_cover 7 _ (fun t hf => ?_) (fun i => ?_)
  · rw [flushed7]
    obtain ⟨e0, e1, -⟩ := idx7 t
    funext y
    have hy0 : (y 0).val < 64 := (y 0).isLt
    have hy1 : (y 1).val < 1024 := (y 1).isLt
    have hl : (cfg0.win 7).xinj (grid0.coords t) y = (ix2 (⟨(y 0).val, hy0⟩ : Fin 64) (⟨(y 1).val, hy1⟩ : Fin 1024) : S64x1024.Idx) := by
      funext a; apply Fin.ext
      match a with
      | ⟨0, _⟩ => rfl
      | ⟨1, _⟩ => rfl
    have he : ((cfg0.win 7).blk t).view.emb y = (ix2 (rowOf t ⟨(y 0).val, hy0⟩) (⟨(y 1).val, hy1⟩ : Fin 1024) : S256x1024.Idx) := by
      funext a; apply Fin.ext
      match a with
      | ⟨0, _⟩ => show win0_7.index t (0 : Fin 2) * 64 + 1 * (y 0).val = 64 * t.val + (y 0).val; omega
      | ⟨1, _⟩ => show win0_7.index t (1 : Fin 2) * 1024 + 1 * (y 1).val = (y 1).val; omega
    show out0_7 (iblk m c 0 t) (iblk m c 1 t) (iblk m c 2 t) (iblk m c 3 t) ((cfg0.win 7).xinj (grid0.coords t) y) = G7 m c (((cfg0.win 7).blk t).view.emb y)
    rw [hl, he, out7_apply]
  · have h0 : (i 0).val < 256 := (i 0).isLt
    have h1 : (i 1).val < 1024 := (i 1).isLt
    have hlt : (i 0).val / 64 < cfg0.N := lt_of_lt_of_eq (by omega) N_0.symm
    obtain ⟨e0, e1, hf⟩ := idx7 ⟨(i 0).val / 64, hlt⟩
    have e0' : win0_7.index ⟨(i 0).val / 64, hlt⟩ (0 : Fin 2) = (i 0).val / 64 := e0
    refine ⟨⟨(i 0).val / 64, hlt⟩, hf, ?_⟩
    show i ∈ ((View.whole main_v0_3).slice (win0_7.rect ⟨(i 0).val / 64, hlt⟩)).set
    rw [View.set_slice_whole, Rect.mem_set_unit]
    intro a
    match a with
    | ⟨0, _⟩ => show win0_7.index ⟨(i 0).val / 64, hlt⟩ (0 : Fin 2) * 64 ≤ (i 0).val ∧ (i 0).val < win0_7.index ⟨(i 0).val / 64, hlt⟩ (0 : Fin 2) * 64 + 64; omega
    | ⟨1, _⟩ => show win0_7.index ⟨(i 0).val / 64, hlt⟩ (1 : Fin 2) * 1024 ≤ (i 1).val ∧ (i 1).val < win0_7.index ⟨(i 0).val / 64, hlt⟩ (1 : Fin 2) * 1024 + 1024; omega

end Cert.Kernel5Ideal.Ad

namespace Cert.AdAlg5

open Cert.Kernel5Ideal Cert.Kernel5Ideal.Gen Cert.Kernel5Ideal.Value Cert.Kernel5Ideal.Ad
open Idealize.ShloMosaic Idealize.ShloMosaic.TcCoe Idealize.SL.Sem
open Cert.Reference5Ideal.Read

section
variable (x0 : S8x256x1024.Idx → EReal) (x1 x2 x3 : S256x1024.Idx → EReal)

/-- The reference's sum of the gradients. -/
theorem v1 (r : Fin 256) (k : Fin 1024) : val_main_v1 (F := Ideal) x0 (ix2 r k) = gsum x0 r k := by
  unfold gsum
  pointwise [val_main_v1, val_main_v0, val_main_cst]

/-- The reference's first moment. -/
theorem v6 (r : Fin 256) (k : Fin 1024) : val_main_v6 (F := Ideal) x0 x2 (ix2 r k) = mom1 (gsum x0 r k) (x2 (ix2 r k)) := by
  unfold mom1
  rw [← v1]
  pointwise [val_main_v6, val_main_v5, val_main_v4, val_main_v3, val_main_v2, val_main_cst_0, val_main_cst_1]

/-- The reference's second moment. -/
theorem v12 (r : Fin 256) (k : Fin 1024) : val_main_v12 (F := Ideal) x0 x3 (ix2 r k) = mom2 (gsum x0 r k) (x3 (ix2 r k)) := by
  unfold mom2
  rw [← v1]
  pointwise [val_main_v12, val_main_v11, val_main_v10, val_main_v9, val_main_v8, val_main_v7, val_main_cst_2, val_main_cst_3]

/-- The reference's change. -/
theorem v25 (r : Fin 256) (k : Fin 1024) : val_main_v25 (F := Ideal) x0 x1 x2 x3 (ix2 r k) = delta (gsum x0 r k) (x1 (ix2 r k)) (x3 (ix2 r k)) (x2 (ix2 r k)) := by
  unfold delta
  rw [← v6, ← v12]
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]

end

variable (m : (ℓ : Loc nD τ sig) → Buf (Elt Ideal) ℓ) (c : Dev nD)

/-- The gradients are equal. -/
theorem eq4 : (val_main_v1 (F := Ideal) (aG m c) : S256x1024.Idx → EReal) = G4 m c := by
  funext i
  rw [← ix2_eta i]
  exact v1 _ (i 0) (i 1)

/-- The changes are equal. -/
theorem eq5 : (val_main_v25 (F := Ideal) (aG m c) (aW m c) (aM m c) (aV m c) : S256x1024.Idx → EReal) = G5 m c := by
  funext i
  rw [← ix2_eta i]
  exact v25 _ _ _ _ (i 0) (i 1)

/-- The first moments are equal. -/
theorem eq6 : (val_main_v6 (F := Ideal) (aG m c) (aM m c) : S256x1024.Idx → EReal) = G6 m c := by
  funext i
  rw [← ix2_eta i]
  exact v6 _ _ (i 0) (i 1)

/-- The second moments are equal. -/
theorem eq7 : (val_main_v12 (F := Ideal) (aG m c) (aV m c) : S256x1024.Idx → EReal) = G7 m c := by
  funext i
  rw [← ix2_eta i]
  exact v12 _ _ (i 0) (i 1)

end Cert.AdAlg5
-- ==== Proof.AdIn.lean ====
module

public import proofs.«01_k».proof.Proof.Gen.Kernel9Ideal.Value
public import proofs.«01_k».proof.Proof.Gen.Reference9Ideal.Read
public import proofs.«01_k».proof.Proof.AdOut

/-!
# The optimiser step of the in-projection's weight

Each point takes 256 columns of the transposed weight, sums the eight received gradients and steps the weight's two
moments, with the arithmetic of the out-projection's step.
-/

@[expose] public section

set_option maxRecDepth 100000

namespace Cert.Kernel9Ideal.Ad

open Cert.Kernel9Ideal Cert.Kernel9Ideal.Gen Cert.Kernel9Ideal.Value Cert.OutMath
open Cert.Kernel5Ideal.Ad (word_d1 word_d2 mom1 mom2 delta)
open Idealize.ShloMosaic Idealize.ShloMosaic.TcCoe Idealize.SL.Sem

/-- The sum of the eight received gradients. -/
noncomputable def gsum (x : S8x836x1024.Idx → EReal) (r : Fin 836) (k : Fin 1024) : EReal := ∑ d : Fin 8, x (ix3 d r k)

/-! ## The arithmetic of a point -/

/-- The first moment. -/
theorem pay1_apply (g m : Vec Ideal S836x256 .f32) (r : Fin 836) (k : Fin 256) :
    k0_pay1 g (k0_pay5 m) (ix2 r k) = mom1 (g (ix2 r k)) (m (ix2 r k)) := by
  unfold mom1
  pointwise [k0_pay1, k0_pay5]

/-- The second moment. -/
theorem pay2_apply (g v : Vec Ideal S836x256 .f32) (r : Fin 836) (k : Fin 256) :
    k0_pay2 g v (ix2 r k) = mom2 (g (ix2 r k)) (v (ix2 r k)) := by
  unfold mom2
  pointwise [k0_pay2]

/-- The change. -/
theorem pay3_apply (g m v w : Vec Ideal S836x256 .f32) (r : Fin 836) (k : Fin 256) :
    k0_pay3 g (k0_pay5 m) v w (ix2 r k) = delta (g (ix2 r k)) (w (ix2 r k)) (v (ix2 r k)) (m (ix2 r k)) := by
  unfold delta
  rw [word_d1, word_d2, div_pos_coe (by norm_num), div_pos_coe (by norm_num), ← pay1_apply g m r k, ← pay2_apply g v r k]
  pointwise [k0_pay3]
  rw [IdealRules.named_const.ideal_named_scalar κ "c1" _ _ rfl, IdealRules.named_const.ideal_named_scalar κ "c2" _ _ rfl]
  rw [show (1 / (5463681 / 8388608) : ℝ) = 8388608 / 5463681 by norm_num, show (1 / (2672307 / 268435456) : ℝ) = 268435456 / 2672307 by norm_num]

/-- The sum of the eight blocks. -/
theorem pay4_apply (l0 l1 l2 l3 l4 l5 l6 l7 : Vec Ideal S1x836x256 .bf16) (r : Fin 836) (k : Fin 256) :
    k0_pay4 l0 l1 l2 l3 l4 l5 l6 l7 (ix2 r k) = l0 (ix3 0 r k) + l1 (ix3 0 r k) + l2 (ix3 0 r k) + l3 (ix3 0 r k) + l4 (ix3 0 r k) + l5 (ix3 0 r k) + l6 (ix3 0 r k) + l7 (ix3 0 r k) := by
  pointwise [k0_pay4]

variable (m : (ℓ : Loc nD τ sig) → Buf (Elt Ideal) ℓ) (c : Dev nD)

/-- The eight received gradients. -/
abbrev aG : S8x836x1024.Idx → EReal := m ((c : Thread nD τ).loc main_arg0)
/-- The weight. -/
abbrev aW : S1024x836.Idx → EReal := m ((c : Thread nD τ).loc main_arg1)
/-- Its first moment. -/
abbrev aM : S1024x836.Idx → EReal := m ((c : Thread nD τ).loc main_arg2)
/-- Its second moment. -/
abbrev aV : S1024x836.Idx → EReal := m ((c : Thread nD τ).loc main_arg3)

/-- The grid has 4 points. -/
theorem tlt (t : Fin cfg0.N) : t.val < 4 := lt_of_lt_of_eq t.isLt N_0

/-- Column `k` of the band of point `t`. -/
def colOf (t : Fin cfg0.N) (k : Fin 256) : Fin 1024 := ⟨256 * t.val + k.val, by have := tlt t; have := k.isLt; omega⟩

/-- The received gradients' block at point `t` is band `t` of all eight. -/
theorem idx0 : ∀ t : Fin cfg0.N, win0_0.index t (0 : Fin 3) = 0 ∧ win0_0.index t (1 : Fin 3) = 0 ∧ win0_0.index t (2 : Fin 3) = t.val := by decide +kernel

/-- Their block, entry by entry. -/
theorem blk0 (t : Fin cfg0.N) (d : Fin 8) (r : Fin 836) (k : Fin 256) :
    (iblk m c 0 t : Vec Ideal S8x836x256 .bf16) (ix3 d r k) = aG m c (ix3 d r (colOf t k)) := by
  have hi := idx0 t
  unfold iblk
  rw [View.read_apply]
  show V m c main_arg0 _ = _
  rw [V_main_arg0]
  show aG m c _ = aG m c _
  congr 1
  funext a
  apply Fin.ext
  match a with
  | ⟨0, _⟩ => show win0_0.index t 0 * 8 + 1 * d.val = d.val; rw [hi.1]; omega
  | ⟨1, _⟩ => show win0_0.index t 1 * 836 + 1 * r.val = r.val; rw [hi.2.1]; omega
  | ⟨2, _⟩ => show win0_0.index t 2 * 256 + 1 * k.val = 256 * t.val + k.val; rw [hi.2.2]; omega

/-- What the host leaves for window 1 is the transpose. -/
theorem V_1 (r : Fin 836) (k : Fin 1024) : (V m c main_v0 : S836x1024.Idx → EReal) (ix2 r k) = aW m c (ix2 k r) := by
  have h : (V m c main_v0 : S836x1024.Idx → EReal) = transpose S836x1024 [1, 0] (aW m c) transposes_S1024x836_S836x1024_1_0 := by
    unfold V
    unfold hostOps0
    after_results
  rw [h]
  pointwise

/-- Window 1's block at point `t` is band `t`. -/
theorem idx1 : ∀ t : Fin cfg0.N, win0_1.index t (0 : Fin 2) = 0 ∧ win0_1.index t (1 : Fin 2) = t.val := by decide +kernel

/-- Its block, entry by entry. -/
theorem blk1 (t : Fin cfg0.N) (r : Fin 836) (k : Fin 256) :
    (iblk m c 1 t : Vec Ideal S836x256 .f32) (ix2 r k) = aW m c (ix2 (colOf t k) r) := by
  have hi := idx1 t
  rw [← V_1]
  unfold iblk
  rw [View.read_apply]
  show V m c main_v0 _ = V m c main_v0 _
  congr 1
  funext a
  apply Fin.ext
  match a with
  | ⟨0, _⟩ => show win0_1.index t 0 * 836 + 1 * r.val = r.val; rw [hi.1]; omega
  | ⟨1, _⟩ => show win0_1.index t 1 * 256 + 1 * k.val = 256 * t.val + k.val; rw [hi.2]; omega

/-- What the host leaves for window 2 is the transpose. -/
theorem V_2 (r : Fin 836) (k : Fin 1024) : (V m c main_v1 : S836x1024.Idx → EReal) (ix2 r k) = aM m c (ix2 k r) := by
  have h : (V m c main_v1 : S836x1024.Idx → EReal) = transpose S836x1024 [1, 0] (aM m c) transposes_S1024x836_S836x1024_1_0 := by
    unfold V
    unfold hostOps0
    after_results
  rw [h]
  pointwise

/-- Window 2's block at point `t` is band `t`. -/
theorem idx2 : ∀ t : Fin cfg0.N, win0_2.index t (0 : Fin 2) = 0 ∧ win0_2.index t (1 : Fin 2) = t.val := by decide +kernel

/-- Its block, entry by entry. -/
theorem blk2 (t : Fin cfg0.N) (r : Fin 836) (k : Fin 256) :
    (iblk m c 2 t : Vec Ideal S836x256 .f32) (ix2 r k) = aM m c (ix2 (colOf t k) r) := by
  have hi := idx2 t
  rw [← V_2]
  unfold iblk
  rw [View.read_apply]
  show V m c main_v1 _ = V m c main_v1 _
  congr 1
  funext a
  apply Fin.ext
  match a with
  | ⟨0, _⟩ => show win0_2.index t 0 * 836 + 1 * r.val = r.val; rw [hi.1]; omega
  | ⟨1, _⟩ => show win0_2.index t 1 * 256 + 1 * k.val = 256 * t.val + k.val; rw [hi.2]; omega

/-- What the host leaves for window 3 is the transpose. -/
theorem V_3 (r : Fin 836) (k : Fin 1024) : (V m c main_v2 : S836x1024.Idx → EReal) (ix2 r k) = aV m c (ix2 k r) := by
  have h : (V m c main_v2 : S836x1024.Idx → EReal) = transpose S836x1024 [1, 0] (aV m c) transposes_S1024x836_S836x1024_1_0 := by
    unfold V
    unfold hostOps0
    after_results
  rw [h]
  pointwise

/-- Window 3's block at point `t` is band `t`. -/
theorem idx3 : ∀ t : Fin cfg0.N, win0_3.index t (0 : Fin 2) = 0 ∧ win0_3.index t (1 : Fin 2) = t.val := by decide +kernel

/-- Its block, entry by entry. -/
theorem blk3 (t : Fin cfg0.N) (r : Fin 836) (k : Fin 256) :
    (iblk m c 3 t : Vec Ideal S836x256 .f32) (ix2 r k) = aV m c (ix2 (colOf t k) r) := by
  have hi := idx3 t
  rw [← V_3]
  unfold iblk
  rw [View.read_apply]
  show V m c main_v2 _ = V m c main_v2 _
  congr 1
  funext a
  apply Fin.ext
  match a with
  | ⟨0, _⟩ => show win0_3.index t 0 * 836 + 1 * r.val = r.val; rw [hi.1]; omega
  | ⟨1, _⟩ => show win0_3.index t 1 * 256 + 1 * k.val = 256 * t.val + k.val; rw [hi.2]; omega

/-- A zero start, as the loads and stores have it. -/
theorem hz : (![0, 0] : Fin 2 → ℕ) = fun _ => 0 := by funext a; match a with | ⟨0, _⟩ => rfl | ⟨1, _⟩ => rfl

/-- One received gradient's block. -/
theorem ld_apply (x : Vec Ideal S8x836x256 .bf16) (d : ℕ) (hd : d < 8) (hb) (r : Fin 836) (k : Fin 256) :
    (View.ld x (Rect.unit (s := S8x836x256) ![d, 0, 0] S1x836x256.size hb) : Vec Ideal S1x836x256 .bf16) (ix3 0 r k) = x (ix3 (⟨d, hd⟩ : Fin 8) r k) := by
  refine congrArg x ?_
  funext a
  apply Fin.ext
  match a with
  | ⟨0, _⟩ => show d + 1 * 0 = d; omega
  | ⟨1, _⟩ => show 0 + 1 * r.val = r.val; omega
  | ⟨2, _⟩ => show 0 + 1 * k.val = k.val; omega

/-- The sum of the gradients of band `t`. -/
theorem g_apply (t : Fin cfg0.N) (x1 x2 x3 : Vec Ideal S836x256 .f32) (r : Fin 836) (k : Fin 256) :
    k0_pay6 (iblk m c 0 t : Vec Ideal S8x836x256 .bf16) x1 x2 x3 (ix2 r k) = gsum (aG m c) r (colOf t k) := by
  unfold k0_pay6
  rw [pay4_apply]
  rw [show View.ld (iblk m c 0 t : Vec Ideal S8x836x256 .bf16) r0_0 (ix3 0 r k) = aG m c (ix3 (0 : Fin 8) r (colOf t k)) from (ld_apply _ 0 (by omega) _ r k).trans (blk0 m c t 0 r k)]
  rw [show View.ld (iblk m c 0 t : Vec Ideal S8x836x256 .bf16) r0_1 (ix3 0 r k) = aG m c (ix3 (1 : Fin 8) r (colOf t k)) from (ld_apply _ 1 (by omega) _ r k).trans (blk0 m c t 1 r k)]
  rw [show View.ld (iblk m c 0 t : Vec Ideal S8x836x256 .bf16) r0_2 (ix3 0 r k) = aG m c (ix3 (2 : Fin 8) r (colOf t k)) from (ld_apply _ 2 (by omega) _ r k).trans (blk0 m c t 2 r k)]
  rw [show View.ld (iblk m c 0 t : Vec Ideal S8x836x256 .bf16) r0_3 (ix3 0 r k) = aG m c (ix3 (3 : Fin 8) r (colOf t k)) from (ld_apply _ 3 (by omega) _ r k).trans (blk0 m c t 3 r k)]
  rw [show View.ld (iblk m c 0 t : Vec Ideal S8x836x256 .bf16) r0_4 (ix3 0 r k) = aG m c (ix3 (4 : Fin 8) r (colOf t k)) from (ld_apply _ 4 (by omega) _ r k).trans (blk0 m c t 4 r k)]
  rw [show View.ld (iblk m c 0 t : Vec Ideal S8x836x256 .bf16) r0_5 (ix3 0 r k) = aG m c (ix3 (5 : Fin 8) r (colOf t k)) from (ld_apply _ 5 (by omega) _ r k).trans (blk0 m c t 5 r k)]
  rw [show View.ld (iblk m c 0 t : Vec Ideal S8x836x256 .bf16) r0_6 (ix3 0 r k) = aG m c (ix3 (6 : Fin 8) r (colOf t k)) from (ld_apply _ 6 (by omega) _ r k).trans (blk0 m c t 6 r k)]
  rw [show View.ld (iblk m c 0 t : Vec Ideal S8x836x256 .bf16) r0_7 (ix3 0 r k) = aG m c (ix3 (7 : Fin 8) r (colOf t k)) from (ld_apply _ 7 (by omega) _ r k).trans (blk0 m c t 7 r k)]
  unfold gsum
  rw [Fin.sum_univ_eight]

/-- The array of output 4. -/
noncomputable def G4 : S836x1024.Idx → EReal := fun i => (gsum (aG m c) (i 0) (i 1))

/-- It moves with the point. -/
theorem idx4 : ∀ t : Fin cfg0.N, win0_4.index t (0 : Fin 2) = 0 ∧ win0_4.index t (1 : Fin 2) = t.val ∧ (cfg0.win 4).flush t = true := by decide +kernel

/-- A point's block of it. -/
theorem out4_apply (t : Fin cfg0.N) (r : Fin 836) (k : Fin 256) :
    out0_4 (iblk m c 0 t) (iblk m c 1 t) (iblk m c 2 t) (iblk m c 3 t) (ix2 r k) = G4 m c (ix2 r (colOf t k)) := by
  unfold out0_4
  rw [View.canon_unit_zero hz]
  exact g_apply m c t _ _ _ r k

/-- The array after the run. -/
theorem final4 : (dats m 0 c).arrAt 4 cfg0.N = G4 m c := by
  refine (dats m 0 c).arrAt_eq_of_cover 4 _ (fun t hf => ?_) (fun i => ?_)
  · rw [flushed4]
    obtain ⟨e0, e1, -⟩ := idx4 t
    funext y
    have hy0 : (y 0).val < 836 := (y 0).isLt
    have hy1 : (y 1).val < 256 := (y 1).isLt
    have hl : (cfg0.win 4).xinj (grid0.coords t) y = (ix2 (⟨(y 0).val, hy0⟩ : Fin 836) (⟨(y 1).val, hy1⟩ : Fin 256) : S836x256.Idx) := by
      funext a; apply Fin.ext
      match a with
      | ⟨0, _⟩ => rfl
      | ⟨1, _⟩ => rfl
    have he : ((cfg0.win 4).blk t).view.emb y = (ix2 (⟨(y 0).val, hy0⟩ : Fin 836) (colOf t ⟨(y 1).val, hy1⟩) : S836x1024.Idx) := by
      funext a; apply Fin.ext
      match a with
      | ⟨0, _⟩ => show win0_4.index t (0 : Fin 2) * 836 + 1 * (y 0).val = (y 0).val; omega
      | ⟨1, _⟩ => show win0_4.index t (1 : Fin 2) * 256 + 1 * (y 1).val = 256 * t.val + (y 1).val; omega
    show out0_4 (iblk m c 0 t) (iblk m c 1 t) (iblk m c 2 t) (iblk m c 3 t) ((cfg0.win 4).xinj (grid0.coords t) y) = G4 m c (((cfg0.win 4).blk t).view.emb y)
    rw [hl, he, out4_apply]
  · have h0 : (i 0).val < 836 := (i 0).isLt
    have h1 : (i 1).val < 1024 := (i 1).isLt
    have hlt : (i 1).val / 256 < cfg0.N := lt_of_lt_of_eq (by omega) N_0.symm
    obtain ⟨e0, e1, hf⟩ := idx4 ⟨(i 1).val / 256, hlt⟩
    have e1' : win0_4.index ⟨(i 1).val / 256, hlt⟩ (1 : Fin 2) = (i 1).val / 256 := e1
    refine ⟨⟨(i 1).val / 256, hlt⟩, hf, ?_⟩
    show i ∈ ((View.whole main_v3_0).slice (win0_4.rect ⟨(i 1).val / 256, hlt⟩)).set
    rw [View.set_slice_whole, Rect.mem_set_unit]
    intro a
    match a with
    | ⟨0, _⟩ => show win0_4.index ⟨(i 1).val / 256, hlt⟩ (0 : Fin 2) * 836 ≤ (i 0).val ∧ (i 0).val < win0_4.index ⟨(i 1).val / 256, hlt⟩ (0 : Fin 2) * 836 + 836; omega
    | ⟨1, _⟩ => show win0_4.index ⟨(i 1).val / 256, hlt⟩ (1 : Fin 2) * 256 ≤ (i 1).val ∧ (i 1).val < win0_4.index ⟨(i 1).val / 256, hlt⟩ (1 : Fin 2) * 256 + 256; omega

/-- The array of output 5. -/
noncomputable def G5 : S836x1024.Idx → EReal := fun i => delta (gsum (aG m c) (i 0) (i 1)) (aW m c (ix2 (i 1) (i 0))) (aV m c (ix2 (i 1) (i 0))) (aM m c (ix2 (i 1) (i 0)))

/-- It moves with the point. -/
theorem idx5 : ∀ t : Fin cfg0.N, win0_5.index t (0 : Fin 2) = 0 ∧ win0_5.index t (1 : Fin 2) = t.val ∧ (cfg0.win 5).flush t = true := by decide +kernel

/-- A point's block of it. -/
theorem out5_apply (t : Fin cfg0.N) (r : Fin 836) (k : Fin 256) :
    out0_5 (iblk m c 0 t) (iblk m c 1 t) (iblk m c 2 t) (iblk m c 3 t) (ix2 r k) = G5 m c (ix2 r (colOf t k)) := by
  unfold out0_5
  rw [View.canon_unit_zero hz]
  unfold k0_pay7
  rw [View.ld_unit_zero (S := S836x256) hz, View.ld_unit_zero (S := S836x256) hz, View.ld_unit_zero (S := S836x256) hz, pay3_apply, g_apply, blk1, blk2, blk3]
  rfl

/-- The array after the run. -/
theorem final5 : (dats m 0 c).arrAt 5 cfg0.N = G5 m c := by
  refine (dats m 0 c).arrAt_eq_of_cover 5 _ (fun t hf => ?_) (fun i => ?_)
  · rw [flushed5]
    obtain ⟨e0, e1, -⟩ := idx5 t
    funext y
    have hy0 : (y 0).val < 836 := (y 0).isLt
    have hy1 : (y 1).val < 256 := (y 1).isLt
    have hl : (cfg0.win 5).xinj (grid0.coords t) y = (ix2 (⟨(y 0).val, hy0⟩ : Fin 836) (⟨(y 1).val, hy1⟩ : Fin 256) : S836x256.Idx) := by
      funext a; apply Fin.ext
      match a with
      | ⟨0, _⟩ => rfl
      | ⟨1, _⟩ => rfl
    have he : ((cfg0.win 5).blk t).view.emb y = (ix2 (⟨(y 0).val, hy0⟩ : Fin 836) (colOf t ⟨(y 1).val, hy1⟩) : S836x1024.Idx) := by
      funext a; apply Fin.ext
      match a with
      | ⟨0, _⟩ => show win0_5.index t (0 : Fin 2) * 836 + 1 * (y 0).val = (y 0).val; omega
      | ⟨1, _⟩ => show win0_5.index t (1 : Fin 2) * 256 + 1 * (y 1).val = 256 * t.val + (y 1).val; omega
    show out0_5 (iblk m c 0 t) (iblk m c 1 t) (iblk m c 2 t) (iblk m c 3 t) ((cfg0.win 5).xinj (grid0.coords t) y) = G5 m c (((cfg0.win 5).blk t).view.emb y)
    rw [hl, he, out5_apply]
  · have h0 : (i 0).val < 836 := (i 0).isLt
    have h1 : (i 1).val < 1024 := (i 1).isLt
    have hlt : (i 1).val / 256 < cfg0.N := lt_of_lt_of_eq (by omega) N_0.symm
    obtain ⟨e0, e1, hf⟩ := idx5 ⟨(i 1).val / 256, hlt⟩
    have e1' : win0_5.index ⟨(i 1).val / 256, hlt⟩ (1 : Fin 2) = (i 1).val / 256 := e1
    refine ⟨⟨(i 1).val / 256, hlt⟩, hf, ?_⟩
    show i ∈ ((View.whole main_v3_1).slice (win0_5.rect ⟨(i 1).val / 256, hlt⟩)).set
    rw [View.set_slice_whole, Rect.mem_set_unit]
    intro a
    match a with
    | ⟨0, _⟩ => show win0_5.index ⟨(i 1).val / 256, hlt⟩ (0 : Fin 2) * 836 ≤ (i 0).val ∧ (i 0).val < win0_5.index ⟨(i 1).val / 256, hlt⟩ (0 : Fin 2) * 836 + 836; omega
    | ⟨1, _⟩ => show win0_5.index ⟨(i 1).val / 256, hlt⟩ (1 : Fin 2) * 256 ≤ (i 1).val ∧ (i 1).val < win0_5.index ⟨(i 1).val / 256, hlt⟩ (1 : Fin 2) * 256 + 256; omega

/-- The array of output 6. -/
noncomputable def G6 : S836x1024.Idx → EReal := fun i => mom1 (gsum (aG m c) (i 0) (i 1)) (aM m c (ix2 (i 1) (i 0)))

/-- It moves with the point. -/
theorem idx6 : ∀ t : Fin cfg0.N, win0_6.index t (0 : Fin 2) = 0 ∧ win0_6.index t (1 : Fin 2) = t.val ∧ (cfg0.win 6).flush t = true := by decide +kernel

/-- A point's block of it. -/
theorem out6_apply (t : Fin cfg0.N) (r : Fin 836) (k : Fin 256) :
    out0_6 (iblk m c 0 t) (iblk m c 1 t) (iblk m c 2 t) (iblk m c 3 t) (ix2 r k) = G6 m c (ix2 r (colOf t k)) := by
  unfold out0_6
  rw [View.canon_unit_zero hz]
  unfold k0_pay7
  rw [View.ld_unit_zero (S := S836x256) hz, pay1_apply, g_apply, blk2]
  rfl

/-- The array after the run. -/
theorem final6 : (dats m 0 c).arrAt 6 cfg0.N = G6 m c := by
  refine (dats m 0 c).arrAt_eq_of_cover 6 _ (fun t hf => ?_) (fun i => ?_)
  · rw [flushed6]
    obtain ⟨e0, e1, -⟩ := idx6 t
    funext y
    have hy0 : (y 0).val < 836 := (y 0).isLt
    have hy1 : (y 1).val < 256 := (y 1).isLt
    have hl : (cfg0.win 6).xinj (grid0.coords t) y = (ix2 (⟨(y 0).val, hy0⟩ : Fin 836) (⟨(y 1).val, hy1⟩ : Fin 256) : S836x256.Idx) := by
      funext a; apply Fin.ext
      match a with
      | ⟨0, _⟩ => rfl
      | ⟨1, _⟩ => rfl
    have he : ((cfg0.win 6).blk t).view.emb y = (ix2 (⟨(y 0).val, hy0⟩ : Fin 836) (colOf t ⟨(y 1).val, hy1⟩) : S836x1024.Idx) := by
      funext a; apply Fin.ext
      match a with
      | ⟨0, _⟩ => show win0_6.index t (0 : Fin 2) * 836 + 1 * (y 0).val = (y 0).val; omega
      | ⟨1, _⟩ => show win0_6.index t (1 : Fin 2) * 256 + 1 * (y 1).val = 256 * t.val + (y 1).val; omega
    show out0_6 (iblk m c 0 t) (iblk m c 1 t) (iblk m c 2 t) (iblk m c 3 t) ((cfg0.win 6).xinj (grid0.coords t) y) = G6 m c (((cfg0.win 6).blk t).view.emb y)
    rw [hl, he, out6_apply]
  · have h0 : (i 0).val < 836 := (i 0).isLt
    have h1 : (i 1).val < 1024 := (i 1).isLt
    have hlt : (i 1).val / 256 < cfg0.N := lt_of_lt_of_eq (by omega) N_0.symm
    obtain ⟨e0, e1, hf⟩ := idx6 ⟨(i 1).val / 256, hlt⟩
    have e1' : win0_6.index ⟨(i 1).val / 256, hlt⟩ (1 : Fin 2) = (i 1).val / 256 := e1
    refine ⟨⟨(i 1).val / 256, hlt⟩, hf, ?_⟩
    show i ∈ ((View.whole main_v3_2).slice (win0_6.rect ⟨(i 1).val / 256, hlt⟩)).set
    rw [View.set_slice_whole, Rect.mem_set_unit]
    intro a
    match a with
    | ⟨0, _⟩ => show win0_6.index ⟨(i 1).val / 256, hlt⟩ (0 : Fin 2) * 836 ≤ (i 0).val ∧ (i 0).val < win0_6.index ⟨(i 1).val / 256, hlt⟩ (0 : Fin 2) * 836 + 836; omega
    | ⟨1, _⟩ => show win0_6.index ⟨(i 1).val / 256, hlt⟩ (1 : Fin 2) * 256 ≤ (i 1).val ∧ (i 1).val < win0_6.index ⟨(i 1).val / 256, hlt⟩ (1 : Fin 2) * 256 + 256; omega

/-- The array of output 7. -/
noncomputable def G7 : S836x1024.Idx → EReal := fun i => mom2 (gsum (aG m c) (i 0) (i 1)) (aV m c (ix2 (i 1) (i 0)))

/-- It moves with the point. -/
theorem idx7 : ∀ t : Fin cfg0.N, win0_7.index t (0 : Fin 2) = 0 ∧ win0_7.index t (1 : Fin 2) = t.val ∧ (cfg0.win 7).flush t = true := by decide +kernel

/-- A point's block of it. -/
theorem out7_apply (t : Fin cfg0.N) (r : Fin 836) (k : Fin 256) :
    out0_7 (iblk m c 0 t) (iblk m c 1 t) (iblk m c 2 t) (iblk m c 3 t) (ix2 r k) = G7 m c (ix2 r (colOf t k)) := by
  unfold out0_7
  rw [View.canon_unit_zero hz]
  rw [View.ld_unit_zero (S := S836x256) hz, pay2_apply, g_apply, blk3]
  rfl

/-- The array after the run. -/
theorem final7 : (dats m 0 c).arrAt 7 cfg0.N = G7 m c := by
  refine (dats m 0 c).arrAt_eq_of_cover 7 _ (fun t hf => ?_) (fun i => ?_)
  · rw [flushed7]
    obtain ⟨e0, e1, -⟩ := idx7 t
    funext y
    have hy0 : (y 0).val < 836 := (y 0).isLt
    have hy1 : (y 1).val < 256 := (y 1).isLt
    have hl : (cfg0.win 7).xinj (grid0.coords t) y = (ix2 (⟨(y 0).val, hy0⟩ : Fin 836) (⟨(y 1).val, hy1⟩ : Fin 256) : S836x256.Idx) := by
      funext a; apply Fin.ext
      match a with
      | ⟨0, _⟩ => rfl
      | ⟨1, _⟩ => rfl
    have he : ((cfg0.win 7).blk t).view.emb y = (ix2 (⟨(y 0).val, hy0⟩ : Fin 836) (colOf t ⟨(y 1).val, hy1⟩) : S836x1024.Idx) := by
      funext a; apply Fin.ext
      match a with
      | ⟨0, _⟩ => show win0_7.index t (0 : Fin 2) * 836 + 1 * (y 0).val = (y 0).val; omega
      | ⟨1, _⟩ => show win0_7.index t (1 : Fin 2) * 256 + 1 * (y 1).val = 256 * t.val + (y 1).val; omega
    show out0_7 (iblk m c 0 t) (iblk m c 1 t) (iblk m c 2 t) (iblk m c 3 t) ((cfg0.win 7).xinj (grid0.coords t) y) = G7 m c (((cfg0.win 7).blk t).view.emb y)
    rw [hl, he, out7_apply]
  · have h0 : (i 0).val < 836 := (i 0).isLt
    have h1 : (i 1).val < 1024 := (i 1).isLt
    have hlt : (i 1).val / 256 < cfg0.N := lt_of_lt_of_eq (by omega) N_0.symm
    obtain ⟨e0, e1, hf⟩ := idx7 ⟨(i 1).val / 256, hlt⟩
    have e1' : win0_7.index ⟨(i 1).val / 256, hlt⟩ (1 : Fin 2) = (i 1).val / 256 := e1
    refine ⟨⟨(i 1).val / 256, hlt⟩, hf, ?_⟩
    show i ∈ ((View.whole main_v3_3).slice (win0_7.rect ⟨(i 1).val / 256, hlt⟩)).set
    rw [View.set_slice_whole, Rect.mem_set_unit]
    intro a
    match a with
    | ⟨0, _⟩ => show win0_7.index ⟨(i 1).val / 256, hlt⟩ (0 : Fin 2) * 836 ≤ (i 0).val ∧ (i 0).val < win0_7.index ⟨(i 1).val / 256, hlt⟩ (0 : Fin 2) * 836 + 836; omega
    | ⟨1, _⟩ => show win0_7.index ⟨(i 1).val / 256, hlt⟩ (1 : Fin 2) * 256 ≤ (i 1).val ∧ (i 1).val < win0_7.index ⟨(i 1).val / 256, hlt⟩ (1 : Fin 2) * 256 + 256; omega

end Cert.Kernel9Ideal.Ad

namespace Cert.AdAlg9

open Cert.Kernel9Ideal Cert.Kernel9Ideal.Gen Cert.Kernel9Ideal.Value Cert.Kernel9Ideal.Ad
open Cert.Kernel5Ideal.Ad (mom1 mom2 delta)
open Idealize.ShloMosaic Idealize.ShloMosaic.TcCoe Idealize.SL.Sem
open Cert.Reference9Ideal.Read

section
variable (x0 : S8x836x1024.Idx → EReal) (x1 x2 x3 : S1024x836.Idx → EReal)

/-- The reference's sum of the gradients. -/
theorem v2 (r : Fin 836) (k : Fin 1024) : val_main_v2 (F := Ideal) x0 (ix2 k r) = gsum x0 r k := by
  unfold gsum
  pointwise [val_main_v2, val_main_v1, val_main_v0, val_main_cst]

/-- The reference's first moment. -/
theorem v7 (r : Fin 836) (k : Fin 1024) : val_main_v7 (F := Ideal) x0 x2 (ix2 k r) = mom1 (gsum x0 r k) (x2 (ix2 k r)) := by
  unfold mom1
  rw [← v2]
  pointwise [val_main_v7, val_main_v6, val_main_v5, val_main_v4, val_main_v3, val_main_cst_0, val_main_cst_1]

/-- The reference's second moment. -/
theorem v13 (r : Fin 836) (k : Fin 1024) : val_main_v13 (F := Ideal) x0 x3 (ix2 k r) = mom2 (gsum x0 r k) (x3 (ix2 k r)) := by
  unfold mom2
  rw [← v2]
  pointwise [val_main_v13, val_main_v12, val_main_v11, val_main_v10, val_main_v9, val_main_v8, val_main_cst_2, val_main_cst_3]

/-- The reference's change. -/
theorem v26 (r : Fin 836) (k : Fin 1024) : val_main_v26 (F := Ideal) x0 x1 x2 x3 (ix2 k r) = delta (gsum x0 r k) (x1 (ix2 k r)) (x3 (ix2 k r)) (x2 (ix2 k r)) := by
  unfold delta
  rw [← v7, ← v13]
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]

end

variable (m : (ℓ : Loc nD τ sig) → Buf (Elt Ideal) ℓ) (c : Dev nD)

/-- The gradients are equal. -/
theorem eq4 : (val_main_v27 (F := Ideal) (aG m c) : S836x1024.Idx → EReal) = G4 m c := by
  funext i
  rw [← ix2_eta i]
  refine Eq.trans (b := val_main_v2 (F := Ideal) (aG m c) (ix2 (i 1) (i 0))) ?_ (v2 (aG m c) (i 0) (i 1))
  pointwise [val_main_v27]

/-- The changes are equal. -/
theorem eq5 : (val_main_v28 (F := Ideal) (aG m c) (aW m c) (aM m c) (aV m c) : S836x1024.Idx → EReal) = G5 m c := by
  funext i
  rw [← ix2_eta i]
  refine Eq.trans (b := val_main_v26 (F := Ideal) (aG m c) (aW m c) (aM m c) (aV m c) (ix2 (i 1) (i 0))) ?_ (v26 (aG m c) (aW m c) (aM m c) (aV m c) (i 0) (i 1))
  pointwise [val_main_v28]

/-- The first moments are equal. -/
theorem eq6 : (val_main_v29 (F := Ideal) (aG m c) (aM m c) : S836x1024.Idx → EReal) = G6 m c := by
  funext i
  rw [← ix2_eta i]
  refine Eq.trans (b := val_main_v7 (F := Ideal) (aG m c) (aM m c) (ix2 (i 1) (i 0))) ?_ (v7 (aG m c) (aM m c) (i 0) (i 1))
  pointwise [val_main_v29]

/-- The second moments are equal. -/
theorem eq7 : (val_main_v30 (F := Ideal) (aG m c) (aV m c) : S836x1024.Idx → EReal) = G7 m c := by
  funext i
  rw [← ix2_eta i]
  refine Eq.trans (b := val_main_v13 (F := Ideal) (aG m c) (aV m c) (ix2 (i 1) (i 0))) ?_ (v13 (aG m c) (aV m c) (i 0) (i 1))
  pointwise [val_main_v30]

end Cert.AdAlg9
-- ==== Proof.Gw6Step.lean ====
module

public import proofs.«01_k».proof.Proof.Gen.Kernel6Ideal.Value
public import proofs.«01_k».proof.Proof.GwMath
public import Idealize.ShloMosaic.Lib.Pointwise

/-!
# The gradient of the q, k and v columns of the in-projection's weight: the kernel

Each grid point adds to the accumulator the product of its band of cotangent rows with its band of normalised rows;
the last point of a block of columns casts the accumulator out.
-/

@[expose] public section

set_option maxRecDepth 100000

namespace Cert.Kernel6Ideal.Gw

open Cert.Kernel6Ideal Cert.Kernel6Ideal.Gen Cert.Kernel6Ideal.Value Cert.GwMath
open Idealize.ShloMosaic Idealize.ShloMosaic.TcCoe Idealize.SL.Sem

variable (m : (ℓ : Loc nD τ sig) → Buf (Elt Ideal) ℓ) (c : Dev nD)

/-- The offset list of zeros. -/
theorem hz : (![0, 0] : Fin 2 → Nat) = fun _ => 0 := funext fun a => by fin_cases a <;> rfl

/-- The accumulator after a point, from what it was before. -/
noncomputable def gNext (t : Fin cfg0.N) (acc : Vec Ideal S1024x1024 .f32) : Vec Ideal S1024x1024 .f32 :=
  k0_pay2 acc (iblk m c 1 t) (iblk m c 0 t)

/-- The scratch read back whole is what it was said to hold. -/
theorem read_scratch (X : Vec Ideal S1024x1024 .f32) (h : (Memref.whole cc0_scratch0).IsWhole) :
    View.read (Elt Ideal) (View.whole cc0_scratch0) (h.unread X) = X := Memref.IsWhole.read_unread h X

/-- A first point starts the accumulator from zero. -/
theorem st_A (t : Fin cfg0.N) (acc) (h0 : t.val % 4 = 0) (h1 : ¬t.val % 4 = 3) :
    (stAt0 m c t.val t.isLt acc).2 = gNext m c t (k0_pay1 (F := Ideal)) := by
  rw [stAt0_A m c t acc h0 h1]
  dsimp only
  unfold sout0_A_0
  rw [View.read_writes_eq_canon _ _ _ (scover0_A_0 _ _ _ _ _ _ _ _ _ _ _ _ _ _)]
  unfold kernelRun0_A
  dsimp only
  sl_unfold_words
  simp only [View.readAt_eq_ld, View.ld_unit_zero (S := S2048x1024) hz,
    View.ld_unit_zero (S := S1024x1024) hz, Memref.IsWhole.read_unread]
  rw [View.canon_cons_unit_zero hz, View.readCov_unit_zero _ hz]
  unfold gNext
  rfl

/-- A middle point adds its product to the accumulator. -/
theorem st_B (t : Fin cfg0.N) (acc) (h0 : ¬t.val % 4 = 0) (h1 : ¬t.val % 4 = 3) :
    (stAt0 m c t.val t.isLt acc).2 = gNext m c t acc.2 := by
  rw [stAt0_B m c t acc h0 h1]
  dsimp only
  unfold sout0_B_0
  rw [View.read_writes_eq_canon _ _ _ (scover0_B_0 _ _ _ _ _ _ _ _ _ _ _ _ _ _ _)]
  unfold kernelRun0_B
  dsimp only
  sl_unfold_words
  simp only [View.readAt_eq_ld, View.ld_unit_zero (S := S2048x1024) hz,
    View.ld_unit_zero (S := S1024x1024) hz, Memref.IsWhole.read_unread]
  rw [View.canon_unit_zero hz, read_scratch]
  unfold gNext
  rfl

/-- So does a last point. -/
theorem st_C (t : Fin cfg0.N) (acc) (h0 : ¬t.val % 4 = 0) (h1 : t.val % 4 = 3) :
    (stAt0 m c t.val t.isLt acc).2 = gNext m c t acc.2 := by
  rw [stAt0_C m c t acc h0 h1]
  dsimp only
  unfold sout0_C_0
  rw [View.read_writes_eq_canon _ _ _ (scover0_C_0 _ _ _ _ _ _ _ _ _ _ _ _ _ _ _)]
  unfold kernelRun0_C
  dsimp only
  sl_unfold_words
  simp only [View.readAt_eq_ld, View.ld_unit_zero (S := S2048x1024) hz,
    View.ld_unit_zero (S := S1024x1024) hz, Memref.IsWhole.read_unread]
  rw [View.canon_unit_zero hz, read_scratch]
  unfold gNext
  rfl

/-- The last point stores the accumulator, cast. -/
theorem so_C (t : Fin cfg0.N) (acc) (h0 : ¬t.val % 4 = 0) (h1 : t.val % 4 = 3) :
    (stAt0 m c t.val t.isLt acc).1 = k0_pay3 (gNext m c t acc.2) := by
  rw [stAt0_C m c t acc h0 h1]
  dsimp only
  unfold out0_C_2
  rw [View.read_writes_eq_canon _ _ _ (cover0_C_2 _ _ _ _ _ _ _ _ _ _ _ _ _ _ _)]
  unfold kernelRun0_C
  dsimp only
  sl_unfold_words
  simp only [View.readAt_eq_ld, View.ld_unit_zero (S := S2048x1024) hz,
    View.ld_unit_zero (S := S1024x1024) hz, Memref.IsWhole.read_unread]
  rw [View.canon_unit_zero hz, read_scratch]
  refine congrArg k0_pay3 ?_
  rw [View.readCov_unit_zero _ hz]
  unfold gNext
  rfl

end Cert.Kernel6Ideal.Gw
-- ==== Proof.Gw6Val.lean ====
module

public import proofs.«01_k».proof.Proof.Gw6Step
public import proofs.«01_k».proof.Proof.Gen.Reference6Ideal.Read

/-!
# The gradient of the q, k and v columns of the in-projection's weight: its value

Over the extended reals the kernel's array is, entry by entry, the sum over all rows of a cotangent entry times a
normalised entry; so is the reference's.
-/

@[expose] public section

set_option maxRecDepth 100000

namespace Cert.Kernel6Ideal.Gw

open Cert.Kernel6Ideal Cert.Kernel6Ideal.Gen Cert.Kernel6Ideal.Value Cert.GwMath
open Idealize.ShloMosaic Idealize.ShloMosaic.TcCoe Idealize.SL.Sem

variable (m : (ℓ : Loc nD τ sig) → Buf (Elt Ideal) ℓ) (c : Dev nD)

/-- The rows of the step's input. -/
abbrev aX : S8192x1024.Idx → EReal := m ((c : Thread nD τ).loc main_arg0)
/-- The norm's weight. -/
abbrev aN : S1024.Idx → EReal := m ((c : Thread nD τ).loc main_arg1)
/-- The cotangent. -/
abbrev aD : S8192x3072.Idx → EReal := m ((c : Thread nD τ).loc main_arg2)

/-- The normalised rows. -/
noncomputable def U (x : S8192x1024.Idx → EReal) (w : S1024.Idx → EReal) (r : Fin 8192) (k : Fin 1024) : EReal :=
  x (ix2 r k) * Ideal.rsqrt (Ideal.div (∑ j : Fin 1024, x (ix2 r j) * x (ix2 r j)) (Ideal.ofBits FTy.f32 0x44800000#32) + Ideal.ofBits FTy.f32 0x358637BD#32) * w (ix1 k)

/-- The reference's normalised rows. -/
theorem ref_u (x0 : S8192x1024.Idx → EReal) (x1 : S1024.Idx → EReal) (r : Fin 8192) (k : Fin 1024) :
    Cert.Reference6Ideal.Read.val_main_v13 (F := Ideal) x0 x1 (ix2 r k) = U x0 x1 r k := by
  unfold U
  open Cert.Reference6Ideal.Read in
  pointwise [val_main_v13, val_main_v12, val_main_v11, val_main_v10, val_main_v9, val_main_v8, val_main_v7, val_main_v6, val_main_v5, val_main_v4, val_main_v3, val_main_v2, val_main_v1, val_main_cst_0, val_main_cst_1, val_main_cst_2]

/-- What the host leaves as the normalised rows. -/
theorem V_u (r : Fin 8192) (k : Fin 1024) :
    (V m c main_v13 : S8192x1024.Idx → EReal) (ix2 r k) = U (aX m c) (aN m c) r k := by
  have h : (V m c main_v13 : S8192x1024.Idx → EReal)
      = truncf (F := Ideal) .bf16 (Cert.Reference6Ideal.Read.val_main_v13 (F := Ideal) (aX m c) (aN m c)) bitsLt_bf16_f32 := by
    unfold_abbrev_sides
    after_results
    rfl
  rw [h, ← ref_u]
  rfl

/-- The cotangent is an argument. -/
theorem V_d : (V m c main_arg2 : S8192x3072.Idx → EReal) = aD m c := V_main_arg2 m c

/-- The grid has 12 points. -/
theorem tlt (t : Fin cfg0.N) : t.val < 12 := lt_of_lt_of_eq t.isLt N_0

/-- Row `r` of the band of point `t`. -/
def rowOf (t : Fin cfg0.N) (r : Fin 2048) : Fin 8192 := ⟨2048 * (t.val % 4) + r.val, by have := r.isLt; omega⟩
/-- Column `j` of the block of columns of point `t`. -/
def colOf (t : Fin cfg0.N) (j : Fin 1024) : Fin 3072 := ⟨1024 * (t.val / 4) + j.val, by have := tlt t; have := j.isLt; omega⟩

/-- The normalised rows' block at point `t` is band `t % 4`. -/
theorem idx0 : ∀ t : Fin cfg0.N, win0_0.index t (0 : Fin 2) = t.val % 4 ∧ win0_0.index t (1 : Fin 2) = 0 := by decide
/-- The cotangent's is that band of the columns' block `t / 4`. -/
theorem idx1 : ∀ t : Fin cfg0.N, win0_1.index t (0 : Fin 2) = t.val % 4 ∧ win0_1.index t (1 : Fin 2) = t.val / 4 := by decide

/-- The normalised rows' block, entry by entry. -/
theorem blk0 (t : Fin cfg0.N) (r : Fin 2048) (k : Fin 1024) :
    (iblk m c 0 t : Vec Ideal S2048x1024 .bf16) (ix2 r k) = U (aX m c) (aN m c) (rowOf t r) k := by
  have hi := idx0 t
  rw [← V_u]
  unfold iblk
  rw [View.read_apply]
  show V m c main_v13 _ = V m c main_v13 _
  congr 1
  funext a
  apply Fin.ext
  match a with
  | ⟨0, _⟩ => show win0_0.index t 0 * 2048 + 1 * r.val = 2048 * (t.val % 4) + r.val; rw [hi.1]; omega
  | ⟨1, _⟩ => show win0_0.index t 1 * 1024 + 1 * k.val = k.val; rw [hi.2]; omega

/-- The cotangent's block, entry by entry. -/
theorem blk1 (t : Fin cfg0.N) (r : Fin 2048) (j : Fin 1024) :
    (iblk m c 1 t : Vec Ideal S2048x1024 .f32) (ix2 r j) = aD m c (ix2 (rowOf t r) (colOf t j)) := by
  have hi := idx1 t
  rw [← V_d]
  unfold iblk
  rw [View.read_apply]
  show V m c main_arg2 _ = V m c main_arg2 _
  congr 1
  funext a
  apply Fin.ext
  match a with
  | ⟨0, _⟩ => show win0_1.index t 0 * 2048 + 1 * r.val = 2048 * (t.val % 4) + r.val; rw [hi.1]; omega
  | ⟨1, _⟩ => show win0_1.index t 1 * 1024 + 1 * j.val = 1024 * (t.val / 4) + j.val; rw [hi.2]; omega

/-- A point's product added to the accumulator, entry by entry. -/
theorem pay2_apply (v3 : Vec Ideal S1024x1024 .f32) (v4 : Vec Ideal S2048x1024 .f32) (v6 : Vec Ideal S2048x1024 .bf16) (j : Fin 1024) (k : Fin 1024) :
    k0_pay2 v3 v4 v6 (ix2 j k) = v3 (ix2 j k) + ∑ r, v4 (ix2 r j) * v6 (ix2 r k) := by
  pointwise [k0_pay2]
/-- The accumulator starts at zero. -/
theorem pay1_apply (j : Fin 1024) (k : Fin 1024) : k0_pay1 (F := Ideal) (ix2 j k) = 0 := by
  pointwise [k0_pay1]
/-- The cast does nothing here. -/
theorem pay3_apply (v : Vec Ideal S1024x1024 .f32) (j : Fin 1024) (k : Fin 1024) : k0_pay3 v (ix2 j k) = v (ix2 j k) := by
  pointwise [k0_pay3]

/-- The summand of one row. -/
noncomputable abbrev part (j : Fin 3072) (k : Fin 1024) (r : Fin 8192) : EReal := aD m c (ix2 r j) * U (aX m c) (aN m c) r k

/-- A point adds its band. -/
theorem gNext_apply (t : Fin cfg0.N) (acc : Vec Ideal S1024x1024 .f32) (j : Fin 1024) (k : Fin 1024) :
    gNext m c t acc (ix2 j k) = acc (ix2 j k) + band 2048 (part m c (colOf t j) k) (t.val % 4) := by
  unfold gNext
  rw [pay2_apply]
  unfold band
  refine congrArg (_ + ·) (Finset.sum_congr rfl fun r _ => ?_)
  rw [blk0, blk1]
  unfold term
  rw [dif_pos (show 2048 * (t.val % 4) + r.val < 8192 from (rowOf t r).isLt)]
  rfl

/-- The step from one point to the next, inside a block of columns. -/
theorem st_succ (n : ℕ) (hn : n + 1 < cfg0.N) (h0 : ¬(n + 1) % 4 = 0) (acc) :
    (stAt0 m c (n + 1) hn acc).2 = gNext m c ⟨n + 1, hn⟩ acc.2 := by
  by_cases h1 : (n + 1) % 4 = 3
  · exact st_C m c ⟨n + 1, hn⟩ acc h0 h1
  · exact st_B m c ⟨n + 1, hn⟩ acc h0 h1

/-- The accumulator after point `n`. -/
theorem acc_at (k : Fin 1024) (n : ℕ) (hn : n < cfg0.N) (j : Fin 1024) :
    (outsAt0 m c n hn).2 (ix2 j k) = ∑ i ∈ Finset.range (n % 4 + 1), band 2048 (part m c (colOf ⟨n, hn⟩ j) k) i := by
  induction n with
  | zero =>
    rw [outsAt0_zero, st_A m c ⟨0, hn⟩ junk0 rfl (show ¬(0 : ℕ) % 4 = 3 by decide), gNext_apply, pay1_apply, zero_add]
    exact (Finset.sum_range_one _).symm
  | succ n ih =>
    rw [outsAt0_succ]
    by_cases h0 : (n + 1) % 4 = 0
    · rw [st_A m c ⟨n + 1, hn⟩ _ h0 (by dsimp only; omega), gNext_apply, pay1_apply, zero_add]
      dsimp only
      rw [h0]
      exact (Finset.sum_range_one _).symm
    · have hc : colOf ⟨n, by omega⟩ j = colOf ⟨n + 1, hn⟩ j := Fin.ext (by show 1024 * (n / 4) + j.val = 1024 * ((n + 1) / 4) + j.val; omega)
      have hm : (n + 1) % 4 = n % 4 + 1 := by omega
      rw [st_succ m c n hn h0, gNext_apply, ih, hc]
      dsimp only
      rw [hm, Finset.sum_range_succ _ (n % 4 + 1)]

/-- What a last point writes out. -/
theorem out_at (k : Fin 1024) (n : ℕ) (hn : n + 1 < cfg0.N) (h1 : (n + 1) % 4 = 3) (j : Fin 1024) :
    (outsAt0 m c (n + 1) hn).1 (ix2 j k) = ∑ r, part m c (colOf ⟨n + 1, hn⟩ j) k r := by
  have h0 : ¬(n + 1) % 4 = 0 := by omega
  have hs : (outsAt0 m c (n + 1) hn).1 = k0_pay3 (outsAt0 m c (n + 1) hn).2 := by
    rw [outsAt0_succ m c n hn, so_C m c ⟨n + 1, hn⟩ _ h0 h1, st_succ m c n hn h0]
  rw [hs, pay3_apply, acc_at, h1]
  exact bands_all 2048 4 rfl _

/-- The kernel's array, entry by entry. -/
theorem G2_apply (j : Fin 3072) (k : Fin 1024) :
    (G2 m c : S3072x1024.Idx → EReal) (ix2 j k) = ∑ r, part m c j k r := by
  have hj := j.isLt
  have hk := k.isLt
  have hp : pt2Of (ix2 j k) = (4 * (j.val / 1024) + 2) + 1 := by
    show 4 * (1 * (j.val / 1024 - 0) + 1 * (k.val / 1024 - 0)) + 3 = _
    omega
  have hN : (4 * (j.val / 1024) + 2) + 1 < cfg0.N := lt_of_lt_of_eq (by omega) N_0.symm
  have hl : loc2Of (ix2 j k) = ix2 (⟨j.val % 1024, Nat.mod_lt _ (by decide)⟩ : Fin 1024) k := by
    funext a; apply Fin.ext
    match a with
    | ⟨0, _⟩ => rfl
    | ⟨1, _⟩ => show k.val % 1024 = k.val; omega
  have hc : colOf ⟨(4 * (j.val / 1024) + 2) + 1, hN⟩ (⟨j.val % 1024, Nat.mod_lt _ (by decide)⟩ : Fin 1024) = j :=
    Fin.ext (by show 1024 * ((4 * (j.val / 1024) + 2 + 1) / 4) + j.val % 1024 = j.val; omega)
  unfold G2
  rw [dif_pos (by rw [hp]; exact hN), fold0_congr m c _ _ _ (by omega) hp, ← outsAt0_sweep m c _ hN, hl,
    out_at m c k _ hN (by omega), hc]

end Cert.Kernel6Ideal.Gw

namespace Cert.GwAlg6

open Cert.Kernel6Ideal Cert.Kernel6Ideal.Gen Cert.Kernel6Ideal.Value Cert.Kernel6Ideal.Gw
open Idealize.ShloMosaic Idealize.ShloMosaic.TcCoe Idealize.SL.Sem
open Cert.Reference6Ideal.Read

/-- The reference's array, entry by entry. -/
theorem ref_apply (x0 : S8192x1024.Idx → EReal) (x1 : S1024.Idx → EReal) (x2 : S8192x3072.Idx → EReal) (j : Fin 3072) (k : Fin 1024) :
    val_main_v18 (F := Ideal) x0 x1 x2 (ix2 j k) = ∑ r, x2 (ix2 r j) * U x0 x1 r k := by
  simp only [← ref_u]
  pointwise [val_main_v18, val_main_v17, val_main_v16, val_main_v15]

/-- The two programs' results are equal. -/
theorem eq_g (m : (ℓ : Loc nD τ sig) → Buf (Elt Ideal) ℓ) (c : Dev nD) :
    (val_main_v18 (F := Ideal) (aX m c) (aN m c) (aD m c) : S3072x1024.Idx → EReal) = (G2 m c : S3072x1024.Idx → EReal) := by
  funext i
  rw [← ix2_eta i]
  exact (ref_apply _ _ _ (i 0) (i 1)).trans (G2_apply m c (i 0) (i 1)).symm

end Cert.GwAlg6
-- ==== Proof.DxStep.lean ====
module

public import proofs.«01_k».proof.Proof.Gen.Kernel7Ideal.Value
public import Idealize.ShloMosaic.Lib.Pointwise
public import Idealize.ShloMosaic.Lib.WritesUnit
public import Idealize.ShloMosaic.Lib.VecWindow

/-!
# One grid point of the input gradient of the in-projection

What a point leaves in its two outputs: a band of rows of the input's gradient, and an eight-row block whose row 0 carries
the gradient of the norm's weight; rows 1 to 7 are zeroed at the first point and kept.
-/

@[expose] public section

set_option maxHeartbeats 4000000
set_option maxRecDepth 100000

namespace Cert.Kernel7Ideal.In

open Cert.Kernel7Ideal Cert.Kernel7Ideal.Gen Cert.Kernel7Ideal.Value
open Idealize.ShloMosaic Idealize.ShloMosaic.TcCoe Idealize.SL.Sem

variable {F : FTy → Type} [FloatOps F]
variable (m : (ℓ : Loc nD τ sig) → Buf (Elt F) ℓ)

/-- The offset list of zeros. -/
theorem hz : (![0, 0] : Fin 2 → Nat) = fun _ => 0 := funext fun a => by fin_cases a <;> rfl

/-- The `n` rows of the gathered weight's block from `o` on. -/
abbrev wl (c : Dev nD) (t : Fin cfg0.N) (o n : ℕ) (hb : ∀ a, (![o, 0] : Fin 2 → ℕ) a + (![n, 1024] : Fin 2 → ℕ) a ≤ S6784x1024.size a) :
    Vec F ⟨2, ![n, 1024]⟩ .bf16 := View.ld (iblk m c 3 t) (Rect.unit ![o, 0] ![n, 1024] hb)

/-- The point's gradient of the normalised rows. -/
noncomputable def bDu (c : Dev nD) (t : Fin cfg0.N) : FVec F S256x1024 .f32 :=
  k0_pay17 (k0_pay10 (k0_pay3 (iblk m c 4 t) (wl m c t 0 832 inb_S6784x1024_S832x1024_0_0) (wl m c t 832 16 inb_S6784x1024_S16x1024_832_0) (wl m c t 848 16 inb_S6784x1024_S16x1024_848_0) (wl m c t 864 176 inb_S6784x1024_S176x1024_864_0)) (k0_pay4 (iblk m c 5 t)) (k0_pay5 (wl m c t 1040 640 inb_S6784x1024_S640x1024_1040_0)) (k0_pay6 (wl m c t 1680 16 inb_S6784x1024_S16x1024_1680_0) (wl m c t 1696 16 inb_S6784x1024_S16x1024_1696_0)) (k0_pay7 (wl m c t 1712 816 inb_S6784x1024_S816x1024_1712_0)) (k0_pay8 (wl m c t 2528 16 inb_S6784x1024_S16x1024_2528_0)) (k0_pay9 (wl m c t 2544 16 inb_S6784x1024_S16x1024_2544_0)) (wl m c t 2560 48 inb_S6784x1024_S48x1024_2560_0) (iblk m c 6 t) (wl m c t 2624 768 inb_S6784x1024_S768x1024_2624_0) (wl m c t 3392 256 inb_S6784x1024_S256x1024_3392_0))
    (k0_pay11 (iblk m c 7 t)) (k0_pay12 (wl m c t 3648 576 inb_S6784x1024_S576x1024_3648_0)) (k0_pay13 (wl m c t 4224 16 inb_S6784x1024_S16x1024_4224_0) (wl m c t 4240 16 inb_S6784x1024_S16x1024_4240_0)) (k0_pay14 (wl m c t 4256 816 inb_S6784x1024_S816x1024_4256_0)) (k0_pay15 (wl m c t 5072 16 inb_S6784x1024_S16x1024_5072_0) (wl m c t 5088 16 inb_S6784x1024_S16x1024_5088_0)) (k0_pay16 (wl m c t 5104 816 inb_S6784x1024_S816x1024_5104_0)) (wl m c t 5920 16 inb_S6784x1024_S16x1024_5920_0) (wl m c t 5936 16 inb_S6784x1024_S16x1024_5936_0) (wl m c t 5952 816 inb_S6784x1024_S816x1024_5952_0) (iblk m c 8 t) (wl m c t 2608 16 inb_S6784x1024_S16x1024_2608_0) (wl m c t 6768 16 inb_S6784x1024_S16x1024_6768_0)

/-- The point's gradient of the input's rows. -/
noncomputable def bDx (c : Dev nD) (t : Fin cfg0.N) : FVec F S256x1024 .f32 :=
  k0_pay1 (bDu m c t) (k0_pay18 (iblk m c 0 t)) (k0_pay19 (iblk m c 0 t)) (iblk m c 2 t) (iblk m c 1 t)

/-- Row 0 of an [8, 1024] block. -/
def row0 (v : Vec F S8x1024 .f32) : Vec F S1x1024 .f32 :=
  View.ld v (Rect.unit ![0, 0] ![1, 1024] inb_S8x1024_S1x1024_0_0)

/-- The point's row added to a carried row. -/
noncomputable def gRow (du yh : FVec F S256x1024 .f32) (acc : Vec F S1x1024 .f32) : FVec F S1x1024 .f32 :=
  addf (shapeCast S1x1024 acc shapeCasts_S1x1024_S1x1024)
    (shapeCast S1x1024 (multiReduction .add [0] S1024 (mulf du yh) 0x00000000#32 reduces_S256x1024_S1024 (.inl rfl) rfl) shapeCasts_S1024_S1x1024)

/-- The carried gradient of the norm's weight after a point, from what it was before: row 0 is stepped. -/
noncomputable def gNext (c : Dev nD) (t : Fin cfg0.N) (acc : Vec F S8x1024 .f32) : Vec F S8x1024 .f32 := fun y =>
  if (y 0).val = 0 then gRow (bDu m c t) (k0_pay19 (iblk m c 0 t)) (row0 acc) (ix2 (n0 := 1) (n1 := 1024) 0 ⟨(y 1).val, (y 1).isLt⟩)
  else acc y

/-- What a first point leaves in the input's gradient. -/
theorem o9_A (c : Dev nD) (t : Fin cfg0.N) (h0 : t.val % 32 = 0) : (outsAt0 m c t.val t.isLt).1 = bDx m c t := by
  rw [outsAt0_A m c t h0]
  dsimp only
  unfold out0_A_9
  rw [View.read_writes_eq_canon _ _ _ (cover0_A_9 _ _ _ _ _ _ _ _ _ _ _ _ _ _ _ _ _ _ _ _ _ _ _ _ _ _ _ _ _ _ _ _ _ _)]
  unfold kernelRun0_A
  dsimp only
  sl_unfold_words
  simp only [View.readAt_eq_ld, View.ld_unit_zero (S := S256x1024) hz, View.ld_unit_zero (S := S1x1024) hz,
    View.ld_unit_zero (S := S256x1536) hz, View.ld_unit_zero (S := S256x3072) hz, View.ld_unit_zero (S := S256x128) hz, Memref.IsWhole.read_unread]
  rw [View.canon_unit_zero hz]
  rfl

/-- What another point leaves in the input's gradient. -/
theorem o9_B (c : Dev nD) (t : Fin cfg0.N) (h0 : ¬t.val % 32 = 0) : (outsAt0 m c t.val t.isLt).1 = bDx m c t := by
  rw [outsAt0_B m c t h0]
  dsimp only
  unfold out0_B_9
  rw [View.read_writes_eq_canon _ _ _ (cover0_B_9 _ _ _ _ _ _ _ _ _ _ _ _ _ _ _ _ _ _ _ _ _ _ _ _ _ _ _ _ _ _ _ _ _ _ _)]
  unfold kernelRun0_B
  dsimp only
  sl_unfold_words
  simp only [View.readAt_eq_ld, View.ld_unit_zero (S := S256x1024) hz, View.ld_unit_zero (S := S1x1024) hz,
    View.ld_unit_zero (S := S256x1536) hz, View.ld_unit_zero (S := S256x3072) hz, View.ld_unit_zero (S := S256x128) hz, Memref.IsWhole.read_unread]
  rw [View.canon_unit_zero hz]
  rfl

/-- What a point leaves in the input's gradient. -/
theorem o9 (c : Dev nD) (t : Fin cfg0.N) : (outsAt0 m c t.val t.isLt).1 = bDx m c t := by
  by_cases h0 : t.val % 32 = 0
  · exact o9_A m c t h0
  · exact o9_B m c t h0

/-- The first point steps zeros. -/
theorem o10_A (c : Dev nD) (t : Fin cfg0.N) (h0 : t.val % 32 = 0) : (outsAt0 m c t.val t.isLt).2 = gNext m c t k0_pay2 := by
  rw [outsAt0_A m c t h0]
  dsimp only
  unfold out0_A_10
  unfold kernelRun0_A
  dsimp only
  sl_unfold_words
  simp only [View.readAt_eq_ld, View.ld_unit_zero (S := S256x1024) hz, View.ld_unit_zero (S := S1x1024) hz,
    View.ld_unit_zero (S := S256x1536) hz, View.ld_unit_zero (S := S256x3072) hz, View.ld_unit_zero (S := S256x128) hz, Memref.IsWhole.read_unread]
  funext y
  have hy1 : (y 1).val < 1024 := (y 1).isLt
  unfold gNext
  by_cases hy : (y 0).val = 0
  · rw [if_pos hy]
    refine (View.read_writes_cons_unit_of_mem _ _ _ _ _ y (ix2 (n0 := 1) (n1 := 1024) 0 ⟨(y 1).val, hy1⟩) rfl (fun a => by
      fin_cases a
      · exact hy
      · exact (Nat.zero_add _).symm)).trans ?_
    unfold row0
    rw [View.readCov_eq_canon', View.canon_unit_zero hz]
    rfl
  · rw [if_neg hy]
    refine (View.read_writes_cons_unit_of_not_mem _ _ _ _ _ y rfl 0 (.inr (Nat.pos_of_ne_zero hy))).trans ?_
    rw [View.read_writes_eq_canon _ _ _ (fun y => ⟨_, List.mem_singleton_self _, by
      rw [Rect.mem_set_unit]; intro a; have := (y a).isLt; fin_cases a <;> exact ⟨Nat.zero_le _, by simpa using this⟩⟩),
      View.canon_unit_zero hz]

/-- Another point steps what was carried. -/
theorem o10_B (c : Dev nD) (t : Fin cfg0.N) (h0 : ¬t.val % 32 = 0) :
    (outsAt0 m c t.val t.isLt).2 = gNext m c t (outsAt0 m c (t.val - 1) (Nat.lt_of_le_of_lt (Nat.sub_le _ _) t.isLt)).2 := by
  rw [outsAt0_B m c t h0]
  dsimp only
  unfold out0_B_10
  unfold kernelRun0_B
  dsimp only
  sl_unfold_words
  simp only [View.readAt_eq_ld, View.ld_unit_zero (S := S256x1024) hz, View.ld_unit_zero (S := S1x1024) hz,
    View.ld_unit_zero (S := S256x1536) hz, View.ld_unit_zero (S := S256x3072) hz, View.ld_unit_zero (S := S256x128) hz, Memref.IsWhole.read_unread]
  funext y
  have hy1 : (y 1).val < 1024 := (y 1).isLt
  unfold gNext
  by_cases hy : (y 0).val = 0
  · rw [if_pos hy]
    refine (View.read_writes_cons_unit_of_mem _ _ _ _ _ y (ix2 (n0 := 1) (n1 := 1024) 0 ⟨(y 1).val, hy1⟩) rfl (fun a => by
      fin_cases a
      · exact hy
      · exact (Nat.zero_add _).symm)).trans ?_
    rfl
  · rw [if_neg hy]
    refine (View.read_writes_cons_unit_of_not_mem _ _ _ _ _ y rfl 0 (.inr (Nat.pos_of_ne_zero hy))).trans ?_
    rw [View.writes_nil, Memref.IsWhole.read_unread]

end Cert.Kernel7Ideal.In
-- ==== Proof.InMath.lean ====
module

public import Mathlib.Data.EReal.Operations
public import Mathlib.Algebra.BigOperators.Fin
public import Mathlib.Tactic.IntervalCases

/-!
# The weight of the in-projection, gathered in slots of 848 rows

Device `s` holds 836 of the 6688 columns. They stand as rows of a slot of 848, behind `836 * s % 16` rows of zeros.
-/

@[expose] public section

namespace Cert.InMath

variable (W : Fin 1024 → Fin 6688 → EReal)

/-- Column `n` of the weight, zero past the end. -/
noncomputable def wn (k : Fin 1024) (n : ℕ) : EReal := if h : n < 6688 then W k ⟨n, h⟩ else 0

/-- Row `p` of the gathered weight. -/
noncomputable def gat (p : ℕ) (k : Fin 1024) : EReal :=
  if 836 * (p / 848) % 16 ≤ p % 848 ∧ p % 848 < 836 * (p / 848) % 16 + 836
  then wn W k (836 * (p / 848) + p % 848 - 836 * (p / 848) % 16) else 0

/-- A row inside slot `s` that holds a column. -/
theorem gat_eq (p n s : ℕ) (k : Fin 1024) (h0 : 848 * s + 836 * s % 16 ≤ p) (h1 : p < 848 * s + 836 * s % 16 + 836)
    (h2 : p < 848 * s + 848) (hn : n + 848 * s + 836 * s % 16 = p + 836 * s) : gat W p k = wn W k n := by
  have hs : p / 848 = s := by omega
  have hm : p % 848 = p - 848 * s := by omega
  unfold gat
  rw [hs, hm, if_pos (by omega)]
  congr 1
  omega

/-- A row of zeros in front of slot `s`'s columns, or behind them. -/
theorem gat_zero (p s : ℕ) (k : Fin 1024) (h0 : 848 * s ≤ p) (h2 : p < 848 * s + 848)
    (h : p < 848 * s + 836 * s % 16 ∨ 848 * s + 836 * s % 16 + 836 ≤ p) : gat W p k = 0 := by
  have hs : p / 848 = s := by omega
  have hm : p % 848 = p - 848 * s := by omega
  unfold gat
  rw [hs, hm, if_neg (by omega)]

/-- The border of two slots: the two bands of 16 rows are added, and in each row one of the two is zero. -/
theorem gat_border (s r n : ℕ) (k : Fin 1024) (p q : ℕ) (hr : r < 16) (hs : s < 7) (h3 : s ≠ 3)
    (hp : p = 848 * s + 836 * s % 16 + 836 - 836 * (s + 1) % 16) (hq : q = 848 * (s + 1))
    (hn : n + 836 * (s + 1) % 16 = 836 * (s + 1) + r) :
    gat W (p + r) k + gat W (q + r) k = wn W k n := by
  subst hp hq
  have ha : 836 * s % 16 + 4 = 836 * (s + 1) % 16 := by interval_cases s <;> first | decide | exact absurd rfl h3
  by_cases h : r < 836 * (s + 1) % 16
  · rw [gat_zero W (848 * (s + 1) + r) (s + 1) k (by omega) (by omega) (by omega), add_zero]
    exact gat_eq W _ _ s k (by omega) (by omega) (by omega) (by omega)
  · rw [gat_eq W (848 * (s + 1) + r) n (s + 1) k (by omega) (by omega) (by omega) (by omega)]
    rw [gat_zero W _ s k (by omega) (by omega) (by omega), zero_add]

/-- The small columns: the 16 of dt, the 16 of a and b, and zeros. -/
noncomputable def sm (k : Fin 1024) (j : ℕ) : EReal :=
  if j < 16 then wn W k (2560 + j) else if j < 32 then wn W k (6656 + j) else 0

/-- The first 16 small columns. -/
theorem sm_lo (k : Fin 1024) (j : ℕ) (h : j < 16) : sm W k j = wn W k (2560 + j) := if_pos h
/-- The next 16. -/
theorem sm_mid (k : Fin 1024) (j : ℕ) (h : ¬j < 16) (h' : j < 32) : sm W k j = wn W k (6656 + j) := (if_neg h).trans (if_pos h')
/-- The rest is zero. -/
theorem sm_hi (k : Fin 1024) (j : ℕ) (h : 32 ≤ j) : sm W k j = 0 := (if_neg (by omega)).trans (if_neg (by omega))

end Cert.InMath
-- ==== Proof.In8Host.lean ====
module

public import proofs.«01_k».proof.Proof.Gen.Kernel8Ideal.Frame
public import proofs.«01_k».proof.Proof.InMath
public import Idealize.ShloMosaic.Lib.Pointwise
public import Idealize.ShloMosaic.Lib.KernelVsHost

/-!
# The gathered weight of the in-projection

What the host prepares from the weight, entry by entry: the rows of `InMath.gat`.
-/

@[expose] public section

set_option maxRecDepth 100000

namespace Cert.Kernel8Ideal.In

open Cert.Kernel8Ideal Cert.Kernel8Ideal.Gen Cert.InMath
open Idealize.ShloMosaic Idealize.ShloMosaic.TcCoe Idealize.SL.Sem

/-- The weight by row and column. -/
abbrev wmat (x : S1024x6688.Idx → EReal) (k : Fin 1024) (n : Fin 6688) : EReal := x (ix2 k n)

/-- The columns from `a` on, as rows behind 12 rows of zeros, and of those the 848 from `o` on. -/
noncomputable def slot (x : S1024x6688.Idx → EReal) (a o : ℕ) (ha : S6688x1024.Slices ![a, 0] S836x1024) (ho : S860x1024.Slices ![o, 0] S848x1024) :
    S848x1024.Idx → EReal :=
  extractStridedSlice S848x1024 ![o, 0] (pad S860x1024 ![12, 0] ![12, 0] ![0, 0]
    (extractStridedSlice S836x1024 ![a, 0] (truncf (F := Ideal) .bf16 (transpose S6688x1024 [1, 0] x transposes_S1024x6688_S6688x1024_1_0 : FVec Ideal S6688x1024 .f32) bitsLt_bf16_f32) ha)
    (sitofp (F := Ideal) .bf16 (constantI S_ 32 0#32)) pads_S836x1024_S860x1024_12120_000 h_S_) ho

/-- A row of the columns from `a` on. -/
theorem slice_apply (x : S1024x6688.Idx → EReal) (a : ℕ) (ha : S6688x1024.Slices ![a, 0] S836x1024) (hb : a + 836 ≤ 6688) (r : Fin 836) (k : Fin 1024) :
    (extractStridedSlice S836x1024 ![a, 0] (truncf (F := Ideal) .bf16 (transpose S6688x1024 [1, 0] x transposes_S1024x6688_S6688x1024_1_0 : FVec Ideal S6688x1024 .f32) bitsLt_bf16_f32) ha) (ix2 r k)
      = x (ix2 k (⟨a + r.val, by have := r.isLt; omega⟩ : Fin 6688)) := by
  pointwise

/-- A slot, entry by entry. -/
theorem slot_apply (x : S1024x6688.Idx → EReal) (a o : ℕ) (ha : S6688x1024.Slices ![a, 0] S836x1024) (ho : S860x1024.Slices ![o, 0] S848x1024)
    (hb : a + 836 ≤ 6688) (ho2 : o ≤ 12) (r : Fin 848) (k : Fin 1024) :
    slot x a o ha ho (ix2 r k) = if 12 ≤ o + r.val ∧ o + r.val < 848 then wn (wmat x) k (a + (o + r.val) - 12) else 0 := by
  have hr := r.isLt
  have hp : slot x a o ha ho (ix2 r k) = pad S860x1024 ![12, 0] ![12, 0] ![0, 0]
    (extractStridedSlice S836x1024 ![a, 0] (truncf (F := Ideal) .bf16 (transpose S6688x1024 [1, 0] x transposes_S1024x6688_S6688x1024_1_0 : FVec Ideal S6688x1024 .f32) bitsLt_bf16_f32) ha)
    (sitofp (F := Ideal) .bf16 (constantI S_ 32 0#32)) pads_S836x1024_S860x1024_12120_000 h_S_ (ix2 (⟨o + r.val, by omega⟩ : Fin 860) k) := by
    unfold slot
    pointwise
  rw [hp]
  by_cases h : 12 ≤ o + r.val ∧ o + r.val < 848
  · rw [if_pos h]
    rw [pad_apply_of_inside _ _ _ _ _ _ _ _ (ix2 (⟨o + r.val - 12, by omega⟩ : Fin 836) k)
      (by intro b; match b with
        | ⟨0, _⟩ => show o + r.val = 12 + (o + r.val - 12) * (0 + 1); omega
        | ⟨1, _⟩ => show k.val = 0 + k.val * (0 + 1); omega)]
    unfold wn
    rw [dif_pos (by omega)]
    have e := slice_apply x a ha hb (⟨o + r.val - 12, by omega⟩ : Fin 836) k
    rw [e]
    show x _ = x _
    congr 2
    apply Fin.ext
    show a + (o + r.val - 12) = a + (o + r.val) - 12
    omega
  · rw [if_neg h]
    rw [pad_apply_of_not_inside _ _ _ _ _ _ _ _ (0 : Fin 2) (by
      show ¬(12 ≤ o + r.val ∧ (o + r.val - 12) % (0 + 1) = 0 ∧ (o + r.val - 12) / (0 + 1) < 836)
      omega)]
    exact sitofp_zero (φ := .bf16)

/-- The gathered weight: eight slots, one behind the other. -/
noncomputable def gathered (x : S1024x6688.Idx → EReal) : S6784x1024.Idx → EReal :=
  concatenate S6784x1024 0 [⟨S848x1024, slot x 0 12 slices_S6688x1024_S836x1024_0_0 slices_S860x1024_S848x1024_12_0⟩,
    ⟨S848x1024, slot x 836 8 slices_S6688x1024_S836x1024_836_0 slices_S860x1024_S848x1024_8_0⟩,
    ⟨S848x1024, slot x 1672 4 slices_S6688x1024_S836x1024_1672_0 slices_S860x1024_S848x1024_4_0⟩,
    ⟨S848x1024, slot x 2508 0 slices_S6688x1024_S836x1024_2508_0 slices_S860x1024_S848x1024_0_0⟩,
    ⟨S848x1024, slot x 3344 12 slices_S6688x1024_S836x1024_3344_0 slices_S860x1024_S848x1024_12_0⟩,
    ⟨S848x1024, slot x 4180 8 slices_S6688x1024_S836x1024_4180_0 slices_S860x1024_S848x1024_8_0⟩,
    ⟨S848x1024, slot x 5016 4 slices_S6688x1024_S836x1024_5016_0 slices_S860x1024_S848x1024_4_0⟩,
    ⟨S848x1024, slot x 5852 0 slices_S6688x1024_S836x1024_5852_0 slices_S860x1024_S848x1024_0_0⟩]
    concatenates_S848x1024_S848x1024_S848x1024_S848x1024_S848x1024_S848x1024_S848x1024_S848x1024_S6784x1024_d0

/-- A slot's rows are the rows of the gathered weight. -/
theorem slot_gat (x : S1024x6688.Idx → EReal) (s a o : ℕ) (ha : S6688x1024.Slices ![a, 0] S836x1024) (ho : S860x1024.Slices ![o, 0] S848x1024)
    (hs : s < 8) (he : a = 836 * s) (ho2 : o + a % 16 = 12) (r : Fin 848) (k : Fin 1024) (p : ℕ) (hp : p = 848 * s + r.val) :
    slot x a o ha ho (ix2 r k) = gat (wmat x) p k := by
  have hr := r.isLt
  rw [slot_apply x a o ha ho (by omega) (by omega)]
  by_cases h : 12 ≤ o + r.val ∧ o + r.val < 848
  · rw [if_pos h]
    exact (gat_eq (wmat x) p _ s k (by omega) (by omega) (by omega) (by omega)).symm
  · rw [if_neg h]
    exact (gat_zero (wmat x) p s k (by omega) (by omega) (by omega)).symm

/-- The gathered weight, entry by entry. -/
theorem gathered_apply (x : S1024x6688.Idx → EReal) (p : Fin 6784) (k : Fin 1024) : gathered x (ix2 p k) = gat (wmat x) p.val k := by
  have hp := p.isLt
  pointwise [gathered]
  split
  · exact slot_gat x 0 _ _ _ _ (by omega) (by omega) (by omega) _ k _ (by simp)
  split
  · exact slot_gat x 1 _ _ _ _ (by omega) (by omega) (by omega) _ k _ (by simp only []; omega)
  split
  · exact slot_gat x 2 _ _ _ _ (by omega) (by omega) (by omega) _ k _ (by simp only []; omega)
  split
  · exact slot_gat x 3 _ _ _ _ (by omega) (by omega) (by omega) _ k _ (by simp only []; omega)
  split
  · exact slot_gat x 4 _ _ _ _ (by omega) (by omega) (by omega) _ k _ (by simp only []; omega)
  split
  · exact slot_gat x 5 _ _ _ _ (by omega) (by omega) (by omega) _ k _ (by simp only []; omega)
  split
  · exact slot_gat x 6 _ _ _ _ (by omega) (by omega) (by omega) _ k _ (by simp only []; omega)
  exact slot_gat x 7 _ _ _ _ (by omega) (by omega) (by omega) _ k _ (by simp only []; omega)

variable (m : (ℓ : Loc nD τ sig) → Buf (Elt Ideal) ℓ) (c : Dev nD)

/-- The rows of the step's input. -/
abbrev aX : S8192x1024.Idx → EReal := m ((c : Thread nD τ).loc main_arg0)
/-- The norm's weight. -/
abbrev aN : S1024.Idx → EReal := m ((c : Thread nD τ).loc main_arg1)
/-- The in-projection's weight. -/
abbrev aW : S1024x6688.Idx → EReal := m ((c : Thread nD τ).loc main_arg2)

/-- What the host leaves as the gathered weight. -/
theorem V_g : (V m c main_v27 : S6784x1024.Idx → EReal) = gathered (aW m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

/-- What the host leaves as the norm's weight. -/
theorem V_n (r : Fin 1) (k : Fin 1024) : (V m c main_v0 : S1x1024.Idx → EReal) (ix2 r k) = aN m c (ix1 k) := by
  have h : (V m c main_v0 : S1x1024.Idx → EReal) = shapeCast S1x1024 (aN m c) shapeCasts_S1024_S1x1024 := by
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
    after_results
    rfl
  rw [h]
  pointwise

end Cert.Kernel8Ideal.In
-- ==== Proof.In8Cat.lean ====
module

public import proofs.«01_k».proof.Proof.In8Host

/-!
# The columns of the in-projection's weight, put together from the gathered rows

Each group of columns is a row of pieces of the gathered weight; where two slots meet, the two bands of 16 rows are
added. Row `j` of a group is a column of the weight.
-/

@[expose] public section

set_option maxRecDepth 100000

namespace Cert.Kernel8Ideal.In

open Cert.Kernel8Ideal Cert.Kernel8Ideal.Gen Cert.InMath
open Idealize.ShloMosaic Idealize.ShloMosaic.TcCoe Idealize.SL.Sem

variable {W : Fin 1024 → Fin 6688 → EReal}

/-- A piece that holds the gathered weight's rows from `o` on. -/
def Holds (W : Fin 1024 → Fin 6688 → EReal) {n : ℕ} (o : ℕ) (l : (⟨2, ![n, 1024]⟩ : Shape).Idx → EReal) : Prop :=
  ∀ (r : Fin n) (k : Fin 1024), l (ix2 r k) = gat W (o + r.val) k

/-- A piece loaded from the gathered weight. -/
theorem holds_ld (g : FVec Ideal S6784x1024 .bf16) (hg : ∀ (p : Fin 6784) (k : Fin 1024), g (ix2 p k) = gat W p.val k) (n o : ℕ)
    (hb : ∀ a, (![o, 0] : Fin 2 → ℕ) a + (![n, 1024] : Fin 2 → ℕ) a ≤ S6784x1024.size a) :
    Holds W (n := n) o (View.ld (Val := Elt Ideal) (e' := .bf16) g (Rect.unit (s := S6784x1024) ![o, 0] ![n, 1024] hb)) := by
  intro r k
  have h0 := hb 0
  have h0' : o + n ≤ 6784 := h0
  have hr := r.isLt
  refine Eq.trans (congrArg g ?_) (hg (⟨o + r.val, by omega⟩ : Fin 6784) k)
  funext a
  apply Fin.ext
  match a with
  | ⟨0, _⟩ => show o + 1 * r.val = o + r.val; omega
  | ⟨1, _⟩ => show 0 + 1 * k.val = k.val; omega

/-- The pieces of the columns from 0 on. -/
noncomputable def catZ (l0 : FVec Ideal S832x1024 .bf16) (l1 l2 : FVec Ideal S16x1024 .bf16) (l3 : FVec Ideal S176x1024 .bf16) : FVec Ideal S1024x1024 .bf16 :=
  concatenate S1024x1024 0 [⟨S832x1024, (shapeCast S832x1024 l0 shapeCasts_S832x1024_S832x1024 : FVec Ideal S832x1024 .bf16)⟩, ⟨S16x1024, (addf (shapeCast S16x1024 l1 shapeCasts_S16x1024_S16x1024) (shapeCast S16x1024 l2 shapeCasts_S16x1024_S16x1024) : FVec Ideal S16x1024 .bf16)⟩, ⟨S176x1024, (shapeCast S176x1024 l3 shapeCasts_S176x1024_S176x1024 : FVec Ideal S176x1024 .bf16)⟩] concatenates_S832x1024_S16x1024_S176x1024_S1024x1024_d0

/-- Row `j` of them is column `0 + j`. -/
theorem catZ_apply (l0 : FVec Ideal S832x1024 .bf16) (l1 l2 : FVec Ideal S16x1024 .bf16) (l3 : FVec Ideal S176x1024 .bf16) (h0 : Holds W (n := 832) 0 l0) (h1 : Holds W (n := 16) 832 l1) (h2 : Holds W (n := 16) 848 l2) (h3 : Holds W (n := 176) 864 l3) (j : Fin 1024) (k : Fin 1024) :
    catZ l0 l1 l2 l3 (ix2 j k) = wn W k (0 + j.val) := by
  have hj := j.isLt
  pointwise [catZ]
  split
  · rw [h0]
    exact gat_eq W _ _ 0 k (by simp only []; omega) (by simp only []; omega) (by simp only []; omega) (by simp only []; omega)
  split
  · rw [h1, h2]
    exact gat_border W 0 _ _ k _ _ (by simp only []; omega) (by omega) (by omega) (by omega) (by omega) (by simp only []; omega)
  rw [h3]
  exact gat_eq W _ _ 1 k (by simp only []; omega) (by simp only []; omega) (by simp only []; omega) (by simp only []; omega)

/-- The pieces of the columns from 1024 on. -/
noncomputable def catX (l0 : FVec Ideal S640x1024 .bf16) (l1 l2 : FVec Ideal S16x1024 .bf16) (l3 : FVec Ideal S816x1024 .bf16) (l4 l5 : FVec Ideal S16x1024 .bf16) (l6 : FVec Ideal S48x1024 .bf16) : FVec Ideal S1536x1024 .bf16 :=
  concatenate S1536x1024 0 [⟨S640x1024, (shapeCast S640x1024 l0 shapeCasts_S640x1024_S640x1024 : FVec Ideal S640x1024 .bf16)⟩, ⟨S16x1024, (addf (shapeCast S16x1024 l1 shapeCasts_S16x1024_S16x1024) (shapeCast S16x1024 l2 shapeCasts_S16x1024_S16x1024) : FVec Ideal S16x1024 .bf16)⟩, ⟨S816x1024, (shapeCast S816x1024 l3 shapeCasts_S816x1024_S816x1024 : FVec Ideal S816x1024 .bf16)⟩, ⟨S16x1024, (addf (shapeCast S16x1024 l4 shapeCasts_S16x1024_S16x1024) (shapeCast S16x1024 l5 shapeCasts_S16x1024_S16x1024) : FVec Ideal S16x1024 .bf16)⟩, ⟨S48x1024, (shapeCast S48x1024 l6 shapeCasts_S48x1024_S48x1024 : FVec Ideal S48x1024 .bf16)⟩] concatenates_S640x1024_S16x1024_S816x1024_S16x1024_S48x1024_S1536x1024_d0

/-- Row `j` of them is column `1024 + j`. -/
theorem catX_apply (l0 : FVec Ideal S640x1024 .bf16) (l1 l2 : FVec Ideal S16x1024 .bf16) (l3 : FVec Ideal S816x1024 .bf16) (l4 l5 : FVec Ideal S16x1024 .bf16) (l6 : FVec Ideal S48x1024 .bf16) (h0 : Holds W (n := 640) 1040 l0) (h1 : Holds W (n := 16) 1680 l1) (h2 : Holds W (n := 16) 1696 l2) (h3 : Holds W (n := 816) 1712 l3) (h4 : Holds W (n := 16) 2528 l4) (h5 : Holds W (n := 16) 2544 l5) (h6 : Holds W (n := 48) 2560 l6) (j : Fin 1536) (k : Fin 1024) :
    catX l0 l1 l2 l3 l4 l5 l6 (ix2 j k) = wn W k (1024 + j.val) := by
  have hj := j.isLt
  pointwise [catX]
  split
  · rw [h0]
    exact gat_eq W _ _ 1 k (by simp only []; omega) (by simp only []; omega) (by simp only []; omega) (by simp only []; omega)
  split
  · rw [h1, h2]
    exact gat_border W 1 _ _ k _ _ (by simp only []; omega) (by omega) (by omega) (by omega) (by omega) (by simp only []; omega)
  split
  · rw [h3]
    exact gat_eq W _ _ 2 k (by simp only []; omega) (by simp only []; omega) (by simp only []; omega) (by simp only []; omega)
  split
  · rw [h4, h5]
    exact gat_border W 2 _ _ k _ _ (by simp only []; omega) (by omega) (by omega) (by omega) (by omega) (by simp only []; omega)
  rw [h6]
  exact gat_eq W _ _ 3 k (by simp only []; omega) (by simp only []; omega) (by simp only []; omega) (by simp only []; omega)

/-- The pieces of the columns from 2576 on. -/
noncomputable def catG (l0 : FVec Ideal S768x1024 .bf16) (l1 : FVec Ideal S256x1024 .bf16) : FVec Ideal S1024x1024 .bf16 :=
  concatenate S1024x1024 0 [⟨S768x1024, (shapeCast S768x1024 l0 shapeCasts_S768x1024_S768x1024 : FVec Ideal S768x1024 .bf16)⟩, ⟨S256x1024, (shapeCast S256x1024 l1 shapeCasts_S256x1024_S256x1024 : FVec Ideal S256x1024 .bf16)⟩] concatenates_S768x1024_S256x1024_S1024x1024_d0

/-- Row `j` of them is column `2576 + j`. -/
theorem catG_apply (l0 : FVec Ideal S768x1024 .bf16) (l1 : FVec Ideal S256x1024 .bf16) (h0 : Holds W (n := 768) 2624 l0) (h1 : Holds W (n := 256) 3392 l1) (j : Fin 1024) (k : Fin 1024) :
    catG l0 l1 (ix2 j k) = wn W k (2576 + j.val) := by
  have hj := j.isLt
  pointwise [catG]
  split
  · rw [h0]
    exact gat_eq W _ _ 3 k (by simp only []; omega) (by simp only []; omega) (by simp only []; omega) (by simp only []; omega)
  rw [h1]
  exact gat_eq W _ _ 4 k (by simp only []; omega) (by simp only []; omega) (by simp only []; omega) (by simp only []; omega)

/-- The pieces of the columns from 3600 on. -/
noncomputable def catQ (l0 : FVec Ideal S576x1024 .bf16) (l1 l2 : FVec Ideal S16x1024 .bf16) (l3 : FVec Ideal S816x1024 .bf16) (l4 l5 : FVec Ideal S16x1024 .bf16) (l6 : FVec Ideal S816x1024 .bf16) (l7 l8 : FVec Ideal S16x1024 .bf16) (l9 : FVec Ideal S816x1024 .bf16) : FVec Ideal S3072x1024 .bf16 :=
  concatenate S3072x1024 0 [⟨S576x1024, (shapeCast S576x1024 l0 shapeCasts_S576x1024_S576x1024 : FVec Ideal S576x1024 .bf16)⟩, ⟨S16x1024, (addf (shapeCast S16x1024 l1 shapeCasts_S16x1024_S16x1024) (shapeCast S16x1024 l2 shapeCasts_S16x1024_S16x1024) : FVec Ideal S16x1024 .bf16)⟩, ⟨S816x1024, (shapeCast S816x1024 l3 shapeCasts_S816x1024_S816x1024 : FVec Ideal S816x1024 .bf16)⟩, ⟨S16x1024, (addf (shapeCast S16x1024 l4 shapeCasts_S16x1024_S16x1024) (shapeCast S16x1024 l5 shapeCasts_S16x1024_S16x1024) : FVec Ideal S16x1024 .bf16)⟩, ⟨S816x1024, (shapeCast S816x1024 l6 shapeCasts_S816x1024_S816x1024 : FVec Ideal S816x1024 .bf16)⟩, ⟨S16x1024, (addf (shapeCast S16x1024 l7 shapeCasts_S16x1024_S16x1024) (shapeCast S16x1024 l8 shapeCasts_S16x1024_S16x1024) : FVec Ideal S16x1024 .bf16)⟩, ⟨S816x1024, (shapeCast S816x1024 l9 shapeCasts_S816x1024_S816x1024 : FVec Ideal S816x1024 .bf16)⟩] concatenates_S576x1024_S16x1024_S816x1024_S16x1024_S816x1024_S16x1024_S816x1024_S3072x1024_d0

/-- Row `j` of them is column `3600 + j`. -/
theorem catQ_apply (l0 : FVec Ideal S576x1024 .bf16) (l1 l2 : FVec Ideal S16x1024 .bf16) (l3 : FVec Ideal S816x1024 .bf16) (l4 l5 : FVec Ideal S16x1024 .bf16) (l6 : FVec Ideal S816x1024 .bf16) (l7 l8 : FVec Ideal S16x1024 .bf16) (l9 : FVec Ideal S816x1024 .bf16) (h0 : Holds W (n := 576) 3648 l0) (h1 : Holds W (n := 16) 4224 l1) (h2 : Holds W (n := 16) 4240 l2) (h3 : Holds W (n := 816) 4256 l3) (h4 : Holds W (n := 16) 5072 l4) (h5 : Holds W (n := 16) 5088 l5) (h6 : Holds W (n := 816) 5104 l6) (h7 : Holds W (n := 16) 5920 l7) (h8 : Holds W (n := 16) 5936 l8) (h9 : Holds W (n := 816) 5952 l9) (j : Fin 3072) (k : Fin 1024) :
    catQ l0 l1 l2 l3 l4 l5 l6 l7 l8 l9 (ix2 j k) = wn W k (3600 + j.val) := by
  have hj := j.isLt
  pointwise [catQ]
  split
  · rw [h0]
    exact gat_eq W _ _ 4 k (by simp only []; omega) (by simp only []; omega) (by simp only []; omega) (by simp only []; omega)
  split
  · rw [h1, h2]
    exact gat_border W 4 _ _ k _ _ (by simp only []; omega) (by omega) (by omega) (by omega) (by omega) (by simp only []; omega)
  split
  · rw [h3]
    exact gat_eq W _ _ 5 k (by simp only []; omega) (by simp only []; omega) (by simp only []; omega) (by simp only []; omega)
  split
  · rw [h4, h5]
    exact gat_border W 5 _ _ k _ _ (by simp only []; omega) (by omega) (by omega) (by omega) (by omega) (by simp only []; omega)
  split
  · rw [h6]
    exact gat_eq W _ _ 6 k (by simp only []; omega) (by simp only []; omega) (by simp only []; omega) (by simp only []; omega)
  split
  · rw [h7, h8]
    exact gat_border W 6 _ _ k _ _ (by simp only []; omega) (by omega) (by omega) (by omega) (by omega) (by simp only []; omega)
  rw [h9]
  exact gat_eq W _ _ 7 k (by simp only []; omega) (by simp only []; omega) (by simp only []; omega) (by simp only []; omega)

/-- The pieces of the small columns. -/
noncomputable def catS (l0 l1 : FVec Ideal S16x1024 .bf16) : FVec Ideal S128x1024 .bf16 :=
  concatenate S128x1024 0 [⟨S16x1024, (shapeCast S16x1024 l0 shapeCasts_S16x1024_S16x1024 : FVec Ideal S16x1024 .bf16)⟩, ⟨S16x1024, (shapeCast S16x1024 l1 shapeCasts_S16x1024_S16x1024 : FVec Ideal S16x1024 .bf16)⟩, ⟨S96x1024, (broadcast S96x1024 (Scalar.ofBits (F := Ideal) .bf16 0x0000#16) : FVec Ideal S96x1024 .bf16)⟩] concatenates_S16x1024_S16x1024_S96x1024_S128x1024_d0

/-- Their rows. -/
theorem catS_apply (l0 l1 : FVec Ideal S16x1024 .bf16) (h0 : Holds W (n := 16) 2608 l0) (h1 : Holds W (n := 16) 6768 l1) (j : Fin 128) (k : Fin 1024) :
    catS l0 l1 (ix2 j k) = sm W k j.val := by
  have hj := j.isLt
  pointwise [catS]
  split
  · rename_i h
    exact (h0 _ k).trans ((gat_eq W _ _ 3 k (by simp only []; omega) (by simp only []; omega) (by simp only []; omega) (by simp only []; omega)).trans (sm_lo W k _ h).symm)
  · rename_i h
    split
    · rename_i h'
      exact (h1 _ k).trans ((gat_eq W _ _ 7 k (by simp only []; omega) (by simp only []; omega) (by simp only []; omega) (by simp only []; omega)).trans (sm_mid W k _ h (by omega)).symm)
    · exact (sm_hi W k _ (by omega)).symm

end Cert.Kernel8Ideal.In
-- ==== Proof.DxVal.lean ====
module

public import proofs.«01_k».proof.Proof.DxStep
public import proofs.«01_k».proof.Proof.In8Cat
public import proofs.«01_k».proof.Proof.OutMath
public import proofs.«01_k».proof.Proof.OutModel
public import proofs.«01_k».proof.Proof.GwMath

/-!
# The input gradient of the in-projection: what the two outputs hold at the end

A band of 256 rows is written by each point. The gradient of the norm's weight is carried over all 32 points.
-/

@[expose] public section

set_option maxRecDepth 100000

namespace Cert.Kernel7Ideal.In

open Cert.Kernel7Ideal Cert.Kernel7Ideal.Gen Cert.Kernel7Ideal.Value Cert.InMath Cert.OutMath Cert.GwMath
open Cert.Kernel8Ideal.In (wmat gathered gathered_apply Holds holds_ld catZ catX catG catQ catS catZ_apply catX_apply catG_apply catQ_apply catS_apply)
open Idealize.ShloMosaic Idealize.ShloMosaic.TcCoe Idealize.SL.Sem

/-- The gradient of the normalised rows: the five groups of gradients times their columns of the weight. -/
noncomputable def DU (W : Fin 1024 → Fin 6688 → EReal) (z : S8192x1024.Idx → EReal) (x : S8192x1536.Idx → EReal) (g : S8192x1024.Idx → EReal)
    (q : S8192x3072.Idx → EReal) (s : S8192x128.Idx → EReal) (r : Fin 8192) (k : Fin 1024) : EReal :=
  ∑ j : Fin 1024, z (ix2 r j) * wn W k (0 + j.val) + ∑ j : Fin 1536, x (ix2 r j) * wn W k (1024 + j.val) + ∑ j : Fin 1024, g (ix2 r j) * wn W k (2576 + j.val)
    + ∑ j : Fin 3072, q (ix2 r j) * wn W k (3600 + j.val) + ∑ j : Fin 128, s (ix2 r j) * sm W k j.val

/-! ## The arithmetic of a point -/

/-- A band's product with 1024 columns. -/
theorem mmA (u : FVec Ideal S256x1024 .bf16) (w : FVec Ideal S1024x1024 .bf16) (r : Fin 256) (k : Fin 1024) :
    (matmul dot_S256x1024_S1024x1024_S256x1024_1_0_0_1_n_n none u w (constant S256x1024 .f32 0x00000000#32) : FVec Ideal S256x1024 .f32) (ix2 r k) = ∑ j, u (ix2 r j) * w (ix2 j k) := by
  pointwise

/-- A band's product with 1536 columns. -/
theorem mmX (u : FVec Ideal S256x1536 .bf16) (w : FVec Ideal S1536x1024 .bf16) (r : Fin 256) (k : Fin 1024) :
    (matmul dot_S256x1536_S1536x1024_S256x1024_1_0_0_1_n_n none u w (constant S256x1024 .f32 0x00000000#32) : FVec Ideal S256x1024 .f32) (ix2 r k) = ∑ j, u (ix2 r j) * w (ix2 j k) := by
  pointwise

/-- A band's product with 3072 columns. -/
theorem mmQ (u : FVec Ideal S256x3072 .bf16) (w : FVec Ideal S3072x1024 .bf16) (r : Fin 256) (k : Fin 1024) :
    (matmul dot_S256x3072_S3072x1024_S256x1024_1_0_0_1_n_n none u w (constant S256x1024 .f32 0x00000000#32) : FVec Ideal S256x1024 .f32) (ix2 r k) = ∑ j, u (ix2 r j) * w (ix2 j k) := by
  pointwise

/-- A band's product with 128 columns. -/
theorem mmS (u : FVec Ideal S256x128 .bf16) (w : FVec Ideal S128x1024 .bf16) (r : Fin 256) (k : Fin 1024) :
    (matmul dot_S256x128_S128x1024_S256x1024_1_0_0_1_n_n none u w (constant S256x1024 .f32 0x00000000#32) : FVec Ideal S256x1024 .f32) (ix2 r k) = ∑ j, u (ix2 r j) * w (ix2 j k) := by
  pointwise

/-- The reciprocal root mean square of a row of a band. -/
theorem pay18_apply (x : Vec Ideal S256x1024 .f32) (r : Fin 256) (k : Fin 1) : k0_pay18 x (ix2 r k) = rs epsR (fun j => x (ix2 r j)) := by
  pointwise [k0_pay18]
  rw [word_1024, word_eps]
  rfl

/-- A normalised row of a band. -/
theorem pay19_apply (x : Vec Ideal S256x1024 .f32) (r : Fin 256) (k : Fin 1024) : k0_pay19 x (ix2 r k) = yh epsR (fun j => x (ix2 r j)) k := by
  pointwise [k0_pay19]
  rw [pay18_apply]
  rfl

/-- The gradient of a band's rows. -/
theorem pay1_apply (du : FVec Ideal S256x1024 .f32) (v : FVec Ideal S256x1 .f32) (y : FVec Ideal S256x1024 .f32) (w : Vec Ideal S1x1024 .f32) (d : Vec Ideal S256x1024 .f32)
    (r : Fin 256) (k : Fin 1024) : k0_pay1 du v y w d (ix2 r k)
      = d (ix2 r k) + v (ix2 r 0) * (du (ix2 r k) * w (ix2 0 k) - y (ix2 r k) * Ideal.div (∑ j : Fin 1024, du (ix2 r j) * w (ix2 0 j) * y (ix2 r j)) ((1024 : ℝ) : EReal)) := by
  pointwise [k0_pay1]
  rw [word_1024]

/-- A stepped row. -/
theorem gRow_apply (du y : FVec Ideal S256x1024 .f32) (acc : Vec Ideal S1x1024 .f32) (k : Fin 1024) :
    gRow du y acc (ix2 0 k) = acc (ix2 0 k) + ∑ r : Fin 256, du (ix2 r k) * y (ix2 r k) := by
  pointwise [gRow]

/-- The zeros at the start. -/
theorem pay2_apply (r : Fin 8) (k : Fin 1024) : (k0_pay2 : FVec Ideal S8x1024 .f32) (ix2 r k) = 0 := by
  pointwise [k0_pay2]

variable (m : (ℓ : Loc nD τ sig) → Buf (Elt Ideal) ℓ) (c : Dev nD)

/-- The input's rows. -/
abbrev aX : S8192x1024.Idx → EReal := m ((c : Thread nD τ).loc main_arg0)
/-- The gradient that skips the layer. -/
abbrev aO : S8192x1024.Idx → EReal := m ((c : Thread nD τ).loc main_arg1)
/-- The norm's weight. -/
abbrev aN : S1024.Idx → EReal := m ((c : Thread nD τ).loc main_arg2)
/-- The in-projection's weight. -/
abbrev aW : S1024x6688.Idx → EReal := m ((c : Thread nD τ).loc main_arg3)
/-- The gradient of the group z. -/
abbrev aDz : S8192x1024.Idx → EReal := m ((c : Thread nD τ).loc main_arg4)
/-- The gradient of the group xbc. -/
abbrev aDx : S8192x1536.Idx → EReal := m ((c : Thread nD τ).loc main_arg5)
/-- The gradient of the group gate. -/
abbrev aDg : S8192x1024.Idx → EReal := m ((c : Thread nD τ).loc main_arg6)
/-- The gradient of the group qkv. -/
abbrev aDq : S8192x3072.Idx → EReal := m ((c : Thread nD τ).loc main_arg7)
/-- The gradient of the small group. -/
abbrev aDs : S8192x128.Idx → EReal := m ((c : Thread nD τ).loc main_arg8)

/-- What the host leaves as the gathered weight. -/
theorem V_g : (V m c main_v27 : S6784x1024.Idx → EReal) = gathered (aW m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

/-- What the host leaves as the norm's weight. -/
theorem V_n (r : Fin 1) (k : Fin 1024) : (V m c main_v0 : S1x1024.Idx → EReal) (ix2 r k) = aN m c (ix1 k) := by
  have h : (V m c main_v0 : S1x1024.Idx → EReal) = shapeCast S1x1024 (aN m c) shapeCasts_S1024_S1x1024 := by
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
    after_results
    rfl
  rw [h]
  pointwise

/-- The grid has 32 points. -/
theorem tlt (t : Fin cfg0.N) : t.val < 32 := lt_of_lt_of_eq t.isLt N_0

/-- Row `r` of the band of point `t`. -/
def rowOf (t : Fin cfg0.N) (r : Fin 256) : Fin 8192 := ⟨256 * t.val + r.val, by have := tlt t; have := r.isLt; omega⟩

/-- Window 0's block at point `t` is band `t`. -/
theorem idx0 : ∀ t : Fin cfg0.N, win0_0.index t (0 : Fin 2) = t.val ∧ win0_0.index t (1 : Fin 2) = 0 := by decide +kernel

/-- Its block, entry by entry. -/
theorem blk0 (t : Fin cfg0.N) (r : Fin 256) (k : Fin 1024) :
    (iblk m c 0 t : Vec Ideal S256x1024 .f32) (ix2 r k) = aX m c (ix2 (rowOf t r) k) := by
  have hi := idx0 t
  unfold iblk
  rw [View.read_apply]
  show V m c main_arg0 _ = _
  rw [V_main_arg0]
  show aX m c _ = aX m c _
  congr 1
  funext a
  apply Fin.ext
  match a with
  | ⟨0, _⟩ => show win0_0.index t 0 * 256 + 1 * r.val = 256 * t.val + r.val; rw [hi.1]; omega
  | ⟨1, _⟩ => show win0_0.index t 1 * 1024 + 1 * k.val = k.val; rw [hi.2]; omega

/-- Window 1's block at point `t` is band `t`. -/
theorem idx1 : ∀ t : Fin cfg0.N, win0_1.index t (0 : Fin 2) = t.val ∧ win0_1.index t (1 : Fin 2) = 0 := by decide +kernel

/-- Its block, entry by entry. -/
theorem blk1 (t : Fin cfg0.N) (r : Fin 256) (k : Fin 1024) :
    (iblk m c 1 t : Vec Ideal S256x1024 .f32) (ix2 r k) = aO m c (ix2 (rowOf t r) k) := by
  have hi := idx1 t
  unfold iblk
  rw [View.read_apply]
  show V m c main_arg1 _ = _
  rw [V_main_arg1]
  show aO m c _ = aO m c _
  congr 1
  funext a
  apply Fin.ext
  match a with
  | ⟨0, _⟩ => show win0_1.index t 0 * 256 + 1 * r.val = 256 * t.val + r.val; rw [hi.1]; omega
  | ⟨1, _⟩ => show win0_1.index t 1 * 1024 + 1 * k.val = k.val; rw [hi.2]; omega

/-- Window 4's block at point `t` is band `t`. -/
theorem idx4 : ∀ t : Fin cfg0.N, win0_4.index t (0 : Fin 2) = t.val ∧ win0_4.index t (1 : Fin 2) = 0 := by decide +kernel

/-- Its block, entry by entry. -/
theorem blk4 (t : Fin cfg0.N) (r : Fin 256) (k : Fin 1024) :
    (iblk m c 4 t : Vec Ideal S256x1024 .f32) (ix2 r k) = aDz m c (ix2 (rowOf t r) k) := by
  have hi := idx4 t
  unfold iblk
  rw [View.read_apply]
  show V m c main_arg4 _ = _
  rw [V_main_arg4]
  show aDz m c _ = aDz m c _
  congr 1
  funext a
  apply Fin.ext
  match a with
  | ⟨0, _⟩ => show win0_4.index t 0 * 256 + 1 * r.val = 256 * t.val + r.val; rw [hi.1]; omega
  | ⟨1, _⟩ => show win0_4.index t 1 * 1024 + 1 * k.val = k.val; rw [hi.2]; omega

/-- Window 5's block at point `t` is band `t`. -/
theorem idx5 : ∀ t : Fin cfg0.N, win0_5.index t (0 : Fin 2) = t.val ∧ win0_5.index t (1 : Fin 2) = 0 := by decide +kernel

/-- Its block, entry by entry. -/
theorem blk5 (t : Fin cfg0.N) (r : Fin 256) (k : Fin 1536) :
    (iblk m c 5 t : Vec Ideal S256x1536 .f32) (ix2 r k) = aDx m c (ix2 (rowOf t r) k) := by
  have hi := idx5 t
  unfold iblk
  rw [View.read_apply]
  show V m c main_arg5 _ = _
  rw [V_main_arg5]
  show aDx m c _ = aDx m c _
  congr 1
  funext a
  apply Fin.ext
  match a with
  | ⟨0, _⟩ => show win0_5.index t 0 * 256 + 1 * r.val = 256 * t.val + r.val; rw [hi.1]; omega
  | ⟨1, _⟩ => show win0_5.index t 1 * 1536 + 1 * k.val = k.val; rw [hi.2]; omega

/-- Window 6's block at point `t` is band `t`. -/
theorem idx6 : ∀ t : Fin cfg0.N, win0_6.index t (0 : Fin 2) = t.val ∧ win0_6.index t (1 : Fin 2) = 0 := by decide +kernel

/-- Its block, entry by entry. -/
theorem blk6 (t : Fin cfg0.N) (r : Fin 256) (k : Fin 1024) :
    (iblk m c 6 t : Vec Ideal S256x1024 .f32) (ix2 r k) = aDg m c (ix2 (rowOf t r) k) := by
  have hi := idx6 t
  unfold iblk
  rw [View.read_apply]
  show V m c main_arg6 _ = _
  rw [V_main_arg6]
  show aDg m c _ = aDg m c _
  congr 1
  funext a
  apply Fin.ext
  match a with
  | ⟨0, _⟩ => show win0_6.index t 0 * 256 + 1 * r.val = 256 * t.val + r.val; rw [hi.1]; omega
  | ⟨1, _⟩ => show win0_6.index t 1 * 1024 + 1 * k.val = k.val; rw [hi.2]; omega

/-- Window 7's block at point `t` is band `t`. -/
theorem idx7 : ∀ t : Fin cfg0.N, win0_7.index t (0 : Fin 2) = t.val ∧ win0_7.index t (1 : Fin 2) = 0 := by decide +kernel

/-- Its block, entry by entry. -/
theorem blk7 (t : Fin cfg0.N) (r : Fin 256) (k : Fin 3072) :
    (iblk m c 7 t : Vec Ideal S256x3072 .f32) (ix2 r k) = aDq m c (ix2 (rowOf t r) k) := by
  have hi := idx7 t
  unfold iblk
  rw [View.read_apply]
  show V m c main_arg7 _ = _
  rw [V_main_arg7]
  show aDq m c _ = aDq m c _
  congr 1
  funext a
  apply Fin.ext
  match a with
  | ⟨0, _⟩ => show win0_7.index t 0 * 256 + 1 * r.val = 256 * t.val + r.val; rw [hi.1]; omega
  | ⟨1, _⟩ => show win0_7.index t 1 * 3072 + 1 * k.val = k.val; rw [hi.2]; omega

/-- Window 8's block at point `t` is band `t`. -/
theorem idx8 : ∀ t : Fin cfg0.N, win0_8.index t (0 : Fin 2) = t.val ∧ win0_8.index t (1 : Fin 2) = 0 := by decide +kernel

/-- Its block, entry by entry. -/
theorem blk8 (t : Fin cfg0.N) (r : Fin 256) (k : Fin 128) :
    (iblk m c 8 t : Vec Ideal S256x128 .f32) (ix2 r k) = aDs m c (ix2 (rowOf t r) k) := by
  have hi := idx8 t
  unfold iblk
  rw [View.read_apply]
  show V m c main_arg8 _ = _
  rw [V_main_arg8]
  show aDs m c _ = aDs m c _
  congr 1
  funext a
  apply Fin.ext
  match a with
  | ⟨0, _⟩ => show win0_8.index t 0 * 256 + 1 * r.val = 256 * t.val + r.val; rw [hi.1]; omega
  | ⟨1, _⟩ => show win0_8.index t 1 * 128 + 1 * k.val = k.val; rw [hi.2]; omega

/-- The norm's weight is one block. -/
theorem idx2 : ∀ t : Fin cfg0.N, win0_2.index t (0 : Fin 2) = 0 ∧ win0_2.index t (1 : Fin 2) = 0 := by decide +kernel
/-- The gathered weight is one block. -/
theorem idx3 : ∀ t : Fin cfg0.N, win0_3.index t (0 : Fin 2) = 0 ∧ win0_3.index t (1 : Fin 2) = 0 := by decide +kernel

/-- The norm's weight, entry by entry. -/
theorem blk2 (t : Fin cfg0.N) (r : Fin 1) (k : Fin 1024) : (iblk m c 2 t : Vec Ideal S1x1024 .f32) (ix2 r k) = aN m c (ix1 k) := by
  have hi := idx2 t
  have hr := r.isLt
  rw [← V_n m c r]
  unfold iblk
  rw [View.read_apply]
  show V m c main_v0 _ = V m c main_v0 _
  congr 1
  funext a
  apply Fin.ext
  match a with
  | ⟨0, _⟩ => show win0_2.index t 0 * 1 + 1 * r.val = r.val; rw [hi.1]; omega
  | ⟨1, _⟩ => show win0_2.index t 1 * 1024 + 1 * k.val = k.val; rw [hi.2]; omega

/-- The gathered weight, entry by entry. -/
theorem blk3 (t : Fin cfg0.N) (p : Fin 6784) (k : Fin 1024) :
    (iblk m c 3 t : Vec Ideal S6784x1024 .bf16) (ix2 p k) = gat (wmat (aW m c)) p.val k := by
  have hi := idx3 t
  rw [← gathered_apply, ← V_g]
  unfold iblk
  rw [View.read_apply]
  show V m c main_v27 _ = V m c main_v27 _
  congr 1
  funext a
  apply Fin.ext
  match a with
  | ⟨0, _⟩ => show win0_3.index t 0 * 6784 + 1 * p.val = p.val; rw [hi.1]; omega
  | ⟨1, _⟩ => show win0_3.index t 1 * 1024 + 1 * k.val = k.val; rw [hi.2]; omega

/-- A loaded piece of it. -/
theorem wl_holds (t : Fin cfg0.N) (o n : ℕ) (hb) : Holds (wmat (aW m c)) (n := n) o (wl m c t o n hb) :=
  holds_ld (iblk m c 3 t) (blk3 m c t) n o hb

/-- The gradient of the normalised rows of the whole step. -/
noncomputable abbrev dU (r : Fin 8192) (k : Fin 1024) : EReal := DU (wmat (aW m c)) (aDz m c) (aDx m c) (aDg m c) (aDq m c) (aDs m c) r k
/-- A row of the input. -/
noncomputable abbrev xRow (r : Fin 8192) (k : Fin 1024) : EReal := aX m c (ix2 r k)

/-- The point's gradient of the normalised rows as five products. -/
theorem bDu_cat (t : Fin cfg0.N) : bDu m c t = addf (addf (addf (addf
    (matmul dot_S256x1024_S1024x1024_S256x1024_1_0_0_1_n_n none (truncf .bf16 (iblk m c 4 t : Vec Ideal S256x1024 .f32) bitsLt_bf16_f32) (catZ (wl m c t 0 832 inb_S6784x1024_S832x1024_0_0) (wl m c t 832 16 inb_S6784x1024_S16x1024_832_0) (wl m c t 848 16 inb_S6784x1024_S16x1024_848_0) (wl m c t 864 176 inb_S6784x1024_S176x1024_864_0)) (constant S256x1024 .f32 0x00000000#32))
    (matmul dot_S256x1536_S1536x1024_S256x1024_1_0_0_1_n_n none (truncf .bf16 (iblk m c 5 t : Vec Ideal S256x1536 .f32) bitsLt_bf16_f32) (catX (wl m c t 1040 640 inb_S6784x1024_S640x1024_1040_0) (wl m c t 1680 16 inb_S6784x1024_S16x1024_1680_0) (wl m c t 1696 16 inb_S6784x1024_S16x1024_1696_0) (wl m c t 1712 816 inb_S6784x1024_S816x1024_1712_0) (wl m c t 2528 16 inb_S6784x1024_S16x1024_2528_0) (wl m c t 2544 16 inb_S6784x1024_S16x1024_2544_0) (wl m c t 2560 48 inb_S6784x1024_S48x1024_2560_0)) (constant S256x1024 .f32 0x00000000#32)))
    (matmul dot_S256x1024_S1024x1024_S256x1024_1_0_0_1_n_n none (truncf .bf16 (iblk m c 6 t : Vec Ideal S256x1024 .f32) bitsLt_bf16_f32) (catG (wl m c t 2624 768 inb_S6784x1024_S768x1024_2624_0) (wl m c t 3392 256 inb_S6784x1024_S256x1024_3392_0)) (constant S256x1024 .f32 0x00000000#32)))
    (matmul dot_S256x3072_S3072x1024_S256x1024_1_0_0_1_n_n none (truncf .bf16 (iblk m c 7 t : Vec Ideal S256x3072 .f32) bitsLt_bf16_f32) (catQ (wl m c t 3648 576 inb_S6784x1024_S576x1024_3648_0) (wl m c t 4224 16 inb_S6784x1024_S16x1024_4224_0) (wl m c t 4240 16 inb_S6784x1024_S16x1024_4240_0) (wl m c t 4256 816 inb_S6784x1024_S816x1024_4256_0) (wl m c t 5072 16 inb_S6784x1024_S16x1024_5072_0) (wl m c t 5088 16 inb_S6784x1024_S16x1024_5088_0) (wl m c t 5104 816 inb_S6784x1024_S816x1024_5104_0) (wl m c t 5920 16 inb_S6784x1024_S16x1024_5920_0) (wl m c t 5936 16 inb_S6784x1024_S16x1024_5936_0) (wl m c t 5952 816 inb_S6784x1024_S816x1024_5952_0)) (constant S256x1024 .f32 0x00000000#32)))
    (matmul dot_S256x128_S128x1024_S256x1024_1_0_0_1_n_n none (truncf .bf16 (iblk m c 8 t : Vec Ideal S256x128 .f32) bitsLt_bf16_f32) (catS (wl m c t 2608 16 inb_S6784x1024_S16x1024_2608_0) (wl m c t 6768 16 inb_S6784x1024_S16x1024_6768_0)) (constant S256x1024 .f32 0x00000000#32)) := rfl

/-- Cutting to bf16 changes nothing over the extended reals. -/
theorem trunc_apply {s : Shape} (x : FVec Ideal s .f32) (i : s.Idx) : (truncf .bf16 x bitsLt_bf16_f32 : FVec Ideal s .bf16) i = x i := rfl

/-- The point's gradient of the normalised rows is the band of the whole step's. -/
theorem bDu_apply (t : Fin cfg0.N) (r : Fin 256) (k : Fin 1024) : bDu m c t (ix2 r k) = dU m c (rowOf t r) k := by
  rw [bDu_cat]
  unfold dU DU
  refine congrArg₂ (· + ·) (congrArg₂ (· + ·) (congrArg₂ (· + ·) (congrArg₂ (· + ·) ?_ ?_) ?_) ?_) ?_
  · refine (mmA _ _ r k).trans (Finset.sum_congr rfl fun j _ => ?_)
    rw [trunc_apply, blk4, catZ_apply (W := wmat (aW m c)) _ _ _ _ (wl_holds m c t 0 832 _) (wl_holds m c t 832 16 _) (wl_holds m c t 848 16 _) (wl_holds m c t 864 176 _)]
  · refine (mmX _ _ r k).trans (Finset.sum_congr rfl fun j _ => ?_)
    rw [trunc_apply, blk5, catX_apply (W := wmat (aW m c)) _ _ _ _ _ _ _ (wl_holds m c t 1040 640 _) (wl_holds m c t 1680 16 _) (wl_holds m c t 1696 16 _) (wl_holds m c t 1712 816 _) (wl_holds m c t 2528 16 _) (wl_holds m c t 2544 16 _) (wl_holds m c t 2560 48 _)]
  · refine (mmA _ _ r k).trans (Finset.sum_congr rfl fun j _ => ?_)
    rw [trunc_apply, blk6, catG_apply (W := wmat (aW m c)) _ _ (wl_holds m c t 2624 768 _) (wl_holds m c t 3392 256 _)]
  · refine (mmQ _ _ r k).trans (Finset.sum_congr rfl fun j _ => ?_)
    rw [trunc_apply, blk7, catQ_apply (W := wmat (aW m c)) _ _ _ _ _ _ _ _ _ _ (wl_holds m c t 3648 576 _) (wl_holds m c t 4224 16 _) (wl_holds m c t 4240 16 _) (wl_holds m c t 4256 816 _) (wl_holds m c t 5072 16 _) (wl_holds m c t 5088 16 _) (wl_holds m c t 5104 816 _) (wl_holds m c t 5920 16 _) (wl_holds m c t 5936 16 _) (wl_holds m c t 5952 816 _)]
  · refine (mmS _ _ r k).trans (Finset.sum_congr rfl fun j _ => ?_)
    rw [trunc_apply, blk8, catS_apply (W := wmat (aW m c)) _ _ (wl_holds m c t 2608 16 _) (wl_holds m c t 6768 16 _)]

/-- The point's normalised rows. -/
theorem yh_apply (t : Fin cfg0.N) (r : Fin 256) (k : Fin 1024) : k0_pay19 (iblk m c 0 t : Vec Ideal S256x1024 .f32) (ix2 r k) = yh epsR (xRow m c (rowOf t r)) k := by
  rw [pay19_apply]
  simp only [blk0]

/-- The gradient of the input's rows. -/
noncomputable def dX (r : Fin 8192) (k : Fin 1024) : EReal :=
  aO m c (ix2 r k) + rs epsR (xRow m c r) * (dU m c r k * aN m c (ix1 k) - yh epsR (xRow m c r) k
    * Ideal.div (∑ j, dU m c r j * aN m c (ix1 j) * yh epsR (xRow m c r) j) ((1024 : ℝ) : EReal))

/-- The point's gradient of the input's rows is the band of the whole step's. -/
theorem bDx_apply (t : Fin cfg0.N) (r : Fin 256) (k : Fin 1024) : bDx m c t (ix2 r k) = dX m c (rowOf t r) k := by
  unfold bDx
  rw [pay1_apply]
  simp only [bDu_apply, yh_apply, blk1, blk2]
  rw [pay18_apply]
  simp only [blk0]
  rfl

/-! ## The input's gradient -/

/-- The array of the input's gradient. -/
noncomputable def G9 : S8192x1024.Idx → EReal := fun i => dX m c (i 0) (i 1)

/-- It moves with the point. -/
theorem idx9 : ∀ t : Fin cfg0.N, win0_9.index t (0 : Fin 2) = t.val ∧ win0_9.index t (1 : Fin 2) = 0 ∧ (cfg0.win 9).flush t = true := by decide +kernel

/-- The input's gradient after the run. -/
theorem final9 : (dats m 0 c).arrAt 9 cfg0.N = G9 m c := by
  refine (dats m 0 c).arrAt_eq_of_cover 9 _ (fun t hf => ?_) (fun i => ?_)
  · rw [flushed9, o9]
    obtain ⟨e0, e1, -⟩ := idx9 t
    funext y
    have hy0 : (y 0).val < 256 := (y 0).isLt
    have hy1 : (y 1).val < 1024 := (y 1).isLt
    have hl : (cfg0.win 9).xinj (grid0.coords t) y = (ix2 (⟨(y 0).val, hy0⟩ : Fin 256) (⟨(y 1).val, hy1⟩ : Fin 1024) : S256x1024.Idx) := by
      funext a; apply Fin.ext
      match a with
      | ⟨0, _⟩ => rfl
      | ⟨1, _⟩ => rfl
    have he : ((cfg0.win 9).blk t).view.emb y = (ix2 (rowOf t ⟨(y 0).val, hy0⟩) (⟨(y 1).val, hy1⟩ : Fin 1024) : S8192x1024.Idx) := by
      funext a; apply Fin.ext
      match a with
      | ⟨0, _⟩ => show win0_9.index t (0 : Fin 2) * 256 + 1 * (y 0).val = 256 * t.val + (y 0).val; omega
      | ⟨1, _⟩ => show win0_9.index t (1 : Fin 2) * 1024 + 1 * (y 1).val = (y 1).val; omega
    show bDx m c t ((cfg0.win 9).xinj (grid0.coords t) y) = G9 m c (((cfg0.win 9).blk t).view.emb y)
    rw [hl, he, bDx_apply]
    rfl
  · have h0 : (i 0).val < 8192 := (i 0).isLt
    have h1 : (i 1).val < 1024 := (i 1).isLt
    have hlt : (i 0).val / 256 < cfg0.N := lt_of_lt_of_eq (by omega) N_0.symm
    obtain ⟨e0, e1, hf⟩ := idx9 ⟨(i 0).val / 256, hlt⟩
    have e0' : win0_9.index ⟨(i 0).val / 256, hlt⟩ (0 : Fin 2) = (i 0).val / 256 := e0
    refine ⟨⟨(i 0).val / 256, hlt⟩, hf, ?_⟩
    show i ∈ ((View.whole main_v28_0).slice (win0_9.rect ⟨(i 0).val / 256, hlt⟩)).set
    rw [View.set_slice_whole, Rect.mem_set_unit]
    intro a
    match a with
    | ⟨0, _⟩ => show win0_9.index ⟨(i 0).val / 256, hlt⟩ (0 : Fin 2) * 256 ≤ (i 0).val ∧ (i 0).val < win0_9.index ⟨(i 0).val / 256, hlt⟩ (0 : Fin 2) * 256 + 256; omega
    | ⟨1, _⟩ => show win0_9.index ⟨(i 0).val / 256, hlt⟩ (1 : Fin 2) * 1024 ≤ (i 1).val ∧ (i 1).val < win0_9.index ⟨(i 0).val / 256, hlt⟩ (1 : Fin 2) * 1024 + 1024; omega

/-! ## The gradient of the norm's weight -/

/-- A row's part of it. -/
noncomputable abbrev part (k : Fin 1024) (r : Fin 8192) : EReal := dU m c r k * yh epsR (xRow m c r) k

/-- A point steps row 0 by its band. -/
theorem gNext_zero (t : Fin cfg0.N) (acc : Vec Ideal S8x1024 .f32) (k : Fin 1024) :
    gNext m c t acc (ix2 0 k) = acc (ix2 0 k) + band 256 (part m c k) t.val := by
  unfold gNext
  rw [if_pos (show ((ix2 0 k : S8x1024.Idx) 0).val = 0 from rfl)]
  refine (gRow_apply _ _ _ k).trans (congrArg₂ (· + ·) ?_ ?_)
  · unfold row0 View.ld
    refine congrArg acc ?_
    funext a
    apply Fin.ext
    match a with
    | ⟨0, _⟩ => rfl
    | ⟨1, _⟩ => show 0 + 1 * k.val = k.val; omega
  · unfold band
    refine Finset.sum_congr rfl fun r _ => ?_
    rw [bDu_apply, yh_apply]
    unfold term
    rw [dif_pos (show 256 * t.val + r.val < 8192 from (rowOf t r).isLt)]
    rfl

/-- The other rows gain nothing. -/
theorem gNext_ne (t : Fin cfg0.N) (acc : Vec Ideal S8x1024 .f32) (r : Fin 8) (hr : r.val ≠ 0) (k : Fin 1024) :
    gNext m c t acc (ix2 r k) = acc (ix2 r k) := if_neg hr

/-- The step from one point to the next. -/
theorem out_succ (n : ℕ) (hn : n + 1 < cfg0.N) :
    (outsAt0 m c (n + 1) hn).2 = gNext m c ⟨n + 1, hn⟩ (outsAt0 m c n (Nat.lt_of_succ_lt hn)).2 := by
  have ht := tlt ⟨n + 1, hn⟩
  dsimp only at ht
  exact o10_B m c ⟨n + 1, hn⟩ (by dsimp only; omega)

/-- Row 0 after point `n`. -/
theorem g_zero (k : Fin 1024) (n : ℕ) (hn : n < cfg0.N) : (outsAt0 m c n hn).2 (ix2 0 k) = ∑ i ∈ Finset.range (n + 1), band 256 (part m c k) i := by
  induction n with
  | zero => rw [o10_A m c ⟨0, hn⟩ rfl, gNext_zero, pay2_apply, zero_add, Finset.sum_range_one]
  | succ n ih => rw [out_succ, gNext_zero, ih, Finset.sum_range_succ _ (n + 1)]

/-- The other rows after point `n`. -/
theorem g_ne (r : Fin 8) (hr : r.val ≠ 0) (k : Fin 1024) (n : ℕ) (hn : n < cfg0.N) : (outsAt0 m c n hn).2 (ix2 r k) = 0 := by
  induction n with
  | zero => rw [o10_A m c ⟨0, hn⟩ rfl, gNext_ne _ _ _ _ _ hr, pay2_apply]
  | succ n ih => rw [out_succ, gNext_ne _ _ _ _ _ hr, ih]

/-- The array of the gradient of the norm's weight. -/
noncomputable def G10 : S8x1024.Idx → EReal := fun i => if (i 0).val = 0 then ∑ r, part m c (i 1) r else 0

/-- It is one block, written at the last point. -/
theorem idx10 : ∀ t : Fin cfg0.N, win0_10.index t (0 : Fin 2) = 0 ∧ win0_10.index t (1 : Fin 2) = 0 ∧ ((cfg0.win 10).flush t = true ↔ t.val = 31) := by decide +kernel

/-- What the last point leaves. -/
theorem last_apply (t : Fin cfg0.N) (ht : t.val = 31) (r : Fin 8) (k : Fin 1024) : (outsAt0 m c t.val t.isLt).2 (ix2 r k) = G10 m c (ix2 r k) := by
  unfold G10
  by_cases hr : r.val = 0
  · have e : r = 0 := Fin.ext hr
    rw [if_pos (show ((ix2 r k : S8x1024.Idx) 0).val = 0 from hr), e, g_zero, ht]
    exact bands_all 256 32 rfl _
  · rw [if_neg (show ¬((ix2 r k : S8x1024.Idx) 0).val = 0 from hr), g_ne m c r hr]

/-- The gradient of the norm's weight after the run. -/
theorem final10 : (dats m 0 c).arrAt 10 cfg0.N = G10 m c := by
  refine (dats m 0 c).arrAt_eq_of_cover 10 _ (fun t hf => ?_) (fun i => ?_)
  · rw [flushed10]
    obtain ⟨e0, e1, ef⟩ := idx10 t
    funext y
    have hy0 : (y 0).val < 8 := (y 0).isLt
    have hy1 : (y 1).val < 1024 := (y 1).isLt
    have hl : (cfg0.win 10).xinj (grid0.coords t) y = (ix2 (⟨(y 0).val, hy0⟩ : Fin 8) (⟨(y 1).val, hy1⟩ : Fin 1024) : S8x1024.Idx) := by
      funext a; apply Fin.ext
      match a with
      | ⟨0, _⟩ => rfl
      | ⟨1, _⟩ => rfl
    have he : ((cfg0.win 10).blk t).view.emb y = (ix2 (⟨(y 0).val, hy0⟩ : Fin 8) (⟨(y 1).val, hy1⟩ : Fin 1024) : S8x1024.Idx) := by
      funext a; apply Fin.ext
      match a with
      | ⟨0, _⟩ => show win0_10.index t (0 : Fin 2) * 8 + 1 * (y 0).val = (y 0).val; omega
      | ⟨1, _⟩ => show win0_10.index t (1 : Fin 2) * 1024 + 1 * (y 1).val = (y 1).val; omega
    show (outsAt0 m c t.val t.isLt).2 ((cfg0.win 10).xinj (grid0.coords t) y) = G10 m c (((cfg0.win 10).blk t).view.emb y)
    rw [hl, he, last_apply m c t (ef.mp hf)]
  · have h0 : (i 0).val < 8 := (i 0).isLt
    have h1 : (i 1).val < 1024 := (i 1).isLt
    have hlt : 31 < cfg0.N := lt_of_lt_of_eq (by omega) N_0.symm
    obtain ⟨e0, e1, ef⟩ := idx10 ⟨31, hlt⟩
    refine ⟨⟨31, hlt⟩, ef.mpr rfl, ?_⟩
    show i ∈ ((View.whole main_v28_1).slice (win0_10.rect ⟨31, hlt⟩)).set
    rw [View.set_slice_whole, Rect.mem_set_unit]
    intro a
    match a with
    | ⟨0, _⟩ => show win0_10.index ⟨31, hlt⟩ (0 : Fin 2) * 8 ≤ (i 0).val ∧ (i 0).val < win0_10.index ⟨31, hlt⟩ (0 : Fin 2) * 8 + 8; omega
    | ⟨1, _⟩ => show win0_10.index ⟨31, hlt⟩ (1 : Fin 2) * 1024 ≤ (i 1).val ∧ (i 1).val < win0_10.index ⟨31, hlt⟩ (1 : Fin 2) * 1024 + 1024; omega

end Cert.Kernel7Ideal.In
-- ==== Proof.DxAlg.lean ====
module

public import proofs.«01_k».proof.Proof.DxVal
public import proofs.«01_k».proof.Proof.Gen.Reference7Ideal.Read

/-!
# The input gradient of the in-projection: kernel and reference agree

The reference joins the five gradients along the weight's columns and differentiates the product and the norm.
-/

@[expose] public section

set_option maxRecDepth 100000

namespace Cert.DxAlg7

open Cert.Kernel7Ideal Cert.Kernel7Ideal.Gen Cert.Kernel7Ideal.Value Cert.Kernel7Ideal.In Cert.InMath Cert.OutMath
open Cert.Kernel8Ideal.In (wmat)
open Idealize.ShloMosaic Idealize.ShloMosaic.TcCoe Idealize.SL.Sem
open Cert.Reference7Ideal.Read

/-- A sum over all columns, group by group. -/
theorem split6 (f : ℕ → EReal) : ∑ n : Fin 6688, f n.val
    = ∑ j : Fin 1024, f (0 + j.val) + ∑ j : Fin 1536, f (1024 + j.val) + ∑ j : Fin 16, f (2560 + j.val) + ∑ j : Fin 1024, f (2576 + j.val)
      + ∑ j : Fin 3072, f (3600 + j.val) + ∑ j : Fin 16, f (6672 + j.val) := by
  rw [← Finset.sum_range, ← Finset.sum_range (fun j => f (0 + j)), ← Finset.sum_range (fun j => f (1024 + j)), ← Finset.sum_range (fun j => f (2560 + j)),
    ← Finset.sum_range (fun j => f (2576 + j)), ← Finset.sum_range (fun j => f (3600 + j)), ← Finset.sum_range (fun j => f (6672 + j))]
  rw [show 6688 = 1024 + 1536 + 16 + 1024 + 3072 + 16 from rfl]
  rw [Finset.sum_range_add, Finset.sum_range_add, Finset.sum_range_add, Finset.sum_range_add, Finset.sum_range_add]
  simp only [Nat.zero_add]

/-- A sum over the small columns: two groups of 16, the rest zero. -/
theorem split_small (f : ℕ → EReal) (h : ∀ n, 32 ≤ n → f n = 0) :
    ∑ j : Fin 128, f j.val = ∑ j : Fin 16, f j.val + ∑ j : Fin 16, f (16 + j.val) := by
  rw [← Finset.sum_range, ← Finset.sum_range f, ← Finset.sum_range (fun j => f (16 + j))]
  rw [show 128 = 16 + 16 + 96 from rfl, Finset.sum_range_add, Finset.sum_range_add]
  rw [Finset.sum_eq_zero (s := Finset.range 96) fun n _ => h _ (by omega), add_zero]

section
variable (x0 x1 : S8192x1024.Idx → EReal) (x2 : S1024.Idx → EReal) (x3 : S1024x6688.Idx → EReal)
variable (x4 : S8192x1024.Idx → EReal) (x5 : S8192x1536.Idx → EReal) (x6 : S8192x1024.Idx → EReal) (x7 : S8192x3072.Idx → EReal) (x8 : S8192x128.Idx → EReal)

/-- The joined gradients by column. -/
noncomputable def cot (r : Fin 8192) (n : ℕ) : EReal := if h : n < 6688 then val_main_v2 (F := Ideal) x4 x5 x6 x7 x8 (ix2 r ⟨n, h⟩) else 0

/-- The joined gradients' columns from 0 on. -/
theorem cot_0 (r : Fin 8192) (j : Fin 1024) : cot x4 x5 x6 x7 x8 r (0 + j.val) = x4 (ix2 r j) := by
  have hj := j.isLt
  unfold cot
  rw [dif_pos (by omega)]
  pointwise [val_main_v2, val_main_v1, val_main_v0]

/-- The joined gradients' columns from 1024 on. -/
theorem cot_1024 (r : Fin 8192) (j : Fin 1536) : cot x4 x5 x6 x7 x8 r (1024 + j.val) = x5 (ix2 r j) := by
  have hj := j.isLt
  unfold cot
  rw [dif_pos (by omega)]
  pointwise [val_main_v2, val_main_v1, val_main_v0]

/-- The joined gradients' columns from 2560 on. -/
theorem cot_2560 (r : Fin 8192) (j : Fin 16) : cot x4 x5 x6 x7 x8 r (2560 + j.val) = x8 (ix2 r (⟨j.val, by have := j.isLt; omega⟩ : Fin 128)) := by
  have hj := j.isLt
  unfold cot
  rw [dif_pos (by omega)]
  pointwise [val_main_v2, val_main_v1, val_main_v0]
  split
  · rename_i h
    exfalso
    revert h
    show ¬_
    omega
  split
  · rename_i h
    exfalso
    revert h
    show ¬_
    omega
  split
  · refine congrArg (fun q => x8 (ix2 r q)) (Fin.ext ?_)
    show 2560 + j.val - 1024 - 1536 = j.val
    omega
  · rename_i h
    exfalso
    apply h
    omega

/-- The joined gradients' columns from 2576 on. -/
theorem cot_2576 (r : Fin 8192) (j : Fin 1024) : cot x4 x5 x6 x7 x8 r (2576 + j.val) = x6 (ix2 r j) := by
  have hj := j.isLt
  unfold cot
  rw [dif_pos (by omega)]
  pointwise [val_main_v2, val_main_v1, val_main_v0]
  split
  · rename_i h
    exfalso
    revert h
    show ¬_
    omega
  split
  · rename_i h
    exfalso
    revert h
    show ¬_
    omega
  split
  · rename_i h
    exfalso
    revert h
    show ¬_
    omega
  split
  · refine congrArg (fun q => x6 (ix2 r q)) (Fin.ext ?_)
    show 2576 + j.val - 1024 - 1536 - 16 = j.val
    omega
  · rename_i h
    exfalso
    apply h
    omega

/-- The joined gradients' columns from 3600 on. -/
theorem cot_3600 (r : Fin 8192) (j : Fin 3072) : cot x4 x5 x6 x7 x8 r (3600 + j.val) = x7 (ix2 r j) := by
  have hj := j.isLt
  unfold cot
  rw [dif_pos (by omega)]
  pointwise [val_main_v2, val_main_v1, val_main_v0]
  split
  · rename_i h
    exfalso
    revert h
    show ¬_
    omega
  split
  · rename_i h
    exfalso
    revert h
    show ¬_
    omega
  split
  · rename_i h
    exfalso
    revert h
    show ¬_
    omega
  split
  · rename_i h
    exfalso
    revert h
    show ¬_
    omega
  split
  · refine congrArg (fun q => x7 (ix2 r q)) (Fin.ext ?_)
    show 3600 + j.val - 1024 - 1536 - 16 - 1024 = j.val
    omega
  · rename_i h
    exfalso
    apply h
    omega

/-- The joined gradients' columns from 6672 on. -/
theorem cot_6672 (r : Fin 8192) (j : Fin 16) : cot x4 x5 x6 x7 x8 r (6672 + j.val) = x8 (ix2 r (⟨16 + j.val, by have := j.isLt; omega⟩ : Fin 128)) := by
  have hj := j.isLt
  unfold cot
  rw [dif_pos (by omega)]
  pointwise [val_main_v2, val_main_v1, val_main_v0]
  split
  · rename_i h
    exfalso
    revert h
    show ¬_
    omega
  split
  · rename_i h
    exfalso
    revert h
    show ¬_
    omega
  split
  · rename_i h
    exfalso
    revert h
    show ¬_
    omega
  split
  · rename_i h
    exfalso
    revert h
    show ¬_
    omega
  split
  · rename_i h
    exfalso
    revert h
    show ¬_
    omega
  refine congrArg (fun q => x8 (ix2 r q)) (Fin.ext ?_)
  show 16 + (6672 + j.val - 1024 - 1536 - 16 - 1024 - 3072) = 16 + j.val
  omega

/-- The gradient of the normalised rows. -/
theorem v20 (r : Fin 8192) (k : Fin 1024) : val_main_v20 (F := Ideal) x3 x4 x5 x6 x7 x8 (ix2 r k) = DU (wmat x3) x4 x5 x6 x7 x8 r k := by
  have e : val_main_v20 (F := Ideal) x3 x4 x5 x6 x7 x8 (ix2 r k) = ∑ n : Fin 6688, val_main_v2 (F := Ideal) x4 x5 x6 x7 x8 (ix2 r n) * x3 (ix2 k n) := by
    pointwise [val_main_v20]
  have e' : ∑ n : Fin 6688, val_main_v2 (F := Ideal) x4 x5 x6 x7 x8 (ix2 r n) * x3 (ix2 k n)
      = ∑ n : Fin 6688, (fun n : ℕ => cot x4 x5 x6 x7 x8 r n * wn (wmat x3) k n) n.val := by
    refine Finset.sum_congr rfl fun n _ => ?_
    dsimp only
    unfold cot wn
    rw [dif_pos n.isLt, dif_pos n.isLt]
  have hs : ∑ j : Fin 128, x8 (ix2 r j) * sm (wmat x3) k j.val
      = ∑ j : Fin 16, x8 (ix2 r (⟨j.val, by have := j.isLt; omega⟩ : Fin 128)) * wn (wmat x3) k (2560 + j.val)
        + ∑ j : Fin 16, x8 (ix2 r (⟨16 + j.val, by have := j.isLt; omega⟩ : Fin 128)) * wn (wmat x3) k (6672 + j.val) := by
    have e1 := split_small (fun n => (if h : n < 128 then x8 (ix2 r ⟨n, h⟩) else 0) * sm (wmat x3) k n) (fun n hn => by
      rw [sm_hi _ _ _ hn, mul_zero])
    refine Eq.trans (Finset.sum_congr rfl fun j _ => ?_) (e1.trans (congrArg₂ (· + ·) (Finset.sum_congr rfl fun j _ => ?_) (Finset.sum_congr rfl fun j _ => ?_)))
    · rw [dif_pos j.isLt]
    · have hj := j.isLt
      rw [dif_pos (by omega), sm_lo _ _ _ hj]
    · have hj := j.isLt
      rw [dif_pos (by omega), sm_mid _ _ _ (by omega) (by omega), show 6656 + (16 + j.val) = 6672 + j.val by omega]
  rw [e, e', split6 (fun n : ℕ => cot x4 x5 x6 x7 x8 r n * wn (wmat x3) k n)]
  unfold DU
  rw [hs]
  simp only [cot_0, cot_1024, cot_2560, cot_2576, cot_3600, cot_6672]
  abel

/-- The mean of the squares plus epsilon. -/
theorem v9 (r : Fin 8192) : val_main_v9 (F := Ideal) x0 (ix2 r 0) = var epsR (fun k => x0 (ix2 r k)) := by
  pointwise [val_main_v9, val_main_v8, val_main_v7, val_main_v6, val_main_v5, val_main_v4, val_main_v3, val_main_cst, val_main_cst_0, val_main_cst_1]
  simp only [word_1024, word_eps]
  rfl

/-- The reciprocal root of that. -/
theorem v10 (r : Fin 8192) : val_main_v10 (F := Ideal) x0 (ix2 r 0) = rs epsR (fun k => x0 (ix2 r k)) := by
  pointwise [val_main_v10]
  rw [v9]
  rfl

/-- The derivative of the root. -/
theorem v13 (r : Fin 8192) : val_main_v13 (F := Ideal) x0 (ix2 r 0)
    = ((-(1 / 2) : ℝ) : EReal) * Ideal.div (rs epsR (fun k => x0 (ix2 r k))) (var epsR (fun k => x0 (ix2 r k))) := by
  pointwise [val_main_v13, val_main_v12, val_main_v11, val_main_cst_2]
  rw [v9, v10, word_neg_half]

/-- The normalised row. -/
theorem v15 (r : Fin 8192) (k : Fin 1024) : val_main_v15 (F := Ideal) x0 (ix2 r k) = yh epsR (fun k => x0 (ix2 r k)) k := by
  pointwise [val_main_v15, val_main_v14]
  rw [v10]
  rfl

/-- The gradient in front of the norm's weight. -/
theorem v25 (r : Fin 8192) (k : Fin 1024) : val_main_v25 (F := Ideal) x2 x3 x4 x5 x6 x7 x8 (ix2 r k) = DU (wmat x3) x4 x5 x6 x7 x8 r k * x2 (ix1 k) := by
  pointwise [val_main_v25, val_main_v24, val_main_v16]
  rw [v20]

/-- The gradient of the norm's weight. -/
theorem v26 (k : Fin 1024) : val_main_v26 (F := Ideal) x0 x3 x4 x5 x6 x7 x8 (ix1 k)
    = ∑ r, DU (wmat x3) x4 x5 x6 x7 x8 r k * yh epsR (fun k => x0 (ix2 r k)) k := by
  pointwise [val_main_v26, val_main_v23, val_main_v22, val_main_v21, val_main_cst_3, val_main_cst_4]
  simp only [v15, v20]
  rw [Fin.sum_univ_one]
  exact Finset.sum_congr rfl fun r _ => mul_comm _ _

/-- The factor of the row in the derivative through the mean square. -/
theorem v36 (r : Fin 8192) (k : Fin 1024) : val_main_v36 (F := Ideal) x0 x2 x3 x4 x5 x6 x7 x8 (ix2 r k)
    = qref epsR (fun k => x0 (ix2 r k)) (fun k => DU (wmat x3) x4 x5 x6 x7 x8 r k * x2 (ix1 k)) := by
  pointwise [val_main_v36, val_main_v35, val_main_v34, val_main_v33, val_main_v32, val_main_v29, val_main_v28, val_main_v27, val_main_cst_5, val_main_cst_6, val_main_cst_7]
  rw [Fin.sum_univ_one, v13]
  simp only [v25, word_1024]
  rfl

/-- The gradient of the input's rows. -/
theorem v41 (r : Fin 8192) (k : Fin 1024) : val_main_v41 (F := Ideal) x0 x1 x2 x3 x4 x5 x6 x7 x8 (ix2 r k)
    = x1 (ix2 r k) + doutRef epsR (fun k => x0 (ix2 r k)) (fun k => DU (wmat x3) x4 x5 x6 x7 x8 r k * x2 (ix1 k)) k := by
  pointwise [val_main_v41, val_main_v40, val_main_v39, val_main_v38, val_main_v37, val_main_v31, val_main_v30]
  rw [v36, v25, v10]
  rfl

/-- The gradient of the norm's weight, in the first of eight rows. -/
theorem v44 (r : Fin 8) (k : Fin 1024) : val_main_v44 (F := Ideal) x0 x3 x4 x5 x6 x7 x8 (ix2 r k)
    = if r.val = 0 then ∑ r, DU (wmat x3) x4 x5 x6 x7 x8 r k * yh epsR (fun k => x0 (ix2 r k)) k else 0 := by
  by_cases h0 : r.val = 0
  · rw [if_pos h0]
    have e : r = 0 := Fin.ext h0
    subst e
    refine Eq.trans ?_ (v26 x0 x3 x4 x5 x6 x7 x8 k)
    pointwise [val_main_v44, val_main_v42]
  · rw [if_neg h0]
    pointwise [val_main_v44, val_main_v43, val_main_cst_8]
    rw [dif_neg (by omega)]

end

variable (m : (ℓ : Loc nD τ sig) → Buf (Elt Ideal) ℓ) (c : Dev nD)

/-- The gradients of the input are equal. -/
theorem eq9 : (val_main_v41 (F := Ideal) (aX m c) (aO m c) (aN m c) (aW m c) (aDz m c) (aDx m c) (aDg m c) (aDq m c) (aDs m c) : S8192x1024.Idx → EReal) = G9 m c := by
  funext i
  rw [← ix2_eta i]
  refine (v41 _ _ _ _ _ _ _ _ _ (i 0) (i 1)).trans ?_
  show _ = dX m c (i 0) (i 1)
  unfold dX
  exact congrArg (_ + ·) (norm_grad_eq epsR _ epsR_pos (fun k => dU m c (i 0) k * aN m c (ix1 k)) (i 1)).symm

/-- The gradients of the norm's weight are equal. -/
theorem eq10 : (val_main_v44 (F := Ideal) (aX m c) (aW m c) (aDz m c) (aDx m c) (aDg m c) (aDq m c) (aDs m c) : S8x1024.Idx → EReal) = G10 m c := by
  funext i
  rw [← ix2_eta i]
  exact v44 _ _ _ _ _ _ _ (i 0) (i 1)

end Cert.DxAlg7
-- ==== Proof.In8Val.lean ====
module

public import proofs.«01_k».proof.Proof.In8Cat
public import proofs.«01_k».proof.Proof.Gen.Kernel8Ideal.Value

/-!
# The in-projection: what each grid point writes

A point takes a band of 512 rows, normalises them and multiplies them with the columns of the weight, group by group.
-/

@[expose] public section

set_option maxRecDepth 100000

namespace Cert.Kernel8Ideal.In

open Cert.Kernel8Ideal Cert.Kernel8Ideal.Gen Cert.Kernel8Ideal.Value Cert.InMath
open Idealize.ShloMosaic Idealize.ShloMosaic.TcCoe Idealize.SL.Sem

/-- The normalised rows. -/
noncomputable def U (x : S8192x1024.Idx → EReal) (w : S1024.Idx → EReal) (r : Fin 8192) (k : Fin 1024) : EReal :=
  x (ix2 r k) * Ideal.rsqrt (Ideal.div (∑ j : Fin 1024, x (ix2 r j) * x (ix2 r j)) (Ideal.ofBits FTy.f32 0x44800000#32) + Ideal.ofBits FTy.f32 0x358637BD#32) * w (ix1 k)

/-- A row of them times a column of the weight. -/
noncomputable def H (x : S8192x1024.Idx → EReal) (w : S1024.Idx → EReal) (W : S1024x6688.Idx → EReal) (r : Fin 8192) (n : ℕ) : EReal :=
  ∑ k, U x w r k * wn (wmat W) k n

/-- A row of them times a small column. -/
noncomputable def HS (x : S8192x1024.Idx → EReal) (w : S1024.Idx → EReal) (W : S1024x6688.Idx → EReal) (r : Fin 8192) (j : ℕ) : EReal :=
  ∑ k, U x w r k * sm (wmat W) k j

variable (m : (ℓ : Loc nD τ sig) → Buf (Elt Ideal) ℓ) (c : Dev nD)

/-- The grid has 16 points. -/
theorem tlt (t : Fin cfg0.N) : t.val < 16 := lt_of_lt_of_eq t.isLt N_0

/-- Row `r` of the band of point `t`. -/
def rowOf (t : Fin cfg0.N) (r : Fin 512) : Fin 8192 := ⟨512 * t.val + r.val, by have := tlt t; have := r.isLt; omega⟩

/-- The rows' block at point `t` is band `t`. -/
theorem idx0 : ∀ t : Fin cfg0.N, win0_0.index t (0 : Fin 2) = t.val ∧ win0_0.index t (1 : Fin 2) = 0 := by decide
/-- The norm's weight is one block. -/
theorem idx1 : ∀ t : Fin cfg0.N, win0_1.index t (0 : Fin 2) = 0 ∧ win0_1.index t (1 : Fin 2) = 0 := by decide
/-- The gathered weight is one block. -/
theorem idx2 : ∀ t : Fin cfg0.N, win0_2.index t (0 : Fin 2) = 0 ∧ win0_2.index t (1 : Fin 2) = 0 := by decide

/-- The rows' block, entry by entry. -/
theorem blk0 (t : Fin cfg0.N) (r : Fin 512) (k : Fin 1024) :
    (iblk m c 0 t : Vec Ideal S512x1024 .f32) (ix2 r k) = aX m c (ix2 (rowOf t r) k) := by
  have hi := idx0 t
  unfold iblk
  rw [View.read_apply]
  show V m c main_arg0 _ = _
  rw [V_main_arg0]
  show aX m c _ = aX m c _
  congr 1
  funext a
  apply Fin.ext
  match a with
  | ⟨0, _⟩ => show win0_0.index t 0 * 512 + 1 * r.val = 512 * t.val + r.val; rw [hi.1]; omega
  | ⟨1, _⟩ => show win0_0.index t 1 * 1024 + 1 * k.val = k.val; rw [hi.2]; omega

/-- The norm's weight, entry by entry. -/
theorem blk1 (t : Fin cfg0.N) (r : Fin 1) (k : Fin 1024) :
    (iblk m c 1 t : Vec Ideal S1x1024 .f32) (ix2 r k) = aN m c (ix1 k) := by
  have hi := idx1 t
  have hr := r.isLt
  rw [← V_n m c r]
  unfold iblk
  rw [View.read_apply]
  show V m c main_v0 _ = V m c main_v0 _
  congr 1
  funext a
  apply Fin.ext
  match a with
  | ⟨0, _⟩ => show win0_1.index t 0 * 1 + 1 * r.val = r.val; rw [hi.1]; omega
  | ⟨1, _⟩ => show win0_1.index t 1 * 1024 + 1 * k.val = k.val; rw [hi.2]; omega

/-- The gathered weight, entry by entry. -/
theorem blk2 (t : Fin cfg0.N) (p : Fin 6784) (k : Fin 1024) :
    (iblk m c 2 t : Vec Ideal S6784x1024 .bf16) (ix2 p k) = gat (wmat (aW m c)) p.val k := by
  have hi := idx2 t
  rw [← gathered_apply, ← V_g]
  unfold iblk
  rw [View.read_apply]
  show V m c main_v27 _ = V m c main_v27 _
  congr 1
  funext a
  apply Fin.ext
  match a with
  | ⟨0, _⟩ => show win0_2.index t 0 * 6784 + 1 * p.val = p.val; rw [hi.1]; omega
  | ⟨1, _⟩ => show win0_2.index t 1 * 1024 + 1 * k.val = k.val; rw [hi.2]; omega

/-- The normalised rows of a band. -/
theorem pay3_apply (x : Vec Ideal S512x1024 .f32) (w : Vec Ideal S1x1024 .f32) (r : Fin 512) (k : Fin 1024) :
    k0_pay3 x w (ix2 r k) = x (ix2 r k) * Ideal.rsqrt (Ideal.div (∑ j : Fin 1024, x (ix2 r j) * x (ix2 r j)) (Ideal.ofBits FTy.f32 0x44800000#32) + Ideal.ofBits FTy.f32 0x358637BD#32) * w (ix2 0 k) := by
  pointwise [k0_pay3]

/-- A zero start, as the loads and stores have it. -/
theorem hz : (![0, 0] : Fin 2 → ℕ) = fun _ => 0 := by funext a; match a with | ⟨0, _⟩ => rfl | ⟨1, _⟩ => rfl

/-- The normalised rows of band `t`. -/
theorem u_apply (t : Fin cfg0.N) (r : Fin 512) (k : Fin 1024) :
    k0_pay3 (View.ld (iblk m c 0 t : Vec Ideal S512x1024 .f32) r0_0) (View.ld (iblk m c 1 t : Vec Ideal S1x1024 .f32) r0_1) (ix2 r k) = U (aX m c) (aN m c) (rowOf t r) k := by
  rw [View.ld_unit_zero (S := S512x1024) hz, View.ld_unit_zero (S := S1x1024) hz, pay3_apply, blk1, blk0]
  simp only [blk0]
  rfl

/-- The rows times a group's columns: the product over one row of each. -/
theorem mmZ (u : FVec Ideal S512x1024 .bf16) (w : FVec Ideal S1024x1024 .bf16) (r : Fin 512) (j : Fin 1024) :
    (matmul dot_S512x1024_S1024x1024_S512x1024_1_1_0_0_n_n none u w (constant S512x1024 .f32 0x00000000#32) : FVec Ideal S512x1024 .f32) (ix2 r j) = ∑ k, u (ix2 r k) * w (ix2 j k) := by
  pointwise

/-- What is stored for the group, entry by entry. -/
theorem payZ_apply {W : Fin 1024 → Fin 6688 → EReal} (x : Vec Ideal S512x1024 .f32) (w : Vec Ideal S1x1024 .f32) (l0 : FVec Ideal S832x1024 .bf16) (l1 : FVec Ideal S16x1024 .bf16) (l2 : FVec Ideal S16x1024 .bf16) (l3 : FVec Ideal S176x1024 .bf16) (h0 : Holds W (n := 832) 0 l0) (h1 : Holds W (n := 16) 832 l1) (h2 : Holds W (n := 16) 848 l2) (h3 : Holds W (n := 176) 864 l3) (r : Fin 512) (j : Fin 1024) :
    k0_pay4 x w l0 l1 l2 l3 (ix2 r j) = ∑ k, k0_pay3 x w (ix2 r k) * wn W k (0 + j.val) := by
  have e : k0_pay4 x w l0 l1 l2 l3 = matmul dot_S512x1024_S1024x1024_S512x1024_1_1_0_0_n_n none (k0_pay3 x w) (catZ l0 l1 l2 l3) (constant S512x1024 .f32 0x00000000#32) := rfl
  rw [e, mmZ]
  exact Finset.sum_congr rfl fun k _ => by rw [catZ_apply l0 l1 l2 l3 h0 h1 h2 h3 j k]

/-- The rows times a group's columns: the product over one row of each. -/
theorem mmX (u : FVec Ideal S512x1024 .bf16) (w : FVec Ideal S1536x1024 .bf16) (r : Fin 512) (j : Fin 1536) :
    (matmul dot_S512x1024_S1536x1024_S512x1536_1_1_0_0_n_n none u w (constant S512x1536 .f32 0x00000000#32) : FVec Ideal S512x1536 .f32) (ix2 r j) = ∑ k, u (ix2 r k) * w (ix2 j k) := by
  pointwise

/-- What is stored for the group, entry by entry. -/
theorem payX_apply {W : Fin 1024 → Fin 6688 → EReal} (u : FVec Ideal S512x1024 .bf16) (l0 : FVec Ideal S640x1024 .bf16) (l1 : FVec Ideal S16x1024 .bf16) (l2 : FVec Ideal S16x1024 .bf16) (l3 : FVec Ideal S816x1024 .bf16) (l4 : FVec Ideal S16x1024 .bf16) (l5 : FVec Ideal S16x1024 .bf16) (l6 : FVec Ideal S48x1024 .bf16) (h0 : Holds W (n := 640) 1040 l0) (h1 : Holds W (n := 16) 1680 l1) (h2 : Holds W (n := 16) 1696 l2) (h3 : Holds W (n := 816) 1712 l3) (h4 : Holds W (n := 16) 2528 l4) (h5 : Holds W (n := 16) 2544 l5) (h6 : Holds W (n := 48) 2560 l6) (r : Fin 512) (j : Fin 1536) :
    k0_pay7 u (k0_pay5 l0) (k0_pay6 l1) l2 l3 l4 l5 l6 (ix2 r j) = ∑ k, u (ix2 r k) * wn W k (1024 + j.val) := by
  have e : k0_pay7 u (k0_pay5 l0) (k0_pay6 l1) l2 l3 l4 l5 l6 = matmul dot_S512x1024_S1536x1024_S512x1536_1_1_0_0_n_n none (u) (catX l0 l1 l2 l3 l4 l5 l6) (constant S512x1536 .f32 0x00000000#32) := rfl
  rw [e, mmX]
  exact Finset.sum_congr rfl fun k _ => by rw [catX_apply l0 l1 l2 l3 l4 l5 l6 h0 h1 h2 h3 h4 h5 h6 j k]

/-- The rows times a group's columns: the product over one row of each. -/
theorem mmG (u : FVec Ideal S512x1024 .bf16) (w : FVec Ideal S1024x1024 .bf16) (r : Fin 512) (j : Fin 1024) :
    (matmul dot_S512x1024_S1024x1024_S512x1024_1_1_0_0_n_n none u w (constant S512x1024 .f32 0x00000000#32) : FVec Ideal S512x1024 .f32) (ix2 r j) = ∑ k, u (ix2 r k) * w (ix2 j k) := by
  pointwise

/-- What is stored for the group, entry by entry. -/
theorem payG_apply {W : Fin 1024 → Fin 6688 → EReal} (u : FVec Ideal S512x1024 .bf16) (l0 : FVec Ideal S768x1024 .bf16) (l1 : FVec Ideal S256x1024 .bf16) (h0 : Holds W (n := 768) 2624 l0) (h1 : Holds W (n := 256) 3392 l1) (r : Fin 512) (j : Fin 1024) :
    k0_pay8 u l0 l1 (ix2 r j) = ∑ k, u (ix2 r k) * wn W k (2576 + j.val) := by
  have e : k0_pay8 u l0 l1 = matmul dot_S512x1024_S1024x1024_S512x1024_1_1_0_0_n_n none (u) (catG l0 l1) (constant S512x1024 .f32 0x00000000#32) := rfl
  rw [e, mmG]
  exact Finset.sum_congr rfl fun k _ => by rw [catG_apply l0 l1 h0 h1 j k]

/-- The rows times a group's columns: the product over one row of each. -/
theorem mmQ (u : FVec Ideal S512x1024 .bf16) (w : FVec Ideal S3072x1024 .bf16) (r : Fin 512) (j : Fin 3072) :
    (matmul dot_S512x1024_S3072x1024_S512x3072_1_1_0_0_n_n none u w (constant S512x3072 .f32 0x00000000#32) : FVec Ideal S512x3072 .f32) (ix2 r j) = ∑ k, u (ix2 r k) * w (ix2 j k) := by
  pointwise

/-- What is stored for the group, entry by entry. -/
theorem payQ_apply {W : Fin 1024 → Fin 6688 → EReal} (u : FVec Ideal S512x1024 .bf16) (l0 : FVec Ideal S576x1024 .bf16) (l1 : FVec Ideal S16x1024 .bf16) (l2 : FVec Ideal S16x1024 .bf16) (l3 : FVec Ideal S816x1024 .bf16) (l4 : FVec Ideal S16x1024 .bf16) (l5 : FVec Ideal S16x1024 .bf16) (l6 : FVec Ideal S816x1024 .bf16) (l7 : FVec Ideal S16x1024 .bf16) (l8 : FVec Ideal S16x1024 .bf16) (l9 : FVec Ideal S816x1024 .bf16) (h0 : Holds W (n := 576) 3648 l0) (h1 : Holds W (n := 16) 4224 l1) (h2 : Holds W (n := 16) 4240 l2) (h3 : Holds W (n := 816) 4256 l3) (h4 : Holds W (n := 16) 5072 l4) (h5 : Holds W (n := 16) 5088 l5) (h6 : Holds W (n := 816) 5104 l6) (h7 : Holds W (n := 16) 5920 l7) (h8 : Holds W (n := 16) 5936 l8) (h9 : Holds W (n := 816) 5952 l9) (r : Fin 512) (j : Fin 3072) :
    k0_pay1 u (k0_pay9 l0) (k0_pay10 l1 l2) l3 l4 l5 l6 l7 l8 l9 (ix2 r j) = ∑ k, u (ix2 r k) * wn W k (3600 + j.val) := by
  have e : k0_pay1 u (k0_pay9 l0) (k0_pay10 l1 l2) l3 l4 l5 l6 l7 l8 l9 = matmul dot_S512x1024_S3072x1024_S512x3072_1_1_0_0_n_n none (u) (catQ l0 l1 l2 l3 l4 l5 l6 l7 l8 l9) (constant S512x3072 .f32 0x00000000#32) := rfl
  rw [e, mmQ]
  exact Finset.sum_congr rfl fun k _ => by rw [catQ_apply l0 l1 l2 l3 l4 l5 l6 l7 l8 l9 h0 h1 h2 h3 h4 h5 h6 h7 h8 h9 j k]

/-- The rows times a group's columns: the product over one row of each. -/
theorem mmS (u : FVec Ideal S512x1024 .bf16) (w : FVec Ideal S128x1024 .bf16) (r : Fin 512) (j : Fin 128) :
    (matmul dot_S512x1024_S128x1024_S512x128_1_1_0_0_n_n none u w (constant S512x128 .f32 0x00000000#32) : FVec Ideal S512x128 .f32) (ix2 r j) = ∑ k, u (ix2 r k) * w (ix2 j k) := by
  pointwise

/-- What is stored for the group, entry by entry. -/
theorem payS_apply {W : Fin 1024 → Fin 6688 → EReal} (u : FVec Ideal S512x1024 .bf16) (l0 : FVec Ideal S16x1024 .bf16) (l1 : FVec Ideal S16x1024 .bf16) (h0 : Holds W (n := 16) 2608 l0) (h1 : Holds W (n := 16) 6768 l1) (r : Fin 512) (j : Fin 128) :
    k0_pay2 u l0 l1 (ix2 r j) = ∑ k, u (ix2 r k) * sm W k j.val := by
  have e : k0_pay2 u l0 l1 = matmul dot_S512x1024_S128x1024_S512x128_1_1_0_0_n_n none (u) (catS l0 l1) (constant S512x128 .f32 0x00000000#32) := rfl
  rw [e, mmS]
  exact Finset.sum_congr rfl fun k _ => by rw [catS_apply l0 l1 h0 h1 j k]

/-- The array of output 3. -/
noncomputable def G3 : S8192x1024.Idx → EReal := fun i => U (aX m c) (aN m c) (i 0) (i 1)

/-- Output 3 moves with the point. -/
theorem idx3 : ∀ t : Fin cfg0.N, win0_3.index t (0 : Fin 2) = t.val ∧ win0_3.index t (1 : Fin 2) = 0 ∧ (cfg0.win 3).flush t = true := by decide +kernel

/-- A point's block of output 3. -/
theorem out3_apply (t : Fin cfg0.N) (r : Fin 512) (j : Fin 1024) :
    out0_3 (iblk m c 0 t) (iblk m c 1 t) (iblk m c 2 t) (ix2 r j) = G3 m c (ix2 (rowOf t r) j) := by
  unfold_out out0_3
  rw [View.canon_unit_zero hz]
  exact u_apply m c t r j

/-- Output 3 after the run. -/
theorem final3 : (dats m 0 c).arrAt 3 cfg0.N = G3 m c := by
  refine (dats m 0 c).arrAt_eq_of_cover 3 _ (fun t hf => ?_) (fun i => ?_)
  · rw [flushed3]
    obtain ⟨e0, e1, -⟩ := idx3 t
    funext y
    have hy0 : (y 0).val < 512 := (y 0).isLt
    have hy1 : (y 1).val < 1024 := (y 1).isLt
    have hl : (cfg0.win 3).xinj (grid0.coords t) y = (ix2 (⟨(y 0).val, hy0⟩ : Fin 512) (⟨(y 1).val, hy1⟩ : Fin 1024) : S512x1024.Idx) := by
      funext a; apply Fin.ext
      match a with
      | ⟨0, _⟩ => rfl
      | ⟨1, _⟩ => rfl
    have he : ((cfg0.win 3).blk t).view.emb y = (ix2 (rowOf t ⟨(y 0).val, hy0⟩) (⟨(y 1).val, hy1⟩ : Fin 1024) : S8192x1024.Idx) := by
      funext a; apply Fin.ext
      match a with
      | ⟨0, _⟩ => show win0_3.index t (0 : Fin 2) * 512 + 1 * (y 0).val = 512 * t.val + (y 0).val; omega
      | ⟨1, _⟩ => show win0_3.index t (1 : Fin 2) * 1024 + 1 * (y 1).val = (y 1).val; omega
    show out0_3 (iblk m c 0 t) (iblk m c 1 t) (iblk m c 2 t) ((cfg0.win 3).xinj (grid0.coords t) y) = G3 m c (((cfg0.win 3).blk t).view.emb y)
    rw [hl, he, out3_apply]
  · have h0 : (i 0).val < 8192 := (i 0).isLt
    have h1 : (i 1).val < 1024 := (i 1).isLt
    have hlt : (i 0).val / 512 < cfg0.N := lt_of_lt_of_eq (by omega) N_0.symm
    obtain ⟨e0, e1, hf⟩ := idx3 ⟨(i 0).val / 512, hlt⟩
    have e0' : win0_3.index ⟨(i 0).val / 512, hlt⟩ (0 : Fin 2) = (i 0).val / 512 := e0
    refine ⟨⟨(i 0).val / 512, hlt⟩, hf, ?_⟩
    show i ∈ ((View.whole main_v28_0).slice (win0_3.rect ⟨(i 0).val / 512, hlt⟩)).set
    rw [View.set_slice_whole, Rect.mem_set_unit]
    intro a
    match a with
    | ⟨0, _⟩ => show win0_3.index ⟨(i 0).val / 512, hlt⟩ (0 : Fin 2) * 512 ≤ (i 0).val ∧ (i 0).val < win0_3.index ⟨(i 0).val / 512, hlt⟩ (0 : Fin 2) * 512 + 512; omega
    | ⟨1, _⟩ => show win0_3.index ⟨(i 0).val / 512, hlt⟩ (1 : Fin 2) * 1024 ≤ (i 1).val ∧ (i 1).val < win0_3.index ⟨(i 0).val / 512, hlt⟩ (1 : Fin 2) * 1024 + 1024; omega

/-- The array of output 4. -/
noncomputable def G4 : S8192x1024.Idx → EReal := fun i => H (aX m c) (aN m c) (aW m c) (i 0) (0 + (i 1).val)

/-- Output 4 moves with the point. -/
theorem idx4 : ∀ t : Fin cfg0.N, win0_4.index t (0 : Fin 2) = t.val ∧ win0_4.index t (1 : Fin 2) = 0 ∧ (cfg0.win 4).flush t = true := by decide +kernel

/-- A point's block of output 4. -/
theorem out4_apply (t : Fin cfg0.N) (r : Fin 512) (j : Fin 1024) :
    out0_4 (iblk m c 0 t) (iblk m c 1 t) (iblk m c 2 t) (ix2 r j) = G4 m c (ix2 (rowOf t r) j) := by
  unfold_out out0_4
  rw [View.canon_unit_zero hz]
  refine (payZ_apply _ _ _ _ _ _ (holds_ld _ (blk2 m c t) 832 0 _) (holds_ld _ (blk2 m c t) 16 832 _) (holds_ld _ (blk2 m c t) 16 848 _) (holds_ld _ (blk2 m c t) 176 864 _) r j).trans ?_
  exact Finset.sum_congr rfl fun k _ => congrArg (· * _) (u_apply m c t r k)

/-- Output 4 after the run. -/
theorem final4 : (dats m 0 c).arrAt 4 cfg0.N = G4 m c := by
  refine (dats m 0 c).arrAt_eq_of_cover 4 _ (fun t hf => ?_) (fun i => ?_)
  · rw [flushed4]
    obtain ⟨e0, e1, -⟩ := idx4 t
    funext y
    have hy0 : (y 0).val < 512 := (y 0).isLt
    have hy1 : (y 1).val < 1024 := (y 1).isLt
    have hl : (cfg0.win 4).xinj (grid0.coords t) y = (ix2 (⟨(y 0).val, hy0⟩ : Fin 512) (⟨(y 1).val, hy1⟩ : Fin 1024) : S512x1024.Idx) := by
      funext a; apply Fin.ext
      match a with
      | ⟨0, _⟩ => rfl
      | ⟨1, _⟩ => rfl
    have he : ((cfg0.win 4).blk t).view.emb y = (ix2 (rowOf t ⟨(y 0).val, hy0⟩) (⟨(y 1).val, hy1⟩ : Fin 1024) : S8192x1024.Idx) := by
      funext a; apply Fin.ext
      match a with
      | ⟨0, _⟩ => show win0_4.index t (0 : Fin 2) * 512 + 1 * (y 0).val = 512 * t.val + (y 0).val; omega
      | ⟨1, _⟩ => show win0_4.index t (1 : Fin 2) * 1024 + 1 * (y 1).val = (y 1).val; omega
    show out0_4 (iblk m c 0 t) (iblk m c 1 t) (iblk m c 2 t) ((cfg0.win 4).xinj (grid0.coords t) y) = G4 m c (((cfg0.win 4).blk t).view.emb y)
    rw [hl, he, out4_apply]
  · have h0 : (i 0).val < 8192 := (i 0).isLt
    have h1 : (i 1).val < 1024 := (i 1).isLt
    have hlt : (i 0).val / 512 < cfg0.N := lt_of_lt_of_eq (by omega) N_0.symm
    obtain ⟨e0, e1, hf⟩ := idx4 ⟨(i 0).val / 512, hlt⟩
    have e0' : win0_4.index ⟨(i 0).val / 512, hlt⟩ (0 : Fin 2) = (i 0).val / 512 := e0
    refine ⟨⟨(i 0).val / 512, hlt⟩, hf, ?_⟩
    show i ∈ ((View.whole main_v28_1).slice (win0_4.rect ⟨(i 0).val / 512, hlt⟩)).set
    rw [View.set_slice_whole, Rect.mem_set_unit]
    intro a
    match a with
    | ⟨0, _⟩ => show win0_4.index ⟨(i 0).val / 512, hlt⟩ (0 : Fin 2) * 512 ≤ (i 0).val ∧ (i 0).val < win0_4.index ⟨(i 0).val / 512, hlt⟩ (0 : Fin 2) * 512 + 512; omega
    | ⟨1, _⟩ => show win0_4.index ⟨(i 0).val / 512, hlt⟩ (1 : Fin 2) * 1024 ≤ (i 1).val ∧ (i 1).val < win0_4.index ⟨(i 0).val / 512, hlt⟩ (1 : Fin 2) * 1024 + 1024; omega

/-- The array of output 5. -/
noncomputable def G5 : S8192x1536.Idx → EReal := fun i => H (aX m c) (aN m c) (aW m c) (i 0) (1024 + (i 1).val)

/-- Output 5 moves with the point. -/
theorem idx5 : ∀ t : Fin cfg0.N, win0_5.index t (0 : Fin 2) = t.val ∧ win0_5.index t (1 : Fin 2) = 0 ∧ (cfg0.win 5).flush t = true := by decide +kernel

/-- A point's block of output 5. -/
theorem out5_apply (t : Fin cfg0.N) (r : Fin 512) (j : Fin 1536) :
    out0_5 (iblk m c 0 t) (iblk m c 1 t) (iblk m c 2 t) (ix2 r j) = G5 m c (ix2 (rowOf t r) j) := by
  unfold_out out0_5
  rw [View.canon_unit_zero hz]
  refine (payX_apply _ _ _ _ _ _ _ _ (holds_ld _ (blk2 m c t) 640 1040 _) (holds_ld _ (blk2 m c t) 16 1680 _) (holds_ld _ (blk2 m c t) 16 1696 _) (holds_ld _ (blk2 m c t) 816 1712 _) (holds_ld _ (blk2 m c t) 16 2528 _) (holds_ld _ (blk2 m c t) 16 2544 _) (holds_ld _ (blk2 m c t) 48 2560 _) r j).trans ?_
  exact Finset.sum_congr rfl fun k _ => congrArg (· * _) (u_apply m c t r k)

/-- Output 5 after the run. -/
theorem final5 : (dats m 0 c).arrAt 5 cfg0.N = G5 m c := by
  refine (dats m 0 c).arrAt_eq_of_cover 5 _ (fun t hf => ?_) (fun i => ?_)
  · rw [flushed5]
    obtain ⟨e0, e1, -⟩ := idx5 t
    funext y
    have hy0 : (y 0).val < 512 := (y 0).isLt
    have hy1 : (y 1).val < 1536 := (y 1).isLt
    have hl : (cfg0.win 5).xinj (grid0.coords t) y = (ix2 (⟨(y 0).val, hy0⟩ : Fin 512) (⟨(y 1).val, hy1⟩ : Fin 1536) : S512x1536.Idx) := by
      funext a; apply Fin.ext
      match a with
      | ⟨0, _⟩ => rfl
      | ⟨1, _⟩ => rfl
    have he : ((cfg0.win 5).blk t).view.emb y = (ix2 (rowOf t ⟨(y 0).val, hy0⟩) (⟨(y 1).val, hy1⟩ : Fin 1536) : S8192x1536.Idx) := by
      funext a; apply Fin.ext
      match a with
      | ⟨0, _⟩ => show win0_5.index t (0 : Fin 2) * 512 + 1 * (y 0).val = 512 * t.val + (y 0).val; omega
      | ⟨1, _⟩ => show win0_5.index t (1 : Fin 2) * 1536 + 1 * (y 1).val = (y 1).val; omega
    show out0_5 (iblk m c 0 t) (iblk m c 1 t) (iblk m c 2 t) ((cfg0.win 5).xinj (grid0.coords t) y) = G5 m c (((cfg0.win 5).blk t).view.emb y)
    rw [hl, he, out5_apply]
  · have h0 : (i 0).val < 8192 := (i 0).isLt
    have h1 : (i 1).val < 1536 := (i 1).isLt
    have hlt : (i 0).val / 512 < cfg0.N := lt_of_lt_of_eq (by omega) N_0.symm
    obtain ⟨e0, e1, hf⟩ := idx5 ⟨(i 0).val / 512, hlt⟩
    have e0' : win0_5.index ⟨(i 0).val / 512, hlt⟩ (0 : Fin 2) = (i 0).val / 512 := e0
    refine ⟨⟨(i 0).val / 512, hlt⟩, hf, ?_⟩
    show i ∈ ((View.whole main_v28_2).slice (win0_5.rect ⟨(i 0).val / 512, hlt⟩)).set
    rw [View.set_slice_whole, Rect.mem_set_unit]
    intro a
    match a with
    | ⟨0, _⟩ => show win0_5.index ⟨(i 0).val / 512, hlt⟩ (0 : Fin 2) * 512 ≤ (i 0).val ∧ (i 0).val < win0_5.index ⟨(i 0).val / 512, hlt⟩ (0 : Fin 2) * 512 + 512; omega
    | ⟨1, _⟩ => show win0_5.index ⟨(i 0).val / 512, hlt⟩ (1 : Fin 2) * 1536 ≤ (i 1).val ∧ (i 1).val < win0_5.index ⟨(i 0).val / 512, hlt⟩ (1 : Fin 2) * 1536 + 1536; omega

/-- The array of output 6. -/
noncomputable def G6 : S8192x1024.Idx → EReal := fun i => H (aX m c) (aN m c) (aW m c) (i 0) (2576 + (i 1).val)

/-- Output 6 moves with the point. -/
theorem idx6 : ∀ t : Fin cfg0.N, win0_6.index t (0 : Fin 2) = t.val ∧ win0_6.index t (1 : Fin 2) = 0 ∧ (cfg0.win 6).flush t = true := by decide +kernel

/-- A point's block of output 6. -/
theorem out6_apply (t : Fin cfg0.N) (r : Fin 512) (j : Fin 1024) :
    out0_6 (iblk m c 0 t) (iblk m c 1 t) (iblk m c 2 t) (ix2 r j) = G6 m c (ix2 (rowOf t r) j) := by
  unfold_out out0_6
  rw [View.canon_unit_zero hz]
  refine (payG_apply _ _ _ (holds_ld _ (blk2 m c t) 768 2624 _) (holds_ld _ (blk2 m c t) 256 3392 _) r j).trans ?_
  exact Finset.sum_congr rfl fun k _ => congrArg (· * _) (u_apply m c t r k)

/-- Output 6 after the run. -/
theorem final6 : (dats m 0 c).arrAt 6 cfg0.N = G6 m c := by
  refine (dats m 0 c).arrAt_eq_of_cover 6 _ (fun t hf => ?_) (fun i => ?_)
  · rw [flushed6]
    obtain ⟨e0, e1, -⟩ := idx6 t
    funext y
    have hy0 : (y 0).val < 512 := (y 0).isLt
    have hy1 : (y 1).val < 1024 := (y 1).isLt
    have hl : (cfg0.win 6).xinj (grid0.coords t) y = (ix2 (⟨(y 0).val, hy0⟩ : Fin 512) (⟨(y 1).val, hy1⟩ : Fin 1024) : S512x1024.Idx) := by
      funext a; apply Fin.ext
      match a with
      | ⟨0, _⟩ => rfl
      | ⟨1, _⟩ => rfl
    have he : ((cfg0.win 6).blk t).view.emb y = (ix2 (rowOf t ⟨(y 0).val, hy0⟩) (⟨(y 1).val, hy1⟩ : Fin 1024) : S8192x1024.Idx) := by
      funext a; apply Fin.ext
      match a with
      | ⟨0, _⟩ => show win0_6.index t (0 : Fin 2) * 512 + 1 * (y 0).val = 512 * t.val + (y 0).val; omega
      | ⟨1, _⟩ => show win0_6.index t (1 : Fin 2) * 1024 + 1 * (y 1).val = (y 1).val; omega
    show out0_6 (iblk m c 0 t) (iblk m c 1 t) (iblk m c 2 t) ((cfg0.win 6).xinj (grid0.coords t) y) = G6 m c (((cfg0.win 6).blk t).view.emb y)
    rw [hl, he, out6_apply]
  · have h0 : (i 0).val < 8192 := (i 0).isLt
    have h1 : (i 1).val < 1024 := (i 1).isLt
    have hlt : (i 0).val / 512 < cfg0.N := lt_of_lt_of_eq (by omega) N_0.symm
    obtain ⟨e0, e1, hf⟩ := idx6 ⟨(i 0).val / 512, hlt⟩
    have e0' : win0_6.index ⟨(i 0).val / 512, hlt⟩ (0 : Fin 2) = (i 0).val / 512 := e0
    refine ⟨⟨(i 0).val / 512, hlt⟩, hf, ?_⟩
    show i ∈ ((View.whole main_v28_3).slice (win0_6.rect ⟨(i 0).val / 512, hlt⟩)).set
    rw [View.set_slice_whole, Rect.mem_set_unit]
    intro a
    match a with
    | ⟨0, _⟩ => show win0_6.index ⟨(i 0).val / 512, hlt⟩ (0 : Fin 2) * 512 ≤ (i 0).val ∧ (i 0).val < win0_6.index ⟨(i 0).val / 512, hlt⟩ (0 : Fin 2) * 512 + 512; omega
    | ⟨1, _⟩ => show win0_6.index ⟨(i 0).val / 512, hlt⟩ (1 : Fin 2) * 1024 ≤ (i 1).val ∧ (i 1).val < win0_6.index ⟨(i 0).val / 512, hlt⟩ (1 : Fin 2) * 1024 + 1024; omega

/-- The array of output 7. -/
noncomputable def G7 : S8192x3072.Idx → EReal := fun i => H (aX m c) (aN m c) (aW m c) (i 0) (3600 + (i 1).val)

/-- Output 7 moves with the point. -/
theorem idx7 : ∀ t : Fin cfg0.N, win0_7.index t (0 : Fin 2) = t.val ∧ win0_7.index t (1 : Fin 2) = 0 ∧ (cfg0.win 7).flush t = true := by decide +kernel

/-- A point's block of output 7. -/
theorem out7_apply (t : Fin cfg0.N) (r : Fin 512) (j : Fin 3072) :
    out0_7 (iblk m c 0 t) (iblk m c 1 t) (iblk m c 2 t) (ix2 r j) = G7 m c (ix2 (rowOf t r) j) := by
  unfold_out out0_7
  rw [View.canon_unit_zero hz]
  refine (payQ_apply _ _ _ _ _ _ _ _ _ _ _ (holds_ld _ (blk2 m c t) 576 3648 _) (holds_ld _ (blk2 m c t) 16 4224 _) (holds_ld _ (blk2 m c t) 16 4240 _) (holds_ld _ (blk2 m c t) 816 4256 _) (holds_ld _ (blk2 m c t) 16 5072 _) (holds_ld _ (blk2 m c t) 16 5088 _) (holds_ld _ (blk2 m c t) 816 5104 _) (holds_ld _ (blk2 m c t) 16 5920 _) (holds_ld _ (blk2 m c t) 16 5936 _) (holds_ld _ (blk2 m c t) 816 5952 _) r j).trans ?_
  exact Finset.sum_congr rfl fun k _ => congrArg (· * _) (u_apply m c t r k)

/-- Output 7 after the run. -/
theorem final7 : (dats m 0 c).arrAt 7 cfg0.N = G7 m c := by
  refine (dats m 0 c).arrAt_eq_of_cover 7 _ (fun t hf => ?_) (fun i => ?_)
  · rw [flushed7]
    obtain ⟨e0, e1, -⟩ := idx7 t
    funext y
    have hy0 : (y 0).val < 512 := (y 0).isLt
    have hy1 : (y 1).val < 3072 := (y 1).isLt
    have hl : (cfg0.win 7).xinj (grid0.coords t) y = (ix2 (⟨(y 0).val, hy0⟩ : Fin 512) (⟨(y 1).val, hy1⟩ : Fin 3072) : S512x3072.Idx) := by
      funext a; apply Fin.ext
      match a with
      | ⟨0, _⟩ => rfl
      | ⟨1, _⟩ => rfl
    have he : ((cfg0.win 7).blk t).view.emb y = (ix2 (rowOf t ⟨(y 0).val, hy0⟩) (⟨(y 1).val, hy1⟩ : Fin 3072) : S8192x3072.Idx) := by
      funext a; apply Fin.ext
      match a with
      | ⟨0, _⟩ => show win0_7.index t (0 : Fin 2) * 512 + 1 * (y 0).val = 512 * t.val + (y 0).val; omega
      | ⟨1, _⟩ => show win0_7.index t (1 : Fin 2) * 3072 + 1 * (y 1).val = (y 1).val; omega
    show out0_7 (iblk m c 0 t) (iblk m c 1 t) (iblk m c 2 t) ((cfg0.win 7).xinj (grid0.coords t) y) = G7 m c (((cfg0.win 7).blk t).view.emb y)
    rw [hl, he, out7_apply]
  · have h0 : (i 0).val < 8192 := (i 0).isLt
    have h1 : (i 1).val < 3072 := (i 1).isLt
    have hlt : (i 0).val / 512 < cfg0.N := lt_of_lt_of_eq (by omega) N_0.symm
    obtain ⟨e0, e1, hf⟩ := idx7 ⟨(i 0).val / 512, hlt⟩
    have e0' : win0_7.index ⟨(i 0).val / 512, hlt⟩ (0 : Fin 2) = (i 0).val / 512 := e0
    refine ⟨⟨(i 0).val / 512, hlt⟩, hf, ?_⟩
    show i ∈ ((View.whole main_v28_4).slice (win0_7.rect ⟨(i 0).val / 512, hlt⟩)).set
    rw [View.set_slice_whole, Rect.mem_set_unit]
    intro a
    match a with
    | ⟨0, _⟩ => show win0_7.index ⟨(i 0).val / 512, hlt⟩ (0 : Fin 2) * 512 ≤ (i 0).val ∧ (i 0).val < win0_7.index ⟨(i 0).val / 512, hlt⟩ (0 : Fin 2) * 512 + 512; omega
    | ⟨1, _⟩ => show win0_7.index ⟨(i 0).val / 512, hlt⟩ (1 : Fin 2) * 3072 ≤ (i 1).val ∧ (i 1).val < win0_7.index ⟨(i 0).val / 512, hlt⟩ (1 : Fin 2) * 3072 + 3072; omega

/-- The array of output 8. -/
noncomputable def G8 : S8192x128.Idx → EReal := fun i => HS (aX m c) (aN m c) (aW m c) (i 0) (i 1).val

/-- Output 8 moves with the point. -/
theorem idx8 : ∀ t : Fin cfg0.N, win0_8.index t (0 : Fin 2) = t.val ∧ win0_8.index t (1 : Fin 2) = 0 ∧ (cfg0.win 8).flush t = true := by decide +kernel

/-- A point's block of output 8. -/
theorem out8_apply (t : Fin cfg0.N) (r : Fin 512) (j : Fin 128) :
    out0_8 (iblk m c 0 t) (iblk m c 1 t) (iblk m c 2 t) (ix2 r j) = G8 m c (ix2 (rowOf t r) j) := by
  unfold_out out0_8
  rw [View.canon_unit_zero hz]
  refine (payS_apply _ _ _ (holds_ld _ (blk2 m c t) 16 2608 _) (holds_ld _ (blk2 m c t) 16 6768 _) r j).trans ?_
  exact Finset.sum_congr rfl fun k _ => congrArg (· * _) (u_apply m c t r k)

/-- Output 8 after the run. -/
theorem final8 : (dats m 0 c).arrAt 8 cfg0.N = G8 m c := by
  refine (dats m 0 c).arrAt_eq_of_cover 8 _ (fun t hf => ?_) (fun i => ?_)
  · rw [flushed8]
    obtain ⟨e0, e1, -⟩ := idx8 t
    funext y
    have hy0 : (y 0).val < 512 := (y 0).isLt
    have hy1 : (y 1).val < 128 := (y 1).isLt
    have hl : (cfg0.win 8).xinj (grid0.coords t) y = (ix2 (⟨(y 0).val, hy0⟩ : Fin 512) (⟨(y 1).val, hy1⟩ : Fin 128) : S512x128.Idx) := by
      funext a; apply Fin.ext
      match a with
      | ⟨0, _⟩ => rfl
      | ⟨1, _⟩ => rfl
    have he : ((cfg0.win 8).blk t).view.emb y = (ix2 (rowOf t ⟨(y 0).val, hy0⟩) (⟨(y 1).val, hy1⟩ : Fin 128) : S8192x128.Idx) := by
      funext a; apply Fin.ext
      match a with
      | ⟨0, _⟩ => show win0_8.index t (0 : Fin 2) * 512 + 1 * (y 0).val = 512 * t.val + (y 0).val; omega
      | ⟨1, _⟩ => show win0_8.index t (1 : Fin 2) * 128 + 1 * (y 1).val = (y 1).val; omega
    show out0_8 (iblk m c 0 t) (iblk m c 1 t) (iblk m c 2 t) ((cfg0.win 8).xinj (grid0.coords t) y) = G8 m c (((cfg0.win 8).blk t).view.emb y)
    rw [hl, he, out8_apply]
  · have h0 : (i 0).val < 8192 := (i 0).isLt
    have h1 : (i 1).val < 128 := (i 1).isLt
    have hlt : (i 0).val / 512 < cfg0.N := lt_of_lt_of_eq (by omega) N_0.symm
    obtain ⟨e0, e1, hf⟩ := idx8 ⟨(i 0).val / 512, hlt⟩
    have e0' : win0_8.index ⟨(i 0).val / 512, hlt⟩ (0 : Fin 2) = (i 0).val / 512 := e0
    refine ⟨⟨(i 0).val / 512, hlt⟩, hf, ?_⟩
    show i ∈ ((View.whole main_v28_5).slice (win0_8.rect ⟨(i 0).val / 512, hlt⟩)).set
    rw [View.set_slice_whole, Rect.mem_set_unit]
    intro a
    match a with
    | ⟨0, _⟩ => show win0_8.index ⟨(i 0).val / 512, hlt⟩ (0 : Fin 2) * 512 ≤ (i 0).val ∧ (i 0).val < win0_8.index ⟨(i 0).val / 512, hlt⟩ (0 : Fin 2) * 512 + 512; omega
    | ⟨1, _⟩ => show win0_8.index ⟨(i 0).val / 512, hlt⟩ (1 : Fin 2) * 128 ≤ (i 1).val ∧ (i 1).val < win0_8.index ⟨(i 0).val / 512, hlt⟩ (1 : Fin 2) * 128 + 128; omega

end Cert.Kernel8Ideal.In
-- ==== Proof.In8Alg.lean ====
module

public import proofs.«01_k».proof.Proof.In8Val
public import proofs.«01_k».proof.Proof.Gen.Reference8Ideal.Read

/-!
# The in-projection: kernel and reference agree

The reference multiplies the normalised rows with the whole weight and cuts the product into groups of columns.
-/

@[expose] public section

set_option maxRecDepth 100000

namespace Cert.InAlg8

open Cert.Kernel8Ideal Cert.Kernel8Ideal.Gen Cert.Kernel8Ideal.Value Cert.Kernel8Ideal.In Cert.InMath
open Idealize.ShloMosaic Idealize.ShloMosaic.TcCoe Idealize.SL.Sem
open Cert.Reference8Ideal.Read

section
variable (x0 : S8192x1024.Idx → EReal) (x1 : S1024.Idx → EReal) (x2 : S1024x6688.Idx → EReal)

/-- The reference's normalised rows. -/
theorem ref_v12 (r : Fin 8192) (k : Fin 1024) : val_main_v12 (F := Ideal) x0 x1 (ix2 r k) = U x0 x1 r k := by
  unfold U
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The reference's whole product. -/
theorem ref_v13 (r : Fin 8192) (n : Fin 6688) : val_main_v13 (F := Ideal) x0 x1 x2 (ix2 r n) = H x0 x1 x2 r n.val := by
  have e : val_main_v13 (F := Ideal) x0 x1 x2 (ix2 r n) = ∑ k, val_main_v12 (F := Ideal) x0 x1 (ix2 r k) * x2 (ix2 k n) := by
    pointwise [val_main_v13]
  rw [e]
  unfold H
  refine Finset.sum_congr rfl fun k _ => ?_
  rw [ref_v12]
  unfold wn
  rw [dif_pos n.isLt]

/-- The columns from 2560 on. -/
theorem ref_v14 (r : Fin 8192) (j : Fin 16) : val_main_v14 (F := Ideal) x0 x1 x2 (ix2 r j) = H x0 x1 x2 r (2560 + j.val) := by
  have e : val_main_v14 (F := Ideal) x0 x1 x2 (ix2 r j) = val_main_v13 (F := Ideal) x0 x1 x2 (ix2 r (⟨2560 + j.val, by have := j.isLt; omega⟩ : Fin 6688)) := by
    pointwise [val_main_v14]
  rw [e, ref_v13]

/-- The columns from 6672 on. -/
theorem ref_v15 (r : Fin 8192) (j : Fin 16) : val_main_v15 (F := Ideal) x0 x1 x2 (ix2 r j) = H x0 x1 x2 r (6672 + j.val) := by
  have e : val_main_v15 (F := Ideal) x0 x1 x2 (ix2 r j) = val_main_v13 (F := Ideal) x0 x1 x2 (ix2 r (⟨6672 + j.val, by have := j.isLt; omega⟩ : Fin 6688)) := by
    pointwise [val_main_v15]
  rw [e, ref_v13]

/-- The columns from 0 on. -/
theorem ref_v19 (r : Fin 8192) (j : Fin 1024) : val_main_v19 (F := Ideal) x0 x1 x2 (ix2 r j) = H x0 x1 x2 r (0 + j.val) := by
  have e : val_main_v19 (F := Ideal) x0 x1 x2 (ix2 r j) = val_main_v13 (F := Ideal) x0 x1 x2 (ix2 r (⟨0 + j.val, by have := j.isLt; omega⟩ : Fin 6688)) := by
    pointwise [val_main_v19]
  rw [e, ref_v13]

/-- The columns from 1024 on. -/
theorem ref_v20 (r : Fin 8192) (j : Fin 1536) : val_main_v20 (F := Ideal) x0 x1 x2 (ix2 r j) = H x0 x1 x2 r (1024 + j.val) := by
  have e : val_main_v20 (F := Ideal) x0 x1 x2 (ix2 r j) = val_main_v13 (F := Ideal) x0 x1 x2 (ix2 r (⟨1024 + j.val, by have := j.isLt; omega⟩ : Fin 6688)) := by
    pointwise [val_main_v20]
  rw [e, ref_v13]

/-- The columns from 2576 on. -/
theorem ref_v21 (r : Fin 8192) (j : Fin 1024) : val_main_v21 (F := Ideal) x0 x1 x2 (ix2 r j) = H x0 x1 x2 r (2576 + j.val) := by
  have e : val_main_v21 (F := Ideal) x0 x1 x2 (ix2 r j) = val_main_v13 (F := Ideal) x0 x1 x2 (ix2 r (⟨2576 + j.val, by have := j.isLt; omega⟩ : Fin 6688)) := by
    pointwise [val_main_v21]
  rw [e, ref_v13]

/-- The columns from 3600 on. -/
theorem ref_v22 (r : Fin 8192) (j : Fin 3072) : val_main_v22 (F := Ideal) x0 x1 x2 (ix2 r j) = H x0 x1 x2 r (3600 + j.val) := by
  have e : val_main_v22 (F := Ideal) x0 x1 x2 (ix2 r j) = val_main_v13 (F := Ideal) x0 x1 x2 (ix2 r (⟨3600 + j.val, by have := j.isLt; omega⟩ : Fin 6688)) := by
    pointwise [val_main_v22]
  rw [e, ref_v13]

/-- The small columns. -/
theorem ref_v17 (r : Fin 8192) (j : Fin 128) : val_main_v17 (F := Ideal) x0 x1 x2 (ix2 r j) = HS x0 x1 x2 r j.val := by
  have hj := j.isLt
  pointwise [val_main_v17]
  split
  · rename_i h
    refine (ref_v14 x0 x1 x2 r _).trans (Finset.sum_congr rfl fun k _ => ?_)
    rw [sm_lo _ k _ h]
  · rename_i h
    split
    · rename_i h'
      refine (ref_v15 x0 x1 x2 r _).trans (Finset.sum_congr rfl fun k _ => ?_)
      rw [sm_mid _ k _ h (by omega)]
      congr 2
      simp only []
      omega
    · have e : HS x0 x1 x2 r j.val = 0 := Finset.sum_eq_zero fun k _ => by rw [sm_hi _ k _ (by omega), mul_zero]
      rw [e]
      pointwise [val_main_v16, val_main_cst_2]

end

variable (m : (ℓ : Loc nD τ sig) → Buf (Elt Ideal) ℓ) (c : Dev nD)

/-- The normalised rows are equal. -/
theorem eq3 : (val_main_v18 (F := Ideal) (aX m c) (aN m c) : S8192x1024.Idx → EReal) = G3 m c := by
  funext i
  rw [← ix2_eta i]
  exact ref_v12 _ _ (i 0) (i 1)

/-- Result 2 is equal. -/
theorem eq4 : (val_main_v19 (F := Ideal) (aX m c) (aN m c) (aW m c) : S8192x1024.Idx → EReal) = G4 m c := by
  funext i
  rw [← ix2_eta i]
  exact ref_v19 _ _ _ (i 0) (i 1)

/-- Result 3 is equal. -/
theorem eq5 : (val_main_v20 (F := Ideal) (aX m c) (aN m c) (aW m c) : S8192x1536.Idx → EReal) = G5 m c := by
  funext i
  rw [← ix2_eta i]
  exact ref_v20 _ _ _ (i 0) (i 1)

/-- Result 4 is equal. -/
theorem eq6 : (val_main_v21 (F := Ideal) (aX m c) (aN m c) (aW m c) : S8192x1024.Idx → EReal) = G6 m c := by
  funext i
  rw [← ix2_eta i]
  exact ref_v21 _ _ _ (i 0) (i 1)

/-- Result 5 is equal. -/
theorem eq7 : (val_main_v22 (F := Ideal) (aX m c) (aN m c) (aW m c) : S8192x3072.Idx → EReal) = G7 m c := by
  funext i
  rw [← ix2_eta i]
  exact ref_v22 _ _ _ (i 0) (i 1)

/-- Result 6 is equal. -/
theorem eq8 : (val_main_v17 (F := Ideal) (aX m c) (aN m c) (aW m c) : S8192x128.Idx → EReal) = G8 m c := by
  funext i
  rw [← ix2_eta i]
  exact ref_v17 _ _ _ (i 0) (i 1)

end Cert.InAlg8
-- ==== Proof.SmallBody.lean ====
module

public import proofs.«01_k».proof.Proof.Gen.Kernel10Ideal.Launch
public import proofs.«01_k».proof.Proof.Gen.Kernel10Ideal.Skeleton
public import proofs.«01_k».proof.Proof.Gen.Kernel10Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-!
# The small weights' optimiser step: the body (idealized kernel)

The launch has one point and no copies of its own. Every load and store is of a fixed rectangle; each output is
a function of the received slabs and of its own weight and moments.
-/

@[expose] public section

set_option maxRecDepth 100000

noncomputable section

namespace Cert.Kernel10Ideal.Sm

open Cert.Kernel10Ideal Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The arrays on entry: as launched. -/
abbrev V (c : Dev nD) (b : Ref sig .tc) : Buf (Elt F) ((c : Thread nD τ).loc b) := m ((c : Thread nD τ).loc b)

set_option maxHeartbeats 800000 in
/-- The program is the one launch. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl
theorem V_main_arg21 (c : Dev nD) : V m c main_arg21 = m ((c : Thread nD τ).loc main_arg21) := rfl
theorem V_main_arg22 (c : Dev nD) : V m c main_arg22 = m ((c : Thread nD τ).loc main_arg22) := rfl
theorem V_main_arg23 (c : Dev nD) : V m c main_arg23 = m ((c : Thread nD τ).loc main_arg23) := rfl
theorem V_main_arg24 (c : Dev nD) : V m c main_arg24 = m ((c : Thread nD τ).loc main_arg24) := rfl
theorem V_main_arg25 (c : Dev nD) : V m c main_arg25 = m ((c : Thread nD τ).loc main_arg25) := rfl
theorem V_main_arg26 (c : Dev nD) : V m c main_arg26 = m ((c : Thread nD τ).loc main_arg26) := rfl
theorem V_main_arg27 (c : Dev nD) : V m c main_arg27 = m ((c : Thread nD τ).loc main_arg27) := rfl
theorem V_main_arg28 (c : Dev nD) : V m c main_arg28 = m ((c : Thread nD τ).loc main_arg28) := rfl
theorem V_main_arg29 (c : Dev nD) : V m c main_arg29 = m ((c : Thread nD τ).loc main_arg29) := rfl
theorem V_main_arg30 (c : Dev nD) : V m c main_arg30 = m ((c : Thread nD τ).loc main_arg30) := rfl
theorem V_main_arg31 (c : Dev nD) : V m c main_arg31 = m ((c : Thread nD τ).loc main_arg31) := rfl
theorem V_main_arg32 (c : Dev nD) : V m c main_arg32 = m ((c : Thread nD τ).loc main_arg32) := rfl
theorem V_main_arg33 (c : Dev nD) : V m c main_arg33 = m ((c : Thread nD τ).loc main_arg33) := rfl
theorem V_main_arg34 (c : Dev nD) : V m c main_arg34 = m ((c : Thread nD τ).loc main_arg34) := rfl
theorem V_main_arg35 (c : Dev nD) : V m c main_arg35 = m ((c : Thread nD τ).loc main_arg35) := rfl
theorem V_main_arg36 (c : Dev nD) : V m c main_arg36 = m ((c : Thread nD τ).loc main_arg36) := rfl

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
theorem before0_29_of {c : Dev nD} (dat : Dat τ (Elt F) Unit ℕ (UR sig nD τ) ℕ cfg0 c) (hA : dat.A 29 = V m c (Pipeline.arrRef spec0 29))
    (hafter : ∀ t, dat.after 29 t = iblk m c 29 t) (t : Fin cfg0.N) (d) : dat.before 29 t d = iblk m c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
theorem before0_30_of {c : Dev nD} (dat : Dat τ (Elt F) Unit ℕ (UR sig nD τ) ℕ cfg0 c) (hA : dat.A 30 = V m c (Pipeline.arrRef spec0 30))
    (hafter : ∀ t, dat.after 30 t = iblk m c 30 t) (t : Fin cfg0.N) (d) : dat.before 30 t d = iblk m c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)
theorem before0_31_of {c : Dev nD} (dat : Dat τ (Elt F) Unit ℕ (UR sig nD τ) ℕ cfg0 c) (hA : dat.A 31 = V m c (Pipeline.arrRef spec0 31))
    (hafter : ∀ t, dat.after 31 t = iblk m c 31 t) (t : Fin cfg0.N) (d) : dat.before 31 t d = iblk m c 31 t :=
  (dat.before_in_eq_fetched 31 rfl (fun _ => rfl) (fun _ _ _ => rfl) (fun t => by rw [hafter]; unfold Dat.blockOf iblk; rw [hA]; try rfl) t d).trans
    (by unfold Dat.fetched Dat.blockOf iblk; rw [hA]; try rfl)
theorem before0_32_of {c : Dev nD} (dat : Dat τ (Elt F) Unit ℕ (UR sig nD τ) ℕ cfg0 c) (hA : dat.A 32 = V m c (Pipeline.arrRef spec0 32))
    (hafter : ∀ t, dat.after 32 t = iblk m c 32 t) (t : Fin cfg0.N) (d) : dat.before 32 t d = iblk m c 32 t :=
  (dat.before_in_eq_fetched 32 rfl (fun _ => rfl) (fun _ _ _ => rfl) (fun t => by rw [hafter]; unfold Dat.blockOf iblk; rw [hA]; try rfl) t d).trans
    (by unfold Dat.fetched Dat.blockOf iblk; rw [hA]; try rfl)
theorem before0_33_of {c : Dev nD} (dat : Dat τ (Elt F) Unit ℕ (UR sig nD τ) ℕ cfg0 c) (hA : dat.A 33 = V m c (Pipeline.arrRef spec0 33))
    (hafter : ∀ t, dat.after 33 t = iblk m c 33 t) (t : Fin cfg0.N) (d) : dat.before 33 t d = iblk m c 33 t :=
  (dat.before_in_eq_fetched 33 rfl (fun _ => rfl) (fun _ _ _ => rfl) (fun t => by rw [hafter]; unfold Dat.blockOf iblk; rw [hA]; try rfl) t d).trans
    (by unfold Dat.fetched Dat.blockOf iblk; rw [hA]; try rfl)
theorem before0_34_of {c : Dev nD} (dat : Dat τ (Elt F) Unit ℕ (UR sig nD τ) ℕ cfg0 c) (hA : dat.A 34 = V m c (Pipeline.arrRef spec0 34))
    (hafter : ∀ t, dat.after 34 t = iblk m c 34 t) (t : Fin cfg0.N) (d) : dat.before 34 t d = iblk m c 34 t :=
  (dat.before_in_eq_fetched 34 rfl (fun _ => rfl) (fun _ _ _ => rfl) (fun t => by rw [hafter]; unfold Dat.blockOf iblk; rw [hA]; try rfl) t d).trans
    (by unfold Dat.fetched Dat.blockOf iblk; rw [hA]; try rfl)
theorem before0_35_of {c : Dev nD} (dat : Dat τ (Elt F) Unit ℕ (UR sig nD τ) ℕ cfg0 c) (hA : dat.A 35 = V m c (Pipeline.arrRef spec0 35))
    (hafter : ∀ t, dat.after 35 t = iblk m c 35 t) (t : Fin cfg0.N) (d) : dat.before 35 t d = iblk m c 35 t :=
  (dat.before_in_eq_fetched 35 rfl (fun _ => rfl) (fun _ _ _ => rfl) (fun t => by rw [hafter]; unfold Dat.blockOf iblk; rw [hA]; try rfl) t d).trans
    (by unfold Dat.fetched Dat.blockOf iblk; rw [hA]; try rfl)
theorem before0_36_of {c : Dev nD} (dat : Dat τ (Elt F) Unit ℕ (UR sig nD τ) ℕ cfg0 c) (hA : dat.A 36 = V m c (Pipeline.arrRef spec0 36))
    (hafter : ∀ t, dat.after 36 t = iblk m c 36 t) (t : Fin cfg0.N) (d) : dat.before 36 t d = iblk m c 36 t :=
  (dat.before_in_eq_fetched 36 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 5160000 in
/-- From what the run leaves in every array, the claim that the arguments end unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c))),
      ((h c).1 20).trans (((dats 0 c).arrAt_in 20 rfl _).trans ((hA c 20).trans (V_main_arg20 m c))),
      ((h c).1 21).trans (((dats 0 c).arrAt_in 21 rfl _).trans ((hA c 21).trans (V_main_arg21 m c))),
      ((h c).1 22).trans (((dats 0 c).arrAt_in 22 rfl _).trans ((hA c 22).trans (V_main_arg22 m c))),
      ((h c).1 23).trans (((dats 0 c).arrAt_in 23 rfl _).trans ((hA c 23).trans (V_main_arg23 m c))),
      ((h c).1 24).trans (((dats 0 c).arrAt_in 24 rfl _).trans ((hA c 24).trans (V_main_arg24 m c))),
      ((h c).1 25).trans (((dats 0 c).arrAt_in 25 rfl _).trans ((hA c 25).trans (V_main_arg25 m c))),
      ((h c).1 26).trans (((dats 0 c).arrAt_in 26 rfl _).trans ((hA c 26).trans (V_main_arg26 m c))),
      ((h c).1 27).trans (((dats 0 c).arrAt_in 27 rfl _).trans ((hA c 27).trans (V_main_arg27 m c))),
      ((h c).1 28).trans (((dats 0 c).arrAt_in 28 rfl _).trans ((hA c 28).trans (V_main_arg28 m c))),
      ((h c).1 29).trans (((dats 0 c).arrAt_in 29 rfl _).trans ((hA c 29).trans (V_main_arg29 m c))),
      ((h c).1 30).trans (((dats 0 c).arrAt_in 30 rfl _).trans ((hA c 30).trans (V_main_arg30 m c))),
      ((h c).1 31).trans (((dats 0 c).arrAt_in 31 rfl _).trans ((hA c 31).trans (V_main_arg31 m c))),
      ((h c).1 32).trans (((dats 0 c).arrAt_in 32 rfl _).trans ((hA c 32).trans (V_main_arg32 m c))),
      ((h c).1 33).trans (((dats 0 c).arrAt_in 33 rfl _).trans ((hA c 33).trans (V_main_arg33 m c))),
      ((h c).1 34).trans (((dats 0 c).arrAt_in 34 rfl _).trans ((hA c 34).trans (V_main_arg34 m c))),
      ((h c).1 35).trans (((dats 0 c).arrAt_in 35 rfl _).trans ((hA c 35).trans (V_main_arg35 m c))),
      ((h c).1 36).trans (((dats 0 c).arrAt_in 36 rfl _).trans ((hA c 36).trans (V_main_arg36 m c)))⟩) h

/-! ## The body's accesses -/

abbrev r0_0 : Rect S8x1x8064 := Rect.unit (s := S8x1x8064) ![0, 0, 0] S1x1x8064.size inb_S8x1x8064_S1x1x8064_0_0_0
abbrev r0_1 : Rect S8x1x8064 := Rect.unit (s := S8x1x8064) ![1, 0, 0] S1x1x8064.size inb_S8x1x8064_S1x1x8064_1_0_0
abbrev r0_2 : Rect S8x1x8064 := Rect.unit (s := S8x1x8064) ![2, 0, 0] S1x1x8064.size inb_S8x1x8064_S1x1x8064_2_0_0
abbrev r0_3 : Rect S8x1x8064 := Rect.unit (s := S8x1x8064) ![3, 0, 0] S1x1x8064.size inb_S8x1x8064_S1x1x8064_3_0_0
abbrev r0_4 : Rect S8x1x8064 := Rect.unit (s := S8x1x8064) ![4, 0, 0] S1x1x8064.size inb_S8x1x8064_S1x1x8064_4_0_0
abbrev r0_5 : Rect S8x1x8064 := Rect.unit (s := S8x1x8064) ![5, 0, 0] S1x1x8064.size inb_S8x1x8064_S1x1x8064_5_0_0
abbrev r0_6 : Rect S8x1x8064 := Rect.unit (s := S8x1x8064) ![6, 0, 0] S1x1x8064.size inb_S8x1x8064_S1x1x8064_6_0_0
abbrev r0_7 : Rect S8x1x8064 := Rect.unit (s := S8x1x8064) ![7, 0, 0] S1x1x8064.size inb_S8x1x8064_S1x1x8064_7_0_0
abbrev r0_8 : Rect S1x128 := Rect.unit (s := S1x128) ![0, 0] S1x128.size inb_S1x128_S1x128_0_0
abbrev r0_9 : Rect S1x1024 := Rect.unit (s := S1x1024) ![0, 0] S1x1024.size inb_S1x1024_S1x1024_0_0
abbrev r0_10 : Rect S1x1536 := Rect.unit (s := S1x1536) ![0, 0] S1x1536.size inb_S1x1536_S1x1536_0_0
abbrev r0_11 : Rect S1x16 := Rect.unit (s := S1x16) ![0, 0] S1x16.size inb_S1x16_S1x16_0_0
abbrev r0_12 : Rect S1x8 := Rect.unit (s := S1x8) ![0, 0] S1x8.size inb_S1x8_S1x8_0_0
abbrev r0_13 : Rect S1x4x192 := Rect.unit (s := S1x4x192) ![0, 0, 0] S1x1x192.size inb_S1x4x192_S1x1x192_0_0_0
abbrev r0_14 : Rect S1x4x192 := Rect.unit (s := S1x4x192) ![0, 1, 0] S1x1x192.size inb_S1x4x192_S1x1x192_0_1_0
abbrev r0_15 : Rect S1x4x192 := Rect.unit (s := S1x4x192) ![0, 2, 0] S1x1x192.size inb_S1x4x192_S1x1x192_0_2_0
abbrev r0_16 : Rect S1x4x192 := Rect.unit (s := S1x4x192) ![0, 3, 0] S1x1x192.size inb_S1x4x192_S1x1x192_0_3_0
abbrev r0_17 : Rect S1x4x384 := Rect.unit (s := S1x4x384) ![0, 0, 0] S1x1x384.size inb_S1x4x384_S1x1x384_0_0_0
abbrev r0_18 : Rect S1x4x384 := Rect.unit (s := S1x4x384) ![0, 1, 0] S1x1x384.size inb_S1x4x384_S1x1x384_0_1_0
abbrev r0_19 : Rect S1x4x384 := Rect.unit (s := S1x4x384) ![0, 2, 0] S1x1x384.size inb_S1x4x384_S1x1x384_0_2_0
abbrev r0_20 : Rect S1x4x384 := Rect.unit (s := S1x4x384) ![0, 3, 0] S1x1x384.size inb_S1x4x384_S1x1x384_0_3_0

/-! ## What the body leaves in each output window's buffer -/

/-! ### Values that several stores share -/

def k0_pay126 (x0 : Vec F S8x1x8064 .f32) : FVec F S1x8064 .f32 :=
  k0_pay4 (View.ld x0 r0_0) (View.ld x0 r0_1) (View.ld x0 r0_2) (View.ld x0 r0_3) (View.ld x0 r0_4) (View.ld x0 r0_5) (View.ld x0 r0_6) (View.ld x0 r0_7)
def k0_pay127 (x0 : Vec F S8x1x8064 .f32) : FVec F S1x1024 .f32 :=
  k0_pay6 (View.ld x0 r0_0) (View.ld x0 r0_1) (View.ld x0 r0_2) (View.ld x0 r0_3) (View.ld x0 r0_4) (View.ld x0 r0_5) (View.ld x0 r0_6) (View.ld x0 r0_7)
def k0_pay128 (x0 : Vec F S8x1x8064 .f32) : FVec F S1x1536 .f32 :=
  k0_pay10 (k0_pay126 x0)
def k0_pay129 (x0 : Vec F S8x1x8064 .f32) : FVec F S1x16 .f32 :=
  k0_pay14 (k0_pay126 x0)
def k0_pay130 (x0 : Vec F S8x1x8064 .f32) : FVec F S1x16 .f32 :=
  k0_pay18 (k0_pay126 x0)
def k0_pay131 (x0 : Vec F S8x1x8064 .f32) : FVec F S1x16 .f32 :=
  k0_pay22 (k0_pay126 x0)
def k0_pay132 : FVec F S1x16 .f32 :=
  k0_pay23 (F := F)
def k0_pay133 (x0 : Vec F S8x1x8064 .f32) : FVec F S1x1024 .f32 :=
  k0_pay27 (k0_pay126 x0)
def k0_pay134 (x18 : Vec F S1x1024 .f32) : FVec F S1x1024 .f32 :=
  k0_pay28 (View.ld x18 r0_9)
def k0_pay135 (x0 : Vec F S8x1x8064 .f32) : FVec F S1x8 .f32 :=
  k0_pay32 (k0_pay126 x0)
def k0_pay136 (x19 : Vec F S1x8 .f32) : FVec F S1x8 .f32 :=
  k0_pay33 (View.ld x19 r0_12)
def k0_pay137 (x0 : Vec F S8x1x8064 .f32) : FVec F S1x8 .f32 :=
  k0_pay37 (k0_pay126 x0)
def k0_pay138 (x20 : Vec F S1x8 .f32) : FVec F S1x8 .f32 :=
  k0_pay38 (View.ld x20 r0_12)
def k0_pay139 : FVec F S1x8 .f32 :=
  k0_pay39 (F := F)
def k0_pay140 (x0 : Vec F S8x1x8064 .f32) : FVec F S1x128 .f32 :=
  k0_pay43 (k0_pay126 x0)
def k0_pay141 (x21 : Vec F S1x128 .f32) : FVec F S1x128 .f32 :=
  k0_pay44 (View.ld x21 r0_8)
def k0_pay142 (x0 : Vec F S8x1x8064 .f32) : FVec F S1x128 .f32 :=
  k0_pay45 (k0_pay126 x0)
def k0_pay143 (x0 : Vec F S8x1x8064 .f32) : FVec F S1x1024 .f32 :=
  k0_pay49 (k0_pay126 x0)
def k0_pay144 (x0 : Vec F S8x1x8064 .f32) (x22 : Vec F S1x1024 .f32) : FVec F S1x1024 .f32 :=
  k0_pay50 (k0_pay126 x0) (View.ld x22 r0_9)
def k0_pay145 (x0 : Vec F S8x1x8064 .f32) : FVec F S1x192 .f32 :=
  k0_pay53 (k0_pay126 x0)
def k0_pay146 (x23 : Vec F S1x4x192 .f32) : FVec F S1x192 .f32 :=
  k0_pay55 (View.ld x23 r0_13)
def k0_pay147 (x35 : Vec F S1x4x192 .f32) : FVec F S1x192 .f32 :=
  k0_pay56 (View.ld x35 r0_13)
def k0_pay148 : FVec F S1x192 .f32 :=
  k0_pay57 (F := F)
def k0_pay149 (x0 : Vec F S8x1x8064 .f32) : FVec F S1x192 .f32 :=
  k0_pay64 (k0_pay126 x0)
def k0_pay150 (x0 : Vec F S8x1x8064 .f32) (x23 : Vec F S1x4x192 .f32) : FVec F S1x192 .f32 :=
  k0_pay84 (k0_pay126 x0) (View.ld x23 r0_16)
def k0_pay151 (x35 : Vec F S1x4x192 .f32) : FVec F S1x192 .f32 :=
  k0_pay85 (View.ld x35 r0_16)
def k0_pay152 (x0 : Vec F S8x1x8064 .f32) : FVec F S1x192 .f32 :=
  k0_pay86 (k0_pay126 x0)
def k0_pay153 (x0 : Vec F S8x1x8064 .f32) : FVec F S1x384 .f32 :=
  k0_pay92 (k0_pay126 x0)
def k0_pay154 (x0 : Vec F S8x1x8064 .f32) (x36 : Vec F S1x4x384 .f32) : FVec F S1x384 .f32 :=
  k0_pay111 (k0_pay126 x0) (View.ld x36 r0_19)
def k0_pay155 (x0 : Vec F S8x1x8064 .f32) : FVec F S1x384 .f32 :=
  k0_pay118 (k0_pay126 x0)
def k0_pay156 (x36 : Vec F S1x4x384 .f32) : FVec F S1x384 .f32 :=
  k0_pay120 (View.ld x36 r0_20)
def k0_pay157 (x24 : Vec F S1x4x384 .f32) : FVec F S1x384 .f32 :=
  k0_pay121 (View.ld x24 r0_20)

/-- What output window 37 ends holding. -/
def out0_37 (x0 : Vec F S8x1x8064 .f32) : Vec F S1x1024 .f32 :=
  View.canon [⟨r0_9, k0_pay127 x0⟩]

/-- The stores of window 37 cover it. -/
theorem cover0_37 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What output window 38 ends holding. -/
def out0_38 (x0 : Vec F S8x1x8064 .f32) (x1 x13 x25 : Vec F S1x1024 .f32) : Vec F S1x1024 .f32 :=
  View.canon [⟨r0_9, k0_pay9 (k0_pay127 x0) (View.ld x1 r0_9) (View.ld x13 r0_9) (View.ld x25 r0_9)⟩]

/-- The stores of window 38 cover it. -/
theorem cover0_38 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What output window 39 ends holding. -/
def out0_39 (x0 : Vec F S8x1x8064 .f32) (x13 : Vec F S1x1024 .f32) : Vec F S1x1024 .f32 :=
  View.canon [⟨r0_9, k0_pay7 (k0_pay127 x0) (View.ld x13 r0_9)⟩]

/-- The stores of window 39 cover it. -/
theorem cover0_39 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What output window 40 ends holding. -/
def out0_40 (x0 : Vec F S8x1x8064 .f32) (x25 : Vec F S1x1024 .f32) : Vec F S1x1024 .f32 :=
  View.canon [⟨r0_9, k0_pay8 (k0_pay127 x0) (View.ld x25 r0_9)⟩]

/-- The stores of window 40 cover it. -/
theorem cover0_40 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What output window 41 ends holding. -/
def out0_41 (x0 : Vec F S8x1x8064 .f32) : Vec F S1x1536 .f32 :=
  View.canon [⟨r0_10, k0_pay128 x0⟩]

/-- The stores of window 41 cover it. -/
theorem cover0_41 (p0 : Vec F S1x1536 .f32) (y : S1x1536.Idx) :
    ∃ pc ∈ ([⟨r0_10, p0⟩] : List (View.Piece (Elt F) S1x1536 .f32)), y ∈ pc.1.set :=
  View.cover_of_tiled [⟨r0_10, p0⟩] S1x1536.size (by rfl) y

/-- What output window 42 ends holding. -/
def out0_42 (x0 : Vec F S8x1x8064 .f32) (x2 x14 x26 : Vec F S1x1536 .f32) : Vec F S1x1536 .f32 :=
  View.canon [⟨r0_10, k0_pay13 (k0_pay128 x0) (View.ld x2 r0_10) (View.ld x14 r0_10) (View.ld x26 r0_10)⟩]

/-- The stores of window 42 cover it. -/
theorem cover0_42 (p0 : Vec F S1x1536 .f32) (y : S1x1536.Idx) :
    ∃ pc ∈ ([⟨r0_10, p0⟩] : List (View.Piece (Elt F) S1x1536 .f32)), y ∈ pc.1.set :=
  View.cover_of_tiled [⟨r0_10, p0⟩] S1x1536.size (by rfl) y

/-- What output window 43 ends holding. -/
def out0_43 (x0 : Vec F S8x1x8064 .f32) (x14 : Vec F S1x1536 .f32) : Vec F S1x1536 .f32 :=
  View.canon [⟨r0_10, k0_pay11 (k0_pay128 x0) (View.ld x14 r0_10)⟩]

/-- The stores of window 43 cover it. -/
theorem cover0_43 (p0 : Vec F S1x1536 .f32) (y : S1x1536.Idx) :
    ∃ pc ∈ ([⟨r0_10, p0⟩] : List (View.Piece (Elt F) S1x1536 .f32)), y ∈ pc.1.set :=
  View.cover_of_tiled [⟨r0_10, p0⟩] S1x1536.size (by rfl) y

/-- What output window 44 ends holding. -/
def out0_44 (x0 : Vec F S8x1x8064 .f32) (x26 : Vec F S1x1536 .f32) : Vec F S1x1536 .f32 :=
  View.canon [⟨r0_10, k0_pay12 (k0_pay128 x0) (View.ld x26 r0_10)⟩]

/-- The stores of window 44 cover it. -/
theorem cover0_44 (p0 : Vec F S1x1536 .f32) (y : S1x1536.Idx) :
    ∃ pc ∈ ([⟨r0_10, p0⟩] : List (View.Piece (Elt F) S1x1536 .f32)), y ∈ pc.1.set :=
  View.cover_of_tiled [⟨r0_10, p0⟩] S1x1536.size (by rfl) y

/-- What output window 45 ends holding. -/
def out0_45 (x0 : Vec F S8x1x8064 .f32) : Vec F S1x16 .f32 :=
  View.canon [⟨r0_11, k0_pay129 x0⟩]

/-- The stores of window 45 cover it. -/
theorem cover0_45 (p0 : Vec F S1x16 .f32) (y : S1x16.Idx) :
    ∃ pc ∈ ([⟨r0_11, p0⟩] : List (View.Piece (Elt F) S1x16 .f32)), y ∈ pc.1.set :=
  View.cover_of_tiled [⟨r0_11, p0⟩] S1x16.size (by rfl) y

/-- What output window 46 ends holding. -/
def out0_46 (x0 : Vec F S8x1x8064 .f32) (x3 x15 x27 : Vec F S1x16 .f32) : Vec F S1x16 .f32 :=
  View.canon [⟨r0_11, k0_pay17 (k0_pay129 x0) (View.ld x3 r0_11) (View.ld x15 r0_11) (View.ld x27 r0_11)⟩]

/-- The stores of window 46 cover it. -/
theorem cover0_46 (p0 : Vec F S1x16 .f32) (y : S1x16.Idx) :
    ∃ pc ∈ ([⟨r0_11, p0⟩] : List (View.Piece (Elt F) S1x16 .f32)), y ∈ pc.1.set :=
  View.cover_of_tiled [⟨r0_11, p0⟩] S1x16.size (by rfl) y

/-- What output window 47 ends holding. -/
def out0_47 (x0 : Vec F S8x1x8064 .f32) (x15 : Vec F S1x16 .f32) : Vec F S1x16 .f32 :=
  View.canon [⟨r0_11, k0_pay15 (k0_pay129 x0) (View.ld x15 r0_11)⟩]

/-- The stores of window 47 cover it. -/
theorem cover0_47 (p0 : Vec F S1x16 .f32) (y : S1x16.Idx) :
    ∃ pc ∈ ([⟨r0_11, p0⟩] : List (View.Piece (Elt F) S1x16 .f32)), y ∈ pc.1.set :=
  View.cover_of_tiled [⟨r0_11, p0⟩] S1x16.size (by rfl) y

/-- What output window 48 ends holding. -/
def out0_48 (x0 : Vec F S8x1x8064 .f32) (x27 : Vec F S1x16 .f32) : Vec F S1x16 .f32 :=
  View.canon [⟨r0_11, k0_pay16 (k0_pay129 x0) (View.ld x27 r0_11)⟩]

/-- The stores of window 48 cover it. -/
theorem cover0_48 (p0 : Vec F S1x16 .f32) (y : S1x16.Idx) :
    ∃ pc ∈ ([⟨r0_11, p0⟩] : List (View.Piece (Elt F) S1x16 .f32)), y ∈ pc.1.set :=
  View.cover_of_tiled [⟨r0_11, p0⟩] S1x16.size (by rfl) y

/-- What output window 49 ends holding. -/
def out0_49 (x0 : Vec F S8x1x8064 .f32) : Vec F S1x16 .f32 :=
  View.canon [⟨r0_11, k0_pay130 x0⟩]

/-- The stores of window 49 cover it. -/
theorem cover0_49 (p0 : Vec F S1x16 .f32) (y : S1x16.Idx) :
    ∃ pc ∈ ([⟨r0_11, p0⟩] : List (View.Piece (Elt F) S1x16 .f32)), y ∈ pc.1.set :=
  View.cover_of_tiled [⟨r0_11, p0⟩] S1x16.size (by rfl) y

/-- What output window 50 ends holding. -/
def out0_50 (x0 : Vec F S8x1x8064 .f32) (x4 x16 x28 : Vec F S1x16 .f32) : Vec F S1x16 .f32 :=
  View.canon [⟨r0_11, k0_pay21 (k0_pay130 x0) (View.ld x4 r0_11) (View.ld x16 r0_11) (View.ld x28 r0_11) (Scalar.ofBits .f32 0x3F666666#32)⟩]

/-- The stores of window 50 cover it. -/
theorem cover0_50 (p0 : Vec F S1x16 .f32) (y : S1x16.Idx) :
    ∃ pc ∈ ([⟨r0_11, p0⟩] : List (View.Piece (Elt F) S1x16 .f32)), y ∈ pc.1.set :=
  View.cover_of_tiled [⟨r0_11, p0⟩] S1x16.size (by rfl) y

/-- What output window 51 ends holding. -/
def out0_51 (x0 : Vec F S8x1x8064 .f32) (x16 : Vec F S1x16 .f32) : Vec F S1x16 .f32 :=
  View.canon [⟨r0_11, k0_pay19 (k0_pay130 x0) (View.ld x16 r0_11) (Scalar.ofBits .f32 0x3F666666#32)⟩]

/-- The stores of window 51 cover it. -/
theorem cover0_51 (p0 : Vec F S1x16 .f32) (y : S1x16.Idx) :
    ∃ pc ∈ ([⟨r0_11, p0⟩] : List (View.Piece (Elt F) S1x16 .f32)), y ∈ pc.1.set :=
  View.cover_of_tiled [⟨r0_11, p0⟩] S1x16.size (by rfl) y

/-- What output window 52 ends holding. -/
def out0_52 (x0 : Vec F S8x1x8064 .f32) (x28 : Vec F S1x16 .f32) : Vec F S1x16 .f32 :=
  View.canon [⟨r0_11, k0_pay20 (k0_pay130 x0) (View.ld x28 r0_11)⟩]

/-- The stores of window 52 cover it. -/
theorem cover0_52 (p0 : Vec F S1x16 .f32) (y : S1x16.Idx) :
    ∃ pc ∈ ([⟨r0_11, p0⟩] : List (View.Piece (Elt F) S1x16 .f32)), y ∈ pc.1.set :=
  View.cover_of_tiled [⟨r0_11, p0⟩] S1x16.size (by rfl) y

/-- What output window 53 ends holding. -/
def out0_53 (x0 : Vec F S8x1x8064 .f32) : Vec F S1x16 .f32 :=
  View.canon [⟨r0_11, k0_pay131 x0⟩]

/-- The stores of window 53 cover it. -/
theorem cover0_53 (p0 : Vec F S1x16 .f32) (y : S1x16.Idx) :
    ∃ pc ∈ ([⟨r0_11, p0⟩] : List (View.Piece (Elt F) S1x16 .f32)), y ∈ pc.1.set :=
  View.cover_of_tiled [⟨r0_11, p0⟩] S1x16.size (by rfl) y

/-- What output window 54 ends holding. -/
def out0_54 (x0 : Vec F S8x1x8064 .f32) (x5 x17 x29 : Vec F S1x16 .f32) : Vec F S1x16 .f32 :=
  View.canon [⟨r0_11, k0_pay26 (k0_pay131 x0) (View.ld x5 r0_11) (View.ld x17 r0_11) (View.ld x29 r0_11) (k0_pay132)⟩]

/-- The stores of window 54 cover it. -/
theorem cover0_54 (p0 : Vec F S1x16 .f32) (y : S1x16.Idx) :
    ∃ pc ∈ ([⟨r0_11, p0⟩] : List (View.Piece (Elt F) S1x16 .f32)), y ∈ pc.1.set :=
  View.cover_of_tiled [⟨r0_11, p0⟩] S1x16.size (by rfl) y

/-- What output window 55 ends holding. -/
def out0_55 (x0 : Vec F S8x1x8064 .f32) (x17 : Vec F S1x16 .f32) : Vec F S1x16 .f32 :=
  View.canon [⟨r0_11, k0_pay24 (k0_pay131 x0) (View.ld x17 r0_11) (k0_pay132)⟩]

/-- The stores of window 55 cover it. -/
theorem cover0_55 (p0 : Vec F S1x16 .f32) (y : S1x16.Idx) :
    ∃ pc ∈ ([⟨r0_11, p0⟩] : List (View.Piece (Elt F) S1x16 .f32)), y ∈ pc.1.set :=
  View.cover_of_tiled [⟨r0_11, p0⟩] S1x16.size (by rfl) y

/-- What output window 56 ends holding. -/
def out0_56 (x0 : Vec F S8x1x8064 .f32) (x29 : Vec F S1x16 .f32) : Vec F S1x16 .f32 :=
  View.canon [⟨r0_11, k0_pay25 (k0_pay131 x0) (View.ld x29 r0_11)⟩]

/-- The stores of window 56 cover it. -/
theorem cover0_56 (p0 : Vec F S1x16 .f32) (y : S1x16.Idx) :
    ∃ pc ∈ ([⟨r0_11, p0⟩] : List (View.Piece (Elt F) S1x16 .f32)), y ∈ pc.1.set :=
  View.cover_of_tiled [⟨r0_11, p0⟩] S1x16.size (by rfl) y

/-- What output window 57 ends holding. -/
def out0_57 (x0 : Vec F S8x1x8064 .f32) : Vec F S1x1024 .f32 :=
  View.canon [⟨r0_9, k0_pay133 x0⟩]

/-- The stores of window 57 cover it. -/
theorem cover0_57 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What output window 58 ends holding. -/
def out0_58 (x0 : Vec F S8x1x8064 .f32) (x6 x18 x30 : Vec F S1x1024 .f32) : Vec F S1x1024 .f32 :=
  View.canon [⟨r0_9, k0_pay31 (k0_pay133 x0) (View.ld x6 r0_9) (View.ld x30 r0_9) (k0_pay134 x18)⟩]

/-- The stores of window 58 cover it. -/
theorem cover0_58 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What output window 59 ends holding. -/
def out0_59 (x0 : Vec F S8x1x8064 .f32) (x18 : Vec F S1x1024 .f32) : Vec F S1x1024 .f32 :=
  View.canon [⟨r0_9, k0_pay29 (k0_pay133 x0) (k0_pay134 x18)⟩]

/-- The stores of window 59 cover it. -/
theorem cover0_59 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What output window 60 ends holding. -/
def out0_60 (x0 : Vec F S8x1x8064 .f32) (x30 : Vec F S1x1024 .f32) : Vec F S1x1024 .f32 :=
  View.canon [⟨r0_9, k0_pay30 (k0_pay133 x0) (View.ld x30 r0_9)⟩]

/-- The stores of window 60 cover it. -/
theorem cover0_60 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What output window 61 ends holding. -/
def out0_61 (x0 : Vec F S8x1x8064 .f32) : Vec F S1x8 .f32 :=
  View.canon [⟨r0_12, k0_pay135 x0⟩]

/-- The stores of window 61 cover it. -/
theorem cover0_61 (p0 : Vec F S1x8 .f32) (y : S1x8.Idx) :
    ∃ pc ∈ ([⟨r0_12, p0⟩] : List (View.Piece (Elt F) S1x8 .f32)), y ∈ pc.1.set :=
  View.cover_of_tiled [⟨r0_12, p0⟩] S1x8.size (by rfl) y

/-- What output window 62 ends holding. -/
def out0_62 (x0 : Vec F S8x1x8064 .f32) (x7 x19 x31 : Vec F S1x8 .f32) : Vec F S1x8 .f32 :=
  View.canon [⟨r0_12, k0_pay36 (k0_pay135 x0) (View.ld x7 r0_12) (View.ld x31 r0_12) (k0_pay136 x19) (Scalar.ofBits .f32 0x3DCCCCCD#32)⟩]

/-- The stores of window 62 cover it. -/
theorem cover0_62 (p0 : Vec F S1x8 .f32) (y : S1x8.Idx) :
    ∃ pc ∈ ([⟨r0_12, p0⟩] : List (View.Piece (Elt F) S1x8 .f32)), y ∈ pc.1.set :=
  View.cover_of_tiled [⟨r0_12, p0⟩] S1x8.size (by rfl) y

/-- What output window 63 ends holding. -/
def out0_63 (x0 : Vec F S8x1x8064 .f32) (x19 : Vec F S1x8 .f32) : Vec F S1x8 .f32 :=
  View.canon [⟨r0_12, k0_pay34 (k0_pay135 x0) (k0_pay136 x19) (Scalar.ofBits .f32 0x3DCCCCCD#32)⟩]

/-- The stores of window 63 cover it. -/
theorem cover0_63 (p0 : Vec F S1x8 .f32) (y : S1x8.Idx) :
    ∃ pc ∈ ([⟨r0_12, p0⟩] : List (View.Piece (Elt F) S1x8 .f32)), y ∈ pc.1.set :=
  View.cover_of_tiled [⟨r0_12, p0⟩] S1x8.size (by rfl) y

/-- What output window 64 ends holding. -/
def out0_64 (x0 : Vec F S8x1x8064 .f32) (x31 : Vec F S1x8 .f32) : Vec F S1x8 .f32 :=
  View.canon [⟨r0_12, k0_pay35 (k0_pay135 x0) (View.ld x31 r0_12)⟩]

/-- The stores of window 64 cover it. -/
theorem cover0_64 (p0 : Vec F S1x8 .f32) (y : S1x8.Idx) :
    ∃ pc ∈ ([⟨r0_12, p0⟩] : List (View.Piece (Elt F) S1x8 .f32)), y ∈ pc.1.set :=
  View.cover_of_tiled [⟨r0_12, p0⟩] S1x8.size (by rfl) y

/-- What output window 65 ends holding. -/
def out0_65 (x0 : Vec F S8x1x8064 .f32) : Vec F S1x8 .f32 :=
  View.canon [⟨r0_12, k0_pay137 x0⟩]

/-- The stores of window 65 cover it. -/
theorem cover0_65 (p0 : Vec F S1x8 .f32) (y : S1x8.Idx) :
    ∃ pc ∈ ([⟨r0_12, p0⟩] : List (View.Piece (Elt F) S1x8 .f32)), y ∈ pc.1.set :=
  View.cover_of_tiled [⟨r0_12, p0⟩] S1x8.size (by rfl) y

/-- What output window 66 ends holding. -/
def out0_66 (x0 : Vec F S8x1x8064 .f32) (x8 x20 x32 : Vec F S1x8 .f32) : Vec F S1x8 .f32 :=
  View.canon [⟨r0_12, k0_pay42 (k0_pay137 x0) (View.ld x8 r0_12) (View.ld x32 r0_12) (k0_pay138 x20) (k0_pay139)⟩]

/-- The stores of window 66 cover it. -/
theorem cover0_66 (p0 : Vec F S1x8 .f32) (y : S1x8.Idx) :
    ∃ pc ∈ ([⟨r0_12, p0⟩] : List (View.Piece (Elt F) S1x8 .f32)), y ∈ pc.1.set :=
  View.cover_of_tiled [⟨r0_12, p0⟩] S1x8.size (by rfl) y

/-- What output window 67 ends holding. -/
def out0_67 (x0 : Vec F S8x1x8064 .f32) (x20 : Vec F S1x8 .f32) : Vec F S1x8 .f32 :=
  View.canon [⟨r0_12, k0_pay40 (k0_pay137 x0) (k0_pay138 x20) (k0_pay139)⟩]

/-- The stores of window 67 cover it. -/
theorem cover0_67 (p0 : Vec F S1x8 .f32) (y : S1x8.Idx) :
    ∃ pc ∈ ([⟨r0_12, p0⟩] : List (View.Piece (Elt F) S1x8 .f32)), y ∈ pc.1.set :=
  View.cover_of_tiled [⟨r0_12, p0⟩] S1x8.size (by rfl) y

/-- What output window 68 ends holding. -/
def out0_68 (x0 : Vec F S8x1x8064 .f32) (x32 : Vec F S1x8 .f32) : Vec F S1x8 .f32 :=
  View.canon [⟨r0_12, k0_pay41 (k0_pay137 x0) (View.ld x32 r0_12)⟩]

/-- The stores of window 68 cover it. -/
theorem cover0_68 (p0 : Vec F S1x8 .f32) (y : S1x8.Idx) :
    ∃ pc ∈ ([⟨r0_12, p0⟩] : List (View.Piece (Elt F) S1x8 .f32)), y ∈ pc.1.set :=
  View.cover_of_tiled [⟨r0_12, p0⟩] S1x8.size (by rfl) y

/-- What output window 69 ends holding. -/
def out0_69 (x0 : Vec F S8x1x8064 .f32) : Vec F S1x128 .f32 :=
  View.canon [⟨r0_8, k0_pay140 x0⟩]

/-- The stores of window 69 cover it. -/
theorem cover0_69 (p0 : Vec F S1x128 .f32) (y : S1x128.Idx) :
    ∃ pc ∈ ([⟨r0_8, p0⟩] : List (View.Piece (Elt F) S1x128 .f32)), y ∈ pc.1.set :=
  View.cover_of_tiled [⟨r0_8, p0⟩] S1x128.size (by rfl) y

/-- What output window 70 ends holding. -/
def out0_70 (x0 : Vec F S8x1x8064 .f32) (x9 x21 x33 : Vec F S1x128 .f32) : Vec F S1x128 .f32 :=
  View.canon [⟨r0_8, k0_pay48 (k0_pay140 x0) (View.ld x9 r0_8) (View.ld x33 r0_8) (k0_pay141 x21) (k0_pay142 x0)⟩]

/-- The stores of window 70 cover it. -/
theorem cover0_70 (p0 : Vec F S1x128 .f32) (y : S1x128.Idx) :
    ∃ pc ∈ ([⟨r0_8, p0⟩] : List (View.Piece (Elt F) S1x128 .f32)), y ∈ pc.1.set :=
  View.cover_of_tiled [⟨r0_8, p0⟩] S1x128.size (by rfl) y

/-- What output window 71 ends holding. -/
def out0_71 (x0 : Vec F S8x1x8064 .f32) (x21 : Vec F S1x128 .f32) : Vec F S1x128 .f32 :=
  View.canon [⟨r0_8, k0_pay46 (k0_pay141 x21) (k0_pay142 x0)⟩]

/-- The stores of window 71 cover it. -/
theorem cover0_71 (p0 : Vec F S1x128 .f32) (y : S1x128.Idx) :
    ∃ pc ∈ ([⟨r0_8, p0⟩] : List (View.Piece (Elt F) S1x128 .f32)), y ∈ pc.1.set :=
  View.cover_of_tiled [⟨r0_8, p0⟩] S1x128.size (by rfl) y

/-- What output window 72 ends holding. -/
def out0_72 (x0 : Vec F S8x1x8064 .f32) (x33 : Vec F S1x128 .f32) : Vec F S1x128 .f32 :=
  View.canon [⟨r0_8, k0_pay47 (k0_pay140 x0) (View.ld x33 r0_8)⟩]

/-- The stores of window 72 cover it. -/
theorem cover0_72 (p0 : Vec F S1x128 .f32) (y : S1x128.Idx) :
    ∃ pc ∈ ([⟨r0_8, p0⟩] : List (View.Piece (Elt F) S1x128 .f32)), y ∈ pc.1.set :=
  View.cover_of_tiled [⟨r0_8, p0⟩] S1x128.size (by rfl) y

/-- What output window 73 ends holding. -/
def out0_73 (x0 : Vec F S8x1x8064 .f32) : Vec F S1x1024 .f32 :=
  View.canon [⟨r0_9, k0_pay143 x0⟩]

/-- The stores of window 73 cover it. -/
theorem cover0_73 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What output window 74 ends holding. -/
def out0_74 (x0 : Vec F S8x1x8064 .f32) (x10 x22 x34 : Vec F S1x1024 .f32) : Vec F S1x1024 .f32 :=
  View.canon [⟨r0_9, k0_pay52 (k0_pay143 x0) (View.ld x10 r0_9) (View.ld x34 r0_9) (k0_pay144 x0 x22)⟩]

/-- The stores of window 74 cover it. -/
theorem cover0_74 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What output window 75 ends holding. -/
def out0_75 (x0 : Vec F S8x1x8064 .f32) (x22 : Vec F S1x1024 .f32) : Vec F S1x1024 .f32 :=
  View.canon [⟨r0_9, k0_pay144 x0 x22⟩]

/-- The stores of window 75 cover it. -/
theorem cover0_75 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What output window 76 ends holding. -/
def out0_76 (x0 : Vec F S8x1x8064 .f32) (x34 : Vec F S1x1024 .f32) : Vec F S1x1024 .f32 :=
  View.canon [⟨r0_9, k0_pay51 (k0_pay143 x0) (View.ld x34 r0_9)⟩]

/-- The stores of window 76 cover it. -/
theorem cover0_76 (p0 : Vec F S1x1024 .f32) (y : S1x1024.Idx) :
    ∃ pc ∈ ([⟨r0_9, p0⟩] : List (View.Piece (Elt F) S1x1024 .f32)), y ∈ pc.1.set :=
  View.cover_of_tiled [⟨r0_9, p0⟩] S1x1024.size (by rfl) y

/-- What output window 77 ends holding. -/
def out0_77 (x0 : Vec F S8x1x8064 .f32) : Vec F S1x4x192 .f32 :=
  View.canon [⟨r0_16, k0_pay88 (k0_pay82 (k0_pay126 x0))⟩,
    ⟨r0_15, k0_pay78 (k0_pay72 (k0_pay126 x0))⟩,
    ⟨r0_14, k0_pay68 (k0_pay149 x0)⟩,
    ⟨r0_13, k0_pay60 (k0_pay145 x0)⟩]

/-- The stores of window 77 cover it. -/
theorem cover0_77 (p0 : Vec F S1x1x192 .f32) (p1 : Vec F S1x1x192 .f32) (p2 : Vec F S1x1x192 .f32) (p3 : Vec F S1x1x192 .f32) (y : S1x4x192.Idx) :
    ∃ pc ∈ ([⟨r0_16, p0⟩, ⟨r0_15, p1⟩, ⟨r0_14, p2⟩, ⟨r0_13, p3⟩] : List (View.Piece (Elt F) S1x4x192 .f32)), y ∈ pc.1.set :=
  View.cover_of_tiled [⟨r0_16, p0⟩, ⟨r0_15, p1⟩, ⟨r0_14, p2⟩, ⟨r0_13, p3⟩] S1x1x192.size (by rfl) y

/-- What output window 78 ends holding. -/
def out0_78 (x0 : Vec F S8x1x8064 .f32) (x11 x23 x35 : Vec F S1x4x192 .f32) : Vec F S1x4x192 .f32 :=
  View.canon [⟨r0_16, k0_pay89 (k0_pay83 (View.ld x11 r0_16)) (k0_pay150 x0 x23) (k0_pay151 x35) (k0_pay152 x0)⟩,
    ⟨r0_15, k0_pay79 (k0_pay73 (View.ld x11 r0_15)) (k0_pay76 (k0_pay126 x0) (View.ld x23 r0_15) (View.ld x35 r0_15)) (k0_pay77 (F := F))⟩,
    ⟨r0_14, k0_pay69 (k0_pay67 (k0_pay149 x0) (View.ld x11 r0_14) (View.ld x23 r0_14) (View.ld x35 r0_14))⟩,
    ⟨r0_13, k0_pay61 (k0_pay145 x0) (k0_pay54 (View.ld x11 r0_13)) (k0_pay146 x23) (k0_pay147 x35) (k0_pay148)⟩]

/-- The stores of window 78 cover it. -/
theorem cover0_78 (p0 : Vec F S1x1x192 .f32) (p1 : Vec F S1x1x192 .f32) (p2 : Vec F S1x1x192 .f32) (p3 : Vec F S1x1x192 .f32) (y : S1x4x192.Idx) :
    ∃ pc ∈ ([⟨r0_16, p0⟩, ⟨r0_15, p1⟩, ⟨r0_14, p2⟩, ⟨r0_13, p3⟩] : List (View.Piece (Elt F) S1x4x192 .f32)), y ∈ pc.1.set :=
  View.cover_of_tiled [⟨r0_16, p0⟩, ⟨r0_15, p1⟩, ⟨r0_14, p2⟩, ⟨r0_13, p3⟩] S1x1x192.size (by rfl) y

/-- What output window 79 ends holding. -/
def out0_79 (x0 : Vec F S8x1x8064 .f32) (x23 : Vec F S1x4x192 .f32) : Vec F S1x4x192 .f32 :=
  View.canon [⟨r0_16, k0_pay90 (k0_pay150 x0 x23)⟩,
    ⟨r0_15, k0_pay80 (k0_pay74 (k0_pay126 x0) (View.ld x23 r0_15))⟩,
    ⟨r0_14, k0_pay70 (k0_pay65 (k0_pay149 x0) (View.ld x23 r0_14))⟩,
    ⟨r0_13, k0_pay62 (k0_pay145 x0) (k0_pay146 x23) (k0_pay148)⟩]

/-- The stores of window 79 cover it. -/
theorem cover0_79 (p0 : Vec F S1x1x192 .f32) (p1 : Vec F S1x1x192 .f32) (p2 : Vec F S1x1x192 .f32) (p3 : Vec F S1x1x192 .f32) (y : S1x4x192.Idx) :
    ∃ pc ∈ ([⟨r0_16, p0⟩, ⟨r0_15, p1⟩, ⟨r0_14, p2⟩, ⟨r0_13, p3⟩] : List (View.Piece (Elt F) S1x4x192 .f32)), y ∈ pc.1.set :=
  View.cover_of_tiled [⟨r0_16, p0⟩, ⟨r0_15, p1⟩, ⟨r0_14, p2⟩, ⟨r0_13, p3⟩] S1x1x192.size (by rfl) y

/-- What output window 80 ends holding. -/
def out0_80 (x0 : Vec F S8x1x8064 .f32) (x35 : Vec F S1x4x192 .f32) : Vec F S1x4x192 .f32 :=
  View.canon [⟨r0_16, k0_pay91 (k0_pay151 x35) (k0_pay152 x0)⟩,
    ⟨r0_15, k0_pay81 (k0_pay75 (k0_pay126 x0) (View.ld x35 r0_15))⟩,
    ⟨r0_14, k0_pay71 (k0_pay66 (k0_pay149 x0) (View.ld x35 r0_14))⟩,
    ⟨r0_13, k0_pay63 (k0_pay145 x0) (k0_pay147 x35)⟩]

/-- The stores of window 80 cover it. -/
theorem cover0_80 (p0 : Vec F S1x1x192 .f32) (p1 : Vec F S1x1x192 .f32) (p2 : Vec F S1x1x192 .f32) (p3 : Vec F S1x1x192 .f32) (y : S1x4x192.Idx) :
    ∃ pc ∈ ([⟨r0_16, p0⟩, ⟨r0_15, p1⟩, ⟨r0_14, p2⟩, ⟨r0_13, p3⟩] : List (View.Piece (Elt F) S1x4x192 .f32)), y ∈ pc.1.set :=
  View.cover_of_tiled [⟨r0_16, p0⟩, ⟨r0_15, p1⟩, ⟨r0_14, p2⟩, ⟨r0_13, p3⟩] S1x1x192.size (by rfl) y

/-- What output window 81 ends holding. -/
def out0_81 (x0 : Vec F S8x1x8064 .f32) : Vec F S1x4x384 .f32 :=
  View.canon [⟨r0_20, k0_pay125 (k0_pay155 x0)⟩,
    ⟨r0_19, k0_pay114 (k0_pay108 (k0_pay126 x0))⟩,
    ⟨r0_18, k0_pay104 (k0_pay100 (k0_pay126 x0))⟩,
    ⟨r0_17, k0_pay96 (k0_pay153 x0)⟩]

/-- The stores of window 81 cover it. -/
theorem cover0_81 (p0 : Vec F S1x1x384 .f32) (p1 : Vec F S1x1x384 .f32) (p2 : Vec F S1x1x384 .f32) (p3 : Vec F S1x1x384 .f32) (y : S1x4x384.Idx) :
    ∃ pc ∈ ([⟨r0_20, p0⟩, ⟨r0_19, p1⟩, ⟨r0_18, p2⟩, ⟨r0_17, p3⟩] : List (View.Piece (Elt F) S1x4x384 .f32)), y ∈ pc.1.set :=
  View.cover_of_tiled [⟨r0_20, p0⟩, ⟨r0_19, p1⟩, ⟨r0_18, p2⟩, ⟨r0_17, p3⟩] S1x1x384.size (by rfl) y

/-- What output window 82 ends holding. -/
def out0_82 (x0 : Vec F S8x1x8064 .f32) (x12 x24 x36 : Vec F S1x4x384 .f32) : Vec F S1x4x384 .f32 :=
  View.canon [⟨r0_20, k0_pay1 (k0_pay124 (k0_pay155 x0) (k0_pay119 (View.ld x12 r0_20)) (k0_pay156 x36) (k0_pay157 x24))⟩,
    ⟨r0_19, k0_pay115 (k0_pay109 (View.ld x12 r0_19)) (k0_pay154 x0 x36) (k0_pay112 (k0_pay126 x0) (View.ld x24 r0_19)) (k0_pay113 (F := F))⟩,
    ⟨r0_18, k0_pay105 (k0_pay103 (k0_pay126 x0) (View.ld x12 r0_18) (View.ld x24 r0_18) (View.ld x36 r0_18))⟩,
    ⟨r0_17, k0_pay97 (k0_pay153 x0) (k0_pay93 (View.ld x12 r0_17)) (View.ld x24 r0_17) (View.ld x36 r0_17)⟩]

/-- The stores of window 82 cover it. -/
theorem cover0_82 (p0 : Vec F S1x1x384 .f32) (p1 : Vec F S1x1x384 .f32) (p2 : Vec F S1x1x384 .f32) (p3 : Vec F S1x1x384 .f32) (y : S1x4x384.Idx) :
    ∃ pc ∈ ([⟨r0_20, p0⟩, ⟨r0_19, p1⟩, ⟨r0_18, p2⟩, ⟨r0_17, p3⟩] : List (View.Piece (Elt F) S1x4x384 .f32)), y ∈ pc.1.set :=
  View.cover_of_tiled [⟨r0_20, p0⟩, ⟨r0_19, p1⟩, ⟨r0_18, p2⟩, ⟨r0_17, p3⟩] S1x1x384.size (by rfl) y

/-- What output window 83 ends holding. -/
def out0_83 (x0 : Vec F S8x1x8064 .f32) (x24 : Vec F S1x4x384 .f32) : Vec F S1x4x384 .f32 :=
  View.canon [⟨r0_20, k0_pay2 (k0_pay122 (k0_pay155 x0) (k0_pay157 x24))⟩,
    ⟨r0_19, k0_pay116 (k0_pay110 (k0_pay126 x0) (View.ld x24 r0_19))⟩,
    ⟨r0_18, k0_pay106 (k0_pay101 (k0_pay126 x0) (View.ld x24 r0_18))⟩,
    ⟨r0_17, k0_pay98 (k0_pay153 x0) (View.ld x24 r0_17)⟩]

/-- The stores of window 83 cover it. -/
theorem cover0_83 (p0 : Vec F S1x1x384 .f32) (p1 : Vec F S1x1x384 .f32) (p2 : Vec F S1x1x384 .f32) (p3 : Vec F S1x1x384 .f32) (y : S1x4x384.Idx) :
    ∃ pc ∈ ([⟨r0_20, p0⟩, ⟨r0_19, p1⟩, ⟨r0_18, p2⟩, ⟨r0_17, p3⟩] : List (View.Piece (Elt F) S1x4x384 .f32)), y ∈ pc.1.set :=
  View.cover_of_tiled [⟨r0_20, p0⟩, ⟨r0_19, p1⟩, ⟨r0_18, p2⟩, ⟨r0_17, p3⟩] S1x1x384.size (by rfl) y

/-- What output window 84 ends holding. -/
def out0_84 (x0 : Vec F S8x1x8064 .f32) (x36 : Vec F S1x4x384 .f32) : Vec F S1x4x384 .f32 :=
  View.canon [⟨r0_20, k0_pay3 (k0_pay123 (k0_pay155 x0) (k0_pay156 x36))⟩,
    ⟨r0_19, k0_pay117 (k0_pay154 x0 x36)⟩,
    ⟨r0_18, k0_pay107 (k0_pay102 (k0_pay126 x0) (View.ld x36 r0_18))⟩,
    ⟨r0_17, k0_pay99 (k0_pay95 (k0_pay153 x0) (View.ld x36 r0_17))⟩]

/-- The stores of window 84 cover it. -/
theorem cover0_84 (p0 : Vec F S1x1x384 .f32) (p1 : Vec F S1x1x384 .f32) (p2 : Vec F S1x1x384 .f32) (p3 : Vec F S1x1x384 .f32) (y : S1x4x384.Idx) :
    ∃ pc ∈ ([⟨r0_20, p0⟩, ⟨r0_19, p1⟩, ⟨r0_18, p2⟩, ⟨r0_17, p3⟩] : List (View.Piece (Elt F) S1x4x384 .f32)), y ∈ pc.1.set :=
  View.cover_of_tiled [⟨r0_20, p0⟩, ⟨r0_19, p1⟩, ⟨r0_18, p2⟩, ⟨r0_17, p3⟩] S1x1x384.size (by rfl) y

/-- What output window 85 ends holding. -/
def out0_85 (x0 : Vec F S8x1x8064 .f32) : Vec F S1x128 .f32 :=
  View.canon [⟨r0_8, k0_pay5 (View.ld x0 r0_0) (View.ld x0 r0_1) (View.ld x0 r0_2) (View.ld x0 r0_3) (View.ld x0 r0_4) (View.ld x0 r0_5) (View.ld x0 r0_6) (View.ld x0 r0_7)⟩]

/-- The stores of window 85 cover it. -/
theorem cover0_85 (p0 : Vec F S1x128 .f32) (y : S1x128.Idx) :
    ∃ pc ∈ ([⟨r0_8, p0⟩] : List (View.Piece (Elt F) S1x128 .f32)), y ∈ pc.1.set :=
  View.cover_of_tiled [⟨r0_8, p0⟩] S1x128.size (by rfl) y

/-! ## The body's triple -/

set_option maxHeartbeats 1140000 in
/-- The body, on its whole buffers: the inputs stay, each output ends at its value of the inputs. -/
theorem sound_kernel (c : Dev nD) (E : Set ℕ) (arg0 : Memref sig .tc .vmem S8x1x8064 .f32) (harg0 : arg0.IsWhole) (arg1 : Memref sig .tc .vmem S1x1024 .f32) (harg1 : arg1.IsWhole) (arg2 : Memref sig .tc .vmem S1x1536 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S1x1024 .f32) (harg6 : arg6.IsWhole) (arg7 : Memref sig .tc .vmem S1x8 .f32) (harg7 : arg7.IsWhole) (arg8 : Memref sig .tc .vmem S1x8 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x4x192 .f32) (harg11 : arg11.IsWhole) (arg12 : Memref sig .tc .vmem S1x4x384 .f32) (harg12 : arg12.IsWhole) (arg13 : Memref sig .tc .vmem S1x1024 .f32) (harg13 : arg13.IsWhole) (arg14 : Memref sig .tc .vmem S1x1536 .f32) (harg14 : arg14.IsWhole) (arg15 : Memref sig .tc .vmem S1x16 .f32) (harg15 : arg15.IsWhole) (arg16 : Memref sig .tc .vmem S1x16 .f32) (harg16 : arg16.IsWhole) (arg17 : Memref sig .tc .vmem S1x16 .f32) (harg17 : arg17.IsWhole) (arg18 : Memref sig .tc .vmem S1x1024 .f32) (harg18 : arg18.IsWhole) (arg19 : Memref sig .tc .vmem S1x8 .f32) (harg19 : arg19.IsWhole) (arg20 : Memref sig .tc .vmem S1x8 .f32) (harg20 : arg20.IsWhole) (arg21 : Memref sig .tc .vmem S1x128 .f32) (harg21 : arg21.IsWhole) (arg22 : Memref sig .tc .vmem S1x1024 .f32) (harg22 : arg22.IsWhole) (arg23 : Memref sig .tc .vmem S1x4x192 .f32) (harg23 : arg23.IsWhole) (arg24 : Memref sig .tc .vmem S1x4x384 .f32) (harg24 : arg24.IsWhole) (arg25 : Memref sig .tc .vmem S1x1024 .f32) (harg25 : arg25.IsWhole) (arg26 : Memref sig .tc .vmem S1x1536 .f32) (harg26 : arg26.IsWhole) (arg27 : Memref sig .tc .vmem S1x16 .f32) (harg27 : arg27.IsWhole) (arg28 : Memref sig .tc .vmem S1x16 .f32) (harg28 : arg28.IsWhole) (arg29 : Memref sig .tc .vmem S1x16 .f32) (harg29 : arg29.IsWhole) (arg30 : Memref sig .tc .vmem S1x1024 .f32) (harg30 : arg30.IsWhole) (arg31 : Memref sig .tc .vmem S1x8 .f32) (harg31 : arg31.IsWhole) (arg32 : Memref sig .tc .vmem S1x8 .f32) (harg32 : arg32.IsWhole) (arg33 : Memref sig .tc .vmem S1x128 .f32) (harg33 : arg33.IsWhole) (arg34 : Memref sig .tc .vmem S1x1024 .f32) (harg34 : arg34.IsWhole) (arg35 : Memref sig .tc .vmem S1x4x192 .f32) (harg35 : arg35.IsWhole) (arg36 : Memref sig .tc .vmem S1x4x384 .f32) (harg36 : arg36.IsWhole) (arg37 : Memref sig .tc .vmem S1x1024 .f32) (harg37 : arg37.IsWhole) (arg38 : Memref sig .tc .vmem S1x1024 .f32) (harg38 : arg38.IsWhole) (arg39 : Memref sig .tc .vmem S1x1024 .f32) (harg39 : arg39.IsWhole) (arg40 : Memref sig .tc .vmem S1x1024 .f32) (harg40 : arg40.IsWhole) (arg41 : Memref sig .tc .vmem S1x1536 .f32) (harg41 : arg41.IsWhole) (arg42 : Memref sig .tc .vmem S1x1536 .f32) (harg42 : arg42.IsWhole) (arg43 : Memref sig .tc .vmem S1x1536 .f32) (harg43 : arg43.IsWhole) (arg44 : Memref sig .tc .vmem S1x1536 .f32) (harg44 : arg44.IsWhole) (arg45 : Memref sig .tc .vmem S1x16 .f32) (harg45 : arg45.IsWhole) (arg46 : Memref sig .tc .vmem S1x16 .f32) (harg46 : arg46.IsWhole) (arg47 : Memref sig .tc .vmem S1x16 .f32) (harg47 : arg47.IsWhole) (arg48 : Memref sig .tc .vmem S1x16 .f32) (harg48 : arg48.IsWhole) (arg49 : Memref sig .tc .vmem S1x16 .f32) (harg49 : arg49.IsWhole) (arg50 : Memref sig .tc .vmem S1x16 .f32) (harg50 : arg50.IsWhole) (arg51 : Memref sig .tc .vmem S1x16 .f32) (harg51 : arg51.IsWhole) (arg52 : Memref sig .tc .vmem S1x16 .f32) (harg52 : arg52.IsWhole) (arg53 : Memref sig .tc .vmem S1x16 .f32) (harg53 : arg53.IsWhole) (arg54 : Memref sig .tc .vmem S1x16 .f32) (harg54 : arg54.IsWhole) (arg55 : Memref sig .tc .vmem S1x16 .f32) (harg55 : arg55.IsWhole) (arg56 : Memref sig .tc .vmem S1x16 .f32) (harg56 : arg56.IsWhole) (arg57 : Memref sig .tc .vmem S1x1024 .f32) (harg57 : arg57.IsWhole) (arg58 : Memref sig .tc .vmem S1x1024 .f32) (harg58 : arg58.IsWhole) (arg59 : Memref sig .tc .vmem S1x1024 .f32) (harg59 : arg59.IsWhole) (arg60 : Memref sig .tc .vmem S1x1024 .f32) (harg60 : arg60.IsWhole) (arg61 : Memref sig .tc .vmem S1x8 .f32) (harg61 : arg61.IsWhole) (arg62 : Memref sig .tc .vmem S1x8 .f32) (harg62 : arg62.IsWhole) (arg63 : Memref sig .tc .vmem S1x8 .f32) (harg63 : arg63.IsWhole) (arg64 : Memref sig .tc .vmem S1x8 .f32) (harg64 : arg64.IsWhole) (arg65 : Memref sig .tc .vmem S1x8 .f32) (harg65 : arg65.IsWhole) (arg66 : Memref sig .tc .vmem S1x8 .f32) (harg66 : arg66.IsWhole) (arg67 : Memref sig .tc .vmem S1x8 .f32) (harg67 : arg67.IsWhole) (arg68 : Memref sig .tc .vmem S1x8 .f32) (harg68 : arg68.IsWhole) (arg69 : Memref sig .tc .vmem S1x128 .f32) (harg69 : arg69.IsWhole) (arg70 : Memref sig .tc .vmem S1x128 .f32) (harg70 : arg70.IsWhole) (arg71 : Memref sig .tc .vmem S1x128 .f32) (harg71 : arg71.IsWhole) (arg72 : Memref sig .tc .vmem S1x128 .f32) (harg72 : arg72.IsWhole) (arg73 : Memref sig .tc .vmem S1x1024 .f32) (harg73 : arg73.IsWhole) (arg74 : Memref sig .tc .vmem S1x1024 .f32) (harg74 : arg74.IsWhole) (arg75 : Memref sig .tc .vmem S1x1024 .f32) (harg75 : arg75.IsWhole) (arg76 : Memref sig .tc .vmem S1x1024 .f32) (harg76 : arg76.IsWhole) (arg77 : Memref sig .tc .vmem S1x4x192 .f32) (harg77 : arg77.IsWhole) (arg78 : Memref sig .tc .vmem S1x4x192 .f32) (harg78 : arg78.IsWhole) (arg79 : Memref sig .tc .vmem S1x4x192 .f32) (harg79 : arg79.IsWhole) (arg80 : Memref sig .tc .vmem S1x4x192 .f32) (harg80 : arg80.IsWhole) (arg81 : Memref sig .tc .vmem S1x4x384 .f32) (harg81 : arg81.IsWhole) (arg82 : Memref sig .tc .vmem S1x4x384 .f32) (harg82 : arg82.IsWhole) (arg83 : Memref sig .tc .vmem S1x4x384 .f32) (harg83 : arg83.IsWhole) (arg84 : Memref sig .tc .vmem S1x4x384 .f32) (harg84 : arg84.IsWhole) (arg85 : Memref sig .tc .vmem S1x128 .f32) (harg85 : arg85.IsWhole)
    (x0 : Vec F S8x1x8064 .f32) (x1 : Vec F S1x1024 .f32) (x2 : Vec F S1x1536 .f32) (x3 : Vec F S1x16 .f32) (x4 : Vec F S1x16 .f32) (x5 : Vec F S1x16 .f32) (x6 : Vec F S1x1024 .f32) (x7 : Vec F S1x8 .f32) (x8 : Vec F S1x8 .f32) (x9 : Vec F S1x128 .f32) (x10 : Vec F S1x1024 .f32) (x11 : Vec F S1x4x192 .f32) (x12 : Vec F S1x4x384 .f32) (x13 : Vec F S1x1024 .f32) (x14 : Vec F S1x1536 .f32) (x15 : Vec F S1x16 .f32) (x16 : Vec F S1x16 .f32) (x17 : Vec F S1x16 .f32) (x18 : Vec F S1x1024 .f32) (x19 : Vec F S1x8 .f32) (x20 : Vec F S1x8 .f32) (x21 : Vec F S1x128 .f32) (x22 : Vec F S1x1024 .f32) (x23 : Vec F S1x4x192 .f32) (x24 : Vec F S1x4x384 .f32) (x25 : Vec F S1x1024 .f32) (x26 : Vec F S1x1536 .f32) (x27 : Vec F S1x16 .f32) (x28 : Vec F S1x16 .f32) (x29 : Vec F S1x16 .f32) (x30 : Vec F S1x1024 .f32) (x31 : Vec F S1x8 .f32) (x32 : Vec F S1x8 .f32) (x33 : Vec F S1x128 .f32) (x34 : Vec F S1x1024 .f32) (x35 : Vec F S1x4x192 .f32) (x36 : Vec F S1x4x384 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d) ∗ (∃ d, owns (c : Thread nD τ) arg65 fullShare d) ∗ (∃ d, owns (c : Thread nD τ) arg66 fullShare d) ∗ (∃ d, owns (c : Thread nD τ) arg67 fullShare d) ∗ (∃ d, owns (c : Thread nD τ) arg68 fullShare d) ∗ (∃ d, owns (c : Thread nD τ) arg69 fullShare d) ∗ (∃ d, owns (c : Thread nD τ) arg70 fullShare d) ∗ (∃ d, owns (c : Thread nD τ) arg71 fullShare d) ∗ (∃ d, owns (c : Thread nD τ) arg72 fullShare d) ∗ (∃ d, owns (c : Thread nD τ) arg73 fullShare d) ∗ (∃ d, owns (c : Thread nD τ) arg74 fullShare d) ∗ (∃ d, owns (c : Thread nD τ) arg75 fullShare d) ∗ (∃ d, owns (c : Thread nD τ) arg76 fullShare d) ∗ (∃ d, owns (c : Thread nD τ) arg77 fullShare d) ∗ (∃ d, owns (c : Thread nD τ) arg78 fullShare d) ∗ (∃ d, owns (c : Thread nD τ) arg79 fullShare d) ∗ (∃ d, owns (c : Thread nD τ) arg80 fullShare d) ∗ (∃ d, owns (c : Thread nD τ) arg81 fullShare d) ∗ (∃ d, owns (c : Thread nD τ) arg82 fullShare d) ∗ (∃ d, owns (c : Thread nD τ) arg83 fullShare d) ∗ (∃ d, owns (c : Thread nD τ) arg84 fullShare d) ∗ (∃ d, owns (c : Thread nD τ) arg85 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare (out0_37 x0) ∗ owns (c : Thread nD τ) arg38 fullShare (out0_38 x0 x1 x13 x25) ∗ owns (c : Thread nD τ) arg39 fullShare (out0_39 x0 x13) ∗ owns (c : Thread nD τ) arg40 fullShare (out0_40 x0 x25) ∗ owns (c : Thread nD τ) arg41 fullShare (out0_41 x0) ∗ owns (c : Thread nD τ) arg42 fullShare (out0_42 x0 x2 x14 x26) ∗ owns (c : Thread nD τ) arg43 fullShare (out0_43 x0 x14) ∗ owns (c : Thread nD τ) arg44 fullShare (out0_44 x0 x26) ∗ owns (c : Thread nD τ) arg45 fullShare (out0_45 x0) ∗ owns (c : Thread nD τ) arg46 fullShare (out0_46 x0 x3 x15 x27) ∗ owns (c : Thread nD τ) arg47 fullShare (out0_47 x0 x15) ∗ owns (c : Thread nD τ) arg48 fullShare (out0_48 x0 x27) ∗ owns (c : Thread nD τ) arg49 fullShare (out0_49 x0) ∗ owns (c : Thread nD τ) arg50 fullShare (out0_50 x0 x4 x16 x28) ∗ owns (c : Thread nD τ) arg51 fullShare (out0_51 x0 x16) ∗ owns (c : Thread nD τ) arg52 fullShare (out0_52 x0 x28) ∗ owns (c : Thread nD τ) arg53 fullShare (out0_53 x0) ∗ owns (c : Thread nD τ) arg54 fullShare (out0_54 x0 x5 x17 x29) ∗ owns (c : Thread nD τ) arg55 fullShare (out0_55 x0 x17) ∗ owns (c : Thread nD τ) arg56 fullShare (out0_56 x0 x29) ∗ owns (c : Thread nD τ) arg57 fullShare (out0_57 x0) ∗ owns (c : Thread nD τ) arg58 fullShare (out0_58 x0 x6 x18 x30) ∗ owns (c : Thread nD τ) arg59 fullShare (out0_59 x0 x18) ∗ owns (c : Thread nD τ) arg60 fullShare (out0_60 x0 x30) ∗ owns (c : Thread nD τ) arg61 fullShare (out0_61 x0) ∗ owns (c : Thread nD τ) arg62 fullShare (out0_62 x0 x7 x19 x31) ∗ owns (c : Thread nD τ) arg63 fullShare (out0_63 x0 x19) ∗ owns (c : Thread nD τ) arg64 fullShare (out0_64 x0 x31) ∗ owns (c : Thread nD τ) arg65 fullShare (out0_65 x0) ∗ owns (c : Thread nD τ) arg66 fullShare (out0_66 x0 x8 x20 x32) ∗ owns (c : Thread nD τ) arg67 fullShare (out0_67 x0 x20) ∗ owns (c : Thread nD τ) arg68 fullShare (out0_68 x0 x32) ∗ owns (c : Thread nD τ) arg69 fullShare (out0_69 x0) ∗ owns (c : Thread nD τ) arg70 fullShare (out0_70 x0 x9 x21 x33) ∗ owns (c : Thread nD τ) arg71 fullShare (out0_71 x0 x21) ∗ owns (c : Thread nD τ) arg72 fullShare (out0_72 x0 x33) ∗ owns (c : Thread nD τ) arg73 fullShare (out0_73 x0) ∗ owns (c : Thread nD τ) arg74 fullShare (out0_74 x0 x10 x22 x34) ∗ owns (c : Thread nD τ) arg75 fullShare (out0_75 x0 x22) ∗ owns (c : Thread nD τ) arg76 fullShare (out0_76 x0 x34) ∗ owns (c : Thread nD τ) arg77 fullShare (out0_77 x0) ∗ owns (c : Thread nD τ) arg78 fullShare (out0_78 x0 x11 x23 x35) ∗ owns (c : Thread nD τ) arg79 fullShare (out0_79 x0 x23) ∗ owns (c : Thread nD τ) arg80 fullShare (out0_80 x0 x35) ∗ owns (c : Thread nD τ) arg81 fullShare (out0_81 x0) ∗ owns (c : Thread nD τ) arg82 fullShare (out0_82 x0 x12 x24 x36) ∗ owns (c : Thread nD τ) arg83 fullShare (out0_83 x0 x24) ∗ owns (c : Thread nD τ) arg84 fullShare (out0_84 x0 x36) ∗ owns (c : Thread nD τ) arg85 fullShare (out0_85 x0)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81 arg82 harg82 arg83 harg83 arg84 harg84 arg85 harg85) K := by
  simp only [cc0_adamw_small_eq_skeleton]; unfold cc0_adamw_small_skel
  simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, ⟨%d69, %f69, -, H69⟩, ⟨%d70, %f70, -, H70⟩, ⟨%d71, %f71, -, H71⟩, ⟨%d72, %f72, -, H72⟩, ⟨%d73, %f73, -, H73⟩, ⟨%d74, %f74, -, H74⟩, ⟨%d75, %f75, -, H75⟩, ⟨%d76, %f76, -, H76⟩, ⟨%d77, %f77, -, H77⟩, ⟨%d78, %f78, -, H78⟩, ⟨%d79, %f79, -, H79⟩, ⟨%d80, %f80, -, H80⟩, ⟨%d81, %f81, -, H81⟩, ⟨%d82, %f82, -, H82⟩, ⟨%d83, %f83, -, H83⟩, ⟨%d84, %f84, -, H84⟩, ⟨%d85, %f85, -, H85⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists _; isplitr
    swap; · iexact H37
    ipureintro
    refine (View.read_writes_eq_canon _ _ _ (cover0_37 _)).trans ?_
    rfl
  isplitl [H38]
  · iexists _; isplitr
    swap; · iexact H38
    ipureintro
    refine (View.read_writes_eq_canon _ _ _ (cover0_38 _)).trans ?_
    rfl
  isplitl [H39]
  · iexists _; isplitr
    swap; · iexact H39
    ipureintro
    refine (View.read_writes_eq_canon _ _ _ (cover0_39 _)).trans ?_
    rfl
  isplitl [H40]
  · iexists _; isplitr
    swap; · iexact H40
    ipureintro
    refine (View.read_writes_eq_canon _ _ _ (cover0_40 _)).trans ?_
    rfl
  isplitl [H41]
  · iexists _; isplitr
    swap; · iexact H41
    ipureintro
    refine (View.read_writes_eq_canon _ _ _ (cover0_41 _)).trans ?_
    rfl
  isplitl [H42]
  · iexists _; isplitr
    swap; · iexact H42
    ipureintro
    refine (View.read_writes_eq_canon _ _ _ (cover0_42 _)).trans ?_
    rfl
  isplitl [H43]
  · iexists _; isplitr
    swap; · iexact H43
    ipureintro
    refine (View.read_writes_eq_canon _ _ _ (cover0_43 _)).trans ?_
    rfl
  isplitl [H44]
  · iexists _; isplitr
    swap; · iexact H44
    ipureintro
    refine (View.read_writes_eq_canon _ _ _ (cover0_44 _)).trans ?_
    rfl
  isplitl [H45]
  · iexists _; isplitr
    swap; · iexact H45
    ipureintro
    refine (View.read_writes_eq_canon _ _ _ (cover0_45 _)).trans ?_
    rfl
  isplitl [H46]
  · iexists _; isplitr
    swap; · iexact H46
    ipureintro
    refine (View.read_writes_eq_canon _ _ _ (cover0_46 _)).trans ?_
    rfl
  isplitl [H47]
  · iexists _; isplitr
    swap; · iexact H47
    ipureintro
    refine (View.read_writes_eq_canon _ _ _ (cover0_47 _)).trans ?_
    rfl
  isplitl [H48]
  · iexists _; isplitr
    swap; · iexact H48
    ipureintro
    refine (View.read_writes_eq_canon _ _ _ (cover0_48 _)).trans ?_
    rfl
  isplitl [H49]
  · iexists _; isplitr
    swap; · iexact H49
    ipureintro
    refine (View.read_writes_eq_canon _ _ _ (cover0_49 _)).trans ?_
    rfl
  isplitl [H50]
  · iexists _; isplitr
    swap; · iexact H50
    ipureintro
    refine (View.read_writes_eq_canon _ _ _ (cover0_50 _)).trans ?_
    rfl
  isplitl [H51]
  · iexists _; isplitr
    swap; · iexact H51
    ipureintro
    refine (View.read_writes_eq_canon _ _ _ (cover0_51 _)).trans ?_
    rfl
  isplitl [H52]
  · iexists _; isplitr
    swap; · iexact H52
    ipureintro
    refine (View.read_writes_eq_canon _ _ _ (cover0_52 _)).trans ?_
    rfl
  isplitl [H53]
  · iexists _; isplitr
    swap; · iexact H53
    ipureintro
    refine (View.read_writes_eq_canon _ _ _ (cover0_53 _)).trans ?_
    rfl
  isplitl [H54]
  · iexists _; isplitr
    swap; · iexact H54
    ipureintro
    refine (View.read_writes_eq_canon _ _ _ (cover0_54 _)).trans ?_
    rfl
  isplitl [H55]
  · iexists _; isplitr
    swap; · iexact H55
    ipureintro
    refine (View.read_writes_eq_canon _ _ _ (cover0_55 _)).trans ?_
    rfl
  isplitl [H56]
  · iexists _; isplitr
    swap; · iexact H56
    ipureintro
    refine (View.read_writes_eq_canon _ _ _ (cover0_56 _)).trans ?_
    rfl
  isplitl [H57]
  · iexists _; isplitr
    swap; · iexact H57
    ipureintro
    refine (View.read_writes_eq_canon _ _ _ (cover0_57 _)).trans ?_
    rfl
  isplitl [H58]
  · iexists _; isplitr
    swap; · iexact H58
    ipureintro
    refine (View.read_writes_eq_canon _ _ _ (cover0_58 _)).trans ?_
    rfl
  isplitl [H59]
  · iexists _; isplitr
    swap; · iexact H59
    ipureintro
    refine (View.read_writes_eq_canon _ _ _ (cover0_59 _)).trans ?_
    rfl
  isplitl [H60]
  · iexists _; isplitr
    swap; · iexact H60
    ipureintro
    refine (View.read_writes_eq_canon _ _ _ (cover0_60 _)).trans ?_
    rfl
  isplitl [H61]
  · iexists _; isplitr
    swap; · iexact H61
    ipureintro
    refine (View.read_writes_eq_canon _ _ _ (cover0_61 _)).trans ?_
    rfl
  isplitl [H62]
  · iexists _; isplitr
    swap; · iexact H62
    ipureintro
    refine (View.read_writes_eq_canon _ _ _ (cover0_62 _)).trans ?_
    rfl
  isplitl [H63]
  · iexists _; isplitr
    swap; · iexact H63
    ipureintro
    refine (View.read_writes_eq_canon _ _ _ (cover0_63 _)).trans ?_
    rfl
  isplitl [H64]
  · iexists _; isplitr
    swap; · iexact H64
    ipureintro
    refine (View.read_writes_eq_canon _ _ _ (cover0_64 _)).trans ?_
    rfl
  isplitl [H65]
  · iexists _; isplitr
    swap; · iexact H65
    ipureintro
    refine (View.read_writes_eq_canon _ _ _ (cover0_65 _)).trans ?_
    rfl
  isplitl [H66]
  · iexists _; isplitr
    swap; · iexact H66
    ipureintro
    refine (View.read_writes_eq_canon _ _ _ (cover0_66 _)).trans ?_
    rfl
  isplitl [H67]
  · iexists _; isplitr
    swap; · iexact H67
    ipureintro
    refine (View.read_writes_eq_canon _ _ _ (cover0_67 _)).trans ?_
    rfl
  isplitl [H68]
  · iexists _; isplitr
    swap; · iexact H68
    ipureintro
    refine (View.read_writes_eq_canon _ _ _ (cover0_68 _)).trans ?_
    rfl
  isplitl [H69]
  · iexists _; isplitr
    swap; · iexact H69
    ipureintro
    refine (View.read_writes_eq_canon _ _ _ (cover0_69 _)).trans ?_
    rfl
  isplitl [H70]
  · iexists _; isplitr
    swap; · iexact H70
    ipureintro
    refine (View.read_writes_eq_canon _ _ _ (cover0_70 _)).trans ?_
    rfl
  isplitl [H71]
  · iexists _; isplitr
    swap; · iexact H71
    ipureintro
    refine (View.read_writes_eq_canon _ _ _ (cover0_71 _)).trans ?_
    rfl
  isplitl [H72]
  · iexists _; isplitr
    swap; · iexact H72
    ipureintro
    refine (View.read_writes_eq_canon _ _ _ (cover0_72 _)).trans ?_
    rfl
  isplitl [H73]
  · iexists _; isplitr
    swap; · iexact H73
    ipureintro
    refine (View.read_writes_eq_canon _ _ _ (cover0_73 _)).trans ?_
    rfl
  isplitl [H74]
  · iexists _; isplitr
    swap; · iexact H74
    ipureintro
    refine (View.read_writes_eq_canon _ _ _ (cover0_74 _)).trans ?_
    rfl
  isplitl [H75]
  · iexists _; isplitr
    swap; · iexact H75
    ipureintro
    refine (View.read_writes_eq_canon _ _ _ (cover0_75 _)).trans ?_
    rfl
  isplitl [H76]
  · iexists _; isplitr
    swap; · iexact H76
    ipureintro
    refine (View.read_writes_eq_canon _ _ _ (cover0_76 _)).trans ?_
    rfl
  isplitl [H77]
  · iexists _; isplitr
    swap; · iexact H77
    ipureintro
    refine (View.read_writes_eq_canon _ _ _ (cover0_77 _ _ _ _)).trans ?_
    rfl
  isplitl [H78]
  · iexists _; isplitr
    swap; · iexact H78
    ipureintro
    refine (View.read_writes_eq_canon _ _ _ (cover0_78 _ _ _ _)).trans ?_
    rfl
  isplitl [H79]
  · iexists _; isplitr
    swap; · iexact H79
    ipureintro
    refine (View.read_writes_eq_canon _ _ _ (cover0_79 _ _ _ _)).trans ?_
    rfl
  isplitl [H80]
  · iexists _; isplitr
    swap; · iexact H80
    ipureintro
    refine (View.read_writes_eq_canon _ _ _ (cover0_80 _ _ _ _)).trans ?_
    rfl
  isplitl [H81]
  · iexists _; isplitr
    swap; · iexact H81
    ipureintro
    refine (View.read_writes_eq_canon _ _ _ (cover0_81 _ _ _ _)).trans ?_
    rfl
  isplitl [H82]
  · iexists _; isplitr
    swap; · iexact H82
    ipureintro
    refine (View.read_writes_eq_canon _ _ _ (cover0_82 _ _ _ _)).trans ?_
    rfl
  isplitl [H83]
  · iexists _; isplitr
    swap; · iexact H83
    ipureintro
    refine (View.read_writes_eq_canon _ _ _ (cover0_83 _ _ _ _)).trans ?_
    rfl
  isplitl [H84]
  · iexists _; isplitr
    swap; · iexact H84
    ipureintro
    refine (View.read_writes_eq_canon _ _ _ (cover0_84 _ _ _ _)).trans ?_
    rfl
  iexists _; isplitr
  swap; · iexact H85
  ipureintro
  refine (View.read_writes_eq_canon _ _ _ (cover0_85 _)).trans ?_
  rfl

end Cert.Kernel10Ideal.Sm

end
-- ==== Proof.SmallRun.lean ====
module

public import proofs.«01_k».proof.Proof.SmallBody

/-!
# The small weights' optimiser step: the run (idealized kernel)

The body meets the launch, so the run ends with every output array at its value and every argument unchanged.
-/

@[expose] public section

set_option maxRecDepth 100000

noncomputable section

namespace Cert.Kernel10Ideal.Sm

open Cert.Kernel10Ideal Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The data of the run: every input block stays, every output block ends at its value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => out0_37 (iblk m c 0 t)
    | ⟨38, _⟩ => out0_38 (iblk m c 0 t) (iblk m c 1 t) (iblk m c 13 t) (iblk m c 25 t)
    | ⟨39, _⟩ => out0_39 (iblk m c 0 t) (iblk m c 13 t)
    | ⟨40, _⟩ => out0_40 (iblk m c 0 t) (iblk m c 25 t)
    | ⟨41, _⟩ => out0_41 (iblk m c 0 t)
    | ⟨42, _⟩ => out0_42 (iblk m c 0 t) (iblk m c 2 t) (iblk m c 14 t) (iblk m c 26 t)
    | ⟨43, _⟩ => out0_43 (iblk m c 0 t) (iblk m c 14 t)
    | ⟨44, _⟩ => out0_44 (iblk m c 0 t) (iblk m c 26 t)
    | ⟨45, _⟩ => out0_45 (iblk m c 0 t)
    | ⟨46, _⟩ => out0_46 (iblk m c 0 t) (iblk m c 3 t) (iblk m c 15 t) (iblk m c 27 t)
    | ⟨47, _⟩ => out0_47 (iblk m c 0 t) (iblk m c 15 t)
    | ⟨48, _⟩ => out0_48 (iblk m c 0 t) (iblk m c 27 t)
    | ⟨49, _⟩ => out0_49 (iblk m c 0 t)
    | ⟨50, _⟩ => out0_50 (iblk m c 0 t) (iblk m c 4 t) (iblk m c 16 t) (iblk m c 28 t)
    | ⟨51, _⟩ => out0_51 (iblk m c 0 t) (iblk m c 16 t)
    | ⟨52, _⟩ => out0_52 (iblk m c 0 t) (iblk m c 28 t)
    | ⟨53, _⟩ => out0_53 (iblk m c 0 t)
    | ⟨54, _⟩ => out0_54 (iblk m c 0 t) (iblk m c 5 t) (iblk m c 17 t) (iblk m c 29 t)
    | ⟨55, _⟩ => out0_55 (iblk m c 0 t) (iblk m c 17 t)
    | ⟨56, _⟩ => out0_56 (iblk m c 0 t) (iblk m c 29 t)
    | ⟨57, _⟩ => out0_57 (iblk m c 0 t)
    | ⟨58, _⟩ => out0_58 (iblk m c 0 t) (iblk m c 6 t) (iblk m c 18 t) (iblk m c 30 t)
    | ⟨59, _⟩ => out0_59 (iblk m c 0 t) (iblk m c 18 t)
    | ⟨60, _⟩ => out0_60 (iblk m c 0 t) (iblk m c 30 t)
    | ⟨61, _⟩ => out0_61 (iblk m c 0 t)
    | ⟨62, _⟩ => out0_62 (iblk m c 0 t) (iblk m c 7 t) (iblk m c 19 t) (iblk m c 31 t)
    | ⟨63, _⟩ => out0_63 (iblk m c 0 t) (iblk m c 19 t)
    | ⟨64, _⟩ => out0_64 (iblk m c 0 t) (iblk m c 31 t)
    | ⟨65, _⟩ => out0_65 (iblk m c 0 t)
    | ⟨66, _⟩ => out0_66 (iblk m c 0 t) (iblk m c 8 t) (iblk m c 20 t) (iblk m c 32 t)
    | ⟨67, _⟩ => out0_67 (iblk m c 0 t) (iblk m c 20 t)
    | ⟨68, _⟩ => out0_68 (iblk m c 0 t) (iblk m c 32 t)
    | ⟨69, _⟩ => out0_69 (iblk m c 0 t)
    | ⟨70, _⟩ => out0_70 (iblk m c 0 t) (iblk m c 9 t) (iblk m c 21 t) (iblk m c 33 t)
    | ⟨71, _⟩ => out0_71 (iblk m c 0 t) (iblk m c 21 t)
    | ⟨72, _⟩ => out0_72 (iblk m c 0 t) (iblk m c 33 t)
    | ⟨73, _⟩ => out0_73 (iblk m c 0 t)
    | ⟨74, _⟩ => out0_74 (iblk m c 0 t) (iblk m c 10 t) (iblk m c 22 t) (iblk m c 34 t)
    | ⟨75, _⟩ => out0_75 (iblk m c 0 t) (iblk m c 22 t)
    | ⟨76, _⟩ => out0_76 (iblk m c 0 t) (iblk m c 34 t)
    | ⟨77, _⟩ => out0_77 (iblk m c 0 t)
    | ⟨78, _⟩ => out0_78 (iblk m c 0 t) (iblk m c 11 t) (iblk m c 23 t) (iblk m c 35 t)
    | ⟨79, _⟩ => out0_79 (iblk m c 0 t) (iblk m c 23 t)
    | ⟨80, _⟩ => out0_80 (iblk m c 0 t) (iblk m c 35 t)
    | ⟨81, _⟩ => out0_81 (iblk m c 0 t)
    | ⟨82, _⟩ => out0_82 (iblk m c 0 t) (iblk m c 12 t) (iblk m c 24 t) (iblk m c 36 t)
    | ⟨83, _⟩ => out0_83 (iblk m c 0 t) (iblk m c 24 t)
    | ⟨84, _⟩ => out0_84 (iblk m c 0 t) (iblk m c 36 t)
    | ⟨85, _⟩ => out0_85 (iblk m c 0 t)
    | ⟨_ + 86, h⟩ => absurd h (Nat.not_lt.2 (Nat.le_add_left _ _))
  Φ _ := Pipeline.ΦA spec0 c
  q _ := fullShare
  owed _ := 0

/-- The arrays of the data are the arrays on entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = out0_37 (iblk m c 0 t) := by dsimp only [dats]
theorem after0_38 (c : Dev nD) (t : Fin cfg0.N) : (dats m 0 c).after 38 t = out0_38 (iblk m c 0 t) (iblk m c 1 t) (iblk m c 13 t) (iblk m c 25 t) := by dsimp only [dats]
theorem after0_39 (c : Dev nD) (t : Fin cfg0.N) : (dats m 0 c).after 39 t = out0_39 (iblk m c 0 t) (iblk m c 13 t) := by dsimp only [dats]
theorem after0_40 (c : Dev nD) (t : Fin cfg0.N) : (dats m 0 c).after 40 t = out0_40 (iblk m c 0 t) (iblk m c 25 t) := by dsimp only [dats]
theorem after0_41 (c : Dev nD) (t : Fin cfg0.N) : (dats m 0 c).after 41 t = out0_41 (iblk m c 0 t) := by dsimp only [dats]
theorem after0_42 (c : Dev nD) (t : Fin cfg0.N) : (dats m 0 c).after 42 t = out0_42 (iblk m c 0 t) (iblk m c 2 t) (iblk m c 14 t) (iblk m c 26 t) := by dsimp only [dats]
theorem after0_43 (c : Dev nD) (t : Fin cfg0.N) : (dats m 0 c).after 43 t = out0_43 (iblk m c 0 t) (iblk m c 14 t) := by dsimp only [dats]
theorem after0_44 (c : Dev nD) (t : Fin cfg0.N) : (dats m 0 c).after 44 t = out0_44 (iblk m c 0 t) (iblk m c 26 t) := by dsimp only [dats]
theorem after0_45 (c : Dev nD) (t : Fin cfg0.N) : (dats m 0 c).after 45 t = out0_45 (iblk m c 0 t) := by dsimp only [dats]
theorem after0_46 (c : Dev nD) (t : Fin cfg0.N) : (dats m 0 c).after 46 t = out0_46 (iblk m c 0 t) (iblk m c 3 t) (iblk m c 15 t) (iblk m c 27 t) := by dsimp only [dats]
theorem after0_47 (c : Dev nD) (t : Fin cfg0.N) : (dats m 0 c).after 47 t = out0_47 (iblk m c 0 t) (iblk m c 15 t) := by dsimp only [dats]
theorem after0_48 (c : Dev nD) (t : Fin cfg0.N) : (dats m 0 c).after 48 t = out0_48 (iblk m c 0 t) (iblk m c 27 t) := by dsimp only [dats]
theorem after0_49 (c : Dev nD) (t : Fin cfg0.N) : (dats m 0 c).after 49 t = out0_49 (iblk m c 0 t) := by dsimp only [dats]
theorem after0_50 (c : Dev nD) (t : Fin cfg0.N) : (dats m 0 c).after 50 t = out0_50 (iblk m c 0 t) (iblk m c 4 t) (iblk m c 16 t) (iblk m c 28 t) := by dsimp only [dats]
theorem after0_51 (c : Dev nD) (t : Fin cfg0.N) : (dats m 0 c).after 51 t = out0_51 (iblk m c 0 t) (iblk m c 16 t) := by dsimp only [dats]
theorem after0_52 (c : Dev nD) (t : Fin cfg0.N) : (dats m 0 c).after 52 t = out0_52 (iblk m c 0 t) (iblk m c 28 t) := by dsimp only [dats]
theorem after0_53 (c : Dev nD) (t : Fin cfg0.N) : (dats m 0 c).after 53 t = out0_53 (iblk m c 0 t) := by dsimp only [dats]
theorem after0_54 (c : Dev nD) (t : Fin cfg0.N) : (dats m 0 c).after 54 t = out0_54 (iblk m c 0 t) (iblk m c 5 t) (iblk m c 17 t) (iblk m c 29 t) := by dsimp only [dats]
theorem after0_55 (c : Dev nD) (t : Fin cfg0.N) : (dats m 0 c).after 55 t = out0_55 (iblk m c 0 t) (iblk m c 17 t) := by dsimp only [dats]
theorem after0_56 (c : Dev nD) (t : Fin cfg0.N) : (dats m 0 c).after 56 t = out0_56 (iblk m c 0 t) (iblk m c 29 t) := by dsimp only [dats]
theorem after0_57 (c : Dev nD) (t : Fin cfg0.N) : (dats m 0 c).after 57 t = out0_57 (iblk m c 0 t) := by dsimp only [dats]
theorem after0_58 (c : Dev nD) (t : Fin cfg0.N) : (dats m 0 c).after 58 t = out0_58 (iblk m c 0 t) (iblk m c 6 t) (iblk m c 18 t) (iblk m c 30 t) := by dsimp only [dats]
theorem after0_59 (c : Dev nD) (t : Fin cfg0.N) : (dats m 0 c).after 59 t = out0_59 (iblk m c 0 t) (iblk m c 18 t) := by dsimp only [dats]
theorem after0_60 (c : Dev nD) (t : Fin cfg0.N) : (dats m 0 c).after 60 t = out0_60 (iblk m c 0 t) (iblk m c 30 t) := by dsimp only [dats]
theorem after0_61 (c : Dev nD) (t : Fin cfg0.N) : (dats m 0 c).after 61 t = out0_61 (iblk m c 0 t) := by dsimp only [dats]
theorem after0_62 (c : Dev nD) (t : Fin cfg0.N) : (dats m 0 c).after 62 t = out0_62 (iblk m c 0 t) (iblk m c 7 t) (iblk m c 19 t) (iblk m c 31 t) := by dsimp only [dats]
theorem after0_63 (c : Dev nD) (t : Fin cfg0.N) : (dats m 0 c).after 63 t = out0_63 (iblk m c 0 t) (iblk m c 19 t) := by dsimp only [dats]
theorem after0_64 (c : Dev nD) (t : Fin cfg0.N) : (dats m 0 c).after 64 t = out0_64 (iblk m c 0 t) (iblk m c 31 t) := by dsimp only [dats]
theorem after0_65 (c : Dev nD) (t : Fin cfg0.N) : (dats m 0 c).after 65 t = out0_65 (iblk m c 0 t) := by dsimp only [dats]
theorem after0_66 (c : Dev nD) (t : Fin cfg0.N) : (dats m 0 c).after 66 t = out0_66 (iblk m c 0 t) (iblk m c 8 t) (iblk m c 20 t) (iblk m c 32 t) := by dsimp only [dats]
theorem after0_67 (c : Dev nD) (t : Fin cfg0.N) : (dats m 0 c).after 67 t = out0_67 (iblk m c 0 t) (iblk m c 20 t) := by dsimp only [dats]
theorem after0_68 (c : Dev nD) (t : Fin cfg0.N) : (dats m 0 c).after 68 t = out0_68 (iblk m c 0 t) (iblk m c 32 t) := by dsimp only [dats]
theorem after0_69 (c : Dev nD) (t : Fin cfg0.N) : (dats m 0 c).after 69 t = out0_69 (iblk m c 0 t) := by dsimp only [dats]
theorem after0_70 (c : Dev nD) (t : Fin cfg0.N) : (dats m 0 c).after 70 t = out0_70 (iblk m c 0 t) (iblk m c 9 t) (iblk m c 21 t) (iblk m c 33 t) := by dsimp only [dats]
theorem after0_71 (c : Dev nD) (t : Fin cfg0.N) : (dats m 0 c).after 71 t = out0_71 (iblk m c 0 t) (iblk m c 21 t) := by dsimp only [dats]
theorem after0_72 (c : Dev nD) (t : Fin cfg0.N) : (dats m 0 c).after 72 t = out0_72 (iblk m c 0 t) (iblk m c 33 t) := by dsimp only [dats]
theorem after0_73 (c : Dev nD) (t : Fin cfg0.N) : (dats m 0 c).after 73 t = out0_73 (iblk m c 0 t) := by dsimp only [dats]
theorem after0_74 (c : Dev nD) (t : Fin cfg0.N) : (dats m 0 c).after 74 t = out0_74 (iblk m c 0 t) (iblk m c 10 t) (iblk m c 22 t) (iblk m c 34 t) := by dsimp only [dats]
theorem after0_75 (c : Dev nD) (t : Fin cfg0.N) : (dats m 0 c).after 75 t = out0_75 (iblk m c 0 t) (iblk m c 22 t) := by dsimp only [dats]
theorem after0_76 (c : Dev nD) (t : Fin cfg0.N) : (dats m 0 c).after 76 t = out0_76 (iblk m c 0 t) (iblk m c 34 t) := by dsimp only [dats]
theorem after0_77 (c : Dev nD) (t : Fin cfg0.N) : (dats m 0 c).after 77 t = out0_77 (iblk m c 0 t) := by dsimp only [dats]
theorem after0_78 (c : Dev nD) (t : Fin cfg0.N) : (dats m 0 c).after 78 t = out0_78 (iblk m c 0 t) (iblk m c 11 t) (iblk m c 23 t) (iblk m c 35 t) := by dsimp only [dats]
theorem after0_79 (c : Dev nD) (t : Fin cfg0.N) : (dats m 0 c).after 79 t = out0_79 (iblk m c 0 t) (iblk m c 23 t) := by dsimp only [dats]
theorem after0_80 (c : Dev nD) (t : Fin cfg0.N) : (dats m 0 c).after 80 t = out0_80 (iblk m c 0 t) (iblk m c 35 t) := by dsimp only [dats]
theorem after0_81 (c : Dev nD) (t : Fin cfg0.N) : (dats m 0 c).after 81 t = out0_81 (iblk m c 0 t) := by dsimp only [dats]
theorem after0_82 (c : Dev nD) (t : Fin cfg0.N) : (dats m 0 c).after 82 t = out0_82 (iblk m c 0 t) (iblk m c 12 t) (iblk m c 24 t) (iblk m c 36 t) := by dsimp only [dats]
theorem after0_83 (c : Dev nD) (t : Fin cfg0.N) : (dats m 0 c).after 83 t = out0_83 (iblk m c 0 t) (iblk m c 24 t) := by dsimp only [dats]
theorem after0_84 (c : Dev nD) (t : Fin cfg0.N) : (dats m 0 c).after 84 t = out0_84 (iblk m c 0 t) (iblk m c 36 t) := by dsimp only [dats]
theorem after0_85 (c : Dev nD) (t : Fin cfg0.N) : (dats m 0 c).after 85 t = out0_85 (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d
theorem before0_34 (c : Dev nD) (t : Fin cfg0.N) (d) : (dats m 0 c).before 34 t d = iblk m c 34 t :=
  before0_34_of m (dats m 0 c) (A_eq m c 34) (after0_34 m c) t d
theorem before0_35 (c : Dev nD) (t : Fin cfg0.N) (d) : (dats m 0 c).before 35 t d = iblk m c 35 t :=
  before0_35_of m (dats m 0 c) (A_eq m c 35) (after0_35 m c) t d
theorem before0_36 (c : Dev nD) (t : Fin cfg0.N) (d) : (dats m 0 c).before 36 t d = iblk m c 36 t :=
  before0_36_of m (dats m 0 c) (A_eq m c 36) (after0_36 m c) t d

/-! ## The body obligation, at a generic point -/

/-- What the body is handed. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d))
    ∗ (∃ d, owns (c : Thread nD τ) (st0_67 t) fullShare ((dats m 0 c).before 67 t d))
    ∗ (∃ d, owns (c : Thread nD τ) (st0_68 t) fullShare ((dats m 0 c).before 68 t d))
    ∗ (∃ d, owns (c : Thread nD τ) (st0_69 t) fullShare ((dats m 0 c).before 69 t d))
    ∗ (∃ d, owns (c : Thread nD τ) (st0_70 t) fullShare ((dats m 0 c).before 70 t d))
    ∗ (∃ d, owns (c : Thread nD τ) (st0_71 t) fullShare ((dats m 0 c).before 71 t d))
    ∗ (∃ d, owns (c : Thread nD τ) (st0_72 t) fullShare ((dats m 0 c).before 72 t d))
    ∗ (∃ d, owns (c : Thread nD τ) (st0_73 t) fullShare ((dats m 0 c).before 73 t d))
    ∗ (∃ d, owns (c : Thread nD τ) (st0_74 t) fullShare ((dats m 0 c).before 74 t d))
    ∗ (∃ d, owns (c : Thread nD τ) (st0_75 t) fullShare ((dats m 0 c).before 75 t d))
    ∗ (∃ d, owns (c : Thread nD τ) (st0_76 t) fullShare ((dats m 0 c).before 76 t d))
    ∗ (∃ d, owns (c : Thread nD τ) (st0_77 t) fullShare ((dats m 0 c).before 77 t d))
    ∗ (∃ d, owns (c : Thread nD τ) (st0_78 t) fullShare ((dats m 0 c).before 78 t d))
    ∗ (∃ d, owns (c : Thread nD τ) (st0_79 t) fullShare ((dats m 0 c).before 79 t d))
    ∗ (∃ d, owns (c : Thread nD τ) (st0_80 t) fullShare ((dats m 0 c).before 80 t d))
    ∗ (∃ d, owns (c : Thread nD τ) (st0_81 t) fullShare ((dats m 0 c).before 81 t d))
    ∗ (∃ d, owns (c : Thread nD τ) (st0_82 t) fullShare ((dats m 0 c).before 82 t d))
    ∗ (∃ d, owns (c : Thread nD τ) (st0_83 t) fullShare ((dats m 0 c).before 83 t d))
    ∗ (∃ d, owns (c : Thread nD τ) (st0_84 t) fullShare ((dats m 0 c).before 84 t d))
    ∗ (∃ d, owns (c : Thread nD τ) (st0_85 t) fullShare ((dats m 0 c).before 85 t d)))

/-- What the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t)
    ∗ owns (c : Thread nD τ) (st0_67 t) fullShare ((dats m 0 c).after 67 t)
    ∗ owns (c : Thread nD τ) (st0_68 t) fullShare ((dats m 0 c).after 68 t)
    ∗ owns (c : Thread nD τ) (st0_69 t) fullShare ((dats m 0 c).after 69 t)
    ∗ owns (c : Thread nD τ) (st0_70 t) fullShare ((dats m 0 c).after 70 t)
    ∗ owns (c : Thread nD τ) (st0_71 t) fullShare ((dats m 0 c).after 71 t)
    ∗ owns (c : Thread nD τ) (st0_72 t) fullShare ((dats m 0 c).after 72 t)
    ∗ owns (c : Thread nD τ) (st0_73 t) fullShare ((dats m 0 c).after 73 t)
    ∗ owns (c : Thread nD τ) (st0_74 t) fullShare ((dats m 0 c).after 74 t)
    ∗ owns (c : Thread nD τ) (st0_75 t) fullShare ((dats m 0 c).after 75 t)
    ∗ owns (c : Thread nD τ) (st0_76 t) fullShare ((dats m 0 c).after 76 t)
    ∗ owns (c : Thread nD τ) (st0_77 t) fullShare ((dats m 0 c).after 77 t)
    ∗ owns (c : Thread nD τ) (st0_78 t) fullShare ((dats m 0 c).after 78 t)
    ∗ owns (c : Thread nD τ) (st0_79 t) fullShare ((dats m 0 c).after 79 t)
    ∗ owns (c : Thread nD τ) (st0_80 t) fullShare ((dats m 0 c).after 80 t)
    ∗ owns (c : Thread nD τ) (st0_81 t) fullShare ((dats m 0 c).after 81 t)
    ∗ owns (c : Thread nD τ) (st0_82 t) fullShare ((dats m 0 c).after 82 t)
    ∗ owns (c : Thread nD τ) (st0_83 t) fullShare ((dats m 0 c).after 83 t)
    ∗ owns (c : Thread nD τ) (st0_84 t) fullShare ((dats m 0 c).after 84 t)
    ∗ owns (c : Thread nD τ) (st0_85 t) fullShare ((dats m 0 c).after 85 t))

set_option maxHeartbeats 8000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58, after0_59, after0_60, after0_61, after0_62, after0_63, after0_64, after0_65, after0_66, after0_67, after0_68, after0_69, after0_70, after0_71, after0_72, after0_73, after0_74, after0_75, after0_76, after0_77, after0_78, after0_79, after0_80, after0_81, after0_82, after0_83, after0_84, after0_85]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩, ⟨%d79, H79⟩, ⟨%d80, H80⟩, ⟨%d81, H81⟩, ⟨%d82, H82⟩, ⟨%d83, H83⟩, ⟨%d84, H84⟩, ⟨%d85, H85⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  isplitl [H79]; · iexists _; iexact H79
  isplitl [H80]; · iexists _; iexact H80
  isplitl [H81]; · iexists _; iexact H81
  isplitl [H82]; · iexists _; iexact H82
  isplitl [H83]; · iexists _; iexact H83
  isplitl [H84]; · iexists _; iexact H84
  isplitl [H85]; · iexists _; iexact H85
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, H84, H85⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  isplitl [H79]; · iexact H79
  isplitl [H80]; · iexact H80
  isplitl [H81]; · iexact H81
  isplitl [H82]; · iexact H82
  isplitl [H83]; · iexact H83
  isplitl [H84]; · iexact H84
  iexact H85

/-- The body of a point is the printed one. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body meets what the launch asks of it at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run ends with every array at what the blocks say and no counter raised. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run ends with every array at what the blocks say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  frame_of m ρ (dats m) (A_eq m) (run_main m ρ)

/-- The arguments end unchanged and no counter is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36))
      ∧ r.2.sem = fun _ => 0) :=
  θ_run_and (unchanged m ρ) ((θ_run defs _ _).mono (fun _ h => h.2) (run_main_quiescent m ρ))

end Cert.Kernel10Ideal.Sm

end
-- ==== Proof.SmallFrame.lean ====
module

public import proofs.«01_k».proof.Defs
public import proofs.«01_k».proof.Proof.SmallRun
public import proofs.«01_k».proof.Proof.SmallWRun
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run

/-!
# The small weights' step: its programs run and keep their arguments
-/

@[expose] public section

set_option maxRecDepth 100000

namespace Cert.Proof

open Idealize.ShloMosaic Idealize.ShloMosaic.TcCoe Idealize.SL.Sem

/-- The optimiser step of the small weights runs, keeps its arguments and ends with every counter at zero. -/
theorem frame_kernel10 : Cert.quiescent_Kernel10 := fun m ρ _ => Cert.Kernel10.Sm.frame m ρ

/-- So does its idealization. -/
theorem frame_ideal10 : Cert.quiescent_Kernel10Ideal := fun m ρ _ => Cert.Kernel10Ideal.Sm.frame m ρ

/-- So does its reference. -/
theorem frame_reference10 : Cert.quiescent_Reference10Ideal := fun m ρ _ =>
  (θ_run Cert.Reference10Ideal.defs _ _).mono
    (fun r h => ⟨fun c => (h c).2.2.2.2.2.2.2.2.2.2.2.2.2.2.2.2.2.2.2.2.2.2.2.2.2.2.2.2.2.2.2.2.2.2.2.2.2.2.2.2.2.2.2.2.2.2.2.2.2, sem_eq_zero_of_no_sems rfl r.2⟩) (Cert.Reference10Ideal.Value.run m ρ)

/-- The two named constants are the kernel's words, and their values are what they are named for. -/
theorem preserves10 : Cert.preserves_Kernel10_Kernel10Ideal :=
  ⟨IdealRules.named_const.statement _ _ _ _ _ rfl, IdealRules.named_const.statement _ _ _ _ _ rfl⟩

end Cert.Proof
-- ==== Proof.SmallBlk.lean ====
module

public import proofs.«01_k».proof.Proof.SmallRun

/-!
# The small weights' step: the blocks

The call has one step, and every block is its whole array. So an argument's block is the argument, and an output array
ends with what the step stores.
-/

@[expose] public section

set_option maxRecDepth 100000

namespace Cert.SmArr

open Cert.Kernel10Ideal Cert.Kernel10Ideal.Gen Cert.Kernel10Ideal.Sm
open Idealize.ShloMosaic Idealize.ShloMosaic.TcCoe Idealize.ShloMosaic.Tactic Idealize.SL.Sem
open Idealize.ShloMosaic.Pipeline (Dat Cfg Window)

variable {F : FTy → Type} [FloatOps F] [Named F]
variable (m : (ℓ : Loc nD τ sig) → Buf (Elt F) ℓ)

/-- Every block starts at its array's origin: entry `k` of the block is entry `k` of the array. -/
theorem at0 (w : Fin cfg0.W) (t : Fin cfg0.N) (a) (k : ℕ) : (cfg0.win w).kind.off ((cfg0.win w).index t a) ((cfg0.win w).size a) + 1 * k = k := by
  have h : (cfg0.win w).index t a = 0 := ((cfg0.win w).whole_of_rank_zero rfl).2 _ a
  rw [h]
  cases (cfg0.win w).kind <;> simp

variable (c : Dev nD)
theorem blk0 (t : Fin cfg0.N) : iblk m c 0 t = m ((c : Thread nD τ).loc main_arg0) := funext fun j => congrArg (m ((c : Thread nD τ).loc main_arg0)) (funext fun a => Fin.ext (at0 0 t a (j a).val))
theorem blk1 (t : Fin cfg0.N) : iblk m c 1 t = m ((c : Thread nD τ).loc main_arg1) := funext fun j => congrArg (m ((c : Thread nD τ).loc main_arg1)) (funext fun a => Fin.ext (at0 1 t a (j a).val))
theorem blk2 (t : Fin cfg0.N) : iblk m c 2 t = m ((c : Thread nD τ).loc main_arg2) := funext fun j => congrArg (m ((c : Thread nD τ).loc main_arg2)) (funext fun a => Fin.ext (at0 2 t a (j a).val))
theorem blk3 (t : Fin cfg0.N) : iblk m c 3 t = m ((c : Thread nD τ).loc main_arg3) := funext fun j => congrArg (m ((c : Thread nD τ).loc main_arg3)) (funext fun a => Fin.ext (at0 3 t a (j a).val))
theorem blk4 (t : Fin cfg0.N) : iblk m c 4 t = m ((c : Thread nD τ).loc main_arg4) := funext fun j => congrArg (m ((c : Thread nD τ).loc main_arg4)) (funext fun a => Fin.ext (at0 4 t a (j a).val))
theorem blk5 (t : Fin cfg0.N) : iblk m c 5 t = m ((c : Thread nD τ).loc main_arg5) := funext fun j => congrArg (m ((c : Thread nD τ).loc main_arg5)) (funext fun a => Fin.ext (at0 5 t a (j a).val))
theorem blk6 (t : Fin cfg0.N) : iblk m c 6 t = m ((c : Thread nD τ).loc main_arg6) := funext fun j => congrArg (m ((c : Thread nD τ).loc main_arg6)) (funext fun a => Fin.ext (at0 6 t a (j a).val))
theorem blk7 (t : Fin cfg0.N) : iblk m c 7 t = m ((c : Thread nD τ).loc main_arg7) := funext fun j => congrArg (m ((c : Thread nD τ).loc main_arg7)) (funext fun a => Fin.ext (at0 7 t a (j a).val))
theorem blk8 (t : Fin cfg0.N) : iblk m c 8 t = m ((c : Thread nD τ).loc main_arg8) := funext fun j => congrArg (m ((c : Thread nD τ).loc main_arg8)) (funext fun a => Fin.ext (at0 8 t a (j a).val))
theorem blk9 (t : Fin cfg0.N) : iblk m c 9 t = m ((c : Thread nD τ).loc main_arg9) := funext fun j => congrArg (m ((c : Thread nD τ).loc main_arg9)) (funext fun a => Fin.ext (at0 9 t a (j a).val))
theorem blk10 (t : Fin cfg0.N) : iblk m c 10 t = m ((c : Thread nD τ).loc main_arg10) := funext fun j => congrArg (m ((c : Thread nD τ).loc main_arg10)) (funext fun a => Fin.ext (at0 10 t a (j a).val))
theorem blk11 (t : Fin cfg0.N) : iblk m c 11 t = m ((c : Thread nD τ).loc main_arg11) := funext fun j => congrArg (m ((c : Thread nD τ).loc main_arg11)) (funext fun a => Fin.ext (at0 11 t a (j a).val))
theorem blk12 (t : Fin cfg0.N) : iblk m c 12 t = m ((c : Thread nD τ).loc main_arg12) := funext fun j => congrArg (m ((c : Thread nD τ).loc main_arg12)) (funext fun a => Fin.ext (at0 12 t a (j a).val))
theorem blk13 (t : Fin cfg0.N) : iblk m c 13 t = m ((c : Thread nD τ).loc main_arg13) := funext fun j => congrArg (m ((c : Thread nD τ).loc main_arg13)) (funext fun a => Fin.ext (at0 13 t a (j a).val))
theorem blk14 (t : Fin cfg0.N) : iblk m c 14 t = m ((c : Thread nD τ).loc main_arg14) := funext fun j => congrArg (m ((c : Thread nD τ).loc main_arg14)) (funext fun a => Fin.ext (at0 14 t a (j a).val))
theorem blk15 (t : Fin cfg0.N) : iblk m c 15 t = m ((c : Thread nD τ).loc main_arg15) := funext fun j => congrArg (m ((c : Thread nD τ).loc main_arg15)) (funext fun a => Fin.ext (at0 15 t a (j a).val))
theorem blk16 (t : Fin cfg0.N) : iblk m c 16 t = m ((c : Thread nD τ).loc main_arg16) := funext fun j => congrArg (m ((c : Thread nD τ).loc main_arg16)) (funext fun a => Fin.ext (at0 16 t a (j a).val))
theorem blk17 (t : Fin cfg0.N) : iblk m c 17 t = m ((c : Thread nD τ).loc main_arg17) := funext fun j => congrArg (m ((c : Thread nD τ).loc main_arg17)) (funext fun a => Fin.ext (at0 17 t a (j a).val))
theorem blk18 (t : Fin cfg0.N) : iblk m c 18 t = m ((c : Thread nD τ).loc main_arg18) := funext fun j => congrArg (m ((c : Thread nD τ).loc main_arg18)) (funext fun a => Fin.ext (at0 18 t a (j a).val))
theorem blk19 (t : Fin cfg0.N) : iblk m c 19 t = m ((c : Thread nD τ).loc main_arg19) := funext fun j => congrArg (m ((c : Thread nD τ).loc main_arg19)) (funext fun a => Fin.ext (at0 19 t a (j a).val))
theorem blk20 (t : Fin cfg0.N) : iblk m c 20 t = m ((c : Thread nD τ).loc main_arg20) := funext fun j => congrArg (m ((c : Thread nD τ).loc main_arg20)) (funext fun a => Fin.ext (at0 20 t a (j a).val))
theorem blk21 (t : Fin cfg0.N) : iblk m c 21 t = m ((c : Thread nD τ).loc main_arg21) := funext fun j => congrArg (m ((c : Thread nD τ).loc main_arg21)) (funext fun a => Fin.ext (at0 21 t a (j a).val))
theorem blk22 (t : Fin cfg0.N) : iblk m c 22 t = m ((c : Thread nD τ).loc main_arg22) := funext fun j => congrArg (m ((c : Thread nD τ).loc main_arg22)) (funext fun a => Fin.ext (at0 22 t a (j a).val))
theorem blk23 (t : Fin cfg0.N) : iblk m c 23 t = m ((c : Thread nD τ).loc main_arg23) := funext fun j => congrArg (m ((c : Thread nD τ).loc main_arg23)) (funext fun a => Fin.ext (at0 23 t a (j a).val))
theorem blk24 (t : Fin cfg0.N) : iblk m c 24 t = m ((c : Thread nD τ).loc main_arg24) := funext fun j => congrArg (m ((c : Thread nD τ).loc main_arg24)) (funext fun a => Fin.ext (at0 24 t a (j a).val))
theorem blk25 (t : Fin cfg0.N) : iblk m c 25 t = m ((c : Thread nD τ).loc main_arg25) := funext fun j => congrArg (m ((c : Thread nD τ).loc main_arg25)) (funext fun a => Fin.ext (at0 25 t a (j a).val))
theorem blk26 (t : Fin cfg0.N) : iblk m c 26 t = m ((c : Thread nD τ).loc main_arg26) := funext fun j => congrArg (m ((c : Thread nD τ).loc main_arg26)) (funext fun a => Fin.ext (at0 26 t a (j a).val))
theorem blk27 (t : Fin cfg0.N) : iblk m c 27 t = m ((c : Thread nD τ).loc main_arg27) := funext fun j => congrArg (m ((c : Thread nD τ).loc main_arg27)) (funext fun a => Fin.ext (at0 27 t a (j a).val))
theorem blk28 (t : Fin cfg0.N) : iblk m c 28 t = m ((c : Thread nD τ).loc main_arg28) := funext fun j => congrArg (m ((c : Thread nD τ).loc main_arg28)) (funext fun a => Fin.ext (at0 28 t a (j a).val))
theorem blk29 (t : Fin cfg0.N) : iblk m c 29 t = m ((c : Thread nD τ).loc main_arg29) := funext fun j => congrArg (m ((c : Thread nD τ).loc main_arg29)) (funext fun a => Fin.ext (at0 29 t a (j a).val))
theorem blk30 (t : Fin cfg0.N) : iblk m c 30 t = m ((c : Thread nD τ).loc main_arg30) := funext fun j => congrArg (m ((c : Thread nD τ).loc main_arg30)) (funext fun a => Fin.ext (at0 30 t a (j a).val))
theorem blk31 (t : Fin cfg0.N) : iblk m c 31 t = m ((c : Thread nD τ).loc main_arg31) := funext fun j => congrArg (m ((c : Thread nD τ).loc main_arg31)) (funext fun a => Fin.ext (at0 31 t a (j a).val))
theorem blk32 (t : Fin cfg0.N) : iblk m c 32 t = m ((c : Thread nD τ).loc main_arg32) := funext fun j => congrArg (m ((c : Thread nD τ).loc main_arg32)) (funext fun a => Fin.ext (at0 32 t a (j a).val))
theorem blk33 (t : Fin cfg0.N) : iblk m c 33 t = m ((c : Thread nD τ).loc main_arg33) := funext fun j => congrArg (m ((c : Thread nD τ).loc main_arg33)) (funext fun a => Fin.ext (at0 33 t a (j a).val))
theorem blk34 (t : Fin cfg0.N) : iblk m c 34 t = m ((c : Thread nD τ).loc main_arg34) := funext fun j => congrArg (m ((c : Thread nD τ).loc main_arg34)) (funext fun a => Fin.ext (at0 34 t a (j a).val))
theorem blk35 (t : Fin cfg0.N) : iblk m c 35 t = m ((c : Thread nD τ).loc main_arg35) := funext fun j => congrArg (m ((c : Thread nD τ).loc main_arg35)) (funext fun a => Fin.ext (at0 35 t a (j a).val))
theorem blk36 (t : Fin cfg0.N) : iblk m c 36 t = m ((c : Thread nD τ).loc main_arg36) := funext fun j => congrArg (m ((c : Thread nD τ).loc main_arg36)) (funext fun a => Fin.ext (at0 36 t a (j a).val))

end Cert.SmArr
-- ==== Proof.SmallArr1.lean ====
module

public import proofs.«01_k».proof.Proof.SmallBlk
public import Idealize.ShloMosaic.Lib.Pipeline.ValueKit.Geometry

/-!
# The small weights' step: output arrays 37 to 48
-/

@[expose] public section

set_option maxRecDepth 100000

namespace Cert.SmArr

open Cert.Kernel10Ideal Cert.Kernel10Ideal.Gen Cert.Kernel10Ideal.Sm
open Idealize.ShloMosaic Idealize.ShloMosaic.TcCoe Idealize.ShloMosaic.Tactic Idealize.SL.Sem
open Idealize.ShloMosaic.Pipeline (Dat Cfg Window)

variable {F : FTy → Type} [FloatOps F] [Named F]
variable (m : (ℓ : Loc nD τ sig) → Buf (Elt F) ℓ)

variable (c : Dev nD)

/-- What window 37's array ends holding. -/
theorem arr37 : (dats m 0 c).arrAt 37 cfg0.N = out0_37 (m ((c : Thread nD τ).loc main_arg0)) :=
  (dats m 0 c).arrAt_eq_of_covers 37 _ (by decide +kernel) fun t _ y => by
    rw [show ((cfg0.win 37).blk t).view.emb y = y from funext fun a => Fin.ext (at0 37 t a (y a).val), ← blk0 m c t]
    exact congrFun (after0_37 m c t) y

/-- What window 38's array ends holding. -/
theorem arr38 : (dats m 0 c).arrAt 38 cfg0.N = out0_38 (m ((c : Thread nD τ).loc main_arg0)) (m ((c : Thread nD τ).loc main_arg1)) (m ((c : Thread nD τ).loc main_arg13)) (m ((c : Thread nD τ).loc main_arg25)) :=
  (dats m 0 c).arrAt_eq_of_covers 38 _ (by decide +kernel) fun t _ y => by
    rw [show ((cfg0.win 38).blk t).view.emb y = y from funext fun a => Fin.ext (at0 38 t a (y a).val), ← blk0 m c t, ← blk1 m c t, ← blk13 m c t, ← blk25 m c t]
    exact congrFun (after0_38 m c t) y

/-- What window 39's array ends holding. -/
theorem arr39 : (dats m 0 c).arrAt 39 cfg0.N = out0_39 (m ((c : Thread nD τ).loc main_arg0)) (m ((c : Thread nD τ).loc main_arg13)) :=
  (dats m 0 c).arrAt_eq_of_covers 39 _ (by decide +kernel) fun t _ y => by
    rw [show ((cfg0.win 39).blk t).view.emb y = y from funext fun a => Fin.ext (at0 39 t a (y a).val), ← blk0 m c t, ← blk13 m c t]
    exact congrFun (after0_39 m c t) y

/-- What window 40's array ends holding. -/
theorem arr40 : (dats m 0 c).arrAt 40 cfg0.N = out0_40 (m ((c : Thread nD τ).loc main_arg0)) (m ((c : Thread nD τ).loc main_arg25)) :=
  (dats m 0 c).arrAt_eq_of_covers 40 _ (by decide +kernel) fun t _ y => by
    rw [show ((cfg0.win 40).blk t).view.emb y = y from funext fun a => Fin.ext (at0 40 t a (y a).val), ← blk0 m c t, ← blk25 m c t]
    exact congrFun (after0_40 m c t) y

/-- What window 41's array ends holding. -/
theorem arr41 : (dats m 0 c).arrAt 41 cfg0.N = out0_41 (m ((c : Thread nD τ).loc main_arg0)) :=
  (dats m 0 c).arrAt_eq_of_covers 41 _ (by decide +kernel) fun t _ y => by
    rw [show ((cfg0.win 41).blk t).view.emb y = y from funext fun a => Fin.ext (at0 41 t a (y a).val), ← blk0 m c t]
    exact congrFun (after0_41 m c t) y

/-- What window 42's array ends holding. -/
theorem arr42 : (dats m 0 c).arrAt 42 cfg0.N = out0_42 (m ((c : Thread nD τ).loc main_arg0)) (m ((c : Thread nD τ).loc main_arg2)) (m ((c : Thread nD τ).loc main_arg14)) (m ((c : Thread nD τ).loc main_arg26)) :=
  (dats m 0 c).arrAt_eq_of_covers 42 _ (by decide +kernel) fun t _ y => by
    rw [show ((cfg0.win 42).blk t).view.emb y = y from funext fun a => Fin.ext (at0 42 t a (y a).val), ← blk0 m c t, ← blk2 m c t, ← blk14 m c t, ← blk26 m c t]
    exact congrFun (after0_42 m c t) y

/-- What window 43's array ends holding. -/
theorem arr43 : (dats m 0 c).arrAt 43 cfg0.N = out0_43 (m ((c : Thread nD τ).loc main_arg0)) (m ((c : Thread nD τ).loc main_arg14)) :=
  (dats m 0 c).arrAt_eq_of_covers 43 _ (by decide +kernel) fun t _ y => by
    rw [show ((cfg0.win 43).blk t).view.emb y = y from funext fun a => Fin.ext (at0 43 t a (y a).val), ← blk0 m c t, ← blk14 m c t]
    exact congrFun (after0_43 m c t) y

/-- What window 44's array ends holding. -/
theorem arr44 : (dats m 0 c).arrAt 44 cfg0.N = out0_44 (m ((c : Thread nD τ).loc main_arg0)) (m ((c : Thread nD τ).loc main_arg26)) :=
  (dats m 0 c).arrAt_eq_of_covers 44 _ (by decide +kernel) fun t _ y => by
    rw [show ((cfg0.win 44).blk t).view.emb y = y from funext fun a => Fin.ext (at0 44 t a (y a).val), ← blk0 m c t, ← blk26 m c t]
    exact congrFun (after0_44 m c t) y

/-- What window 45's array ends holding. -/
theorem arr45 : (dats m 0 c).arrAt 45 cfg0.N = out0_45 (m ((c : Thread nD τ).loc main_arg0)) :=
  (dats m 0 c).arrAt_eq_of_covers 45 _ (by decide +kernel) fun t _ y => by
    rw [show ((cfg0.win 45).blk t).view.emb y = y from funext fun a => Fin.ext (at0 45 t a (y a).val), ← blk0 m c t]
    exact congrFun (after0_45 m c t) y

/-- What window 46's array ends holding. -/
theorem arr46 : (dats m 0 c).arrAt 46 cfg0.N = out0_46 (m ((c : Thread nD τ).loc main_arg0)) (m ((c : Thread nD τ).loc main_arg3)) (m ((c : Thread nD τ).loc main_arg15)) (m ((c : Thread nD τ).loc main_arg27)) :=
  (dats m 0 c).arrAt_eq_of_covers 46 _ (by decide +kernel) fun t _ y => by
    rw [show ((cfg0.win 46).blk t).view.emb y = y from funext fun a => Fin.ext (at0 46 t a (y a).val), ← blk0 m c t, ← blk3 m c t, ← blk15 m c t, ← blk27 m c t]
    exact congrFun (after0_46 m c t) y

/-- What window 47's array ends holding. -/
theorem arr47 : (dats m 0 c).arrAt 47 cfg0.N = out0_47 (m ((c : Thread nD τ).loc main_arg0)) (m ((c : Thread nD τ).loc main_arg15)) :=
  (dats m 0 c).arrAt_eq_of_covers 47 _ (by decide +kernel) fun t _ y => by
    rw [show ((cfg0.win 47).blk t).view.emb y = y from funext fun a => Fin.ext (at0 47 t a (y a).val), ← blk0 m c t, ← blk15 m c t]
    exact congrFun (after0_47 m c t) y

/-- What window 48's array ends holding. -/
theorem arr48 : (dats m 0 c).arrAt 48 cfg0.N = out0_48 (m ((c : Thread nD τ).loc main_arg0)) (m ((c : Thread nD τ).loc main_arg27)) :=
  (dats m 0 c).arrAt_eq_of_covers 48 _ (by decide +kernel) fun t _ y => by
    rw [show ((cfg0.win 48).blk t).view.emb y = y from funext fun a => Fin.ext (at0 48 t a (y a).val), ← blk0 m c t, ← blk27 m c t]
    exact congrFun (after0_48 m c t) y

end Cert.SmArr
-- ==== Proof.SmallArr2.lean ====
module

public import proofs.«01_k».proof.Proof.SmallBlk
public import Idealize.ShloMosaic.Lib.Pipeline.ValueKit.Geometry

/-!
# The small weights' step: output arrays 49 to 60
-/

@[expose] public section

set_option maxRecDepth 100000

namespace Cert.SmArr

open Cert.Kernel10Ideal Cert.Kernel10Ideal.Gen Cert.Kernel10Ideal.Sm
open Idealize.ShloMosaic Idealize.ShloMosaic.TcCoe Idealize.ShloMosaic.Tactic Idealize.SL.Sem
open Idealize.ShloMosaic.Pipeline (Dat Cfg Window)

variable {F : FTy → Type} [FloatOps F] [Named F]
variable (m : (ℓ : Loc nD τ sig) → Buf (Elt F) ℓ)

variable (c : Dev nD)

/-- What window 49's array ends holding. -/
theorem arr49 : (dats m 0 c).arrAt 49 cfg0.N = out0_49 (m ((c : Thread nD τ).loc main_arg0)) :=
  (dats m 0 c).arrAt_eq_of_covers 49 _ (by decide +kernel) fun t _ y => by
    rw [show ((cfg0.win 49).blk t).view.emb y = y from funext fun a => Fin.ext (at0 49 t a (y a).val), ← blk0 m c t]
    exact congrFun (after0_49 m c t) y

/-- What window 50's array ends holding. -/
theorem arr50 : (dats m 0 c).arrAt 50 cfg0.N = out0_50 (m ((c : Thread nD τ).loc main_arg0)) (m ((c : Thread nD τ).loc main_arg4)) (m ((c : Thread nD τ).loc main_arg16)) (m ((c : Thread nD τ).loc main_arg28)) :=
  (dats m 0 c).arrAt_eq_of_covers 50 _ (by decide +kernel) fun t _ y => by
    rw [show ((cfg0.win 50).blk t).view.emb y = y from funext fun a => Fin.ext (at0 50 t a (y a).val), ← blk0 m c t, ← blk4 m c t, ← blk16 m c t, ← blk28 m c t]
    exact congrFun (after0_50 m c t) y

/-- What window 51's array ends holding. -/
theorem arr51 : (dats m 0 c).arrAt 51 cfg0.N = out0_51 (m ((c : Thread nD τ).loc main_arg0)) (m ((c : Thread nD τ).loc main_arg16)) :=
  (dats m 0 c).arrAt_eq_of_covers 51 _ (by decide +kernel) fun t _ y => by
    rw [show ((cfg0.win 51).blk t).view.emb y = y from funext fun a => Fin.ext (at0 51 t a (y a).val), ← blk0 m c t, ← blk16 m c t]
    exact congrFun (after0_51 m c t) y

/-- What window 52's array ends holding. -/
theorem arr52 : (dats m 0 c).arrAt 52 cfg0.N = out0_52 (m ((c : Thread nD τ).loc main_arg0)) (m ((c : Thread nD τ).loc main_arg28)) :=
  (dats m 0 c).arrAt_eq_of_covers 52 _ (by decide +kernel) fun t _ y => by
    rw [show ((cfg0.win 52).blk t).view.emb y = y from funext fun a => Fin.ext (at0 52 t a (y a).val), ← blk0 m c t, ← blk28 m c t]
    exact congrFun (after0_52 m c t) y

/-- What window 53's array ends holding. -/
theorem arr53 : (dats m 0 c).arrAt 53 cfg0.N = out0_53 (m ((c : Thread nD τ).loc main_arg0)) :=
  (dats m 0 c).arrAt_eq_of_covers 53 _ (by decide +kernel) fun t _ y => by
    rw [show ((cfg0.win 53).blk t).view.emb y = y from funext fun a => Fin.ext (at0 53 t a (y a).val), ← blk0 m c t]
    exact congrFun (after0_53 m c t) y

/-- What window 54's array ends holding. -/
theorem arr54 : (dats m 0 c).arrAt 54 cfg0.N = out0_54 (m ((c : Thread nD τ).loc main_arg0)) (m ((c : Thread nD τ).loc main_arg5)) (m ((c : Thread nD τ).loc main_arg17)) (m ((c : Thread nD τ).loc main_arg29)) :=
  (dats m 0 c).arrAt_eq_of_covers 54 _ (by decide +kernel) fun t _ y => by
    rw [show ((cfg0.win 54).blk t).view.emb y = y from funext fun a => Fin.ext (at0 54 t a (y a).val), ← blk0 m c t, ← blk5 m c t, ← blk17 m c t, ← blk29 m c t]
    exact congrFun (after0_54 m c t) y

/-- What window 55's array ends holding. -/
theorem arr55 : (dats m 0 c).arrAt 55 cfg0.N = out0_55 (m ((c : Thread nD τ).loc main_arg0)) (m ((c : Thread nD τ).loc main_arg17)) :=
  (dats m 0 c).arrAt_eq_of_covers 55 _ (by decide +kernel) fun t _ y => by
    rw [show ((cfg0.win 55).blk t).view.emb y = y from funext fun a => Fin.ext (at0 55 t a (y a).val), ← blk0 m c t, ← blk17 m c t]
    exact congrFun (after0_55 m c t) y

/-- What window 56's array ends holding. -/
theorem arr56 : (dats m 0 c).arrAt 56 cfg0.N = out0_56 (m ((c : Thread nD τ).loc main_arg0)) (m ((c : Thread nD τ).loc main_arg29)) :=
  (dats m 0 c).arrAt_eq_of_covers 56 _ (by decide +kernel) fun t _ y => by
    rw [show ((cfg0.win 56).blk t).view.emb y = y from funext fun a => Fin.ext (at0 56 t a (y a).val), ← blk0 m c t, ← blk29 m c t]
    exact congrFun (after0_56 m c t) y

/-- What window 57's array ends holding. -/
theorem arr57 : (dats m 0 c).arrAt 57 cfg0.N = out0_57 (m ((c : Thread nD τ).loc main_arg0)) :=
  (dats m 0 c).arrAt_eq_of_covers 57 _ (by decide +kernel) fun t _ y => by
    rw [show ((cfg0.win 57).blk t).view.emb y = y from funext fun a => Fin.ext (at0 57 t a (y a).val), ← blk0 m c t]
    exact congrFun (after0_57 m c t) y

/-- What window 58's array ends holding. -/
theorem arr58 : (dats m 0 c).arrAt 58 cfg0.N = out0_58 (m ((c : Thread nD τ).loc main_arg0)) (m ((c : Thread nD τ).loc main_arg6)) (m ((c : Thread nD τ).loc main_arg18)) (m ((c : Thread nD τ).loc main_arg30)) :=
  (dats m 0 c).arrAt_eq_of_covers 58 _ (by decide +kernel) fun t _ y => by
    rw [show ((cfg0.win 58).blk t).view.emb y = y from funext fun a => Fin.ext (at0 58 t a (y a).val), ← blk0 m c t, ← blk6 m c t, ← blk18 m c t, ← blk30 m c t]
    exact congrFun (after0_58 m c t) y

/-- What window 59's array ends holding. -/
theorem arr59 : (dats m 0 c).arrAt 59 cfg0.N = out0_59 (m ((c : Thread nD τ).loc main_arg0)) (m ((c : Thread nD τ).loc main_arg18)) :=
  (dats m 0 c).arrAt_eq_of_covers 59 _ (by decide +kernel) fun t _ y => by
    rw [show ((cfg0.win 59).blk t).view.emb y = y from funext fun a => Fin.ext (at0 59 t a (y a).val), ← blk0 m c t, ← blk18 m c t]
    exact congrFun (after0_59 m c t) y

/-- What window 60's array ends holding. -/
theorem arr60 : (dats m 0 c).arrAt 60 cfg0.N = out0_60 (m ((c : Thread nD τ).loc main_arg0)) (m ((c : Thread nD τ).loc main_arg30)) :=
  (dats m 0 c).arrAt_eq_of_covers 60 _ (by decide +kernel) fun t _ y => by
    rw [show ((cfg0.win 60).blk t).view.emb y = y from funext fun a => Fin.ext (at0 60 t a (y a).val), ← blk0 m c t, ← blk30 m c t]
    exact congrFun (after0_60 m c t) y

end Cert.SmArr
-- ==== Proof.SmallArr3.lean ====
module

public import proofs.«01_k».proof.Proof.SmallBlk
public import Idealize.ShloMosaic.Lib.Pipeline.ValueKit.Geometry

/-!
# The small weights' step: output arrays 61 to 72
-/

@[expose] public section

set_option maxRecDepth 100000

namespace Cert.SmArr

open Cert.Kernel10Ideal Cert.Kernel10Ideal.Gen Cert.Kernel10Ideal.Sm
open Idealize.ShloMosaic Idealize.ShloMosaic.TcCoe Idealize.ShloMosaic.Tactic Idealize.SL.Sem
open Idealize.ShloMosaic.Pipeline (Dat Cfg Window)

variable {F : FTy → Type} [FloatOps F] [Named F]
variable (m : (ℓ : Loc nD τ sig) → Buf (Elt F) ℓ)

variable (c : Dev nD)

/-- What window 61's array ends holding. -/
theorem arr61 : (dats m 0 c).arrAt 61 cfg0.N = out0_61 (m ((c : Thread nD τ).loc main_arg0)) :=
  (dats m 0 c).arrAt_eq_of_covers 61 _ (by decide +kernel) fun t _ y => by
    rw [show ((cfg0.win 61).blk t).view.emb y = y from funext fun a => Fin.ext (at0 61 t a (y a).val), ← blk0 m c t]
    exact congrFun (after0_61 m c t) y

/-- What window 62's array ends holding. -/
theorem arr62 : (dats m 0 c).arrAt 62 cfg0.N = out0_62 (m ((c : Thread nD τ).loc main_arg0)) (m ((c : Thread nD τ).loc main_arg7)) (m ((c : Thread nD τ).loc main_arg19)) (m ((c : Thread nD τ).loc main_arg31)) :=
  (dats m 0 c).arrAt_eq_of_covers 62 _ (by decide +kernel) fun t _ y => by
    rw [show ((cfg0.win 62).blk t).view.emb y = y from funext fun a => Fin.ext (at0 62 t a (y a).val), ← blk0 m c t, ← blk7 m c t, ← blk19 m c t, ← blk31 m c t]
    exact congrFun (after0_62 m c t) y

/-- What window 63's array ends holding. -/
theorem arr63 : (dats m 0 c).arrAt 63 cfg0.N = out0_63 (m ((c : Thread nD τ).loc main_arg0)) (m ((c : Thread nD τ).loc main_arg19)) :=
  (dats m 0 c).arrAt_eq_of_covers 63 _ (by decide +kernel) fun t _ y => by
    rw [show ((cfg0.win 63).blk t).view.emb y = y from funext fun a => Fin.ext (at0 63 t a (y a).val), ← blk0 m c t, ← blk19 m c t]
    exact congrFun (after0_63 m c t) y

/-- What window 64's array ends holding. -/
theorem arr64 : (dats m 0 c).arrAt 64 cfg0.N = out0_64 (m ((c : Thread nD τ).loc main_arg0)) (m ((c : Thread nD τ).loc main_arg31)) :=
  (dats m 0 c).arrAt_eq_of_covers 64 _ (by decide +kernel) fun t _ y => by
    rw [show ((cfg0.win 64).blk t).view.emb y = y from funext fun a => Fin.ext (at0 64 t a (y a).val), ← blk0 m c t, ← blk31 m c t]
    exact congrFun (after0_64 m c t) y

/-- What window 65's array ends holding. -/
theorem arr65 : (dats m 0 c).arrAt 65 cfg0.N = out0_65 (m ((c : Thread nD τ).loc main_arg0)) :=
  (dats m 0 c).arrAt_eq_of_covers 65 _ (by decide +kernel) fun t _ y => by
    rw [show ((cfg0.win 65).blk t).view.emb y = y from funext fun a => Fin.ext (at0 65 t a (y a).val), ← blk0 m c t]
    exact congrFun (after0_65 m c t) y

/-- What window 66's array ends holding. -/
theorem arr66 : (dats m 0 c).arrAt 66 cfg0.N = out0_66 (m ((c : Thread nD τ).loc main_arg0)) (m ((c : Thread nD τ).loc main_arg8)) (m ((c : Thread nD τ).loc main_arg20)) (m ((c : Thread nD τ).loc main_arg32)) :=
  (dats m 0 c).arrAt_eq_of_covers 66 _ (by decide +kernel) fun t _ y => by
    rw [show ((cfg0.win 66).blk t).view.emb y = y from funext fun a => Fin.ext (at0 66 t a (y a).val), ← blk0 m c t, ← blk8 m c t, ← blk20 m c t, ← blk32 m c t]
    exact congrFun (after0_66 m c t) y

/-- What window 67's array ends holding. -/
theorem arr67 : (dats m 0 c).arrAt 67 cfg0.N = out0_67 (m ((c : Thread nD τ).loc main_arg0)) (m ((c : Thread nD τ).loc main_arg20)) :=
  (dats m 0 c).arrAt_eq_of_covers 67 _ (by decide +kernel) fun t _ y => by
    rw [show ((cfg0.win 67).blk t).view.emb y = y from funext fun a => Fin.ext (at0 67 t a (y a).val), ← blk0 m c t, ← blk20 m c t]
    exact congrFun (after0_67 m c t) y

/-- What window 68's array ends holding. -/
theorem arr68 : (dats m 0 c).arrAt 68 cfg0.N = out0_68 (m ((c : Thread nD τ).loc main_arg0)) (m ((c : Thread nD τ).loc main_arg32)) :=
  (dats m 0 c).arrAt_eq_of_covers 68 _ (by decide +kernel) fun t _ y => by
    rw [show ((cfg0.win 68).blk t).view.emb y = y from funext fun a => Fin.ext (at0 68 t a (y a).val), ← blk0 m c t, ← blk32 m c t]
    exact congrFun (after0_68 m c t) y

/-- What window 69's array ends holding. -/
theorem arr69 : (dats m 0 c).arrAt 69 cfg0.N = out0_69 (m ((c : Thread nD τ).loc main_arg0)) :=
  (dats m 0 c).arrAt_eq_of_covers 69 _ (by decide +kernel) fun t _ y => by
    rw [show ((cfg0.win 69).blk t).view.emb y = y from funext fun a => Fin.ext (at0 69 t a (y a).val), ← blk0 m c t]
    exact congrFun (after0_69 m c t) y

/-- What window 70's array ends holding. -/
theorem arr70 : (dats m 0 c).arrAt 70 cfg0.N = out0_70 (m ((c : Thread nD τ).loc main_arg0)) (m ((c : Thread nD τ).loc main_arg9)) (m ((c : Thread nD τ).loc main_arg21)) (m ((c : Thread nD τ).loc main_arg33)) :=
  (dats m 0 c).arrAt_eq_of_covers 70 _ (by decide +kernel) fun t _ y => by
    rw [show ((cfg0.win 70).blk t).view.emb y = y from funext fun a => Fin.ext (at0 70 t a (y a).val), ← blk0 m c t, ← blk9 m c t, ← blk21 m c t, ← blk33 m c t]
    exact congrFun (after0_70 m c t) y

/-- What window 71's array ends holding. -/
theorem arr71 : (dats m 0 c).arrAt 71 cfg0.N = out0_71 (m ((c : Thread nD τ).loc main_arg0)) (m ((c : Thread nD τ).loc main_arg21)) :=
  (dats m 0 c).arrAt_eq_of_covers 71 _ (by decide +kernel) fun t _ y => by
    rw [show ((cfg0.win 71).blk t).view.emb y = y from funext fun a => Fin.ext (at0 71 t a (y a).val), ← blk0 m c t, ← blk21 m c t]
    exact congrFun (after0_71 m c t) y

/-- What window 72's array ends holding. -/
theorem arr72 : (dats m 0 c).arrAt 72 cfg0.N = out0_72 (m ((c : Thread nD τ).loc main_arg0)) (m ((c : Thread nD τ).loc main_arg33)) :=
  (dats m 0 c).arrAt_eq_of_covers 72 _ (by decide +kernel) fun t _ y => by
    rw [show ((cfg0.win 72).blk t).view.emb y = y from funext fun a => Fin.ext (at0 72 t a (y a).val), ← blk0 m c t, ← blk33 m c t]
    exact congrFun (after0_72 m c t) y

end Cert.SmArr
-- ==== Proof.SmallArr4.lean ====
module

public import proofs.«01_k».proof.Proof.SmallBlk
public import Idealize.ShloMosaic.Lib.Pipeline.ValueKit.Geometry

/-!
# The small weights' step: output arrays 73 to 85
-/

@[expose] public section

set_option maxRecDepth 100000

namespace Cert.SmArr

open Cert.Kernel10Ideal Cert.Kernel10Ideal.Gen Cert.Kernel10Ideal.Sm
open Idealize.ShloMosaic Idealize.ShloMosaic.TcCoe Idealize.ShloMosaic.Tactic Idealize.SL.Sem
open Idealize.ShloMosaic.Pipeline (Dat Cfg Window)

variable {F : FTy → Type} [FloatOps F] [Named F]
variable (m : (ℓ : Loc nD τ sig) → Buf (Elt F) ℓ)

variable (c : Dev nD)

/-- What window 73's array ends holding. -/
theorem arr73 : (dats m 0 c).arrAt 73 cfg0.N = out0_73 (m ((c : Thread nD τ).loc main_arg0)) :=
  (dats m 0 c).arrAt_eq_of_covers 73 _ (by decide +kernel) fun t _ y => by
    rw [show ((cfg0.win 73).blk t).view.emb y = y from funext fun a => Fin.ext (at0 73 t a (y a).val), ← blk0 m c t]
    exact congrFun (after0_73 m c t) y

/-- What window 74's array ends holding. -/
theorem arr74 : (dats m 0 c).arrAt 74 cfg0.N = out0_74 (m ((c : Thread nD τ).loc main_arg0)) (m ((c : Thread nD τ).loc main_arg10)) (m ((c : Thread nD τ).loc main_arg22)) (m ((c : Thread nD τ).loc main_arg34)) :=
  (dats m 0 c).arrAt_eq_of_covers 74 _ (by decide +kernel) fun t _ y => by
    rw [show ((cfg0.win 74).blk t).view.emb y = y from funext fun a => Fin.ext (at0 74 t a (y a).val), ← blk0 m c t, ← blk10 m c t, ← blk22 m c t, ← blk34 m c t]
    exact congrFun (after0_74 m c t) y

/-- What window 75's array ends holding. -/
theorem arr75 : (dats m 0 c).arrAt 75 cfg0.N = out0_75 (m ((c : Thread nD τ).loc main_arg0)) (m ((c : Thread nD τ).loc main_arg22)) :=
  (dats m 0 c).arrAt_eq_of_covers 75 _ (by decide +kernel) fun t _ y => by
    rw [show ((cfg0.win 75).blk t).view.emb y = y from funext fun a => Fin.ext (at0 75 t a (y a).val), ← blk0 m c t, ← blk22 m c t]
    exact congrFun (after0_75 m c t) y

/-- What window 76's array ends holding. -/
theorem arr76 : (dats m 0 c).arrAt 76 cfg0.N = out0_76 (m ((c : Thread nD τ).loc main_arg0)) (m ((c : Thread nD τ).loc main_arg34)) :=
  (dats m 0 c).arrAt_eq_of_covers 76 _ (by decide +kernel) fun t _ y => by
    rw [show ((cfg0.win 76).blk t).view.emb y = y from funext fun a => Fin.ext (at0 76 t a (y a).val), ← blk0 m c t, ← blk34 m c t]
    exact congrFun (after0_76 m c t) y

/-- What window 77's array ends holding. -/
theorem arr77 : (dats m 0 c).arrAt 77 cfg0.N = out0_77 (m ((c : Thread nD τ).loc main_arg0)) :=
  (dats m 0 c).arrAt_eq_of_covers 77 _ (by decide +kernel) fun t _ y => by
    rw [show ((cfg0.win 77).blk t).view.emb y = y from funext fun a => Fin.ext (at0 77 t a (y a).val), ← blk0 m c t]
    exact congrFun (after0_77 m c t) y

/-- What window 78's array ends holding. -/
theorem arr78 : (dats m 0 c).arrAt 78 cfg0.N = out0_78 (m ((c : Thread nD τ).loc main_arg0)) (m ((c : Thread nD τ).loc main_arg11)) (m ((c : Thread nD τ).loc main_arg23)) (m ((c : Thread nD τ).loc main_arg35)) :=
  (dats m 0 c).arrAt_eq_of_covers 78 _ (by decide +kernel) fun t _ y => by
    rw [show ((cfg0.win 78).blk t).view.emb y = y from funext fun a => Fin.ext (at0 78 t a (y a).val), ← blk0 m c t, ← blk11 m c t, ← blk23 m c t, ← blk35 m c t]
    exact congrFun (after0_78 m c t) y

/-- What window 79's array ends holding. -/
theorem arr79 : (dats m 0 c).arrAt 79 cfg0.N = out0_79 (m ((c : Thread nD τ).loc main_arg0)) (m ((c : Thread nD τ).loc main_arg23)) :=
  (dats m 0 c).arrAt_eq_of_covers 79 _ (by decide +kernel) fun t _ y => by
    rw [show ((cfg0.win 79).blk t).view.emb y = y from funext fun a => Fin.ext (at0 79 t a (y a).val), ← blk0 m c t, ← blk23 m c t]
    exact congrFun (after0_79 m c t) y

/-- What window 80's array ends holding. -/
theorem arr80 : (dats m 0 c).arrAt 80 cfg0.N = out0_80 (m ((c : Thread nD τ).loc main_arg0)) (m ((c : Thread nD τ).loc main_arg35)) :=
  (dats m 0 c).arrAt_eq_of_covers 80 _ (by decide +kernel) fun t _ y => by
    rw [show ((cfg0.win 80).blk t).view.emb y = y from funext fun a => Fin.ext (at0 80 t a (y a).val), ← blk0 m c t, ← blk35 m c t]
    exact congrFun (after0_80 m c t) y

/-- What window 81's array ends holding. -/
theorem arr81 : (dats m 0 c).arrAt 81 cfg0.N = out0_81 (m ((c : Thread nD τ).loc main_arg0)) :=
  (dats m 0 c).arrAt_eq_of_covers 81 _ (by decide +kernel) fun t _ y => by
    rw [show ((cfg0.win 81).blk t).view.emb y = y from funext fun a => Fin.ext (at0 81 t a (y a).val), ← blk0 m c t]
    exact congrFun (after0_81 m c t) y

/-- What window 82's array ends holding. -/
theorem arr82 : (dats m 0 c).arrAt 82 cfg0.N = out0_82 (m ((c : Thread nD τ).loc main_arg0)) (m ((c : Thread nD τ).loc main_arg12)) (m ((c : Thread nD τ).loc main_arg24)) (m ((c : Thread nD τ).loc main_arg36)) :=
  (dats m 0 c).arrAt_eq_of_covers 82 _ (by decide +kernel) fun t _ y => by
    rw [show ((cfg0.win 82).blk t).view.emb y = y from funext fun a => Fin.ext (at0 82 t a (y a).val), ← blk0 m c t, ← blk12 m c t, ← blk24 m c t, ← blk36 m c t]
    exact congrFun (after0_82 m c t) y

/-- What window 83's array ends holding. -/
theorem arr83 : (dats m 0 c).arrAt 83 cfg0.N = out0_83 (m ((c : Thread nD τ).loc main_arg0)) (m ((c : Thread nD τ).loc main_arg24)) :=
  (dats m 0 c).arrAt_eq_of_covers 83 _ (by decide +kernel) fun t _ y => by
    rw [show ((cfg0.win 83).blk t).view.emb y = y from funext fun a => Fin.ext (at0 83 t a (y a).val), ← blk0 m c t, ← blk24 m c t]
    exact congrFun (after0_83 m c t) y

/-- What window 84's array ends holding. -/
theorem arr84 : (dats m 0 c).arrAt 84 cfg0.N = out0_84 (m ((c : Thread nD τ).loc main_arg0)) (m ((c : Thread nD τ).loc main_arg36)) :=
  (dats m 0 c).arrAt_eq_of_covers 84 _ (by decide +kernel) fun t _ y => by
    rw [show ((cfg0.win 84).blk t).view.emb y = y from funext fun a => Fin.ext (at0 84 t a (y a).val), ← blk0 m c t, ← blk36 m c t]
    exact congrFun (after0_84 m c t) y

/-- What window 85's array ends holding. -/
theorem arr85 : (dats m 0 c).arrAt 85 cfg0.N = out0_85 (m ((c : Thread nD τ).loc main_arg0)) :=
  (dats m 0 c).arrAt_eq_of_covers 85 _ (by decide +kernel) fun t _ y => by
    rw [show ((cfg0.win 85).blk t).view.emb y = y from funext fun a => Fin.ext (at0 85 t a (y a).val), ← blk0 m c t]
    exact congrFun (after0_85 m c t) y

end Cert.SmArr
-- ==== Proof.SmallMath.lean ====
module

public import proofs.«01_k».proof.Proof.AdOut
public import proofs.«01_k».proof.Proof.SmallBody
public import proofs.«01_k».proof.Proof.Gen.Reference10Ideal.Read

/-!
# One optimiser step on an array of any shape

The step as the kernel has it (with the reciprocals of the bias corrections) and as the reference has it (with the
quotients) give the same entries.
-/

@[expose] public section

set_option maxRecDepth 100000

namespace Cert.SmMath

open Cert.Kernel10Ideal Cert.Kernel10Ideal.Gen Cert.Kernel5Ideal.Ad Cert.OutMath
open Idealize.ShloMosaic Idealize.ShloMosaic.TcCoe Idealize.SL.Sem

variable (S : Shape) (g w m v : FVec Ideal S .f32)

/-- The first moment, as the kernel steps it. -/
noncomputable def kM : FVec Ideal S .f32 :=
  addf (mulf (broadcast S (Scalar.ofBits .f32 0x3F666666#32)) m) (mulf (broadcast S (Scalar.ofBits .f32 0x3DCCCCCD#32)) g)
/-- The second moment, as the kernel steps it. -/
noncomputable def kV : FVec Ideal S .f32 :=
  addf (mulf (broadcast S (Scalar.ofBits .f32 0x3F7FBE77#32)) v) (mulf (broadcast S (Scalar.ofBits .f32 0x3A83126F#32)) (mulf g g))
/-- The change, as the kernel has it. -/
noncomputable def kD : FVec Ideal S .f32 :=
  mulf (broadcast S (Scalar.ofBits .f32 0xBA83126F#32)) (addf (divf (mulf (kM S g m) (broadcast S (Named.named κ "c1" 0x3FC48605#32)))
    (addf (sqrt (mulf (kV S g v) (broadcast S (Named.named κ "c2" 0x42C8E6D3#32)))) (broadcast S (Scalar.ofBits .f32 0x322BCC77#32))))
    (mulf (broadcast S (Scalar.ofBits .f32 0x3C23D70A#32)) w))

/-- Entry by entry, the first moment. -/
theorem kM_apply (i : S.Idx) : kM S g m i = mom1 (g i) (m i) := by
  unfold mom1
  pointwise [kM]

/-- Entry by entry, the second moment. -/
theorem kV_apply (i : S.Idx) : kV S g v i = mom2 (g i) (v i) := by
  unfold mom2
  pointwise [kV]

/-- Entry by entry, the change. -/
theorem kD_apply (i : S.Idx) : kD S g w m v i = delta (g i) (w i) (v i) (m i) := by
  unfold delta
  rw [word_d1, word_d2, div_pos_coe (by norm_num), div_pos_coe (by norm_num), ← kM_apply S g m i, ← kV_apply S g v i]
  pointwise [kD]
  rw [IdealRules.named_const.ideal_named_scalar κ "c1" _ _ rfl, IdealRules.named_const.ideal_named_scalar κ "c2" _ _ rfl]
  rw [show (1 / (5463681 / 8388608) : ℝ) = 8388608 / 5463681 by norm_num, show (1 / (2672307 / 268435456) : ℝ) = 268435456 / 2672307 by norm_num]

variable (h : (Cert.Reference10Ideal.S_).BroadcastsInDim S ![])

/-- One number at every entry, as the reference has it. -/
noncomputable def rC (b : BitVec 32) : FVec Ideal S .f32 := broadcastInDim S ![] h (constant (F := Ideal) Cert.Reference10Ideal.S_ .f32 b)
/-- The first moment, as the reference steps it. -/
noncomputable def rM : FVec Ideal S .f32 := addf (mulf (rC S h 0x3F666666#32) m) (mulf (rC S h 0x3DCCCCCD#32) g)
/-- The second moment, as the reference steps it. -/
noncomputable def rV : FVec Ideal S .f32 := addf (mulf (rC S h 0x3F7FBE77#32) v) (mulf (rC S h 0x3A83126F#32) (mulf g g))
/-- The change, as the reference has it. -/
noncomputable def rD : FVec Ideal S .f32 :=
  mulf (rC S h 0xBA83126F#32) (addf (divf (divf (rM S g m h) (rC S h 0x3F26BD02#32))
    (addf (sqrt (divf (rV S g v h) (rC S h 0x3C231ACC#32))) (rC S h 0x322BCC77#32))) (mulf (rC S h 0x3C23D70A#32) w))

/-- The number's entries. -/
theorem rC_apply (b : BitVec 32) (i : S.Idx) : rC S h b i = Ideal.ofBits FTy.f32 b := rfl

/-- Entry by entry, the first moment. -/
theorem rM_apply (i : S.Idx) : rM S g m h i = mom1 (g i) (m i) := rfl
/-- Entry by entry, the second moment. -/
theorem rV_apply (i : S.Idx) : rV S g v h i = mom2 (g i) (v i) := rfl
/-- Entry by entry, the change. -/
theorem rD_apply (i : S.Idx) : rD S g w m v h i = delta (g i) (w i) (v i) (m i) := rfl

variable {S} {g} {g' : FVec Ideal S .f32} (hg : g = g')
include hg

/-- The first moments agree. -/
theorem eqM : kM S g m = rM S g' m h := by subst hg; funext i; rw [kM_apply, rM_apply]
/-- The second moments agree. -/
theorem eqV : kV S g v = rV S g' v h := by subst hg; funext i; rw [kV_apply, rV_apply]
/-- The changes agree. -/
theorem eqD : kD S g w m v = rD S g' w m v h := by subst hg; funext i; rw [kD_apply, rD_apply]

end Cert.SmMath
-- ==== Proof.SmallVal.lean ====
module

public import proofs.«01_k».proof.Proof.SmallMath

/-!
# The small weights' step: the ten weights of one row

Each weight's gradient is a cut of the slabs' sum. The kernel's four arrays of it are the reference's.
-/

@[expose] public section

set_option maxRecDepth 100000

namespace Cert.SmVal

open Cert.Kernel10Ideal Cert.Kernel10Ideal.Gen Cert.Kernel10Ideal.Sm Cert.Reference10Ideal.Read Cert.SmMath
open Idealize.ShloMosaic Idealize.ShloMosaic.TcCoe Idealize.SL.Sem

/-- A zero start in two axes. -/
theorem hz2 : (![0, 0] : Fin 2 → ℕ) = fun _ => 0 := by funext a; match a with | ⟨0, _⟩ => rfl | ⟨1, _⟩ => rfl

variable (x0 : Vec Ideal S8x1x8064 .f32)

/-- A received slab, loaded. -/
theorem slab_apply (d : ℕ) (hd : d < 8) (hb) (l : Fin 8064) :
    (View.ld x0 (Rect.unit (s := S8x1x8064) ![d, 0, 0] S1x1x8064.size hb) : Vec Ideal S1x1x8064 .f32) (ix3 0 0 l) = x0 (ix3 (⟨d, hd⟩ : Fin 8) 0 l) := by
  refine congrArg x0 ?_
  funext a
  apply Fin.ext
  match a with
  | ⟨0, _⟩ => show d + 1 * 0 = d; omega
  | ⟨1, _⟩ => rfl
  | ⟨2, _⟩ => show 0 + 1 * l.val = l.val; omega

/-- The kernel's sum of eight slabs, entry by entry. -/
theorem sum8 (y0 y1 y2 y3 y4 y5 y6 y7 : Vec Ideal S1x1x8064 .f32) (l : Fin 8064) :
    k0_pay4 y0 y1 y2 y3 y4 y5 y6 y7 (ix2 0 l) = y0 (ix3 0 0 l) + y1 (ix3 0 0 l) + y2 (ix3 0 0 l) + y3 (ix3 0 0 l) + y4 (ix3 0 0 l) + y5 (ix3 0 0 l) + y6 (ix3 0 0 l) + y7 (ix3 0 0 l) := by
  pointwise [k0_pay4]

/-- The kernel's sum of the received slabs is the reference's. -/
theorem sum_eq : k0_pay126 x0 = (val_main_v0 (F := Ideal) x0 : Vec Ideal S1x8064 .f32) := by
  funext i
  obtain ⟨l, rfl⟩ : ∃ l : Fin 8064, i = ix2 0 l := ⟨i 1, by
    funext a; apply Fin.ext
    match a with
    | ⟨0, _⟩ => have h0 : (i 0).val < 1 := (i 0).isLt; show (i 0).val = 0; omega
    | ⟨1, _⟩ => rfl⟩
  unfold k0_pay126
  rw [sum8]
  have hi : ∀ d : Fin 8, idx_main_v0 (ix2 0 l) d = ix3 d 0 l := fun d => by
    funext a
    match a with
    | ⟨0, _⟩ => rfl
    | ⟨1, _⟩ => rfl
    | ⟨2, _⟩ => rfl
  have hz : (val_main_cst (F := Ideal)) (Shape.Idx.first Cert.Reference10Ideal.Gen.h_S_) = 0 := by
    rw [val_main_cst_apply]; exact Ideal.ofBits_zero .f32
  rw [val_main_v0_apply, Fin.sum_univ_eight, hz, zero_add]
  simp only [hi]
  exact congr (congrArg HAdd.hAdd (congr (congrArg HAdd.hAdd (congr (congrArg HAdd.hAdd (congr (congrArg HAdd.hAdd (congr (congrArg HAdd.hAdd (congr (congrArg HAdd.hAdd (congr (congrArg HAdd.hAdd (slab_apply x0 0 (by omega) _ l)) (slab_apply x0 1 (by omega) _ l))) (slab_apply x0 2 (by omega) _ l))) (slab_apply x0 3 (by omega) _ l))) (slab_apply x0 4 (by omega) _ l))) (slab_apply x0 5 (by omega) _ l))) (slab_apply x0 6 (by omega) _ l))) (slab_apply x0 7 (by omega) _ l)

/-- Weight 0's cut of the sum. -/
theorem cut0 : (extractStridedSlice S1x1024 ![0, 0] (k0_pay126 x0) slices_S1x8064_o0_0_S1x1024 : FVec Ideal S1x1024 .f32) = val_main_v1 (F := Ideal) x0 := by
  rw [sum_eq]
  unfold val_main_v1
  rfl

/-- Weight 1's cut of the sum. -/
theorem cut1 : (extractStridedSlice S1x1536 ![0, 1024] (k0_pay126 x0) slices_S1x8064_o0_1024_S1x1536 : FVec Ideal S1x1536 .f32) = val_main_v2 (F := Ideal) x0 := by
  rw [sum_eq]
  unfold val_main_v2
  rfl

/-- Weight 2's cut of the sum. -/
theorem cut2 : (extractStridedSlice S1x16 ![0, 2560] (k0_pay126 x0) slices_S1x8064_o0_2560_S1x16 : FVec Ideal S1x16 .f32) = val_main_v3 (F := Ideal) x0 := by
  rw [sum_eq]
  unfold val_main_v3
  rfl

/-- Weight 3's cut of the sum. -/
theorem cut3 : (extractStridedSlice S1x16 ![0, 2688] (k0_pay126 x0) slices_S1x8064_o0_2688_S1x16 : FVec Ideal S1x16 .f32) = val_main_v4 (F := Ideal) x0 := by
  rw [sum_eq]
  unfold val_main_v4
  rfl

/-- Weight 4's cut of the sum. -/
theorem cut4 : (extractStridedSlice S1x16 ![0, 2816] (k0_pay126 x0) slices_S1x8064_o0_2816_S1x16 : FVec Ideal S1x16 .f32) = val_main_v5 (F := Ideal) x0 := by
  rw [sum_eq]
  unfold val_main_v5
  rfl

/-- Weight 5's cut of the sum. -/
theorem cut5 : (extractStridedSlice S1x1024 ![0, 2944] (k0_pay126 x0) slices_S1x8064_o0_2944_S1x1024 : FVec Ideal S1x1024 .f32) = val_main_v6 (F := Ideal) x0 := by
  rw [sum_eq]
  unfold val_main_v6
  rfl

/-- Weight 6's cut of the sum. -/
theorem cut6 : (extractStridedSlice S1x8 ![0, 3984] (k0_pay126 x0) slices_S1x8064_o0_3984_S1x8 : FVec Ideal S1x8 .f32) = val_main_v7 (F := Ideal) x0 := by
  rw [sum_eq]
  unfold val_main_v7
  rfl

/-- Weight 7's cut of the sum. -/
theorem cut7 : (extractStridedSlice S1x8 ![0, 4112] (k0_pay126 x0) slices_S1x8064_o0_4112_S1x8 : FVec Ideal S1x8 .f32) = val_main_v8 (F := Ideal) x0 := by
  rw [sum_eq]
  unfold val_main_v8
  rfl

/-- Weight 8's cut of the sum. -/
theorem cut8 : (extractStridedSlice S1x128 ![0, 4224] (k0_pay126 x0) slices_S1x8064_o0_4224_S1x128 : FVec Ideal S1x128 .f32) = val_main_v9 (F := Ideal) x0 := by
  rw [sum_eq]
  unfold val_main_v9
  rfl

/-- Weight 9's cut of the sum. -/
theorem cut9 : (extractStridedSlice S1x1024 ![0, 4352] (k0_pay126 x0) slices_S1x8064_o0_4352_S1x1024 : FVec Ideal S1x1024 .f32) = val_main_v10 (F := Ideal) x0 := by
  rw [sum_eq]
  unfold val_main_v10
  rfl

section
variable (w m v : Vec Ideal S1x1024 .f32)

/-- Weight 0: the gradient. -/
theorem out37 : out0_37 x0 = (val_main_v1 (F := Ideal) x0 : Vec Ideal S1x1024 .f32) := by
  unfold out0_37
  rw [View.canon_unit_zero hz2]
  exact cut0 x0

/-- Weight 0: the change. -/
theorem out38 : out0_38 x0 w m v = (val_main_v63 (F := Ideal) x0 w m v : Vec Ideal S1x1024 .f32) := by
  unfold out0_38
  rw [View.canon_unit_zero hz2]
  rw [View.ld_unit_zero (S := S1x1024) hz2 _ w, View.ld_unit_zero (S := S1x1024) hz2 _ m, View.ld_unit_zero (S := S1x1024) hz2 _ v]
  exact eqD w m v Cert.Reference10Ideal.Gen.bcast_S_S1x1024 (cut0 x0)

/-- Weight 0: the first moment. -/
theorem out39 : out0_39 x0 m = (val_main_v44 (F := Ideal) x0 m : Vec Ideal S1x1024 .f32) := by
  unfold out0_39
  rw [View.canon_unit_zero hz2]
  rw [View.ld_unit_zero (S := S1x1024) hz2 _ m]
  exact eqM m Cert.Reference10Ideal.Gen.bcast_S_S1x1024 (cut0 x0)

/-- Weight 0: the second moment. -/
theorem out40 : out0_40 x0 v = (val_main_v50 (F := Ideal) x0 v : Vec Ideal S1x1024 .f32) := by
  unfold out0_40
  rw [View.canon_unit_zero hz2]
  rw [View.ld_unit_zero (S := S1x1024) hz2 _ v]
  exact eqV v Cert.Reference10Ideal.Gen.bcast_S_S1x1024 (cut0 x0)

end

section
variable (w m v : Vec Ideal S1x1536 .f32)

/-- Weight 1: the gradient. -/
theorem out41 : out0_41 x0 = (val_main_v2 (F := Ideal) x0 : Vec Ideal S1x1536 .f32) := by
  unfold out0_41
  rw [View.canon_unit_zero hz2]
  exact cut1 x0

/-- Weight 1: the change. -/
theorem out42 : out0_42 x0 w m v = (val_main_v87 (F := Ideal) x0 w m v : Vec Ideal S1x1536 .f32) := by
  unfold out0_42
  rw [View.canon_unit_zero hz2]
  rw [View.ld_unit_zero (S := S1x1536) hz2 _ w, View.ld_unit_zero (S := S1x1536) hz2 _ m, View.ld_unit_zero (S := S1x1536) hz2 _ v]
  exact eqD w m v Cert.Reference10Ideal.Gen.bcast_S_S1x1536 (cut1 x0)

/-- Weight 1: the first moment. -/
theorem out43 : out0_43 x0 m = (val_main_v68 (F := Ideal) x0 m : Vec Ideal S1x1536 .f32) := by
  unfold out0_43
  rw [View.canon_unit_zero hz2]
  rw [View.ld_unit_zero (S := S1x1536) hz2 _ m]
  exact eqM m Cert.Reference10Ideal.Gen.bcast_S_S1x1536 (cut1 x0)

/-- Weight 1: the second moment. -/
theorem out44 : out0_44 x0 v = (val_main_v74 (F := Ideal) x0 v : Vec Ideal S1x1536 .f32) := by
  unfold out0_44
  rw [View.canon_unit_zero hz2]
  rw [View.ld_unit_zero (S := S1x1536) hz2 _ v]
  exact eqV v Cert.Reference10Ideal.Gen.bcast_S_S1x1536 (cut1 x0)

end

section
variable (w m v : Vec Ideal S1x16 .f32)

/-- Weight 2: the gradient. -/
theorem out45 : out0_45 x0 = (val_main_v3 (F := Ideal) x0 : Vec Ideal S1x16 .f32) := by
  unfold out0_45
  rw [View.canon_unit_zero hz2]
  exact cut2 x0

/-- Weight 2: the change. -/
theorem out46 : out0_46 x0 w m v = (val_main_v111 (F := Ideal) x0 w m v : Vec Ideal S1x16 .f32) := by
  unfold out0_46
  rw [View.canon_unit_zero hz2]
  rw [View.ld_unit_zero (S := S1x16) hz2 _ w, View.ld_unit_zero (S := S1x16) hz2 _ m, View.ld_unit_zero (S := S1x16) hz2 _ v]
  exact eqD w m v Cert.Reference10Ideal.Gen.bcast_S_S1x16 (cut2 x0)

/-- Weight 2: the first moment. -/
theorem out47 : out0_47 x0 m = (val_main_v92 (F := Ideal) x0 m : Vec Ideal S1x16 .f32) := by
  unfold out0_47
  rw [View.canon_unit_zero hz2]
  rw [View.ld_unit_zero (S := S1x16) hz2 _ m]
  exact eqM m Cert.Reference10Ideal.Gen.bcast_S_S1x16 (cut2 x0)

/-- Weight 2: the second moment. -/
theorem out48 : out0_48 x0 v = (val_main_v98 (F := Ideal) x0 v : Vec Ideal S1x16 .f32) := by
  unfold out0_48
  rw [View.canon_unit_zero hz2]
  rw [View.ld_unit_zero (S := S1x16) hz2 _ v]
  exact eqV v Cert.Reference10Ideal.Gen.bcast_S_S1x16 (cut2 x0)

end

section
variable (w m v : Vec Ideal S1x16 .f32)

/-- Weight 3: the gradient. -/
theorem out49 : out0_49 x0 = (val_main_v4 (F := Ideal) x0 : Vec Ideal S1x16 .f32) := by
  unfold out0_49
  rw [View.canon_unit_zero hz2]
  exact cut3 x0

/-- Weight 3: the change. -/
theorem out50 : out0_50 x0 w m v = (val_main_v135 (F := Ideal) x0 w m v : Vec Ideal S1x16 .f32) := by
  unfold out0_50
  rw [View.canon_unit_zero hz2]
  rw [View.ld_unit_zero (S := S1x16) hz2 _ w, View.ld_unit_zero (S := S1x16) hz2 _ m, View.ld_unit_zero (S := S1x16) hz2 _ v]
  exact eqD w m v Cert.Reference10Ideal.Gen.bcast_S_S1x16 (cut3 x0)

/-- Weight 3: the first moment. -/
theorem out51 : out0_51 x0 m = (val_main_v116 (F := Ideal) x0 m : Vec Ideal S1x16 .f32) := by
  unfold out0_51
  rw [View.canon_unit_zero hz2]
  rw [View.ld_unit_zero (S := S1x16) hz2 _ m]
  exact eqM m Cert.Reference10Ideal.Gen.bcast_S_S1x16 (cut3 x0)

/-- Weight 3: the second moment. -/
theorem out52 : out0_52 x0 v = (val_main_v122 (F := Ideal) x0 v : Vec Ideal S1x16 .f32) := by
  unfold out0_52
  rw [View.canon_unit_zero hz2]
  rw [View.ld_unit_zero (S := S1x16) hz2 _ v]
  exact eqV v Cert.Reference10Ideal.Gen.bcast_S_S1x16 (cut3 x0)

end

section
variable (w m v : Vec Ideal S1x16 .f32)

/-- Weight 4: the gradient. -/
theorem out53 : out0_53 x0 = (val_main_v5 (F := Ideal) x0 : Vec Ideal S1x16 .f32) := by
  unfold out0_53
  rw [View.canon_unit_zero hz2]
  exact cut4 x0

/-- Weight 4: the change. -/
theorem out54 : out0_54 x0 w m v = (val_main_v159 (F := Ideal) x0 w m v : Vec Ideal S1x16 .f32) := by
  unfold out0_54
  rw [View.canon_unit_zero hz2]
  rw [View.ld_unit_zero (S := S1x16) hz2 _ w, View.ld_unit_zero (S := S1x16) hz2 _ m, View.ld_unit_zero (S := S1x16) hz2 _ v]
  exact eqD w m v Cert.Reference10Ideal.Gen.bcast_S_S1x16 (cut4 x0)

/-- Weight 4: the first moment. -/
theorem out55 : out0_55 x0 m = (val_main_v140 (F := Ideal) x0 m : Vec Ideal S1x16 .f32) := by
  unfold out0_55
  rw [View.canon_unit_zero hz2]
  rw [View.ld_unit_zero (S := S1x16) hz2 _ m]
  exact eqM m Cert.Reference10Ideal.Gen.bcast_S_S1x16 (cut4 x0)

/-- Weight 4: the second moment. -/
theorem out56 : out0_56 x0 v = (val_main_v146 (F := Ideal) x0 v : Vec Ideal S1x16 .f32) := by
  unfold out0_56
  rw [View.canon_unit_zero hz2]
  rw [View.ld_unit_zero (S := S1x16) hz2 _ v]
  exact eqV v Cert.Reference10Ideal.Gen.bcast_S_S1x16 (cut4 x0)

end

section
variable (w m v : Vec Ideal S1x1024 .f32)

/-- Weight 5: the gradient. -/
theorem out57 : out0_57 x0 = (val_main_v6 (F := Ideal) x0 : Vec Ideal S1x1024 .f32) := by
  unfold out0_57
  rw [View.canon_unit_zero hz2]
  exact cut5 x0

/-- Weight 5: the change. -/
theorem out58 : out0_58 x0 w m v = (val_main_v183 (F := Ideal) x0 w m v : Vec Ideal S1x1024 .f32) := by
  unfold out0_58
  rw [View.canon_unit_zero hz2]
  unfold k0_pay134
  rw [View.ld_unit_zero (S := S1x1024) hz2 _ w, View.ld_unit_zero (S := S1x1024) hz2 _ m, View.ld_unit_zero (S := S1x1024) hz2 _ v]
  exact eqD w m v Cert.Reference10Ideal.Gen.bcast_S_S1x1024 (cut5 x0)

/-- Weight 5: the first moment. -/
theorem out59 : out0_59 x0 m = (val_main_v164 (F := Ideal) x0 m : Vec Ideal S1x1024 .f32) := by
  unfold out0_59
  rw [View.canon_unit_zero hz2]
  unfold k0_pay134
  rw [View.ld_unit_zero (S := S1x1024) hz2 _ m]
  exact eqM m Cert.Reference10Ideal.Gen.bcast_S_S1x1024 (cut5 x0)

/-- Weight 5: the second moment. -/
theorem out60 : out0_60 x0 v = (val_main_v170 (F := Ideal) x0 v : Vec Ideal S1x1024 .f32) := by
  unfold out0_60
  rw [View.canon_unit_zero hz2]
  rw [View.ld_unit_zero (S := S1x1024) hz2 _ v]
  exact eqV v Cert.Reference10Ideal.Gen.bcast_S_S1x1024 (cut5 x0)

end

section
variable (w m v : Vec Ideal S1x8 .f32)

/-- Weight 6: the gradient. -/
theorem out61 : out0_61 x0 = (val_main_v7 (F := Ideal) x0 : Vec Ideal S1x8 .f32) := by
  unfold out0_61
  rw [View.canon_unit_zero hz2]
  exact cut6 x0

/-- Weight 6: the change. -/
theorem out62 : out0_62 x0 w m v = (val_main_v207 (F := Ideal) x0 w m v : Vec Ideal S1x8 .f32) := by
  unfold out0_62
  rw [View.canon_unit_zero hz2]
  unfold k0_pay136
  rw [View.ld_unit_zero (S := S1x8) hz2 _ w, View.ld_unit_zero (S := S1x8) hz2 _ m, View.ld_unit_zero (S := S1x8) hz2 _ v]
  exact eqD w m v Cert.Reference10Ideal.Gen.bcast_S_S1x8 (cut6 x0)

/-- Weight 6: the first moment. -/
theorem out63 : out0_63 x0 m = (val_main_v188 (F := Ideal) x0 m : Vec Ideal S1x8 .f32) := by
  unfold out0_63
  rw [View.canon_unit_zero hz2]
  unfold k0_pay136
  rw [View.ld_unit_zero (S := S1x8) hz2 _ m]
  exact eqM m Cert.Reference10Ideal.Gen.bcast_S_S1x8 (cut6 x0)

/-- Weight 6: the second moment. -/
theorem out64 : out0_64 x0 v = (val_main_v194 (F := Ideal) x0 v : Vec Ideal S1x8 .f32) := by
  unfold out0_64
  rw [View.canon_unit_zero hz2]
  rw [View.ld_unit_zero (S := S1x8) hz2 _ v]
  exact eqV v Cert.Reference10Ideal.Gen.bcast_S_S1x8 (cut6 x0)

end

section
variable (w m v : Vec Ideal S1x8 .f32)

/-- Weight 7: the gradient. -/
theorem out65 : out0_65 x0 = (val_main_v8 (F := Ideal) x0 : Vec Ideal S1x8 .f32) := by
  unfold out0_65
  rw [View.canon_unit_zero hz2]
  exact cut7 x0

/-- Weight 7: the change. -/
theorem out66 : out0_66 x0 w m v = (val_main_v231 (F := Ideal) x0 w m v : Vec Ideal S1x8 .f32) := by
  unfold out0_66
  rw [View.canon_unit_zero hz2]
  unfold k0_pay138
  rw [View.ld_unit_zero (S := S1x8) hz2 _ w, View.ld_unit_zero (S := S1x8) hz2 _ m, View.ld_unit_zero (S := S1x8) hz2 _ v]
  exact eqD w m v Cert.Reference10Ideal.Gen.bcast_S_S1x8 (cut7 x0)

/-- Weight 7: the first moment. -/
theorem out67 : out0_67 x0 m = (val_main_v212 (F := Ideal) x0 m : Vec Ideal S1x8 .f32) := by
  unfold out0_67
  rw [View.canon_unit_zero hz2]
  unfold k0_pay138
  rw [View.ld_unit_zero (S := S1x8) hz2 _ m]
  exact eqM m Cert.Reference10Ideal.Gen.bcast_S_S1x8 (cut7 x0)

/-- Weight 7: the second moment. -/
theorem out68 : out0_68 x0 v = (val_main_v218 (F := Ideal) x0 v : Vec Ideal S1x8 .f32) := by
  unfold out0_68
  rw [View.canon_unit_zero hz2]
  rw [View.ld_unit_zero (S := S1x8) hz2 _ v]
  exact eqV v Cert.Reference10Ideal.Gen.bcast_S_S1x8 (cut7 x0)

end

section
variable (w m v : Vec Ideal S1x128 .f32)

/-- Weight 8: the gradient. -/
theorem out69 : out0_69 x0 = (val_main_v9 (F := Ideal) x0 : Vec Ideal S1x128 .f32) := by
  unfold out0_69
  rw [View.canon_unit_zero hz2]
  exact cut8 x0

/-- Weight 8: the change. -/
theorem out70 : out0_70 x0 w m v = (val_main_v255 (F := Ideal) x0 w m v : Vec Ideal S1x128 .f32) := by
  unfold out0_70
  rw [View.canon_unit_zero hz2]
  unfold k0_pay141
  rw [View.ld_unit_zero (S := S1x128) hz2 _ w, View.ld_unit_zero (S := S1x128) hz2 _ m, View.ld_unit_zero (S := S1x128) hz2 _ v]
  exact eqD w m v Cert.Reference10Ideal.Gen.bcast_S_S1x128 (cut8 x0)

/-- Weight 8: the first moment. -/
theorem out71 : out0_71 x0 m = (val_main_v236 (F := Ideal) x0 m : Vec Ideal S1x128 .f32) := by
  unfold out0_71
  rw [View.canon_unit_zero hz2]
  unfold k0_pay141
  rw [View.ld_unit_zero (S := S1x128) hz2 _ m]
  exact eqM m Cert.Reference10Ideal.Gen.bcast_S_S1x128 (cut8 x0)

/-- Weight 8: the second moment. -/
theorem out72 : out0_72 x0 v = (val_main_v242 (F := Ideal) x0 v : Vec Ideal S1x128 .f32) := by
  unfold out0_72
  rw [View.canon_unit_zero hz2]
  rw [View.ld_unit_zero (S := S1x128) hz2 _ v]
  exact eqV v Cert.Reference10Ideal.Gen.bcast_S_S1x128 (cut8 x0)

end

section
variable (w m v : Vec Ideal S1x1024 .f32)

/-- Weight 9: the gradient. -/
theorem out73 : out0_73 x0 = (val_main_v10 (F := Ideal) x0 : Vec Ideal S1x1024 .f32) := by
  unfold out0_73
  rw [View.canon_unit_zero hz2]
  exact cut9 x0

/-- Weight 9: the change. -/
theorem out74 : out0_74 x0 w m v = (val_main_v279 (F := Ideal) x0 w m v : Vec Ideal S1x1024 .f32) := by
  unfold out0_74
  rw [View.canon_unit_zero hz2]
  unfold k0_pay144
  rw [View.ld_unit_zero (S := S1x1024) hz2 _ w, View.ld_unit_zero (S := S1x1024) hz2 _ m, View.ld_unit_zero (S := S1x1024) hz2 _ v]
  exact eqD w m v Cert.Reference10Ideal.Gen.bcast_S_S1x1024 (cut9 x0)

/-- Weight 9: the first moment. -/
theorem out75 : out0_75 x0 m = (val_main_v260 (F := Ideal) x0 m : Vec Ideal S1x1024 .f32) := by
  unfold out0_75
  rw [View.canon_unit_zero hz2]
  unfold k0_pay144
  rw [View.ld_unit_zero (S := S1x1024) hz2 _ m]
  exact eqM m Cert.Reference10Ideal.Gen.bcast_S_S1x1024 (cut9 x0)

/-- Weight 9: the second moment. -/
theorem out76 : out0_76 x0 v = (val_main_v266 (F := Ideal) x0 v : Vec Ideal S1x1024 .f32) := by
  unfold out0_76
  rw [View.canon_unit_zero hz2]
  rw [View.ld_unit_zero (S := S1x1024) hz2 _ v]
  exact eqV v Cert.Reference10Ideal.Gen.bcast_S_S1x1024 (cut9 x0)

end

/-- The loss's cut of the sum. -/
theorem cutL : (k0_pay5 (View.ld x0 r0_0) (View.ld x0 r0_1) (View.ld x0 r0_2) (View.ld x0 r0_3) (View.ld x0 r0_4) (View.ld x0 r0_5) (View.ld x0 r0_6) (View.ld x0 r0_7) : FVec Ideal S1x128 .f32) = val_main_v39 (F := Ideal) x0 := by
  show (extractStridedSlice S1x128 ![0, 7936] (k0_pay126 x0) slices_S1x8064_o0_7936_S1x128 : FVec Ideal S1x128 .f32) = _
  rw [sum_eq]
  unfold val_main_v39
  rfl

/-- The slabs' sum of the loss. -/
theorem out85 : out0_85 x0 = (val_main_v39 (F := Ideal) x0 : Vec Ideal S1x128 .f32) := by
  unfold out0_85
  rw [View.canon_unit_zero hz2]
  exact cutL x0

end Cert.SmVal
-- ==== Proof.SmallConv.lean ====
module

public import proofs.«01_k».proof.Proof.SmallVal

/-!
# The small weights' step: the two convolutions' weights

Each has four rows. The kernel cuts each row's gradient out of the slabs' sum, steps the row and stores it; the
reference stacks the four cuts and steps them at once. So the kernel's four stores are the reference's array.
-/

@[expose] public section

set_option maxRecDepth 100000

namespace Cert.SmVal

open Cert.Kernel10Ideal Cert.Kernel10Ideal.Gen Cert.Kernel10Ideal.Sm Cert.Reference10Ideal.Read Cert.SmMath
open Idealize.ShloMosaic Idealize.ShloMosaic.TcCoe Idealize.SL.Sem

section Rows

variable {n : ℕ}

/-- A row. -/
abbrev R1 (n : ℕ) : Shape := ⟨2, ![1, n]⟩
/-- A row as it lies in memory. -/
abbrev R3 (n : ℕ) : Shape := ⟨3, ![1, 1, n]⟩
/-- Four rows. -/
abbrev R4 (n : ℕ) : Shape := ⟨3, ![1, 4, n]⟩
/-- Row `j` lies among the four. -/
abbrev Fits (n j : ℕ) : Prop := ∀ a, (![0, j, 0] : Fin 3 → ℕ) a + (R3 n).size a ≤ (R4 n).size a
/-- Row `j` of four, in memory. -/
abbrev rowAt (n j : ℕ) (hb : Fits n j) : Rect (R4 n) :=
  Rect.unit (s := R4 n) ![0, j, 0] (R3 n).size hb

/-- Where an entry of row `j` lies. -/
theorem rowAt_emb (j : Fin 4) (hb : Fits n j.val) (k : Fin n) : (rowAt n j.val hb).emb (ix3 0 0 k) = ix3 0 j k := by
  funext a
  apply Fin.ext
  match a with
  | ⟨0, _⟩ => rfl
  | ⟨1, _⟩ => show j.val + 1 * 0 = j.val; omega
  | ⟨2, _⟩ => show 0 + 1 * k.val = k.val; omega

/-- Row `j` of four, loaded. -/
noncomputable def row (j : Fin 4) (hb : Fits n j.val) (hc : (R3 n).ShapeCasts (R1 n)) (w : Vec Ideal (R4 n) .f32) : FVec Ideal (R1 n) .f32 :=
  shapeCast (R1 n) (View.ld w (rowAt n j.val hb)) hc

theorem row_apply (j : Fin 4) (hb : Fits n j.val) (hc) (w : Vec Ideal (R4 n) .f32) (k : Fin n) : row j hb hc w (ix2 0 k) = w (ix3 0 j k) := by
  unfold row
  refine (shapeCast_apply _ hc (ix2 0 k) (ix3 0 0 k) ?_).trans (congrArg w (rowAt_emb j hb k))
  rw [Shape.rowMajor_val_two, Shape.rowMajor_val_three]
  show (0 * 1 + 0) * n + k.val = 0 * n + k.val
  omega

/-- A stored row is a row of the array. -/
theorem piece (j : Fin 4) (hb : Fits n j.val) (hc : (R1 n).ShapeCasts (R3 n)) (p : FVec Ideal (R1 n) .f32) (G : Vec Ideal (R4 n) .f32)
    (h : ∀ k : Fin n, p (ix2 0 k) = G (ix3 0 j k)) (x : (rowAt n j.val hb).shape.Idx) :
    (shapeCast (R3 n) p hc : FVec Ideal (R3 n) .f32) x = G ((rowAt n j.val hb).emb x) := by
  obtain ⟨k, rfl⟩ : ∃ k : Fin n, x = ix3 0 0 k := ⟨x 2, by
    funext a; apply Fin.ext
    match a with
    | ⟨0, _⟩ => have h0 : (x 0).val < 1 := (x 0).isLt; show (x 0).val = 0; omega
    | ⟨1, _⟩ => have h0 : (x 1).val < 1 := (x 1).isLt; show (x 1).val = 0; omega
    | ⟨2, _⟩ => rfl⟩
  rw [rowAt_emb, ← h k]
  refine shapeCast_apply p hc (ix3 0 0 k) (ix2 0 k) ?_
  rw [Shape.rowMajor_val_two, Shape.rowMajor_val_three]
  show 0 * n + k.val = (0 * 1 + 0) * n + k.val
  omega

variable {hb0 : Fits n 0} {hb1 : Fits n 1} {hb2 : Fits n 2} {hb3 : Fits n 3} {hc : (R1 n).ShapeCasts (R3 n)} {hr : (R3 n).ShapeCasts (R1 n)}

/-- The stores of four rows. -/
abbrev four (hb0 : Fits n 0) (hb1 : Fits n 1) (hb2 : Fits n 2) (hb3 : Fits n 3) (hc : (R1 n).ShapeCasts (R3 n)) (p0 p1 p2 p3 : FVec Ideal (R1 n) .f32) : List (View.Piece (Elt Ideal) (R4 n) .f32) :=
  [⟨rowAt n 3 hb3, shapeCast (R3 n) p3 hc⟩, ⟨rowAt n 2 hb2, shapeCast (R3 n) p2 hc⟩, ⟨rowAt n 1 hb1, shapeCast (R3 n) p1 hc⟩, ⟨rowAt n 0 hb0, shapeCast (R3 n) p0 hc⟩]

/-- Four stored rows are the array. -/
theorem canon_four (p0 p1 p2 p3 : FVec Ideal (R1 n) .f32) (G : Vec Ideal (R4 n) .f32)
    (hcov : ∀ y, ∃ pc ∈ four hb0 hb1 hb2 hb3 hc p0 p1 p2 p3, y ∈ pc.1.set)
    (h0 : ∀ k : Fin n, p0 (ix2 0 k) = G (ix3 0 0 k)) (h1 : ∀ k : Fin n, p1 (ix2 0 k) = G (ix3 0 1 k))
    (h2 : ∀ k : Fin n, p2 (ix2 0 k) = G (ix3 0 2 k)) (h3 : ∀ k : Fin n, p3 (ix2 0 k) = G (ix3 0 3 k)) :
    View.canon (four hb0 hb1 hb2 hb3 hc p0 p1 p2 p3) = G := by
  funext y
  refine View.canon_apply_of_pieces G _ (fun p hp => ?_) y (hcov y)
  simp only [four, List.mem_cons, List.not_mem_nil, or_false] at hp
  rcases hp with rfl | rfl | rfl | rfl
  · exact piece 3 hb3 hc p3 G h3
  · exact piece 2 hb2 hc p2 G h2
  · exact piece 1 hb1 hc p1 G h1
  · exact piece 0 hb0 hc p0 G h0

variable (g0 g1 g2 g3 : FVec Ideal (R1 n) .f32) (G w m v : FVec Ideal (R4 n) .f32) (h : (Cert.Reference10Ideal.S_).BroadcastsInDim (R4 n) ![])
  (h0 : ∀ k : Fin n, g0 (ix2 0 k) = G (ix3 0 0 k)) (h1 : ∀ k : Fin n, g1 (ix2 0 k) = G (ix3 0 1 k))
  (h2 : ∀ k : Fin n, g2 (ix2 0 k) = G (ix3 0 2 k)) (h3 : ∀ k : Fin n, g3 (ix2 0 k) = G (ix3 0 3 k))
include h0 h1 h2 h3

/-- The first moments of four rows. -/
theorem four_M (hcov : ∀ p0 p1 p2 p3 y, ∃ pc ∈ four hb0 hb1 hb2 hb3 hc p0 p1 p2 p3, y ∈ pc.1.set) :
    View.canon (four hb0 hb1 hb2 hb3 hc (kM (R1 n) g0 (row 0 hb0 hr m)) (kM (R1 n) g1 (row 1 hb1 hr m)) (kM (R1 n) g2 (row 2 hb2 hr m)) (kM (R1 n) g3 (row 3 hb3 hr m))) = rM (R4 n) G m h :=
  canon_four _ _ _ _ _ (hcov _ _ _ _) (fun k => by rw [kM_apply, rM_apply, h0, row_apply]) (fun k => by rw [kM_apply, rM_apply, h1, row_apply])
    (fun k => by rw [kM_apply, rM_apply, h2, row_apply]) (fun k => by rw [kM_apply, rM_apply, h3, row_apply])

/-- The second moments of four rows. -/
theorem four_V (hcov : ∀ p0 p1 p2 p3 y, ∃ pc ∈ four hb0 hb1 hb2 hb3 hc p0 p1 p2 p3, y ∈ pc.1.set) :
    View.canon (four hb0 hb1 hb2 hb3 hc (kV (R1 n) g0 (row 0 hb0 hr v)) (kV (R1 n) g1 (row 1 hb1 hr v)) (kV (R1 n) g2 (row 2 hb2 hr v)) (kV (R1 n) g3 (row 3 hb3 hr v))) = rV (R4 n) G v h :=
  canon_four _ _ _ _ _ (hcov _ _ _ _) (fun k => by rw [kV_apply, rV_apply, h0, row_apply]) (fun k => by rw [kV_apply, rV_apply, h1, row_apply])
    (fun k => by rw [kV_apply, rV_apply, h2, row_apply]) (fun k => by rw [kV_apply, rV_apply, h3, row_apply])

/-- The changes of four rows. -/
theorem four_D (hcov : ∀ p0 p1 p2 p3 y, ∃ pc ∈ four hb0 hb1 hb2 hb3 hc p0 p1 p2 p3, y ∈ pc.1.set) :
    View.canon (four hb0 hb1 hb2 hb3 hc (kD (R1 n) g0 (row 0 hb0 hr w) (row 0 hb0 hr m) (row 0 hb0 hr v)) (kD (R1 n) g1 (row 1 hb1 hr w) (row 1 hb1 hr m) (row 1 hb1 hr v))
      (kD (R1 n) g2 (row 2 hb2 hr w) (row 2 hb2 hr m) (row 2 hb2 hr v)) (kD (R1 n) g3 (row 3 hb3 hr w) (row 3 hb3 hr m) (row 3 hb3 hr v))) = rD (R4 n) G w m v h :=
  canon_four _ _ _ _ _ (hcov _ _ _ _) (fun k => by rw [kD_apply, rD_apply, h0, row_apply, row_apply, row_apply]) (fun k => by rw [kD_apply, rD_apply, h1, row_apply, row_apply, row_apply])
    (fun k => by rw [kD_apply, rD_apply, h2, row_apply, row_apply, row_apply]) (fun k => by rw [kD_apply, rD_apply, h3, row_apply, row_apply, row_apply])

end Rows

section Stack

variable {n : ℕ} {h1 : (R1 n).ShapeCasts ⟨1, ![n]⟩} {h2 : (⟨1, ![n]⟩ : Shape).BroadcastsInDim (R1 n) ![1]}
  {h3 : (⟨2, ![4, n]⟩ : Shape).BroadcastsInDim (R4 n) ![1, 2]}

/-- A row as the reference makes it of a cut. -/
noncomputable def lift (h1 : (R1 n).ShapeCasts ⟨1, ![n]⟩) (h2 : (⟨1, ![n]⟩ : Shape).BroadcastsInDim (R1 n) ![1]) (a : FVec Ideal (R1 n) .f32) : FVec Ideal (R1 n) .f32 :=
  broadcastInDim (R1 n) ![1] h2 (shapeCast (⟨1, ![n]⟩ : Shape) a h1)

theorem lift_apply (a : FVec Ideal (R1 n) .f32) (k : Fin n) : lift h1 h2 a (ix2 0 k) = a (ix2 0 k) := by
  unfold lift
  refine (broadcastInDim_apply _ h2 _ (ix2 0 k) (ix1 k) (fun b => match b with
    | ⟨0, _⟩ => ?_)).trans (shapeCast_apply a h1 (ix1 k) (ix2 0 k) ?_)
  · show k.val = if n = 1 then 0 else k.val
    have := k.isLt
    split <;> omega
  · rw [Shape.rowMajor_val_two, Shape.rowMajor_val_one]
    show 0 * n + k.val = k.val
    omega

/-- The four cuts, stacked. -/
noncomputable def stack (h1 : (R1 n).ShapeCasts ⟨1, ![n]⟩) (h2 : (⟨1, ![n]⟩ : Shape).BroadcastsInDim (R1 n) ![1]) (h3 : (⟨2, ![4, n]⟩ : Shape).BroadcastsInDim (R4 n) ![1, 2])
    (h4 : Shape.Concatenates [R1 n, R1 n, R1 n, R1 n] ⟨2, ![4, n]⟩ 0) (a0 a1 a2 a3 : FVec Ideal (R1 n) .f32) : FVec Ideal (R4 n) .f32 :=
  broadcastInDim (R4 n) ![1, 2] h3 (concatenate (⟨2, ![4, n]⟩ : Shape) 0 [⟨R1 n, lift h1 h2 a0⟩, ⟨R1 n, lift h1 h2 a1⟩, ⟨R1 n, lift h1 h2 a2⟩, ⟨R1 n, lift h1 h2 a3⟩] h4)

variable {h4 : Shape.Concatenates [R1 n, R1 n, R1 n, R1 n] ⟨2, ![4, n]⟩ 0} (a0 a1 a2 a3 : FVec Ideal (R1 n) .f32) (k : Fin n)

theorem stack_at (j : Fin 4) : stack h1 h2 h3 h4 a0 a1 a2 a3 (ix3 0 j k) =
    concatenate (⟨2, ![4, n]⟩ : Shape) 0 [⟨R1 n, lift h1 h2 a0⟩, ⟨R1 n, lift h1 h2 a1⟩, ⟨R1 n, lift h1 h2 a2⟩, ⟨R1 n, lift h1 h2 a3⟩] h4 (ix2 j k) :=
  broadcastInDim_apply _ h3 _ (ix3 0 j k) (ix2 j k) (fun b => match b with
    | ⟨0, _⟩ => by show j.val = if (4 : ℕ) = 1 then 0 else j.val; rw [if_neg (by decide)]
    | ⟨1, _⟩ => by show k.val = if n = 1 then 0 else k.val; have := k.isLt; split <;> omega)

/-- The stack's rows are the cuts. -/
theorem stack0 : a0 (ix2 0 k) = stack h1 h2 h3 h4 a0 a1 a2 a3 (ix3 0 0 k) := by
  rw [stack_at]
  pointwise
  refine (lift_apply (h1 := h1) (h2 := h2) a0 k).symm.trans (congrArg (lift h1 h2 a0) (funext fun a => Fin.ext ?_))
  match a with
  | ⟨0, _⟩ => rfl
  | ⟨1, _⟩ => rfl
theorem stack1 : a1 (ix2 0 k) = stack h1 h2 h3 h4 a0 a1 a2 a3 (ix3 0 1 k) := by
  rw [stack_at]
  pointwise
  refine (lift_apply (h1 := h1) (h2 := h2) a1 k).symm.trans (congrArg (lift h1 h2 a1) (funext fun a => Fin.ext ?_))
  match a with
  | ⟨0, _⟩ => rfl
  | ⟨1, _⟩ => rfl
theorem stack2 : a2 (ix2 0 k) = stack h1 h2 h3 h4 a0 a1 a2 a3 (ix3 0 2 k) := by
  rw [stack_at]
  pointwise
  refine (lift_apply (h1 := h1) (h2 := h2) a2 k).symm.trans (congrArg (lift h1 h2 a2) (funext fun a => Fin.ext ?_))
  match a with
  | ⟨0, _⟩ => rfl
  | ⟨1, _⟩ => rfl
theorem stack3 : a3 (ix2 0 k) = stack h1 h2 h3 h4 a0 a1 a2 a3 (ix3 0 3 k) := by
  rw [stack_at]
  pointwise
  refine (lift_apply (h1 := h1) (h2 := h2) a3 k).symm.trans (congrArg (lift h1 h2 a3) (funext fun a => Fin.ext ?_))
  match a with
  | ⟨0, _⟩ => rfl
  | ⟨1, _⟩ => rfl

end Stack

variable (x0 : Vec Ideal S8x1x8064 .f32)

/-- Row 0 of the first weight: the cut of the sum. -/
theorem cutR192_0 : (extractStridedSlice S1x192 ![0, 5376] (k0_pay126 x0) slices_S1x8064_o0_5376_S1x192 : FVec Ideal S1x192 .f32) = val_main_v11 (F := Ideal) x0 := by
  rw [sum_eq]
  unfold val_main_v11
  rfl

/-- Row 1 of the first weight: the cut of the sum. -/
theorem cutR192_1 : (extractStridedSlice S1x192 ![0, 5632] (k0_pay126 x0) slices_S1x8064_o0_5632_S1x192 : FVec Ideal S1x192 .f32) = val_main_v13 (F := Ideal) x0 := by
  rw [sum_eq]
  unfold val_main_v13
  rfl

/-- Row 2 of the first weight: the cut of the sum. -/
theorem cutR192_2 : (extractStridedSlice S1x192 ![0, 5888] (k0_pay126 x0) slices_S1x8064_o0_5888_S1x192 : FVec Ideal S1x192 .f32) = val_main_v15 (F := Ideal) x0 := by
  rw [sum_eq]
  unfold val_main_v15
  rfl

/-- Row 3 of the first weight: the cut of the sum. -/
theorem cutR192_3 : (extractStridedSlice S1x192 ![0, 6144] (k0_pay126 x0) slices_S1x8064_o0_6144_S1x192 : FVec Ideal S1x192 .f32) = val_main_v17 (F := Ideal) x0 := by
  rw [sum_eq]
  unfold val_main_v17
  rfl

/-- The reference's gradient of it is the stack of the cuts. -/
theorem stacked192 : (val_main_v24 (F := Ideal) x0 : FVec Ideal (R4 192) .f32) =
    stack Cert.Reference10Ideal.Gen.shapeCasts_S1x192_S192 Cert.Reference10Ideal.Gen.bcast_S192_S1x192_1 Cert.Reference10Ideal.Gen.bcast_S4x192_S1x4x192_1_2 Cert.Reference10Ideal.Gen.concatenates_S1x192_S1x192_S1x192_S1x192_S4x192_d0
      (val_main_v11 (F := Ideal) x0) (val_main_v13 (F := Ideal) x0) (val_main_v15 (F := Ideal) x0) (val_main_v17 (F := Ideal) x0) := rfl

/-- The kernel's cut of row `j`. -/
noncomputable abbrev gr192 (o : ℕ) (h : S1x8064.Slices ![0, o] S1x192) : FVec Ideal S1x192 .f32 := extractStridedSlice S1x192 ![0, o] (k0_pay126 x0) h

theorem row192_0 (k : Fin 192) : gr192 x0 5376 slices_S1x8064_o0_5376_S1x192 (ix2 0 k) = val_main_v24 (F := Ideal) x0 (ix3 0 0 k) := by
  rw [stacked192, ← stack0]
  exact congrFun (cutR192_0 x0) (ix2 0 k)

theorem row192_1 (k : Fin 192) : gr192 x0 5632 slices_S1x8064_o0_5632_S1x192 (ix2 0 k) = val_main_v24 (F := Ideal) x0 (ix3 0 1 k) := by
  rw [stacked192, ← stack1]
  exact congrFun (cutR192_1 x0) (ix2 0 k)

theorem row192_2 (k : Fin 192) : gr192 x0 5888 slices_S1x8064_o0_5888_S1x192 (ix2 0 k) = val_main_v24 (F := Ideal) x0 (ix3 0 2 k) := by
  rw [stacked192, ← stack2]
  exact congrFun (cutR192_2 x0) (ix2 0 k)

theorem row192_3 (k : Fin 192) : gr192 x0 6144 slices_S1x8064_o0_6144_S1x192 (ix2 0 k) = val_main_v24 (F := Ideal) x0 (ix3 0 3 k) := by
  rw [stacked192, ← stack3]
  exact congrFun (cutR192_3 x0) (ix2 0 k)

theorem out77 : out0_77 x0 = val_main_v24 (F := Ideal) x0 :=
  canon_four (n := 192) _ _ _ _ (val_main_v24 (F := Ideal) x0) (cover0_77 _ _ _ _) (row192_0 x0) (row192_1 x0) (row192_2 x0) (row192_3 x0)

theorem out78 (x11 x23 x35 : Vec Ideal S1x4x192 .f32) : out0_78 x0 x11 x23 x35 = val_main_v303 (F := Ideal) x0 x11 x23 x35 :=
  four_D (n := 192) (hr := shapeCasts_S1x1x192_S1x192) _ _ _ _ _ x11 x23 x35 _ (row192_0 x0) (row192_1 x0) (row192_2 x0) (row192_3 x0) (fun _ _ _ _ => cover0_78 _ _ _ _)

theorem out79 (x23 : Vec Ideal S1x4x192 .f32) : out0_79 x0 x23 = val_main_v284 (F := Ideal) x0 x23 :=
  four_M (n := 192) (hr := shapeCasts_S1x1x192_S1x192) _ _ _ _ _ x23 _ (row192_0 x0) (row192_1 x0) (row192_2 x0) (row192_3 x0) (fun _ _ _ _ => cover0_79 _ _ _ _)

theorem out80 (x35 : Vec Ideal S1x4x192 .f32) : out0_80 x0 x35 = val_main_v290 (F := Ideal) x0 x35 :=
  four_V (n := 192) (hr := shapeCasts_S1x1x192_S1x192) _ _ _ _ _ x35 _ (row192_0 x0) (row192_1 x0) (row192_2 x0) (row192_3 x0) (fun _ _ _ _ => cover0_80 _ _ _ _)

/-- Row 0 of the second weight: the cut of the sum. -/
theorem cutR384_0 : (extractStridedSlice S1x384 ![0, 6400] (k0_pay126 x0) slices_S1x8064_o0_6400_S1x384 : FVec Ideal S1x384 .f32) = val_main_v25 (F := Ideal) x0 := by
  rw [sum_eq]
  unfold val_main_v25
  rfl

/-- Row 1 of the second weight: the cut of the sum. -/
theorem cutR384_1 : (extractStridedSlice S1x384 ![0, 6784] (k0_pay126 x0) slices_S1x8064_o0_6784_S1x384 : FVec Ideal S1x384 .f32) = val_main_v27 (F := Ideal) x0 := by
  rw [sum_eq]
  unfold val_main_v27
  rfl

/-- Row 2 of the second weight: the cut of the sum. -/
theorem cutR384_2 : (extractStridedSlice S1x384 ![0, 7168] (k0_pay126 x0) slices_S1x8064_o0_7168_S1x384 : FVec Ideal S1x384 .f32) = val_main_v29 (F := Ideal) x0 := by
  rw [sum_eq]
  unfold val_main_v29
  rfl

/-- Row 3 of the second weight: the cut of the sum. -/
theorem cutR384_3 : (extractStridedSlice S1x384 ![0, 7552] (k0_pay126 x0) slices_S1x8064_o0_7552_S1x384 : FVec Ideal S1x384 .f32) = val_main_v31 (F := Ideal) x0 := by
  rw [sum_eq]
  unfold val_main_v31
  rfl

/-- The reference's gradient of it is the stack of the cuts. -/
theorem stacked384 : (val_main_v38 (F := Ideal) x0 : FVec Ideal (R4 384) .f32) =
    stack Cert.Reference10Ideal.Gen.shapeCasts_S1x384_S384 Cert.Reference10Ideal.Gen.bcast_S384_S1x384_1 Cert.Reference10Ideal.Gen.bcast_S4x384_S1x4x384_1_2 Cert.Reference10Ideal.Gen.concatenates_S1x384_S1x384_S1x384_S1x384_S4x384_d0
      (val_main_v25 (F := Ideal) x0) (val_main_v27 (F := Ideal) x0) (val_main_v29 (F := Ideal) x0) (val_main_v31 (F := Ideal) x0) := rfl

/-- The kernel's cut of row `j`. -/
noncomputable abbrev gr384 (o : ℕ) (h : S1x8064.Slices ![0, o] S1x384) : FVec Ideal S1x384 .f32 := extractStridedSlice S1x384 ![0, o] (k0_pay126 x0) h

theorem row384_0 (k : Fin 384) : gr384 x0 6400 slices_S1x8064_o0_6400_S1x384 (ix2 0 k) = val_main_v38 (F := Ideal) x0 (ix3 0 0 k) := by
  rw [stacked384, ← stack0]
  exact congrFun (cutR384_0 x0) (ix2 0 k)

theorem row384_1 (k : Fin 384) : gr384 x0 6784 slices_S1x8064_o0_6784_S1x384 (ix2 0 k) = val_main_v38 (F := Ideal) x0 (ix3 0 1 k) := by
  rw [stacked384, ← stack1]
  exact congrFun (cutR384_1 x0) (ix2 0 k)

theorem row384_2 (k : Fin 384) : gr384 x0 7168 slices_S1x8064_o0_7168_S1x384 (ix2 0 k) = val_main_v38 (F := Ideal) x0 (ix3 0 2 k) := by
  rw [stacked384, ← stack2]
  exact congrFun (cutR384_2 x0) (ix2 0 k)

theorem row384_3 (k : Fin 384) : gr384 x0 7552 slices_S1x8064_o0_7552_S1x384 (ix2 0 k) = val_main_v38 (F := Ideal) x0 (ix3 0 3 k) := by
  rw [stacked384, ← stack3]
  exact congrFun (cutR384_3 x0) (ix2 0 k)

theorem out81 : out0_81 x0 = val_main_v38 (F := Ideal) x0 :=
  canon_four (n := 384) _ _ _ _ (val_main_v38 (F := Ideal) x0) (cover0_81 _ _ _ _) (row384_0 x0) (row384_1 x0) (row384_2 x0) (row384_3 x0)

theorem out82 (x12 x24 x36 : Vec Ideal S1x4x384 .f32) : out0_82 x0 x12 x24 x36 = val_main_v327 (F := Ideal) x0 x12 x24 x36 :=
  four_D (n := 384) (hr := shapeCasts_S1x1x384_S1x384) _ _ _ _ _ x12 x24 x36 _ (row384_0 x0) (row384_1 x0) (row384_2 x0) (row384_3 x0) (fun _ _ _ _ => cover0_82 _ _ _ _)

theorem out83 (x24 : Vec Ideal S1x4x384 .f32) : out0_83 x0 x24 = val_main_v308 (F := Ideal) x0 x24 :=
  four_M (n := 384) (hr := shapeCasts_S1x1x384_S1x384) _ _ _ _ _ x24 _ (row384_0 x0) (row384_1 x0) (row384_2 x0) (row384_3 x0) (fun _ _ _ _ => cover0_83 _ _ _ _)

theorem out84 (x36 : Vec Ideal S1x4x384 .f32) : out0_84 x0 x36 = val_main_v314 (F := Ideal) x0 x36 :=
  four_V (n := 384) (hr := shapeCasts_S1x1x384_S1x384) _ _ _ _ _ x36 _ (row384_0 x0) (row384_1 x0) (row384_2 x0) (row384_3 x0) (fun _ _ _ _ => cover0_84 _ _ _ _)

end Cert.SmVal
-- ==== Proof.SmallRef.lean ====
module

public import proofs.«01_k».proof.Defs
public import proofs.«01_k».proof.Proof.SmallConv
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read

/-!
# The small weights' step: the reference's results are the kernel's
-/

@[expose] public section

set_option maxRecDepth 100000

namespace Cert.Proof

open Idealize.ShloMosaic Idealize.ShloMosaic.TcCoe Idealize.SL.Sem

/-- Equal arguments, as the reference's run reads them. -/
theorem launch10 (m : (ℓ : Loc Cert.Kernel10Ideal.nD Cert.Kernel10Ideal.τ Cert.Kernel10Ideal.sig) → Buf (Elt Ideal) ℓ)
    (m' : (ℓ : Loc Cert.Reference10Ideal.nD Cert.Reference10Ideal.τ Cert.Reference10Ideal.sig) → Buf (Elt Ideal) ℓ) (c : Dev Cert.Kernel10Ideal.nD)
    (h : m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0) ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1) ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2) ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3) ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4) ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5) ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6) ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7) ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8) ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9) ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10) ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11) ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12) ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13) ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14) ∧ m' ((c.tc : Thread Cert.Reference10Ideal.nD Cert.Reference10Ideal.τ).loc Cert.Reference10Ideal.main_arg15) = m ((c.tc : Thread Cert.Kernel10Ideal.nD Cert.Kernel10Ideal.τ).loc Cert.Kernel10Ideal.main_arg15) ∧ m' ((c.tc : Thread Cert.Reference10Ideal.nD Cert.Reference10Ideal.τ).loc Cert.Reference10Ideal.main_arg16) = m ((c.tc : Thread Cert.Kernel10Ideal.nD Cert.Kernel10Ideal.τ).loc Cert.Kernel10Ideal.main_arg16) ∧ m' ((c.tc : Thread Cert.Reference10Ideal.nD Cert.Reference10Ideal.τ).loc Cert.Reference10Ideal.main_arg17) = m ((c.tc : Thread Cert.Kernel10Ideal.nD Cert.Kernel10Ideal.τ).loc Cert.Kernel10Ideal.main_arg17) ∧ m' ((c.tc : Thread Cert.Reference10Ideal.nD Cert.Reference10Ideal.τ).loc Cert.Reference10Ideal.main_arg18) = m ((c.tc : Thread Cert.Kernel10Ideal.nD Cert.Kernel10Ideal.τ).loc Cert.Kernel10Ideal.main_arg18) ∧ m' ((c.tc : Thread Cert.Reference10Ideal.nD Cert.Reference10Ideal.τ).loc Cert.Reference10Ideal.main_arg19) = m ((c.tc : Thread Cert.Kernel10Ideal.nD Cert.Kernel10Ideal.τ).loc Cert.Kernel10Ideal.main_arg19) ∧ m' ((c.tc : Thread Cert.Reference10Ideal.nD Cert.Reference10Ideal.τ).loc Cert.Reference10Ideal.main_arg20) = m ((c.tc : Thread Cert.Kernel10Ideal.nD Cert.Kernel10Ideal.τ).loc Cert.Kernel10Ideal.main_arg20) ∧ m' ((c.tc : Thread Cert.Reference10Ideal.nD Cert.Reference10Ideal.τ).loc Cert.Reference10Ideal.main_arg21) = m ((c.tc : Thread Cert.Kernel10Ideal.nD Cert.Kernel10Ideal.τ).loc Cert.Kernel10Ideal.main_arg21) ∧ m' ((c.tc : Thread Cert.Reference10Ideal.nD Cert.Reference10Ideal.τ).loc Cert.Reference10Ideal.main_arg22) = m ((c.tc : Thread Cert.Kernel10Ideal.nD Cert.Kernel10Ideal.τ).loc Cert.Kernel10Ideal.main_arg22) ∧ m' ((c.tc : Thread Cert.Reference10Ideal.nD Cert.Reference10Ideal.τ).loc Cert.Reference10Ideal.main_arg23) = m ((c.tc : Thread Cert.Kernel10Ideal.nD Cert.Kernel10Ideal.τ).loc Cert.Kernel10Ideal.main_arg23) ∧ m' ((c.tc : Thread Cert.Reference10Ideal.nD Cert.Reference10Ideal.τ).loc Cert.Reference10Ideal.main_arg24) = m ((c.tc : Thread Cert.Kernel10Ideal.nD Cert.Kernel10Ideal.τ).loc Cert.Kernel10Ideal.main_arg24) ∧ m' ((c.tc : Thread Cert.Reference10Ideal.nD Cert.Reference10Ideal.τ).loc Cert.Reference10Ideal.main_arg25) = m ((c.tc : Thread Cert.Kernel10Ideal.nD Cert.Kernel10Ideal.τ).loc Cert.Kernel10Ideal.main_arg25) ∧ m' ((c.tc : Thread Cert.Reference10Ideal.nD Cert.Reference10Ideal.τ).loc Cert.Reference10Ideal.main_arg26) = m ((c.tc : Thread Cert.Kernel10Ideal.nD Cert.Kernel10Ideal.τ).loc Cert.Kernel10Ideal.main_arg26) ∧ m' ((c.tc : Thread Cert.Reference10Ideal.nD Cert.Reference10Ideal.τ).loc Cert.Reference10Ideal.main_arg27) = m ((c.tc : Thread Cert.Kernel10Ideal.nD Cert.Kernel10Ideal.τ).loc Cert.Kernel10Ideal.main_arg27) ∧ m' ((c.tc : Thread Cert.Reference10Ideal.nD Cert.Reference10Ideal.τ).loc Cert.Reference10Ideal.main_arg28) = m ((c.tc : Thread Cert.Kernel10Ideal.nD Cert.Kernel10Ideal.τ).loc Cert.Kernel10Ideal.main_arg28) ∧ m' ((c.tc : Thread Cert.Reference10Ideal.nD Cert.Reference10Ideal.τ).loc Cert.Reference10Ideal.main_arg29) = m ((c.tc : Thread Cert.Kernel10Ideal.nD Cert.Kernel10Ideal.τ).loc Cert.Kernel10Ideal.main_arg29) ∧ m' ((c.tc : Thread Cert.Reference10Ideal.nD Cert.Reference10Ideal.τ).loc Cert.Reference10Ideal.main_arg30) = m ((c.tc : Thread Cert.Kernel10Ideal.nD Cert.Kernel10Ideal.τ).loc Cert.Kernel10Ideal.main_arg30) ∧ m' ((c.tc : Thread Cert.Reference10Ideal.nD Cert.Reference10Ideal.τ).loc Cert.Reference10Ideal.main_arg31) = m ((c.tc : Thread Cert.Kernel10Ideal.nD Cert.Kernel10Ideal.τ).loc Cert.Kernel10Ideal.main_arg31) ∧ m' ((c.tc : Thread Cert.Reference10Ideal.nD Cert.Reference10Ideal.τ).loc Cert.Reference10Ideal.main_arg32) = m ((c.tc : Thread Cert.Kernel10Ideal.nD Cert.Kernel10Ideal.τ).loc Cert.Kernel10Ideal.main_arg32) ∧ m' ((c.tc : Thread Cert.Reference10Ideal.nD Cert.Reference10Ideal.τ).loc Cert.Reference10Ideal.main_arg33) = m ((c.tc : Thread Cert.Kernel10Ideal.nD Cert.Kernel10Ideal.τ).loc Cert.Kernel10Ideal.main_arg33) ∧ m' ((c.tc : Thread Cert.Reference10Ideal.nD Cert.Reference10Ideal.τ).loc Cert.Reference10Ideal.main_arg34) = m ((c.tc : Thread Cert.Kernel10Ideal.nD Cert.Kernel10Ideal.τ).loc Cert.Kernel10Ideal.main_arg34) ∧ m' ((c.tc : Thread Cert.Reference10Ideal.nD Cert.Reference10Ideal.τ).loc Cert.Reference10Ideal.main_arg35) = m ((c.tc : Thread Cert.Kernel10Ideal.nD Cert.Kernel10Ideal.τ).loc Cert.Kernel10Ideal.main_arg35) ∧ m' ((c.tc : Thread Cert.Reference10Ideal.nD Cert.Reference10Ideal.τ).loc Cert.Reference10Ideal.main_arg36) = m ((c.tc : Thread Cert.Kernel10Ideal.nD Cert.Kernel10Ideal.τ).loc Cert.Kernel10Ideal.main_arg36)) :
    StableHlo.launchContents m' c (Proc.tc.devRef Cert.Reference10Ideal.main_arg0) = m ((c.tc : Thread Cert.Kernel10Ideal.nD Cert.Kernel10Ideal.τ).loc Cert.Kernel10Ideal.main_arg0) ∧ StableHlo.launchContents m' c (Proc.tc.devRef Cert.Reference10Ideal.main_arg1) = m ((c.tc : Thread Cert.Kernel10Ideal.nD Cert.Kernel10Ideal.τ).loc Cert.Kernel10Ideal.main_arg1) ∧ StableHlo.launchContents m' c (Proc.tc.devRef Cert.Reference10Ideal.main_arg2) = m ((c.tc : Thread Cert.Kernel10Ideal.nD Cert.Kernel10Ideal.τ).loc Cert.Kernel10Ideal.main_arg2) ∧ StableHlo.launchContents m' c (Proc.tc.devRef Cert.Reference10Ideal.main_arg3) = m ((c.tc : Thread Cert.Kernel10Ideal.nD Cert.Kernel10Ideal.τ).loc Cert.Kernel10Ideal.main_arg3) ∧ StableHlo.launchContents m' c (Proc.tc.devRef Cert.Reference10Ideal.main_arg4) = m ((c.tc : Thread Cert.Kernel10Ideal.nD Cert.Kernel10Ideal.τ).loc Cert.Kernel10Ideal.main_arg4) ∧ StableHlo.launchContents m' c (Proc.tc.devRef Cert.Reference10Ideal.main_arg5) = m ((c.tc : Thread Cert.Kernel10Ideal.nD Cert.Kernel10Ideal.τ).loc Cert.Kernel10Ideal.main_arg5) ∧ StableHlo.launchContents m' c (Proc.tc.devRef Cert.Reference10Ideal.main_arg6) = m ((c.tc : Thread Cert.Kernel10Ideal.nD Cert.Kernel10Ideal.τ).loc Cert.Kernel10Ideal.main_arg6) ∧ StableHlo.launchContents m' c (Proc.tc.devRef Cert.Reference10Ideal.main_arg7) = m ((c.tc : Thread Cert.Kernel10Ideal.nD Cert.Kernel10Ideal.τ).loc Cert.Kernel10Ideal.main_arg7) ∧ StableHlo.launchContents m' c (Proc.tc.devRef Cert.Reference10Ideal.main_arg8) = m ((c.tc : Thread Cert.Kernel10Ideal.nD Cert.Kernel10Ideal.τ).loc Cert.Kernel10Ideal.main_arg8) ∧ StableHlo.launchContents m' c (Proc.tc.devRef Cert.Reference10Ideal.main_arg9) = m ((c.tc : Thread Cert.Kernel10Ideal.nD Cert.Kernel10Ideal.τ).loc Cert.Kernel10Ideal.main_arg9) ∧ StableHlo.launchContents m' c (Proc.tc.devRef Cert.Reference10Ideal.main_arg10) = m ((c.tc : Thread Cert.Kernel10Ideal.nD Cert.Kernel10Ideal.τ).loc Cert.Kernel10Ideal.main_arg10) ∧ StableHlo.launchContents m' c (Proc.tc.devRef Cert.Reference10Ideal.main_arg11) = m ((c.tc : Thread Cert.Kernel10Ideal.nD Cert.Kernel10Ideal.τ).loc Cert.Kernel10Ideal.main_arg11) ∧ StableHlo.launchContents m' c (Proc.tc.devRef Cert.Reference10Ideal.main_arg12) = m ((c.tc : Thread Cert.Kernel10Ideal.nD Cert.Kernel10Ideal.τ).loc Cert.Kernel10Ideal.main_arg12) ∧ StableHlo.launchContents m' c (Proc.tc.devRef Cert.Reference10Ideal.main_arg13) = m ((c.tc : Thread Cert.Kernel10Ideal.nD Cert.Kernel10Ideal.τ).loc Cert.Kernel10Ideal.main_arg13) ∧ StableHlo.launchContents m' c (Proc.tc.devRef Cert.Reference10Ideal.main_arg14) = m ((c.tc : Thread Cert.Kernel10Ideal.nD Cert.Kernel10Ideal.τ).loc Cert.Kernel10Ideal.main_arg14) ∧ StableHlo.launchContents m' c (Proc.tc.devRef Cert.Reference10Ideal.main_arg15) = m ((c.tc : Thread Cert.Kernel10Ideal.nD Cert.Kernel10Ideal.τ).loc Cert.Kernel10Ideal.main_arg15) ∧ StableHlo.launchContents m' c (Proc.tc.devRef Cert.Reference10Ideal.main_arg16) = m ((c.tc : Thread Cert.Kernel10Ideal.nD Cert.Kernel10Ideal.τ).loc Cert.Kernel10Ideal.main_arg16) ∧ StableHlo.launchContents m' c (Proc.tc.devRef Cert.Reference10Ideal.main_arg17) = m ((c.tc : Thread Cert.Kernel10Ideal.nD Cert.Kernel10Ideal.τ).loc Cert.Kernel10Ideal.main_arg17) ∧ StableHlo.launchContents m' c (Proc.tc.devRef Cert.Reference10Ideal.main_arg18) = m ((c.tc : Thread Cert.Kernel10Ideal.nD Cert.Kernel10Ideal.τ).loc Cert.Kernel10Ideal.main_arg18) ∧ StableHlo.launchContents m' c (Proc.tc.devRef Cert.Reference10Ideal.main_arg19) = m ((c.tc : Thread Cert.Kernel10Ideal.nD Cert.Kernel10Ideal.τ).loc Cert.Kernel10Ideal.main_arg19) ∧ StableHlo.launchContents m' c (Proc.tc.devRef Cert.Reference10Ideal.main_arg20) = m ((c.tc : Thread Cert.Kernel10Ideal.nD Cert.Kernel10Ideal.τ).loc Cert.Kernel10Ideal.main_arg20) ∧ StableHlo.launchContents m' c (Proc.tc.devRef Cert.Reference10Ideal.main_arg21) = m ((c.tc : Thread Cert.Kernel10Ideal.nD Cert.Kernel10Ideal.τ).loc Cert.Kernel10Ideal.main_arg21) ∧ StableHlo.launchContents m' c (Proc.tc.devRef Cert.Reference10Ideal.main_arg22) = m ((c.tc : Thread Cert.Kernel10Ideal.nD Cert.Kernel10Ideal.τ).loc Cert.Kernel10Ideal.main_arg22) ∧ StableHlo.launchContents m' c (Proc.tc.devRef Cert.Reference10Ideal.main_arg23) = m ((c.tc : Thread Cert.Kernel10Ideal.nD Cert.Kernel10Ideal.τ).loc Cert.Kernel10Ideal.main_arg23) ∧ StableHlo.launchContents m' c (Proc.tc.devRef Cert.Reference10Ideal.main_arg24) = m ((c.tc : Thread Cert.Kernel10Ideal.nD Cert.Kernel10Ideal.τ).loc Cert.Kernel10Ideal.main_arg24) ∧ StableHlo.launchContents m' c (Proc.tc.devRef Cert.Reference10Ideal.main_arg25) = m ((c.tc : Thread Cert.Kernel10Ideal.nD Cert.Kernel10Ideal.τ).loc Cert.Kernel10Ideal.main_arg25) ∧ StableHlo.launchContents m' c (Proc.tc.devRef Cert.Reference10Ideal.main_arg26) = m ((c.tc : Thread Cert.Kernel10Ideal.nD Cert.Kernel10Ideal.τ).loc Cert.Kernel10Ideal.main_arg26) ∧ StableHlo.launchContents m' c (Proc.tc.devRef Cert.Reference10Ideal.main_arg27) = m ((c.tc : Thread Cert.Kernel10Ideal.nD Cert.Kernel10Ideal.τ).loc Cert.Kernel10Ideal.main_arg27) ∧ StableHlo.launchContents m' c (Proc.tc.devRef Cert.Reference10Ideal.main_arg28) = m ((c.tc : Thread Cert.Kernel10Ideal.nD Cert.Kernel10Ideal.τ).loc Cert.Kernel10Ideal.main_arg28) ∧ StableHlo.launchContents m' c (Proc.tc.devRef Cert.Reference10Ideal.main_arg29) = m ((c.tc : Thread Cert.Kernel10Ideal.nD Cert.Kernel10Ideal.τ).loc Cert.Kernel10Ideal.main_arg29) ∧ StableHlo.launchContents m' c (Proc.tc.devRef Cert.Reference10Ideal.main_arg30) = m ((c.tc : Thread Cert.Kernel10Ideal.nD Cert.Kernel10Ideal.τ).loc Cert.Kernel10Ideal.main_arg30) ∧ StableHlo.launchContents m' c (Proc.tc.devRef Cert.Reference10Ideal.main_arg31) = m ((c.tc : Thread Cert.Kernel10Ideal.nD Cert.Kernel10Ideal.τ).loc Cert.Kernel10Ideal.main_arg31) ∧ StableHlo.launchContents m' c (Proc.tc.devRef Cert.Reference10Ideal.main_arg32) = m ((c.tc : Thread Cert.Kernel10Ideal.nD Cert.Kernel10Ideal.τ).loc Cert.Kernel10Ideal.main_arg32) ∧ StableHlo.launchContents m' c (Proc.tc.devRef Cert.Reference10Ideal.main_arg33) = m ((c.tc : Thread Cert.Kernel10Ideal.nD Cert.Kernel10Ideal.τ).loc Cert.Kernel10Ideal.main_arg33) ∧ StableHlo.launchContents m' c (Proc.tc.devRef Cert.Reference10Ideal.main_arg34) = m ((c.tc : Thread Cert.Kernel10Ideal.nD Cert.Kernel10Ideal.τ).loc Cert.Kernel10Ideal.main_arg34) ∧ StableHlo.launchContents m' c (Proc.tc.devRef Cert.Reference10Ideal.main_arg35) = m ((c.tc : Thread Cert.Kernel10Ideal.nD Cert.Kernel10Ideal.τ).loc Cert.Kernel10Ideal.main_arg35) ∧ StableHlo.launchContents m' c (Proc.tc.devRef Cert.Reference10Ideal.main_arg36) = m ((c.tc : Thread Cert.Kernel10Ideal.nD Cert.Kernel10Ideal.τ).loc Cert.Kernel10Ideal.main_arg36) := h

open Cert.Kernel10Ideal Cert.Kernel10Ideal.Sm Cert.SmVal in
set_option maxHeartbeats 4000000 in
/-- From equal arguments the reference ends with the kernel's arrays. -/
theorem ref10 (m : (ℓ : Loc Cert.Kernel10Ideal.nD Cert.Kernel10Ideal.τ Cert.Kernel10Ideal.sig) → Buf (Elt Ideal) ℓ)
    (m' : (ℓ : Loc Cert.Reference10Ideal.nD Cert.Reference10Ideal.τ Cert.Reference10Ideal.sig) → Buf (Elt Ideal) ℓ) (g' : Dev Cert.Reference10Ideal.nD → PrngReg)
    (hargs : ∀ c : Dev Cert.Kernel10Ideal.nD, m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0) ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1) ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2) ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3) ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4) ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5) ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6) ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7) ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8) ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9) ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10) ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11) ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12) ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13) ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14) ∧ m' ((c.tc : Thread Cert.Reference10Ideal.nD Cert.Reference10Ideal.τ).loc Cert.Reference10Ideal.main_arg15) = m ((c.tc : Thread Cert.Kernel10Ideal.nD Cert.Kernel10Ideal.τ).loc Cert.Kernel10Ideal.main_arg15) ∧ m' ((c.tc : Thread Cert.Reference10Ideal.nD Cert.Reference10Ideal.τ).loc Cert.Reference10Ideal.main_arg16) = m ((c.tc : Thread Cert.Kernel10Ideal.nD Cert.Kernel10Ideal.τ).loc Cert.Kernel10Ideal.main_arg16) ∧ m' ((c.tc : Thread Cert.Reference10Ideal.nD Cert.Reference10Ideal.τ).loc Cert.Reference10Ideal.main_arg17) = m ((c.tc : Thread Cert.Kernel10Ideal.nD Cert.Kernel10Ideal.τ).loc Cert.Kernel10Ideal.main_arg17) ∧ m' ((c.tc : Thread Cert.Reference10Ideal.nD Cert.Reference10Ideal.τ).loc Cert.Reference10Ideal.main_arg18) = m ((c.tc : Thread Cert.Kernel10Ideal.nD Cert.Kernel10Ideal.τ).loc Cert.Kernel10Ideal.main_arg18) ∧ m' ((c.tc : Thread Cert.Reference10Ideal.nD Cert.Reference10Ideal.τ).loc Cert.Reference10Ideal.main_arg19) = m ((c.tc : Thread Cert.Kernel10Ideal.nD Cert.Kernel10Ideal.τ).loc Cert.Kernel10Ideal.main_arg19) ∧ m' ((c.tc : Thread Cert.Reference10Ideal.nD Cert.Reference10Ideal.τ).loc Cert.Reference10Ideal.main_arg20) = m ((c.tc : Thread Cert.Kernel10Ideal.nD Cert.Kernel10Ideal.τ).loc Cert.Kernel10Ideal.main_arg20) ∧ m' ((c.tc : Thread Cert.Reference10Ideal.nD Cert.Reference10Ideal.τ).loc Cert.Reference10Ideal.main_arg21) = m ((c.tc : Thread Cert.Kernel10Ideal.nD Cert.Kernel10Ideal.τ).loc Cert.Kernel10Ideal.main_arg21) ∧ m' ((c.tc : Thread Cert.Reference10Ideal.nD Cert.Reference10Ideal.τ).loc Cert.Reference10Ideal.main_arg22) = m ((c.tc : Thread Cert.Kernel10Ideal.nD Cert.Kernel10Ideal.τ).loc Cert.Kernel10Ideal.main_arg22) ∧ m' ((c.tc : Thread Cert.Reference10Ideal.nD Cert.Reference10Ideal.τ).loc Cert.Reference10Ideal.main_arg23) = m ((c.tc : Thread Cert.Kernel10Ideal.nD Cert.Kernel10Ideal.τ).loc Cert.Kernel10Ideal.main_arg23) ∧ m' ((c.tc : Thread Cert.Reference10Ideal.nD Cert.Reference10Ideal.τ).loc Cert.Reference10Ideal.main_arg24) = m ((c.tc : Thread Cert.Kernel10Ideal.nD Cert.Kernel10Ideal.τ).loc Cert.Kernel10Ideal.main_arg24) ∧ m' ((c.tc : Thread Cert.Reference10Ideal.nD Cert.Reference10Ideal.τ).loc Cert.Reference10Ideal.main_arg25) = m ((c.tc : Thread Cert.Kernel10Ideal.nD Cert.Kernel10Ideal.τ).loc Cert.Kernel10Ideal.main_arg25) ∧ m' ((c.tc : Thread Cert.Reference10Ideal.nD Cert.Reference10Ideal.τ).loc Cert.Reference10Ideal.main_arg26) = m ((c.tc : Thread Cert.Kernel10Ideal.nD Cert.Kernel10Ideal.τ).loc Cert.Kernel10Ideal.main_arg26) ∧ m' ((c.tc : Thread Cert.Reference10Ideal.nD Cert.Reference10Ideal.τ).loc Cert.Reference10Ideal.main_arg27) = m ((c.tc : Thread Cert.Kernel10Ideal.nD Cert.Kernel10Ideal.τ).loc Cert.Kernel10Ideal.main_arg27) ∧ m' ((c.tc : Thread Cert.Reference10Ideal.nD Cert.Reference10Ideal.τ).loc Cert.Reference10Ideal.main_arg28) = m ((c.tc : Thread Cert.Kernel10Ideal.nD Cert.Kernel10Ideal.τ).loc Cert.Kernel10Ideal.main_arg28) ∧ m' ((c.tc : Thread Cert.Reference10Ideal.nD Cert.Reference10Ideal.τ).loc Cert.Reference10Ideal.main_arg29) = m ((c.tc : Thread Cert.Kernel10Ideal.nD Cert.Kernel10Ideal.τ).loc Cert.Kernel10Ideal.main_arg29) ∧ m' ((c.tc : Thread Cert.Reference10Ideal.nD Cert.Reference10Ideal.τ).loc Cert.Reference10Ideal.main_arg30) = m ((c.tc : Thread Cert.Kernel10Ideal.nD Cert.Kernel10Ideal.τ).loc Cert.Kernel10Ideal.main_arg30) ∧ m' ((c.tc : Thread Cert.Reference10Ideal.nD Cert.Reference10Ideal.τ).loc Cert.Reference10Ideal.main_arg31) = m ((c.tc : Thread Cert.Kernel10Ideal.nD Cert.Kernel10Ideal.τ).loc Cert.Kernel10Ideal.main_arg31) ∧ m' ((c.tc : Thread Cert.Reference10Ideal.nD Cert.Reference10Ideal.τ).loc Cert.Reference10Ideal.main_arg32) = m ((c.tc : Thread Cert.Kernel10Ideal.nD Cert.Kernel10Ideal.τ).loc Cert.Kernel10Ideal.main_arg32) ∧ m' ((c.tc : Thread Cert.Reference10Ideal.nD Cert.Reference10Ideal.τ).loc Cert.Reference10Ideal.main_arg33) = m ((c.tc : Thread Cert.Kernel10Ideal.nD Cert.Kernel10Ideal.τ).loc Cert.Kernel10Ideal.main_arg33) ∧ m' ((c.tc : Thread Cert.Reference10Ideal.nD Cert.Reference10Ideal.τ).loc Cert.Reference10Ideal.main_arg34) = m ((c.tc : Thread Cert.Kernel10Ideal.nD Cert.Kernel10Ideal.τ).loc Cert.Kernel10Ideal.main_arg34) ∧ m' ((c.tc : Thread Cert.Reference10Ideal.nD Cert.Reference10Ideal.τ).loc Cert.Reference10Ideal.main_arg35) = m ((c.tc : Thread Cert.Kernel10Ideal.nD Cert.Kernel10Ideal.τ).loc Cert.Kernel10Ideal.main_arg35) ∧ m' ((c.tc : Thread Cert.Reference10Ideal.nD Cert.Reference10Ideal.τ).loc Cert.Reference10Ideal.main_arg36) = m ((c.tc : Thread Cert.Kernel10Ideal.nD Cert.Kernel10Ideal.τ).loc Cert.Kernel10Ideal.main_arg36)) :
    θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = out0_37 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_v63) = out0_38 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg13)) (m ((c.tc : Thread Cert.Kernel10Ideal.nD Cert.Kernel10Ideal.τ).loc Cert.Kernel10Ideal.main_arg25))
          ∧ r.2.mem ((c.tc : Thread Cert.Reference10Ideal.nD Cert.Reference10Ideal.τ).loc Cert.Reference10Ideal.main_v44) = out0_39 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg13))
          ∧ r.2.mem ((c.tc : Thread Cert.Reference10Ideal.nD Cert.Reference10Ideal.τ).loc Cert.Reference10Ideal.main_v50) = out0_40 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg25))
          ∧ r.2.mem ((c.tc : Thread Cert.Reference10Ideal.nD Cert.Reference10Ideal.τ).loc Cert.Reference10Ideal.main_v2) = out0_41 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_v87) = out0_42 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg14)) (m ((c.tc : Thread Cert.Kernel10Ideal.nD Cert.Kernel10Ideal.τ).loc Cert.Kernel10Ideal.main_arg26))
          ∧ r.2.mem ((c.tc : Thread Cert.Reference10Ideal.nD Cert.Reference10Ideal.τ).loc Cert.Reference10Ideal.main_v68) = out0_43 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg14))
          ∧ r.2.mem ((c.tc : Thread Cert.Reference10Ideal.nD Cert.Reference10Ideal.τ).loc Cert.Reference10Ideal.main_v74) = out0_44 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg26))
          ∧ r.2.mem ((c.tc : Thread Cert.Reference10Ideal.nD Cert.Reference10Ideal.τ).loc Cert.Reference10Ideal.main_v3) = out0_45 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_v111) = out0_46 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg15)) (m ((c.tc : Thread Cert.Kernel10Ideal.nD Cert.Kernel10Ideal.τ).loc Cert.Kernel10Ideal.main_arg27))
          ∧ r.2.mem ((c.tc : Thread Cert.Reference10Ideal.nD Cert.Reference10Ideal.τ).loc Cert.Reference10Ideal.main_v92) = out0_47 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg15))
          ∧ r.2.mem ((c.tc : Thread Cert.Reference10Ideal.nD Cert.Reference10Ideal.τ).loc Cert.Reference10Ideal.main_v98) = out0_48 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg27))
          ∧ r.2.mem ((c.tc : Thread Cert.Reference10Ideal.nD Cert.Reference10Ideal.τ).loc Cert.Reference10Ideal.main_v4) = out0_49 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_v135) = out0_50 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg16)) (m ((c.tc : Thread Cert.Kernel10Ideal.nD Cert.Kernel10Ideal.τ).loc Cert.Kernel10Ideal.main_arg28))
          ∧ r.2.mem ((c.tc : Thread Cert.Reference10Ideal.nD Cert.Reference10Ideal.τ).loc Cert.Reference10Ideal.main_v116) = out0_51 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg16))
          ∧ r.2.mem ((c.tc : Thread Cert.Reference10Ideal.nD Cert.Reference10Ideal.τ).loc Cert.Reference10Ideal.main_v122) = out0_52 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg28))
          ∧ r.2.mem ((c.tc : Thread Cert.Reference10Ideal.nD Cert.Reference10Ideal.τ).loc Cert.Reference10Ideal.main_v5) = out0_53 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_v159) = out0_54 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg17)) (m ((c.tc : Thread Cert.Kernel10Ideal.nD Cert.Kernel10Ideal.τ).loc Cert.Kernel10Ideal.main_arg29))
          ∧ r.2.mem ((c.tc : Thread Cert.Reference10Ideal.nD Cert.Reference10Ideal.τ).loc Cert.Reference10Ideal.main_v140) = out0_55 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg17))
          ∧ r.2.mem ((c.tc : Thread Cert.Reference10Ideal.nD Cert.Reference10Ideal.τ).loc Cert.Reference10Ideal.main_v146) = out0_56 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg29))
          ∧ r.2.mem ((c.tc : Thread Cert.Reference10Ideal.nD Cert.Reference10Ideal.τ).loc Cert.Reference10Ideal.main_v6) = out0_57 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_v183) = out0_58 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg18)) (m ((c.tc : Thread Cert.Kernel10Ideal.nD Cert.Kernel10Ideal.τ).loc Cert.Kernel10Ideal.main_arg30))
          ∧ r.2.mem ((c.tc : Thread Cert.Reference10Ideal.nD Cert.Reference10Ideal.τ).loc Cert.Reference10Ideal.main_v164) = out0_59 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg18))
          ∧ r.2.mem ((c.tc : Thread Cert.Reference10Ideal.nD Cert.Reference10Ideal.τ).loc Cert.Reference10Ideal.main_v170) = out0_60 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg30))
          ∧ r.2.mem ((c.tc : Thread Cert.Reference10Ideal.nD Cert.Reference10Ideal.τ).loc Cert.Reference10Ideal.main_v7) = out0_61 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_v207) = out0_62 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg19)) (m ((c.tc : Thread Cert.Kernel10Ideal.nD Cert.Kernel10Ideal.τ).loc Cert.Kernel10Ideal.main_arg31))
          ∧ r.2.mem ((c.tc : Thread Cert.Reference10Ideal.nD Cert.Reference10Ideal.τ).loc Cert.Reference10Ideal.main_v188) = out0_63 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg19))
          ∧ r.2.mem ((c.tc : Thread Cert.Reference10Ideal.nD Cert.Reference10Ideal.τ).loc Cert.Reference10Ideal.main_v194) = out0_64 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg31))
          ∧ r.2.mem ((c.tc : Thread Cert.Reference10Ideal.nD Cert.Reference10Ideal.τ).loc Cert.Reference10Ideal.main_v8) = out0_65 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_v231) = out0_66 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg20)) (m ((c.tc : Thread Cert.Kernel10Ideal.nD Cert.Kernel10Ideal.τ).loc Cert.Kernel10Ideal.main_arg32))
          ∧ r.2.mem ((c.tc : Thread Cert.Reference10Ideal.nD Cert.Reference10Ideal.τ).loc Cert.Reference10Ideal.main_v212) = out0_67 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg20))
          ∧ r.2.mem ((c.tc : Thread Cert.Reference10Ideal.nD Cert.Reference10Ideal.τ).loc Cert.Reference10Ideal.main_v218) = out0_68 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg32))
          ∧ r.2.mem ((c.tc : Thread Cert.Reference10Ideal.nD Cert.Reference10Ideal.τ).loc Cert.Reference10Ideal.main_v9) = out0_69 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_v255) = out0_70 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg21)) (m ((c.tc : Thread Cert.Kernel10Ideal.nD Cert.Kernel10Ideal.τ).loc Cert.Kernel10Ideal.main_arg33))
          ∧ r.2.mem ((c.tc : Thread Cert.Reference10Ideal.nD Cert.Reference10Ideal.τ).loc Cert.Reference10Ideal.main_v236) = out0_71 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg21))
          ∧ r.2.mem ((c.tc : Thread Cert.Reference10Ideal.nD Cert.Reference10Ideal.τ).loc Cert.Reference10Ideal.main_v242) = out0_72 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg33))
          ∧ r.2.mem ((c.tc : Thread Cert.Reference10Ideal.nD Cert.Reference10Ideal.τ).loc Cert.Reference10Ideal.main_v10) = out0_73 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_v279) = out0_74 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg22)) (m ((c.tc : Thread Cert.Kernel10Ideal.nD Cert.Kernel10Ideal.τ).loc Cert.Kernel10Ideal.main_arg34))
          ∧ r.2.mem ((c.tc : Thread Cert.Reference10Ideal.nD Cert.Reference10Ideal.τ).loc Cert.Reference10Ideal.main_v260) = out0_75 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg22))
          ∧ r.2.mem ((c.tc : Thread Cert.Reference10Ideal.nD Cert.Reference10Ideal.τ).loc Cert.Reference10Ideal.main_v266) = out0_76 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg34))
          ∧ r.2.mem ((c.tc : Thread Cert.Reference10Ideal.nD Cert.Reference10Ideal.τ).loc Cert.Reference10Ideal.main_v24) = out0_77 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_v303) = out0_78 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg23)) (m ((c.tc : Thread Cert.Kernel10Ideal.nD Cert.Kernel10Ideal.τ).loc Cert.Kernel10Ideal.main_arg35))
          ∧ r.2.mem ((c.tc : Thread Cert.Reference10Ideal.nD Cert.Reference10Ideal.τ).loc Cert.Reference10Ideal.main_v284) = out0_79 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg23))
          ∧ r.2.mem ((c.tc : Thread Cert.Reference10Ideal.nD Cert.Reference10Ideal.τ).loc Cert.Reference10Ideal.main_v290) = out0_80 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg35))
          ∧ r.2.mem ((c.tc : Thread Cert.Reference10Ideal.nD Cert.Reference10Ideal.τ).loc Cert.Reference10Ideal.main_v38) = out0_81 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_v327) = out0_82 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg24)) (m ((c.tc : Thread Cert.Kernel10Ideal.nD Cert.Kernel10Ideal.τ).loc Cert.Kernel10Ideal.main_arg36))
          ∧ r.2.mem ((c.tc : Thread Cert.Reference10Ideal.nD Cert.Reference10Ideal.τ).loc Cert.Reference10Ideal.main_v308) = out0_83 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg24))
          ∧ r.2.mem ((c.tc : Thread Cert.Reference10Ideal.nD Cert.Reference10Ideal.τ).loc Cert.Reference10Ideal.main_v314) = out0_84 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg36))
          ∧ r.2.mem ((c.tc : Thread Cert.Reference10Ideal.nD Cert.Reference10Ideal.τ).loc Cert.Reference10Ideal.main_v39) = out0_85 (m ((c.tc : Thread Cert.Kernel10Ideal.nD Cert.Kernel10Ideal.τ).loc Cert.Kernel10Ideal.main_arg0))
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14)
          ∧ r.2.mem ((c.tc : Thread Cert.Reference10Ideal.nD Cert.Reference10Ideal.τ).loc Cert.Reference10Ideal.main_arg15) = m' ((c.tc : Thread Cert.Reference10Ideal.nD Cert.Reference10Ideal.τ).loc Cert.Reference10Ideal.main_arg15)
          ∧ r.2.mem ((c.tc : Thread Cert.Reference10Ideal.nD Cert.Reference10Ideal.τ).loc Cert.Reference10Ideal.main_arg16) = m' ((c.tc : Thread Cert.Reference10Ideal.nD Cert.Reference10Ideal.τ).loc Cert.Reference10Ideal.main_arg16)
          ∧ r.2.mem ((c.tc : Thread Cert.Reference10Ideal.nD Cert.Reference10Ideal.τ).loc Cert.Reference10Ideal.main_arg17) = m' ((c.tc : Thread Cert.Reference10Ideal.nD Cert.Reference10Ideal.τ).loc Cert.Reference10Ideal.main_arg17)
          ∧ r.2.mem ((c.tc : Thread Cert.Reference10Ideal.nD Cert.Reference10Ideal.τ).loc Cert.Reference10Ideal.main_arg18) = m' ((c.tc : Thread Cert.Reference10Ideal.nD Cert.Reference10Ideal.τ).loc Cert.Reference10Ideal.main_arg18)
          ∧ r.2.mem ((c.tc : Thread Cert.Reference10Ideal.nD Cert.Reference10Ideal.τ).loc Cert.Reference10Ideal.main_arg19) = m' ((c.tc : Thread Cert.Reference10Ideal.nD Cert.Reference10Ideal.τ).loc Cert.Reference10Ideal.main_arg19)
          ∧ r.2.mem ((c.tc : Thread Cert.Reference10Ideal.nD Cert.Reference10Ideal.τ).loc Cert.Reference10Ideal.main_arg20) = m' ((c.tc : Thread Cert.Reference10Ideal.nD Cert.Reference10Ideal.τ).loc Cert.Reference10Ideal.main_arg20)
          ∧ r.2.mem ((c.tc : Thread Cert.Reference10Ideal.nD Cert.Reference10Ideal.τ).loc Cert.Reference10Ideal.main_arg21) = m' ((c.tc : Thread Cert.Reference10Ideal.nD Cert.Reference10Ideal.τ).loc Cert.Reference10Ideal.main_arg21)
          ∧ r.2.mem ((c.tc : Thread Cert.Reference10Ideal.nD Cert.Reference10Ideal.τ).loc Cert.Reference10Ideal.main_arg22) = m' ((c.tc : Thread Cert.Reference10Ideal.nD Cert.Reference10Ideal.τ).loc Cert.Reference10Ideal.main_arg22)
          ∧ r.2.mem ((c.tc : Thread Cert.Reference10Ideal.nD Cert.Reference10Ideal.τ).loc Cert.Reference10Ideal.main_arg23) = m' ((c.tc : Thread Cert.Reference10Ideal.nD Cert.Reference10Ideal.τ).loc Cert.Reference10Ideal.main_arg23)
          ∧ r.2.mem ((c.tc : Thread Cert.Reference10Ideal.nD Cert.Reference10Ideal.τ).loc Cert.Reference10Ideal.main_arg24) = m' ((c.tc : Thread Cert.Reference10Ideal.nD Cert.Reference10Ideal.τ).loc Cert.Reference10Ideal.main_arg24)
          ∧ r.2.mem ((c.tc : Thread Cert.Reference10Ideal.nD Cert.Reference10Ideal.τ).loc Cert.Reference10Ideal.main_arg25) = m' ((c.tc : Thread Cert.Reference10Ideal.nD Cert.Reference10Ideal.τ).loc Cert.Reference10Ideal.main_arg25)
          ∧ r.2.mem ((c.tc : Thread Cert.Reference10Ideal.nD Cert.Reference10Ideal.τ).loc Cert.Reference10Ideal.main_arg26) = m' ((c.tc : Thread Cert.Reference10Ideal.nD Cert.Reference10Ideal.τ).loc Cert.Reference10Ideal.main_arg26)
          ∧ r.2.mem ((c.tc : Thread Cert.Reference10Ideal.nD Cert.Reference10Ideal.τ).loc Cert.Reference10Ideal.main_arg27) = m' ((c.tc : Thread Cert.Reference10Ideal.nD Cert.Reference10Ideal.τ).loc Cert.Reference10Ideal.main_arg27)
          ∧ r.2.mem ((c.tc : Thread Cert.Reference10Ideal.nD Cert.Reference10Ideal.τ).loc Cert.Reference10Ideal.main_arg28) = m' ((c.tc : Thread Cert.Reference10Ideal.nD Cert.Reference10Ideal.τ).loc Cert.Reference10Ideal.main_arg28)
          ∧ r.2.mem ((c.tc : Thread Cert.Reference10Ideal.nD Cert.Reference10Ideal.τ).loc Cert.Reference10Ideal.main_arg29) = m' ((c.tc : Thread Cert.Reference10Ideal.nD Cert.Reference10Ideal.τ).loc Cert.Reference10Ideal.main_arg29)
          ∧ r.2.mem ((c.tc : Thread Cert.Reference10Ideal.nD Cert.Reference10Ideal.τ).loc Cert.Reference10Ideal.main_arg30) = m' ((c.tc : Thread Cert.Reference10Ideal.nD Cert.Reference10Ideal.τ).loc Cert.Reference10Ideal.main_arg30)
          ∧ r.2.mem ((c.tc : Thread Cert.Reference10Ideal.nD Cert.Reference10Ideal.τ).loc Cert.Reference10Ideal.main_arg31) = m' ((c.tc : Thread Cert.Reference10Ideal.nD Cert.Reference10Ideal.τ).loc Cert.Reference10Ideal.main_arg31)
          ∧ r.2.mem ((c.tc : Thread Cert.Reference10Ideal.nD Cert.Reference10Ideal.τ).loc Cert.Reference10Ideal.main_arg32) = m' ((c.tc : Thread Cert.Reference10Ideal.nD Cert.Reference10Ideal.τ).loc Cert.Reference10Ideal.main_arg32)
          ∧ r.2.mem ((c.tc : Thread Cert.Reference10Ideal.nD Cert.Reference10Ideal.τ).loc Cert.Reference10Ideal.main_arg33) = m' ((c.tc : Thread Cert.Reference10Ideal.nD Cert.Reference10Ideal.τ).loc Cert.Reference10Ideal.main_arg33)
          ∧ r.2.mem ((c.tc : Thread Cert.Reference10Ideal.nD Cert.Reference10Ideal.τ).loc Cert.Reference10Ideal.main_arg34) = m' ((c.tc : Thread Cert.Reference10Ideal.nD Cert.Reference10Ideal.τ).loc Cert.Reference10Ideal.main_arg34)
          ∧ r.2.mem ((c.tc : Thread Cert.Reference10Ideal.nD Cert.Reference10Ideal.τ).loc Cert.Reference10Ideal.main_arg35) = m' ((c.tc : Thread Cert.Reference10Ideal.nD Cert.Reference10Ideal.τ).loc Cert.Reference10Ideal.main_arg35)
          ∧ r.2.mem ((c.tc : Thread Cert.Reference10Ideal.nD Cert.Reference10Ideal.τ).loc Cert.Reference10Ideal.main_arg36) = m' ((c.tc : Thread Cert.Reference10Ideal.nD Cert.Reference10Ideal.τ).loc Cert.Reference10Ideal.main_arg36)) := by
  refine (θ_run Cert.Reference10Ideal.defs _ _).mono (fun r h c => ?_) (Cert.Reference10Ideal.Value.run m' g')
  obtain ⟨h0, h1, h2, h3, h4, h5, h6, h7, h8, h9, h10, h11, h12, h13, h14, h15, h16, h17, h18, h19, h20, h21, h22, h23, h24, h25, h26, h27, h28, h29, h30, h31, h32, h33, h34, h35, h36⟩ := launch10 m m' c (hargs c)
  obtain ⟨r37, r38, r39, r40, r41, r42, r43, r44, r45, r46, r47, r48, r49, r50, r51, r52, r53, r54, r55, r56, r57, r58, r59, r60, r61, r62, r63, r64, r65, r66, r67, r68, r69, r70, r71, r72, r73, r74, r75, r76, r77, r78, r79, r80, r81, r82, r83, r84, r85, ha⟩ := h c
  refine ⟨r37.trans ?_, r38.trans ?_, r39.trans ?_, r40.trans ?_, r41.trans ?_, r42.trans ?_, r43.trans ?_, r44.trans ?_, r45.trans ?_, r46.trans ?_, r47.trans ?_, r48.trans ?_, r49.trans ?_, r50.trans ?_, r51.trans ?_, r52.trans ?_, r53.trans ?_, r54.trans ?_, r55.trans ?_, r56.trans ?_, r57.trans ?_, r58.trans ?_, r59.trans ?_, r60.trans ?_, r61.trans ?_, r62.trans ?_, r63.trans ?_, r64.trans ?_, r65.trans ?_, r66.trans ?_, r67.trans ?_, r68.trans ?_, r69.trans ?_, r70.trans ?_, r71.trans ?_, r72.trans ?_, r73.trans ?_, r74.trans ?_, r75.trans ?_, r76.trans ?_, r77.trans ?_, r78.trans ?_, r79.trans ?_, r80.trans ?_, r81.trans ?_, r82.trans ?_, r83.trans ?_, r84.trans ?_, r85.trans ?_, ha⟩
  · exact (Cert.Reference10Ideal.Read.val_main_v1_eq (StableHlo.launchContents m' c)).trans (by rw [h0]; exact (out37 _).symm)
  · exact (Cert.Reference10Ideal.Read.val_main_v63_eq (StableHlo.launchContents m' c)).trans (by rw [h0, h1, h13, h25]; exact (out38 _ _ _ _).symm)
  · exact (Cert.Reference10Ideal.Read.val_main_v44_eq (StableHlo.launchContents m' c)).trans (by rw [h0, h13]; exact (out39 _ _).symm)
  · exact (Cert.Reference10Ideal.Read.val_main_v50_eq (StableHlo.launchContents m' c)).trans (by rw [h0, h25]; exact (out40 _ _).symm)
  · exact (Cert.Reference10Ideal.Read.val_main_v2_eq (StableHlo.launchContents m' c)).trans (by rw [h0]; exact (out41 _).symm)
  · exact (Cert.Reference10Ideal.Read.val_main_v87_eq (StableHlo.launchContents m' c)).trans (by rw [h0, h2, h14, h26]; exact (out42 _ _ _ _).symm)
  · exact (Cert.Reference10Ideal.Read.val_main_v68_eq (StableHlo.launchContents m' c)).trans (by rw [h0, h14]; exact (out43 _ _).symm)
  · exact (Cert.Reference10Ideal.Read.val_main_v74_eq (StableHlo.launchContents m' c)).trans (by rw [h0, h26]; exact (out44 _ _).symm)
  · exact (Cert.Reference10Ideal.Read.val_main_v3_eq (StableHlo.launchContents m' c)).trans (by rw [h0]; exact (out45 _).symm)
  · exact (Cert.Reference10Ideal.Read.val_main_v111_eq (StableHlo.launchContents m' c)).trans (by rw [h0, h3, h15, h27]; exact (out46 _ _ _ _).symm)
  · exact (Cert.Reference10Ideal.Read.val_main_v92_eq (StableHlo.launchContents m' c)).trans (by rw [h0, h15]; exact (out47 _ _).symm)
  · exact (Cert.Reference10Ideal.Read.val_main_v98_eq (StableHlo.launchContents m' c)).trans (by rw [h0, h27]; exact (out48 _ _).symm)
  · exact (Cert.Reference10Ideal.Read.val_main_v4_eq (StableHlo.launchContents m' c)).trans (by rw [h0]; exact (out49 _).symm)
  · exact (Cert.Reference10Ideal.Read.val_main_v135_eq (StableHlo.launchContents m' c)).trans (by rw [h0, h4, h16, h28]; exact (out50 _ _ _ _).symm)
  · exact (Cert.Reference10Ideal.Read.val_main_v116_eq (StableHlo.launchContents m' c)).trans (by rw [h0, h16]; exact (out51 _ _).symm)
  · exact (Cert.Reference10Ideal.Read.val_main_v122_eq (StableHlo.launchContents m' c)).trans (by rw [h0, h28]; exact (out52 _ _).symm)
  · exact (Cert.Reference10Ideal.Read.val_main_v5_eq (StableHlo.launchContents m' c)).trans (by rw [h0]; exact (out53 _).symm)
  · exact (Cert.Reference10Ideal.Read.val_main_v159_eq (StableHlo.launchContents m' c)).trans (by rw [h0, h5, h17, h29]; exact (out54 _ _ _ _).symm)
  · exact (Cert.Reference10Ideal.Read.val_main_v140_eq (StableHlo.launchContents m' c)).trans (by rw [h0, h17]; exact (out55 _ _).symm)
  · exact (Cert.Reference10Ideal.Read.val_main_v146_eq (StableHlo.launchContents m' c)).trans (by rw [h0, h29]; exact (out56 _ _).symm)
  · exact (Cert.Reference10Ideal.Read.val_main_v6_eq (StableHlo.launchContents m' c)).trans (by rw [h0]; exact (out57 _).symm)
  · exact (Cert.Reference10Ideal.Read.val_main_v183_eq (StableHlo.launchContents m' c)).trans (by rw [h0, h6, h18, h30]; exact (out58 _ _ _ _).symm)
  · exact (Cert.Reference10Ideal.Read.val_main_v164_eq (StableHlo.launchContents m' c)).trans (by rw [h0, h18]; exact (out59 _ _).symm)
  · exact (Cert.Reference10Ideal.Read.val_main_v170_eq (StableHlo.launchContents m' c)).trans (by rw [h0, h30]; exact (out60 _ _).symm)
  · exact (Cert.Reference10Ideal.Read.val_main_v7_eq (StableHlo.launchContents m' c)).trans (by rw [h0]; exact (out61 _).symm)
  · exact (Cert.Reference10Ideal.Read.val_main_v207_eq (StableHlo.launchContents m' c)).trans (by rw [h0, h7, h19, h31]; exact (out62 _ _ _ _).symm)
  · exact (Cert.Reference10Ideal.Read.val_main_v188_eq (StableHlo.launchContents m' c)).trans (by rw [h0, h19]; exact (out63 _ _).symm)
  · exact (Cert.Reference10Ideal.Read.val_main_v194_eq (StableHlo.launchContents m' c)).trans (by rw [h0, h31]; exact (out64 _ _).symm)
  · exact (Cert.Reference10Ideal.Read.val_main_v8_eq (StableHlo.launchContents m' c)).trans (by rw [h0]; exact (out65 _).symm)
  · exact (Cert.Reference10Ideal.Read.val_main_v231_eq (StableHlo.launchContents m' c)).trans (by rw [h0, h8, h20, h32]; exact (out66 _ _ _ _).symm)
  · exact (Cert.Reference10Ideal.Read.val_main_v212_eq (StableHlo.launchContents m' c)).trans (by rw [h0, h20]; exact (out67 _ _).symm)
  · exact (Cert.Reference10Ideal.Read.val_main_v218_eq (StableHlo.launchContents m' c)).trans (by rw [h0, h32]; exact (out68 _ _).symm)
  · exact (Cert.Reference10Ideal.Read.val_main_v9_eq (StableHlo.launchContents m' c)).trans (by rw [h0]; exact (out69 _).symm)
  · exact (Cert.Reference10Ideal.Read.val_main_v255_eq (StableHlo.launchContents m' c)).trans (by rw [h0, h9, h21, h33]; exact (out70 _ _ _ _).symm)
  · exact (Cert.Reference10Ideal.Read.val_main_v236_eq (StableHlo.launchContents m' c)).trans (by rw [h0, h21]; exact (out71 _ _).symm)
  · exact (Cert.Reference10Ideal.Read.val_main_v242_eq (StableHlo.launchContents m' c)).trans (by rw [h0, h33]; exact (out72 _ _).symm)
  · exact (Cert.Reference10Ideal.Read.val_main_v10_eq (StableHlo.launchContents m' c)).trans (by rw [h0]; exact (out73 _).symm)
  · exact (Cert.Reference10Ideal.Read.val_main_v279_eq (StableHlo.launchContents m' c)).trans (by rw [h0, h10, h22, h34]; exact (out74 _ _ _ _).symm)
  · exact (Cert.Reference10Ideal.Read.val_main_v260_eq (StableHlo.launchContents m' c)).trans (by rw [h0, h22]; exact (out75 _ _).symm)
  · exact (Cert.Reference10Ideal.Read.val_main_v266_eq (StableHlo.launchContents m' c)).trans (by rw [h0, h34]; exact (out76 _ _).symm)
  · exact (Cert.Reference10Ideal.Read.val_main_v24_eq (StableHlo.launchContents m' c)).trans (by rw [h0]; exact (out77 _).symm)
  · exact (Cert.Reference10Ideal.Read.val_main_v303_eq (StableHlo.launchContents m' c)).trans (by rw [h0, h11, h23, h35]; exact (out78 _ _ _ _).symm)
  · exact (Cert.Reference10Ideal.Read.val_main_v284_eq (StableHlo.launchContents m' c)).trans (by rw [h0, h23]; exact (out79 _ _).symm)
  · exact (Cert.Reference10Ideal.Read.val_main_v290_eq (StableHlo.launchContents m' c)).trans (by rw [h0, h35]; exact (out80 _ _).symm)
  · exact (Cert.Reference10Ideal.Read.val_main_v38_eq (StableHlo.launchContents m' c)).trans (by rw [h0]; exact (out81 _).symm)
  · exact (Cert.Reference10Ideal.Read.val_main_v327_eq (StableHlo.launchContents m' c)).trans (by rw [h0, h12, h24, h36]; exact (out82 _ _ _ _).symm)
  · exact (Cert.Reference10Ideal.Read.val_main_v308_eq (StableHlo.launchContents m' c)).trans (by rw [h0, h24]; exact (out83 _ _).symm)
  · exact (Cert.Reference10Ideal.Read.val_main_v314_eq (StableHlo.launchContents m' c)).trans (by rw [h0, h36]; exact (out84 _ _).symm)
  · exact (Cert.Reference10Ideal.Read.val_main_v39_eq (StableHlo.launchContents m' c)).trans (by rw [h0]; exact (out85 _).symm)

end Cert.Proof
-- ==== Proof.SmallProof.lean ====
module

public import proofs.«01_k».proof.Defs
public import proofs.«01_k».proof.Proof.SmallArr1
public import proofs.«01_k».proof.Proof.SmallArr2
public import proofs.«01_k».proof.Proof.SmallArr3
public import proofs.«01_k».proof.Proof.SmallArr4
public import proofs.«01_k».proof.Proof.SmallRef

/-!
# The small weights' step: its results are the reference's
-/

@[expose] public section

set_option maxRecDepth 100000

namespace Cert.Proof

open Idealize.ShloMosaic Idealize.ShloMosaic.TcCoe Idealize.SL.Sem

open Cert.Kernel10Ideal Cert.Kernel10Ideal.Sm Cert.SmArr Cert.SmVal in
set_option maxHeartbeats 4000000 in
/-- From equal arguments the two end with equal results. -/
theorem values10 : Cert.algebraic_Kernel10Ideal_Reference10Ideal := fun m g m' g' _ hargs => by
  refine ⟨fun c => out0_37 (m ((c.tc : Thread _ Cert.Kernel10Ideal.τ).loc Cert.Kernel10Ideal.main_arg0)),
    fun c => out0_38 (m ((c.tc : Thread _ Cert.Kernel10Ideal.τ).loc Cert.Kernel10Ideal.main_arg0)) (m ((c.tc : Thread _ Cert.Kernel10Ideal.τ).loc Cert.Kernel10Ideal.main_arg1)) (m ((c.tc : Thread _ Cert.Kernel10Ideal.τ).loc Cert.Kernel10Ideal.main_arg13)) (m ((c.tc : Thread _ Cert.Kernel10Ideal.τ).loc Cert.Kernel10Ideal.main_arg25)),
    fun c => out0_39 (m ((c.tc : Thread _ Cert.Kernel10Ideal.τ).loc Cert.Kernel10Ideal.main_arg0)) (m ((c.tc : Thread _ Cert.Kernel10Ideal.τ).loc Cert.Kernel10Ideal.main_arg13)),
    fun c => out0_40 (m ((c.tc : Thread _ Cert.Kernel10Ideal.τ).loc Cert.Kernel10Ideal.main_arg0)) (m ((c.tc : Thread _ Cert.Kernel10Ideal.τ).loc Cert.Kernel10Ideal.main_arg25)),
    fun c => out0_41 (m ((c.tc : Thread _ Cert.Kernel10Ideal.τ).loc Cert.Kernel10Ideal.main_arg0)),
    fun c => out0_42 (m ((c.tc : Thread _ Cert.Kernel10Ideal.τ).loc Cert.Kernel10Ideal.main_arg0)) (m ((c.tc : Thread _ Cert.Kernel10Ideal.τ).loc Cert.Kernel10Ideal.main_arg2)) (m ((c.tc : Thread _ Cert.Kernel10Ideal.τ).loc Cert.Kernel10Ideal.main_arg14)) (m ((c.tc : Thread _ Cert.Kernel10Ideal.τ).loc Cert.Kernel10Ideal.main_arg26)),
    fun c => out0_43 (m ((c.tc : Thread _ Cert.Kernel10Ideal.τ).loc Cert.Kernel10Ideal.main_arg0)) (m ((c.tc : Thread _ Cert.Kernel10Ideal.τ).loc Cert.Kernel10Ideal.main_arg14)),
    fun c => out0_44 (m ((c.tc : Thread _ Cert.Kernel10Ideal.τ).loc Cert.Kernel10Ideal.main_arg0)) (m ((c.tc : Thread _ Cert.Kernel10Ideal.τ).loc Cert.Kernel10Ideal.main_arg26)),
    fun c => out0_45 (m ((c.tc : Thread _ Cert.Kernel10Ideal.τ).loc Cert.Kernel10Ideal.main_arg0)),
    fun c => out0_46 (m ((c.tc : Thread _ Cert.Kernel10Ideal.τ).loc Cert.Kernel10Ideal.main_arg0)) (m ((c.tc : Thread _ Cert.Kernel10Ideal.τ).loc Cert.Kernel10Ideal.main_arg3)) (m ((c.tc : Thread _ Cert.Kernel10Ideal.τ).loc Cert.Kernel10Ideal.main_arg15)) (m ((c.tc : Thread _ Cert.Kernel10Ideal.τ).loc Cert.Kernel10Ideal.main_arg27)),
    fun c => out0_47 (m ((c.tc : Thread _ Cert.Kernel10Ideal.τ).loc Cert.Kernel10Ideal.main_arg0)) (m ((c.tc : Thread _ Cert.Kernel10Ideal.τ).loc Cert.Kernel10Ideal.main_arg15)),
    fun c => out0_48 (m ((c.tc : Thread _ Cert.Kernel10Ideal.τ).loc Cert.Kernel10Ideal.main_arg0)) (m ((c.tc : Thread _ Cert.Kernel10Ideal.τ).loc Cert.Kernel10Ideal.main_arg27)),
    fun c => out0_49 (m ((c.tc : Thread _ Cert.Kernel10Ideal.τ).loc Cert.Kernel10Ideal.main_arg0)),
    fun c => out0_50 (m ((c.tc : Thread _ Cert.Kernel10Ideal.τ).loc Cert.Kernel10Ideal.main_arg0)) (m ((c.tc : Thread _ Cert.Kernel10Ideal.τ).loc Cert.Kernel10Ideal.main_arg4)) (m ((c.tc : Thread _ Cert.Kernel10Ideal.τ).loc Cert.Kernel10Ideal.main_arg16)) (m ((c.tc : Thread _ Cert.Kernel10Ideal.τ).loc Cert.Kernel10Ideal.main_arg28)),
    fun c => out0_51 (m ((c.tc : Thread _ Cert.Kernel10Ideal.τ).loc Cert.Kernel10Ideal.main_arg0)) (m ((c.tc : Thread _ Cert.Kernel10Ideal.τ).loc Cert.Kernel10Ideal.main_arg16)),
    fun c => out0_52 (m ((c.tc : Thread _ Cert.Kernel10Ideal.τ).loc Cert.Kernel10Ideal.main_arg0)) (m ((c.tc : Thread _ Cert.Kernel10Ideal.τ).loc Cert.Kernel10Ideal.main_arg28)),
    fun c => out0_53 (m ((c.tc : Thread _ Cert.Kernel10Ideal.τ).loc Cert.Kernel10Ideal.main_arg0)),
    fun c => out0_54 (m ((c.tc : Thread _ Cert.Kernel10Ideal.τ).loc Cert.Kernel10Ideal.main_arg0)) (m ((c.tc : Thread _ Cert.Kernel10Ideal.τ).loc Cert.Kernel10Ideal.main_arg5)) (m ((c.tc : Thread _ Cert.Kernel10Ideal.τ).loc Cert.Kernel10Ideal.main_arg17)) (m ((c.tc : Thread _ Cert.Kernel10Ideal.τ).loc Cert.Kernel10Ideal.main_arg29)),
    fun c => out0_55 (m ((c.tc : Thread _ Cert.Kernel10Ideal.τ).loc Cert.Kernel10Ideal.main_arg0)) (m ((c.tc : Thread _ Cert.Kernel10Ideal.τ).loc Cert.Kernel10Ideal.main_arg17)),
    fun c => out0_56 (m ((c.tc : Thread _ Cert.Kernel10Ideal.τ).loc Cert.Kernel10Ideal.main_arg0)) (m ((c.tc : Thread _ Cert.Kernel10Ideal.τ).loc Cert.Kernel10Ideal.main_arg29)),
    fun c => out0_57 (m ((c.tc : Thread _ Cert.Kernel10Ideal.τ).loc Cert.Kernel10Ideal.main_arg0)),
    fun c => out0_58 (m ((c.tc : Thread _ Cert.Kernel10Ideal.τ).loc Cert.Kernel10Ideal.main_arg0)) (m ((c.tc : Thread _ Cert.Kernel10Ideal.τ).loc Cert.Kernel10Ideal.main_arg6)) (m ((c.tc : Thread _ Cert.Kernel10Ideal.τ).loc Cert.Kernel10Ideal.main_arg18)) (m ((c.tc : Thread _ Cert.Kernel10Ideal.τ).loc Cert.Kernel10Ideal.main_arg30)),
    fun c => out0_59 (m ((c.tc : Thread _ Cert.Kernel10Ideal.τ).loc Cert.Kernel10Ideal.main_arg0)) (m ((c.tc : Thread _ Cert.Kernel10Ideal.τ).loc Cert.Kernel10Ideal.main_arg18)),
    fun c => out0_60 (m ((c.tc : Thread _ Cert.Kernel10Ideal.τ).loc Cert.Kernel10Ideal.main_arg0)) (m ((c.tc : Thread _ Cert.Kernel10Ideal.τ).loc Cert.Kernel10Ideal.main_arg30)),
    fun c => out0_61 (m ((c.tc : Thread _ Cert.Kernel10Ideal.τ).loc Cert.Kernel10Ideal.main_arg0)),
    fun c => out0_62 (m ((c.tc : Thread _ Cert.Kernel10Ideal.τ).loc Cert.Kernel10Ideal.main_arg0)) (m ((c.tc : Thread _ Cert.Kernel10Ideal.τ).loc Cert.Kernel10Ideal.main_arg7)) (m ((c.tc : Thread _ Cert.Kernel10Ideal.τ).loc Cert.Kernel10Ideal.main_arg19)) (m ((c.tc : Thread _ Cert.Kernel10Ideal.τ).loc Cert.Kernel10Ideal.main_arg31)),
    fun c => out0_63 (m ((c.tc : Thread _ Cert.Kernel10Ideal.τ).loc Cert.Kernel10Ideal.main_arg0)) (m ((c.tc : Thread _ Cert.Kernel10Ideal.τ).loc Cert.Kernel10Ideal.main_arg19)),
    fun c => out0_64 (m ((c.tc : Thread _ Cert.Kernel10Ideal.τ).loc Cert.Kernel10Ideal.main_arg0)) (m ((c.tc : Thread _ Cert.Kernel10Ideal.τ).loc Cert.Kernel10Ideal.main_arg31)),
    fun c => out0_65 (m ((c.tc : Thread _ Cert.Kernel10Ideal.τ).loc Cert.Kernel10Ideal.main_arg0)),
    fun c => out0_66 (m ((c.tc : Thread _ Cert.Kernel10Ideal.τ).loc Cert.Kernel10Ideal.main_arg0)) (m ((c.tc : Thread _ Cert.Kernel10Ideal.τ).loc Cert.Kernel10Ideal.main_arg8)) (m ((c.tc : Thread _ Cert.Kernel10Ideal.τ).loc Cert.Kernel10Ideal.main_arg20)) (m ((c.tc : Thread _ Cert.Kernel10Ideal.τ).loc Cert.Kernel10Ideal.main_arg32)),
    fun c => out0_67 (m ((c.tc : Thread _ Cert.Kernel10Ideal.τ).loc Cert.Kernel10Ideal.main_arg0)) (m ((c.tc : Thread _ Cert.Kernel10Ideal.τ).loc Cert.Kernel10Ideal.main_arg20)),
    fun c => out0_68 (m ((c.tc : Thread _ Cert.Kernel10Ideal.τ).loc Cert.Kernel10Ideal.main_arg0)) (m ((c.tc : Thread _ Cert.Kernel10Ideal.τ).loc Cert.Kernel10Ideal.main_arg32)),
    fun c => out0_69 (m ((c.tc : Thread _ Cert.Kernel10Ideal.τ).loc Cert.Kernel10Ideal.main_arg0)),
    fun c => out0_70 (m ((c.tc : Thread _ Cert.Kernel10Ideal.τ).loc Cert.Kernel10Ideal.main_arg0)) (m ((c.tc : Thread _ Cert.Kernel10Ideal.τ).loc Cert.Kernel10Ideal.main_arg9)) (m ((c.tc : Thread _ Cert.Kernel10Ideal.τ).loc Cert.Kernel10Ideal.main_arg21)) (m ((c.tc : Thread _ Cert.Kernel10Ideal.τ).loc Cert.Kernel10Ideal.main_arg33)),
    fun c => out0_71 (m ((c.tc : Thread _ Cert.Kernel10Ideal.τ).loc Cert.Kernel10Ideal.main_arg0)) (m ((c.tc : Thread _ Cert.Kernel10Ideal.τ).loc Cert.Kernel10Ideal.main_arg21)),
    fun c => out0_72 (m ((c.tc : Thread _ Cert.Kernel10Ideal.τ).loc Cert.Kernel10Ideal.main_arg0)) (m ((c.tc : Thread _ Cert.Kernel10Ideal.τ).loc Cert.Kernel10Ideal.main_arg33)),
    fun c => out0_73 (m ((c.tc : Thread _ Cert.Kernel10Ideal.τ).loc Cert.Kernel10Ideal.main_arg0)),
    fun c => out0_74 (m ((c.tc : Thread _ Cert.Kernel10Ideal.τ).loc Cert.Kernel10Ideal.main_arg0)) (m ((c.tc : Thread _ Cert.Kernel10Ideal.τ).loc Cert.Kernel10Ideal.main_arg10)) (m ((c.tc : Thread _ Cert.Kernel10Ideal.τ).loc Cert.Kernel10Ideal.main_arg22)) (m ((c.tc : Thread _ Cert.Kernel10Ideal.τ).loc Cert.Kernel10Ideal.main_arg34)),
    fun c => out0_75 (m ((c.tc : Thread _ Cert.Kernel10Ideal.τ).loc Cert.Kernel10Ideal.main_arg0)) (m ((c.tc : Thread _ Cert.Kernel10Ideal.τ).loc Cert.Kernel10Ideal.main_arg22)),
    fun c => out0_76 (m ((c.tc : Thread _ Cert.Kernel10Ideal.τ).loc Cert.Kernel10Ideal.main_arg0)) (m ((c.tc : Thread _ Cert.Kernel10Ideal.τ).loc Cert.Kernel10Ideal.main_arg34)),
    fun c => out0_77 (m ((c.tc : Thread _ Cert.Kernel10Ideal.τ).loc Cert.Kernel10Ideal.main_arg0)),
    fun c => out0_78 (m ((c.tc : Thread _ Cert.Kernel10Ideal.τ).loc Cert.Kernel10Ideal.main_arg0)) (m ((c.tc : Thread _ Cert.Kernel10Ideal.τ).loc Cert.Kernel10Ideal.main_arg11)) (m ((c.tc : Thread _ Cert.Kernel10Ideal.τ).loc Cert.Kernel10Ideal.main_arg23)) (m ((c.tc : Thread _ Cert.Kernel10Ideal.τ).loc Cert.Kernel10Ideal.main_arg35)),
    fun c => out0_79 (m ((c.tc : Thread _ Cert.Kernel10Ideal.τ).loc Cert.Kernel10Ideal.main_arg0)) (m ((c.tc : Thread _ Cert.Kernel10Ideal.τ).loc Cert.Kernel10Ideal.main_arg23)),
    fun c => out0_80 (m ((c.tc : Thread _ Cert.Kernel10Ideal.τ).loc Cert.Kernel10Ideal.main_arg0)) (m ((c.tc : Thread _ Cert.Kernel10Ideal.τ).loc Cert.Kernel10Ideal.main_arg35)),
    fun c => out0_81 (m ((c.tc : Thread _ Cert.Kernel10Ideal.τ).loc Cert.Kernel10Ideal.main_arg0)),
    fun c => out0_82 (m ((c.tc : Thread _ Cert.Kernel10Ideal.τ).loc Cert.Kernel10Ideal.main_arg0)) (m ((c.tc : Thread _ Cert.Kernel10Ideal.τ).loc Cert.Kernel10Ideal.main_arg12)) (m ((c.tc : Thread _ Cert.Kernel10Ideal.τ).loc Cert.Kernel10Ideal.main_arg24)) (m ((c.tc : Thread _ Cert.Kernel10Ideal.τ).loc Cert.Kernel10Ideal.main_arg36)),
    fun c => out0_83 (m ((c.tc : Thread _ Cert.Kernel10Ideal.τ).loc Cert.Kernel10Ideal.main_arg0)) (m ((c.tc : Thread _ Cert.Kernel10Ideal.τ).loc Cert.Kernel10Ideal.main_arg24)),
    fun c => out0_84 (m ((c.tc : Thread _ Cert.Kernel10Ideal.τ).loc Cert.Kernel10Ideal.main_arg0)) (m ((c.tc : Thread _ Cert.Kernel10Ideal.τ).loc Cert.Kernel10Ideal.main_arg36)),
    fun c => out0_85 (m ((c.tc : Thread _ Cert.Kernel10Ideal.τ).loc Cert.Kernel10Ideal.main_arg0)), ?_, ref10 m m' g' hargs⟩
  refine (θ_run Cert.Kernel10Ideal.defs _ _).mono (fun r h c => ?_) (θ_run_and (run_main (F := Ideal) m g) (unchanged m g))
  exact ⟨((h.1 c).1 37).trans (arr37 m c),
      ((h.1 c).1 38).trans (arr38 m c),
      ((h.1 c).1 39).trans (arr39 m c),
      ((h.1 c).1 40).trans (arr40 m c),
      ((h.1 c).1 41).trans (arr41 m c),
      ((h.1 c).1 42).trans (arr42 m c),
      ((h.1 c).1 43).trans (arr43 m c),
      ((h.1 c).1 44).trans (arr44 m c),
      ((h.1 c).1 45).trans (arr45 m c),
      ((h.1 c).1 46).trans (arr46 m c),
      ((h.1 c).1 47).trans (arr47 m c),
      ((h.1 c).1 48).trans (arr48 m c),
      ((h.1 c).1 49).trans (arr49 m c),
      ((h.1 c).1 50).trans (arr50 m c),
      ((h.1 c).1 51).trans (arr51 m c),
      ((h.1 c).1 52).trans (arr52 m c),
      ((h.1 c).1 53).trans (arr53 m c),
      ((h.1 c).1 54).trans (arr54 m c),
      ((h.1 c).1 55).trans (arr55 m c),
      ((h.1 c).1 56).trans (arr56 m c),
      ((h.1 c).1 57).trans (arr57 m c),
      ((h.1 c).1 58).trans (arr58 m c),
      ((h.1 c).1 59).trans (arr59 m c),
      ((h.1 c).1 60).trans (arr60 m c),
      ((h.1 c).1 61).trans (arr61 m c),
      ((h.1 c).1 62).trans (arr62 m c),
      ((h.1 c).1 63).trans (arr63 m c),
      ((h.1 c).1 64).trans (arr64 m c),
      ((h.1 c).1 65).trans (arr65 m c),
      ((h.1 c).1 66).trans (arr66 m c),
      ((h.1 c).1 67).trans (arr67 m c),
      ((h.1 c).1 68).trans (arr68 m c),
      ((h.1 c).1 69).trans (arr69 m c),
      ((h.1 c).1 70).trans (arr70 m c),
      ((h.1 c).1 71).trans (arr71 m c),
      ((h.1 c).1 72).trans (arr72 m c),
      ((h.1 c).1 73).trans (arr73 m c),
      ((h.1 c).1 74).trans (arr74 m c),
      ((h.1 c).1 75).trans (arr75 m c),
      ((h.1 c).1 76).trans (arr76 m c),
      ((h.1 c).1 77).trans (arr77 m c),
      ((h.1 c).1 78).trans (arr78 m c),
      ((h.1 c).1 79).trans (arr79 m c),
      ((h.1 c).1 80).trans (arr80 m c),
      ((h.1 c).1 81).trans (arr81 m c),
      ((h.1 c).1 82).trans (arr82 m c),
      ((h.1 c).1 83).trans (arr83 m c),
      ((h.1 c).1 84).trans (arr84 m c),
      ((h.1 c).1 85).trans (arr85 m c), h.2 c⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.OutAlg
public import proofs.«01_k».proof.Proof.Gw2Val
public import proofs.«01_k».proof.Proof.Gw3Val
public import proofs.«01_k».proof.Proof.Gw4Val
public import proofs.«01_k».proof.Proof.AdOut
public import proofs.«01_k».proof.Proof.AdIn
public import proofs.«01_k».proof.Proof.Gw6Val
public import proofs.«01_k».proof.Proof.DxAlg
public import proofs.«01_k».proof.Proof.In8Alg
public import Idealize.ShloMosaic.Lib.Quiescent
public import Idealize.ShloMosaic.Adequacy
public import Idealize.ShloMosaic.Init
public import proofs.«01_k».proof.Proof.SmallFrame
public import proofs.«01_k».proof.Proof.SmallProof

@[expose] public section

noncomputable section

namespace Cert.Proof

open Idealize.ShloMosaic Idealize.SL.Sem Cert.Kernel

/-- The kernel runs, keeps its arguments and ends with every counter at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference, which has no counters. -/
theorem frame_reference : Cert.quiescent_ReferenceIdeal := fun m ρ _ =>
  (θ_run Cert.ReferenceIdeal.defs _ _).mono
    (fun r h => ⟨fun c => (h c).2.2.2.2.2.2, sem_eq_zero_of_no_sems rfl r.2⟩) (Cert.ReferenceIdeal.Value.run m ρ)

/-- From equal arguments the kernel and the reference end with equal results: the loss, the gradients of the residual
    and of both mixers' outputs, of the weight and of the norm's weight. -/
theorem values : Cert.algebraic_KernelIdeal_ReferenceIdeal := fun m g m' g' _ hargs => by
  refine ⟨Cert.KernelIdeal.Value.G6 m, Cert.KernelIdeal.Value.G7 m, Cert.KernelIdeal.Value.G8 m, Cert.KernelIdeal.Value.G9 m,
    Cert.KernelIdeal.Value.G10 m, Cert.KernelIdeal.Value.G11 m, Cert.KernelIdeal.Value.run m g, ?_⟩
  refine (θ_run Cert.ReferenceIdeal.defs _ _).mono (fun r h c => ?_) (Cert.ReferenceIdeal.Value.run m' g')
  obtain ⟨h0, h1, h2, h3, h4, h5⟩ := hargs c
  obtain ⟨r0, r1, r2, r3, r4, r5, ha⟩ := h c
  refine ⟨r0.trans ?_, r1.trans ?_, r2.trans ?_, r3.trans ?_, r4.trans ?_, r5.trans ?_, ha⟩
  · rw [Cert.ReferenceIdeal.Read.val_main_v55_eq, h0, h1, h2, h3, h4, h5]; exact Cert.OutAlg.eq_dx m c
  · rw [Cert.ReferenceIdeal.Read.val_main_v59_eq, h0, h1, h2, h3, h4, h5]; exact Cert.OutAlg.eq_dys m c
  · rw [Cert.ReferenceIdeal.Read.val_main_v60_eq, h0, h1, h2, h3, h4, h5]; exact Cert.OutAlg.eq_dyg m c
  · rw [Cert.ReferenceIdeal.Read.val_main_v61_eq, h0, h1, h2, h3, h4, h5]; exact Cert.OutAlg.eq_gw m c
  · rw [Cert.ReferenceIdeal.Read.val_main_v64_eq, h0, h1, h2, h3, h4, h5]; exact Cert.OutAlg.eq_gf m c
  · rw [Cert.ReferenceIdeal.Read.val_main_v65_eq, h0, h1, h2, h3, h4, h5]; exact Cert.OutAlg.eq_loss m c

/-- The kernel of the gradient of the weight's z and the dt, a, b columns runs, keeps its arguments and ends with every counter at
    zero. -/
theorem frame_kernel2 : Cert.quiescent_Kernel2 := fun m ρ _ => Cert.Kernel2.Gen.frame m ρ

/-- So does its idealization. -/
theorem frame_ideal2 : Cert.quiescent_Kernel2Ideal := fun m ρ _ => Cert.Kernel2Ideal.Gen.frame m ρ

/-- So does its reference. -/
theorem frame_reference2 : Cert.quiescent_Reference2Ideal := fun m ρ _ =>
  (θ_run Cert.Reference2Ideal.defs _ _).mono
    (fun r h => ⟨fun c => (h c).2.2, sem_eq_zero_of_no_sems rfl r.2⟩) (Cert.Reference2Ideal.Value.run m ρ)

/-- From equal arguments the two end with equal gradients of the z and the dt, a, b columns. -/
theorem values2 : Cert.algebraic_Kernel2Ideal_Reference2Ideal := fun m g m' g' _ hargs => by
  refine ⟨Cert.Kernel2Ideal.Value.G3 m, Cert.Kernel2Ideal.Value.G4 m, Cert.Kernel2Ideal.Value.run m g, ?_⟩
  refine (θ_run Cert.Reference2Ideal.defs _ _).mono (fun r h c => ?_) (Cert.Reference2Ideal.Value.run m' g')
  obtain ⟨h0, h1, h2, h3⟩ := hargs c
  obtain ⟨r0, r1, ha⟩ := h c
  refine ⟨r0.trans ?_, r1.trans ?_, ha⟩
  · rw [Cert.Reference2Ideal.Read.val_main_v18_eq, h0, h1, h2]; exact Cert.GwAlg2.eq_g0 m c
  · rw [Cert.Reference2Ideal.Read.val_main_v37_eq, h0, h1, h3]; exact Cert.GwAlg2.eq_g1 m c

/-- The kernel of the gradient of the weight's x, B, C columns runs, keeps its arguments and ends with every counter at
    zero. -/
theorem frame_kernel3 : Cert.quiescent_Kernel3 := fun m ρ _ => Cert.Kernel3.Gen.frame m ρ

/-- So does its idealization. -/
theorem frame_ideal3 : Cert.quiescent_Kernel3Ideal := fun m ρ _ => Cert.Kernel3Ideal.Gen.frame m ρ

/-- So does its reference. -/
theorem frame_reference3 : Cert.quiescent_Reference3Ideal := fun m ρ _ =>
  (θ_run Cert.Reference3Ideal.defs _ _).mono
    (fun r h => ⟨fun c => (h c).2, sem_eq_zero_of_no_sems rfl r.2⟩) (Cert.Reference3Ideal.Value.run m ρ)

/-- From equal arguments the two end with equal gradients of the x, B, C columns. -/
theorem values3 : Cert.algebraic_Kernel3Ideal_Reference3Ideal := fun m g m' g' _ hargs => by
  refine ⟨Cert.Kernel3Ideal.Value.G2 m, Cert.Kernel3Ideal.Value.run m g, ?_⟩
  refine (θ_run Cert.Reference3Ideal.defs _ _).mono (fun r h c => ?_) (Cert.Reference3Ideal.Value.run m' g')
  obtain ⟨h0, h1, h2⟩ := hargs c
  obtain ⟨r0, ha⟩ := h c
  refine ⟨r0.trans ?_, ha⟩
  rw [Cert.Reference3Ideal.Read.val_main_v18_eq, h0, h1, h2]; exact Cert.GwAlg3.eq_g m c

/-- The kernel of the gradient of the weight's gate columns runs, keeps its arguments and ends with every counter at
    zero. -/
theorem frame_kernel4 : Cert.quiescent_Kernel4 := fun m ρ _ => Cert.Kernel4.Gen.frame m ρ

/-- So does its idealization. -/
theorem frame_ideal4 : Cert.quiescent_Kernel4Ideal := fun m ρ _ => Cert.Kernel4Ideal.Gen.frame m ρ

/-- So does its reference. -/
theorem frame_reference4 : Cert.quiescent_Reference4Ideal := fun m ρ _ =>
  (θ_run Cert.Reference4Ideal.defs _ _).mono
    (fun r h => ⟨fun c => (h c).2, sem_eq_zero_of_no_sems rfl r.2⟩) (Cert.Reference4Ideal.Value.run m ρ)

/-- From equal arguments the two end with equal gradients of the gate columns. -/
theorem values4 : Cert.algebraic_Kernel4Ideal_Reference4Ideal := fun m g m' g' _ hargs => by
  refine ⟨Cert.Kernel4Ideal.Value.G2 m, Cert.Kernel4Ideal.Value.run m g, ?_⟩
  refine (θ_run Cert.Reference4Ideal.defs _ _).mono (fun r h c => ?_) (Cert.Reference4Ideal.Value.run m' g')
  obtain ⟨h0, h1, h2⟩ := hargs c
  obtain ⟨r0, ha⟩ := h c
  refine ⟨r0.trans ?_, ha⟩
  rw [Cert.Reference4Ideal.Read.val_main_v18_eq, h0, h1, h2]; exact Cert.GwAlg4.eq_g m c

/-- The optimiser step of the out-projection's weight runs, keeps its arguments and ends with every counter at zero. -/
theorem frame_kernel5 : Cert.quiescent_Kernel5 := fun m ρ _ => Cert.Kernel5.Gen.frame m ρ

/-- So does its idealization. -/
theorem frame_ideal5 : Cert.quiescent_Kernel5Ideal := fun m ρ _ => Cert.Kernel5Ideal.Gen.frame m ρ

/-- So does its reference. -/
theorem frame_reference5 : Cert.quiescent_Reference5Ideal := fun m ρ _ =>
  (θ_run Cert.Reference5Ideal.defs _ _).mono
    (fun r h => ⟨fun c => (h c).2.2.2.2, sem_eq_zero_of_no_sems rfl r.2⟩) (Cert.Reference5Ideal.Value.run m ρ)

/-- The two named constants are the kernel's words, and their values are what they are named for. -/
theorem preserves5 : Cert.preserves_Kernel5_Kernel5Ideal :=
  ⟨IdealRules.named_const.statement _ _ _ _ _ rfl, IdealRules.named_const.statement _ _ _ _ _ rfl⟩

/-- From equal arguments the two end with equal results. -/
theorem values5 : Cert.algebraic_Kernel5Ideal_Reference5Ideal := fun m g m' g' _ hargs => by
  refine ⟨Cert.Kernel5Ideal.Ad.G4 m, Cert.Kernel5Ideal.Ad.G5 m, Cert.Kernel5Ideal.Ad.G6 m, Cert.Kernel5Ideal.Ad.G7 m, ?_, ?_⟩
  · refine (θ_run Cert.Kernel5Ideal.defs _ _).mono (fun r h c => ?_) (Cert.Kernel5Ideal.Value.run_blocks (F := Ideal) m g)
    obtain ⟨r0, r1, r2, r3, ha⟩ := h c
    exact ⟨r0.trans (Cert.Kernel5Ideal.Ad.final4 m c), r1.trans (Cert.Kernel5Ideal.Ad.final5 m c), r2.trans (Cert.Kernel5Ideal.Ad.final6 m c), r3.trans (Cert.Kernel5Ideal.Ad.final7 m c), ha⟩
  · refine (θ_run Cert.Reference5Ideal.defs _ _).mono (fun r h c => ?_) (Cert.Reference5Ideal.Value.run m' g')
    obtain ⟨h0, h1, h2, h3⟩ := hargs c
    obtain ⟨r0, r1, r2, r3, ha⟩ := h c
    refine ⟨r0.trans ?_, r1.trans ?_, r2.trans ?_, r3.trans ?_, ha⟩
    · rw [Cert.Reference5Ideal.Read.val_main_v1_eq, h0]; exact Cert.AdAlg5.eq4 m c
    · rw [Cert.Reference5Ideal.Read.val_main_v25_eq, h0, h1, h2, h3]; exact Cert.AdAlg5.eq5 m c
    · rw [Cert.Reference5Ideal.Read.val_main_v6_eq, h0, h2]; exact Cert.AdAlg5.eq6 m c
    · rw [Cert.Reference5Ideal.Read.val_main_v12_eq, h0, h3]; exact Cert.AdAlg5.eq7 m c

/-- The kernel of the gradient of the weight's q, k, v columns runs, keeps its arguments and ends with every counter at zero. -/
theorem frame_kernel6 : Cert.quiescent_Kernel6 := fun m ρ _ => Cert.Kernel6.Gen.frame m ρ

/-- So does its idealization. -/
theorem frame_ideal6 : Cert.quiescent_Kernel6Ideal := fun m ρ _ => Cert.Kernel6Ideal.Gen.frame m ρ

/-- So does its reference. -/
theorem frame_reference6 : Cert.quiescent_Reference6Ideal := fun m ρ _ =>
  (θ_run Cert.Reference6Ideal.defs _ _).mono
    (fun r h => ⟨fun c => (h c).2, sem_eq_zero_of_no_sems rfl r.2⟩) (Cert.Reference6Ideal.Value.run m ρ)

/-- From equal arguments the two end with equal gradients of the q, k, v columns. -/
theorem values6 : Cert.algebraic_Kernel6Ideal_Reference6Ideal := fun m g m' g' _ hargs => by
  refine ⟨Cert.Kernel6Ideal.Value.G2 m, Cert.Kernel6Ideal.Value.run m g, ?_⟩
  refine (θ_run Cert.Reference6Ideal.defs _ _).mono (fun r h c => ?_) (Cert.Reference6Ideal.Value.run m' g')
  obtain ⟨h0, h1, h2⟩ := hargs c
  obtain ⟨r0, ha⟩ := h c
  refine ⟨r0.trans ?_, ha⟩
  rw [Cert.Reference6Ideal.Read.val_main_v18_eq, h0, h1, h2]; exact Cert.GwAlg6.eq_g m c

/-- The kernel of the in-projection's input gradient runs, keeps its arguments and ends with every counter at zero. -/
theorem frame_kernel7 : Cert.quiescent_Kernel7 := fun m ρ _ => Cert.Kernel7.Gen.frame m ρ

/-- So does its idealization. -/
theorem frame_ideal7 : Cert.quiescent_Kernel7Ideal := fun m ρ _ => Cert.Kernel7Ideal.Gen.frame m ρ

/-- So does its reference. -/
theorem frame_reference7 : Cert.quiescent_Reference7Ideal := fun m ρ _ =>
  (θ_run Cert.Reference7Ideal.defs _ _).mono
    (fun r h => ⟨fun c => (h c).2.2, sem_eq_zero_of_no_sems rfl r.2⟩) (Cert.Reference7Ideal.Value.run m ρ)

/-- From equal arguments the two end with equal results. -/
theorem values7 : Cert.algebraic_Kernel7Ideal_Reference7Ideal := fun m g m' g' _ hargs => by
  refine ⟨Cert.Kernel7Ideal.In.G9 m, Cert.Kernel7Ideal.In.G10 m, ?_, ?_⟩
  · refine (θ_run Cert.Kernel7Ideal.defs _ _).mono (fun r h c => ?_) (Cert.Kernel7Ideal.Value.run_blocks (F := Ideal) m g)
    obtain ⟨r0, r1, ha⟩ := h c
    exact ⟨r0.trans (Cert.Kernel7Ideal.In.final9 m c), r1.trans (Cert.Kernel7Ideal.In.final10 m c), ha⟩
  · refine (θ_run Cert.Reference7Ideal.defs _ _).mono (fun r h c => ?_) (Cert.Reference7Ideal.Value.run m' g')
    obtain ⟨h0, h1, h2, h3, h4, h5, h6, h7, h8⟩ := hargs c
    obtain ⟨r0, r1, ha⟩ := h c
    refine ⟨r0.trans ?_, r1.trans ?_, ha⟩
    · rw [Cert.Reference7Ideal.Read.val_main_v41_eq, h0, h1, h2, h3, h4, h5, h6, h7, h8]; exact Cert.DxAlg7.eq9 m c
    · rw [Cert.Reference7Ideal.Read.val_main_v44_eq, h0, h3, h4, h5, h6, h7, h8]; exact Cert.DxAlg7.eq10 m c

/-- The in-projection's kernel runs, keeps its arguments and ends with every counter at zero. -/
theorem frame_kernel8 : Cert.quiescent_Kernel8 := fun m ρ _ => Cert.Kernel8.Gen.frame m ρ

/-- So does its idealization. -/
theorem frame_ideal8 : Cert.quiescent_Kernel8Ideal := fun m ρ _ => Cert.Kernel8Ideal.Gen.frame m ρ

/-- So does its reference. -/
theorem frame_reference8 : Cert.quiescent_Reference8Ideal := fun m ρ _ =>
  (θ_run Cert.Reference8Ideal.defs _ _).mono
    (fun r h => ⟨fun c => (h c).2.2.2.2.2.2, sem_eq_zero_of_no_sems rfl r.2⟩) (Cert.Reference8Ideal.Value.run m ρ)

/-- From equal arguments the two end with equal results. -/
theorem values8 : Cert.algebraic_Kernel8Ideal_Reference8Ideal := fun m g m' g' _ hargs => by
  refine ⟨Cert.Kernel8Ideal.In.G3 m, Cert.Kernel8Ideal.In.G4 m, Cert.Kernel8Ideal.In.G5 m, Cert.Kernel8Ideal.In.G6 m, Cert.Kernel8Ideal.In.G7 m, Cert.Kernel8Ideal.In.G8 m, ?_, ?_⟩
  · refine (θ_run Cert.Kernel8Ideal.defs _ _).mono (fun r h c => ?_) (Cert.Kernel8Ideal.Value.run_blocks (F := Ideal) m g)
    obtain ⟨r0, r1, r2, r3, r4, r5, ha⟩ := h c
    exact ⟨r0.trans (Cert.Kernel8Ideal.In.final3 m c), r1.trans (Cert.Kernel8Ideal.In.final4 m c), r2.trans (Cert.Kernel8Ideal.In.final5 m c), r3.trans (Cert.Kernel8Ideal.In.final6 m c), r4.trans (Cert.Kernel8Ideal.In.final7 m c), r5.trans (Cert.Kernel8Ideal.In.final8 m c), ha⟩
  · refine (θ_run Cert.Reference8Ideal.defs _ _).mono (fun r h c => ?_) (Cert.Reference8Ideal.Value.run m' g')
    obtain ⟨h0, h1, h2⟩ := hargs c
    obtain ⟨r0, r1, r2, r3, r4, r5, ha⟩ := h c
    refine ⟨r0.trans ?_, r1.trans ?_, r2.trans ?_, r3.trans ?_, r4.trans ?_, r5.trans ?_, ha⟩
    · rw [Cert.Reference8Ideal.Read.val_main_v18_eq, h0, h1]; exact Cert.InAlg8.eq3 m c
    · rw [Cert.Reference8Ideal.Read.val_main_v19_eq, h0, h1, h2]; exact Cert.InAlg8.eq4 m c
    · rw [Cert.Reference8Ideal.Read.val_main_v20_eq, h0, h1, h2]; exact Cert.InAlg8.eq5 m c
    · rw [Cert.Reference8Ideal.Read.val_main_v21_eq, h0, h1, h2]; exact Cert.InAlg8.eq6 m c
    · rw [Cert.Reference8Ideal.Read.val_main_v22_eq, h0, h1, h2]; exact Cert.InAlg8.eq7 m c
    · rw [Cert.Reference8Ideal.Read.val_main_v17_eq, h0, h1, h2]; exact Cert.InAlg8.eq8 m c

/-- The optimiser step of the in-projection's weight runs, keeps its arguments and ends with every counter at zero. -/
theorem frame_kernel9 : Cert.quiescent_Kernel9 := fun m ρ _ => Cert.Kernel9.Gen.frame m ρ

/-- So does its idealization. -/
theorem frame_ideal9 : Cert.quiescent_Kernel9Ideal := fun m ρ _ => Cert.Kernel9Ideal.Gen.frame m ρ

/-- So does its reference. -/
theorem frame_reference9 : Cert.quiescent_Reference9Ideal := fun m ρ _ =>
  (θ_run Cert.Reference9Ideal.defs _ _).mono
    (fun r h => ⟨fun c => (h c).2.2.2.2, sem_eq_zero_of_no_sems rfl r.2⟩) (Cert.Reference9Ideal.Value.run m ρ)

/-- The two named constants are the kernel's words, and their values are what they are named for. -/
theorem preserves9 : Cert.preserves_Kernel9_Kernel9Ideal :=
  ⟨IdealRules.named_const.statement _ _ _ _ _ rfl, IdealRules.named_const.statement _ _ _ _ _ rfl⟩

/-- From equal arguments the two end with equal results. -/
theorem values9 : Cert.algebraic_Kernel9Ideal_Reference9Ideal := fun m g m' g' _ hargs => by
  refine ⟨Cert.Kernel9Ideal.Ad.G4 m, Cert.Kernel9Ideal.Ad.G5 m, Cert.Kernel9Ideal.Ad.G6 m, Cert.Kernel9Ideal.Ad.G7 m, ?_, ?_⟩
  · refine (θ_run Cert.Kernel9Ideal.defs _ _).mono (fun r h c => ?_) (Cert.Kernel9Ideal.Value.run_blocks (F := Ideal) m g)
    obtain ⟨r0, r1, r2, r3, ha⟩ := h c
    exact ⟨r0.trans (Cert.Kernel9Ideal.Ad.final4 m c), r1.trans (Cert.Kernel9Ideal.Ad.final5 m c), r2.trans (Cert.Kernel9Ideal.Ad.final6 m c), r3.trans (Cert.Kernel9Ideal.Ad.final7 m c), ha⟩
  · refine (θ_run Cert.Reference9Ideal.defs _ _).mono (fun r h c => ?_) (Cert.Reference9Ideal.Value.run m' g')
    obtain ⟨h0, h1, h2, h3⟩ := hargs c
    obtain ⟨r0, r1, r2, r3, ha⟩ := h c
    refine ⟨r0.trans ?_, r1.trans ?_, r2.trans ?_, r3.trans ?_, ha⟩
    · rw [Cert.Reference9Ideal.Read.val_main_v27_eq, h0]; exact Cert.AdAlg9.eq4 m c
    · rw [Cert.Reference9Ideal.Read.val_main_v28_eq, h0, h1, h2, h3]; exact Cert.AdAlg9.eq5 m c
    · rw [Cert.Reference9Ideal.Read.val_main_v29_eq, h0, h2]; exact Cert.AdAlg9.eq6 m c
    · rw [Cert.Reference9Ideal.Read.val_main_v30_eq, h0, h3]; exact Cert.AdAlg9.eq7 m c

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  frame_kernel, frame_ideal, frame_reference,
  frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  trivial, values, trivial, values2, trivial, values3, trivial, values4, preserves5, values5, trivial, values6, trivial, values7, trivial, values8, preserves9, values9, preserves10, values10⟩

end Cert.Proof

end
